-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5)
      ∧ r.2.mem ((c.tc : Thread Cert.Kernel18.nD Cert.Kernel18.τ).loc Cert.Kernel18.main_arg6) = m ((c.tc : Thread Cert.Kernel18.nD Cert.Kernel18.τ).loc Cert.Kernel18.main_arg6)
      ∧ r.2.mem ((c.tc : Thread Cert.Kernel18.nD Cert.Kernel18.τ).loc Cert.Kernel18.main_arg7) = m ((c.tc : Thread Cert.Kernel18.nD Cert.Kernel18.τ).loc Cert.Kernel18.main_arg7)
      ∧ r.2.mem ((c.tc : Thread Cert.Kernel18.nD Cert.Kernel18.τ).loc Cert.Kernel18.main_arg8) = m ((c.tc : Thread Cert.Kernel18.nD Cert.Kernel18.τ).loc Cert.Kernel18.main_arg8)
      ∧ r.2.mem ((c.tc : Thread Cert.Kernel18.nD Cert.Kernel18.τ).loc Cert.Kernel18.main_arg9) = m ((c.tc : Thread Cert.Kernel18.nD Cert.Kernel18.τ).loc Cert.Kernel18.main_arg9)
      ∧ r.2.mem ((c.tc : Thread Cert.Kernel18.nD Cert.Kernel18.τ).loc Cert.Kernel18.main_arg10) = m ((c.tc : Thread Cert.Kernel18.nD Cert.Kernel18.τ).loc Cert.Kernel18.main_arg10)
      ∧ r.2.mem ((c.tc : Thread Cert.Kernel18.nD Cert.Kernel18.τ).loc Cert.Kernel18.main_arg11) = m ((c.tc : Thread Cert.Kernel18.nD Cert.Kernel18.τ).loc Cert.Kernel18.main_arg11)
      ∧ r.2.mem ((c.tc : Thread Cert.Kernel18.nD Cert.Kernel18.τ).loc Cert.Kernel18.main_arg12) = m ((c.tc : Thread Cert.Kernel18.nD Cert.Kernel18.τ).loc Cert.Kernel18.main_arg12)
      ∧ r.2.mem ((c.tc : Thread Cert.Kernel18.nD Cert.Kernel18.τ).loc Cert.Kernel18.main_arg13) = m ((c.tc : Thread Cert.Kernel18.nD Cert.Kernel18.τ).loc Cert.Kernel18.main_arg13)
      ∧ r.2.mem ((c.tc : Thread Cert.Kernel18.nD Cert.Kernel18.τ).loc Cert.Kernel18.main_arg14) = m ((c.tc : Thread Cert.Kernel18.nD Cert.Kernel18.τ).loc Cert.Kernel18.main_arg14)
      ∧ r.2.mem ((c.tc : Thread Cert.Kernel18.nD Cert.Kernel18.τ).loc Cert.Kernel18.main_arg15) = m ((c.tc : Thread Cert.Kernel18.nD Cert.Kernel18.τ).loc Cert.Kernel18.main_arg15)
      ∧ r.2.mem ((c.tc : Thread Cert.Kernel18.nD Cert.Kernel18.τ).loc Cert.Kernel18.main_arg16) = m ((c.tc : Thread Cert.Kernel18.nD Cert.Kernel18.τ).loc Cert.Kernel18.main_arg16)
      ∧ r.2.mem ((c.tc : Thread Cert.Kernel18.nD Cert.Kernel18.τ).loc Cert.Kernel18.main_arg17) = m ((c.tc : Thread Cert.Kernel18.nD Cert.Kernel18.τ).loc Cert.Kernel18.main_arg17)
      ∧ r.2.mem ((c.tc : Thread Cert.Kernel18.nD Cert.Kernel18.τ).loc Cert.Kernel18.main_arg18) = m ((c.tc : Thread Cert.Kernel18.nD Cert.Kernel18.τ).loc Cert.Kernel18.main_arg18)
      ∧ r.2.mem ((c.tc : Thread Cert.Kernel18.nD Cert.Kernel18.τ).loc Cert.Kernel18.main_arg19) = m ((c.tc : Thread Cert.Kernel18.nD Cert.Kernel18.τ).loc Cert.Kernel18.main_arg19)
      ∧ r.2.mem ((c.tc : Thread Cert.Kernel18.nD Cert.Kernel18.τ).loc Cert.Kernel18.main_arg20) = m ((c.tc : Thread Cert.Kernel18.nD Cert.Kernel18.τ).loc Cert.Kernel18.main_arg20)
      ∧ r.2.mem ((c.tc : Thread Cert.Kernel18.nD Cert.Kernel18.τ).loc Cert.Kernel18.main_arg21) = m ((c.tc : Thread Cert.Kernel18.nD Cert.Kernel18.τ).loc Cert.Kernel18.main_arg21)
      ∧ r.2.mem ((c.tc : Thread Cert.Kernel18.nD Cert.Kernel18.τ).loc Cert.Kernel18.main_arg22) = m ((c.tc : Thread Cert.Kernel18.nD Cert.Kernel18.τ).loc Cert.Kernel18.main_arg22)
      ∧ r.2.mem ((c.tc : Thread Cert.Kernel18.nD Cert.Kernel18.τ).loc Cert.Kernel18.main_arg23) = m ((c.tc : Thread Cert.Kernel18.nD Cert.Kernel18.τ).loc Cert.Kernel18.main_arg23)
      ∧ r.2.mem ((c.tc : Thread Cert.Kernel18.nD Cert.Kernel18.τ).loc Cert.Kernel18.main_arg24) = m ((c.tc : Thread Cert.Kernel18.nD Cert.Kernel18.τ).loc Cert.Kernel18.main_arg24)
      ∧ r.2.mem ((c.tc : Thread Cert.Kernel18.nD Cert.Kernel18.τ).loc Cert.Kernel18.main_arg25) = m ((c.tc : Thread Cert.Kernel18.nD Cert.Kernel18.τ).loc Cert.Kernel18.main_arg25)
      ∧ r.2.mem ((c.tc : Thread Cert.Kernel18.nD Cert.Kernel18.τ).loc Cert.Kernel18.main_arg26) = m ((c.tc : Thread Cert.Kernel18.nD Cert.Kernel18.τ).loc Cert.Kernel18.main_arg26)
      ∧ r.2.mem ((c.tc : Thread Cert.Kernel18.nD Cert.Kernel18.τ).loc Cert.Kernel18.main_arg27) = m ((c.tc : Thread Cert.Kernel18.nD Cert.Kernel18.τ).loc Cert.Kernel18.main_arg27)
      ∧ r.2.mem ((c.tc : Thread Cert.Kernel18.nD Cert.Kernel18.τ).loc Cert.Kernel18.main_arg28) = m ((c.tc : Thread Cert.Kernel18.nD Cert.Kernel18.τ).loc Cert.Kernel18.main_arg28)
      ∧ r.2.mem ((c.tc : Thread Cert.Kernel18.nD Cert.Kernel18.τ).loc Cert.Kernel18.main_arg29) = m ((c.tc : Thread Cert.Kernel18.nD Cert.Kernel18.τ).loc Cert.Kernel18.main_arg29)
      ∧ r.2.mem ((c.tc : Thread Cert.Kernel18.nD Cert.Kernel18.τ).loc Cert.Kernel18.main_arg30) = m ((c.tc : Thread Cert.Kernel18.nD Cert.Kernel18.τ).loc Cert.Kernel18.main_arg30)
      ∧ r.2.mem ((c.tc : Thread Cert.Kernel18.nD Cert.Kernel18.τ).loc Cert.Kernel18.main_arg31) = m ((c.tc : Thread Cert.Kernel18.nD Cert.Kernel18.τ).loc Cert.Kernel18.main_arg31)
      ∧ r.2.mem ((c.tc : Thread Cert.Kernel18.nD Cert.Kernel18.τ).loc Cert.Kernel18.main_arg32) = m ((c.tc : Thread Cert.Kernel18.nD Cert.Kernel18.τ).loc Cert.Kernel18.main_arg32)
      ∧ r.2.mem ((c.tc : Thread Cert.Kernel18.nD Cert.Kernel18.τ).loc Cert.Kernel18.main_arg33) = m ((c.tc : Thread Cert.Kernel18.nD Cert.Kernel18.τ).loc Cert.Kernel18.main_arg33)
      ∧ r.2.mem ((c.tc : Thread Cert.Kernel18.nD Cert.Kernel18.τ).loc Cert.Kernel18.main_arg34) = m ((c.tc : Thread Cert.Kernel18.nD Cert.Kernel18.τ).loc Cert.Kernel18.main_arg34)
      ∧ r.2.mem ((c.tc : Thread Cert.Kernel18.nD Cert.Kernel18.τ).loc Cert.Kernel18.main_arg35) = m ((c.tc : Thread Cert.Kernel18.nD Cert.Kernel18.τ).loc Cert.Kernel18.main_arg35)
      ∧ r.2.mem ((c.tc : Thread Cert.Kernel18.nD Cert.Kernel18.τ).loc Cert.Kernel18.main_arg36) = m ((c.tc : Thread Cert.Kernel18.nD Cert.Kernel18.τ).loc Cert.Kernel18.main_arg36)
      ∧ r.2.mem ((c.tc : Thread Cert.Kernel18.nD Cert.Kernel18.τ).loc Cert.Kernel18.main_arg37) = m ((c.tc : Thread Cert.Kernel18.nD Cert.Kernel18.τ).loc Cert.Kernel18.main_arg37)
      ∧ r.2.mem ((c.tc : Thread Cert.Kernel18.nD Cert.Kernel18.τ).loc Cert.Kernel18.main_arg38) = m ((c.tc : Thread Cert.Kernel18.nD Cert.Kernel18.τ).loc Cert.Kernel18.main_arg38)
      ∧ r.2.mem ((c.tc : Thread Cert.Kernel18.nD Cert.Kernel18.τ).loc Cert.Kernel18.main_arg39) = m ((c.tc : Thread Cert.Kernel18.nD Cert.Kernel18.τ).loc Cert.Kernel18.main_arg39)
      ∧ r.2.mem ((c.tc : Thread Cert.Kernel18.nD Cert.Kernel18.τ).loc Cert.Kernel18.main_arg40) = m ((c.tc : Thread Cert.Kernel18.nD Cert.Kernel18.τ).loc Cert.Kernel18.main_arg40)
      ∧ r.2.mem ((c.tc : Thread Cert.Kernel18.nD Cert.Kernel18.τ).loc Cert.Kernel18.main_arg41) = m ((c.tc : Thread Cert.Kernel18.nD Cert.Kernel18.τ).loc Cert.Kernel18.main_arg41)
      ∧ r.2.mem ((c.tc : Thread Cert.Kernel18.nD Cert.Kernel18.τ).loc Cert.Kernel18.main_arg42) = m ((c.tc : Thread Cert.Kernel18.nD Cert.Kernel18.τ).loc Cert.Kernel18.main_arg42)
      ∧ r.2.mem ((c.tc : Thread Cert.Kernel18.nD Cert.Kernel18.τ).loc Cert.Kernel18.main_arg43) = m ((c.tc : Thread Cert.Kernel18.nD Cert.Kernel18.τ).loc Cert.Kernel18.main_arg43))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
      ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7)
      ∧ r.2.mem ((c.tc : Thread Cert.Kernel18Ideal.nD Cert.Kernel18Ideal.τ).loc Cert.Kernel18Ideal.main_arg8) = m ((c.tc : Thread Cert.Kernel18Ideal.nD Cert.Kernel18Ideal.τ).loc Cert.Kernel18Ideal.main_arg8)
      ∧ r.2.mem ((c.tc : Thread Cert.Kernel18Ideal.nD Cert.Kernel18Ideal.τ).loc Cert.Kernel18Ideal.main_arg9) = m ((c.tc : Thread Cert.Kernel18Ideal.nD Cert.Kernel18Ideal.τ).loc Cert.Kernel18Ideal.main_arg9)
      ∧ r.2.mem ((c.tc : Thread Cert.Kernel18Ideal.nD Cert.Kernel18Ideal.τ).loc Cert.Kernel18Ideal.main_arg10) = m ((c.tc : Thread Cert.Kernel18Ideal.nD Cert.Kernel18Ideal.τ).loc Cert.Kernel18Ideal.main_arg10)
      ∧ r.2.mem ((c.tc : Thread Cert.Kernel18Ideal.nD Cert.Kernel18Ideal.τ).loc Cert.Kernel18Ideal.main_arg11) = m ((c.tc : Thread Cert.Kernel18Ideal.nD Cert.Kernel18Ideal.τ).loc Cert.Kernel18Ideal.main_arg11)
      ∧ r.2.mem ((c.tc : Thread Cert.Kernel18Ideal.nD Cert.Kernel18Ideal.τ).loc Cert.Kernel18Ideal.main_arg12) = m ((c.tc : Thread Cert.Kernel18Ideal.nD Cert.Kernel18Ideal.τ).loc Cert.Kernel18Ideal.main_arg12)
      ∧ r.2.mem ((c.tc : Thread Cert.Kernel18Ideal.nD Cert.Kernel18Ideal.τ).loc Cert.Kernel18Ideal.main_arg13) = m ((c.tc : Thread Cert.Kernel18Ideal.nD Cert.Kernel18Ideal.τ).loc Cert.Kernel18Ideal.main_arg13)
      ∧ r.2.mem ((c.tc : Thread Cert.Kernel18Ideal.nD Cert.Kernel18Ideal.τ).loc Cert.Kernel18Ideal.main_arg14) = m ((c.tc : Thread Cert.Kernel18Ideal.nD Cert.Kernel18Ideal.τ).loc Cert.Kernel18Ideal.main_arg14)
      ∧ r.2.mem ((c.tc : Thread Cert.Kernel18Ideal.nD Cert.Kernel18Ideal.τ).loc Cert.Kernel18Ideal.main_arg15) = m ((c.tc : Thread Cert.Kernel18Ideal.nD Cert.Kernel18Ideal.τ).loc Cert.Kernel18Ideal.main_arg15)
      ∧ r.2.mem ((c.tc : Thread Cert.Kernel18Ideal.nD Cert.Kernel18Ideal.τ).loc Cert.Kernel18Ideal.main_arg16) = m ((c.tc : Thread Cert.Kernel18Ideal.nD Cert.Kernel18Ideal.τ).loc Cert.Kernel18Ideal.main_arg16)
      ∧ r.2.mem ((c.tc : Thread Cert.Kernel18Ideal.nD Cert.Kernel18Ideal.τ).loc Cert.Kernel18Ideal.main_arg17) = m ((c.tc : Thread Cert.Kernel18Ideal.nD Cert.Kernel18Ideal.τ).loc Cert.Kernel18Ideal.main_arg17)
      ∧ r.2.mem ((c.tc : Thread Cert.Kernel18Ideal.nD Cert.Kernel18Ideal.τ).loc Cert.Kernel18Ideal.main_arg18) = m ((c.tc : Thread Cert.Kernel18Ideal.nD Cert.Kernel18Ideal.τ).loc Cert.Kernel18Ideal.main_arg18)
      ∧ r.2.mem ((c.tc : Thread Cert.Kernel18Ideal.nD Cert.Kernel18Ideal.τ).loc Cert.Kernel18Ideal.main_arg19) = m ((c.tc : Thread Cert.Kernel18Ideal.nD Cert.Kernel18Ideal.τ).loc Cert.Kernel18Ideal.main_arg19)
      ∧ r.2.mem ((c.tc : Thread Cert.Kernel18Ideal.nD Cert.Kernel18Ideal.τ).loc Cert.Kernel18Ideal.main_arg20) = m ((c.tc : Thread Cert.Kernel18Ideal.nD Cert.Kernel18Ideal.τ).loc Cert.Kernel18Ideal.main_arg20)
      ∧ r.2.mem ((c.tc : Thread Cert.Kernel18Ideal.nD Cert.Kernel18Ideal.τ).loc Cert.Kernel18Ideal.main_arg21) = m ((c.tc : Thread Cert.Kernel18Ideal.nD Cert.Kernel18Ideal.τ).loc Cert.Kernel18Ideal.main_arg21)
      ∧ r.2.mem ((c.tc : Thread Cert.Kernel18Ideal.nD Cert.Kernel18Ideal.τ).loc Cert.Kernel18Ideal.main_arg22) = m ((c.tc : Thread Cert.Kernel18Ideal.nD Cert.Kernel18Ideal.τ).loc Cert.Kernel18Ideal.main_arg22)
      ∧ r.2.mem ((c.tc : Thread Cert.Kernel18Ideal.nD Cert.Kernel18Ideal.τ).loc Cert.Kernel18Ideal.main_arg23) = m ((c.tc : Thread Cert.Kernel18Ideal.nD Cert.Kernel18Ideal.τ).loc Cert.Kernel18Ideal.main_arg23)
      ∧ r.2.mem ((c.tc : Thread Cert.Kernel18Ideal.nD Cert.Kernel18Ideal.τ).loc Cert.Kernel18Ideal.main_arg24) = m ((c.tc : Thread Cert.Kernel18Ideal.nD Cert.Kernel18Ideal.τ).loc Cert.Kernel18Ideal.main_arg24)
      ∧ r.2.mem ((c.tc : Thread Cert.Kernel18Ideal.nD Cert.Kernel18Ideal.τ).loc Cert.Kernel18Ideal.main_arg25) = m ((c.tc : Thread Cert.Kernel18Ideal.nD Cert.Kernel18Ideal.τ).loc Cert.Kernel18Ideal.main_arg25)
      ∧ r.2.mem ((c.tc : Thread Cert.Kernel18Ideal.nD Cert.Kernel18Ideal.τ).loc Cert.Kernel18Ideal.main_arg26) = m ((c.tc : Thread Cert.Kernel18Ideal.nD Cert.Kernel18Ideal.τ).loc Cert.Kernel18Ideal.main_arg26)
      ∧ r.2.mem ((c.tc : Thread Cert.Kernel18Ideal.nD Cert.Kernel18Ideal.τ).loc Cert.Kernel18Ideal.main_arg27) = m ((c.tc : Thread Cert.Kernel18Ideal.nD Cert.Kernel18Ideal.τ).loc Cert.Kernel18Ideal.main_arg27)
      ∧ r.2.mem ((c.tc : Thread Cert.Kernel18Ideal.nD Cert.Kernel18Ideal.τ).loc Cert.Kernel18Ideal.main_arg28) = m ((c.tc : Thread Cert.Kernel18Ideal.nD Cert.Kernel18Ideal.τ).loc Cert.Kernel18Ideal.main_arg28)
      ∧ r.2.mem ((c.tc : Thread Cert.Kernel18Ideal.nD Cert.Kernel18Ideal.τ).loc Cert.Kernel18Ideal.main_arg29) = m ((c.tc : Thread Cert.Kernel18Ideal.nD Cert.Kernel18Ideal.τ).loc Cert.Kernel18Ideal.main_arg29)
      ∧ r.2.mem ((c.tc : Thread Cert.Kernel18Ideal.nD Cert.Kernel18Ideal.τ).loc Cert.Kernel18Ideal.main_arg30) = m ((c.tc : Thread Cert.Kernel18Ideal.nD Cert.Kernel18Ideal.τ).loc Cert.Kernel18Ideal.main_arg30)
      ∧ r.2.mem ((c.tc : Thread Cert.Kernel18Ideal.nD Cert.Kernel18Ideal.τ).loc Cert.Kernel18Ideal.main_arg31) = m ((c.tc : Thread Cert.Kernel18Ideal.nD Cert.Kernel18Ideal.τ).loc Cert.Kernel18Ideal.main_arg31)
      ∧ r.2.mem ((c.tc : Thread Cert.Kernel18Ideal.nD Cert.Kernel18Ideal.τ).loc Cert.Kernel18Ideal.main_arg32) = m ((c.tc : Thread Cert.Kernel18Ideal.nD Cert.Kernel18Ideal.τ).loc Cert.Kernel18Ideal.main_arg32)
      ∧ r.2.mem ((c.tc : Thread Cert.Kernel18Ideal.nD Cert.Kernel18Ideal.τ).loc Cert.Kernel18Ideal.main_arg33) = m ((c.tc : Thread Cert.Kernel18Ideal.nD Cert.Kernel18Ideal.τ).loc Cert.Kernel18Ideal.main_arg33)
      ∧ r.2.mem ((c.tc : Thread Cert.Kernel18Ideal.nD Cert.Kernel18Ideal.τ).loc Cert.Kernel18Ideal.main_arg34) = m ((c.tc : Thread Cert.Kernel18Ideal.nD Cert.Kernel18Ideal.τ).loc Cert.Kernel18Ideal.main_arg34)
      ∧ r.2.mem ((c.tc : Thread Cert.Kernel18Ideal.nD Cert.Kernel18Ideal.τ).loc Cert.Kernel18Ideal.main_arg35) = m ((c.tc : Thread Cert.Kernel18Ideal.nD Cert.Kernel18Ideal.τ).loc Cert.Kernel18Ideal.main_arg35)
      ∧ r.2.mem ((c.tc : Thread Cert.Kernel18Ideal.nD Cert.Kernel18Ideal.τ).loc Cert.Kernel18Ideal.main_arg36) = m ((c.tc : Thread Cert.Kernel18Ideal.nD Cert.Kernel18Ideal.τ).loc Cert.Kernel18Ideal.main_arg36)
      ∧ r.2.mem ((c.tc : Thread Cert.Kernel18Ideal.nD Cert.Kernel18Ideal.τ).loc Cert.Kernel18Ideal.main_arg37) = m ((c.tc : Thread Cert.Kernel18Ideal.nD Cert.Kernel18Ideal.τ).loc Cert.Kernel18Ideal.main_arg37)
      ∧ r.2.mem ((c.tc : Thread Cert.Kernel18Ideal.nD Cert.Kernel18Ideal.τ).loc Cert.Kernel18Ideal.main_arg38) = m ((c.tc : Thread Cert.Kernel18Ideal.nD Cert.Kernel18Ideal.τ).loc Cert.Kernel18Ideal.main_arg38)
      ∧ r.2.mem ((c.tc : Thread Cert.Kernel18Ideal.nD Cert.Kernel18Ideal.τ).loc Cert.Kernel18Ideal.main_arg39) = m ((c.tc : Thread Cert.Kernel18Ideal.nD Cert.Kernel18Ideal.τ).loc Cert.Kernel18Ideal.main_arg39)
      ∧ r.2.mem ((c.tc : Thread Cert.Kernel18Ideal.nD Cert.Kernel18Ideal.τ).loc Cert.Kernel18Ideal.main_arg40) = m ((c.tc : Thread Cert.Kernel18Ideal.nD Cert.Kernel18Ideal.τ).loc Cert.Kernel18Ideal.main_arg40)
      ∧ r.2.mem ((c.tc : Thread Cert.Kernel18Ideal.nD Cert.Kernel18Ideal.τ).loc Cert.Kernel18Ideal.main_arg41) = m ((c.tc : Thread Cert.Kernel18Ideal.nD Cert.Kernel18Ideal.τ).loc Cert.Kernel18Ideal.main_arg41)
      ∧ r.2.mem ((c.tc : Thread Cert.Kernel18Ideal.nD Cert.Kernel18Ideal.τ).loc Cert.Kernel18Ideal.main_arg42) = m ((c.tc : Thread Cert.Kernel18Ideal.nD Cert.Kernel18Ideal.τ).loc Cert.Kernel18Ideal.main_arg42)
      ∧ r.2.mem ((c.tc : Thread Cert.Kernel18Ideal.nD Cert.Kernel18Ideal.τ).loc Cert.Kernel18Ideal.main_arg43) = m ((c.tc : Thread Cert.Kernel18Ideal.nD Cert.Kernel18Ideal.τ).loc Cert.Kernel18Ideal.main_arg43))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6)
      ∧ r.2.mem ((c.tc : Thread Cert.Reference18Ideal.nD Cert.Reference18Ideal.τ).loc Cert.Reference18Ideal.main_arg7) = m ((c.tc : Thread Cert.Reference18Ideal.nD Cert.Reference18Ideal.τ).loc Cert.Reference18Ideal.main_arg7)
      ∧ r.2.mem ((c.tc : Thread Cert.Reference18Ideal.nD Cert.Reference18Ideal.τ).loc Cert.Reference18Ideal.main_arg8) = m ((c.tc : Thread Cert.Reference18Ideal.nD Cert.Reference18Ideal.τ).loc Cert.Reference18Ideal.main_arg8)
      ∧ r.2.mem ((c.tc : Thread Cert.Reference18Ideal.nD Cert.Reference18Ideal.τ).loc Cert.Reference18Ideal.main_arg9) = m ((c.tc : Thread Cert.Reference18Ideal.nD Cert.Reference18Ideal.τ).loc Cert.Reference18Ideal.main_arg9)
      ∧ r.2.mem ((c.tc : Thread Cert.Reference18Ideal.nD Cert.Reference18Ideal.τ).loc Cert.Reference18Ideal.main_arg10) = m ((c.tc : Thread Cert.Reference18Ideal.nD Cert.Reference18Ideal.τ).loc Cert.Reference18Ideal.main_arg10)
      ∧ r.2.mem ((c.tc : Thread Cert.Reference18Ideal.nD Cert.Reference18Ideal.τ).loc Cert.Reference18Ideal.main_arg11) = m ((c.tc : Thread Cert.Reference18Ideal.nD Cert.Reference18Ideal.τ).loc Cert.Reference18Ideal.main_arg11)
      ∧ r.2.mem ((c.tc : Thread Cert.Reference18Ideal.nD Cert.Reference18Ideal.τ).loc Cert.Reference18Ideal.main_arg12) = m ((c.tc : Thread Cert.Reference18Ideal.nD Cert.Reference18Ideal.τ).loc Cert.Reference18Ideal.main_arg12)
      ∧ r.2.mem ((c.tc : Thread Cert.Reference18Ideal.nD Cert.Reference18Ideal.τ).loc Cert.Reference18Ideal.main_arg13) = m ((c.tc : Thread Cert.Reference18Ideal.nD Cert.Reference18Ideal.τ).loc Cert.Reference18Ideal.main_arg13)
      ∧ r.2.mem ((c.tc : Thread Cert.Reference18Ideal.nD Cert.Reference18Ideal.τ).loc Cert.Reference18Ideal.main_arg14) = m ((c.tc : Thread Cert.Reference18Ideal.nD Cert.Reference18Ideal.τ).loc Cert.Reference18Ideal.main_arg14)
      ∧ r.2.mem ((c.tc : Thread Cert.Reference18Ideal.nD Cert.Reference18Ideal.τ).loc Cert.Reference18Ideal.main_arg15) = m ((c.tc : Thread Cert.Reference18Ideal.nD Cert.Reference18Ideal.τ).loc Cert.Reference18Ideal.main_arg15)
      ∧ r.2.mem ((c.tc : Thread Cert.Reference18Ideal.nD Cert.Reference18Ideal.τ).loc Cert.Reference18Ideal.main_arg16) = m ((c.tc : Thread Cert.Reference18Ideal.nD Cert.Reference18Ideal.τ).loc Cert.Reference18Ideal.main_arg16)
      ∧ r.2.mem ((c.tc : Thread Cert.Reference18Ideal.nD Cert.Reference18Ideal.τ).loc Cert.Reference18Ideal.main_arg17) = m ((c.tc : Thread Cert.Reference18Ideal.nD Cert.Reference18Ideal.τ).loc Cert.Reference18Ideal.main_arg17)
      ∧ r.2.mem ((c.tc : Thread Cert.Reference18Ideal.nD Cert.Reference18Ideal.τ).loc Cert.Reference18Ideal.main_arg18) = m ((c.tc : Thread Cert.Reference18Ideal.nD Cert.Reference18Ideal.τ).loc Cert.Reference18Ideal.main_arg18)
      ∧ r.2.mem ((c.tc : Thread Cert.Reference18Ideal.nD Cert.Reference18Ideal.τ).loc Cert.Reference18Ideal.main_arg19) = m ((c.tc : Thread Cert.Reference18Ideal.nD Cert.Reference18Ideal.τ).loc Cert.Reference18Ideal.main_arg19)
      ∧ r.2.mem ((c.tc : Thread Cert.Reference18Ideal.nD Cert.Reference18Ideal.τ).loc Cert.Reference18Ideal.main_arg20) = m ((c.tc : Thread Cert.Reference18Ideal.nD Cert.Reference18Ideal.τ).loc Cert.Reference18Ideal.main_arg20)
      ∧ r.2.mem ((c.tc : Thread Cert.Reference18Ideal.nD Cert.Reference18Ideal.τ).loc Cert.Reference18Ideal.main_arg21) = m ((c.tc : Thread Cert.Reference18Ideal.nD Cert.Reference18Ideal.τ).loc Cert.Reference18Ideal.main_arg21)
      ∧ r.2.mem ((c.tc : Thread Cert.Reference18Ideal.nD Cert.Reference18Ideal.τ).loc Cert.Reference18Ideal.main_arg22) = m ((c.tc : Thread Cert.Reference18Ideal.nD Cert.Reference18Ideal.τ).loc Cert.Reference18Ideal.main_arg22)
      ∧ r.2.mem ((c.tc : Thread Cert.Reference18Ideal.nD Cert.Reference18Ideal.τ).loc Cert.Reference18Ideal.main_arg23) = m ((c.tc : Thread Cert.Reference18Ideal.nD Cert.Reference18Ideal.τ).loc Cert.Reference18Ideal.main_arg23)
      ∧ r.2.mem ((c.tc : Thread Cert.Reference18Ideal.nD Cert.Reference18Ideal.τ).loc Cert.Reference18Ideal.main_arg24) = m ((c.tc : Thread Cert.Reference18Ideal.nD Cert.Reference18Ideal.τ).loc Cert.Reference18Ideal.main_arg24)
      ∧ r.2.mem ((c.tc : Thread Cert.Reference18Ideal.nD Cert.Reference18Ideal.τ).loc Cert.Reference18Ideal.main_arg25) = m ((c.tc : Thread Cert.Reference18Ideal.nD Cert.Reference18Ideal.τ).loc Cert.Reference18Ideal.main_arg25)
      ∧ r.2.mem ((c.tc : Thread Cert.Reference18Ideal.nD Cert.Reference18Ideal.τ).loc Cert.Reference18Ideal.main_arg26) = m ((c.tc : Thread Cert.Reference18Ideal.nD Cert.Reference18Ideal.τ).loc Cert.Reference18Ideal.main_arg26)
      ∧ r.2.mem ((c.tc : Thread Cert.Reference18Ideal.nD Cert.Reference18Ideal.τ).loc Cert.Reference18Ideal.main_arg27) = m ((c.tc : Thread Cert.Reference18Ideal.nD Cert.Reference18Ideal.τ).loc Cert.Reference18Ideal.main_arg27)
      ∧ r.2.mem ((c.tc : Thread Cert.Reference18Ideal.nD Cert.Reference18Ideal.τ).loc Cert.Reference18Ideal.main_arg28) = m ((c.tc : Thread Cert.Reference18Ideal.nD Cert.Reference18Ideal.τ).loc Cert.Reference18Ideal.main_arg28)
      ∧ r.2.mem ((c.tc : Thread Cert.Reference18Ideal.nD Cert.Reference18Ideal.τ).loc Cert.Reference18Ideal.main_arg29) = m ((c.tc : Thread Cert.Reference18Ideal.nD Cert.Reference18Ideal.τ).loc Cert.Reference18Ideal.main_arg29)
      ∧ r.2.mem ((c.tc : Thread Cert.Reference18Ideal.nD Cert.Reference18Ideal.τ).loc Cert.Reference18Ideal.main_arg30) = m ((c.tc : Thread Cert.Reference18Ideal.nD Cert.Reference18Ideal.τ).loc Cert.Reference18Ideal.main_arg30)
      ∧ r.2.mem ((c.tc : Thread Cert.Reference18Ideal.nD Cert.Reference18Ideal.τ).loc Cert.Reference18Ideal.main_arg31) = m ((c.tc : Thread Cert.Reference18Ideal.nD Cert.Reference18Ideal.τ).loc Cert.Reference18Ideal.main_arg31)
      ∧ r.2.mem ((c.tc : Thread Cert.Reference18Ideal.nD Cert.Reference18Ideal.τ).loc Cert.Reference18Ideal.main_arg32) = m ((c.tc : Thread Cert.Reference18Ideal.nD Cert.Reference18Ideal.τ).loc Cert.Reference18Ideal.main_arg32)
      ∧ r.2.mem ((c.tc : Thread Cert.Reference18Ideal.nD Cert.Reference18Ideal.τ).loc Cert.Reference18Ideal.main_arg33) = m ((c.tc : Thread Cert.Reference18Ideal.nD Cert.Reference18Ideal.τ).loc Cert.Reference18Ideal.main_arg33)
      ∧ r.2.mem ((c.tc : Thread Cert.Reference18Ideal.nD Cert.Reference18Ideal.τ).loc Cert.Reference18Ideal.main_arg34) = m ((c.tc : Thread Cert.Reference18Ideal.nD Cert.Reference18Ideal.τ).loc Cert.Reference18Ideal.main_arg34)
      ∧ r.2.mem ((c.tc : Thread Cert.Reference18Ideal.nD Cert.Reference18Ideal.τ).loc Cert.Reference18Ideal.main_arg35) = m ((c.tc : Thread Cert.Reference18Ideal.nD Cert.Reference18Ideal.τ).loc Cert.Reference18Ideal.main_arg35)
      ∧ r.2.mem ((c.tc : Thread Cert.Reference18Ideal.nD Cert.Reference18Ideal.τ).loc Cert.Reference18Ideal.main_arg36) = m ((c.tc : Thread Cert.Reference18Ideal.nD Cert.Reference18Ideal.τ).loc Cert.Reference18Ideal.main_arg36)
      ∧ r.2.mem ((c.tc : Thread Cert.Reference18Ideal.nD Cert.Reference18Ideal.τ).loc Cert.Reference18Ideal.main_arg37) = m ((c.tc : Thread Cert.Reference18Ideal.nD Cert.Reference18Ideal.τ).loc Cert.Reference18Ideal.main_arg37)
      ∧ r.2.mem ((c.tc : Thread Cert.Reference18Ideal.nD Cert.Reference18Ideal.τ).loc Cert.Reference18Ideal.main_arg38) = m ((c.tc : Thread Cert.Reference18Ideal.nD Cert.Reference18Ideal.τ).loc Cert.Reference18Ideal.main_arg38)
      ∧ r.2.mem ((c.tc : Thread Cert.Reference18Ideal.nD Cert.Reference18Ideal.τ).loc Cert.Reference18Ideal.main_arg39) = m ((c.tc : Thread Cert.Reference18Ideal.nD Cert.Reference18Ideal.τ).loc Cert.Reference18Ideal.main_arg39)
      ∧ r.2.mem ((c.tc : Thread Cert.Reference18Ideal.nD Cert.Reference18Ideal.τ).loc Cert.Reference18Ideal.main_arg40) = m ((c.tc : Thread Cert.Reference18Ideal.nD Cert.Reference18Ideal.τ).loc Cert.Reference18Ideal.main_arg40)
      ∧ r.2.mem ((c.tc : Thread Cert.Reference18Ideal.nD Cert.Reference18Ideal.τ).loc Cert.Reference18Ideal.main_arg41) = m ((c.tc : Thread Cert.Reference18Ideal.nD Cert.Reference18Ideal.τ).loc Cert.Reference18Ideal.main_arg41)
      ∧ r.2.mem ((c.tc : Thread Cert.Reference18Ideal.nD Cert.Reference18Ideal.τ).loc Cert.Reference18Ideal.main_arg42) = m ((c.tc : Thread Cert.Reference18Ideal.nD Cert.Reference18Ideal.τ).loc Cert.Reference18Ideal.main_arg42)
      ∧ r.2.mem ((c.tc : Thread Cert.Reference18Ideal.nD Cert.Reference18Ideal.τ).loc Cert.Reference18Ideal.main_arg43) = m ((c.tc : Thread Cert.Reference18Ideal.nD Cert.Reference18Ideal.τ).loc Cert.Reference18Ideal.main_arg43))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)) (v2 : (c : Dev Cert.KernelIdeal.nD) → Buf (Elt Ideal) ((c.tc : Thread Cert.KernelIdeal.nD Cert.KernelIdeal.τ).loc Cert.KernelIdeal.main_v25_2)) (v3 : (c : Dev Cert.KernelIdeal.nD) → Buf (Elt Ideal) ((c.tc : Thread Cert.KernelIdeal.nD Cert.KernelIdeal.τ).loc Cert.KernelIdeal.main_v25_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_v25_2) = v2 c
          ∧ r.2.mem ((c.tc : Thread Cert.KernelIdeal.nD Cert.KernelIdeal.τ).loc Cert.KernelIdeal.main_v25_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_v26) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v11) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v8) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v8)) (v1 : (c : Dev Cert.Kernel14Ideal.nD) → Buf (Elt Ideal) ((c.tc : Thread Cert.Kernel14Ideal.nD Cert.Kernel14Ideal.τ).loc Cert.Kernel14Ideal.main_v10)) (v2 : (c : Dev Cert.Kernel14Ideal.nD) → Buf (Elt Ideal) ((c.tc : Thread Cert.Kernel14Ideal.nD Cert.Kernel14Ideal.τ).loc Cert.Kernel14Ideal.main_v12)) (v3 : (c : Dev Cert.Kernel14Ideal.nD) → Buf (Elt Ideal) ((c.tc : Thread Cert.Kernel14Ideal.nD Cert.Kernel14Ideal.τ).loc Cert.Kernel14Ideal.main_v14)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v8) = v0 c
          ∧ r.2.mem ((c.tc : Thread Cert.Kernel14Ideal.nD Cert.Kernel14Ideal.τ).loc Cert.Kernel14Ideal.main_v10) = v1 c
          ∧ r.2.mem ((c.tc : Thread Cert.Kernel14Ideal.nD Cert.Kernel14Ideal.τ).loc Cert.Kernel14Ideal.main_v12) = v2 c
          ∧ r.2.mem ((c.tc : Thread Cert.Kernel14Ideal.nD Cert.Kernel14Ideal.τ).loc Cert.Kernel14Ideal.main_v14) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_v27) = v1 c
          ∧ r.2.mem ((c.tc : Thread Cert.Reference14Ideal.nD Cert.Reference14Ideal.τ).loc Cert.Reference14Ideal.main_v8) = v2 c
          ∧ r.2.mem ((c.tc : Thread Cert.Reference14Ideal.nD Cert.Reference14Ideal.τ).loc Cert.Reference14Ideal.main_v14) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v4)) (v1 : (c : Dev Cert.Kernel15Ideal.nD) → Buf (Elt Ideal) ((c.tc : Thread Cert.Kernel15Ideal.nD Cert.Kernel15Ideal.τ).loc Cert.Kernel15Ideal.main_v5)) (v2 : (c : Dev Cert.Kernel15Ideal.nD) → Buf (Elt Ideal) ((c.tc : Thread Cert.Kernel15Ideal.nD Cert.Kernel15Ideal.τ).loc Cert.Kernel15Ideal.main_v6)) (v3 : (c : Dev Cert.Kernel15Ideal.nD) → Buf (Elt Ideal) ((c.tc : Thread Cert.Kernel15Ideal.nD Cert.Kernel15Ideal.τ).loc Cert.Kernel15Ideal.main_v7)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v4) = v0 c
          ∧ r.2.mem ((c.tc : Thread Cert.Kernel15Ideal.nD Cert.Kernel15Ideal.τ).loc Cert.Kernel15Ideal.main_v5) = v1 c
          ∧ r.2.mem ((c.tc : Thread Cert.Kernel15Ideal.nD Cert.Kernel15Ideal.τ).loc Cert.Kernel15Ideal.main_v6) = v2 c
          ∧ r.2.mem ((c.tc : Thread Cert.Kernel15Ideal.nD Cert.Kernel15Ideal.τ).loc Cert.Kernel15Ideal.main_v7) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_v26) = v1 c
          ∧ r.2.mem ((c.tc : Thread Cert.Reference15Ideal.nD Cert.Reference15Ideal.τ).loc Cert.Reference15Ideal.main_v7) = v2 c
          ∧ r.2.mem ((c.tc : Thread Cert.Reference15Ideal.nD Cert.Reference15Ideal.τ).loc Cert.Reference15Ideal.main_v13) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v4)) (v1 : (c : Dev Cert.Kernel16Ideal.nD) → Buf (Elt Ideal) ((c.tc : Thread Cert.Kernel16Ideal.nD Cert.Kernel16Ideal.τ).loc Cert.Kernel16Ideal.main_v5)) (v2 : (c : Dev Cert.Kernel16Ideal.nD) → Buf (Elt Ideal) ((c.tc : Thread Cert.Kernel16Ideal.nD Cert.Kernel16Ideal.τ).loc Cert.Kernel16Ideal.main_v6)) (v3 : (c : Dev Cert.Kernel16Ideal.nD) → Buf (Elt Ideal) ((c.tc : Thread Cert.Kernel16Ideal.nD Cert.Kernel16Ideal.τ).loc Cert.Kernel16Ideal.main_v7)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v4) = v0 c
          ∧ r.2.mem ((c.tc : Thread Cert.Kernel16Ideal.nD Cert.Kernel16Ideal.τ).loc Cert.Kernel16Ideal.main_v5) = v1 c
          ∧ r.2.mem ((c.tc : Thread Cert.Kernel16Ideal.nD Cert.Kernel16Ideal.τ).loc Cert.Kernel16Ideal.main_v6) = v2 c
          ∧ r.2.mem ((c.tc : Thread Cert.Kernel16Ideal.nD Cert.Kernel16Ideal.τ).loc Cert.Kernel16Ideal.main_v7) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_v26) = v1 c
          ∧ r.2.mem ((c.tc : Thread Cert.Reference16Ideal.nD Cert.Reference16Ideal.τ).loc Cert.Reference16Ideal.main_v7) = v2 c
          ∧ r.2.mem ((c.tc : Thread Cert.Reference16Ideal.nD Cert.Reference16Ideal.τ).loc Cert.Reference16Ideal.main_v13) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v4)) (v1 : (c : Dev Cert.Kernel17Ideal.nD) → Buf (Elt Ideal) ((c.tc : Thread Cert.Kernel17Ideal.nD Cert.Kernel17Ideal.τ).loc Cert.Kernel17Ideal.main_v5)) (v2 : (c : Dev Cert.Kernel17Ideal.nD) → Buf (Elt Ideal) ((c.tc : Thread Cert.Kernel17Ideal.nD Cert.Kernel17Ideal.τ).loc Cert.Kernel17Ideal.main_v6)) (v3 : (c : Dev Cert.Kernel17Ideal.nD) → Buf (Elt Ideal) ((c.tc : Thread Cert.Kernel17Ideal.nD Cert.Kernel17Ideal.τ).loc Cert.Kernel17Ideal.main_v7)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v4) = v0 c
          ∧ r.2.mem ((c.tc : Thread Cert.Kernel17Ideal.nD Cert.Kernel17Ideal.τ).loc Cert.Kernel17Ideal.main_v5) = v1 c
          ∧ r.2.mem ((c.tc : Thread Cert.Kernel17Ideal.nD Cert.Kernel17Ideal.τ).loc Cert.Kernel17Ideal.main_v6) = v2 c
          ∧ r.2.mem ((c.tc : Thread Cert.Kernel17Ideal.nD Cert.Kernel17Ideal.τ).loc Cert.Kernel17Ideal.main_v7) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_v26) = v1 c
          ∧ r.2.mem ((c.tc : Thread Cert.Reference17Ideal.nD Cert.Reference17Ideal.τ).loc Cert.Reference17Ideal.main_v7) = v2 c
          ∧ r.2.mem ((c.tc : Thread Cert.Reference17Ideal.nD Cert.Reference17Ideal.τ).loc Cert.Reference17Ideal.main_v13) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)
      ∧ m' ((c.tc : Thread Cert.Reference18Ideal.nD Cert.Reference18Ideal.τ).loc Cert.Reference18Ideal.main_arg6) = m ((c.tc : Thread Cert.Kernel18Ideal.nD Cert.Kernel18Ideal.τ).loc Cert.Kernel18Ideal.main_arg6)
      ∧ m' ((c.tc : Thread Cert.Reference18Ideal.nD Cert.Reference18Ideal.τ).loc Cert.Reference18Ideal.main_arg7) = m ((c.tc : Thread Cert.Kernel18Ideal.nD Cert.Kernel18Ideal.τ).loc Cert.Kernel18Ideal.main_arg7)
      ∧ m' ((c.tc : Thread Cert.Reference18Ideal.nD Cert.Reference18Ideal.τ).loc Cert.Reference18Ideal.main_arg8) = m ((c.tc : Thread Cert.Kernel18Ideal.nD Cert.Kernel18Ideal.τ).loc Cert.Kernel18Ideal.main_arg8)
      ∧ m' ((c.tc : Thread Cert.Reference18Ideal.nD Cert.Reference18Ideal.τ).loc Cert.Reference18Ideal.main_arg9) = m ((c.tc : Thread Cert.Kernel18Ideal.nD Cert.Kernel18Ideal.τ).loc Cert.Kernel18Ideal.main_arg9)
      ∧ m' ((c.tc : Thread Cert.Reference18Ideal.nD Cert.Reference18Ideal.τ).loc Cert.Reference18Ideal.main_arg10) = m ((c.tc : Thread Cert.Kernel18Ideal.nD Cert.Kernel18Ideal.τ).loc Cert.Kernel18Ideal.main_arg10)
      ∧ m' ((c.tc : Thread Cert.Reference18Ideal.nD Cert.Reference18Ideal.τ).loc Cert.Reference18Ideal.main_arg11) = m ((c.tc : Thread Cert.Kernel18Ideal.nD Cert.Kernel18Ideal.τ).loc Cert.Kernel18Ideal.main_arg11)
      ∧ m' ((c.tc : Thread Cert.Reference18Ideal.nD Cert.Reference18Ideal.τ).loc Cert.Reference18Ideal.main_arg12) = m ((c.tc : Thread Cert.Kernel18Ideal.nD Cert.Kernel18Ideal.τ).loc Cert.Kernel18Ideal.main_arg12)
      ∧ m' ((c.tc : Thread Cert.Reference18Ideal.nD Cert.Reference18Ideal.τ).loc Cert.Reference18Ideal.main_arg13) = m ((c.tc : Thread Cert.Kernel18Ideal.nD Cert.Kernel18Ideal.τ).loc Cert.Kernel18Ideal.main_arg13)
      ∧ m' ((c.tc : Thread Cert.Reference18Ideal.nD Cert.Reference18Ideal.τ).loc Cert.Reference18Ideal.main_arg14) = m ((c.tc : Thread Cert.Kernel18Ideal.nD Cert.Kernel18Ideal.τ).loc Cert.Kernel18Ideal.main_arg14)
      ∧ m' ((c.tc : Thread Cert.Reference18Ideal.nD Cert.Reference18Ideal.τ).loc Cert.Reference18Ideal.main_arg15) = m ((c.tc : Thread Cert.Kernel18Ideal.nD Cert.Kernel18Ideal.τ).loc Cert.Kernel18Ideal.main_arg15)
      ∧ m' ((c.tc : Thread Cert.Reference18Ideal.nD Cert.Reference18Ideal.τ).loc Cert.Reference18Ideal.main_arg16) = m ((c.tc : Thread Cert.Kernel18Ideal.nD Cert.Kernel18Ideal.τ).loc Cert.Kernel18Ideal.main_arg16)
      ∧ m' ((c.tc : Thread Cert.Reference18Ideal.nD Cert.Reference18Ideal.τ).loc Cert.Reference18Ideal.main_arg17) = m ((c.tc : Thread Cert.Kernel18Ideal.nD Cert.Kernel18Ideal.τ).loc Cert.Kernel18Ideal.main_arg17)
      ∧ m' ((c.tc : Thread Cert.Reference18Ideal.nD Cert.Reference18Ideal.τ).loc Cert.Reference18Ideal.main_arg18) = m ((c.tc : Thread Cert.Kernel18Ideal.nD Cert.Kernel18Ideal.τ).loc Cert.Kernel18Ideal.main_arg18)
      ∧ m' ((c.tc : Thread Cert.Reference18Ideal.nD Cert.Reference18Ideal.τ).loc Cert.Reference18Ideal.main_arg19) = m ((c.tc : Thread Cert.Kernel18Ideal.nD Cert.Kernel18Ideal.τ).loc Cert.Kernel18Ideal.main_arg19)
      ∧ m' ((c.tc : Thread Cert.Reference18Ideal.nD Cert.Reference18Ideal.τ).loc Cert.Reference18Ideal.main_arg20) = m ((c.tc : Thread Cert.Kernel18Ideal.nD Cert.Kernel18Ideal.τ).loc Cert.Kernel18Ideal.main_arg20)
      ∧ m' ((c.tc : Thread Cert.Reference18Ideal.nD Cert.Reference18Ideal.τ).loc Cert.Reference18Ideal.main_arg21) = m ((c.tc : Thread Cert.Kernel18Ideal.nD Cert.Kernel18Ideal.τ).loc Cert.Kernel18Ideal.main_arg21)
      ∧ m' ((c.tc : Thread Cert.Reference18Ideal.nD Cert.Reference18Ideal.τ).loc Cert.Reference18Ideal.main_arg22) = m ((c.tc : Thread Cert.Kernel18Ideal.nD Cert.Kernel18Ideal.τ).loc Cert.Kernel18Ideal.main_arg22)
      ∧ m' ((c.tc : Thread Cert.Reference18Ideal.nD Cert.Reference18Ideal.τ).loc Cert.Reference18Ideal.main_arg23) = m ((c.tc : Thread Cert.Kernel18Ideal.nD Cert.Kernel18Ideal.τ).loc Cert.Kernel18Ideal.main_arg23)
      ∧ m' ((c.tc : Thread Cert.Reference18Ideal.nD Cert.Reference18Ideal.τ).loc Cert.Reference18Ideal.main_arg24) = m ((c.tc : Thread Cert.Kernel18Ideal.nD Cert.Kernel18Ideal.τ).loc Cert.Kernel18Ideal.main_arg24)
      ∧ m' ((c.tc : Thread Cert.Reference18Ideal.nD Cert.Reference18Ideal.τ).loc Cert.Reference18Ideal.main_arg25) = m ((c.tc : Thread Cert.Kernel18Ideal.nD Cert.Kernel18Ideal.τ).loc Cert.Kernel18Ideal.main_arg25)
      ∧ m' ((c.tc : Thread Cert.Reference18Ideal.nD Cert.Reference18Ideal.τ).loc Cert.Reference18Ideal.main_arg26) = m ((c.tc : Thread Cert.Kernel18Ideal.nD Cert.Kernel18Ideal.τ).loc Cert.Kernel18Ideal.main_arg26)
      ∧ m' ((c.tc : Thread Cert.Reference18Ideal.nD Cert.Reference18Ideal.τ).loc Cert.Reference18Ideal.main_arg27) = m ((c.tc : Thread Cert.Kernel18Ideal.nD Cert.Kernel18Ideal.τ).loc Cert.Kernel18Ideal.main_arg27)
      ∧ m' ((c.tc : Thread Cert.Reference18Ideal.nD Cert.Reference18Ideal.τ).loc Cert.Reference18Ideal.main_arg28) = m ((c.tc : Thread Cert.Kernel18Ideal.nD Cert.Kernel18Ideal.τ).loc Cert.Kernel18Ideal.main_arg28)
      ∧ m' ((c.tc : Thread Cert.Reference18Ideal.nD Cert.Reference18Ideal.τ).loc Cert.Reference18Ideal.main_arg29) = m ((c.tc : Thread Cert.Kernel18Ideal.nD Cert.Kernel18Ideal.τ).loc Cert.Kernel18Ideal.main_arg29)
      ∧ m' ((c.tc : Thread Cert.Reference18Ideal.nD Cert.Reference18Ideal.τ).loc Cert.Reference18Ideal.main_arg30) = m ((c.tc : Thread Cert.Kernel18Ideal.nD Cert.Kernel18Ideal.τ).loc Cert.Kernel18Ideal.main_arg30)
      ∧ m' ((c.tc : Thread Cert.Reference18Ideal.nD Cert.Reference18Ideal.τ).loc Cert.Reference18Ideal.main_arg31) = m ((c.tc : Thread Cert.Kernel18Ideal.nD Cert.Kernel18Ideal.τ).loc Cert.Kernel18Ideal.main_arg31)
      ∧ m' ((c.tc : Thread Cert.Reference18Ideal.nD Cert.Reference18Ideal.τ).loc Cert.Reference18Ideal.main_arg32) = m ((c.tc : Thread Cert.Kernel18Ideal.nD Cert.Kernel18Ideal.τ).loc Cert.Kernel18Ideal.main_arg32)
      ∧ m' ((c.tc : Thread Cert.Reference18Ideal.nD Cert.Reference18Ideal.τ).loc Cert.Reference18Ideal.main_arg33) = m ((c.tc : Thread Cert.Kernel18Ideal.nD Cert.Kernel18Ideal.τ).loc Cert.Kernel18Ideal.main_arg33)
      ∧ m' ((c.tc : Thread Cert.Reference18Ideal.nD Cert.Reference18Ideal.τ).loc Cert.Reference18Ideal.main_arg34) = m ((c.tc : Thread Cert.Kernel18Ideal.nD Cert.Kernel18Ideal.τ).loc Cert.Kernel18Ideal.main_arg34)
      ∧ m' ((c.tc : Thread Cert.Reference18Ideal.nD Cert.Reference18Ideal.τ).loc Cert.Reference18Ideal.main_arg35) = m ((c.tc : Thread Cert.Kernel18Ideal.nD Cert.Kernel18Ideal.τ).loc Cert.Kernel18Ideal.main_arg35)
      ∧ m' ((c.tc : Thread Cert.Reference18Ideal.nD Cert.Reference18Ideal.τ).loc Cert.Reference18Ideal.main_arg36) = m ((c.tc : Thread Cert.Kernel18Ideal.nD Cert.Kernel18Ideal.τ).loc Cert.Kernel18Ideal.main_arg36)
      ∧ m' ((c.tc : Thread Cert.Reference18Ideal.nD Cert.Reference18Ideal.τ).loc Cert.Reference18Ideal.main_arg37) = m ((c.tc : Thread Cert.Kernel18Ideal.nD Cert.Kernel18Ideal.τ).loc Cert.Kernel18Ideal.main_arg37)
      ∧ m' ((c.tc : Thread Cert.Reference18Ideal.nD Cert.Reference18Ideal.τ).loc Cert.Reference18Ideal.main_arg38) = m ((c.tc : Thread Cert.Kernel18Ideal.nD Cert.Kernel18Ideal.τ).loc Cert.Kernel18Ideal.main_arg38)
      ∧ m' ((c.tc : Thread Cert.Reference18Ideal.nD Cert.Reference18Ideal.τ).loc Cert.Reference18Ideal.main_arg39) = m ((c.tc : Thread Cert.Kernel18Ideal.nD Cert.Kernel18Ideal.τ).loc Cert.Kernel18Ideal.main_arg39)
      ∧ m' ((c.tc : Thread Cert.Reference18Ideal.nD Cert.Reference18Ideal.τ).loc Cert.Reference18Ideal.main_arg40) = m ((c.tc : Thread Cert.Kernel18Ideal.nD Cert.Kernel18Ideal.τ).loc Cert.Kernel18Ideal.main_arg40)
      ∧ m' ((c.tc : Thread Cert.Reference18Ideal.nD Cert.Reference18Ideal.τ).loc Cert.Reference18Ideal.main_arg41) = m ((c.tc : Thread Cert.Kernel18Ideal.nD Cert.Kernel18Ideal.τ).loc Cert.Kernel18Ideal.main_arg41)
      ∧ m' ((c.tc : Thread Cert.Reference18Ideal.nD Cert.Reference18Ideal.τ).loc Cert.Reference18Ideal.main_arg42) = m ((c.tc : Thread Cert.Kernel18Ideal.nD Cert.Kernel18Ideal.τ).loc Cert.Kernel18Ideal.main_arg42)
      ∧ m' ((c.tc : Thread Cert.Reference18Ideal.nD Cert.Reference18Ideal.τ).loc Cert.Reference18Ideal.main_arg43) = m ((c.tc : Thread Cert.Kernel18Ideal.nD Cert.Kernel18Ideal.τ).loc Cert.Kernel18Ideal.main_arg43)) →
    ∃ (v0 : (c : Dev Cert.Kernel18Ideal.nD) → Buf (Elt Ideal) ((c.tc : Thread Cert.Kernel18Ideal.nD Cert.Kernel18Ideal.τ).loc Cert.Kernel18Ideal.main_v55)) (v1 : (c : Dev Cert.Kernel18Ideal.nD) → Buf (Elt Ideal) ((c.tc : Thread Cert.Kernel18Ideal.nD Cert.Kernel18Ideal.τ).loc Cert.Kernel18Ideal.main_v57)) (v2 : (c : Dev Cert.Kernel18Ideal.nD) → Buf (Elt Ideal) ((c.tc : Thread Cert.Kernel18Ideal.nD Cert.Kernel18Ideal.τ).loc Cert.Kernel18Ideal.main_v59)) (v3 : (c : Dev Cert.Kernel18Ideal.nD) → Buf (Elt Ideal) ((c.tc : Thread Cert.Kernel18Ideal.nD Cert.Kernel18Ideal.τ).loc Cert.Kernel18Ideal.main_v61)) (v4 : (c : Dev Cert.Kernel18Ideal.nD) → Buf (Elt Ideal) ((c.tc : Thread Cert.Kernel18Ideal.nD Cert.Kernel18Ideal.τ).loc Cert.Kernel18Ideal.main_v63)) (v5 : (c : Dev Cert.Kernel18Ideal.nD) → Buf (Elt Ideal) ((c.tc : Thread Cert.Kernel18Ideal.nD Cert.Kernel18Ideal.τ).loc Cert.Kernel18Ideal.main_v65)) (v6 : (c : Dev Cert.Kernel18Ideal.nD) → Buf (Elt Ideal) ((c.tc : Thread Cert.Kernel18Ideal.nD Cert.Kernel18Ideal.τ).loc Cert.Kernel18Ideal.main_v67)) (v7 : (c : Dev Cert.Kernel18Ideal.nD) → Buf (Elt Ideal) ((c.tc : Thread Cert.Kernel18Ideal.nD Cert.Kernel18Ideal.τ).loc Cert.Kernel18Ideal.main_v69)) (v8 : (c : Dev Cert.Kernel18Ideal.nD) → Buf (Elt Ideal) ((c.tc : Thread Cert.Kernel18Ideal.nD Cert.Kernel18Ideal.τ).loc Cert.Kernel18Ideal.main_v71)) (v9 : (c : Dev Cert.Kernel18Ideal.nD) → Buf (Elt Ideal) ((c.tc : Thread Cert.Kernel18Ideal.nD Cert.Kernel18Ideal.τ).loc Cert.Kernel18Ideal.main_v73)) (v10 : (c : Dev Cert.Kernel18Ideal.nD) → Buf (Elt Ideal) ((c.tc : Thread Cert.Kernel18Ideal.nD Cert.Kernel18Ideal.τ).loc Cert.Kernel18Ideal.main_v74)) (v11 : (c : Dev Cert.Kernel18Ideal.nD) → Buf (Elt Ideal) ((c.tc : Thread Cert.Kernel18Ideal.nD Cert.Kernel18Ideal.τ).loc Cert.Kernel18Ideal.main_v77)) (v12 : (c : Dev Cert.Kernel18Ideal.nD) → Buf (Elt Ideal) ((c.tc : Thread Cert.Kernel18Ideal.nD Cert.Kernel18Ideal.τ).loc Cert.Kernel18Ideal.main_v79)) (v13 : (c : Dev Cert.Kernel18Ideal.nD) → Buf (Elt Ideal) ((c.tc : Thread Cert.Kernel18Ideal.nD Cert.Kernel18Ideal.τ).loc Cert.Kernel18Ideal.main_v81)) (v14 : (c : Dev Cert.Kernel18Ideal.nD) → Buf (Elt Ideal) ((c.tc : Thread Cert.Kernel18Ideal.nD Cert.Kernel18Ideal.τ).loc Cert.Kernel18Ideal.main_v83)) (v15 : (c : Dev Cert.Kernel18Ideal.nD) → Buf (Elt Ideal) ((c.tc : Thread Cert.Kernel18Ideal.nD Cert.Kernel18Ideal.τ).loc Cert.Kernel18Ideal.main_v85)) (v16 : (c : Dev Cert.Kernel18Ideal.nD) → Buf (Elt Ideal) ((c.tc : Thread Cert.Kernel18Ideal.nD Cert.Kernel18Ideal.τ).loc Cert.Kernel18Ideal.main_v87)) (v17 : (c : Dev Cert.Kernel18Ideal.nD) → Buf (Elt Ideal) ((c.tc : Thread Cert.Kernel18Ideal.nD Cert.Kernel18Ideal.τ).loc Cert.Kernel18Ideal.main_v89)) (v18 : (c : Dev Cert.Kernel18Ideal.nD) → Buf (Elt Ideal) ((c.tc : Thread Cert.Kernel18Ideal.nD Cert.Kernel18Ideal.τ).loc Cert.Kernel18Ideal.main_v91)) (v19 : (c : Dev Cert.Kernel18Ideal.nD) → Buf (Elt Ideal) ((c.tc : Thread Cert.Kernel18Ideal.nD Cert.Kernel18Ideal.τ).loc Cert.Kernel18Ideal.main_v93)) (v20 : (c : Dev Cert.Kernel18Ideal.nD) → Buf (Elt Ideal) ((c.tc : Thread Cert.Kernel18Ideal.nD Cert.Kernel18Ideal.τ).loc Cert.Kernel18Ideal.main_v95)) (v21 : (c : Dev Cert.Kernel18Ideal.nD) → Buf (Elt Ideal) ((c.tc : Thread Cert.Kernel18Ideal.nD Cert.Kernel18Ideal.τ).loc Cert.Kernel18Ideal.main_v96)) (v22 : (c : Dev Cert.Kernel18Ideal.nD) → Buf (Elt Ideal) ((c.tc : Thread Cert.Kernel18Ideal.nD Cert.Kernel18Ideal.τ).loc Cert.Kernel18Ideal.main_v99)) (v23 : (c : Dev Cert.Kernel18Ideal.nD) → Buf (Elt Ideal) ((c.tc : Thread Cert.Kernel18Ideal.nD Cert.Kernel18Ideal.τ).loc Cert.Kernel18Ideal.main_v101)) (v24 : (c : Dev Cert.Kernel18Ideal.nD) → Buf (Elt Ideal) ((c.tc : Thread Cert.Kernel18Ideal.nD Cert.Kernel18Ideal.τ).loc Cert.Kernel18Ideal.main_v103)) (v25 : (c : Dev Cert.Kernel18Ideal.nD) → Buf (Elt Ideal) ((c.tc : Thread Cert.Kernel18Ideal.nD Cert.Kernel18Ideal.τ).loc Cert.Kernel18Ideal.main_v105)) (v26 : (c : Dev Cert.Kernel18Ideal.nD) → Buf (Elt Ideal) ((c.tc : Thread Cert.Kernel18Ideal.nD Cert.Kernel18Ideal.τ).loc Cert.Kernel18Ideal.main_v107)) (v27 : (c : Dev Cert.Kernel18Ideal.nD) → Buf (Elt Ideal) ((c.tc : Thread Cert.Kernel18Ideal.nD Cert.Kernel18Ideal.τ).loc Cert.Kernel18Ideal.main_v109)) (v28 : (c : Dev Cert.Kernel18Ideal.nD) → Buf (Elt Ideal) ((c.tc : Thread Cert.Kernel18Ideal.nD Cert.Kernel18Ideal.τ).loc Cert.Kernel18Ideal.main_v111)) (v29 : (c : Dev Cert.Kernel18Ideal.nD) → Buf (Elt Ideal) ((c.tc : Thread Cert.Kernel18Ideal.nD Cert.Kernel18Ideal.τ).loc Cert.Kernel18Ideal.main_v113)) (v30 : (c : Dev Cert.Kernel18Ideal.nD) → Buf (Elt Ideal) ((c.tc : Thread Cert.Kernel18Ideal.nD Cert.Kernel18Ideal.τ).loc Cert.Kernel18Ideal.main_v115)) (v31 : (c : Dev Cert.Kernel18Ideal.nD) → Buf (Elt Ideal) ((c.tc : Thread Cert.Kernel18Ideal.nD Cert.Kernel18Ideal.τ).loc Cert.Kernel18Ideal.main_v117)) (v32 : (c : Dev Cert.Kernel18Ideal.nD) → Buf (Elt Ideal) ((c.tc : Thread Cert.Kernel18Ideal.nD Cert.Kernel18Ideal.τ).loc Cert.Kernel18Ideal.main_v118)) (v33 : (c : Dev Cert.Kernel18Ideal.nD) → Buf (Elt Ideal) ((c.tc : Thread Cert.Kernel18Ideal.nD Cert.Kernel18Ideal.τ).loc Cert.Kernel18Ideal.main_v121)) (v34 : (c : Dev Cert.Kernel18Ideal.nD) → Buf (Elt Ideal) ((c.tc : Thread Cert.Kernel18Ideal.nD Cert.Kernel18Ideal.τ).loc Cert.Kernel18Ideal.main_v123)) (v35 : (c : Dev Cert.Kernel18Ideal.nD) → Buf (Elt Ideal) ((c.tc : Thread Cert.Kernel18Ideal.nD Cert.Kernel18Ideal.τ).loc Cert.Kernel18Ideal.main_v125)) (v36 : (c : Dev Cert.Kernel18Ideal.nD) → Buf (Elt Ideal) ((c.tc : Thread Cert.Kernel18Ideal.nD Cert.Kernel18Ideal.τ).loc Cert.Kernel18Ideal.main_v127)) (v37 : (c : Dev Cert.Kernel18Ideal.nD) → Buf (Elt Ideal) ((c.tc : Thread Cert.Kernel18Ideal.nD Cert.Kernel18Ideal.τ).loc Cert.Kernel18Ideal.main_v129)) (v38 : (c : Dev Cert.Kernel18Ideal.nD) → Buf (Elt Ideal) ((c.tc : Thread Cert.Kernel18Ideal.nD Cert.Kernel18Ideal.τ).loc Cert.Kernel18Ideal.main_v131)) (v39 : (c : Dev Cert.Kernel18Ideal.nD) → Buf (Elt Ideal) ((c.tc : Thread Cert.Kernel18Ideal.nD Cert.Kernel18Ideal.τ).loc Cert.Kernel18Ideal.main_v133)) (v40 : (c : Dev Cert.Kernel18Ideal.nD) → Buf (Elt Ideal) ((c.tc : Thread Cert.Kernel18Ideal.nD Cert.Kernel18Ideal.τ).loc Cert.Kernel18Ideal.main_v135)) (v41 : (c : Dev Cert.Kernel18Ideal.nD) → Buf (Elt Ideal) ((c.tc : Thread Cert.Kernel18Ideal.nD Cert.Kernel18Ideal.τ).loc Cert.Kernel18Ideal.main_v137)) (v42 : (c : Dev Cert.Kernel18Ideal.nD) → Buf (Elt Ideal) ((c.tc : Thread Cert.Kernel18Ideal.nD Cert.Kernel18Ideal.τ).loc Cert.Kernel18Ideal.main_v139)) (v43 : (c : Dev Cert.Kernel18Ideal.nD) → Buf (Elt Ideal) ((c.tc : Thread Cert.Kernel18Ideal.nD Cert.Kernel18Ideal.τ).loc Cert.Kernel18Ideal.main_v140)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v55) = v0 c
          ∧ r.2.mem ((c.tc : Thread Cert.Kernel18Ideal.nD Cert.Kernel18Ideal.τ).loc Cert.Kernel18Ideal.main_v57) = v1 c
          ∧ r.2.mem ((c.tc : Thread Cert.Kernel18Ideal.nD Cert.Kernel18Ideal.τ).loc Cert.Kernel18Ideal.main_v59) = v2 c
          ∧ r.2.mem ((c.tc : Thread Cert.Kernel18Ideal.nD Cert.Kernel18Ideal.τ).loc Cert.Kernel18Ideal.main_v61) = v3 c
          ∧ r.2.mem ((c.tc : Thread Cert.Kernel18Ideal.nD Cert.Kernel18Ideal.τ).loc Cert.Kernel18Ideal.main_v63) = v4 c
          ∧ r.2.mem ((c.tc : Thread Cert.Kernel18Ideal.nD Cert.Kernel18Ideal.τ).loc Cert.Kernel18Ideal.main_v65) = v5 c
          ∧ r.2.mem ((c.tc : Thread Cert.Kernel18Ideal.nD Cert.Kernel18Ideal.τ).loc Cert.Kernel18Ideal.main_v67) = v6 c
          ∧ r.2.mem ((c.tc : Thread Cert.Kernel18Ideal.nD Cert.Kernel18Ideal.τ).loc Cert.Kernel18Ideal.main_v69) = v7 c
          ∧ r.2.mem ((c.tc : Thread Cert.Kernel18Ideal.nD Cert.Kernel18Ideal.τ).loc Cert.Kernel18Ideal.main_v71) = v8 c
          ∧ r.2.mem ((c.tc : Thread Cert.Kernel18Ideal.nD Cert.Kernel18Ideal.τ).loc Cert.Kernel18Ideal.main_v73) = v9 c
          ∧ r.2.mem ((c.tc : Thread Cert.Kernel18Ideal.nD Cert.Kernel18Ideal.τ).loc Cert.Kernel18Ideal.main_v74) = v10 c
          ∧ r.2.mem ((c.tc : Thread Cert.Kernel18Ideal.nD Cert.Kernel18Ideal.τ).loc Cert.Kernel18Ideal.main_v77) = v11 c
          ∧ r.2.mem ((c.tc : Thread Cert.Kernel18Ideal.nD Cert.Kernel18Ideal.τ).loc Cert.Kernel18Ideal.main_v79) = v12 c
          ∧ r.2.mem ((c.tc : Thread Cert.Kernel18Ideal.nD Cert.Kernel18Ideal.τ).loc Cert.Kernel18Ideal.main_v81) = v13 c
          ∧ r.2.mem ((c.tc : Thread Cert.Kernel18Ideal.nD Cert.Kernel18Ideal.τ).loc Cert.Kernel18Ideal.main_v83) = v14 c
          ∧ r.2.mem ((c.tc : Thread Cert.Kernel18Ideal.nD Cert.Kernel18Ideal.τ).loc Cert.Kernel18Ideal.main_v85) = v15 c
          ∧ r.2.mem ((c.tc : Thread Cert.Kernel18Ideal.nD Cert.Kernel18Ideal.τ).loc Cert.Kernel18Ideal.main_v87) = v16 c
          ∧ r.2.mem ((c.tc : Thread Cert.Kernel18Ideal.nD Cert.Kernel18Ideal.τ).loc Cert.Kernel18Ideal.main_v89) = v17 c
          ∧ r.2.mem ((c.tc : Thread Cert.Kernel18Ideal.nD Cert.Kernel18Ideal.τ).loc Cert.Kernel18Ideal.main_v91) = v18 c
          ∧ r.2.mem ((c.tc : Thread Cert.Kernel18Ideal.nD Cert.Kernel18Ideal.τ).loc Cert.Kernel18Ideal.main_v93) = v19 c
          ∧ r.2.mem ((c.tc : Thread Cert.Kernel18Ideal.nD Cert.Kernel18Ideal.τ).loc Cert.Kernel18Ideal.main_v95) = v20 c
          ∧ r.2.mem ((c.tc : Thread Cert.Kernel18Ideal.nD Cert.Kernel18Ideal.τ).loc Cert.Kernel18Ideal.main_v96) = v21 c
          ∧ r.2.mem ((c.tc : Thread Cert.Kernel18Ideal.nD Cert.Kernel18Ideal.τ).loc Cert.Kernel18Ideal.main_v99) = v22 c
          ∧ r.2.mem ((c.tc : Thread Cert.Kernel18Ideal.nD Cert.Kernel18Ideal.τ).loc Cert.Kernel18Ideal.main_v101) = v23 c
          ∧ r.2.mem ((c.tc : Thread Cert.Kernel18Ideal.nD Cert.Kernel18Ideal.τ).loc Cert.Kernel18Ideal.main_v103) = v24 c
          ∧ r.2.mem ((c.tc : Thread Cert.Kernel18Ideal.nD Cert.Kernel18Ideal.τ).loc Cert.Kernel18Ideal.main_v105) = v25 c
          ∧ r.2.mem ((c.tc : Thread Cert.Kernel18Ideal.nD Cert.Kernel18Ideal.τ).loc Cert.Kernel18Ideal.main_v107) = v26 c
          ∧ r.2.mem ((c.tc : Thread Cert.Kernel18Ideal.nD Cert.Kernel18Ideal.τ).loc Cert.Kernel18Ideal.main_v109) = v27 c
          ∧ r.2.mem ((c.tc : Thread Cert.Kernel18Ideal.nD Cert.Kernel18Ideal.τ).loc Cert.Kernel18Ideal.main_v111) = v28 c
          ∧ r.2.mem ((c.tc : Thread Cert.Kernel18Ideal.nD Cert.Kernel18Ideal.τ).loc Cert.Kernel18Ideal.main_v113) = v29 c
          ∧ r.2.mem ((c.tc : Thread Cert.Kernel18Ideal.nD Cert.Kernel18Ideal.τ).loc Cert.Kernel18Ideal.main_v115) = v30 c
          ∧ r.2.mem ((c.tc : Thread Cert.Kernel18Ideal.nD Cert.Kernel18Ideal.τ).loc Cert.Kernel18Ideal.main_v117) = v31 c
          ∧ r.2.mem ((c.tc : Thread Cert.Kernel18Ideal.nD Cert.Kernel18Ideal.τ).loc Cert.Kernel18Ideal.main_v118) = v32 c
          ∧ r.2.mem ((c.tc : Thread Cert.Kernel18Ideal.nD Cert.Kernel18Ideal.τ).loc Cert.Kernel18Ideal.main_v121) = v33 c
          ∧ r.2.mem ((c.tc : Thread Cert.Kernel18Ideal.nD Cert.Kernel18Ideal.τ).loc Cert.Kernel18Ideal.main_v123) = v34 c
          ∧ r.2.mem ((c.tc : Thread Cert.Kernel18Ideal.nD Cert.Kernel18Ideal.τ).loc Cert.Kernel18Ideal.main_v125) = v35 c
          ∧ r.2.mem ((c.tc : Thread Cert.Kernel18Ideal.nD Cert.Kernel18Ideal.τ).loc Cert.Kernel18Ideal.main_v127) = v36 c
          ∧ r.2.mem ((c.tc : Thread Cert.Kernel18Ideal.nD Cert.Kernel18Ideal.τ).loc Cert.Kernel18Ideal.main_v129) = v37 c
          ∧ r.2.mem ((c.tc : Thread Cert.Kernel18Ideal.nD Cert.Kernel18Ideal.τ).loc Cert.Kernel18Ideal.main_v131) = v38 c
          ∧ r.2.mem ((c.tc : Thread Cert.Kernel18Ideal.nD Cert.Kernel18Ideal.τ).loc Cert.Kernel18Ideal.main_v133) = v39 c
          ∧ r.2.mem ((c.tc : Thread Cert.Kernel18Ideal.nD Cert.Kernel18Ideal.τ).loc Cert.Kernel18Ideal.main_v135) = v40 c
          ∧ r.2.mem ((c.tc : Thread Cert.Kernel18Ideal.nD Cert.Kernel18Ideal.τ).loc Cert.Kernel18Ideal.main_v137) = v41 c
          ∧ r.2.mem ((c.tc : Thread Cert.Kernel18Ideal.nD Cert.Kernel18Ideal.τ).loc Cert.Kernel18Ideal.main_v139) = v42 c
          ∧ r.2.mem ((c.tc : Thread Cert.Kernel18Ideal.nD Cert.Kernel18Ideal.τ).loc Cert.Kernel18Ideal.main_v140) = v43 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
          ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
          ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7)
          ∧ r.2.mem ((c.tc : Thread Cert.Kernel18Ideal.nD Cert.Kernel18Ideal.τ).loc Cert.Kernel18Ideal.main_arg8) = m ((c.tc : Thread Cert.Kernel18Ideal.nD Cert.Kernel18Ideal.τ).loc Cert.Kernel18Ideal.main_arg8)
          ∧ r.2.mem ((c.tc : Thread Cert.Kernel18Ideal.nD Cert.Kernel18Ideal.τ).loc Cert.Kernel18Ideal.main_arg9) = m ((c.tc : Thread Cert.Kernel18Ideal.nD Cert.Kernel18Ideal.τ).loc Cert.Kernel18Ideal.main_arg9)
          ∧ r.2.mem ((c.tc : Thread Cert.Kernel18Ideal.nD Cert.Kernel18Ideal.τ).loc Cert.Kernel18Ideal.main_arg10) = m ((c.tc : Thread Cert.Kernel18Ideal.nD Cert.Kernel18Ideal.τ).loc Cert.Kernel18Ideal.main_arg10)
          ∧ r.2.mem ((c.tc : Thread Cert.Kernel18Ideal.nD Cert.Kernel18Ideal.τ).loc Cert.Kernel18Ideal.main_arg11) = m ((c.tc : Thread Cert.Kernel18Ideal.nD Cert.Kernel18Ideal.τ).loc Cert.Kernel18Ideal.main_arg11)
          ∧ r.2.mem ((c.tc : Thread Cert.Kernel18Ideal.nD Cert.Kernel18Ideal.τ).loc Cert.Kernel18Ideal.main_arg12) = m ((c.tc : Thread Cert.Kernel18Ideal.nD Cert.Kernel18Ideal.τ).loc Cert.Kernel18Ideal.main_arg12)
          ∧ r.2.mem ((c.tc : Thread Cert.Kernel18Ideal.nD Cert.Kernel18Ideal.τ).loc Cert.Kernel18Ideal.main_arg13) = m ((c.tc : Thread Cert.Kernel18Ideal.nD Cert.Kernel18Ideal.τ).loc Cert.Kernel18Ideal.main_arg13)
          ∧ r.2.mem ((c.tc : Thread Cert.Kernel18Ideal.nD Cert.Kernel18Ideal.τ).loc Cert.Kernel18Ideal.main_arg14) = m ((c.tc : Thread Cert.Kernel18Ideal.nD Cert.Kernel18Ideal.τ).loc Cert.Kernel18Ideal.main_arg14)
          ∧ r.2.mem ((c.tc : Thread Cert.Kernel18Ideal.nD Cert.Kernel18Ideal.τ).loc Cert.Kernel18Ideal.main_arg15) = m ((c.tc : Thread Cert.Kernel18Ideal.nD Cert.Kernel18Ideal.τ).loc Cert.Kernel18Ideal.main_arg15)
          ∧ r.2.mem ((c.tc : Thread Cert.Kernel18Ideal.nD Cert.Kernel18Ideal.τ).loc Cert.Kernel18Ideal.main_arg16) = m ((c.tc : Thread Cert.Kernel18Ideal.nD Cert.Kernel18Ideal.τ).loc Cert.Kernel18Ideal.main_arg16)
          ∧ r.2.mem ((c.tc : Thread Cert.Kernel18Ideal.nD Cert.Kernel18Ideal.τ).loc Cert.Kernel18Ideal.main_arg17) = m ((c.tc : Thread Cert.Kernel18Ideal.nD Cert.Kernel18Ideal.τ).loc Cert.Kernel18Ideal.main_arg17)
          ∧ r.2.mem ((c.tc : Thread Cert.Kernel18Ideal.nD Cert.Kernel18Ideal.τ).loc Cert.Kernel18Ideal.main_arg18) = m ((c.tc : Thread Cert.Kernel18Ideal.nD Cert.Kernel18Ideal.τ).loc Cert.Kernel18Ideal.main_arg18)
          ∧ r.2.mem ((c.tc : Thread Cert.Kernel18Ideal.nD Cert.Kernel18Ideal.τ).loc Cert.Kernel18Ideal.main_arg19) = m ((c.tc : Thread Cert.Kernel18Ideal.nD Cert.Kernel18Ideal.τ).loc Cert.Kernel18Ideal.main_arg19)
          ∧ r.2.mem ((c.tc : Thread Cert.Kernel18Ideal.nD Cert.Kernel18Ideal.τ).loc Cert.Kernel18Ideal.main_arg20) = m ((c.tc : Thread Cert.Kernel18Ideal.nD Cert.Kernel18Ideal.τ).loc Cert.Kernel18Ideal.main_arg20)
          ∧ r.2.mem ((c.tc : Thread Cert.Kernel18Ideal.nD Cert.Kernel18Ideal.τ).loc Cert.Kernel18Ideal.main_arg21) = m ((c.tc : Thread Cert.Kernel18Ideal.nD Cert.Kernel18Ideal.τ).loc Cert.Kernel18Ideal.main_arg21)
          ∧ r.2.mem ((c.tc : Thread Cert.Kernel18Ideal.nD Cert.Kernel18Ideal.τ).loc Cert.Kernel18Ideal.main_arg22) = m ((c.tc : Thread Cert.Kernel18Ideal.nD Cert.Kernel18Ideal.τ).loc Cert.Kernel18Ideal.main_arg22)
          ∧ r.2.mem ((c.tc : Thread Cert.Kernel18Ideal.nD Cert.Kernel18Ideal.τ).loc Cert.Kernel18Ideal.main_arg23) = m ((c.tc : Thread Cert.Kernel18Ideal.nD Cert.Kernel18Ideal.τ).loc Cert.Kernel18Ideal.main_arg23)
          ∧ r.2.mem ((c.tc : Thread Cert.Kernel18Ideal.nD Cert.Kernel18Ideal.τ).loc Cert.Kernel18Ideal.main_arg24) = m ((c.tc : Thread Cert.Kernel18Ideal.nD Cert.Kernel18Ideal.τ).loc Cert.Kernel18Ideal.main_arg24)
          ∧ r.2.mem ((c.tc : Thread Cert.Kernel18Ideal.nD Cert.Kernel18Ideal.τ).loc Cert.Kernel18Ideal.main_arg25) = m ((c.tc : Thread Cert.Kernel18Ideal.nD Cert.Kernel18Ideal.τ).loc Cert.Kernel18Ideal.main_arg25)
          ∧ r.2.mem ((c.tc : Thread Cert.Kernel18Ideal.nD Cert.Kernel18Ideal.τ).loc Cert.Kernel18Ideal.main_arg26) = m ((c.tc : Thread Cert.Kernel18Ideal.nD Cert.Kernel18Ideal.τ).loc Cert.Kernel18Ideal.main_arg26)
          ∧ r.2.mem ((c.tc : Thread Cert.Kernel18Ideal.nD Cert.Kernel18Ideal.τ).loc Cert.Kernel18Ideal.main_arg27) = m ((c.tc : Thread Cert.Kernel18Ideal.nD Cert.Kernel18Ideal.τ).loc Cert.Kernel18Ideal.main_arg27)
          ∧ r.2.mem ((c.tc : Thread Cert.Kernel18Ideal.nD Cert.Kernel18Ideal.τ).loc Cert.Kernel18Ideal.main_arg28) = m ((c.tc : Thread Cert.Kernel18Ideal.nD Cert.Kernel18Ideal.τ).loc Cert.Kernel18Ideal.main_arg28)
          ∧ r.2.mem ((c.tc : Thread Cert.Kernel18Ideal.nD Cert.Kernel18Ideal.τ).loc Cert.Kernel18Ideal.main_arg29) = m ((c.tc : Thread Cert.Kernel18Ideal.nD Cert.Kernel18Ideal.τ).loc Cert.Kernel18Ideal.main_arg29)
          ∧ r.2.mem ((c.tc : Thread Cert.Kernel18Ideal.nD Cert.Kernel18Ideal.τ).loc Cert.Kernel18Ideal.main_arg30) = m ((c.tc : Thread Cert.Kernel18Ideal.nD Cert.Kernel18Ideal.τ).loc Cert.Kernel18Ideal.main_arg30)
          ∧ r.2.mem ((c.tc : Thread Cert.Kernel18Ideal.nD Cert.Kernel18Ideal.τ).loc Cert.Kernel18Ideal.main_arg31) = m ((c.tc : Thread Cert.Kernel18Ideal.nD Cert.Kernel18Ideal.τ).loc Cert.Kernel18Ideal.main_arg31)
          ∧ r.2.mem ((c.tc : Thread Cert.Kernel18Ideal.nD Cert.Kernel18Ideal.τ).loc Cert.Kernel18Ideal.main_arg32) = m ((c.tc : Thread Cert.Kernel18Ideal.nD Cert.Kernel18Ideal.τ).loc Cert.Kernel18Ideal.main_arg32)
          ∧ r.2.mem ((c.tc : Thread Cert.Kernel18Ideal.nD Cert.Kernel18Ideal.τ).loc Cert.Kernel18Ideal.main_arg33) = m ((c.tc : Thread Cert.Kernel18Ideal.nD Cert.Kernel18Ideal.τ).loc Cert.Kernel18Ideal.main_arg33)
          ∧ r.2.mem ((c.tc : Thread Cert.Kernel18Ideal.nD Cert.Kernel18Ideal.τ).loc Cert.Kernel18Ideal.main_arg34) = m ((c.tc : Thread Cert.Kernel18Ideal.nD Cert.Kernel18Ideal.τ).loc Cert.Kernel18Ideal.main_arg34)
          ∧ r.2.mem ((c.tc : Thread Cert.Kernel18Ideal.nD Cert.Kernel18Ideal.τ).loc Cert.Kernel18Ideal.main_arg35) = m ((c.tc : Thread Cert.Kernel18Ideal.nD Cert.Kernel18Ideal.τ).loc Cert.Kernel18Ideal.main_arg35)
          ∧ r.2.mem ((c.tc : Thread Cert.Kernel18Ideal.nD Cert.Kernel18Ideal.τ).loc Cert.Kernel18Ideal.main_arg36) = m ((c.tc : Thread Cert.Kernel18Ideal.nD Cert.Kernel18Ideal.τ).loc Cert.Kernel18Ideal.main_arg36)
          ∧ r.2.mem ((c.tc : Thread Cert.Kernel18Ideal.nD Cert.Kernel18Ideal.τ).loc Cert.Kernel18Ideal.main_arg37) = m ((c.tc : Thread Cert.Kernel18Ideal.nD Cert.Kernel18Ideal.τ).loc Cert.Kernel18Ideal.main_arg37)
          ∧ r.2.mem ((c.tc : Thread Cert.Kernel18Ideal.nD Cert.Kernel18Ideal.τ).loc Cert.Kernel18Ideal.main_arg38) = m ((c.tc : Thread Cert.Kernel18Ideal.nD Cert.Kernel18Ideal.τ).loc Cert.Kernel18Ideal.main_arg38)
          ∧ r.2.mem ((c.tc : Thread Cert.Kernel18Ideal.nD Cert.Kernel18Ideal.τ).loc Cert.Kernel18Ideal.main_arg39) = m ((c.tc : Thread Cert.Kernel18Ideal.nD Cert.Kernel18Ideal.τ).loc Cert.Kernel18Ideal.main_arg39)
          ∧ r.2.mem ((c.tc : Thread Cert.Kernel18Ideal.nD Cert.Kernel18Ideal.τ).loc Cert.Kernel18Ideal.main_arg40) = m ((c.tc : Thread Cert.Kernel18Ideal.nD Cert.Kernel18Ideal.τ).loc Cert.Kernel18Ideal.main_arg40)
          ∧ r.2.mem ((c.tc : Thread Cert.Kernel18Ideal.nD Cert.Kernel18Ideal.τ).loc Cert.Kernel18Ideal.main_arg41) = m ((c.tc : Thread Cert.Kernel18Ideal.nD Cert.Kernel18Ideal.τ).loc Cert.Kernel18Ideal.main_arg41)
          ∧ r.2.mem ((c.tc : Thread Cert.Kernel18Ideal.nD Cert.Kernel18Ideal.τ).loc Cert.Kernel18Ideal.main_arg42) = m ((c.tc : Thread Cert.Kernel18Ideal.nD Cert.Kernel18Ideal.τ).loc Cert.Kernel18Ideal.main_arg42)
          ∧ r.2.mem ((c.tc : Thread Cert.Kernel18Ideal.nD Cert.Kernel18Ideal.τ).loc Cert.Kernel18Ideal.main_arg43) = m ((c.tc : Thread Cert.Kernel18Ideal.nD Cert.Kernel18Ideal.τ).loc Cert.Kernel18Ideal.main_arg43))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_arg33) = v0 c
          ∧ r.2.mem ((c.tc : Thread Cert.Reference18Ideal.nD Cert.Reference18Ideal.τ).loc Cert.Reference18Ideal.main_arg34) = v1 c
          ∧ r.2.mem ((c.tc : Thread Cert.Reference18Ideal.nD Cert.Reference18Ideal.τ).loc Cert.Reference18Ideal.main_arg35) = v2 c
          ∧ r.2.mem ((c.tc : Thread Cert.Reference18Ideal.nD Cert.Reference18Ideal.τ).loc Cert.Reference18Ideal.main_arg36) = v3 c
          ∧ r.2.mem ((c.tc : Thread Cert.Reference18Ideal.nD Cert.Reference18Ideal.τ).loc Cert.Reference18Ideal.main_arg37) = v4 c
          ∧ r.2.mem ((c.tc : Thread Cert.Reference18Ideal.nD Cert.Reference18Ideal.τ).loc Cert.Reference18Ideal.main_arg38) = v5 c
          ∧ r.2.mem ((c.tc : Thread Cert.Reference18Ideal.nD Cert.Reference18Ideal.τ).loc Cert.Reference18Ideal.main_arg39) = v6 c
          ∧ r.2.mem ((c.tc : Thread Cert.Reference18Ideal.nD Cert.Reference18Ideal.τ).loc Cert.Reference18Ideal.main_arg40) = v7 c
          ∧ r.2.mem ((c.tc : Thread Cert.Reference18Ideal.nD Cert.Reference18Ideal.τ).loc Cert.Reference18Ideal.main_arg41) = v8 c
          ∧ r.2.mem ((c.tc : Thread Cert.Reference18Ideal.nD Cert.Reference18Ideal.τ).loc Cert.Reference18Ideal.main_arg42) = v9 c
          ∧ r.2.mem ((c.tc : Thread Cert.Reference18Ideal.nD Cert.Reference18Ideal.τ).loc Cert.Reference18Ideal.main_arg43) = v10 c
          ∧ r.2.mem ((c.tc : Thread Cert.Reference18Ideal.nD Cert.Reference18Ideal.τ).loc Cert.Reference18Ideal.main_v23) = v11 c
          ∧ r.2.mem ((c.tc : Thread Cert.Reference18Ideal.nD Cert.Reference18Ideal.τ).loc Cert.Reference18Ideal.main_v47) = v12 c
          ∧ r.2.mem ((c.tc : Thread Cert.Reference18Ideal.nD Cert.Reference18Ideal.τ).loc Cert.Reference18Ideal.main_v71) = v13 c
          ∧ r.2.mem ((c.tc : Thread Cert.Reference18Ideal.nD Cert.Reference18Ideal.τ).loc Cert.Reference18Ideal.main_v95) = v14 c
          ∧ r.2.mem ((c.tc : Thread Cert.Reference18Ideal.nD Cert.Reference18Ideal.τ).loc Cert.Reference18Ideal.main_v119) = v15 c
          ∧ r.2.mem ((c.tc : Thread Cert.Reference18Ideal.nD Cert.Reference18Ideal.τ).loc Cert.Reference18Ideal.main_v143) = v16 c
          ∧ r.2.mem ((c.tc : Thread Cert.Reference18Ideal.nD Cert.Reference18Ideal.τ).loc Cert.Reference18Ideal.main_v167) = v17 c
          ∧ r.2.mem ((c.tc : Thread Cert.Reference18Ideal.nD Cert.Reference18Ideal.τ).loc Cert.Reference18Ideal.main_v191) = v18 c
          ∧ r.2.mem ((c.tc : Thread Cert.Reference18Ideal.nD Cert.Reference18Ideal.τ).loc Cert.Reference18Ideal.main_v215) = v19 c
          ∧ r.2.mem ((c.tc : Thread Cert.Reference18Ideal.nD Cert.Reference18Ideal.τ).loc Cert.Reference18Ideal.main_v239) = v20 c
          ∧ r.2.mem ((c.tc : Thread Cert.Reference18Ideal.nD Cert.Reference18Ideal.τ).loc Cert.Reference18Ideal.main_v263) = v21 c
          ∧ r.2.mem ((c.tc : Thread Cert.Reference18Ideal.nD Cert.Reference18Ideal.τ).loc Cert.Reference18Ideal.main_v4) = v22 c
          ∧ r.2.mem ((c.tc : Thread Cert.Reference18Ideal.nD Cert.Reference18Ideal.τ).loc Cert.Reference18Ideal.main_v28) = v23 c
          ∧ r.2.mem ((c.tc : Thread Cert.Reference18Ideal.nD Cert.Reference18Ideal.τ).loc Cert.Reference18Ideal.main_v52) = v24 c
          ∧ r.2.mem ((c.tc : Thread Cert.Reference18Ideal.nD Cert.Reference18Ideal.τ).loc Cert.Reference18Ideal.main_v76) = v25 c
          ∧ r.2.mem ((c.tc : Thread Cert.Reference18Ideal.nD Cert.Reference18Ideal.τ).loc Cert.Reference18Ideal.main_v100) = v26 c
          ∧ r.2.mem ((c.tc : Thread Cert.Reference18Ideal.nD Cert.Reference18Ideal.τ).loc Cert.Reference18Ideal.main_v124) = v27 c
          ∧ r.2.mem ((c.tc : Thread Cert.Reference18Ideal.nD Cert.Reference18Ideal.τ).loc Cert.Reference18Ideal.main_v148) = v28 c
          ∧ r.2.mem ((c.tc : Thread Cert.Reference18Ideal.nD Cert.Reference18Ideal.τ).loc Cert.Reference18Ideal.main_v172) = v29 c
          ∧ r.2.mem ((c.tc : Thread Cert.Reference18Ideal.nD Cert.Reference18Ideal.τ).loc Cert.Reference18Ideal.main_v196) = v30 c
          ∧ r.2.mem ((c.tc : Thread Cert.Reference18Ideal.nD Cert.Reference18Ideal.τ).loc Cert.Reference18Ideal.main_v220) = v31 c
          ∧ r.2.mem ((c.tc : Thread Cert.Reference18Ideal.nD Cert.Reference18Ideal.τ).loc Cert.Reference18Ideal.main_v244) = v32 c
          ∧ r.2.mem ((c.tc : Thread Cert.Reference18Ideal.nD Cert.Reference18Ideal.τ).loc Cert.Reference18Ideal.main_v10) = v33 c
          ∧ r.2.mem ((c.tc : Thread Cert.Reference18Ideal.nD Cert.Reference18Ideal.τ).loc Cert.Reference18Ideal.main_v34) = v34 c
          ∧ r.2.mem ((c.tc : Thread Cert.Reference18Ideal.nD Cert.Reference18Ideal.τ).loc Cert.Reference18Ideal.main_v58) = v35 c
          ∧ r.2.mem ((c.tc : Thread Cert.Reference18Ideal.nD Cert.Reference18Ideal.τ).loc Cert.Reference18Ideal.main_v82) = v36 c
          ∧ r.2.mem ((c.tc : Thread Cert.Reference18Ideal.nD Cert.Reference18Ideal.τ).loc Cert.Reference18Ideal.main_v106) = v37 c
          ∧ r.2.mem ((c.tc : Thread Cert.Reference18Ideal.nD Cert.Reference18Ideal.τ).loc Cert.Reference18Ideal.main_v130) = v38 c
          ∧ r.2.mem ((c.tc : Thread Cert.Reference18Ideal.nD Cert.Reference18Ideal.τ).loc Cert.Reference18Ideal.main_v154) = v39 c
          ∧ r.2.mem ((c.tc : Thread Cert.Reference18Ideal.nD Cert.Reference18Ideal.τ).loc Cert.Reference18Ideal.main_v178) = v40 c
          ∧ r.2.mem ((c.tc : Thread Cert.Reference18Ideal.nD Cert.Reference18Ideal.τ).loc Cert.Reference18Ideal.main_v202) = v41 c
          ∧ r.2.mem ((c.tc : Thread Cert.Reference18Ideal.nD Cert.Reference18Ideal.τ).loc Cert.Reference18Ideal.main_v226) = v42 c
          ∧ r.2.mem ((c.tc : Thread Cert.Reference18Ideal.nD Cert.Reference18Ideal.τ).loc Cert.Reference18Ideal.main_v250) = v43 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5)
          ∧ r.2.mem ((c.tc : Thread Cert.Reference18Ideal.nD Cert.Reference18Ideal.τ).loc Cert.Reference18Ideal.main_arg6) = m' ((c.tc : Thread Cert.Reference18Ideal.nD Cert.Reference18Ideal.τ).loc Cert.Reference18Ideal.main_arg6)
          ∧ r.2.mem ((c.tc : Thread Cert.Reference18Ideal.nD Cert.Reference18Ideal.τ).loc Cert.Reference18Ideal.main_arg7) = m' ((c.tc : Thread Cert.Reference18Ideal.nD Cert.Reference18Ideal.τ).loc Cert.Reference18Ideal.main_arg7)
          ∧ r.2.mem ((c.tc : Thread Cert.Reference18Ideal.nD Cert.Reference18Ideal.τ).loc Cert.Reference18Ideal.main_arg8) = m' ((c.tc : Thread Cert.Reference18Ideal.nD Cert.Reference18Ideal.τ).loc Cert.Reference18Ideal.main_arg8)
          ∧ r.2.mem ((c.tc : Thread Cert.Reference18Ideal.nD Cert.Reference18Ideal.τ).loc Cert.Reference18Ideal.main_arg9) = m' ((c.tc : Thread Cert.Reference18Ideal.nD Cert.Reference18Ideal.τ).loc Cert.Reference18Ideal.main_arg9)
          ∧ r.2.mem ((c.tc : Thread Cert.Reference18Ideal.nD Cert.Reference18Ideal.τ).loc Cert.Reference18Ideal.main_arg10) = m' ((c.tc : Thread Cert.Reference18Ideal.nD Cert.Reference18Ideal.τ).loc Cert.Reference18Ideal.main_arg10)
          ∧ r.2.mem ((c.tc : Thread Cert.Reference18Ideal.nD Cert.Reference18Ideal.τ).loc Cert.Reference18Ideal.main_arg11) = m' ((c.tc : Thread Cert.Reference18Ideal.nD Cert.Reference18Ideal.τ).loc Cert.Reference18Ideal.main_arg11)
          ∧ r.2.mem ((c.tc : Thread Cert.Reference18Ideal.nD Cert.Reference18Ideal.τ).loc Cert.Reference18Ideal.main_arg12) = m' ((c.tc : Thread Cert.Reference18Ideal.nD Cert.Reference18Ideal.τ).loc Cert.Reference18Ideal.main_arg12)
          ∧ r.2.mem ((c.tc : Thread Cert.Reference18Ideal.nD Cert.Reference18Ideal.τ).loc Cert.Reference18Ideal.main_arg13) = m' ((c.tc : Thread Cert.Reference18Ideal.nD Cert.Reference18Ideal.τ).loc Cert.Reference18Ideal.main_arg13)
          ∧ r.2.mem ((c.tc : Thread Cert.Reference18Ideal.nD Cert.Reference18Ideal.τ).loc Cert.Reference18Ideal.main_arg14) = m' ((c.tc : Thread Cert.Reference18Ideal.nD Cert.Reference18Ideal.τ).loc Cert.Reference18Ideal.main_arg14)
          ∧ r.2.mem ((c.tc : Thread Cert.Reference18Ideal.nD Cert.Reference18Ideal.τ).loc Cert.Reference18Ideal.main_arg15) = m' ((c.tc : Thread Cert.Reference18Ideal.nD Cert.Reference18Ideal.τ).loc Cert.Reference18Ideal.main_arg15)
          ∧ r.2.mem ((c.tc : Thread Cert.Reference18Ideal.nD Cert.Reference18Ideal.τ).loc Cert.Reference18Ideal.main_arg16) = m' ((c.tc : Thread Cert.Reference18Ideal.nD Cert.Reference18Ideal.τ).loc Cert.Reference18Ideal.main_arg16)
          ∧ r.2.mem ((c.tc : Thread Cert.Reference18Ideal.nD Cert.Reference18Ideal.τ).loc Cert.Reference18Ideal.main_arg17) = m' ((c.tc : Thread Cert.Reference18Ideal.nD Cert.Reference18Ideal.τ).loc Cert.Reference18Ideal.main_arg17)
          ∧ r.2.mem ((c.tc : Thread Cert.Reference18Ideal.nD Cert.Reference18Ideal.τ).loc Cert.Reference18Ideal.main_arg18) = m' ((c.tc : Thread Cert.Reference18Ideal.nD Cert.Reference18Ideal.τ).loc Cert.Reference18Ideal.main_arg18)
          ∧ r.2.mem ((c.tc : Thread Cert.Reference18Ideal.nD Cert.Reference18Ideal.τ).loc Cert.Reference18Ideal.main_arg19) = m' ((c.tc : Thread Cert.Reference18Ideal.nD Cert.Reference18Ideal.τ).loc Cert.Reference18Ideal.main_arg19)
          ∧ r.2.mem ((c.tc : Thread Cert.Reference18Ideal.nD Cert.Reference18Ideal.τ).loc Cert.Reference18Ideal.main_arg20) = m' ((c.tc : Thread Cert.Reference18Ideal.nD Cert.Reference18Ideal.τ).loc Cert.Reference18Ideal.main_arg20)
          ∧ r.2.mem ((c.tc : Thread Cert.Reference18Ideal.nD Cert.Reference18Ideal.τ).loc Cert.Reference18Ideal.main_arg21) = m' ((c.tc : Thread Cert.Reference18Ideal.nD Cert.Reference18Ideal.τ).loc Cert.Reference18Ideal.main_arg21)
          ∧ r.2.mem ((c.tc : Thread Cert.Reference18Ideal.nD Cert.Reference18Ideal.τ).loc Cert.Reference18Ideal.main_arg22) = m' ((c.tc : Thread Cert.Reference18Ideal.nD Cert.Reference18Ideal.τ).loc Cert.Reference18Ideal.main_arg22)
          ∧ r.2.mem ((c.tc : Thread Cert.Reference18Ideal.nD Cert.Reference18Ideal.τ).loc Cert.Reference18Ideal.main_arg23) = m' ((c.tc : Thread Cert.Reference18Ideal.nD Cert.Reference18Ideal.τ).loc Cert.Reference18Ideal.main_arg23)
          ∧ r.2.mem ((c.tc : Thread Cert.Reference18Ideal.nD Cert.Reference18Ideal.τ).loc Cert.Reference18Ideal.main_arg24) = m' ((c.tc : Thread Cert.Reference18Ideal.nD Cert.Reference18Ideal.τ).loc Cert.Reference18Ideal.main_arg24)
          ∧ r.2.mem ((c.tc : Thread Cert.Reference18Ideal.nD Cert.Reference18Ideal.τ).loc Cert.Reference18Ideal.main_arg25) = m' ((c.tc : Thread Cert.Reference18Ideal.nD Cert.Reference18Ideal.τ).loc Cert.Reference18Ideal.main_arg25)
          ∧ r.2.mem ((c.tc : Thread Cert.Reference18Ideal.nD Cert.Reference18Ideal.τ).loc Cert.Reference18Ideal.main_arg26) = m' ((c.tc : Thread Cert.Reference18Ideal.nD Cert.Reference18Ideal.τ).loc Cert.Reference18Ideal.main_arg26)
          ∧ r.2.mem ((c.tc : Thread Cert.Reference18Ideal.nD Cert.Reference18Ideal.τ).loc Cert.Reference18Ideal.main_arg27) = m' ((c.tc : Thread Cert.Reference18Ideal.nD Cert.Reference18Ideal.τ).loc Cert.Reference18Ideal.main_arg27)
          ∧ r.2.mem ((c.tc : Thread Cert.Reference18Ideal.nD Cert.Reference18Ideal.τ).loc Cert.Reference18Ideal.main_arg28) = m' ((c.tc : Thread Cert.Reference18Ideal.nD Cert.Reference18Ideal.τ).loc Cert.Reference18Ideal.main_arg28)
          ∧ r.2.mem ((c.tc : Thread Cert.Reference18Ideal.nD Cert.Reference18Ideal.τ).loc Cert.Reference18Ideal.main_arg29) = m' ((c.tc : Thread Cert.Reference18Ideal.nD Cert.Reference18Ideal.τ).loc Cert.Reference18Ideal.main_arg29)
          ∧ r.2.mem ((c.tc : Thread Cert.Reference18Ideal.nD Cert.Reference18Ideal.τ).loc Cert.Reference18Ideal.main_arg30) = m' ((c.tc : Thread Cert.Reference18Ideal.nD Cert.Reference18Ideal.τ).loc Cert.Reference18Ideal.main_arg30)
          ∧ r.2.mem ((c.tc : Thread Cert.Reference18Ideal.nD Cert.Reference18Ideal.τ).loc Cert.Reference18Ideal.main_arg31) = m' ((c.tc : Thread Cert.Reference18Ideal.nD Cert.Reference18Ideal.τ).loc Cert.Reference18Ideal.main_arg31)
          ∧ r.2.mem ((c.tc : Thread Cert.Reference18Ideal.nD Cert.Reference18Ideal.τ).loc Cert.Reference18Ideal.main_arg32) = m' ((c.tc : Thread Cert.Reference18Ideal.nD Cert.Reference18Ideal.τ).loc Cert.Reference18Ideal.main_arg32)
          ∧ r.2.mem ((c.tc : Thread Cert.Reference18Ideal.nD Cert.Reference18Ideal.τ).loc Cert.Reference18Ideal.main_arg33) = m' ((c.tc : Thread Cert.Reference18Ideal.nD Cert.Reference18Ideal.τ).loc Cert.Reference18Ideal.main_arg33)
          ∧ r.2.mem ((c.tc : Thread Cert.Reference18Ideal.nD Cert.Reference18Ideal.τ).loc Cert.Reference18Ideal.main_arg34) = m' ((c.tc : Thread Cert.Reference18Ideal.nD Cert.Reference18Ideal.τ).loc Cert.Reference18Ideal.main_arg34)
          ∧ r.2.mem ((c.tc : Thread Cert.Reference18Ideal.nD Cert.Reference18Ideal.τ).loc Cert.Reference18Ideal.main_arg35) = m' ((c.tc : Thread Cert.Reference18Ideal.nD Cert.Reference18Ideal.τ).loc Cert.Reference18Ideal.main_arg35)
          ∧ r.2.mem ((c.tc : Thread Cert.Reference18Ideal.nD Cert.Reference18Ideal.τ).loc Cert.Reference18Ideal.main_arg36) = m' ((c.tc : Thread Cert.Reference18Ideal.nD Cert.Reference18Ideal.τ).loc Cert.Reference18Ideal.main_arg36)
          ∧ r.2.mem ((c.tc : Thread Cert.Reference18Ideal.nD Cert.Reference18Ideal.τ).loc Cert.Reference18Ideal.main_arg37) = m' ((c.tc : Thread Cert.Reference18Ideal.nD Cert.Reference18Ideal.τ).loc Cert.Reference18Ideal.main_arg37)
          ∧ r.2.mem ((c.tc : Thread Cert.Reference18Ideal.nD Cert.Reference18Ideal.τ).loc Cert.Reference18Ideal.main_arg38) = m' ((c.tc : Thread Cert.Reference18Ideal.nD Cert.Reference18Ideal.τ).loc Cert.Reference18Ideal.main_arg38)
          ∧ r.2.mem ((c.tc : Thread Cert.Reference18Ideal.nD Cert.Reference18Ideal.τ).loc Cert.Reference18Ideal.main_arg39) = m' ((c.tc : Thread Cert.Reference18Ideal.nD Cert.Reference18Ideal.τ).loc Cert.Reference18Ideal.main_arg39)
          ∧ r.2.mem ((c.tc : Thread Cert.Reference18Ideal.nD Cert.Reference18Ideal.τ).loc Cert.Reference18Ideal.main_arg40) = m' ((c.tc : Thread Cert.Reference18Ideal.nD Cert.Reference18Ideal.τ).loc Cert.Reference18Ideal.main_arg40)
          ∧ r.2.mem ((c.tc : Thread Cert.Reference18Ideal.nD Cert.Reference18Ideal.τ).loc Cert.Reference18Ideal.main_arg41) = m' ((c.tc : Thread Cert.Reference18Ideal.nD Cert.Reference18Ideal.τ).loc Cert.Reference18Ideal.main_arg41)
          ∧ r.2.mem ((c.tc : Thread Cert.Reference18Ideal.nD Cert.Reference18Ideal.τ).loc Cert.Reference18Ideal.main_arg42) = m' ((c.tc : Thread Cert.Reference18Ideal.nD Cert.Reference18Ideal.τ).loc Cert.Reference18Ideal.main_arg42)
          ∧ r.2.mem ((c.tc : Thread Cert.Reference18Ideal.nD Cert.Reference18Ideal.τ).loc Cert.Reference18Ideal.main_arg43) = m' ((c.tc : Thread Cert.Reference18Ideal.nD Cert.Reference18Ideal.τ).loc Cert.Reference18Ideal.main_arg43))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v39) = v0 c
          ∧ r.2.mem ((c.tc : Thread Cert.Reference19Ideal.nD Cert.Reference19Ideal.τ).loc Cert.Reference19Ideal.main_v40) = v1 c
          ∧ r.2.mem ((c.tc : Thread Cert.Reference19Ideal.nD Cert.Reference19Ideal.τ).loc Cert.Reference19Ideal.main_v38) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v53) = v0 c
          ∧ r.2.mem ((c.tc : Thread Cert.Reference20Ideal.nD Cert.Reference20Ideal.τ).loc Cert.Reference20Ideal.main_v52) = v1 c
          ∧ r.2.mem ((c.tc : Thread Cert.Reference20Ideal.nD Cert.Reference20Ideal.τ).loc Cert.Reference20Ideal.main_v51) = v2 c
          ∧ r.2.mem ((c.tc : Thread Cert.Reference20Ideal.nD Cert.Reference20Ideal.τ).loc Cert.Reference20Ideal.main_v54) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v19) = v0 c
          ∧ r.2.mem ((c.tc : Thread Cert.Reference21Ideal.nD Cert.Reference21Ideal.τ).loc Cert.Reference21Ideal.main_v17) = v1 c
          ∧ r.2.mem ((c.tc : Thread Cert.Reference21Ideal.nD Cert.Reference21Ideal.τ).loc Cert.Reference21Ideal.main_v15) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v43) = v0 c
          ∧ r.2.mem ((c.tc : Thread Cert.Reference22Ideal.nD Cert.Reference22Ideal.τ).loc Cert.Reference22Ideal.main_v45) = v1 c
          ∧ r.2.mem ((c.tc : Thread Cert.Reference22Ideal.nD Cert.Reference22Ideal.τ).loc Cert.Reference22Ideal.main_v39) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
-- ==== Kernel.lean ====
abbrev S8192x6144 : Shape := ⟨2, ![8192, 6144]⟩
abbrev S8192x512 : Shape := ⟨2, ![8192, 512]⟩
abbrev S128x4x256x128 : Shape := ⟨4, ![128, 4, 256, 128]⟩
abbrev S8192x1024 : Shape := ⟨2, ![8192, 1024]⟩
abbrev S128x64x4x128 : Shape := ⟨4, ![128, 64, 4, 128]⟩
abbrev S_ : Shape := ⟨0, ![]⟩
abbrev S128x1x4x128 : Shape := ⟨4, ![128, 1, 4, 128]⟩
abbrev S128x4x64x64 : Shape := ⟨4, ![128, 4, 64, 64]⟩
abbrev S64x64 : Shape := ⟨2, ![64, 64]⟩
abbrev S512x512 : Shape := ⟨2, ![512, 512]⟩
abbrev S512x1024 : Shape := ⟨2, ![512, 1024]⟩
abbrev S8x4x256x128 : Shape := ⟨4, ![8, 4, 256, 128]⟩
abbrev S8x4x64x64 : Shape := ⟨4, ![8, 4, 64, 64]⟩
abbrev S4x256x128 : Shape := ⟨3, ![4, 256, 128]⟩
abbrev S64x128 : Shape := ⟨2, ![64, 128]⟩
abbrev S1x256x128 : Shape := ⟨3, ![1, 256, 128]⟩
abbrev S256x128 : Shape := ⟨2, ![256, 128]⟩
abbrev S64x256 : Shape := ⟨2, ![64, 256]⟩
abbrev S1x128 : Shape := ⟨2, ![1, 128]⟩
abbrev S1x1x256x128 : Shape := ⟨4, ![1, 1, 256, 128]⟩
abbrev S1x1x64x64 : Shape := ⟨4, ![1, 1, 64, 64]⟩
abbrev S128 : Shape := ⟨1, ![128]⟩

abbrev nBuf : Space → Nat
  | .hbm => 49
  | .vmem => 23
  | .smem => 0
  | _ => 0

abbrev bufTy : (tb : Table) → Fin (tcTables nBuf tb) → BufTy
  | .hbm, ⟨0, _⟩ => ⟨S8192x6144, .bf16⟩
  | .hbm, ⟨1, _⟩ => ⟨S8192x512, .f32⟩
  | .hbm, ⟨2, _⟩ => ⟨S128x4x256x128, .bf16⟩
  | .hbm, ⟨3, _⟩ => ⟨S8192x1024, .f32⟩
  | .hbm, ⟨4, _⟩ => ⟨S8192x512, .bf16⟩
  | .hbm, ⟨5, _⟩ => ⟨S128x64x4x128, .bf16⟩
  | .hbm, ⟨6, _⟩ => ⟨S128x64x4x128, .f32⟩
  | .hbm, ⟨7, _⟩ => ⟨S_, .f32⟩
  | .hbm, ⟨8, _⟩ => ⟨S128x64x4x128, .f32⟩
  | .hbm, ⟨9, _⟩ => ⟨S128x64x4x128, .f32⟩
  | .hbm, ⟨10, _⟩ => ⟨S8192x512, .bf16⟩
  | .hbm, ⟨11, _⟩ => ⟨S128x64x4x128, .bf16⟩
  | .hbm, ⟨12, _⟩ => ⟨S128x64x4x128, .f32⟩
  | .hbm, ⟨13, _⟩ => ⟨S128x64x4x128, .f32⟩
  | .hbm, ⟨14, _⟩ => ⟨S_, .f32⟩
  | .hbm, ⟨15, _⟩ => ⟨S_, .f32⟩
  | .hbm, ⟨16, _⟩ => ⟨S128x64x4x128, .f32⟩
  | .hbm, ⟨17, _⟩ => ⟨S128x1x4x128, .f32⟩
  | .hbm, ⟨18, _⟩ => ⟨S128x64x4x128, .f32⟩
  | .hbm, ⟨19, _⟩ => ⟨S128x64x4x128, .f32⟩
  | .hbm, ⟨20, _⟩ => ⟨S128x64x4x128, .f32⟩
  | .hbm, ⟨21, _⟩ => ⟨S128x64x4x128, .f32⟩
  | .hbm, ⟨22, _⟩ => ⟨S128x64x4x128, .f32⟩
  | .hbm, ⟨23, _⟩ => ⟨S128x64x4x128, .f32⟩
  | .hbm, ⟨24, _⟩ => ⟨S128x64x4x128, .f32⟩
  | .hbm, ⟨25, _⟩ => ⟨S128x64x4x128, .f32⟩
  | .hbm, ⟨26, _⟩ => ⟨S128x4x64x64, .f32⟩
  | .hbm, ⟨27, _⟩ => ⟨S_, .i1⟩
  | .hbm, ⟨28, _⟩ => ⟨S64x64, .i1⟩
  | .hbm, ⟨29, _⟩ => ⟨S64x64, .i32⟩
  | .hbm, ⟨30, _⟩ => ⟨S_, .i32⟩
  | .hbm, ⟨31, _⟩ => ⟨S64x64, .i32⟩
  | .hbm, ⟨32, _⟩ => ⟨S64x64, .i32⟩
  | .hbm, ⟨33, _⟩ => ⟨S64x64, .i32⟩
  | .hbm, ⟨34, _⟩ => ⟨S64x64, .i1⟩
  | .hbm, ⟨35, _⟩ => ⟨S_, .i1⟩
  | .hbm, ⟨36, _⟩ => ⟨S64x64, .i1⟩
  | .hbm, ⟨37, _⟩ => ⟨S64x64, .i1⟩
  | .hbm, ⟨38, _⟩ => ⟨S_, .f32⟩
  | .hbm, ⟨39, _⟩ => ⟨S_, .f32⟩
  | .hbm, ⟨40, _⟩ => ⟨S128x4x64x64, .i1⟩
  | .hbm, ⟨41, _⟩ => ⟨S128x4x64x64, .f32⟩
  | .hbm, ⟨42, _⟩ => ⟨S128x4x64x64, .f32⟩
  | .hbm, ⟨43, _⟩ => ⟨S128x4x64x64, .bf16⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S8192x1024, .f32⟩
  | .hbm, ⟨48, _⟩ => ⟨S8192x512, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x512, .f32⟩
  | .local _ .vmem, ⟨7, _⟩ => ⟨S512x512, .f32⟩
  | .local _ .vmem, ⟨8, _⟩ => ⟨S8x4x256x128, .bf16⟩
  | .local _ .vmem, ⟨9, _⟩ => ⟨S8x4x256x128, .bf16⟩
  | .local _ .vmem, ⟨10, _⟩ => ⟨S8x4x64x64, .bf16⟩
  | .local _ .vmem, ⟨11, _⟩ => ⟨S8x4x64x64, .bf16⟩
  | .local _ .vmem, ⟨12, _⟩ => ⟨S512x1024, .f32⟩
  | .local _ .vmem, ⟨13, _⟩ => ⟨S512x1024, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x1024, .f32⟩
  | .local _ .vmem, ⟨19, _⟩ => ⟨S512x1024, .f32⟩
  | .local _ .vmem, ⟨20, _⟩ => ⟨S512x512, .f32⟩
  | .local _ .vmem, ⟨21, _⟩ => ⟨S512x512, .f32⟩
  | .local _ .vmem, ⟨22, _⟩ => ⟨S4x256x128, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_call0_cst : Ref sig .tc := ⟨.hbm, 14, rfl⟩
abbrev main_call0_call0_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_v20 : Ref sig .tc := ⟨.hbm, 28, rfl⟩
abbrev main_call1_v0 : Ref sig .tc := ⟨.hbm, 29, rfl⟩
abbrev main_call1_c : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_c_0 : Ref sig .tc := ⟨.hbm, 35, rfl⟩
abbrev main_call1_v5 : Ref sig .tc := ⟨.hbm, 36, rfl⟩
abbrev main_v21 : Ref sig .tc := ⟨.hbm, 37, rfl⟩
abbrev main_cst_0 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25_0 : Ref sig .tc := ⟨.hbm, 45, rfl⟩
abbrev main_v25_1 : Ref sig .tc := ⟨.hbm, 46, rfl⟩
abbrev main_v25_2 : Ref sig .tc := ⟨.hbm, 47, rfl⟩
abbrev main_v25_3 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c6_i32 : BitVec 32 := 6#32
  let c0_i32 : BitVec 32 := 0#32
  ![v0.toNat, c6_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c7_i32 : BitVec 32 := 7#32
  let c0_i32 : BitVec 32 := 0#32
  ![v0.toNat, c7_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c4_i32 : BitVec 32 := 4#32
  let c0_i32 : BitVec 32 := 0#32
  ![v0.toNat, c4_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_5 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x4x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x4x64x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S8192x6144 : Shape := ⟨2, ![8192, 6144]⟩
abbrev S8192x512 : Shape := ⟨2, ![8192, 512]⟩
abbrev S128x4x256x128 : Shape := ⟨4, ![128, 4, 256, 128]⟩
abbrev S8192x1024 : Shape := ⟨2, ![8192, 1024]⟩
abbrev S128x64x4x128 : Shape := ⟨4, ![128, 64, 4, 128]⟩
abbrev S_ : Shape := ⟨0, ![]⟩
abbrev S128x64x4x256 : Shape := ⟨4, ![128, 64, 4, 256]⟩
abbrev S128x4x128x256 : Shape := ⟨4, ![128, 4, 128, 256]⟩
abbrev S4x128x256 : Shape := ⟨3, ![4, 128, 256]⟩
abbrev S1x4x128x256 : Shape := ⟨4, ![1, 4, 128, 256]⟩
abbrev S1x64x4x128 : Shape := ⟨4, ![1, 64, 4, 128]⟩
abbrev S64x4x128 : Shape := ⟨3, ![64, 4, 128]⟩
abbrev S1x64x4x256 : Shape := ⟨4, ![1, 64, 4, 256]⟩
abbrev S64x4x256 : Shape := ⟨3, ![64, 4, 256]⟩
abbrev S1x4x128 : Shape := ⟨3, ![1, 4, 128]⟩
abbrev S4x128 : Shape := ⟨2, ![4, 128]⟩
abbrev S4x64x64 : Shape := ⟨3, ![4, 64, 64]⟩
abbrev S64x64 : Shape := ⟨2, ![64, 64]⟩
abbrev S4x256x64 : Shape := ⟨3, ![4, 256, 64]⟩
abbrev S4x128x1 : Shape := ⟨3, ![4, 128, 1]⟩
abbrev S4x128x64 : Shape := ⟨3, ![4, 128, 64]⟩
abbrev S4x64x128 : Shape := ⟨3, ![4, 64, 128]⟩
abbrev S4x256x128 : Shape := ⟨3, ![4, 256, 128]⟩

abbrev nBuf : Space → Nat
  | .hbm => 233
  | .vmem => 0
  | .smem => 0
  | _ => 0

abbrev hbmTy0_0 (i : Nat) : BufTy := match i % 128 with
  | 0 => ⟨S8192x6144, .bf16⟩
  | 1 => ⟨S8192x512, .f32⟩
  | 2 => ⟨S128x4x256x128, .bf16⟩
  | 3 => ⟨S8192x1024, .f32⟩
  | 4 => ⟨S8192x512, .bf16⟩
  | 5 => ⟨S128x64x4x128, .bf16⟩
  | 6 => ⟨S128x64x4x128, .f32⟩
  | 7 => ⟨S_, .f32⟩
  | 8 => ⟨S128x64x4x128, .f32⟩
  | 9 => ⟨S128x64x4x128, .f32⟩
  | 10 => ⟨S8192x512, .bf16⟩
  | 11 => ⟨S128x64x4x128, .bf16⟩
  | 12 => ⟨S128x64x4x128, .f32⟩
  | 13 => ⟨S8192x1024, .bf16⟩
  | 14 => ⟨S128x64x4x256, .bf16⟩
  | 15 => ⟨S128x64x4x256, .f32⟩
  | 16 => ⟨S128x4x256x128, .f32⟩
  | 17 => ⟨S128x4x128x256, .f32⟩
  | 18 => ⟨S_, .f32⟩
  | 19 => ⟨S4x128x256, .f32⟩
  | 20 => ⟨S128x64x4x128, .f32⟩
  | 21 => ⟨S128x64x4x256, .f32⟩
  | 22 => ⟨S_, .f32⟩
  | 23 => ⟨S128x64x4x128, .f32⟩
  | 24 => ⟨S_, .f32⟩
  | 25 => ⟨S128x64x4x128, .f32⟩
  | 26 => ⟨S_, .f32⟩
  | 27 => ⟨S128x64x4x256, .f32⟩
  | 28 => ⟨S_, .f32⟩
  | 29 => ⟨S128x64x4x128, .f32⟩
  | 30 => ⟨S_, .i32⟩
  | 31 => ⟨S128x4x128x256, .f32⟩
  | 32 => ⟨S128x64x4x128, .f32⟩
  | 33 => ⟨S128x64x4x128, .f32⟩
  | 34 => ⟨S128x64x4x256, .f32⟩
  | 35 => ⟨S128x64x4x128, .f32⟩
  | 36 => ⟨S128x64x4x256, .f32⟩
  | 37 => ⟨S_, .i32⟩
  | 38 => ⟨S4x128x256, .f32⟩
  | 39 => ⟨S128x64x4x128, .f32⟩
  | 40 => ⟨S128x64x4x128, .f32⟩
  | 41 => ⟨S128x64x4x256, .f32⟩
  | 42 => ⟨S128x64x4x128, .f32⟩
  | 43 => ⟨S_, .i32⟩
  | 44 => ⟨S_, .i1⟩
  | 45 => ⟨S_, .i32⟩
  | 46 => ⟨S_, .i32⟩
  | 47 => ⟨S_, .i32⟩
  | 48 => ⟨S_, .i32⟩
  | 49 => ⟨S_, .i32⟩
  | 50 => ⟨S_, .i32⟩
  | 51 => ⟨S_, .i32⟩
  | 52 => ⟨S1x4x128x256, .f32⟩
  | 53 => ⟨S4x128x256, .f32⟩
  | 54 => ⟨S_, .i32⟩
  | 55 => ⟨S_, .i32⟩
  | 56 => ⟨S_, .i32⟩
  | 57 => ⟨S1x64x4x128, .f32⟩
  | 58 => ⟨S64x4x128, .f32⟩
  | 59 => ⟨S_, .i32⟩
  | 60 => ⟨S_, .i32⟩
  | 61 => ⟨S_, .i32⟩
  | 62 => ⟨S1x64x4x128, .f32⟩
  | 63 => ⟨S64x4x128, .f32⟩
  | 64 => ⟨S_, .i32⟩
  | 65 => ⟨S_, .i32⟩
  | 66 => ⟨S_, .i32⟩
  | 67 => ⟨S1x64x4x256, .f32⟩
  | 68 => ⟨S64x4x256, .f32⟩
  | 69 => ⟨S_, .i32⟩
  | 70 => ⟨S_, .i32⟩
  | 71 => ⟨S_, .i32⟩
  | 72 => ⟨S1x64x4x128, .f32⟩
  | 73 => ⟨S64x4x128, .f32⟩
  | 74 => ⟨S_, .i32⟩
  | 75 => ⟨S_, .i32⟩
  | 76 => ⟨S_, .i32⟩
  | 77 => ⟨S1x64x4x256, .f32⟩
  | 78 => ⟨S64x4x256, .f32⟩
  | 79 => ⟨S_, .f32⟩
  | 80 => ⟨S_, .f32⟩
  | 81 => ⟨S64x4x128, .f32⟩
  | 82 => ⟨S1x4x128, .f32⟩
  | 83 => ⟨S1x4x128, .f32⟩
  | 84 => ⟨S4x128, .f32⟩
  | 85 => ⟨S64x4x128, .f32⟩
  | 86 => ⟨S64x4x128, .f32⟩
  | 87 => ⟨S64x4x128, .f32⟩
  | 88 => ⟨S64x4x128, .f32⟩
  | 89 => ⟨S64x4x128, .f32⟩
  | 90 => ⟨S64x4x128, .f32⟩
  | 91 => ⟨S64x4x128, .f32⟩
  | 92 => ⟨S64x4x128, .f32⟩
  | 93 => ⟨S4x64x64, .f32⟩
  | 94 => ⟨S_, .i1⟩
  | 95 => ⟨S64x64, .i1⟩
  | 96 => ⟨S64x64, .i32⟩
  | 97 => ⟨S_, .i32⟩
  | 98 => ⟨S64x64, .i32⟩
  | 99 => ⟨S64x64, .i32⟩
  | 100 => ⟨S64x64, .i32⟩
  | 101 => ⟨S64x64, .i1⟩
  | 102 => ⟨S_, .i1⟩
  | 103 => ⟨S64x64, .i1⟩
  | 104 => ⟨S64x64, .i1⟩
  | 105 => ⟨S_, .f32⟩
  | 106 => ⟨S_, .f32⟩
  | 107 => ⟨S4x64x64, .i1⟩
  | 108 => ⟨S4x64x64, .f32⟩
  | 109 => ⟨S4x64x64, .f32⟩
  | 110 => ⟨S_, .f32⟩
  | 111 => ⟨S4x64x64, .f32⟩
  | 112 => ⟨S4x256x64, .f32⟩
  | 113 => ⟨S64x4x256, .f32⟩
  | 114 => ⟨S64x4x128, .f32⟩
  | 115 => ⟨S64x4x128, .f32⟩
  | 116 => ⟨S4x256x64, .f32⟩
  | 117 => ⟨S64x4x256, .f32⟩
  | 118 => ⟨S64x4x256, .f32⟩
  | 119 => ⟨S4x128, .f32⟩
  | 120 => ⟨S4x128x1, .f32⟩
  | 121 => ⟨S4x128x256, .f32⟩
  | 122 => ⟨S4x128x256, .f32⟩
  | 123 => ⟨S1x4x128, .f32⟩
  | 124 => ⟨S64x4x128, .f32⟩
  | 125 => ⟨S64x4x128, .f32⟩
  | 126 => ⟨S64x4x128, .f32⟩
  | 127 => ⟨S64x4x128, .f32⟩
  | _ => ⟨S8192x6144, .bf16⟩

abbrev hbmTy0_1 (i : Nat) : BufTy := match i % 128 with
  | 0 => ⟨S4x128x256, .f32⟩
  | 1 => ⟨S4x128x256, .f32⟩
  | 2 => ⟨S4x256x64, .f32⟩
  | 3 => ⟨S64x4x256, .f32⟩
  | 4 => ⟨S4x128x64, .f32⟩
  | 5 => ⟨S64x4x128, .f32⟩
  | 6 => ⟨S64x4x128, .f32⟩
  | 7 => ⟨S64x4x128, .f32⟩
  | 8 => ⟨S64x4x128, .f32⟩
  | 9 => ⟨S_, .f32⟩
  | 10 => ⟨S4x128, .f32⟩
  | 11 => ⟨S1x4x128, .f32⟩
  | 12 => ⟨S64x4x128, .f32⟩
  | 13 => ⟨S_, .f32⟩
  | 14 => ⟨S4x128, .f32⟩
  | 15 => ⟨S4x128x256, .f32⟩
  | 16 => ⟨S4x128x256, .f32⟩
  | 17 => ⟨S4x128x256, .f32⟩
  | 18 => ⟨S_, .f32⟩
  | 19 => ⟨S4x128, .f32⟩
  | 20 => ⟨S4x128x1, .f32⟩
  | 21 => ⟨S_, .f32⟩
  | 22 => ⟨S4x128, .f32⟩
  | 23 => ⟨S4x128, .f32⟩
  | 24 => ⟨S4x128, .f32⟩
  | 25 => ⟨S4x256x64, .f32⟩
  | 26 => ⟨S4x64x128, .f32⟩
  | 27 => ⟨S64x4x128, .f32⟩
  | 28 => ⟨S4x256x128, .f32⟩
  | 29 => ⟨S4x128x256, .f32⟩
  | 30 => ⟨S4x128x256, .f32⟩
  | 31 => ⟨S64x4x128, .f32⟩
  | 32 => ⟨S64x4x128, .f32⟩
  | 33 => ⟨S64x4x128, .f32⟩
  | 34 => ⟨S64x4x128, .f32⟩
  | 35 => ⟨S4x256x64, .f32⟩
  | 36 => ⟨S4x64x64, .f32⟩
  | 37 => ⟨S4x256x64, .f32⟩
  | 38 => ⟨S64x4x256, .f32⟩
  | 39 => ⟨S64x4x256, .f32⟩
  | 40 => ⟨S_, .f32⟩
  | 41 => ⟨S4x64x64, .f32⟩
  | 42 => ⟨S4x64x64, .f32⟩
  | 43 => ⟨S4x64x128, .f32⟩
  | 44 => ⟨S64x4x128, .f32⟩
  | 45 => ⟨S4x64x128, .f32⟩
  | 46 => ⟨S64x4x128, .f32⟩
  | 47 => ⟨S64x4x128, .f32⟩
  | 48 => ⟨S64x4x128, .f32⟩
  | 49 => ⟨S64x4x128, .f32⟩
  | 50 => ⟨S64x4x128, .f32⟩
  | 51 => ⟨S_, .f32⟩
  | 52 => ⟨S4x128, .f32⟩
  | 53 => ⟨S1x4x128, .f32⟩
  | 54 => ⟨S64x4x128, .f32⟩
  | 55 => ⟨S64x4x128, .f32⟩
  | 56 => ⟨S64x4x128, .f32⟩
  | 57 => ⟨S64x4x128, .f32⟩
  | 58 => ⟨S64x4x128, .f32⟩
  | 59 => ⟨S64x4x128, .f32⟩
  | 60 => ⟨S64x4x128, .f32⟩
  | 61 => ⟨S_, .f32⟩
  | 62 => ⟨S4x128, .f32⟩
  | 63 => ⟨S1x4x128, .f32⟩
  | 64 => ⟨S64x4x128, .f32⟩
  | 65 => ⟨S1x4x128, .f32⟩
  | 66 => ⟨S1x4x128, .f32⟩
  | 67 => ⟨S_, .f32⟩
  | 68 => ⟨S64x4x128, .f32⟩
  | 69 => ⟨S64x4x128, .f32⟩
  | 70 => ⟨S_, .f32⟩
  | 71 => ⟨S64x4x128, .f32⟩
  | 72 => ⟨S64x4x128, .f32⟩
  | 73 => ⟨S_, .f32⟩
  | 74 => ⟨S_, .f32⟩
  | 75 => ⟨S64x4x128, .f32⟩
  | 76 => ⟨S1x64x4x128, .f32⟩
  | 77 => ⟨S_, .i32⟩
  | 78 => ⟨S_, .i32⟩
  | 79 => ⟨S_, .i32⟩
  | 80 => ⟨S128x64x4x128, .f32⟩
  | 81 => ⟨S1x64x4x128, .f32⟩
  | 82 => ⟨S_, .i32⟩
  | 83 => ⟨S_, .i32⟩
  | 84 => ⟨S_, .i32⟩
  | 85 => ⟨S128x64x4x128, .f32⟩
  | 86 => ⟨S1x64x4x256, .f32⟩
  | 87 => ⟨S_, .i32⟩
  | 88 => ⟨S_, .i32⟩
  | 89 => ⟨S_, .i32⟩
  | 90 => ⟨S128x64x4x256, .f32⟩
  | 91 => ⟨S1x64x4x128, .f32⟩
  | 92 => ⟨S_, .i32⟩
  | 93 => ⟨S_, .i32⟩
  | 94 => ⟨S_, .i32⟩
  | 95 => ⟨S128x64x4x128, .f32⟩
  | 96 => ⟨S_, .i32⟩
  | 97 => ⟨S_, .i32⟩
  | 98 => ⟨S_, .f32⟩
  | 99 => ⟨S128x64x4x128, .f32⟩
  | 100 => ⟨S128x64x4x128, .f32⟩
  | 101 => ⟨S8192x512, .f32⟩
  | 102 => ⟨S8192x512, .f32⟩
  | 103 => ⟨S8192x1024, .f32⟩
  | 104 => ⟨S8192x512, .f32⟩
  | _ => ⟨S8192x6144, .bf16⟩

abbrev hbmTy (i : Nat) : BufTy := match i / 128 with
  | 0 => hbmTy0_0 i
  | 1 => hbmTy0_1 i
  | _ => ⟨S8192x6144, .bf16⟩

abbrev bufTy : (tb : Table) → Fin (tcTables nBuf tb) → BufTy
  | .hbm, ⟨i, _⟩ => hbmTy i
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_c : Ref sig .tc := ⟨.hbm, 30, rfl⟩
abbrev main_v20_0 : Ref sig .tc := ⟨.hbm, 31, rfl⟩
abbrev main_v20_1 : Ref sig .tc := ⟨.hbm, 32, rfl⟩
abbrev main_v20_2 : Ref sig .tc := ⟨.hbm, 33, rfl⟩
abbrev main_v20_3 : Ref sig .tc := ⟨.hbm, 34, rfl⟩
abbrev main_v20_4 : Ref sig .tc := ⟨.hbm, 35, rfl⟩
abbrev main_v20_5 : Ref sig .tc := ⟨.hbm, 36, rfl⟩
abbrev main_v20_6 : Ref sig .tc := ⟨.hbm, 37, rfl⟩
abbrev main_v20_7 : Ref sig .tc := ⟨.hbm, 38, rfl⟩
abbrev main_v20_8 : Ref sig .tc := ⟨.hbm, 39, rfl⟩
abbrev main_v20_9 : Ref sig .tc := ⟨.hbm, 40, rfl⟩
abbrev main_v20_10 : Ref sig .tc := ⟨.hbm, 41, rfl⟩
abbrev main_v20_11 : Ref sig .tc := ⟨.hbm, 42, rfl⟩
abbrev main_while0c_c_17 : Ref sig .tc := ⟨.hbm, 43, rfl⟩
abbrev main_while0c_v27 : Ref sig .tc := ⟨.hbm, 44, rfl⟩
abbrev main_while0b_c_17 : Ref sig .tc := ⟨.hbm, 45, rfl⟩
abbrev main_while0b_v27 : Ref sig .tc := ⟨.hbm, 46, rfl⟩
abbrev main_while0b_c_18 : Ref sig .tc := ⟨.hbm, 47, rfl⟩
abbrev main_while0b_v28 : Ref sig .tc := ⟨.hbm, 48, rfl⟩
abbrev main_while0b_call0_c : Ref sig .tc := ⟨.hbm, 49, rfl⟩
abbrev main_while0b_call0_c_0 : Ref sig .tc := ⟨.hbm, 50, rfl⟩
abbrev main_while0b_call0_c_1 : Ref sig .tc := ⟨.hbm, 51, rfl⟩
abbrev main_while0b_call0_v0 : Ref sig .tc := ⟨.hbm, 52, rfl⟩
abbrev main_while0b_v29 : Ref sig .tc := ⟨.hbm, 53, rfl⟩
abbrev main_while0b_call1_c : Ref sig .tc := ⟨.hbm, 54, rfl⟩
abbrev main_while0b_call1_c_0 : Ref sig .tc := ⟨.hbm, 55, rfl⟩
abbrev main_while0b_call1_c_1 : Ref sig .tc := ⟨.hbm, 56, rfl⟩
abbrev main_while0b_call1_v0 : Ref sig .tc := ⟨.hbm, 57, rfl⟩
abbrev main_while0b_v30 : Ref sig .tc := ⟨.hbm, 58, rfl⟩
abbrev main_while0b_call2_c : Ref sig .tc := ⟨.hbm, 59, rfl⟩
abbrev main_while0b_call2_c_0 : Ref sig .tc := ⟨.hbm, 60, rfl⟩
abbrev main_while0b_call2_c_1 : Ref sig .tc := ⟨.hbm, 61, rfl⟩
abbrev main_while0b_call2_v0 : Ref sig .tc := ⟨.hbm, 62, rfl⟩
abbrev main_while0b_v31 : Ref sig .tc := ⟨.hbm, 63, rfl⟩
abbrev main_while0b_call3_c : Ref sig .tc := ⟨.hbm, 64, rfl⟩
abbrev main_while0b_call3_c_0 : Ref sig .tc := ⟨.hbm, 65, rfl⟩
abbrev main_while0b_call3_c_1 : Ref sig .tc := ⟨.hbm, 66, rfl⟩
abbrev main_while0b_call3_v0 : Ref sig .tc := ⟨.hbm, 67, rfl⟩
abbrev main_while0b_v32 : Ref sig .tc := ⟨.hbm, 68, rfl⟩
abbrev main_while0b_call4_c : Ref sig .tc := ⟨.hbm, 69, rfl⟩
abbrev main_while0b_call4_c_0 : Ref sig .tc := ⟨.hbm, 70, rfl⟩
abbrev main_while0b_call4_c_1 : Ref sig .tc := ⟨.hbm, 71, rfl⟩
abbrev main_while0b_call4_v0 : Ref sig .tc := ⟨.hbm, 72, rfl⟩
abbrev main_while0b_v33 : Ref sig .tc := ⟨.hbm, 73, rfl⟩
abbrev main_while0b_call5_c : Ref sig .tc := ⟨.hbm, 74, rfl⟩
abbrev main_while0b_call5_c_0 : Ref sig .tc := ⟨.hbm, 75, rfl⟩
abbrev main_while0b_call5_c_1 : Ref sig .tc := ⟨.hbm, 76, rfl⟩
abbrev main_while0b_call5_v0 : Ref sig .tc := ⟨.hbm, 77, rfl⟩
abbrev main_while0b_v34 : Ref sig .tc := ⟨.hbm, 78, rfl⟩
abbrev main_while0b_call6_call0_cst : Ref sig .tc := ⟨.hbm, 79, rfl⟩
abbrev main_while0b_call6_call0_v0 : Ref sig .tc := ⟨.hbm, 80, rfl⟩
abbrev main_while0b_v35 : Ref sig .tc := ⟨.hbm, 81, rfl⟩
abbrev main_while0b_v36 : Ref sig .tc := ⟨.hbm, 82, rfl⟩
abbrev main_while0b_v37 : Ref sig .tc := ⟨.hbm, 83, rfl⟩
abbrev main_while0b_v38 : Ref sig .tc := ⟨.hbm, 84, rfl⟩
abbrev main_while0b_v39 : Ref sig .tc := ⟨.hbm, 85, rfl⟩
abbrev main_while0b_v40 : Ref sig .tc := ⟨.hbm, 86, rfl⟩
abbrev main_while0b_v41 : Ref sig .tc := ⟨.hbm, 87, rfl⟩
abbrev main_while0b_v42 : Ref sig .tc := ⟨.hbm, 88, rfl⟩
abbrev main_while0b_v43 : Ref sig .tc := ⟨.hbm, 89, rfl⟩
abbrev main_while0b_v44 : Ref sig .tc := ⟨.hbm, 90, rfl⟩
abbrev main_while0b_v45 : Ref sig .tc := ⟨.hbm, 91, rfl⟩
abbrev main_while0b_v46 : Ref sig .tc := ⟨.hbm, 92, rfl⟩
abbrev main_while0b_v47 : Ref sig .tc := ⟨.hbm, 93, rfl⟩
abbrev main_while0b_c_19 : Ref sig .tc := ⟨.hbm, 94, rfl⟩
abbrev main_while0b_v48 : Ref sig .tc := ⟨.hbm, 95, rfl⟩
abbrev main_while0b_call7_v0 : Ref sig .tc := ⟨.hbm, 96, rfl⟩
abbrev main_while0b_call7_c : Ref sig .tc := ⟨.hbm, 97, rfl⟩
abbrev main_while0b_call7_v1 : Ref sig .tc := ⟨.hbm, 98, rfl⟩
abbrev main_while0b_call7_v2 : Ref sig .tc := ⟨.hbm, 99, rfl⟩
abbrev main_while0b_call7_v3 : Ref sig .tc := ⟨.hbm, 100, rfl⟩
abbrev main_while0b_call7_v4 : Ref sig .tc := ⟨.hbm, 101, rfl⟩
abbrev main_while0b_call7_c_0 : Ref sig .tc := ⟨.hbm, 102, rfl⟩
abbrev main_while0b_call7_v5 : Ref sig .tc := ⟨.hbm, 103, rfl⟩
abbrev main_while0b_v49 : Ref sig .tc := ⟨.hbm, 104, rfl⟩
abbrev main_while0b_cst_20 : Ref sig .tc := ⟨.hbm, 105, rfl⟩
abbrev main_while0b_call8_v0 : Ref sig .tc := ⟨.hbm, 106, rfl⟩
abbrev main_while0b_v50_1 : Ref sig .tc := ⟨.hbm, 107, rfl⟩
abbrev main_while0b_call8_v2 : Ref sig .tc := ⟨.hbm, 108, rfl⟩
abbrev main_while0b_v50_0 : Ref sig .tc := ⟨.hbm, 109, rfl⟩
abbrev main_while0b_call8_cst : Ref sig .tc := ⟨.hbm, 110, rfl⟩
abbrev main_while0b_v50_2 : Ref sig .tc := ⟨.hbm, 111, rfl⟩
abbrev main_while0b_v51 : Ref sig .tc := ⟨.hbm, 112, rfl⟩
abbrev main_while0b_v52 : Ref sig .tc := ⟨.hbm, 113, rfl⟩
abbrev main_while0b_v53 : Ref sig .tc := ⟨.hbm, 114, rfl⟩
abbrev main_while0b_v54 : Ref sig .tc := ⟨.hbm, 115, rfl⟩
abbrev main_while0b_v55 : Ref sig .tc := ⟨.hbm, 116, rfl⟩
abbrev main_while0b_v56 : Ref sig .tc := ⟨.hbm, 117, rfl⟩
abbrev main_while0b_v57 : Ref sig .tc := ⟨.hbm, 118, rfl⟩
abbrev main_while0b_v58 : Ref sig .tc := ⟨.hbm, 119, rfl⟩
abbrev main_while0b_v59 : Ref sig .tc := ⟨.hbm, 120, rfl⟩
abbrev main_while0b_v60 : Ref sig .tc := ⟨.hbm, 121, rfl⟩
abbrev main_while0b_v61 : Ref sig .tc := ⟨.hbm, 122, rfl⟩
abbrev main_while0b_v62 : Ref sig .tc := ⟨.hbm, 123, rfl⟩
abbrev main_while0b_v63 : Ref sig .tc := ⟨.hbm, 124, rfl⟩
abbrev main_while0b_v64 : Ref sig .tc := ⟨.hbm, 125, rfl⟩
abbrev main_while0b_v65 : Ref sig .tc := ⟨.hbm, 126, rfl⟩
abbrev main_while0b_v66 : Ref sig .tc := ⟨.hbm, 127, rfl⟩
abbrev main_while0b_v67 : Ref sig .tc := ⟨.hbm, 128, rfl⟩
abbrev main_while0b_v68 : Ref sig .tc := ⟨.hbm, 129, rfl⟩
abbrev main_while0b_v69 : Ref sig .tc := ⟨.hbm, 130, rfl⟩
abbrev main_while0b_v70 : Ref sig .tc := ⟨.hbm, 131, rfl⟩
abbrev main_while0b_v71 : Ref sig .tc := ⟨.hbm, 132, rfl⟩
abbrev main_while0b_v72 : Ref sig .tc := ⟨.hbm, 133, rfl⟩
abbrev main_while0b_v73 : Ref sig .tc := ⟨.hbm, 134, rfl⟩
abbrev main_while0b_v74 : Ref sig .tc := ⟨.hbm, 135, rfl⟩
abbrev main_while0b_v75 : Ref sig .tc := ⟨.hbm, 136, rfl⟩
abbrev main_while0b_cst_21 : Ref sig .tc := ⟨.hbm, 137, rfl⟩
abbrev main_while0b_v76 : Ref sig .tc := ⟨.hbm, 138, rfl⟩
abbrev main_while0b_v77 : Ref sig .tc := ⟨.hbm, 139, rfl⟩
abbrev main_while0b_v78 : Ref sig .tc := ⟨.hbm, 140, rfl⟩
abbrev main_while0b_cst_22 : Ref sig .tc := ⟨.hbm, 141, rfl⟩
abbrev main_while0b_v79 : Ref sig .tc := ⟨.hbm, 142, rfl⟩
abbrev main_while0b_v80 : Ref sig .tc := ⟨.hbm, 143, rfl⟩
abbrev main_while0b_v81 : Ref sig .tc := ⟨.hbm, 144, rfl⟩
abbrev main_while0b_v82 : Ref sig .tc := ⟨.hbm, 145, rfl⟩
abbrev main_while0b_cst_23 : Ref sig .tc := ⟨.hbm, 146, rfl⟩
abbrev main_while0b_v83 : Ref sig .tc := ⟨.hbm, 147, rfl⟩
abbrev main_while0b_v84 : Ref sig .tc := ⟨.hbm, 148, rfl⟩
abbrev main_while0b_cst_24 : Ref sig .tc := ⟨.hbm, 149, rfl⟩
abbrev main_while0b_v85 : Ref sig .tc := ⟨.hbm, 150, rfl⟩
abbrev main_while0b_v86 : Ref sig .tc := ⟨.hbm, 151, rfl⟩
abbrev main_while0b_v87 : Ref sig .tc := ⟨.hbm, 152, rfl⟩
abbrev main_while0b_v88 : Ref sig .tc := ⟨.hbm, 153, rfl⟩
abbrev main_while0b_v89 : Ref sig .tc := ⟨.hbm, 154, rfl⟩
abbrev main_while0b_v90 : Ref sig .tc := ⟨.hbm, 155, rfl⟩
abbrev main_while0b_v91 : Ref sig .tc := ⟨.hbm, 156, rfl⟩
abbrev main_while0b_v92 : Ref sig .tc := ⟨.hbm, 157, rfl⟩
abbrev main_while0b_v93 : Ref sig .tc := ⟨.hbm, 158, rfl⟩
abbrev main_while0b_v94 : Ref sig .tc := ⟨.hbm, 159, rfl⟩
abbrev main_while0b_v95 : Ref sig .tc := ⟨.hbm, 160, rfl⟩
abbrev main_while0b_v96 : Ref sig .tc := ⟨.hbm, 161, rfl⟩
abbrev main_while0b_v97 : Ref sig .tc := ⟨.hbm, 162, rfl⟩
abbrev main_while0b_v98 : Ref sig .tc := ⟨.hbm, 163, rfl⟩
abbrev main_while0b_v99 : Ref sig .tc := ⟨.hbm, 164, rfl⟩
abbrev main_while0b_v100 : Ref sig .tc := ⟨.hbm, 165, rfl⟩
abbrev main_while0b_v101 : Ref sig .tc := ⟨.hbm, 166, rfl⟩
abbrev main_while0b_v102 : Ref sig .tc := ⟨.hbm, 167, rfl⟩
abbrev main_while0b_call9_cst : Ref sig .tc := ⟨.hbm, 168, rfl⟩
abbrev main_while0b_call9_v0 : Ref sig .tc := ⟨.hbm, 169, rfl⟩
abbrev main_while0b_v103 : Ref sig .tc := ⟨.hbm, 170, rfl⟩
abbrev main_while0b_v104 : Ref sig .tc := ⟨.hbm, 171, rfl⟩
abbrev main_while0b_v105 : Ref sig .tc := ⟨.hbm, 172, rfl⟩
abbrev main_while0b_v106 : Ref sig .tc := ⟨.hbm, 173, rfl⟩
abbrev main_while0b_v107 : Ref sig .tc := ⟨.hbm, 174, rfl⟩
abbrev main_while0b_v108 : Ref sig .tc := ⟨.hbm, 175, rfl⟩
abbrev main_while0b_v109 : Ref sig .tc := ⟨.hbm, 176, rfl⟩
abbrev main_while0b_v110 : Ref sig .tc := ⟨.hbm, 177, rfl⟩
abbrev main_while0b_v111 : Ref sig .tc := ⟨.hbm, 178, rfl⟩
abbrev main_while0b_cst_25 : Ref sig .tc := ⟨.hbm, 179, rfl⟩
abbrev main_while0b_v112 : Ref sig .tc := ⟨.hbm, 180, rfl⟩
abbrev main_while0b_v113 : Ref sig .tc := ⟨.hbm, 181, rfl⟩
abbrev main_while0b_v114 : Ref sig .tc := ⟨.hbm, 182, rfl⟩
abbrev main_while0b_v115 : Ref sig .tc := ⟨.hbm, 183, rfl⟩
abbrev main_while0b_v116 : Ref sig .tc := ⟨.hbm, 184, rfl⟩
abbrev main_while0b_v117 : Ref sig .tc := ⟨.hbm, 185, rfl⟩
abbrev main_while0b_v118 : Ref sig .tc := ⟨.hbm, 186, rfl⟩
abbrev main_while0b_v119 : Ref sig .tc := ⟨.hbm, 187, rfl⟩
abbrev main_while0b_v120 : Ref sig .tc := ⟨.hbm, 188, rfl⟩
abbrev main_while0b_cst_26 : Ref sig .tc := ⟨.hbm, 189, rfl⟩
abbrev main_while0b_v121 : Ref sig .tc := ⟨.hbm, 190, rfl⟩
abbrev main_while0b_v122 : Ref sig .tc := ⟨.hbm, 191, rfl⟩
abbrev main_while0b_v123 : Ref sig .tc := ⟨.hbm, 192, rfl⟩
abbrev main_while0b_v124 : Ref sig .tc := ⟨.hbm, 193, rfl⟩
abbrev main_while0b_v125 : Ref sig .tc := ⟨.hbm, 194, rfl⟩
abbrev main_while0b_cst_27 : Ref sig .tc := ⟨.hbm, 195, rfl⟩
abbrev main_while0b_v126 : Ref sig .tc := ⟨.hbm, 196, rfl⟩
abbrev main_while0b_v127 : Ref sig .tc := ⟨.hbm, 197, rfl⟩
abbrev main_while0b_cst_28 : Ref sig .tc := ⟨.hbm, 198, rfl⟩
abbrev main_while0b_v128 : Ref sig .tc := ⟨.hbm, 199, rfl⟩
abbrev main_while0b_v129 : Ref sig .tc := ⟨.hbm, 200, rfl⟩
abbrev main_while0b_call10_call0_cst : Ref sig .tc := ⟨.hbm, 201, rfl⟩
abbrev main_while0b_call10_call0_v0 : Ref sig .tc := ⟨.hbm, 202, rfl⟩
abbrev main_while0b_v130 : Ref sig .tc := ⟨.hbm, 203, rfl⟩
abbrev main_while0b_call11_v0 : Ref sig .tc := ⟨.hbm, 204, rfl⟩
abbrev main_while0b_call11_c : Ref sig .tc := ⟨.hbm, 205, rfl⟩
abbrev main_while0b_call11_c_0 : Ref sig .tc := ⟨.hbm, 206, rfl⟩
abbrev main_while0b_call11_c_1 : Ref sig .tc := ⟨.hbm, 207, rfl⟩
abbrev main_while0b_v131 : Ref sig .tc := ⟨.hbm, 208, rfl⟩
abbrev main_while0b_call12_v0 : Ref sig .tc := ⟨.hbm, 209, rfl⟩
abbrev main_while0b_call12_c : Ref sig .tc := ⟨.hbm, 210, rfl⟩
abbrev main_while0b_call12_c_0 : Ref sig .tc := ⟨.hbm, 211, rfl⟩
abbrev main_while0b_call12_c_1 : Ref sig .tc := ⟨.hbm, 212, rfl⟩
abbrev main_while0b_v132 : Ref sig .tc := ⟨.hbm, 213, rfl⟩
abbrev main_while0b_call13_v0 : Ref sig .tc := ⟨.hbm, 214, rfl⟩
abbrev main_while0b_call13_c : Ref sig .tc := ⟨.hbm, 215, rfl⟩
abbrev main_while0b_call13_c_0 : Ref sig .tc := ⟨.hbm, 216, rfl⟩
abbrev main_while0b_call13_c_1 : Ref sig .tc := ⟨.hbm, 217, rfl⟩
abbrev main_while0b_v133 : Ref sig .tc := ⟨.hbm, 218, rfl⟩
abbrev main_while0b_call14_v0 : Ref sig .tc := ⟨.hbm, 219, rfl⟩
abbrev main_while0b_call14_c : Ref sig .tc := ⟨.hbm, 220, rfl⟩
abbrev main_while0b_call14_c_0 : Ref sig .tc := ⟨.hbm, 221, rfl⟩
abbrev main_while0b_call14_c_1 : Ref sig .tc := ⟨.hbm, 222, rfl⟩
abbrev main_while0b_v134 : Ref sig .tc := ⟨.hbm, 223, rfl⟩
abbrev main_while0b_c_29 : Ref sig .tc := ⟨.hbm, 224, rfl⟩
abbrev main_while0b_v135 : Ref sig .tc := ⟨.hbm, 225, rfl⟩
abbrev main_cst_5 : Ref sig .tc := ⟨.hbm, 226, rfl⟩
abbrev main_v21 : Ref sig .tc := ⟨.hbm, 227, rfl⟩
abbrev main_v22 : Ref sig .tc := ⟨.hbm, 228, rfl⟩
abbrev main_v23 : Ref sig .tc := ⟨.hbm, 229, rfl⟩
abbrev main_v24 : Ref sig .tc := ⟨.hbm, 230, rfl⟩
abbrev main_v25 : Ref sig .tc := ⟨.hbm, 231, rfl⟩
abbrev main_v26 : Ref sig .tc := ⟨.hbm, 232, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S8192x2048 : Shape := ⟨2, ![8192, 2048]⟩
abbrev S4x2048x1408 : Shape := ⟨3, ![4, 2048, 1408]⟩
abbrev S8192x5632 : Shape := ⟨2, ![8192, 5632]⟩
abbrev S512x1408 : Shape := ⟨2, ![512, 1408]⟩
abbrev S1x512x1408 : Shape := ⟨3, ![1, 512, 1408]⟩
abbrev S512x512 : Shape := ⟨2, ![512, 512]⟩

abbrev nBuf : Space → Nat
  | .hbm => 6
  | .vmem => 34
  | .smem => 0
  | _ => 0

abbrev bufTy : (tb : Table) → Fin (tcTables nBuf tb) → BufTy
  | .hbm, ⟨0, _⟩ => ⟨S8192x2048, .bf16⟩
  | .hbm, ⟨1, _⟩ => ⟨S4x2048x1408, .bf16⟩
  | .hbm, ⟨2, _⟩ => ⟨S4x2048x1408, .bf16⟩
  | .hbm, ⟨3, _⟩ => ⟨S8192x5632, .bf16⟩
  | .hbm, ⟨4, _⟩ => ⟨S8192x5632, .bf16⟩
  | .hbm, ⟨5, _⟩ => ⟨S8192x2048, .bf16⟩
  | .local _ .vmem, ⟨0, _⟩ => ⟨S512x1408, .bf16⟩
  | .local _ .vmem, ⟨1, _⟩ => ⟨S512x1408, .bf16⟩
  | .local _ .vmem, ⟨2, _⟩ => ⟨S1x512x1408, .bf16⟩
  | .local _ .vmem, ⟨3, _⟩ => ⟨S1x512x1408, .bf16⟩
  | .local _ .vmem, ⟨4, _⟩ => ⟨S512x1408, .bf16⟩
  | .local _ .vmem, ⟨5, _⟩ => ⟨S512x1408, .bf16⟩
  | .local _ .vmem, ⟨6, _⟩ => ⟨S1x512x1408, .bf16⟩
  | .local _ .vmem, ⟨7, _⟩ => ⟨S1x512x1408, .bf16⟩
  | .local _ .vmem, ⟨8, _⟩ => ⟨S512x1408, .bf16⟩
  | .local _ .vmem, ⟨9, _⟩ => ⟨S512x1408, .bf16⟩
  | .local _ .vmem, ⟨10, _⟩ => ⟨S1x512x1408, .bf16⟩
  | .local _ .vmem, ⟨11, _⟩ => ⟨S1x512x1408, .bf16⟩
  | .local _ .vmem, ⟨12, _⟩ => ⟨S512x1408, .bf16⟩
  | .local _ .vmem, ⟨13, _⟩ => ⟨S512x1408, .bf16⟩
  | .local _ .vmem, ⟨14, _⟩ => ⟨S1x512x1408, .bf16⟩
  | .local _ .vmem, ⟨15, _⟩ => ⟨S1x512x1408, .bf16⟩
  | .local _ .vmem, ⟨16, _⟩ => ⟨S512x1408, .bf16⟩
  | .local _ .vmem, ⟨17, _⟩ => ⟨S512x1408, .bf16⟩
  | .local _ .vmem, ⟨18, _⟩ => ⟨S1x512x1408, .bf16⟩
  | .local _ .vmem, ⟨19, _⟩ => ⟨S1x512x1408, .bf16⟩
  | .local _ .vmem, ⟨20, _⟩ => ⟨S512x1408, .bf16⟩
  | .local _ .vmem, ⟨21, _⟩ => ⟨S512x1408, .bf16⟩
  | .local _ .vmem, ⟨22, _⟩ => ⟨S1x512x1408, .bf16⟩
  | .local _ .vmem, ⟨23, _⟩ => ⟨S1x512x1408, .bf16⟩
  | .local _ .vmem, ⟨24, _⟩ => ⟨S512x1408, .bf16⟩
  | .local _ .vmem, ⟨25, _⟩ => ⟨S512x1408, .bf16⟩
  | .local _ .vmem, ⟨26, _⟩ => ⟨S1x512x1408, .bf16⟩
  | .local _ .vmem, ⟨27, _⟩ => ⟨S1x512x1408, .bf16⟩
  | .local _ .vmem, ⟨28, _⟩ => ⟨S512x1408, .bf16⟩
  | .local _ .vmem, ⟨29, _⟩ => ⟨S512x1408, .bf16⟩
  | .local _ .vmem, ⟨30, _⟩ => ⟨S1x512x1408, .bf16⟩
  | .local _ .vmem, ⟨31, _⟩ => ⟨S1x512x1408, .bf16⟩
  | .local _ .vmem, ⟨32, _⟩ => ⟨S512x512, .bf16⟩
  | .local _ .vmem, ⟨33, _⟩ => ⟨S512x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg1.toNat, c2_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg1.toNat, c3_i32.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg1.toNat, c2_i32.toNat]

def cc0_transform_13 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg1.toNat, c3_i32.toNat]

def cc0_transform_15 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x512x1408 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x1408 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x512x1408 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S512x1408 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S1x512x1408 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference2Ideal.lean ====
abbrev S8192x2048 : Shape := ⟨2, ![8192, 2048]⟩
abbrev S4x2048x1408 : Shape := ⟨3, ![4, 2048, 1408]⟩
abbrev S8192x5632 : Shape := ⟨2, ![8192, 5632]⟩
abbrev S2048x4x1408 : Shape := ⟨3, ![2048, 4, 1408]⟩
abbrev S2048x5632 : Shape := ⟨2, ![2048, 5632]⟩
abbrev S5632x2048 : Shape := ⟨2, ![5632, 2048]⟩

abbrev nBuf : Space → Nat
  | .hbm => 28
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x1408, .bf16⟩
  | .hbm, ⟨2, _⟩ => ⟨S4x2048x1408, .bf16⟩
  | .hbm, ⟨3, _⟩ => ⟨S8192x5632, .bf16⟩
  | .hbm, ⟨4, _⟩ => ⟨S8192x5632, .bf16⟩
  | .hbm, ⟨5, _⟩ => ⟨S8192x2048, .f32⟩
  | .hbm, ⟨6, _⟩ => ⟨S4x2048x1408, .f32⟩
  | .hbm, ⟨7, _⟩ => ⟨S4x2048x1408, .f32⟩
  | .hbm, ⟨8, _⟩ => ⟨S8192x5632, .f32⟩
  | .hbm, ⟨9, _⟩ => ⟨S8192x5632, .f32⟩
  | .hbm, ⟨10, _⟩ => ⟨S2048x4x1408, .f32⟩
  | .hbm, ⟨11, _⟩ => ⟨S2048x5632, .f32⟩
  | .hbm, ⟨12, _⟩ => ⟨S8192x5632, .f32⟩
  | .hbm, ⟨13, _⟩ => ⟨S2048x4x1408, .f32⟩
  | .hbm, ⟨14, _⟩ => ⟨S2048x5632, .f32⟩
  | .hbm, ⟨15, _⟩ => ⟨S8192x5632, .f32⟩
  | .hbm, ⟨16, _⟩ => ⟨S5632x2048, .f32⟩
  | .hbm, ⟨17, _⟩ => ⟨S2048x5632, .f32⟩
  | .hbm, ⟨18, _⟩ => ⟨S8192x2048, .f32⟩
  | .hbm, ⟨19, _⟩ => ⟨S2048x4x1408, .f32⟩
  | .hbm, ⟨20, _⟩ => ⟨S4x2048x1408, .f32⟩
  | .hbm, ⟨21, _⟩ => ⟨S5632x2048, .f32⟩
  | .hbm, ⟨22, _⟩ => ⟨S2048x5632, .f32⟩
  | .hbm, ⟨23, _⟩ => ⟨S8192x2048, .f32⟩
  | .hbm, ⟨24, _⟩ => ⟨S8192x2048, .f32⟩
  | .hbm, ⟨25, _⟩ => ⟨S2048x4x1408, .f32⟩
  | .hbm, ⟨26, _⟩ => ⟨S4x2048x1408, .f32⟩
  | .hbm, ⟨27, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩

abbrev nD : Nat := 1
abbrev τ : Topo := Topo.v7x

variable {F : FTy → Type} [FloatOps F]
-- ==== Kernel3.lean ====
abbrev S8192x2048 : Shape := ⟨2, ![8192, 2048]⟩
abbrev S4x2048x1408 : Shape := ⟨3, ![4, 2048, 1408]⟩
abbrev S8192x5632 : Shape := ⟨2, ![8192, 5632]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x2048x1408, .bf16⟩
  | .hbm, ⟨2, _⟩ => ⟨S8192x5632, .bf16⟩
  | .hbm, ⟨3, _⟩ => ⟨S4x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2048 : Shape := ⟨2, ![8192, 2048]⟩
abbrev S4x2048x1408 : Shape := ⟨3, ![4, 2048, 1408]⟩
abbrev S8192x5632 : Shape := ⟨2, ![8192, 5632]⟩
abbrev S2048x4x1408 : Shape := ⟨3, ![2048, 4, 1408]⟩
abbrev S2048x5632 : Shape := ⟨2, ![2048, 5632]⟩
abbrev S5632x2048 : Shape := ⟨2, ![5632, 2048]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x1408, .bf16⟩
  | .hbm, ⟨2, _⟩ => ⟨S8192x5632, .bf16⟩
  | .hbm, ⟨3, _⟩ => ⟨S8192x2048, .f32⟩
  | .hbm, ⟨4, _⟩ => ⟨S4x2048x1408, .f32⟩
  | .hbm, ⟨5, _⟩ => ⟨S8192x5632, .f32⟩
  | .hbm, ⟨6, _⟩ => ⟨S2048x4x1408, .f32⟩
  | .hbm, ⟨7, _⟩ => ⟨S2048x5632, .f32⟩
  | .hbm, ⟨8, _⟩ => ⟨S8192x5632, .f32⟩
  | .hbm, ⟨9, _⟩ => ⟨S5632x2048, .f32⟩
  | .hbm, ⟨10, _⟩ => ⟨S2048x5632, .f32⟩
  | .hbm, ⟨11, _⟩ => ⟨S8192x2048, .f32⟩
  | .hbm, ⟨12, _⟩ => ⟨S2048x4x1408, .f32⟩
  | .hbm, ⟨13, _⟩ => ⟨S4x2048x1408, .f32⟩
  | .hbm, ⟨14, _⟩ => ⟨S4x2048x1408, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel4.lean ====
abbrev S8192x2048 : Shape := ⟨2, ![8192, 2048]⟩
abbrev S4x2048x1408 : Shape := ⟨3, ![4, 2048, 1408]⟩
abbrev S8192x5632 : Shape := ⟨2, ![8192, 5632]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S4x2048x1408, .bf16⟩
  | .hbm, ⟨2, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .bf16⟩
  | .local _ .vmem, ⟨5, _⟩ => ⟨S1024x1408, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8192x2048 : Shape := ⟨2, ![8192, 2048]⟩
abbrev S4x2048x1408 : Shape := ⟨3, ![4, 2048, 1408]⟩
abbrev S2048x4x1408 : Shape := ⟨3, ![2048, 4, 1408]⟩
abbrev S2048x5632 : Shape := ⟨2, ![2048, 5632]⟩
abbrev S8192x5632 : Shape := ⟨2, ![8192, 5632]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x1408, .bf16⟩
  | .hbm, ⟨2, _⟩ => ⟨S8192x2048, .f32⟩
  | .hbm, ⟨3, _⟩ => ⟨S4x2048x1408, .f32⟩
  | .hbm, ⟨4, _⟩ => ⟨S2048x4x1408, .f32⟩
  | .hbm, ⟨5, _⟩ => ⟨S2048x5632, .f32⟩
  | .hbm, ⟨6, _⟩ => ⟨S8192x5632, .f32⟩
  | .hbm, ⟨7, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel5.lean ====
abbrev S8192x5632 : Shape := ⟨2, ![8192, 5632]⟩
abbrev S5632x2048 : Shape := ⟨2, ![5632, 2048]⟩
abbrev S8192x2048 : Shape := ⟨2, ![8192, 2048]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .bf16⟩
  | .hbm, ⟨3, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .bf16⟩
  | .local _ .vmem, ⟨5, _⟩ => ⟨S1024x1408, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S8192x5632 : Shape := ⟨2, ![8192, 5632]⟩
abbrev S5632x2048 : Shape := ⟨2, ![5632, 2048]⟩
abbrev S8192x2048 : Shape := ⟨2, ![8192, 2048]⟩
abbrev S2048x5632 : Shape := ⟨2, ![2048, 5632]⟩

abbrev nBuf : Space → Nat
  | .hbm => 11
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .bf16⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S8192x2048, .f32⟩
  | .hbm, ⟨7, _⟩ => ⟨S2048x5632, .f32⟩
  | .hbm, ⟨8, _⟩ => ⟨S5632x2048, .f32⟩
  | .hbm, ⟨9, _⟩ => ⟨S8192x5632, .f32⟩
  | .hbm, ⟨10, _⟩ => ⟨S8192x5632, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S8192x5632 : Shape := ⟨2, ![8192, 5632]⟩
abbrev S5632x2048 : Shape := ⟨2, ![5632, 2048]⟩
abbrev S8192x2048 : Shape := ⟨2, ![8192, 2048]⟩
abbrev S2048x512 : Shape := ⟨2, ![2048, 512]⟩
abbrev S2048x2048 : Shape := ⟨2, ![2048, 2048]⟩
abbrev S512x2048 : Shape := ⟨2, ![512, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .bf16⟩
  | .hbm, ⟨3, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x5632 : Shape := ⟨2, ![8192, 5632]⟩
abbrev S5632x2048 : Shape := ⟨2, ![5632, 2048]⟩
abbrev S8192x2048 : Shape := ⟨2, ![8192, 2048]⟩
abbrev S2048x5632 : Shape := ⟨2, ![2048, 5632]⟩

abbrev nBuf : Space → Nat
  | .hbm => 11
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .bf16⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S8192x2048, .f32⟩
  | .hbm, ⟨7, _⟩ => ⟨S2048x5632, .f32⟩
  | .hbm, ⟨8, _⟩ => ⟨S5632x2048, .f32⟩
  | .hbm, ⟨9, _⟩ => ⟨S8192x5632, .f32⟩
  | .hbm, ⟨10, _⟩ => ⟨S5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S8192x5632 : Shape := ⟨2, ![8192, 5632]⟩
abbrev S5632x2048 : Shape := ⟨2, ![5632, 2048]⟩
abbrev S8192x2048 : Shape := ⟨2, ![8192, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S8192x2048 : Shape := ⟨2, ![8192, 2048]⟩
abbrev S6176x2048 : Shape := ⟨2, ![6176, 2048]⟩
abbrev S8192x6144 : Shape := ⟨2, ![8192, 6144]⟩
abbrev S1024x2048 : Shape := ⟨2, ![1024, 2048]⟩
abbrev S1536x2048 : Shape := ⟨2, ![1536, 2048]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S6176x2048, .bf16⟩
  | .hbm, ⟨2, _⟩ => ⟨S8192x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1536x2048, .bf16⟩
  | .local _ .vmem, ⟨3, _⟩ => ⟨S1536x2048, .bf16⟩
  | .local _ .vmem, ⟨4, _⟩ => ⟨S1024x1536, .bf16⟩
  | .local _ .vmem, ⟨5, _⟩ => ⟨S1024x1536, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1536x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S8192x2048 : Shape := ⟨2, ![8192, 2048]⟩
abbrev S6176x2048 : Shape := ⟨2, ![6176, 2048]⟩
abbrev S2048x6176 : Shape := ⟨2, ![2048, 6176]⟩
abbrev S8192x6176 : Shape := ⟨2, ![8192, 6176]⟩
abbrev S8192x6144 : Shape := ⟨2, ![8192, 6144]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S6176x2048, .bf16⟩
  | .hbm, ⟨2, _⟩ => ⟨S6176x2048, .f32⟩
  | .hbm, ⟨3, _⟩ => ⟨S2048x6176, .f32⟩
  | .hbm, ⟨4, _⟩ => ⟨S8192x2048, .f32⟩
  | .hbm, ⟨5, _⟩ => ⟨S8192x6176, .f32⟩
  | .hbm, ⟨6, _⟩ => ⟨S8192x6144, .f32⟩
  | .hbm, ⟨7, _⟩ => ⟨S8192x6144, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel9.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .hbm, ⟨3, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x2048 : Shape := ⟨2, ![8192, 2048]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S8192x2048, .f32⟩
  | .hbm, ⟨10, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel11.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .hbm, ⟨3, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S8192x2048 : Shape := ⟨2, ![8192, 2048]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S8192x2048, .f32⟩
  | .hbm, ⟨10, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel12.lean ====
abbrev S8192x2048 : Shape := ⟨2, ![8192, 2048]⟩
abbrev S8192x6144 : Shape := ⟨2, ![8192, 6144]⟩
abbrev S6176x2048 : Shape := ⟨2, ![6176, 2048]⟩
abbrev S2048x768 : Shape := ⟨2, ![2048, 768]⟩
abbrev S2048x2048 : Shape := ⟨2, ![2048, 2048]⟩
abbrev S768x2048 : Shape := ⟨2, ![768, 2048]⟩
abbrev S6144x2048 : Shape := ⟨2, ![6144, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x6144, .bf16⟩
  | .hbm, ⟨2, _⟩ => ⟨S6176x2048, .bf16⟩
  | .hbm, ⟨3, _⟩ => ⟨S6144x2048, .bf16⟩
  | .local _ .vmem, ⟨0, _⟩ => ⟨S2048x768, .bf16⟩
  | .local _ .vmem, ⟨1, _⟩ => ⟨S2048x768, .bf16⟩
  | .local _ .vmem, ⟨2, _⟩ => ⟨S2048x2048, .bf16⟩
  | .local _ .vmem, ⟨3, _⟩ => ⟨S2048x2048, .bf16⟩
  | .local _ .vmem, ⟨4, _⟩ => ⟨S768x2048, .bf16⟩
  | .local _ .vmem, ⟨5, _⟩ => ⟨S768x2048, .bf16⟩
  | .local _ .vmem, ⟨6, _⟩ => ⟨S768x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x2048 : Shape := ⟨2, ![8192, 2048]⟩
abbrev S8192x6144 : Shape := ⟨2, ![8192, 6144]⟩
abbrev S_ : Shape := ⟨0, ![]⟩
abbrev S2048x6144 : Shape := ⟨2, ![2048, 6144]⟩
abbrev S6144x2048 : Shape := ⟨2, ![6144, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x6144, .bf16⟩
  | .hbm, ⟨2, _⟩ => ⟨S8192x2048, .f32⟩
  | .hbm, ⟨3, _⟩ => ⟨S8192x6144, .f32⟩
  | .hbm, ⟨4, _⟩ => ⟨S_, .f32⟩
  | .hbm, ⟨5, _⟩ => ⟨S2048x6144, .f32⟩
  | .hbm, ⟨6, _⟩ => ⟨S8192x6144, .f32⟩
  | .hbm, ⟨7, _⟩ => ⟨S6144x2048, .f32⟩
  | .hbm, ⟨8, _⟩ => ⟨S2048x6144, .f32⟩
  | .hbm, ⟨9, _⟩ => ⟨S8192x2048, .f32⟩
  | .hbm, ⟨10, _⟩ => ⟨S6144x2048, .f32⟩
  | .hbm, ⟨11, _⟩ => ⟨S6144x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel14.lean ====
abbrev S1x2048x1544 : Shape := ⟨3, ![1, 2048, 1544]⟩
abbrev S4x1544x2048 : Shape := ⟨3, ![4, 1544, 2048]⟩
abbrev S2048x1544 : Shape := ⟨2, ![2048, 1544]⟩
abbrev S1544x2048 : Shape := ⟨2, ![1544, 2048]⟩
abbrev S1544x256 : Shape := ⟨2, ![1544, 256]⟩
abbrev S4x1544x256 : Shape := ⟨3, ![4, 1544, 256]⟩
abbrev S1x1544x256 : Shape := ⟨3, ![1, 1544, 256]⟩

abbrev nBuf : Space → Nat
  | .hbm => 22
  | .vmem => 16
  | .smem => 0
  | _ => 0

abbrev bufTy : (tb : Table) → Fin (tcTables nBuf tb) → BufTy
  | .hbm, ⟨0, _⟩ => ⟨S1x2048x1544, .f32⟩
  | .hbm, ⟨1, _⟩ => ⟨S1x2048x1544, .f32⟩
  | .hbm, ⟨2, _⟩ => ⟨S1x2048x1544, .f32⟩
  | .hbm, ⟨3, _⟩ => ⟨S4x1544x2048, .bf16⟩
  | .hbm, ⟨4, _⟩ => ⟨S2048x1544, .f32⟩
  | .hbm, ⟨5, _⟩ => ⟨S1544x2048, .f32⟩
  | .hbm, ⟨6, _⟩ => ⟨S2048x1544, .f32⟩
  | .hbm, ⟨7, _⟩ => ⟨S1544x2048, .f32⟩
  | .hbm, ⟨8, _⟩ => ⟨S2048x1544, .f32⟩
  | .hbm, ⟨9, _⟩ => ⟨S1544x2048, .f32⟩
  | .hbm, ⟨10, _⟩ => ⟨S1544x2048, .f32⟩
  | .hbm, ⟨11, _⟩ => ⟨S1544x2048, .f32⟩
  | .hbm, ⟨12, _⟩ => ⟨S1544x2048, .f32⟩
  | .hbm, ⟨13, _⟩ => ⟨S1544x2048, .f32⟩
  | .hbm, ⟨14, _⟩ => ⟨S2048x1544, .f32⟩
  | .hbm, ⟨15, _⟩ => ⟨S1x2048x1544, .f32⟩
  | .hbm, ⟨16, _⟩ => ⟨S2048x1544, .f32⟩
  | .hbm, ⟨17, _⟩ => ⟨S1x2048x1544, .f32⟩
  | .hbm, ⟨18, _⟩ => ⟨S2048x1544, .f32⟩
  | .hbm, ⟨19, _⟩ => ⟨S1x2048x1544, .f32⟩
  | .hbm, ⟨20, _⟩ => ⟨S2048x1544, .f32⟩
  | .hbm, ⟨21, _⟩ => ⟨S1x2048x1544, .f32⟩
  | .local _ .vmem, ⟨0, _⟩ => ⟨S1544x256, .f32⟩
  | .local _ .vmem, ⟨1, _⟩ => ⟨S1544x256, .f32⟩
  | .local _ .vmem, ⟨2, _⟩ => ⟨S1544x256, .f32⟩
  | .local _ .vmem, ⟨3, _⟩ => ⟨S1544x256, .f32⟩
  | .local _ .vmem, ⟨4, _⟩ => ⟨S1544x256, .f32⟩
  | .local _ .vmem, ⟨5, _⟩ => ⟨S1544x256, .f32⟩
  | .local _ .vmem, ⟨6, _⟩ => ⟨S4x1544x256, .bf16⟩
  | .local _ .vmem, ⟨7, _⟩ => ⟨S4x1544x256, .bf16⟩
  | .local _ .vmem, ⟨8, _⟩ => ⟨S1544x256, .f32⟩
  | .local _ .vmem, ⟨9, _⟩ => ⟨S1544x256, .f32⟩
  | .local _ .vmem, ⟨10, _⟩ => ⟨S1544x256, .f32⟩
  | .local _ .vmem, ⟨11, _⟩ => ⟨S1544x256, .f32⟩
  | .local _ .vmem, ⟨12, _⟩ => ⟨S1544x256, .f32⟩
  | .local _ .vmem, ⟨13, _⟩ => ⟨S1544x256, .f32⟩
  | .local _ .vmem, ⟨14, _⟩ => ⟨S1544x256, .f32⟩
  | .local _ .vmem, ⟨15, _⟩ => ⟨S1544x256, .f32⟩
  | _, _ => ⟨S1x2048x1544, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1544x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1544x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1544x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x1544x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1544x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1544x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1544x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1544x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference14Ideal.lean ====
abbrev S1x2048x1544 : Shape := ⟨3, ![1, 2048, 1544]⟩
abbrev S4x1544x2048 : Shape := ⟨3, ![4, 1544, 2048]⟩
abbrev S4x2048x1544 : Shape := ⟨3, ![4, 2048, 1544]⟩
abbrev S4x1x2048x1544 : Shape := ⟨4, ![4, 1, 2048, 1544]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S1x2048x1544, .f32⟩
  | .hbm, ⟨1, _⟩ => ⟨S1x2048x1544, .f32⟩
  | .hbm, ⟨2, _⟩ => ⟨S1x2048x1544, .f32⟩
  | .hbm, ⟨3, _⟩ => ⟨S4x1544x2048, .bf16⟩
  | .hbm, ⟨4, _⟩ => ⟨S4x2048x1544, .bf16⟩
  | .hbm, ⟨5, _⟩ => ⟨S4x1x2048x1544, .bf16⟩
  | .hbm, ⟨6, _⟩ => ⟨S4x1x2048x1544, .f32⟩
  | .hbm, ⟨7, _⟩ => ⟨S_, .f32⟩
  | .hbm, ⟨8, _⟩ => ⟨S1x2048x1544, .f32⟩
  | .hbm, ⟨9, _⟩ => ⟨S_, .f32⟩
  | .hbm, ⟨10, _⟩ => ⟨S1x2048x1544, .f32⟩
  | .hbm, ⟨11, _⟩ => ⟨S1x2048x1544, .f32⟩
  | .hbm, ⟨12, _⟩ => ⟨S_, .f32⟩
  | .hbm, ⟨13, _⟩ => ⟨S1x2048x1544, .f32⟩
  | .hbm, ⟨14, _⟩ => ⟨S1x2048x1544, .f32⟩
  | .hbm, ⟨15, _⟩ => ⟨S1x2048x1544, .f32⟩
  | .hbm, ⟨16, _⟩ => ⟨S_, .f32⟩
  | .hbm, ⟨17, _⟩ => ⟨S1x2048x1544, .f32⟩
  | .hbm, ⟨18, _⟩ => ⟨S1x2048x1544, .f32⟩
  | .hbm, ⟨19, _⟩ => ⟨S1x2048x1544, .f32⟩
  | .hbm, ⟨20, _⟩ => ⟨S_, .f32⟩
  | .hbm, ⟨21, _⟩ => ⟨S1x2048x1544, .f32⟩
  | .hbm, ⟨22, _⟩ => ⟨S1x2048x1544, .f32⟩
  | .hbm, ⟨23, _⟩ => ⟨S1x2048x1544, .f32⟩
  | .hbm, ⟨24, _⟩ => ⟨S_, .f32⟩
  | .hbm, ⟨25, _⟩ => ⟨S1x2048x1544, .f32⟩
  | .hbm, ⟨26, _⟩ => ⟨S1x2048x1544, .f32⟩
  | .hbm, ⟨27, _⟩ => ⟨S_, .f32⟩
  | .hbm, ⟨28, _⟩ => ⟨S1x2048x1544, .f32⟩
  | .hbm, ⟨29, _⟩ => ⟨S1x2048x1544, .f32⟩
  | .hbm, ⟨30, _⟩ => ⟨S1x2048x1544, .f32⟩
  | .hbm, ⟨31, _⟩ => ⟨S_, .f32⟩
  | .hbm, ⟨32, _⟩ => ⟨S1x2048x1544, .f32⟩
  | .hbm, ⟨33, _⟩ => ⟨S1x2048x1544, .f32⟩
  | .hbm, ⟨34, _⟩ => ⟨S1x2048x1544, .f32⟩
  | .hbm, ⟨35, _⟩ => ⟨S_, .f32⟩
  | .hbm, ⟨36, _⟩ => ⟨S1x2048x1544, .f32⟩
  | .hbm, ⟨37, _⟩ => ⟨S1x2048x1544, .f32⟩
  | .hbm, ⟨38, _⟩ => ⟨S1x2048x1544, .f32⟩
  | .hbm, ⟨39, _⟩ => ⟨S_, .f32⟩
  | .hbm, ⟨40, _⟩ => ⟨S1x2048x1544, .f32⟩
  | .hbm, ⟨41, _⟩ => ⟨S1x2048x1544, .f32⟩
  | _, _ => ⟨S1x2048x1544, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Kernel15.lean ====
abbrev S1x512x2048 : Shape := ⟨3, ![1, 512, 2048]⟩
abbrev S4x512x2048 : Shape := ⟨3, ![4, 512, 2048]⟩
abbrev S512x2048 : Shape := ⟨2, ![512, 2048]⟩
abbrev S256x2048 : Shape := ⟨2, ![256, 2048]⟩
abbrev S4x256x2048 : Shape := ⟨3, ![4, 256, 2048]⟩
abbrev S1x256x2048 : Shape := ⟨3, ![1, 256, 2048]⟩

abbrev nBuf : Space → Nat
  | .hbm => 15
  | .vmem => 16
  | .smem => 0
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S4x512x2048, .bf16⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S1x512x2048, .f32⟩
  | .hbm, ⟨12, _⟩ => ⟨S1x512x2048, .f32⟩
  | .hbm, ⟨13, _⟩ => ⟨S1x512x2048, .f32⟩
  | .hbm, ⟨14, _⟩ => ⟨S1x512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S4x256x2048, .bf16⟩
  | .local _ .vmem, ⟨7, _⟩ => ⟨S4x256x2048, .bf16⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S1x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference15Ideal.lean ====
abbrev S1x512x2048 : Shape := ⟨3, ![1, 512, 2048]⟩
abbrev S4x512x2048 : Shape := ⟨3, ![4, 512, 2048]⟩
abbrev S4x1x512x2048 : Shape := ⟨4, ![4, 1, 512, 2048]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S4x512x2048, .bf16⟩
  | .hbm, ⟨4, _⟩ => ⟨S4x1x512x2048, .bf16⟩
  | .hbm, ⟨5, _⟩ => ⟨S4x1x512x2048, .f32⟩
  | .hbm, ⟨6, _⟩ => ⟨S_, .f32⟩
  | .hbm, ⟨7, _⟩ => ⟨S1x512x2048, .f32⟩
  | .hbm, ⟨8, _⟩ => ⟨S_, .f32⟩
  | .hbm, ⟨9, _⟩ => ⟨S1x512x2048, .f32⟩
  | .hbm, ⟨10, _⟩ => ⟨S1x512x2048, .f32⟩
  | .hbm, ⟨11, _⟩ => ⟨S_, .f32⟩
  | .hbm, ⟨12, _⟩ => ⟨S1x512x2048, .f32⟩
  | .hbm, ⟨13, _⟩ => ⟨S1x512x2048, .f32⟩
  | .hbm, ⟨14, _⟩ => ⟨S1x512x2048, .f32⟩
  | .hbm, ⟨15, _⟩ => ⟨S_, .f32⟩
  | .hbm, ⟨16, _⟩ => ⟨S1x512x2048, .f32⟩
  | .hbm, ⟨17, _⟩ => ⟨S1x512x2048, .f32⟩
  | .hbm, ⟨18, _⟩ => ⟨S1x512x2048, .f32⟩
  | .hbm, ⟨19, _⟩ => ⟨S_, .f32⟩
  | .hbm, ⟨20, _⟩ => ⟨S1x512x2048, .f32⟩
  | .hbm, ⟨21, _⟩ => ⟨S1x512x2048, .f32⟩
  | .hbm, ⟨22, _⟩ => ⟨S1x512x2048, .f32⟩
  | .hbm, ⟨23, _⟩ => ⟨S_, .f32⟩
  | .hbm, ⟨24, _⟩ => ⟨S1x512x2048, .f32⟩
  | .hbm, ⟨25, _⟩ => ⟨S1x512x2048, .f32⟩
  | .hbm, ⟨26, _⟩ => ⟨S_, .f32⟩
  | .hbm, ⟨27, _⟩ => ⟨S1x512x2048, .f32⟩
  | .hbm, ⟨28, _⟩ => ⟨S1x512x2048, .f32⟩
  | .hbm, ⟨29, _⟩ => ⟨S1x512x2048, .f32⟩
  | .hbm, ⟨30, _⟩ => ⟨S_, .f32⟩
  | .hbm, ⟨31, _⟩ => ⟨S1x512x2048, .f32⟩
  | .hbm, ⟨32, _⟩ => ⟨S1x512x2048, .f32⟩
  | .hbm, ⟨33, _⟩ => ⟨S1x512x2048, .f32⟩
  | .hbm, ⟨34, _⟩ => ⟨S_, .f32⟩
  | .hbm, ⟨35, _⟩ => ⟨S1x512x2048, .f32⟩
  | .hbm, ⟨36, _⟩ => ⟨S1x512x2048, .f32⟩
  | .hbm, ⟨37, _⟩ => ⟨S1x512x2048, .f32⟩
  | .hbm, ⟨38, _⟩ => ⟨S_, .f32⟩
  | .hbm, ⟨39, _⟩ => ⟨S1x512x2048, .f32⟩
  | .hbm, ⟨40, _⟩ => ⟨S1x512x2048, .f32⟩
  | _, _ => ⟨S1x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel16.lean ====
abbrev S1x2048x1408 : Shape := ⟨3, ![1, 2048, 1408]⟩
abbrev S4x2048x1408 : Shape := ⟨3, ![4, 2048, 1408]⟩
abbrev S2048x1408 : Shape := ⟨2, ![2048, 1408]⟩
abbrev S256x1408 : Shape := ⟨2, ![256, 1408]⟩
abbrev S4x256x1408 : Shape := ⟨3, ![4, 256, 1408]⟩
abbrev S1x256x1408 : Shape := ⟨3, ![1, 256, 1408]⟩

abbrev nBuf : Space → Nat
  | .hbm => 15
  | .vmem => 16
  | .smem => 0
  | _ => 0

abbrev bufTy : (tb : Table) → Fin (tcTables nBuf tb) → BufTy
  | .hbm, ⟨0, _⟩ => ⟨S1x2048x1408, .f32⟩
  | .hbm, ⟨1, _⟩ => ⟨S1x2048x1408, .f32⟩
  | .hbm, ⟨2, _⟩ => ⟨S1x2048x1408, .f32⟩
  | .hbm, ⟨3, _⟩ => ⟨S4x2048x1408, .bf16⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .hbm, ⟨9, _⟩ => ⟨S2048x1408, .f32⟩
  | .hbm, ⟨10, _⟩ => ⟨S2048x1408, .f32⟩
  | .hbm, ⟨11, _⟩ => ⟨S1x2048x1408, .f32⟩
  | .hbm, ⟨12, _⟩ => ⟨S1x2048x1408, .f32⟩
  | .hbm, ⟨13, _⟩ => ⟨S1x2048x1408, .f32⟩
  | .hbm, ⟨14, _⟩ => ⟨S1x2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S4x256x1408, .bf16⟩
  | .local _ .vmem, ⟨7, _⟩ => ⟨S4x256x1408, .bf16⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S1x2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference16Ideal.lean ====
abbrev S1x2048x1408 : Shape := ⟨3, ![1, 2048, 1408]⟩
abbrev S4x2048x1408 : Shape := ⟨3, ![4, 2048, 1408]⟩
abbrev S4x1x2048x1408 : Shape := ⟨4, ![4, 1, 2048, 1408]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1x2048x1408, .f32⟩
  | .hbm, ⟨1, _⟩ => ⟨S1x2048x1408, .f32⟩
  | .hbm, ⟨2, _⟩ => ⟨S1x2048x1408, .f32⟩
  | .hbm, ⟨3, _⟩ => ⟨S4x2048x1408, .bf16⟩
  | .hbm, ⟨4, _⟩ => ⟨S4x1x2048x1408, .bf16⟩
  | .hbm, ⟨5, _⟩ => ⟨S4x1x2048x1408, .f32⟩
  | .hbm, ⟨6, _⟩ => ⟨S_, .f32⟩
  | .hbm, ⟨7, _⟩ => ⟨S1x2048x1408, .f32⟩
  | .hbm, ⟨8, _⟩ => ⟨S_, .f32⟩
  | .hbm, ⟨9, _⟩ => ⟨S1x2048x1408, .f32⟩
  | .hbm, ⟨10, _⟩ => ⟨S1x2048x1408, .f32⟩
  | .hbm, ⟨11, _⟩ => ⟨S_, .f32⟩
  | .hbm, ⟨12, _⟩ => ⟨S1x2048x1408, .f32⟩
  | .hbm, ⟨13, _⟩ => ⟨S1x2048x1408, .f32⟩
  | .hbm, ⟨14, _⟩ => ⟨S1x2048x1408, .f32⟩
  | .hbm, ⟨15, _⟩ => ⟨S_, .f32⟩
  | .hbm, ⟨16, _⟩ => ⟨S1x2048x1408, .f32⟩
  | .hbm, ⟨17, _⟩ => ⟨S1x2048x1408, .f32⟩
  | .hbm, ⟨18, _⟩ => ⟨S1x2048x1408, .f32⟩
  | .hbm, ⟨19, _⟩ => ⟨S_, .f32⟩
  | .hbm, ⟨20, _⟩ => ⟨S1x2048x1408, .f32⟩
  | .hbm, ⟨21, _⟩ => ⟨S1x2048x1408, .f32⟩
  | .hbm, ⟨22, _⟩ => ⟨S1x2048x1408, .f32⟩
  | .hbm, ⟨23, _⟩ => ⟨S_, .f32⟩
  | .hbm, ⟨24, _⟩ => ⟨S1x2048x1408, .f32⟩
  | .hbm, ⟨25, _⟩ => ⟨S1x2048x1408, .f32⟩
  | .hbm, ⟨26, _⟩ => ⟨S_, .f32⟩
  | .hbm, ⟨27, _⟩ => ⟨S1x2048x1408, .f32⟩
  | .hbm, ⟨28, _⟩ => ⟨S1x2048x1408, .f32⟩
  | .hbm, ⟨29, _⟩ => ⟨S1x2048x1408, .f32⟩
  | .hbm, ⟨30, _⟩ => ⟨S_, .f32⟩
  | .hbm, ⟨31, _⟩ => ⟨S1x2048x1408, .f32⟩
  | .hbm, ⟨32, _⟩ => ⟨S1x2048x1408, .f32⟩
  | .hbm, ⟨33, _⟩ => ⟨S1x2048x1408, .f32⟩
  | .hbm, ⟨34, _⟩ => ⟨S_, .f32⟩
  | .hbm, ⟨35, _⟩ => ⟨S1x2048x1408, .f32⟩
  | .hbm, ⟨36, _⟩ => ⟨S1x2048x1408, .f32⟩
  | .hbm, ⟨37, _⟩ => ⟨S1x2048x1408, .f32⟩
  | .hbm, ⟨38, _⟩ => ⟨S_, .f32⟩
  | .hbm, ⟨39, _⟩ => ⟨S1x2048x1408, .f32⟩
  | .hbm, ⟨40, _⟩ => ⟨S1x2048x1408, .f32⟩
  | _, _ => ⟨S1x2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel17.lean ====
abbrev S1x1408x2048 : Shape := ⟨3, ![1, 1408, 2048]⟩
abbrev S4x1408x2048 : Shape := ⟨3, ![4, 1408, 2048]⟩
abbrev S1408x2048 : Shape := ⟨2, ![1408, 2048]⟩
abbrev S176x2048 : Shape := ⟨2, ![176, 2048]⟩
abbrev S4x176x2048 : Shape := ⟨3, ![4, 176, 2048]⟩
abbrev S1x176x2048 : Shape := ⟨3, ![1, 176, 2048]⟩

abbrev nBuf : Space → Nat
  | .hbm => 15
  | .vmem => 16
  | .smem => 0
  | _ => 0

abbrev bufTy : (tb : Table) → Fin (tcTables nBuf tb) → BufTy
  | .hbm, ⟨0, _⟩ => ⟨S1x1408x2048, .f32⟩
  | .hbm, ⟨1, _⟩ => ⟨S1x1408x2048, .f32⟩
  | .hbm, ⟨2, _⟩ => ⟨S1x1408x2048, .f32⟩
  | .hbm, ⟨3, _⟩ => ⟨S4x1408x2048, .bf16⟩
  | .hbm, ⟨4, _⟩ => ⟨S1408x2048, .f32⟩
  | .hbm, ⟨5, _⟩ => ⟨S1408x2048, .f32⟩
  | .hbm, ⟨6, _⟩ => ⟨S1408x2048, .f32⟩
  | .hbm, ⟨7, _⟩ => ⟨S1408x2048, .f32⟩
  | .hbm, ⟨8, _⟩ => ⟨S1408x2048, .f32⟩
  | .hbm, ⟨9, _⟩ => ⟨S1408x2048, .f32⟩
  | .hbm, ⟨10, _⟩ => ⟨S1408x2048, .f32⟩
  | .hbm, ⟨11, _⟩ => ⟨S1x1408x2048, .f32⟩
  | .hbm, ⟨12, _⟩ => ⟨S1x1408x2048, .f32⟩
  | .hbm, ⟨13, _⟩ => ⟨S1x1408x2048, .f32⟩
  | .hbm, ⟨14, _⟩ => ⟨S1x1408x2048, .f32⟩
  | .local _ .vmem, ⟨0, _⟩ => ⟨S176x2048, .f32⟩
  | .local _ .vmem, ⟨1, _⟩ => ⟨S176x2048, .f32⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S4x176x2048, .bf16⟩
  | .local _ .vmem, ⟨7, _⟩ => ⟨S4x176x2048, .bf16⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | _, _ => ⟨S1x1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x176x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference17Ideal.lean ====
abbrev S1x1408x2048 : Shape := ⟨3, ![1, 1408, 2048]⟩
abbrev S4x1408x2048 : Shape := ⟨3, ![4, 1408, 2048]⟩
abbrev S4x1x1408x2048 : Shape := ⟨4, ![4, 1, 1408, 2048]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1x1408x2048, .f32⟩
  | .hbm, ⟨1, _⟩ => ⟨S1x1408x2048, .f32⟩
  | .hbm, ⟨2, _⟩ => ⟨S1x1408x2048, .f32⟩
  | .hbm, ⟨3, _⟩ => ⟨S4x1408x2048, .bf16⟩
  | .hbm, ⟨4, _⟩ => ⟨S4x1x1408x2048, .bf16⟩
  | .hbm, ⟨5, _⟩ => ⟨S4x1x1408x2048, .f32⟩
  | .hbm, ⟨6, _⟩ => ⟨S_, .f32⟩
  | .hbm, ⟨7, _⟩ => ⟨S1x1408x2048, .f32⟩
  | .hbm, ⟨8, _⟩ => ⟨S_, .f32⟩
  | .hbm, ⟨9, _⟩ => ⟨S1x1408x2048, .f32⟩
  | .hbm, ⟨10, _⟩ => ⟨S1x1408x2048, .f32⟩
  | .hbm, ⟨11, _⟩ => ⟨S_, .f32⟩
  | .hbm, ⟨12, _⟩ => ⟨S1x1408x2048, .f32⟩
  | .hbm, ⟨13, _⟩ => ⟨S1x1408x2048, .f32⟩
  | .hbm, ⟨14, _⟩ => ⟨S1x1408x2048, .f32⟩
  | .hbm, ⟨15, _⟩ => ⟨S_, .f32⟩
  | .hbm, ⟨16, _⟩ => ⟨S1x1408x2048, .f32⟩
  | .hbm, ⟨17, _⟩ => ⟨S1x1408x2048, .f32⟩
  | .hbm, ⟨18, _⟩ => ⟨S1x1408x2048, .f32⟩
  | .hbm, ⟨19, _⟩ => ⟨S_, .f32⟩
  | .hbm, ⟨20, _⟩ => ⟨S1x1408x2048, .f32⟩
  | .hbm, ⟨21, _⟩ => ⟨S1x1408x2048, .f32⟩
  | .hbm, ⟨22, _⟩ => ⟨S1x1408x2048, .f32⟩
  | .hbm, ⟨23, _⟩ => ⟨S_, .f32⟩
  | .hbm, ⟨24, _⟩ => ⟨S1x1408x2048, .f32⟩
  | .hbm, ⟨25, _⟩ => ⟨S1x1408x2048, .f32⟩
  | .hbm, ⟨26, _⟩ => ⟨S_, .f32⟩
  | .hbm, ⟨27, _⟩ => ⟨S1x1408x2048, .f32⟩
  | .hbm, ⟨28, _⟩ => ⟨S1x1408x2048, .f32⟩
  | .hbm, ⟨29, _⟩ => ⟨S1x1408x2048, .f32⟩
  | .hbm, ⟨30, _⟩ => ⟨S_, .f32⟩
  | .hbm, ⟨31, _⟩ => ⟨S1x1408x2048, .f32⟩
  | .hbm, ⟨32, _⟩ => ⟨S1x1408x2048, .f32⟩
  | .hbm, ⟨33, _⟩ => ⟨S1x1408x2048, .f32⟩
  | .hbm, ⟨34, _⟩ => ⟨S_, .f32⟩
  | .hbm, ⟨35, _⟩ => ⟨S1x1408x2048, .f32⟩
  | .hbm, ⟨36, _⟩ => ⟨S1x1408x2048, .f32⟩
  | .hbm, ⟨37, _⟩ => ⟨S1x1408x2048, .f32⟩
  | .hbm, ⟨38, _⟩ => ⟨S_, .f32⟩
  | .hbm, ⟨39, _⟩ => ⟨S1x1408x2048, .f32⟩
  | .hbm, ⟨40, _⟩ => ⟨S1x1408x2048, .f32⟩
  | _, _ => ⟨S1x1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel18.lean ====
abbrev S1x2048 : Shape := ⟨2, ![1, 2048]⟩
abbrev S1x16x128 : Shape := ⟨3, ![1, 16, 128]⟩
abbrev S1x512 : Shape := ⟨2, ![1, 512]⟩
abbrev S1x256 : Shape := ⟨2, ![1, 256]⟩
abbrev S1x1024 : Shape := ⟨2, ![1, 1024]⟩
abbrev S1x3x1408 : Shape := ⟨3, ![1, 3, 1408]⟩
abbrev S1x5632 : Shape := ⟨2, ![1, 5632]⟩
abbrev S2048 : Shape := ⟨1, ![2048]⟩
abbrev S512 : Shape := ⟨1, ![512]⟩
abbrev S256 : Shape := ⟨1, ![256]⟩
abbrev S1024 : Shape := ⟨1, ![1024]⟩
abbrev S4224 : Shape := ⟨1, ![4224]⟩
abbrev S5632 : Shape := ⟨1, ![5632]⟩
abbrev S22400 : Shape := ⟨1, ![22400]⟩
abbrev S175x128 : Shape := ⟨2, ![175, 128]⟩
abbrev S_ : Shape := ⟨0, ![]⟩
abbrev S176x128 : Shape := ⟨2, ![176, 128]⟩
abbrev S22528 : Shape := ⟨1, ![22528]⟩

abbrev nBuf : Space → Nat
  | .hbm => 196
  | .vmem => 8
  | .smem => 0
  | _ => 0

abbrev hbmTy0_0 (i : Nat) : BufTy := match i % 128 with
  | 0 => ⟨S1x2048, .f32⟩
  | 1 => ⟨S1x16x128, .f32⟩
  | 2 => ⟨S1x512, .f32⟩
  | 3 => ⟨S1x16x128, .f32⟩
  | 4 => ⟨S1x512, .f32⟩
  | 5 => ⟨S1x256, .f32⟩
  | 6 => ⟨S1x1024, .f32⟩
  | 7 => ⟨S1x2048, .f32⟩
  | 8 => ⟨S1x3x1408, .f32⟩
  | 9 => ⟨S1x5632, .f32⟩
  | 10 => ⟨S2048, .f32⟩
  | 11 => ⟨S1x2048, .f32⟩
  | 12 => ⟨S1x16x128, .f32⟩
  | 13 => ⟨S1x512, .f32⟩
  | 14 => ⟨S1x16x128, .f32⟩
  | 15 => ⟨S1x512, .f32⟩
  | 16 => ⟨S1x256, .f32⟩
  | 17 => ⟨S1x1024, .f32⟩
  | 18 => ⟨S1x2048, .f32⟩
  | 19 => ⟨S1x3x1408, .f32⟩
  | 20 => ⟨S1x5632, .f32⟩
  | 21 => ⟨S2048, .f32⟩
  | 22 => ⟨S1x2048, .f32⟩
  | 23 => ⟨S1x16x128, .f32⟩
  | 24 => ⟨S1x512, .f32⟩
  | 25 => ⟨S1x16x128, .f32⟩
  | 26 => ⟨S1x512, .f32⟩
  | 27 => ⟨S1x256, .f32⟩
  | 28 => ⟨S1x1024, .f32⟩
  | 29 => ⟨S1x2048, .f32⟩
  | 30 => ⟨S1x3x1408, .f32⟩
  | 31 => ⟨S1x5632, .f32⟩
  | 32 => ⟨S2048, .f32⟩
  | 33 => ⟨S1x2048, .f32⟩
  | 34 => ⟨S1x16x128, .f32⟩
  | 35 => ⟨S1x512, .f32⟩
  | 36 => ⟨S1x16x128, .f32⟩
  | 37 => ⟨S1x512, .f32⟩
  | 38 => ⟨S1x256, .f32⟩
  | 39 => ⟨S1x1024, .f32⟩
  | 40 => ⟨S1x2048, .f32⟩
  | 41 => ⟨S1x3x1408, .f32⟩
  | 42 => ⟨S1x5632, .f32⟩
  | 43 => ⟨S2048, .f32⟩
  | 44 => ⟨S2048, .f32⟩
  | 45 => ⟨S2048, .f32⟩
  | 46 => ⟨S512, .f32⟩
  | 47 => ⟨S2048, .f32⟩
  | 48 => ⟨S512, .f32⟩
  | 49 => ⟨S256, .f32⟩
  | 50 => ⟨S1024, .f32⟩
  | 51 => ⟨S2048, .f32⟩
  | 52 => ⟨S4224, .f32⟩
  | 53 => ⟨S5632, .f32⟩
  | 54 => ⟨S22400, .f32⟩
  | 55 => ⟨S175x128, .f32⟩
  | 56 => ⟨S_, .i32⟩
  | 57 => ⟨S_, .f32⟩
  | 58 => ⟨S176x128, .f32⟩
  | 59 => ⟨S2048, .f32⟩
  | 60 => ⟨S2048, .f32⟩
  | 61 => ⟨S512, .f32⟩
  | 62 => ⟨S2048, .f32⟩
  | 63 => ⟨S512, .f32⟩
  | 64 => ⟨S256, .f32⟩
  | 65 => ⟨S1024, .f32⟩
  | 66 => ⟨S2048, .f32⟩
  | 67 => ⟨S4224, .f32⟩
  | 68 => ⟨S5632, .f32⟩
  | 69 => ⟨S22400, .f32⟩
  | 70 => ⟨S175x128, .f32⟩
  | 71 => ⟨S_, .i32⟩
  | 72 => ⟨S_, .f32⟩
  | 73 => ⟨S176x128, .f32⟩
  | 74 => ⟨S2048, .f32⟩
  | 75 => ⟨S2048, .f32⟩
  | 76 => ⟨S512, .f32⟩
  | 77 => ⟨S2048, .f32⟩
  | 78 => ⟨S512, .f32⟩
  | 79 => ⟨S256, .f32⟩
  | 80 => ⟨S1024, .f32⟩
  | 81 => ⟨S2048, .f32⟩
  | 82 => ⟨S4224, .f32⟩
  | 83 => ⟨S5632, .f32⟩
  | 84 => ⟨S22400, .f32⟩
  | 85 => ⟨S175x128, .f32⟩
  | 86 => ⟨S_, .i32⟩
  | 87 => ⟨S_, .f32⟩
  | 88 => ⟨S176x128, .f32⟩
  | 89 => ⟨S2048, .f32⟩
  | 90 => ⟨S2048, .f32⟩
  | 91 => ⟨S512, .f32⟩
  | 92 => ⟨S2048, .f32⟩
  | 93 => ⟨S512, .f32⟩
  | 94 => ⟨S256, .f32⟩
  | 95 => ⟨S1024, .f32⟩
  | 96 => ⟨S2048, .f32⟩
  | 97 => ⟨S4224, .f32⟩
  | 98 => ⟨S5632, .f32⟩
  | 99 => ⟨S22400, .f32⟩
  | 100 => ⟨S175x128, .f32⟩
  | 101 => ⟨S_, .i32⟩
  | 102 => ⟨S_, .f32⟩
  | 103 => ⟨S176x128, .f32⟩
  | 104 => ⟨S176x128, .f32⟩
  | 105 => ⟨S176x128, .f32⟩
  | 106 => ⟨S176x128, .f32⟩
  | 107 => ⟨S176x128, .f32⟩
  | 108 => ⟨S22528, .f32⟩
  | 109 => ⟨S2048, .f32⟩
  | 110 => ⟨S1x2048, .f32⟩
  | 111 => ⟨S2048, .f32⟩
  | 112 => ⟨S1x16x128, .f32⟩
  | 113 => ⟨S512, .f32⟩
  | 114 => ⟨S1x512, .f32⟩
  | 115 => ⟨S2048, .f32⟩
  | 116 => ⟨S1x16x128, .f32⟩
  | 117 => ⟨S512, .f32⟩
  | 118 => ⟨S1x512, .f32⟩
  | 119 => ⟨S256, .f32⟩
  | 120 => ⟨S1x256, .f32⟩
  | 121 => ⟨S1024, .f32⟩
  | 122 => ⟨S1x1024, .f32⟩
  | 123 => ⟨S2048, .f32⟩
  | 124 => ⟨S1x2048, .f32⟩
  | 125 => ⟨S4224, .f32⟩
  | 126 => ⟨S1x3x1408, .f32⟩
  | 127 => ⟨S5632, .f32⟩
  | _ => ⟨S1x2048, .f32⟩

abbrev hbmTy0_1 (i : Nat) : BufTy := match i % 128 with
  | 0 => ⟨S1x5632, .f32⟩
  | 1 => ⟨S2048, .f32⟩
  | 2 => ⟨S22528, .f32⟩
  | 3 => ⟨S2048, .f32⟩
  | 4 => ⟨S1x2048, .f32⟩
  | 5 => ⟨S2048, .f32⟩
  | 6 => ⟨S1x16x128, .f32⟩
  | 7 => ⟨S512, .f32⟩
  | 8 => ⟨S1x512, .f32⟩
  | 9 => ⟨S2048, .f32⟩
  | 10 => ⟨S1x16x128, .f32⟩
  | 11 => ⟨S512, .f32⟩
  | 12 => ⟨S1x512, .f32⟩
  | 13 => ⟨S256, .f32⟩
  | 14 => ⟨S1x256, .f32⟩
  | 15 => ⟨S1024, .f32⟩
  | 16 => ⟨S1x1024, .f32⟩
  | 17 => ⟨S2048, .f32⟩
  | 18 => ⟨S1x2048, .f32⟩
  | 19 => ⟨S4224, .f32⟩
  | 20 => ⟨S1x3x1408, .f32⟩
  | 21 => ⟨S5632, .f32⟩
  | 22 => ⟨S1x5632, .f32⟩
  | 23 => ⟨S2048, .f32⟩
  | 24 => ⟨S22528, .f32⟩
  | 25 => ⟨S2048, .f32⟩
  | 26 => ⟨S1x2048, .f32⟩
  | 27 => ⟨S2048, .f32⟩
  | 28 => ⟨S1x16x128, .f32⟩
  | 29 => ⟨S512, .f32⟩
  | 30 => ⟨S1x512, .f32⟩
  | 31 => ⟨S2048, .f32⟩
  | 32 => ⟨S1x16x128, .f32⟩
  | 33 => ⟨S512, .f32⟩
  | 34 => ⟨S1x512, .f32⟩
  | 35 => ⟨S256, .f32⟩
  | 36 => ⟨S1x256, .f32⟩
  | 37 => ⟨S1024, .f32⟩
  | 38 => ⟨S1x1024, .f32⟩
  | 39 => ⟨S2048, .f32⟩
  | 40 => ⟨S1x2048, .f32⟩
  | 41 => ⟨S4224, .f32⟩
  | 42 => ⟨S1x3x1408, .f32⟩
  | 43 => ⟨S5632, .f32⟩
  | 44 => ⟨S1x5632, .f32⟩
  | 45 => ⟨S2048, .f32⟩
  | 46 => ⟨S22528, .f32⟩
  | 47 => ⟨S2048, .f32⟩
  | 48 => ⟨S1x2048, .f32⟩
  | 49 => ⟨S2048, .f32⟩
  | 50 => ⟨S1x16x128, .f32⟩
  | 51 => ⟨S512, .f32⟩
  | 52 => ⟨S1x512, .f32⟩
  | 53 => ⟨S2048, .f32⟩
  | 54 => ⟨S1x16x128, .f32⟩
  | 55 => ⟨S512, .f32⟩
  | 56 => ⟨S1x512, .f32⟩
  | 57 => ⟨S256, .f32⟩
  | 58 => ⟨S1x256, .f32⟩
  | 59 => ⟨S1024, .f32⟩
  | 60 => ⟨S1x1024, .f32⟩
  | 61 => ⟨S2048, .f32⟩
  | 62 => ⟨S1x2048, .f32⟩
  | 63 => ⟨S4224, .f32⟩
  | 64 => ⟨S1x3x1408, .f32⟩
  | 65 => ⟨S5632, .f32⟩
  | 66 => ⟨S1x5632, .f32⟩
  | 67 => ⟨S2048, .f32⟩
  | _ => ⟨S1x2048, .f32⟩

abbrev hbmTy (i : Nat) : BufTy := match i / 128 with
  | 0 => hbmTy0_0 i
  | 1 => hbmTy0_1 i
  | _ => ⟨S1x2048, .f32⟩

abbrev bufTy : (tb : Table) → Fin (tcTables nBuf tb) → BufTy
  | .hbm, ⟨i, _⟩ => hbmTy i
  | .local _ .vmem, ⟨0, _⟩ => ⟨S176x128, .f32⟩
  | .local _ .vmem, ⟨1, _⟩ => ⟨S176x128, .f32⟩
  | .local _ .vmem, ⟨2, _⟩ => ⟨S176x128, .f32⟩
  | .local _ .vmem, ⟨3, _⟩ => ⟨S176x128, .f32⟩
  | .local _ .vmem, ⟨4, _⟩ => ⟨S176x128, .f32⟩
  | .local _ .vmem, ⟨5, _⟩ => ⟨S176x128, .f32⟩
  | .local _ .vmem, ⟨6, _⟩ => ⟨S176x128, .f32⟩
  | .local _ .vmem, ⟨7, _⟩ => ⟨S176x128, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_v0 : Ref sig .tc := ⟨.hbm, 44, rfl⟩
abbrev main_v1 : Ref sig .tc := ⟨.hbm, 45, rfl⟩
abbrev main_v2 : Ref sig .tc := ⟨.hbm, 46, rfl⟩
abbrev main_v3 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_c : Ref sig .tc := ⟨.hbm, 56, rfl⟩
abbrev main_call0_v0 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_c_0 : Ref sig .tc := ⟨.hbm, 71, rfl⟩
abbrev main_call1_v0 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_c_1 : Ref sig .tc := ⟨.hbm, 86, rfl⟩
abbrev main_call2_v0 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_c_2 : Ref sig .tc := ⟨.hbm, 101, rfl⟩
abbrev main_call3_v0 : Ref sig .tc := ⟨.hbm, 102, rfl⟩
abbrev main_v51 : Ref sig .tc := ⟨.hbm, 103, rfl⟩
abbrev main_v52_0 : Ref sig .tc := ⟨.hbm, 104, rfl⟩
abbrev main_v52_1 : Ref sig .tc := ⟨.hbm, 105, rfl⟩
abbrev main_v52_2 : Ref sig .tc := ⟨.hbm, 106, rfl⟩
abbrev main_v52_3 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S176x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S176x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S176x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S176x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S176x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S176x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S176x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S176x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference18Ideal.lean ====
abbrev S1x2048 : Shape := ⟨2, ![1, 2048]⟩
abbrev S1x16x128 : Shape := ⟨3, ![1, 16, 128]⟩
abbrev S1x512 : Shape := ⟨2, ![1, 512]⟩
abbrev S1x256 : Shape := ⟨2, ![1, 256]⟩
abbrev S1x1024 : Shape := ⟨2, ![1, 1024]⟩
abbrev S1x3x1408 : Shape := ⟨3, ![1, 3, 1408]⟩
abbrev S1x5632 : Shape := ⟨2, ![1, 5632]⟩
abbrev S2048 : Shape := ⟨1, ![2048]⟩
abbrev S_ : Shape := ⟨0, ![]⟩

abbrev nBuf : Space → Nat
  | .hbm => 407
  | .vmem => 0
  | .smem => 0
  | _ => 0

abbrev hbmTy0_0 (i : Nat) : BufTy := match i % 128 with
  | 0 => ⟨S1x2048, .f32⟩
  | 1 => ⟨S1x16x128, .f32⟩
  | 2 => ⟨S1x512, .f32⟩
  | 3 => ⟨S1x16x128, .f32⟩
  | 4 => ⟨S1x512, .f32⟩
  | 5 => ⟨S1x256, .f32⟩
  | 6 => ⟨S1x1024, .f32⟩
  | 7 => ⟨S1x2048, .f32⟩
  | 8 => ⟨S1x3x1408, .f32⟩
  | 9 => ⟨S1x5632, .f32⟩
  | 10 => ⟨S2048, .f32⟩
  | 11 => ⟨S1x2048, .f32⟩
  | 12 => ⟨S1x16x128, .f32⟩
  | 13 => ⟨S1x512, .f32⟩
  | 14 => ⟨S1x16x128, .f32⟩
  | 15 => ⟨S1x512, .f32⟩
  | 16 => ⟨S1x256, .f32⟩
  | 17 => ⟨S1x1024, .f32⟩
  | 18 => ⟨S1x2048, .f32⟩
  | 19 => ⟨S1x3x1408, .f32⟩
  | 20 => ⟨S1x5632, .f32⟩
  | 21 => ⟨S2048, .f32⟩
  | 22 => ⟨S1x2048, .f32⟩
  | 23 => ⟨S1x16x128, .f32⟩
  | 24 => ⟨S1x512, .f32⟩
  | 25 => ⟨S1x16x128, .f32⟩
  | 26 => ⟨S1x512, .f32⟩
  | 27 => ⟨S1x256, .f32⟩
  | 28 => ⟨S1x1024, .f32⟩
  | 29 => ⟨S1x2048, .f32⟩
  | 30 => ⟨S1x3x1408, .f32⟩
  | 31 => ⟨S1x5632, .f32⟩
  | 32 => ⟨S2048, .f32⟩
  | 33 => ⟨S1x2048, .f32⟩
  | 34 => ⟨S1x16x128, .f32⟩
  | 35 => ⟨S1x512, .f32⟩
  | 36 => ⟨S1x16x128, .f32⟩
  | 37 => ⟨S1x512, .f32⟩
  | 38 => ⟨S1x256, .f32⟩
  | 39 => ⟨S1x1024, .f32⟩
  | 40 => ⟨S1x2048, .f32⟩
  | 41 => ⟨S1x3x1408, .f32⟩
  | 42 => ⟨S1x5632, .f32⟩
  | 43 => ⟨S2048, .f32⟩
  | 44 => ⟨S_, .f32⟩
  | 45 => ⟨S1x2048, .f32⟩
  | 46 => ⟨S1x2048, .f32⟩
  | 47 => ⟨S_, .f32⟩
  | 48 => ⟨S1x2048, .f32⟩
  | 49 => ⟨S1x2048, .f32⟩
  | 50 => ⟨S1x2048, .f32⟩
  | 51 => ⟨S_, .f32⟩
  | 52 => ⟨S1x2048, .f32⟩
  | 53 => ⟨S1x2048, .f32⟩
  | 54 => ⟨S1x2048, .f32⟩
  | 55 => ⟨S_, .f32⟩
  | 56 => ⟨S1x2048, .f32⟩
  | 57 => ⟨S1x2048, .f32⟩
  | 58 => ⟨S1x2048, .f32⟩
  | 59 => ⟨S_, .f32⟩
  | 60 => ⟨S1x2048, .f32⟩
  | 61 => ⟨S1x2048, .f32⟩
  | 62 => ⟨S_, .f32⟩
  | 63 => ⟨S1x2048, .f32⟩
  | 64 => ⟨S1x2048, .f32⟩
  | 65 => ⟨S1x2048, .f32⟩
  | 66 => ⟨S_, .f32⟩
  | 67 => ⟨S1x2048, .f32⟩
  | 68 => ⟨S1x2048, .f32⟩
  | 69 => ⟨S1x2048, .f32⟩
  | 70 => ⟨S_, .f32⟩
  | 71 => ⟨S1x2048, .f32⟩
  | 72 => ⟨S1x2048, .f32⟩
  | 73 => ⟨S1x2048, .f32⟩
  | 74 => ⟨S_, .f32⟩
  | 75 => ⟨S1x2048, .f32⟩
  | 76 => ⟨S1x2048, .f32⟩
  | 77 => ⟨S_, .f32⟩
  | 78 => ⟨S1x16x128, .f32⟩
  | 79 => ⟨S1x16x128, .f32⟩
  | 80 => ⟨S_, .f32⟩
  | 81 => ⟨S1x16x128, .f32⟩
  | 82 => ⟨S1x16x128, .f32⟩
  | 83 => ⟨S1x16x128, .f32⟩
  | 84 => ⟨S_, .f32⟩
  | 85 => ⟨S1x16x128, .f32⟩
  | 86 => ⟨S1x16x128, .f32⟩
  | 87 => ⟨S1x16x128, .f32⟩
  | 88 => ⟨S_, .f32⟩
  | 89 => ⟨S1x16x128, .f32⟩
  | 90 => ⟨S1x16x128, .f32⟩
  | 91 => ⟨S1x16x128, .f32⟩
  | 92 => ⟨S_, .f32⟩
  | 93 => ⟨S1x16x128, .f32⟩
  | 94 => ⟨S1x16x128, .f32⟩
  | 95 => ⟨S_, .f32⟩
  | 96 => ⟨S1x16x128, .f32⟩
  | 97 => ⟨S1x16x128, .f32⟩
  | 98 => ⟨S1x16x128, .f32⟩
  | 99 => ⟨S_, .f32⟩
  | 100 => ⟨S1x16x128, .f32⟩
  | 101 => ⟨S1x16x128, .f32⟩
  | 102 => ⟨S1x16x128, .f32⟩
  | 103 => ⟨S_, .f32⟩
  | 104 => ⟨S1x16x128, .f32⟩
  | 105 => ⟨S1x16x128, .f32⟩
  | 106 => ⟨S1x16x128, .f32⟩
  | 107 => ⟨S_, .f32⟩
  | 108 => ⟨S1x16x128, .f32⟩
  | 109 => ⟨S1x16x128, .f32⟩
  | 110 => ⟨S_, .f32⟩
  | 111 => ⟨S1x512, .f32⟩
  | 112 => ⟨S1x512, .f32⟩
  | 113 => ⟨S_, .f32⟩
  | 114 => ⟨S1x512, .f32⟩
  | 115 => ⟨S1x512, .f32⟩
  | 116 => ⟨S1x512, .f32⟩
  | 117 => ⟨S_, .f32⟩
  | 118 => ⟨S1x512, .f32⟩
  | 119 => ⟨S1x512, .f32⟩
  | 120 => ⟨S1x512, .f32⟩
  | 121 => ⟨S_, .f32⟩
  | 122 => ⟨S1x512, .f32⟩
  | 123 => ⟨S1x512, .f32⟩
  | 124 => ⟨S1x512, .f32⟩
  | 125 => ⟨S_, .f32⟩
  | 126 => ⟨S1x512, .f32⟩
  | 127 => ⟨S1x512, .f32⟩
  | _ => ⟨S1x2048, .f32⟩

abbrev hbmTy0_1 (i : Nat) : BufTy := match i % 128 with
  | 0 => ⟨S_, .f32⟩
  | 1 => ⟨S1x512, .f32⟩
  | 2 => ⟨S1x512, .f32⟩
  | 3 => ⟨S1x512, .f32⟩
  | 4 => ⟨S_, .f32⟩
  | 5 => ⟨S1x512, .f32⟩
  | 6 => ⟨S1x512, .f32⟩
  | 7 => ⟨S1x512, .f32⟩
  | 8 => ⟨S_, .f32⟩
  | 9 => ⟨S1x512, .f32⟩
  | 10 => ⟨S1x512, .f32⟩
  | 11 => ⟨S1x512, .f32⟩
  | 12 => ⟨S_, .f32⟩
  | 13 => ⟨S1x512, .f32⟩
  | 14 => ⟨S1x512, .f32⟩
  | 15 => ⟨S_, .f32⟩
  | 16 => ⟨S1x16x128, .f32⟩
  | 17 => ⟨S1x16x128, .f32⟩
  | 18 => ⟨S_, .f32⟩
  | 19 => ⟨S1x16x128, .f32⟩
  | 20 => ⟨S1x16x128, .f32⟩
  | 21 => ⟨S1x16x128, .f32⟩
  | 22 => ⟨S_, .f32⟩
  | 23 => ⟨S1x16x128, .f32⟩
  | 24 => ⟨S1x16x128, .f32⟩
  | 25 => ⟨S1x16x128, .f32⟩
  | 26 => ⟨S_, .f32⟩
  | 27 => ⟨S1x16x128, .f32⟩
  | 28 => ⟨S1x16x128, .f32⟩
  | 29 => ⟨S1x16x128, .f32⟩
  | 30 => ⟨S_, .f32⟩
  | 31 => ⟨S1x16x128, .f32⟩
  | 32 => ⟨S1x16x128, .f32⟩
  | 33 => ⟨S_, .f32⟩
  | 34 => ⟨S1x16x128, .f32⟩
  | 35 => ⟨S1x16x128, .f32⟩
  | 36 => ⟨S1x16x128, .f32⟩
  | 37 => ⟨S_, .f32⟩
  | 38 => ⟨S1x16x128, .f32⟩
  | 39 => ⟨S1x16x128, .f32⟩
  | 40 => ⟨S1x16x128, .f32⟩
  | 41 => ⟨S_, .f32⟩
  | 42 => ⟨S1x16x128, .f32⟩
  | 43 => ⟨S1x16x128, .f32⟩
  | 44 => ⟨S1x16x128, .f32⟩
  | 45 => ⟨S_, .f32⟩
  | 46 => ⟨S1x16x128, .f32⟩
  | 47 => ⟨S1x16x128, .f32⟩
  | 48 => ⟨S_, .f32⟩
  | 49 => ⟨S1x512, .f32⟩
  | 50 => ⟨S1x512, .f32⟩
  | 51 => ⟨S_, .f32⟩
  | 52 => ⟨S1x512, .f32⟩
  | 53 => ⟨S1x512, .f32⟩
  | 54 => ⟨S1x512, .f32⟩
  | 55 => ⟨S_, .f32⟩
  | 56 => ⟨S1x512, .f32⟩
  | 57 => ⟨S1x512, .f32⟩
  | 58 => ⟨S1x512, .f32⟩
  | 59 => ⟨S_, .f32⟩
  | 60 => ⟨S1x512, .f32⟩
  | 61 => ⟨S1x512, .f32⟩
  | 62 => ⟨S1x512, .f32⟩
  | 63 => ⟨S_, .f32⟩
  | 64 => ⟨S1x512, .f32⟩
  | 65 => ⟨S1x512, .f32⟩
  | 66 => ⟨S_, .f32⟩
  | 67 => ⟨S1x512, .f32⟩
  | 68 => ⟨S1x512, .f32⟩
  | 69 => ⟨S1x512, .f32⟩
  | 70 => ⟨S_, .f32⟩
  | 71 => ⟨S1x512, .f32⟩
  | 72 => ⟨S1x512, .f32⟩
  | 73 => ⟨S1x512, .f32⟩
  | 74 => ⟨S_, .f32⟩
  | 75 => ⟨S1x512, .f32⟩
  | 76 => ⟨S1x512, .f32⟩
  | 77 => ⟨S1x512, .f32⟩
  | 78 => ⟨S_, .f32⟩
  | 79 => ⟨S1x512, .f32⟩
  | 80 => ⟨S1x512, .f32⟩
  | 81 => ⟨S_, .f32⟩
  | 82 => ⟨S1x256, .f32⟩
  | 83 => ⟨S1x256, .f32⟩
  | 84 => ⟨S_, .f32⟩
  | 85 => ⟨S1x256, .f32⟩
  | 86 => ⟨S1x256, .f32⟩
  | 87 => ⟨S1x256, .f32⟩
  | 88 => ⟨S_, .f32⟩
  | 89 => ⟨S1x256, .f32⟩
  | 90 => ⟨S1x256, .f32⟩
  | 91 => ⟨S1x256, .f32⟩
  | 92 => ⟨S_, .f32⟩
  | 93 => ⟨S1x256, .f32⟩
  | 94 => ⟨S1x256, .f32⟩
  | 95 => ⟨S1x256, .f32⟩
  | 96 => ⟨S_, .f32⟩
  | 97 => ⟨S1x256, .f32⟩
  | 98 => ⟨S1x256, .f32⟩
  | 99 => ⟨S_, .f32⟩
  | 100 => ⟨S1x256, .f32⟩
  | 101 => ⟨S1x256, .f32⟩
  | 102 => ⟨S1x256, .f32⟩
  | 103 => ⟨S_, .f32⟩
  | 104 => ⟨S1x256, .f32⟩
  | 105 => ⟨S1x256, .f32⟩
  | 106 => ⟨S1x256, .f32⟩
  | 107 => ⟨S_, .f32⟩
  | 108 => ⟨S1x256, .f32⟩
  | 109 => ⟨S1x256, .f32⟩
  | 110 => ⟨S1x256, .f32⟩
  | 111 => ⟨S_, .f32⟩
  | 112 => ⟨S1x256, .f32⟩
  | 113 => ⟨S1x256, .f32⟩
  | 114 => ⟨S_, .f32⟩
  | 115 => ⟨S1x1024, .f32⟩
  | 116 => ⟨S1x1024, .f32⟩
  | 117 => ⟨S_, .f32⟩
  | 118 => ⟨S1x1024, .f32⟩
  | 119 => ⟨S1x1024, .f32⟩
  | 120 => ⟨S1x1024, .f32⟩
  | 121 => ⟨S_, .f32⟩
  | 122 => ⟨S1x1024, .f32⟩
  | 123 => ⟨S1x1024, .f32⟩
  | 124 => ⟨S1x1024, .f32⟩
  | 125 => ⟨S_, .f32⟩
  | 126 => ⟨S1x1024, .f32⟩
  | 127 => ⟨S1x1024, .f32⟩
  | _ => ⟨S1x2048, .f32⟩

abbrev hbmTy0_2 (i : Nat) : BufTy := match i % 128 with
  | 0 => ⟨S1x1024, .f32⟩
  | 1 => ⟨S_, .f32⟩
  | 2 => ⟨S1x1024, .f32⟩
  | 3 => ⟨S1x1024, .f32⟩
  | 4 => ⟨S_, .f32⟩
  | 5 => ⟨S1x1024, .f32⟩
  | 6 => ⟨S1x1024, .f32⟩
  | 7 => ⟨S1x1024, .f32⟩
  | 8 => ⟨S_, .f32⟩
  | 9 => ⟨S1x1024, .f32⟩
  | 10 => ⟨S1x1024, .f32⟩
  | 11 => ⟨S1x1024, .f32⟩
  | 12 => ⟨S_, .f32⟩
  | 13 => ⟨S1x1024, .f32⟩
  | 14 => ⟨S1x1024, .f32⟩
  | 15 => ⟨S1x1024, .f32⟩
  | 16 => ⟨S_, .f32⟩
  | 17 => ⟨S1x1024, .f32⟩
  | 18 => ⟨S1x1024, .f32⟩
  | 19 => ⟨S_, .f32⟩
  | 20 => ⟨S1x2048, .f32⟩
  | 21 => ⟨S1x2048, .f32⟩
  | 22 => ⟨S_, .f32⟩
  | 23 => ⟨S1x2048, .f32⟩
  | 24 => ⟨S1x2048, .f32⟩
  | 25 => ⟨S1x2048, .f32⟩
  | 26 => ⟨S_, .f32⟩
  | 27 => ⟨S1x2048, .f32⟩
  | 28 => ⟨S1x2048, .f32⟩
  | 29 => ⟨S1x2048, .f32⟩
  | 30 => ⟨S_, .f32⟩
  | 31 => ⟨S1x2048, .f32⟩
  | 32 => ⟨S1x2048, .f32⟩
  | 33 => ⟨S1x2048, .f32⟩
  | 34 => ⟨S_, .f32⟩
  | 35 => ⟨S1x2048, .f32⟩
  | 36 => ⟨S1x2048, .f32⟩
  | 37 => ⟨S_, .f32⟩
  | 38 => ⟨S1x2048, .f32⟩
  | 39 => ⟨S1x2048, .f32⟩
  | 40 => ⟨S1x2048, .f32⟩
  | 41 => ⟨S_, .f32⟩
  | 42 => ⟨S1x2048, .f32⟩
  | 43 => ⟨S1x2048, .f32⟩
  | 44 => ⟨S1x2048, .f32⟩
  | 45 => ⟨S_, .f32⟩
  | 46 => ⟨S1x2048, .f32⟩
  | 47 => ⟨S1x2048, .f32⟩
  | 48 => ⟨S1x2048, .f32⟩
  | 49 => ⟨S_, .f32⟩
  | 50 => ⟨S1x2048, .f32⟩
  | 51 => ⟨S1x2048, .f32⟩
  | 52 => ⟨S_, .f32⟩
  | 53 => ⟨S1x3x1408, .f32⟩
  | 54 => ⟨S1x3x1408, .f32⟩
  | 55 => ⟨S_, .f32⟩
  | 56 => ⟨S1x3x1408, .f32⟩
  | 57 => ⟨S1x3x1408, .f32⟩
  | 58 => ⟨S1x3x1408, .f32⟩
  | 59 => ⟨S_, .f32⟩
  | 60 => ⟨S1x3x1408, .f32⟩
  | 61 => ⟨S1x3x1408, .f32⟩
  | 62 => ⟨S1x3x1408, .f32⟩
  | 63 => ⟨S_, .f32⟩
  | 64 => ⟨S1x3x1408, .f32⟩
  | 65 => ⟨S1x3x1408, .f32⟩
  | 66 => ⟨S1x3x1408, .f32⟩
  | 67 => ⟨S_, .f32⟩
  | 68 => ⟨S1x3x1408, .f32⟩
  | 69 => ⟨S1x3x1408, .f32⟩
  | 70 => ⟨S_, .f32⟩
  | 71 => ⟨S1x3x1408, .f32⟩
  | 72 => ⟨S1x3x1408, .f32⟩
  | 73 => ⟨S1x3x1408, .f32⟩
  | 74 => ⟨S_, .f32⟩
  | 75 => ⟨S1x3x1408, .f32⟩
  | 76 => ⟨S1x3x1408, .f32⟩
  | 77 => ⟨S1x3x1408, .f32⟩
  | 78 => ⟨S_, .f32⟩
  | 79 => ⟨S1x3x1408, .f32⟩
  | 80 => ⟨S1x3x1408, .f32⟩
  | 81 => ⟨S1x3x1408, .f32⟩
  | 82 => ⟨S_, .f32⟩
  | 83 => ⟨S1x3x1408, .f32⟩
  | 84 => ⟨S1x3x1408, .f32⟩
  | 85 => ⟨S_, .f32⟩
  | 86 => ⟨S1x5632, .f32⟩
  | 87 => ⟨S1x5632, .f32⟩
  | 88 => ⟨S_, .f32⟩
  | 89 => ⟨S1x5632, .f32⟩
  | 90 => ⟨S1x5632, .f32⟩
  | 91 => ⟨S1x5632, .f32⟩
  | 92 => ⟨S_, .f32⟩
  | 93 => ⟨S1x5632, .f32⟩
  | 94 => ⟨S1x5632, .f32⟩
  | 95 => ⟨S1x5632, .f32⟩
  | 96 => ⟨S_, .f32⟩
  | 97 => ⟨S1x5632, .f32⟩
  | 98 => ⟨S1x5632, .f32⟩
  | 99 => ⟨S1x5632, .f32⟩
  | 100 => ⟨S_, .f32⟩
  | 101 => ⟨S1x5632, .f32⟩
  | 102 => ⟨S1x5632, .f32⟩
  | 103 => ⟨S_, .f32⟩
  | 104 => ⟨S1x5632, .f32⟩
  | 105 => ⟨S1x5632, .f32⟩
  | 106 => ⟨S1x5632, .f32⟩
  | 107 => ⟨S_, .f32⟩
  | 108 => ⟨S1x5632, .f32⟩
  | 109 => ⟨S1x5632, .f32⟩
  | 110 => ⟨S1x5632, .f32⟩
  | 111 => ⟨S_, .f32⟩
  | 112 => ⟨S1x5632, .f32⟩
  | 113 => ⟨S1x5632, .f32⟩
  | 114 => ⟨S1x5632, .f32⟩
  | 115 => ⟨S_, .f32⟩
  | 116 => ⟨S1x5632, .f32⟩
  | 117 => ⟨S1x5632, .f32⟩
  | 118 => ⟨S_, .f32⟩
  | 119 => ⟨S2048, .f32⟩
  | 120 => ⟨S2048, .f32⟩
  | 121 => ⟨S_, .f32⟩
  | 122 => ⟨S2048, .f32⟩
  | 123 => ⟨S2048, .f32⟩
  | 124 => ⟨S2048, .f32⟩
  | 125 => ⟨S_, .f32⟩
  | 126 => ⟨S2048, .f32⟩
  | 127 => ⟨S2048, .f32⟩
  | _ => ⟨S1x2048, .f32⟩

abbrev hbmTy0_3 (i : Nat) : BufTy := match i % 128 with
  | 0 => ⟨S2048, .f32⟩
  | 1 => ⟨S_, .f32⟩
  | 2 => ⟨S2048, .f32⟩
  | 3 => ⟨S2048, .f32⟩
  | 4 => ⟨S2048, .f32⟩
  | 5 => ⟨S_, .f32⟩
  | 6 => ⟨S2048, .f32⟩
  | 7 => ⟨S2048, .f32⟩
  | 8 => ⟨S_, .f32⟩
  | 9 => ⟨S2048, .f32⟩
  | 10 => ⟨S2048, .f32⟩
  | 11 => ⟨S2048, .f32⟩
  | 12 => ⟨S_, .f32⟩
  | 13 => ⟨S2048, .f32⟩
  | 14 => ⟨S2048, .f32⟩
  | 15 => ⟨S2048, .f32⟩
  | 16 => ⟨S_, .f32⟩
  | 17 => ⟨S2048, .f32⟩
  | 18 => ⟨S2048, .f32⟩
  | 19 => ⟨S2048, .f32⟩
  | 20 => ⟨S_, .f32⟩
  | 21 => ⟨S2048, .f32⟩
  | 22 => ⟨S2048, .f32⟩
  | _ => ⟨S1x2048, .f32⟩

abbrev hbmTy (i : Nat) : BufTy := match i / 128 with
  | 0 => hbmTy0_0 i
  | 1 => hbmTy0_1 i
  | 2 => hbmTy0_2 i
  | 3 => hbmTy0_3 i
  | _ => ⟨S1x2048, .f32⟩

abbrev bufTy : (tb : Table) → Fin (tcTables nBuf tb) → BufTy
  | .hbm, ⟨i, _⟩ => hbmTy i
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_cst : Ref sig .tc := ⟨.hbm, 44, rfl⟩
abbrev main_v0 : Ref sig .tc := ⟨.hbm, 45, rfl⟩
abbrev main_v1 : Ref sig .tc := ⟨.hbm, 46, rfl⟩
abbrev main_cst_0 : Ref sig .tc := ⟨.hbm, 47, rfl⟩
abbrev main_v2 : Ref sig .tc := ⟨.hbm, 48, rfl⟩
abbrev main_v3 : Ref sig .tc := ⟨.hbm, 49, rfl⟩
abbrev main_v4 : Ref sig .tc := ⟨.hbm, 50, rfl⟩
abbrev main_cst_1 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_cst_2 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_cst_3 : Ref sig .tc := ⟨.hbm, 59, rfl⟩
abbrev main_v11 : Ref sig .tc := ⟨.hbm, 60, rfl⟩
abbrev main_v12 : Ref sig .tc := ⟨.hbm, 61, rfl⟩
abbrev main_cst_4 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_cst_5 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_cst_6 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_cst_7 : Ref sig .tc := ⟨.hbm, 74, rfl⟩
abbrev main_v22 : Ref sig .tc := ⟨.hbm, 75, rfl⟩
abbrev main_v23 : Ref sig .tc := ⟨.hbm, 76, rfl⟩
abbrev main_cst_8 : Ref sig .tc := ⟨.hbm, 77, rfl⟩
abbrev main_v24 : Ref sig .tc := ⟨.hbm, 78, rfl⟩
abbrev main_v25 : Ref sig .tc := ⟨.hbm, 79, rfl⟩
abbrev main_cst_9 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_cst_10 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_cst_11 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_cst_12 : Ref sig .tc := ⟨.hbm, 92, rfl⟩
abbrev main_v35 : Ref sig .tc := ⟨.hbm, 93, rfl⟩
abbrev main_v36 : Ref sig .tc := ⟨.hbm, 94, rfl⟩
abbrev main_cst_13 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_cst_14 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_cst_15 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_cst_16 : Ref sig .tc := ⟨.hbm, 107, rfl⟩
abbrev main_v46 : Ref sig .tc := ⟨.hbm, 108, rfl⟩
abbrev main_v47 : Ref sig .tc := ⟨.hbm, 109, rfl⟩
abbrev main_cst_17 : Ref sig .tc := ⟨.hbm, 110, rfl⟩
abbrev main_v48 : Ref sig .tc := ⟨.hbm, 111, rfl⟩
abbrev main_v49 : Ref sig .tc := ⟨.hbm, 112, rfl⟩
abbrev main_cst_18 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_cst_19 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_cst_20 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_cst_21 : Ref sig .tc := ⟨.hbm, 125, rfl⟩
abbrev main_v59 : Ref sig .tc := ⟨.hbm, 126, rfl⟩
abbrev main_v60 : Ref sig .tc := ⟨.hbm, 127, rfl⟩
abbrev main_cst_22 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_cst_23 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_cst_24 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_cst_25 : Ref sig .tc := ⟨.hbm, 140, rfl⟩
abbrev main_v70 : Ref sig .tc := ⟨.hbm, 141, rfl⟩
abbrev main_v71 : Ref sig .tc := ⟨.hbm, 142, rfl⟩
abbrev main_cst_26 : Ref sig .tc := ⟨.hbm, 143, rfl⟩
abbrev main_v72 : Ref sig .tc := ⟨.hbm, 144, rfl⟩
abbrev main_v73 : Ref sig .tc := ⟨.hbm, 145, rfl⟩
abbrev main_cst_27 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_cst_28 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_cst_29 : Ref sig .tc := ⟨.hbm, 154, rfl⟩
abbrev main_v80 : Ref sig .tc := ⟨.hbm, 155, rfl⟩
abbrev main_v81 : Ref sig .tc := ⟨.hbm, 156, rfl⟩
abbrev main_v82 : Ref sig .tc := ⟨.hbm, 157, rfl⟩
abbrev main_cst_30 : Ref sig .tc := ⟨.hbm, 158, rfl⟩
abbrev main_v83 : Ref sig .tc := ⟨.hbm, 159, rfl⟩
abbrev main_v84 : Ref sig .tc := ⟨.hbm, 160, rfl⟩
abbrev main_cst_31 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_cst_32 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_cst_33 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_cst_34 : Ref sig .tc := ⟨.hbm, 173, rfl⟩
abbrev main_v94 : Ref sig .tc := ⟨.hbm, 174, rfl⟩
abbrev main_v95 : Ref sig .tc := ⟨.hbm, 175, rfl⟩
abbrev main_cst_35 : Ref sig .tc := ⟨.hbm, 176, rfl⟩
abbrev main_v96 : Ref sig .tc := ⟨.hbm, 177, rfl⟩
abbrev main_v97 : Ref sig .tc := ⟨.hbm, 178, rfl⟩
abbrev main_cst_36 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_cst_37 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_cst_38 : Ref sig .tc := ⟨.hbm, 187, rfl⟩
abbrev main_v104 : Ref sig .tc := ⟨.hbm, 188, rfl⟩
abbrev main_v105 : Ref sig .tc := ⟨.hbm, 189, rfl⟩
abbrev main_v106 : Ref sig .tc := ⟨.hbm, 190, rfl⟩
abbrev main_cst_39 : Ref sig .tc := ⟨.hbm, 191, rfl⟩
abbrev main_v107 : Ref sig .tc := ⟨.hbm, 192, rfl⟩
abbrev main_v108 : Ref sig .tc := ⟨.hbm, 193, rfl⟩
abbrev main_cst_40 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_cst_41 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_cst_42 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_cst_43 : Ref sig .tc := ⟨.hbm, 206, rfl⟩
abbrev main_v118 : Ref sig .tc := ⟨.hbm, 207, rfl⟩
abbrev main_v119 : Ref sig .tc := ⟨.hbm, 208, rfl⟩
abbrev main_cst_44 : Ref sig .tc := ⟨.hbm, 209, rfl⟩
abbrev main_v120 : Ref sig .tc := ⟨.hbm, 210, rfl⟩
abbrev main_v121 : Ref sig .tc := ⟨.hbm, 211, rfl⟩
abbrev main_cst_45 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_cst_46 : Ref sig .tc := ⟨.hbm, 216, rfl⟩
abbrev main_v125 : Ref sig .tc := ⟨.hbm, 217, rfl⟩
abbrev main_v126 : Ref sig .tc := ⟨.hbm, 218, rfl⟩
abbrev main_v127 : Ref sig .tc := ⟨.hbm, 219, rfl⟩
abbrev main_cst_47 : Ref sig .tc := ⟨.hbm, 220, rfl⟩
abbrev main_v128 : Ref sig .tc := ⟨.hbm, 221, rfl⟩
abbrev main_v129 : Ref sig .tc := ⟨.hbm, 222, rfl⟩
abbrev main_v130 : Ref sig .tc := ⟨.hbm, 223, rfl⟩
abbrev main_cst_48 : Ref sig .tc := ⟨.hbm, 224, rfl⟩
abbrev main_v131 : Ref sig .tc := ⟨.hbm, 225, rfl⟩
abbrev main_v132 : Ref sig .tc := ⟨.hbm, 226, rfl⟩
abbrev main_cst_49 : Ref sig .tc := ⟨.hbm, 227, rfl⟩
abbrev main_v133 : Ref sig .tc := ⟨.hbm, 228, rfl⟩
abbrev main_v134 : Ref sig .tc := ⟨.hbm, 229, rfl⟩
abbrev main_v135 : Ref sig .tc := ⟨.hbm, 230, rfl⟩
abbrev main_cst_50 : Ref sig .tc := ⟨.hbm, 231, rfl⟩
abbrev main_v136 : Ref sig .tc := ⟨.hbm, 232, rfl⟩
abbrev main_v137 : Ref sig .tc := ⟨.hbm, 233, rfl⟩
abbrev main_v138 : Ref sig .tc := ⟨.hbm, 234, rfl⟩
abbrev main_cst_51 : Ref sig .tc := ⟨.hbm, 235, rfl⟩
abbrev main_v139 : Ref sig .tc := ⟨.hbm, 236, rfl⟩
abbrev main_v140 : Ref sig .tc := ⟨.hbm, 237, rfl⟩
abbrev main_v141 : Ref sig .tc := ⟨.hbm, 238, rfl⟩
abbrev main_cst_52 : Ref sig .tc := ⟨.hbm, 239, rfl⟩
abbrev main_v142 : Ref sig .tc := ⟨.hbm, 240, rfl⟩
abbrev main_v143 : Ref sig .tc := ⟨.hbm, 241, rfl⟩
abbrev main_cst_53 : Ref sig .tc := ⟨.hbm, 242, rfl⟩
abbrev main_v144 : Ref sig .tc := ⟨.hbm, 243, rfl⟩
abbrev main_v145 : Ref sig .tc := ⟨.hbm, 244, rfl⟩
abbrev main_cst_54 : Ref sig .tc := ⟨.hbm, 245, rfl⟩
abbrev main_v146 : Ref sig .tc := ⟨.hbm, 246, rfl⟩
abbrev main_v147 : Ref sig .tc := ⟨.hbm, 247, rfl⟩
abbrev main_v148 : Ref sig .tc := ⟨.hbm, 248, rfl⟩
abbrev main_cst_55 : Ref sig .tc := ⟨.hbm, 249, rfl⟩
abbrev main_v149 : Ref sig .tc := ⟨.hbm, 250, rfl⟩
abbrev main_v150 : Ref sig .tc := ⟨.hbm, 251, rfl⟩
abbrev main_v151 : Ref sig .tc := ⟨.hbm, 252, rfl⟩
abbrev main_cst_56 : Ref sig .tc := ⟨.hbm, 253, rfl⟩
abbrev main_v152 : Ref sig .tc := ⟨.hbm, 254, rfl⟩
abbrev main_v153 : Ref sig .tc := ⟨.hbm, 255, rfl⟩
abbrev main_v154 : Ref sig .tc := ⟨.hbm, 256, rfl⟩
abbrev main_cst_57 : Ref sig .tc := ⟨.hbm, 257, rfl⟩
abbrev main_v155 : Ref sig .tc := ⟨.hbm, 258, rfl⟩
abbrev main_v156 : Ref sig .tc := ⟨.hbm, 259, rfl⟩
abbrev main_cst_58 : Ref sig .tc := ⟨.hbm, 260, rfl⟩
abbrev main_v157 : Ref sig .tc := ⟨.hbm, 261, rfl⟩
abbrev main_v158 : Ref sig .tc := ⟨.hbm, 262, rfl⟩
abbrev main_v159 : Ref sig .tc := ⟨.hbm, 263, rfl⟩
abbrev main_cst_59 : Ref sig .tc := ⟨.hbm, 264, rfl⟩
abbrev main_v160 : Ref sig .tc := ⟨.hbm, 265, rfl⟩
abbrev main_v161 : Ref sig .tc := ⟨.hbm, 266, rfl⟩
abbrev main_v162 : Ref sig .tc := ⟨.hbm, 267, rfl⟩
abbrev main_cst_60 : Ref sig .tc := ⟨.hbm, 268, rfl⟩
abbrev main_v163 : Ref sig .tc := ⟨.hbm, 269, rfl⟩
abbrev main_v164 : Ref sig .tc := ⟨.hbm, 270, rfl⟩
abbrev main_v165 : Ref sig .tc := ⟨.hbm, 271, rfl⟩
abbrev main_cst_61 : Ref sig .tc := ⟨.hbm, 272, rfl⟩
abbrev main_v166 : Ref sig .tc := ⟨.hbm, 273, rfl⟩
abbrev main_v167 : Ref sig .tc := ⟨.hbm, 274, rfl⟩
abbrev main_cst_62 : Ref sig .tc := ⟨.hbm, 275, rfl⟩
abbrev main_v168 : Ref sig .tc := ⟨.hbm, 276, rfl⟩
abbrev main_v169 : Ref sig .tc := ⟨.hbm, 277, rfl⟩
abbrev main_cst_63 : Ref sig .tc := ⟨.hbm, 278, rfl⟩
abbrev main_v170 : Ref sig .tc := ⟨.hbm, 279, rfl⟩
abbrev main_v171 : Ref sig .tc := ⟨.hbm, 280, rfl⟩
abbrev main_v172 : Ref sig .tc := ⟨.hbm, 281, rfl⟩
abbrev main_cst_64 : Ref sig .tc := ⟨.hbm, 282, rfl⟩
abbrev main_v173 : Ref sig .tc := ⟨.hbm, 283, rfl⟩
abbrev main_v174 : Ref sig .tc := ⟨.hbm, 284, rfl⟩
abbrev main_v175 : Ref sig .tc := ⟨.hbm, 285, rfl⟩
abbrev main_cst_65 : Ref sig .tc := ⟨.hbm, 286, rfl⟩
abbrev main_v176 : Ref sig .tc := ⟨.hbm, 287, rfl⟩
abbrev main_v177 : Ref sig .tc := ⟨.hbm, 288, rfl⟩
abbrev main_v178 : Ref sig .tc := ⟨.hbm, 289, rfl⟩
abbrev main_cst_66 : Ref sig .tc := ⟨.hbm, 290, rfl⟩
abbrev main_v179 : Ref sig .tc := ⟨.hbm, 291, rfl⟩
abbrev main_v180 : Ref sig .tc := ⟨.hbm, 292, rfl⟩
abbrev main_cst_67 : Ref sig .tc := ⟨.hbm, 293, rfl⟩
abbrev main_v181 : Ref sig .tc := ⟨.hbm, 294, rfl⟩
abbrev main_v182 : Ref sig .tc := ⟨.hbm, 295, rfl⟩
abbrev main_v183 : Ref sig .tc := ⟨.hbm, 296, rfl⟩
abbrev main_cst_68 : Ref sig .tc := ⟨.hbm, 297, rfl⟩
abbrev main_v184 : Ref sig .tc := ⟨.hbm, 298, rfl⟩
abbrev main_v185 : Ref sig .tc := ⟨.hbm, 299, rfl⟩
abbrev main_v186 : Ref sig .tc := ⟨.hbm, 300, rfl⟩
abbrev main_cst_69 : Ref sig .tc := ⟨.hbm, 301, rfl⟩
abbrev main_v187 : Ref sig .tc := ⟨.hbm, 302, rfl⟩
abbrev main_v188 : Ref sig .tc := ⟨.hbm, 303, rfl⟩
abbrev main_v189 : Ref sig .tc := ⟨.hbm, 304, rfl⟩
abbrev main_cst_70 : Ref sig .tc := ⟨.hbm, 305, rfl⟩
abbrev main_v190 : Ref sig .tc := ⟨.hbm, 306, rfl⟩
abbrev main_v191 : Ref sig .tc := ⟨.hbm, 307, rfl⟩
abbrev main_cst_71 : Ref sig .tc := ⟨.hbm, 308, rfl⟩
abbrev main_v192 : Ref sig .tc := ⟨.hbm, 309, rfl⟩
abbrev main_v193 : Ref sig .tc := ⟨.hbm, 310, rfl⟩
abbrev main_cst_72 : Ref sig .tc := ⟨.hbm, 311, rfl⟩
abbrev main_v194 : Ref sig .tc := ⟨.hbm, 312, rfl⟩
abbrev main_v195 : Ref sig .tc := ⟨.hbm, 313, rfl⟩
abbrev main_v196 : Ref sig .tc := ⟨.hbm, 314, rfl⟩
abbrev main_cst_73 : Ref sig .tc := ⟨.hbm, 315, rfl⟩
abbrev main_v197 : Ref sig .tc := ⟨.hbm, 316, rfl⟩
abbrev main_v198 : Ref sig .tc := ⟨.hbm, 317, rfl⟩
abbrev main_v199 : Ref sig .tc := ⟨.hbm, 318, rfl⟩
abbrev main_cst_74 : Ref sig .tc := ⟨.hbm, 319, rfl⟩
abbrev main_v200 : Ref sig .tc := ⟨.hbm, 320, rfl⟩
abbrev main_v201 : Ref sig .tc := ⟨.hbm, 321, rfl⟩
abbrev main_v202 : Ref sig .tc := ⟨.hbm, 322, rfl⟩
abbrev main_cst_75 : Ref sig .tc := ⟨.hbm, 323, rfl⟩
abbrev main_v203 : Ref sig .tc := ⟨.hbm, 324, rfl⟩
abbrev main_v204 : Ref sig .tc := ⟨.hbm, 325, rfl⟩
abbrev main_cst_76 : Ref sig .tc := ⟨.hbm, 326, rfl⟩
abbrev main_v205 : Ref sig .tc := ⟨.hbm, 327, rfl⟩
abbrev main_v206 : Ref sig .tc := ⟨.hbm, 328, rfl⟩
abbrev main_v207 : Ref sig .tc := ⟨.hbm, 329, rfl⟩
abbrev main_cst_77 : Ref sig .tc := ⟨.hbm, 330, rfl⟩
abbrev main_v208 : Ref sig .tc := ⟨.hbm, 331, rfl⟩
abbrev main_v209 : Ref sig .tc := ⟨.hbm, 332, rfl⟩
abbrev main_v210 : Ref sig .tc := ⟨.hbm, 333, rfl⟩
abbrev main_cst_78 : Ref sig .tc := ⟨.hbm, 334, rfl⟩
abbrev main_v211 : Ref sig .tc := ⟨.hbm, 335, rfl⟩
abbrev main_v212 : Ref sig .tc := ⟨.hbm, 336, rfl⟩
abbrev main_v213 : Ref sig .tc := ⟨.hbm, 337, rfl⟩
abbrev main_cst_79 : Ref sig .tc := ⟨.hbm, 338, rfl⟩
abbrev main_v214 : Ref sig .tc := ⟨.hbm, 339, rfl⟩
abbrev main_v215 : Ref sig .tc := ⟨.hbm, 340, rfl⟩
abbrev main_cst_80 : Ref sig .tc := ⟨.hbm, 341, rfl⟩
abbrev main_v216 : Ref sig .tc := ⟨.hbm, 342, rfl⟩
abbrev main_v217 : Ref sig .tc := ⟨.hbm, 343, rfl⟩
abbrev main_cst_81 : Ref sig .tc := ⟨.hbm, 344, rfl⟩
abbrev main_v218 : Ref sig .tc := ⟨.hbm, 345, rfl⟩
abbrev main_v219 : Ref sig .tc := ⟨.hbm, 346, rfl⟩
abbrev main_v220 : Ref sig .tc := ⟨.hbm, 347, rfl⟩
abbrev main_cst_82 : Ref sig .tc := ⟨.hbm, 348, rfl⟩
abbrev main_v221 : Ref sig .tc := ⟨.hbm, 349, rfl⟩
abbrev main_v222 : Ref sig .tc := ⟨.hbm, 350, rfl⟩
abbrev main_v223 : Ref sig .tc := ⟨.hbm, 351, rfl⟩
abbrev main_cst_83 : Ref sig .tc := ⟨.hbm, 352, rfl⟩
abbrev main_v224 : Ref sig .tc := ⟨.hbm, 353, rfl⟩
abbrev main_v225 : Ref sig .tc := ⟨.hbm, 354, rfl⟩
abbrev main_v226 : Ref sig .tc := ⟨.hbm, 355, rfl⟩
abbrev main_cst_84 : Ref sig .tc := ⟨.hbm, 356, rfl⟩
abbrev main_v227 : Ref sig .tc := ⟨.hbm, 357, rfl⟩
abbrev main_v228 : Ref sig .tc := ⟨.hbm, 358, rfl⟩
abbrev main_cst_85 : Ref sig .tc := ⟨.hbm, 359, rfl⟩
abbrev main_v229 : Ref sig .tc := ⟨.hbm, 360, rfl⟩
abbrev main_v230 : Ref sig .tc := ⟨.hbm, 361, rfl⟩
abbrev main_v231 : Ref sig .tc := ⟨.hbm, 362, rfl⟩
abbrev main_cst_86 : Ref sig .tc := ⟨.hbm, 363, rfl⟩
abbrev main_v232 : Ref sig .tc := ⟨.hbm, 364, rfl⟩
abbrev main_v233 : Ref sig .tc := ⟨.hbm, 365, rfl⟩
abbrev main_v234 : Ref sig .tc := ⟨.hbm, 366, rfl⟩
abbrev main_cst_87 : Ref sig .tc := ⟨.hbm, 367, rfl⟩
abbrev main_v235 : Ref sig .tc := ⟨.hbm, 368, rfl⟩
abbrev main_v236 : Ref sig .tc := ⟨.hbm, 369, rfl⟩
abbrev main_v237 : Ref sig .tc := ⟨.hbm, 370, rfl⟩
abbrev main_cst_88 : Ref sig .tc := ⟨.hbm, 371, rfl⟩
abbrev main_v238 : Ref sig .tc := ⟨.hbm, 372, rfl⟩
abbrev main_v239 : Ref sig .tc := ⟨.hbm, 373, rfl⟩
abbrev main_cst_89 : Ref sig .tc := ⟨.hbm, 374, rfl⟩
abbrev main_v240 : Ref sig .tc := ⟨.hbm, 375, rfl⟩
abbrev main_v241 : Ref sig .tc := ⟨.hbm, 376, rfl⟩
abbrev main_cst_90 : Ref sig .tc := ⟨.hbm, 377, rfl⟩
abbrev main_v242 : Ref sig .tc := ⟨.hbm, 378, rfl⟩
abbrev main_v243 : Ref sig .tc := ⟨.hbm, 379, rfl⟩
abbrev main_v244 : Ref sig .tc := ⟨.hbm, 380, rfl⟩
abbrev main_cst_91 : Ref sig .tc := ⟨.hbm, 381, rfl⟩
abbrev main_v245 : Ref sig .tc := ⟨.hbm, 382, rfl⟩
abbrev main_v246 : Ref sig .tc := ⟨.hbm, 383, rfl⟩
abbrev main_v247 : Ref sig .tc := ⟨.hbm, 384, rfl⟩
abbrev main_cst_92 : Ref sig .tc := ⟨.hbm, 385, rfl⟩
abbrev main_v248 : Ref sig .tc := ⟨.hbm, 386, rfl⟩
abbrev main_v249 : Ref sig .tc := ⟨.hbm, 387, rfl⟩
abbrev main_v250 : Ref sig .tc := ⟨.hbm, 388, rfl⟩
abbrev main_cst_93 : Ref sig .tc := ⟨.hbm, 389, rfl⟩
abbrev main_v251 : Ref sig .tc := ⟨.hbm, 390, rfl⟩
abbrev main_v252 : Ref sig .tc := ⟨.hbm, 391, rfl⟩
abbrev main_cst_94 : Ref sig .tc := ⟨.hbm, 392, rfl⟩
abbrev main_v253 : Ref sig .tc := ⟨.hbm, 393, rfl⟩
abbrev main_v254 : Ref sig .tc := ⟨.hbm, 394, rfl⟩
abbrev main_v255 : Ref sig .tc := ⟨.hbm, 395, rfl⟩
abbrev main_cst_95 : Ref sig .tc := ⟨.hbm, 396, rfl⟩
abbrev main_v256 : Ref sig .tc := ⟨.hbm, 397, rfl⟩
abbrev main_v257 : Ref sig .tc := ⟨.hbm, 398, rfl⟩
abbrev main_v258 : Ref sig .tc := ⟨.hbm, 399, rfl⟩
abbrev main_cst_96 : Ref sig .tc := ⟨.hbm, 400, rfl⟩
abbrev main_v259 : Ref sig .tc := ⟨.hbm, 401, rfl⟩
abbrev main_v260 : Ref sig .tc := ⟨.hbm, 402, rfl⟩
abbrev main_v261 : Ref sig .tc := ⟨.hbm, 403, rfl⟩
abbrev main_cst_97 : Ref sig .tc := ⟨.hbm, 404, rfl⟩
abbrev main_v262 : Ref sig .tc := ⟨.hbm, 405, rfl⟩
abbrev main_v263 : Ref sig .tc := ⟨.hbm, 406, rfl⟩

abbrev nD : Nat := 1
abbrev τ : Topo := Topo.v7x

variable {F : FTy → Type} [FloatOps F]
-- ==== Kernel19.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .hbm, ⟨3, _⟩ => ⟨S8192x2048, .f32⟩
  | .hbm, ⟨4, _⟩ => ⟨S8192x2048, .f32⟩
  | .hbm, ⟨5, _⟩ => ⟨S8192x2048, .bf16⟩
  | .hbm, ⟨6, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference19Ideal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 54
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .hbm, ⟨3, _⟩ => ⟨S8192x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S2048, .f32⟩
  | .hbm, ⟨34, _⟩ => ⟨S8192x2048, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x2048, .f32⟩
  | .hbm, ⟨39, _⟩ => ⟨S8192x2048, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S1x2048, .f32⟩
  | .hbm, ⟨52, _⟩ => ⟨S8192x2048, .f32⟩
  | .hbm, ⟨53, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel20.lean ====
abbrev S8192x2048 : Shape := ⟨2, ![8192, 2048]⟩
abbrev S1x2048 : Shape := ⟨2, ![1, 2048]⟩
abbrev S1x128 : Shape := ⟨2, ![1, 128]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S1x1 : Shape := ⟨2, ![1, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S1x128, .f32⟩
  | .hbm, ⟨4, _⟩ => ⟨S1x2048, .f32⟩
  | .hbm, ⟨5, _⟩ => ⟨S8192x2048, .f32⟩
  | .hbm, ⟨6, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S1x128, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference20Ideal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S8192x2048, .f32⟩
  | .hbm, ⟨52, _⟩ => ⟨S8192x2048, .f32⟩
  | .hbm, ⟨53, _⟩ => ⟨S_, .f32⟩
  | .hbm, ⟨54, _⟩ => ⟨S2048, .f32⟩
  | .hbm, ⟨55, _⟩ => ⟨S8192x2048, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x2048, .f32⟩
  | .hbm, ⟨60, _⟩ => ⟨S8192x2048, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S1x2048, .f32⟩
  | .hbm, ⟨73, _⟩ => ⟨S1x128, .f32⟩
  | .hbm, ⟨74, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== Kernel21.lean ====
abbrev S8192x32 : Shape := ⟨2, ![8192, 32]⟩
abbrev S32x1024 : Shape := ⟨2, ![32, 1024]⟩
abbrev S1x1024 : Shape := ⟨2, ![1, 1024]⟩
abbrev S8192x512 : Shape := ⟨2, ![8192, 512]⟩
abbrev S512x32 : Shape := ⟨2, ![512, 32]⟩
abbrev S512x512 : Shape := ⟨2, ![512, 512]⟩
abbrev S512x1024 : Shape := ⟨2, ![512, 1024]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S8192x32, .bf16⟩
  | .hbm, ⟨1, _⟩ => ⟨S32x1024, .bf16⟩
  | .hbm, ⟨2, _⟩ => ⟨S1x1024, .f32⟩
  | .hbm, ⟨3, _⟩ => ⟨S8192x512, .f32⟩
  | .hbm, ⟨4, _⟩ => ⟨S8192x512, .f32⟩
  | .hbm, ⟨5, _⟩ => ⟨S8192x32, .bf16⟩
  | .hbm, ⟨6, _⟩ => ⟨S32x1024, .f32⟩
  | .hbm, ⟨7, _⟩ => ⟨S1x1024, .f32⟩
  | .local _ .vmem, ⟨0, _⟩ => ⟨S512x32, .bf16⟩
  | .local _ .vmem, ⟨1, _⟩ => ⟨S512x32, .bf16⟩
  | .local _ .vmem, ⟨2, _⟩ => ⟨S32x1024, .bf16⟩
  | .local _ .vmem, ⟨3, _⟩ => ⟨S1x1024, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x32, .bf16⟩
  | .local _ .vmem, ⟨9, _⟩ => ⟨S512x32, .bf16⟩
  | .local _ .vmem, ⟨10, _⟩ => ⟨S32x1024, .f32⟩
  | .local _ .vmem, ⟨11, _⟩ => ⟨S1x1024, .f32⟩
  | _, _ => ⟨S8192x32, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x32 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference21Ideal.lean ====
abbrev S8192x32 : Shape := ⟨2, ![8192, 32]⟩
abbrev S32x1024 : Shape := ⟨2, ![32, 1024]⟩
abbrev S1x1024 : Shape := ⟨2, ![1, 1024]⟩
abbrev S8192x512 : Shape := ⟨2, ![8192, 512]⟩
abbrev S8192x1024 : Shape := ⟨2, ![8192, 1024]⟩
abbrev S_ : Shape := ⟨0, ![]⟩
abbrev S1024 : Shape := ⟨1, ![1024]⟩
abbrev S1024x32 : Shape := ⟨2, ![1024, 32]⟩

abbrev nBuf : Space → Nat
  | .hbm => 29
  | .vmem => 0
  | .smem => 0
  | _ => 0

abbrev bufTy : (tb : Table) → Fin (tcTables nBuf tb) → BufTy
  | .hbm, ⟨0, _⟩ => ⟨S8192x32, .bf16⟩
  | .hbm, ⟨1, _⟩ => ⟨S32x1024, .bf16⟩
  | .hbm, ⟨2, _⟩ => ⟨S1x1024, .f32⟩
  | .hbm, ⟨3, _⟩ => ⟨S8192x512, .f32⟩
  | .hbm, ⟨4, _⟩ => ⟨S8192x512, .f32⟩
  | .hbm, ⟨5, _⟩ => ⟨S8192x32, .f32⟩
  | .hbm, ⟨6, _⟩ => ⟨S32x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S1024, .f32⟩
  | .hbm, ⟨24, _⟩ => ⟨S1x1024, .f32⟩
  | .hbm, ⟨25, _⟩ => ⟨S1024x32, .f32⟩
  | .hbm, ⟨26, _⟩ => ⟨S32x1024, .f32⟩
  | .hbm, ⟨27, _⟩ => ⟨S8192x32, .f32⟩
  | .hbm, ⟨28, _⟩ => ⟨S8192x32, .bf16⟩
  | _, _ => ⟨S8192x32, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Kernel22.lean ====
abbrev S8192x1024 : Shape := ⟨2, ![8192, 1024]⟩
abbrev S1x1024 : Shape := ⟨2, ![1, 1024]⟩
abbrev S8192x2048 : Shape := ⟨2, ![8192, 2048]⟩
abbrev S8192x128 : Shape := ⟨2, ![8192, 128]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x2048, .bf16⟩
  | .hbm, ⟨3, _⟩ => ⟨S8192x1024, .bf16⟩
  | .hbm, ⟨4, _⟩ => ⟨S8192x128, .f32⟩
  | .hbm, ⟨5, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x128, .f32⟩
  | .local _ .vmem, ⟨8, _⟩ => ⟨S256x128, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference22Ideal.lean ====
abbrev S8192x1024 : Shape := ⟨2, ![8192, 1024]⟩
abbrev S1x1024 : Shape := ⟨2, ![1, 1024]⟩
abbrev S8192x2048 : Shape := ⟨2, ![8192, 2048]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x8x128 : Shape := ⟨3, ![8192, 8, 128]⟩
abbrev S8192x8 : Shape := ⟨2, ![8192, 8]⟩
abbrev S8192x120 : Shape := ⟨2, ![8192, 120]⟩
abbrev S8192x128 : Shape := ⟨2, ![8192, 128]⟩

abbrev nBuf : Space → Nat
  | .hbm => 60
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x2048, .bf16⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .bf16⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S1x1024, .f32⟩
  | .hbm, ⟨52, _⟩ => ⟨S8192x1024, .f32⟩
  | .hbm, ⟨53, _⟩ => ⟨S8192x8x128, .f32⟩
  | .hbm, ⟨54, _⟩ => ⟨S_, .f32⟩
  | .hbm, ⟨55, _⟩ => ⟨S8192x8, .f32⟩
  | .hbm, ⟨56, _⟩ => ⟨S8192x1024, .bf16⟩
  | .hbm, ⟨57, _⟩ => ⟨S_, .f32⟩
  | .hbm, ⟨58, _⟩ => ⟨S8192x120, .f32⟩
  | .hbm, ⟨59, _⟩ => ⟨S8192x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_6 : Ref sig .tc := ⟨.hbm, 41, rfl⟩
abbrev main_v31 : Ref sig .tc := ⟨.hbm, 42, rfl⟩
abbrev main_v32 : Ref sig .tc := ⟨.hbm, 43, rfl⟩
abbrev main_cst_7 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_8 : Ref sig .tc := ⟨.hbm, 54, rfl⟩
abbrev main_v42 : Ref sig .tc := ⟨.hbm, 55, rfl⟩
abbrev main_v43 : Ref sig .tc := ⟨.hbm, 56, rfl⟩
abbrev main_cst_9 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Proof.ChunkVec.lean ====
/-
  The vector expressions of the kernel's body for one chunk of one head, named after what they compute. The body repeats them
  for eight chunks of four heads.
-/
module

public import proofs.«01_k».proof.Proof.Gen.KernelIdeal.Skeleton
public import Idealize.ShloMosaic.Lib.Pointwise

@[expose] public section

set_option maxRecDepth 16384

noncomputable section

namespace Cert.Gla

open Idealize.ShloMosaic Cert.KernelIdeal Cert.KernelIdeal.Gen

variable {F : FTy → Type} [FloatOps F]

/-- One chunk of one head: what the kernel's body stores for the gradient of `q`. -/
def vDq (q k : Vec F S64x128 .bf16) (v : Vec F S64x256 .bf16) (b : Vec F S64x128 .f32) (o : Vec F S64x256 .f32)
    (st : Vec F S1x1x256x128 .bf16) : FVec F S64x128 .f32 :=
  k0_pay31 v k0_pay10 (k0_pay11 b) (k0_pay13 b) (k0_pay17 k b) (k0_pay20 o) st

/-- … for the gradient of `k`, `D` being the gradient of the state after the chunk. -/
def vDk (q k : Vec F S64x128 .bf16) (v : Vec F S64x256 .bf16) (b : Vec F S64x128 .f32) (o : Vec F S64x256 .f32)
    (D : FVec F S256x128 .f32) : FVec F S64x128 .f32 :=
  k0_pay32 D v k0_pay10 (k0_pay12 b) (k0_pay14 b) (k0_pay16 q b) (k0_pay20 o)

/-- … for the gradient of `v`. -/
def vDv (k : Vec F S64x128 .bf16) (b : Vec F S64x128 .f32) (o : Vec F S64x256 .f32)
    (a : Vec F S1x1x64x64 .bf16) (D : FVec F S256x128 .f32) : FVec F S64x256 .f32 :=
  k0_pay24 D (k0_pay19 k b) (k0_pay20 o) a

/-- The gradient of the running sum before the contributions of its two special rows. -/
def vDb (q k : Vec F S64x128 .bf16) (v : Vec F S64x256 .bf16) (b : Vec F S64x128 .f32) (o : Vec F S64x256 .f32)
    (st : Vec F S1x1x256x128 .bf16) (D : FVec F S256x128 .f32) : FVec F S64x128 .f32 :=
  k0_pay36 D v k0_pay10 (k0_pay16 q b) (k0_pay17 k b) (k0_pay18 q b) (k0_pay19 k b) (k0_pay20 o) st

/-- The first three doubling steps of the sum over later rows. -/
def vS3 (q k : Vec F S64x128 .bf16) (v : Vec F S64x256 .bf16) (b : Vec F S64x128 .f32) (o : Vec F S64x256 .f32)
    (st : Vec F S1x1x256x128 .bf16) (D : FVec F S256x128 .f32) : FVec F S64x128 .f32 :=
  k0_pay38 (iota .tc S64x128 32 [0] iota_S64x128_d0_w32) (k0_pay15 b) (k0_pay29 D st) (k0_pay35 D v (k0_pay19 k b))
    (vDb q k v b o st D) (k0_pay37 v k0_pay10 (k0_pay16 q b) (k0_pay17 k b) (k0_pay20 o))

/-- … for the gradient of the gate. -/
def vDg (q k : Vec F S64x128 .bf16) (v : Vec F S64x256 .bf16) (b : Vec F S64x128 .f32) (o : Vec F S64x256 .f32)
    (st : Vec F S1x1x256x128 .bf16) (D : FVec F S256x128 .f32) : FVec F S64x128 .f32 :=
  k0_pay40 (iota .tc S64x128 32 [0] iota_S64x128_d0_w32) (vS3 q k v b o st D)
    (k0_pay39 (iota .tc S64x128 32 [0] iota_S64x128_d0_w32) (k0_pay15 b) (k0_pay29 D st) (k0_pay35 D v (k0_pay19 k b))
      (vDb q k v b o st D) (k0_pay37 v k0_pay10 (k0_pay16 q b) (k0_pay17 k b) (k0_pay20 o)))

/-- … and the gradient of the state before the chunk, which the next trip takes. -/
def vDst (q : Vec F S64x128 .bf16) (b : Vec F S64x128 .f32) (o : Vec F S64x256 .f32)
    (D : FVec F S256x128 .f32) : FVec F S256x128 .f32 :=
  k0_pay30 D (k0_pay15 b) (k0_pay18 q b) (k0_pay20 o)

end Cert.Gla

end
-- ==== Proof.Blocks.lean ====
/-
  One grid point of the kernel as eight chunks of four heads: the blocks a chunk reads, the chain of the state's gradient
  through the eight chunks, last chunk first, and the tiles that the chunks store.
-/
module

public import proofs.«01_k».proof.Proof.ChunkVec
public import Idealize.ShloMosaic.Lib.Pipeline.ValueKit

@[expose] public section

set_option maxRecDepth 16384

noncomputable section

namespace Cert.Gla

open Cert.KernelIdeal Cert.KernelIdeal.Gen Idealize.ShloMosaic

variable {F : FTy → Type} [FloatOps F]

/-! A chunk's tile of a block. -/

theorem inb_k (cc : Fin 8) (h : Fin 4) : ∀ a, (![64 * cc.val, 128 * h.val] : Fin 2 → ℕ) a + S64x128.size a ≤ S512x512.size a := by
  revert cc h; decide
theorem inb_v (cc : Fin 8) (h : Fin 4) : ∀ a, (![64 * cc.val, 256 * h.val] : Fin 2 → ℕ) a + S64x256.size a ≤ S512x1024.size a := by
  revert cc h; decide
theorem inb_s (cc : Fin 8) (h : Fin 4) : ∀ a, (![cc.val, h.val, 0, 0] : Fin 4 → ℕ) a + S1x1x256x128.size a ≤ S8x4x256x128.size a := by
  revert cc h; decide
theorem inb_a (cc : Fin 8) (h : Fin 4) : ∀ a, (![cc.val, h.val, 0, 0] : Fin 4 → ℕ) a + S1x1x64x64.size a ≤ S8x4x64x64.size a := by
  revert cc h; decide
theorem inb_d (h : Fin 4) : ∀ a, (![h.val, 0, 0] : Fin 3 → ℕ) a + S1x256x128.size a ≤ S4x256x128.size a := by
  revert h; decide

abbrev tileK {e : EltTy} (x : Vec F S512x512 e) (cc : Fin 8) (h : Fin 4) : Vec F S64x128 e :=
  View.ld x (Rect.unit ![64 * cc.val, 128 * h.val] S64x128.size (inb_k cc h))
abbrev tileV {e : EltTy} (x : Vec F S512x1024 e) (cc : Fin 8) (h : Fin 4) : Vec F S64x256 e :=
  View.ld x (Rect.unit ![64 * cc.val, 256 * h.val] S64x256.size (inb_v cc h))
abbrev tileS {e : EltTy} (x : Vec F S8x4x256x128 e) (cc : Fin 8) (h : Fin 4) : Vec F S1x1x256x128 e :=
  View.ld x (Rect.unit ![cc.val, h.val, 0, 0] S1x1x256x128.size (inb_s cc h))
abbrev tileA {e : EltTy} (x : Vec F S8x4x64x64 e) (cc : Fin 8) (h : Fin 4) : Vec F S1x1x64x64 e :=
  View.ld x (Rect.unit ![cc.val, h.val, 0, 0] S1x1x64x64.size (inb_a cc h))
abbrev tileD (x : Vec F S4x256x128 .f32) (h : Fin 4) : Vec F S1x256x128 .f32 :=
  View.ld x (Rect.unit ![h.val, 0, 0] S1x256x128.size (inb_d h))

/-- Every tile of the whole array, side by side. -/
def glueK {e : EltTy} (W : Fin 8 → Fin 4 → Vec F S64x128 e) : Vec F S512x512 e := fun y =>
  W ⟨(y 0).val / 64, by have : (y 0).val < 512 := (y 0).isLt; omega⟩ ⟨(y 1).val / 128, by have : (y 1).val < 512 := (y 1).isLt; omega⟩
    (ix2 ⟨(y 0).val % 64, Nat.mod_lt _ (by decide)⟩ ⟨(y 1).val % 128, Nat.mod_lt _ (by decide)⟩)
def glueV {e : EltTy} (W : Fin 8 → Fin 4 → Vec F S64x256 e) : Vec F S512x1024 e := fun y =>
  W ⟨(y 0).val / 64, by have : (y 0).val < 512 := (y 0).isLt; omega⟩ ⟨(y 1).val / 256, by have : (y 1).val < 1024 := (y 1).isLt; omega⟩
    (ix2 ⟨(y 0).val % 64, Nat.mod_lt _ (by decide)⟩ ⟨(y 1).val % 256, Nat.mod_lt _ (by decide)⟩)
def glueD (W : Fin 4 → Vec F S1x256x128 .f32) : Vec F S4x256x128 .f32 := fun y => W (y 0) (ix3 0 (y 1) (y 2))

theorem glueK_emb {e : EltTy} (W : Fin 8 → Fin 4 → Vec F S64x128 e) (cc : Fin 8) (h : Fin 4) (x : S64x128.Idx) :
    W cc h x = glueK W ((Rect.unit (s := S512x512) ![64 * cc.val, 128 * h.val] S64x128.size (inb_k cc h)).emb x) := by
  have e0 : (((Rect.unit (s := S512x512) ![64 * cc.val, 128 * h.val] S64x128.size (inb_k cc h)).emb x) 0).val = 64 * cc.val + (x 0).val :=
    Rect.idx_unit_val _ _ _ _ _
  have e1 : (((Rect.unit (s := S512x512) ![64 * cc.val, 128 * h.val] S64x128.size (inb_k cc h)).emb x) 1).val = 128 * h.val + (x 1).val :=
    Rect.idx_unit_val _ _ _ _ _
  have l0 : (x 0).val < 64 := (x 0).isLt
  have l1 : (x 1).val < 128 := (x 1).isLt
  unfold glueK
  simp only [e0, e1]
  have a0 : (⟨(64 * cc.val + (x 0).val) / 64, by omega⟩ : Fin 8) = cc := Fin.ext (show (64 * cc.val + (x 0).val) / 64 = cc.val by omega)
  have a1 : (⟨(128 * h.val + (x 1).val) / 128, by omega⟩ : Fin 4) = h := Fin.ext (show (128 * h.val + (x 1).val) / 128 = h.val by omega)
  rw [a0, a1]
  congr 1
  funext a
  apply Fin.ext
  match a with
  | ⟨0, _⟩ => show (x 0).val = (64 * cc.val + (x 0).val) % 64; omega
  | ⟨1, _⟩ => show (x 1).val = (128 * h.val + (x 1).val) % 128; omega
theorem glueV_emb {e : EltTy} (W : Fin 8 → Fin 4 → Vec F S64x256 e) (cc : Fin 8) (h : Fin 4) (x : S64x256.Idx) :
    W cc h x = glueV W ((Rect.unit (s := S512x1024) ![64 * cc.val, 256 * h.val] S64x256.size (inb_v cc h)).emb x) := by
  have e0 : (((Rect.unit (s := S512x1024) ![64 * cc.val, 256 * h.val] S64x256.size (inb_v cc h)).emb x) 0).val = 64 * cc.val + (x 0).val :=
    Rect.idx_unit_val _ _ _ _ _
  have e1 : (((Rect.unit (s := S512x1024) ![64 * cc.val, 256 * h.val] S64x256.size (inb_v cc h)).emb x) 1).val = 256 * h.val + (x 1).val :=
    Rect.idx_unit_val _ _ _ _ _
  have l0 : (x 0).val < 64 := (x 0).isLt
  have l1 : (x 1).val < 256 := (x 1).isLt
  unfold glueV
  simp only [e0, e1]
  have a0 : (⟨(64 * cc.val + (x 0).val) / 64, by omega⟩ : Fin 8) = cc := Fin.ext (show (64 * cc.val + (x 0).val) / 64 = cc.val by omega)
  have a1 : (⟨(256 * h.val + (x 1).val) / 256, by omega⟩ : Fin 4) = h := Fin.ext (show (256 * h.val + (x 1).val) / 256 = h.val by omega)
  rw [a0, a1]
  congr 1
  funext a
  apply Fin.ext
  match a with
  | ⟨0, _⟩ => show (x 0).val = (64 * cc.val + (x 0).val) % 64; omega
  | ⟨1, _⟩ => show (x 1).val = (256 * h.val + (x 1).val) % 256; omega
theorem glueD_emb (W : Fin 4 → Vec F S1x256x128 .f32) (h : Fin 4) (x : S1x256x128.Idx) :
    W h x = glueD W ((Rect.unit (s := S4x256x128) ![h.val, 0, 0] S1x256x128.size (inb_d h)).emb x) := by
  have e0 : ((Rect.unit (s := S4x256x128) ![h.val, 0, 0] S1x256x128.size (inb_d h)).emb x) 0 = h :=
    Fin.ext ((Rect.idx_unit_val _ _ _ _ _).trans (by have : (x 0).val < 1 := (x 0).isLt; show h.val + (x 0).val = h.val; omega))
  have e1 : (((Rect.unit (s := S4x256x128) ![h.val, 0, 0] S1x256x128.size (inb_d h)).emb x) 1).val = 0 + (x 1).val := Rect.idx_unit_val _ _ _ _ _
  have e2 : (((Rect.unit (s := S4x256x128) ![h.val, 0, 0] S1x256x128.size (inb_d h)).emb x) 2).val = 0 + (x 2).val := Rect.idx_unit_val _ _ _ _ _
  unfold glueD
  rw [e0]
  congr 1
  funext a
  apply Fin.ext
  match a with
  | ⟨0, _⟩ => show (x 0).val = 0; have : (x 0).val < 1 := (x 0).isLt; omega
  | ⟨1, _⟩ => exact (e1.trans (Nat.zero_add _)).symm
  | ⟨2, _⟩ => exact (e2.trans (Nat.zero_add _)).symm

/-! The chunks of one grid point over the point's blocks. -/

variable (x0 x1 : Vec F S512x512 .bf16) (x2 : Vec F S512x1024 .bf16) (x3 : Vec F S512x512 .f32) (x4 : Vec F S8x4x256x128 .bf16)
  (x5 : Vec F S8x4x64x64 .bf16) (x6 : Vec F S512x1024 .f32) (D0 : Fin 4 → FVec F S256x128 .f32)

/-- The state's gradient after `n` chunks of the point, last chunk first. -/
def chain (h : Fin 4) : ℕ → FVec F S256x128 .f32
  | 0 => D0 h
  | n + 1 => vDst (tileK x0 ⟨7 - n, by omega⟩ h) (tileK x3 ⟨7 - n, by omega⟩ h) (tileV x6 ⟨7 - n, by omega⟩ h) (chain h n)

def ptDq (cc : Fin 8) (h : Fin 4) : Vec F S64x128 .f32 :=
  vDq (tileK x0 cc h) (tileK x1 cc h) (tileV x2 cc h) (tileK x3 cc h) (tileV x6 cc h) (tileS x4 cc h)
def ptDk (cc : Fin 8) (h : Fin 4) : Vec F S64x128 .f32 :=
  vDk (tileK x0 cc h) (tileK x1 cc h) (tileV x2 cc h) (tileK x3 cc h) (tileV x6 cc h) (chain x0 x3 x6 D0 h (7 - cc.val))
def ptDv (cc : Fin 8) (h : Fin 4) : Vec F S64x256 .f32 :=
  vDv (tileK x1 cc h) (tileK x3 cc h) (tileV x6 cc h) (tileA x5 cc h) (chain x0 x3 x6 D0 h (7 - cc.val))
def ptDg (cc : Fin 8) (h : Fin 4) : Vec F S64x128 .f32 :=
  vDg (tileK x0 cc h) (tileK x1 cc h) (tileV x2 cc h) (tileK x3 cc h) (tileV x6 cc h) (tileS x4 cc h) (chain x0 x3 x6 D0 h (7 - cc.val))
def ptD (h : Fin 4) : Vec F S1x256x128 .f32 := k0_pay2 (chain x0 x3 x6 D0 h 8)

end Cert.Gla

end
-- ==== Proof.PointFirst.lean ====
/-
  What one grid point leaves (the first point): each output block is its chunks' tiles side by side, and the scratch is the last
  link of each head's chain.
-/
module

public import proofs.«01_k».proof.Proof.Gen.KernelIdeal.Value
public import proofs.«01_k».proof.Proof.Blocks
public import Idealize.ShloMosaic.Lib.Pipeline.ReadBack

@[expose] public section

set_option maxRecDepth 16384
set_option maxHeartbeats 4000000

noncomputable section

namespace Cert.Gla

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (c : Dev nD)

theorem out7_A (t : Fin cfg0.N) (h0 : t.val % 16 = 0) :
    (outsAt0 m c t.val t.isLt).1 = glueK (ptDq (iblk m c 0 t) (iblk m c 1 t) (iblk m c 2 t) (iblk m c 3 t) (iblk m c 4 t) (iblk m c 6 t)) := by
  rw [outsAt0_A m c t h0]
  dsimp only
  unfold out0_A_7
  funext y
  refine View.read_writes_apply_of_pieces _ _ (glueK (ptDq (iblk m c 0 t) (iblk m c 1 t) (iblk m c 2 t) (iblk m c 3 t) (iblk m c 4 t) (iblk m c 6 t))) _ ?_ y (by apply cover0_A_7)
  refine View.PiecesOf.mem ?_
  frame_open
  simp (disch := decide) only [↓ View.readCov_skip, ↓ View.readCov_cons_toLoadRect, ↓ View.readCov_fill]
  simp only [View.readAt_eq_ld, Memref.IsWhole.read_unread, read_unread_whole]
  have p : ∀ (cc : Fin 8) (h : Fin 4) (x : S64x128.Idx), _ := glueK_emb (ptDq (iblk m c 0 t) (iblk m c 1 t) (iblk m c 2 t) (iblk m c 3 t) (iblk m c 4 t) (iblk m c 6 t))
  exact ⟨p 0 3, p 1 3, p 2 3, p 3 3, p 4 3, p 5 3, p 6 3, p 7 3, p 0 2, p 1 2, p 2 2, p 3 2, p 4 2, p 5 2, p 6 2, p 7 2, p 0 1, p 1 1, p 2 1, p 3 1, p 4 1, p 5 1, p 6 1, p 7 1, p 0 0, p 1 0, p 2 0, p 3 0, p 4 0, p 5 0, p 6 0, p 7 0, trivial⟩

theorem out8_A (t : Fin cfg0.N) (h0 : t.val % 16 = 0) :
    (outsAt0 m c t.val t.isLt).2.1 = glueK (ptDk (iblk m c 0 t) (iblk m c 1 t) (iblk m c 2 t) (iblk m c 3 t) (iblk m c 6 t) (fun h => k0_pay4 (tileD k0_pay3 h))) := by
  rw [outsAt0_A m c t h0]
  dsimp only
  unfold out0_A_8
  funext y
  refine View.read_writes_apply_of_pieces _ _ (glueK (ptDk (iblk m c 0 t) (iblk m c 1 t) (iblk m c 2 t) (iblk m c 3 t) (iblk m c 6 t) (fun h => k0_pay4 (tileD k0_pay3 h)))) _ ?_ y (by apply cover0_A_8)
  refine View.PiecesOf.mem ?_
  frame_open
  simp (disch := decide) only [↓ View.readCov_skip, ↓ View.readCov_cons_toLoadRect, ↓ View.readCov_fill]
  simp only [View.readAt_eq_ld, Memref.IsWhole.read_unread, read_unread_whole]
  have p : ∀ (cc : Fin 8) (h : Fin 4) (x : S64x128.Idx), _ := glueK_emb (ptDk (iblk m c 0 t) (iblk m c 1 t) (iblk m c 2 t) (iblk m c 3 t) (iblk m c 6 t) (fun h => k0_pay4 (tileD k0_pay3 h)))
  exact ⟨p 0 3, p 1 3, p 2 3, p 3 3, p 4 3, p 5 3, p 6 3, p 7 3, p 0 2, p 1 2, p 2 2, p 3 2, p 4 2, p 5 2, p 6 2, p 7 2, p 0 1, p 1 1, p 2 1, p 3 1, p 4 1, p 5 1, p 6 1, p 7 1, p 0 0, p 1 0, p 2 0, p 3 0, p 4 0, p 5 0, p 6 0, p 7 0, trivial⟩

theorem out9_A (t : Fin cfg0.N) (h0 : t.val % 16 = 0) :
    (outsAt0 m c t.val t.isLt).2.2.1 = glueV (ptDv (iblk m c 0 t) (iblk m c 1 t) (iblk m c 3 t) (iblk m c 5 t) (iblk m c 6 t) (fun h => k0_pay4 (tileD k0_pay3 h))) := by
  rw [outsAt0_A m c t h0]
  dsimp only
  unfold out0_A_9
  funext y
  refine View.read_writes_apply_of_pieces _ _ (glueV (ptDv (iblk m c 0 t) (iblk m c 1 t) (iblk m c 3 t) (iblk m c 5 t) (iblk m c 6 t) (fun h => k0_pay4 (tileD k0_pay3 h)))) _ ?_ y (by apply cover0_A_9)
  refine View.PiecesOf.mem ?_
  frame_open
  simp (disch := decide) only [↓ View.readCov_skip, ↓ View.readCov_cons_toLoadRect, ↓ View.readCov_fill]
  simp only [View.readAt_eq_ld, Memref.IsWhole.read_unread, read_unread_whole]
  have p : ∀ (cc : Fin 8) (h : Fin 4) (x : S64x256.Idx), _ := glueV_emb (ptDv (iblk m c 0 t) (iblk m c 1 t) (iblk m c 3 t) (iblk m c 5 t) (iblk m c 6 t) (fun h => k0_pay4 (tileD k0_pay3 h)))
  exact ⟨p 0 3, p 1 3, p 2 3, p 3 3, p 4 3, p 5 3, p 6 3, p 7 3, p 0 2, p 1 2, p 2 2, p 3 2, p 4 2, p 5 2, p 6 2, p 7 2, p 0 1, p 1 1, p 2 1, p 3 1, p 4 1, p 5 1, p 6 1, p 7 1, p 0 0, p 1 0, p 2 0, p 3 0, p 4 0, p 5 0, p 6 0, p 7 0, trivial⟩

theorem scratch_A (t : Fin cfg0.N) (h0 : t.val % 16 = 0) :
    (outsAt0 m c t.val t.isLt).2.2.2.2 = glueD (ptD (iblk m c 0 t) (iblk m c 3 t) (iblk m c 6 t) (fun h => k0_pay4 (tileD k0_pay3 h))) := by
  rw [outsAt0_A m c t h0]
  dsimp only
  unfold sout0_A_0
  rw [View.read_writes_eq_canon _ _ _ (by apply scover0_A_0)]
  funext y
  frame_open
  simp (disch := decide) only [↓ View.readCov_skip, ↓ View.readCov_cons_toLoadRect, ↓ View.readCov_fill]
  simp only [View.readAt_eq_ld, Memref.IsWhole.read_unread, read_unread_whole]
  have p : ∀ (h : Fin 4) (x : S1x256x128.Idx), _ := glueD_emb (ptD (iblk m c 0 t) (iblk m c 3 t) (iblk m c 6 t) (fun h => k0_pay4 (tileD k0_pay3 h)))
  exact View.canon_append_of_piecesOf (glueD (ptD (iblk m c 0 t) (iblk m c 3 t) (iblk m c 6 t) (fun h => k0_pay4 (tileD k0_pay3 h)))) [_] [_, _, _, _] ⟨p 3, p 2, p 1, p 0, trivial⟩ y
    (View.cover_of_tiledL _ ![1, 256, 128] rfl y)

end Cert.Gla

end
-- ==== Proof.PointFirstGate.lean ====
/-
  What one grid point leaves (the first point): each output block is its chunks' tiles side by side, and the scratch is the last
  link of each head's chain.
-/
module

public import proofs.«01_k».proof.Proof.Gen.KernelIdeal.Value
public import proofs.«01_k».proof.Proof.Blocks
public import Idealize.ShloMosaic.Lib.Pipeline.ReadBack

@[expose] public section

set_option maxRecDepth 16384
set_option maxHeartbeats 4000000

noncomputable section

namespace Cert.Gla

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (c : Dev nD)

theorem out10_A (t : Fin cfg0.N) (h0 : t.val % 16 = 0) :
    (outsAt0 m c t.val t.isLt).2.2.2.1 = glueK (ptDg (iblk m c 0 t) (iblk m c 1 t) (iblk m c 2 t) (iblk m c 3 t) (iblk m c 4 t) (iblk m c 6 t) (fun h => k0_pay4 (tileD k0_pay3 h))) := by
  rw [outsAt0_A m c t h0]
  dsimp only
  unfold out0_A_10
  funext y
  refine View.read_writes_apply_of_pieces _ _ (glueK (ptDg (iblk m c 0 t) (iblk m c 1 t) (iblk m c 2 t) (iblk m c 3 t) (iblk m c 4 t) (iblk m c 6 t) (fun h => k0_pay4 (tileD k0_pay3 h)))) _ ?_ y (by apply cover0_A_10)
  refine View.PiecesOf.mem ?_
  frame_open
  simp (disch := decide) only [↓ View.readCov_skip, ↓ View.readCov_cons_toLoadRect, ↓ View.readCov_fill]
  simp only [View.readAt_eq_ld, Memref.IsWhole.read_unread, read_unread_whole]
  have p : ∀ (cc : Fin 8) (h : Fin 4) (x : S64x128.Idx), _ := glueK_emb (ptDg (iblk m c 0 t) (iblk m c 1 t) (iblk m c 2 t) (iblk m c 3 t) (iblk m c 4 t) (iblk m c 6 t) (fun h => k0_pay4 (tileD k0_pay3 h)))
  exact ⟨p 0 3, p 1 3, p 2 3, p 3 3, p 4 3, p 5 3, p 6 3, p 7 3, p 0 2, p 1 2, p 2 2, p 3 2, p 4 2, p 5 2, p 6 2, p 7 2, p 0 1, p 1 1, p 2 1, p 3 1, p 4 1, p 5 1, p 6 1, p 7 1, p 0 0, p 1 0, p 2 0, p 3 0, p 4 0, p 5 0, p 6 0, p 7 0, trivial⟩

end Cert.Gla

end
-- ==== Proof.PointLater.lean ====
/-
  What one grid point leaves (a point after the first): each output block is its chunks' tiles side by side, and the scratch is the last
  link of each head's chain.
-/
module

public import proofs.«01_k».proof.Proof.Gen.KernelIdeal.Value
public import proofs.«01_k».proof.Proof.Blocks
public import Idealize.ShloMosaic.Lib.Pipeline.ReadBack

@[expose] public section

set_option maxRecDepth 16384
set_option maxHeartbeats 4000000

noncomputable section

namespace Cert.Gla

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (c : Dev nD)

theorem out7_B (t : Fin cfg0.N) (h0 : ¬ t.val % 16 = 0) :
    (outsAt0 m c t.val t.isLt).1 = glueK (ptDq (iblk m c 0 t) (iblk m c 1 t) (iblk m c 2 t) (iblk m c 3 t) (iblk m c 4 t) (iblk m c 6 t)) := by
  rw [outsAt0_B m c t h0]
  dsimp only
  unfold out0_B_7
  funext y
  refine View.read_writes_apply_of_pieces _ _ (glueK (ptDq (iblk m c 0 t) (iblk m c 1 t) (iblk m c 2 t) (iblk m c 3 t) (iblk m c 4 t) (iblk m c 6 t))) _ ?_ y (by apply cover0_B_7)
  refine View.PiecesOf.mem ?_
  frame_open
  simp only [View.readAt_eq_ld, Memref.IsWhole.read_unread, read_unread_whole]
  have p : ∀ (cc : Fin 8) (h : Fin 4) (x : S64x128.Idx), _ := glueK_emb (ptDq (iblk m c 0 t) (iblk m c 1 t) (iblk m c 2 t) (iblk m c 3 t) (iblk m c 4 t) (iblk m c 6 t))
  exact ⟨p 0 3, p 1 3, p 2 3, p 3 3, p 4 3, p 5 3, p 6 3, p 7 3, p 0 2, p 1 2, p 2 2, p 3 2, p 4 2, p 5 2, p 6 2, p 7 2, p 0 1, p 1 1, p 2 1, p 3 1, p 4 1, p 5 1, p 6 1, p 7 1, p 0 0, p 1 0, p 2 0, p 3 0, p 4 0, p 5 0, p 6 0, p 7 0, trivial⟩

theorem out8_B (t : Fin cfg0.N) (h0 : ¬ t.val % 16 = 0) :
    (outsAt0 m c t.val t.isLt).2.1 = glueK (ptDk (iblk m c 0 t) (iblk m c 1 t) (iblk m c 2 t) (iblk m c 3 t) (iblk m c 6 t) (fun h => k0_pay4 (tileD (outsAt0 m c (t.val - 1) (by omega)).2.2.2.2 h))) := by
  rw [outsAt0_B m c t h0]
  dsimp only
  unfold out0_B_8
  funext y
  refine View.read_writes_apply_of_pieces _ _ (glueK (ptDk (iblk m c 0 t) (iblk m c 1 t) (iblk m c 2 t) (iblk m c 3 t) (iblk m c 6 t) (fun h => k0_pay4 (tileD (outsAt0 m c (t.val - 1) (by omega)).2.2.2.2 h)))) _ ?_ y (by apply cover0_B_8)
  refine View.PiecesOf.mem ?_
  frame_open
  simp only [View.readAt_eq_ld, Memref.IsWhole.read_unread, read_unread_whole]
  have p : ∀ (cc : Fin 8) (h : Fin 4) (x : S64x128.Idx), _ := glueK_emb (ptDk (iblk m c 0 t) (iblk m c 1 t) (iblk m c 2 t) (iblk m c 3 t) (iblk m c 6 t) (fun h => k0_pay4 (tileD (outsAt0 m c (t.val - 1) (by omega)).2.2.2.2 h)))
  exact ⟨p 0 3, p 1 3, p 2 3, p 3 3, p 4 3, p 5 3, p 6 3, p 7 3, p 0 2, p 1 2, p 2 2, p 3 2, p 4 2, p 5 2, p 6 2, p 7 2, p 0 1, p 1 1, p 2 1, p 3 1, p 4 1, p 5 1, p 6 1, p 7 1, p 0 0, p 1 0, p 2 0, p 3 0, p 4 0, p 5 0, p 6 0, p 7 0, trivial⟩

theorem out9_B (t : Fin cfg0.N) (h0 : ¬ t.val % 16 = 0) :
    (outsAt0 m c t.val t.isLt).2.2.1 = glueV (ptDv (iblk m c 0 t) (iblk m c 1 t) (iblk m c 3 t) (iblk m c 5 t) (iblk m c 6 t) (fun h => k0_pay4 (tileD (outsAt0 m c (t.val - 1) (by omega)).2.2.2.2 h))) := by
  rw [outsAt0_B m c t h0]
  dsimp only
  unfold out0_B_9
  funext y
  refine View.read_writes_apply_of_pieces _ _ (glueV (ptDv (iblk m c 0 t) (iblk m c 1 t) (iblk m c 3 t) (iblk m c 5 t) (iblk m c 6 t) (fun h => k0_pay4 (tileD (outsAt0 m c (t.val - 1) (by omega)).2.2.2.2 h)))) _ ?_ y (by apply cover0_B_9)
  refine View.PiecesOf.mem ?_
  frame_open
  simp only [View.readAt_eq_ld, Memref.IsWhole.read_unread, read_unread_whole]
  have p : ∀ (cc : Fin 8) (h : Fin 4) (x : S64x256.Idx), _ := glueV_emb (ptDv (iblk m c 0 t) (iblk m c 1 t) (iblk m c 3 t) (iblk m c 5 t) (iblk m c 6 t) (fun h => k0_pay4 (tileD (outsAt0 m c (t.val - 1) (by omega)).2.2.2.2 h)))
  exact ⟨p 0 3, p 1 3, p 2 3, p 3 3, p 4 3, p 5 3, p 6 3, p 7 3, p 0 2, p 1 2, p 2 2, p 3 2, p 4 2, p 5 2, p 6 2, p 7 2, p 0 1, p 1 1, p 2 1, p 3 1, p 4 1, p 5 1, p 6 1, p 7 1, p 0 0, p 1 0, p 2 0, p 3 0, p 4 0, p 5 0, p 6 0, p 7 0, trivial⟩

theorem scratch_B (t : Fin cfg0.N) (h0 : ¬ t.val % 16 = 0) :
    (outsAt0 m c t.val t.isLt).2.2.2.2 = glueD (ptD (iblk m c 0 t) (iblk m c 3 t) (iblk m c 6 t) (fun h => k0_pay4 (tileD (outsAt0 m c (t.val - 1) (by omega)).2.2.2.2 h))) := by
  rw [outsAt0_B m c t h0]
  dsimp only
  unfold sout0_B_0
  rw [View.read_writes_eq_canon _ _ _ (by apply scover0_B_0)]
  funext y
  frame_open
  simp only [View.readAt_eq_ld, Memref.IsWhole.read_unread, read_unread_whole]
  have p : ∀ (h : Fin 4) (x : S1x256x128.Idx), _ := glueD_emb (ptD (iblk m c 0 t) (iblk m c 3 t) (iblk m c 6 t) (fun h => k0_pay4 (tileD (outsAt0 m c (t.val - 1) (by omega)).2.2.2.2 h)))
  exact View.canon_append_of_piecesOf (glueD (ptD (iblk m c 0 t) (iblk m c 3 t) (iblk m c 6 t) (fun h => k0_pay4 (tileD (outsAt0 m c (t.val - 1) (by omega)).2.2.2.2 h)))) [] [_, _, _, _] ⟨p 3, p 2, p 1, p 0, trivial⟩ y
    (View.cover_of_tiledL _ ![1, 256, 128] rfl y)

end Cert.Gla

end
-- ==== Proof.PointLaterGate.lean ====
/-
  What one grid point leaves (a point after the first): each output block is its chunks' tiles side by side, and the scratch is the last
  link of each head's chain.
-/
module

public import proofs.«01_k».proof.Proof.Gen.KernelIdeal.Value
public import proofs.«01_k».proof.Proof.Blocks
public import Idealize.ShloMosaic.Lib.Pipeline.ReadBack

@[expose] public section

set_option maxRecDepth 16384
set_option maxHeartbeats 4000000

noncomputable section

namespace Cert.Gla

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (c : Dev nD)

theorem out10_B (t : Fin cfg0.N) (h0 : ¬ t.val % 16 = 0) :
    (outsAt0 m c t.val t.isLt).2.2.2.1 = glueK (ptDg (iblk m c 0 t) (iblk m c 1 t) (iblk m c 2 t) (iblk m c 3 t) (iblk m c 4 t) (iblk m c 6 t) (fun h => k0_pay4 (tileD (outsAt0 m c (t.val - 1) (by omega)).2.2.2.2 h))) := by
  rw [outsAt0_B m c t h0]
  dsimp only
  unfold out0_B_10
  funext y
  refine View.read_writes_apply_of_pieces _ _ (glueK (ptDg (iblk m c 0 t) (iblk m c 1 t) (iblk m c 2 t) (iblk m c 3 t) (iblk m c 4 t) (iblk m c 6 t) (fun h => k0_pay4 (tileD (outsAt0 m c (t.val - 1) (by omega)).2.2.2.2 h)))) _ ?_ y (by apply cover0_B_10)
  refine View.PiecesOf.mem ?_
  frame_open
  simp only [View.readAt_eq_ld, Memref.IsWhole.read_unread, read_unread_whole]
  have p : ∀ (cc : Fin 8) (h : Fin 4) (x : S64x128.Idx), _ := glueK_emb (ptDg (iblk m c 0 t) (iblk m c 1 t) (iblk m c 2 t) (iblk m c 3 t) (iblk m c 4 t) (iblk m c 6 t) (fun h => k0_pay4 (tileD (outsAt0 m c (t.val - 1) (by omega)).2.2.2.2 h)))
  exact ⟨p 0 3, p 1 3, p 2 3, p 3 3, p 4 3, p 5 3, p 6 3, p 7 3, p 0 2, p 1 2, p 2 2, p 3 2, p 4 2, p 5 2, p 6 2, p 7 2, p 0 1, p 1 1, p 2 1, p 3 1, p 4 1, p 5 1, p 6 1, p 7 1, p 0 0, p 1 0, p 2 0, p 3 0, p 4 0, p 5 0, p 6 0, p 7 0, trivial⟩

end Cert.Gla

end
-- ==== Proof.Chunk.lean ====
/-
  The mathematics of one chunk of one head, on functions into the extended reals: the scores between the chunk's rows,
  the four gradients, and the gradient of the state handed to the chunk before. Both programs are read as these.
-/
module

public import Idealize.ShloMosaic.PureOps.Ideal

@[expose] public section

noncomputable section

namespace Cert.Gla

open Idealize.ShloMosaic

/-- What one chunk of one head reads: its 64 rows of (scaled) `q`, of `k`, of the running sum `b` of the gate, of `v` and
    of the output's gradient `o`, and the state `st` at the chunk's start, value index first. -/
structure Chunk where
  q : Fin 64 → Fin 128 → EReal
  k : Fin 64 → Fin 128 → EReal
  b : Fin 64 → Fin 128 → EReal
  v : Fin 64 → Fin 256 → EReal
  o : Fin 64 → Fin 256 → EReal
  st : Fin 256 → Fin 128 → EReal

namespace Chunk

variable (C : Chunk) (D : Fin 256 → Fin 128 → EReal)

/-- The decay from the reference row 31 to row `r`, … -/
def eQ (r : Fin 64) (l : Fin 128) : EReal := Ideal.exp (C.b r l - C.b 31 l)
/-- … back from row `r` to row 31, … -/
def eK (r : Fin 64) (l : Fin 128) : EReal := Ideal.exp (C.b 31 l - C.b r l)
/-- … from the chunk's start to row `r`, … -/
def eIn (r : Fin 64) (l : Fin 128) : EReal := Ideal.exp (C.b r l)
/-- … from row `r` to the chunk's end, … -/
def eSt (r : Fin 64) (l : Fin 128) : EReal := Ideal.exp (C.b 63 l - C.b r l)
/-- … and over the whole chunk. -/
def dec (l : Fin 128) : EReal := Ideal.exp (C.b 63 l)

def qe (r : Fin 64) (l : Fin 128) : EReal := C.q r l * C.eQ r l
def ke (r : Fin 64) (l : Fin 128) : EReal := C.k r l * C.eK r l
def qIn (r : Fin 64) (l : Fin 128) : EReal := C.q r l * C.eIn r l
def kSt (r : Fin 64) (l : Fin 128) : EReal := C.k r l * C.eSt r l

/-- The scores, kept where the column is not later than the row. -/
def a (i j : Fin 64) : EReal := if j ≤ i then ∑ l, C.qe i l * C.ke j l else 0
/-- Their gradient. -/
def da (i j : Fin 64) : EReal := if j ≤ i then ∑ w, C.o i w * C.v j w else 0

def dqe (i : Fin 64) (l : Fin 128) : EReal := ∑ j, C.da i j * C.ke j l
def dke (j : Fin 64) (l : Fin 128) : EReal := ∑ i, C.da i j * C.qe i l
def dqIn (i : Fin 64) (l : Fin 128) : EReal := ∑ w, C.o i w * C.st w l
def dkSt (j : Fin 64) (l : Fin 128) : EReal := ∑ w, C.v j w * D w l

/-- The gradient of the (scaled) `q`. -/
def dq (i : Fin 64) (l : Fin 128) : EReal := C.dqe i l * C.eQ i l + C.dqIn i l * C.eIn i l
/-- The gradient of `k`. -/
def dk (j : Fin 64) (l : Fin 128) : EReal := C.dke j l * C.eK j l + C.dkSt D j l * C.eSt j l
/-- The gradient of `v`. -/
def dv (j : Fin 64) (w : Fin 256) : EReal := (∑ i, C.a i j * C.o i w) + ∑ l, C.kSt j l * D w l
/-- The gradient of the state at the chunk's start. -/
def dst (w : Fin 256) (l : Fin 128) : EReal := (∑ i, C.o i w * C.qIn i l) + D w l * C.dec l

/-- What each row's running sum receives from the row's own terms. -/
def dbRow (i : Fin 64) (l : Fin 128) : EReal :=
  (C.dqe i l * C.qe i l - C.dke i l * C.ke i l) + C.dqIn i l * C.qIn i l - C.dkSt D i l * C.kSt i l
/-- What the reference row's running sum receives. -/
def dbRef (l : Fin 128) : EReal := ∑ r, (C.dke r l * C.ke r l - C.dqe r l * C.qe r l)
/-- What the last row's running sum receives. -/
def dbLast (l : Fin 128) : EReal := (∑ r, C.dkSt D r l * C.kSt r l) + (∑ w, D w l * C.st w l) * C.dec l
/-- The gradient of the running sum. -/
def db (i : Fin 64) (l : Fin 128) : EReal :=
  (C.dbRow D i l + if i = 31 then C.dbRef l else 0) + if i = 63 then C.dbLast D l else 0
/-- The gradient of the gate: each row receives what the rows from it on receive. -/
def dg (i : Fin 64) (l : Fin 128) : EReal := ∑ r : Fin 64, if i ≤ r then C.db D r l else 0

end Chunk

/-- The gradient of the state after `n` chunks, last chunk first. -/
def dstate (ck : ℕ → Fin 4 → Chunk) : ℕ → Fin 4 → Fin 256 → Fin 128 → EReal
  | 0 => fun _ _ _ => 0
  | n + 1 => fun h => (ck (127 - n) h).dst (dstate ck n h)

end Cert.Gla

end
-- ==== Proof.Heads.lean ====
/-
  The chunks of the four heads inside the argument arrays: which rows and columns the chunk `n` of head `h` reads. The
  results of both programs are the chunks' gradients at these places.
-/
module

public import Idealize.ShloMosaic.Lib.Pointwise
public import proofs.«01_k».proof.Proof.Chunk

@[expose] public section

noncomputable section

namespace Cert.Gla

open Idealize.ShloMosaic

/-- The scale of `q`. -/
abbrev scale : EReal := Ideal.ofBits FTy.f32 1035273459#32

/-- Row `r` of chunk `c`, … -/
def row (c : Fin 128) (r : Fin 64) : Fin 8192 := ⟨c.val * 64 + r.val, by omega⟩
/-- … column `l` of head `h` in an array of keys, … -/
def colK (h : Fin 4) (l : Fin 128) : Fin 512 := ⟨h.val * 128 + l.val, by omega⟩
/-- … and in an array of values. -/
def colV (h : Fin 4) (w : Fin 256) : Fin 1024 := ⟨h.val * 256 + w.val, by omega⟩

theorem row_div (c : Fin 128) (r : Fin 64) (p : (row c r).val / 64 < 128) : (⟨(row c r).val / 64, p⟩ : Fin 128) = c :=
  Fin.ext (show (c.val * 64 + r.val) / 64 = c.val by omega)
theorem row_mod (c : Fin 128) (r : Fin 64) (p : (row c r).val % 64 < 64) : (⟨(row c r).val % 64, p⟩ : Fin 64) = r :=
  Fin.ext (show (c.val * 64 + r.val) % 64 = r.val by omega)
theorem colK_div (h : Fin 4) (l : Fin 128) (p : (colK h l).val / 128 < 4) : (⟨(colK h l).val / 128, p⟩ : Fin 4) = h :=
  Fin.ext (show (h.val * 128 + l.val) / 128 = h.val by omega)
theorem colK_mod (h : Fin 4) (l : Fin 128) (p : (colK h l).val % 128 < 128) : (⟨(colK h l).val % 128, p⟩ : Fin 128) = l :=
  Fin.ext (show (h.val * 128 + l.val) % 128 = l.val by omega)
theorem colV_div (h : Fin 4) (w : Fin 256) (p : (colV h w).val / 256 < 4) : (⟨(colV h w).val / 256, p⟩ : Fin 4) = h :=
  Fin.ext (show (h.val * 256 + w.val) / 256 = h.val by omega)
theorem colV_mod (h : Fin 4) (w : Fin 256) (p : (colV h w).val % 256 < 256) : (⟨(colV h w).val % 256, p⟩ : Fin 256) = w :=
  Fin.ext (show (h.val * 256 + w.val) % 256 = w.val by omega)

variable (x0 : (⟨2, ![8192, 6144]⟩ : Shape).Idx → EReal) (x1 : (⟨2, ![8192, 512]⟩ : Shape).Idx → EReal)
  (x2 : (⟨4, ![128, 4, 256, 128]⟩ : Shape).Idx → EReal) (x3 : (⟨2, ![8192, 1024]⟩ : Shape).Idx → EReal)

/-- Chunk `c` of head `h`: `q`, `k` and `v` from the projection's columns, the running sum of the gate over the chunk's
    rows, the output's gradient, and the state at the chunk's start. -/
def chunkAt (c : Fin 128) (h : Fin 4) : Chunk where
  q r l := x0 (ix2 (row c r) ⟨3072 + (colK h l).val, by omega⟩) * scale
  k r l := x0 (ix2 (row c r) ⟨3584 + (colK h l).val, by omega⟩)
  b r l := ∑ r' : Fin 64, if r' ≤ r then x1 (ix2 (row c r') (colK h l)) else 0
  v r w := x0 (ix2 (row c r) ⟨4096 + (colV h w).val, by omega⟩)
  o r w := x3 (ix2 (row c r) (colV h w))
  st w l := x2 (ix4 c h w l)

/-- The chunks by number. -/
def chunks (n : ℕ) : Fin 4 → Chunk := chunkAt x0 x1 x2 x3 ⟨n % 128, Nat.mod_lt _ (by decide)⟩

theorem chunks_val (c : Fin 128) : chunks x0 x1 x2 x3 c.val = chunkAt x0 x1 x2 x3 c := by
  unfold chunks
  exact congrArg _ (Fin.ext (Nat.mod_eq_of_lt c.isLt))

/-- The gradient of the state at chunk `c`'s end. -/
def dAt (c : Fin 128) (h : Fin 4) : Fin 256 → Fin 128 → EReal := dstate (chunks x0 x1 x2 x3) (127 - c.val) h

end Cert.Gla

end
-- ==== Proof.Window.lean ====
/-
  The running sums. The reference writes the gate's running sum over a chunk as a sliding window of 64 rows, padded
  below; its gradient, the sum over the later rows, as the same window padded above. Read at an index over the extended
  reals each is a sum over the chunk's rows under a condition.
-/
module

public import Idealize.ShloMosaic.PureOps.Ideal
public import Idealize.ShloMosaic.Lib.Pointwise

@[expose] public section

set_option maxRecDepth 16384

noncomputable section

namespace Cert.Gla

open Idealize.ShloMosaic

/-- A left fold of addition is the start plus the sum. -/
theorem foldl_add_eq {M ι : Type*} [AddCommMonoid M] (f : ι → M) (l : List ι) (v : M) :
    l.foldl (fun r n => r + f n) v = v + (l.map f).sum := by
  induction l generalizing v with
  | nil => simp
  | cons a t ih => simp [ih, add_assoc]

/-- A window sum from zero, as a sum over the window's own indices. -/
theorem reduceWindowAdd_eq {s t u : Shape} {φ : FTy} (window strides lo hi : Fin s.rank → Nat) (x : FVec Ideal s φ)
    (init : u.Idx → Ideal φ) (h : s.ReduceWindows window strides lo hi t) (hu : 0 < u.numel)
    (h0 : init (Shape.Idx.first hu) = (0 : EReal)) (j : t.Idx) :
    Host.reduceWindowAdd window strides lo hi x init h hu j
      = ∑ w : (⟨s.rank, window⟩ : Shape).Idx,
          (if hin : ∀ a, lo a ≤ (j (a.cast h.1.symm)).val * strides a + (w a).val
              ∧ (j (a.cast h.1.symm)).val * strides a + (w a).val - lo a < s.size a then
            (x (fun a => ⟨(j (a.cast h.1.symm)).val * strides a + (w a).val - lo a, (hin a).2⟩) : EReal) else 0) := by
  unfold Host.reduceWindowAdd
  rw [Ideal.hostReduceWindowAdd_def]
  unfold Ideal.hostReduceWindowAdd Host.reduceWindow
  rw [h0]
  refine (foldl_add_eq (M := EReal) _ _ _).trans ?_
  rw [zero_add, ← List.ofFn_eq_map, List.sum_ofFn]
  refine Eq.trans (Finset.sum_congr rfl fun n _ => ?_) (Equiv.sum_comp (Shape.rowMajor (⟨s.rank, window⟩ : Shape)).symm
    (fun w : (⟨s.rank, window⟩ : Shape).Idx => (if hin : ∀ a, lo a ≤ (j (a.cast h.1.symm)).val * strides a + (w a).val
              ∧ (j (a.cast h.1.symm)).val * strides a + (w a).val - lo a < s.size a then
            (x (fun a => ⟨(j (a.cast h.1.symm)).val * strides a + (w a).val - lo a, (hin a).2⟩) : EReal) else 0)))
  exact dite_congr rfl (fun _ => rfl) (fun _ => rfl)

/-- The window's rows counted from the row itself backwards. -/
theorem sum_rows_le (f : Fin 64 → EReal) (i : Fin 64) :
    (∑ w : Fin 64, if h : 63 ≤ i.val + w.val ∧ i.val + w.val - 63 < 64 then f ⟨i.val + w.val - 63, h.2⟩ else 0)
      = ∑ r : Fin 64, if r ≤ i then f r else 0 := by
  refine Fintype.sum_equiv (Equiv.addRight (i + 1)) _ _ fun w => ?_
  have hi := i.isLt
  have hw := w.isLt
  have hv : ((w + (i + 1) : Fin 64) : ℕ) = (w.val + i.val + 1) % 64 := by
    rw [Fin.val_add, Fin.val_add]; simp; omega
  show (if h : 63 ≤ i.val + w.val ∧ i.val + w.val - 63 < 64 then f ⟨i.val + w.val - 63, h.2⟩ else 0)
    = if w + (i + 1) ≤ i then f (w + (i + 1)) else 0
  by_cases h : 63 ≤ i.val + w.val
  · rw [dif_pos ⟨h, by omega⟩, if_pos (by rw [Fin.le_def, hv]; omega)]
    refine congrArg f (Fin.ext ?_); show i.val + w.val - 63 = _; rw [hv]; omega
  · rw [dif_neg (by omega), if_neg (by rw [Fin.le_def, hv]; omega)]

/-- The window's rows counted from the row itself onwards. -/
theorem sum_rows_ge (f : Fin 64 → EReal) (i : Fin 64) :
    (∑ w : Fin 64, if h : i.val + w.val < 64 then f ⟨i.val + w.val, h⟩ else 0)
      = ∑ r : Fin 64, if i ≤ r then f r else 0 := by
  refine Fintype.sum_equiv (Equiv.addRight i) _ _ fun w => ?_
  have hi := i.isLt
  have hw := w.isLt
  have hv : ((w + i : Fin 64) : ℕ) = (w.val + i.val) % 64 := Fin.val_add _ _
  show (if h : i.val + w.val < 64 then f ⟨i.val + w.val, h⟩ else 0) = if i ≤ w + i then f (w + i) else 0
  by_cases h : i.val + w.val < 64
  · rw [dif_pos h, if_pos (by rw [Fin.le_def, hv]; omega)]
    refine congrArg f (Fin.ext ?_); show i.val + w.val = _; rw [hv]; omega
  · rw [dif_neg h, if_neg (by rw [Fin.le_def, hv]; omega)]

/-- The running sum of one chunk, `[64, 4, 128]`. -/
theorem prefix3 {u : Shape} {φ : FTy} (x : FVec Ideal ⟨3, ![64, 4, 128]⟩ φ) (init : u.Idx → Ideal φ)
    (h : (⟨3, ![64, 4, 128]⟩ : Shape).ReduceWindows (![64, 1, 1] : Fin 3 → Nat) ![1, 1, 1] ![63, 0, 0] ![0, 0, 0] ⟨3, ![64, 4, 128]⟩)
    (hu : 0 < u.numel) (h0 : init (Shape.Idx.first hu) = (0 : EReal)) (i : Fin 64) (n : Fin 4) (l : Fin 128) :
    Host.reduceWindowAdd ![64, 1, 1] ![1, 1, 1] ![63, 0, 0] ![0, 0, 0] x init h hu (ix3 i n l)
      = ∑ r : Fin 64, if r ≤ i then (x (ix3 r n l) : EReal) else 0 := by
  rw [reduceWindowAdd_eq _ _ _ _ _ _ _ _ h0]
  refine (sum_idx3 (n0 := 64) (n1 := 1) (n2 := 1) _).trans ?_
  rw [← sum_rows_le (fun r => x (ix3 r n l)) i]
  refine Finset.sum_congr rfl fun w _ => ?_
  rw [Fin.sum_univ_one, Fin.sum_univ_one]
  have e : (∀ a : Fin 3, (![63, 0, 0] : Fin 3 → ℕ) a ≤ (ix3 i n l (a.cast h.1.symm)).val * (![1, 1, 1] : Fin 3 → ℕ) a + (ix3 (n0 := 64) (n1 := 1) (n2 := 1) w 0 0 a).val
              ∧ (ix3 i n l (a.cast h.1.symm)).val * (![1, 1, 1] : Fin 3 → ℕ) a + (ix3 (n0 := 64) (n1 := 1) (n2 := 1) w 0 0 a).val - (![63, 0, 0] : Fin 3 → ℕ) a < (⟨3, ![64, 4, 128]⟩ : Shape).size a)
      ↔ (63 ≤ i.val + w.val ∧ i.val + w.val - 63 < 64) := by
    constructor
    · intro g; have := g 0; simpa using this
    · intro g a
      match a with
      | ⟨0, _⟩ => show 63 ≤ i.val * 1 + w.val ∧ i.val * 1 + w.val - 63 < 64; omega
      | ⟨1, _⟩ => show 0 ≤ n.val * 1 + 0 ∧ n.val * 1 + 0 - 0 < 4; omega
      | ⟨2, _⟩ => show 0 ≤ l.val * 1 + 0 ∧ l.val * 1 + 0 - 0 < 128; omega
  refine dite_congr (propext e) (fun g => ?_) (fun _ => rfl)
  congr 1
  funext a
  apply Fin.ext
  match a with
  | ⟨0, _⟩ => show i.val * 1 + w.val - 63 = i.val + w.val - 63; omega
  | ⟨1, _⟩ => show n.val * 1 + 0 - 0 = n.val; omega
  | ⟨2, _⟩ => show l.val * 1 + 0 - 0 = l.val; omega

/-- The sum over the later rows of one chunk, `[64, 4, 128]`. -/
theorem suffix3 {u : Shape} {φ : FTy} (x : FVec Ideal ⟨3, ![64, 4, 128]⟩ φ) (init : u.Idx → Ideal φ)
    (h : (⟨3, ![64, 4, 128]⟩ : Shape).ReduceWindows (![64, 1, 1] : Fin 3 → Nat) ![1, 1, 1] ![0, 0, 0] ![63, 0, 0] ⟨3, ![64, 4, 128]⟩)
    (hu : 0 < u.numel) (h0 : init (Shape.Idx.first hu) = (0 : EReal)) (i : Fin 64) (n : Fin 4) (l : Fin 128) :
    Host.reduceWindowAdd ![64, 1, 1] ![1, 1, 1] ![0, 0, 0] ![63, 0, 0] x init h hu (ix3 i n l)
      = ∑ r : Fin 64, if i ≤ r then (x (ix3 r n l) : EReal) else 0 := by
  rw [reduceWindowAdd_eq _ _ _ _ _ _ _ _ h0]
  refine (sum_idx3 (n0 := 64) (n1 := 1) (n2 := 1) _).trans ?_
  rw [← sum_rows_ge (fun r => x (ix3 r n l)) i]
  refine Finset.sum_congr rfl fun w _ => ?_
  rw [Fin.sum_univ_one, Fin.sum_univ_one]
  have e : (∀ a : Fin 3, (![0, 0, 0] : Fin 3 → ℕ) a ≤ (ix3 i n l (a.cast h.1.symm)).val * (![1, 1, 1] : Fin 3 → ℕ) a + (ix3 (n0 := 64) (n1 := 1) (n2 := 1) w 0 0 a).val
              ∧ (ix3 i n l (a.cast h.1.symm)).val * (![1, 1, 1] : Fin 3 → ℕ) a + (ix3 (n0 := 64) (n1 := 1) (n2 := 1) w 0 0 a).val - (![0, 0, 0] : Fin 3 → ℕ) a < (⟨3, ![64, 4, 128]⟩ : Shape).size a)
      ↔ (i.val + w.val < 64) := by
    constructor
    · intro g; have := g 0; simpa using this
    · intro g a
      match a with
      | ⟨0, _⟩ => show 0 ≤ i.val * 1 + w.val ∧ i.val * 1 + w.val - 0 < 64; omega
      | ⟨1, _⟩ => show 0 ≤ n.val * 1 + 0 ∧ n.val * 1 + 0 - 0 < 4; omega
      | ⟨2, _⟩ => show 0 ≤ l.val * 1 + 0 ∧ l.val * 1 + 0 - 0 < 128; omega
  refine dite_congr (propext e) (fun g => ?_) (fun _ => rfl)
  congr 1
  funext a
  apply Fin.ext
  match a with
  | ⟨0, _⟩ => show i.val * 1 + w.val - 0 = i.val + w.val; omega
  | ⟨1, _⟩ => show n.val * 1 + 0 - 0 = n.val; omega
  | ⟨2, _⟩ => show l.val * 1 + 0 - 0 = l.val; omega

/-- The running sums of all chunks at once, `[128, 64, 4, 128]` along its second axis. -/
theorem prefix4 {u : Shape} {φ : FTy} (x : FVec Ideal ⟨4, ![128, 64, 4, 128]⟩ φ) (init : u.Idx → Ideal φ)
    (h : (⟨4, ![128, 64, 4, 128]⟩ : Shape).ReduceWindows (![1, 64, 1, 1] : Fin 4 → Nat) ![1, 1, 1, 1] ![0, 63, 0, 0] ![0, 0, 0, 0] ⟨4, ![128, 64, 4, 128]⟩)
    (hu : 0 < u.numel) (h0 : init (Shape.Idx.first hu) = (0 : EReal)) (c : Fin 128) (i : Fin 64) (n : Fin 4) (l : Fin 128) :
    Host.reduceWindowAdd ![1, 64, 1, 1] ![1, 1, 1, 1] ![0, 63, 0, 0] ![0, 0, 0, 0] x init h hu (ix4 c i n l)
      = ∑ r : Fin 64, if r ≤ i then (x (ix4 c r n l) : EReal) else 0 := by
  rw [reduceWindowAdd_eq _ _ _ _ _ _ _ _ h0]
  refine (sum_idx4 (n0 := 1) (n1 := 64) (n2 := 1) (n3 := 1) _).trans ?_
  rw [Fin.sum_univ_one, ← sum_rows_le (fun r => x (ix4 c r n l)) i]
  refine Finset.sum_congr rfl fun w _ => ?_
  rw [Fin.sum_univ_one, Fin.sum_univ_one]
  have e : (∀ a : Fin 4, (![0, 63, 0, 0] : Fin 4 → ℕ) a ≤ (ix4 c i n l (a.cast h.1.symm)).val * (![1, 1, 1, 1] : Fin 4 → ℕ) a + (ix4 (n0 := 1) (n1 := 64) (n2 := 1) (n3 := 1) 0 w 0 0 a).val
              ∧ (ix4 c i n l (a.cast h.1.symm)).val * (![1, 1, 1, 1] : Fin 4 → ℕ) a + (ix4 (n0 := 1) (n1 := 64) (n2 := 1) (n3 := 1) 0 w 0 0 a).val - (![0, 63, 0, 0] : Fin 4 → ℕ) a < (⟨4, ![128, 64, 4, 128]⟩ : Shape).size a)
      ↔ (63 ≤ i.val + w.val ∧ i.val + w.val - 63 < 64) := by
    constructor
    · intro g; have := g 1; simpa using this
    · intro g a
      match a with
      | ⟨0, _⟩ => show 0 ≤ c.val * 1 + 0 ∧ c.val * 1 + 0 - 0 < 128; omega
      | ⟨1, _⟩ => show 63 ≤ i.val * 1 + w.val ∧ i.val * 1 + w.val - 63 < 64; omega
      | ⟨2, _⟩ => show 0 ≤ n.val * 1 + 0 ∧ n.val * 1 + 0 - 0 < 4; omega
      | ⟨3, _⟩ => show 0 ≤ l.val * 1 + 0 ∧ l.val * 1 + 0 - 0 < 128; omega
  refine dite_congr (propext e) (fun g => ?_) (fun _ => rfl)
  congr 1
  funext a
  apply Fin.ext
  match a with
  | ⟨0, _⟩ => show c.val * 1 + 0 - 0 = c.val; omega
  | ⟨1, _⟩ => show i.val * 1 + w.val - 63 = i.val + w.val - 63; omega
  | ⟨2, _⟩ => show n.val * 1 + 0 - 0 = n.val; omega
  | ⟨3, _⟩ => show l.val * 1 + 0 - 0 = l.val; omega

end Cert.Gla

end
-- ==== Proof.ChunkKernel.lean ====
/-
  The kernel's vector expressions for one chunk of one head, read at an index: they are the chunk's gradients.
-/
module

public import proofs.«01_k».proof.Proof.ChunkVec
public import proofs.«01_k».proof.Proof.Heads
public import proofs.«01_k».proof.Proof.Window

@[expose] public section

set_option maxRecDepth 16384

noncomputable section

namespace Cert.Gla

open Idealize.ShloMosaic Cert.KernelIdeal Cert.KernelIdeal.Gen

/-- The chunk that the eight blocks hold. -/
def chunkOf (q k : Vec Ideal S64x128 .bf16) (v : Vec Ideal S64x256 .bf16) (b : Vec Ideal S64x128 .f32)
    (o : Vec Ideal S64x256 .f32) (st : Vec Ideal S1x1x256x128 .bf16) : Chunk where
  q r l := (q (ix2 r l) : EReal) * scale
  k r l := k (ix2 r l)
  b r l := b (ix2 r l)
  v r w := v (ix2 r w)
  o r w := o (ix2 r w)
  st w l := st (ix4 0 0 w l)

/-- The kernel's triangular mask at an index. -/
theorem mask_sel (x i : Fin 64) (A B : EReal) :
    Scalar.select (IntOp.cmpi CmpIPredicate.sle (BitVec.ofNat 32 x.val) (BitVec.ofNat 32 i.val)) A B = if x ≤ i then A else B := by
  have e : IntOp.cmpi CmpIPredicate.sle (BitVec.ofNat 32 x.val) (BitVec.ofNat 32 i.val) = if x ≤ i then 1#1 else 0#1 := by
    revert x i; decide +kernel
  rw [e]; split <;> rfl

variable (q k : Vec Ideal S64x128 .bf16) (v : Vec Ideal S64x256 .bf16) (b : Vec Ideal S64x128 .f32)
  (o : Vec Ideal S64x256 .f32) (st : Vec Ideal S1x1x256x128 .bf16) (D : FVec Ideal S256x128 .f32)

theorem ite_mul_zero' (p : Prop) [Decidable p] (x y : EReal) : (if p then x * y else 0) = (if p then x else 0) * y := by
  split
  · rfl
  · rw [zero_mul]

theorem vDq_apply (i : Fin 64) (l : Fin 128) :
    vDq q k v b o st (ix2 i l) = (chunkOf q k v b o st).dq i l * scale := by
  unfold vDq
  unfold_payloads
  pointwise []
  simp only [mask_sel, ite_mul_zero']
  rfl

theorem vDk_apply (i : Fin 64) (l : Fin 128) :
    vDk q k v b o D (ix2 i l) = (chunkOf q k v b o st).dk (fun w l => D (ix2 w l)) i l := by
  unfold vDk
  unfold_payloads
  pointwise []
  simp only [mask_sel, ite_mul_zero']
  rfl

theorem vDst_apply (w : Fin 256) (l : Fin 128) :
    vDst q b o D (ix2 w l) = (chunkOf q k v b o st).dst (fun w l => D (ix2 w l)) w l := by
  unfold vDst
  unfold_payloads
  pointwise []
  rfl

theorem vDv_apply (a : Vec Ideal S1x1x64x64 .bf16) (ha : ∀ i j, a (ix4 0 0 i j) = (chunkOf q k v b o st).a i j)
    (i : Fin 64) (w : Fin 256) :
    vDv k b o a D (ix2 i w) = (chunkOf q k v b o st).dv (fun w l => D (ix2 w l)) i w := by
  unfold vDv
  unfold_payloads
  pointwise []
  simp only [ha]
  rfl

theorem vDb_apply (i : Fin 64) (l : Fin 128) :
    vDb q k v b o st D (ix2 i l) = (chunkOf q k v b o st).dbRow (fun w l => D (ix2 w l)) i l := by
  unfold vDb
  unfold_payloads
  pointwise []
  simp only [mask_sel, ite_mul_zero']
  rfl

/-- One doubling step of the sum over later rows: every row adds the row `s` further on, where there is one. -/
def rstep (n : BitVec 32) (x : FVec Ideal S64x128 .f32) : FVec Ideal S64x128 .f32 :=
  addf x (select (cmpi .slt (iota .tc S64x128 32 [0] iota_S64x128_d0_w32) (broadcast S64x128 n))
    (dynamicRotate 0 n none x rotates_S64x128_d0) (broadcast S64x128 (Scalar.ofBits .f32 0x00000000#32)))

/-- The gradient of the running sum, as the kernel adds its two special rows. -/
def vDbt : FVec Ideal S64x128 .f32 :=
  addf (addf (vDb q k v b o st D)
    (select (cmpi .eq (iota .tc S64x128 32 [0] iota_S64x128_d0_w32) (broadcast S64x128 31#32))
      (broadcastTo S64x128 (shapeCast S1x128 (shapeCast S1x128 (k0_pay37 v k0_pay10 (k0_pay16 q b) (k0_pay17 k b) (k0_pay20 o))
        shapeCasts_S128_S1x128) shapeCasts_S1x128_S1x128) broadcasts_S1x128_S64x128)
      (broadcast S64x128 (Scalar.ofBits .f32 0x00000000#32))))
    (select (cmpi .eq (iota .tc S64x128 32 [0] iota_S64x128_d0_w32) (broadcast S64x128 63#32))
      (broadcastTo S64x128 (shapeCast S1x128 (addf (shapeCast S1x128 (multiReduction .add [0] S128 (k0_pay35 D v (k0_pay19 k b))
        0x00000000#32 reduces_S64x128_S128 (.inl rfl) rfl) shapeCasts_S128_S1x128) (mulf (k0_pay29 D st) (k0_pay15 b)))
        shapeCasts_S1x128_S1x128) broadcasts_S1x128_S64x128)
      (broadcast S64x128 (Scalar.ofBits .f32 0x00000000#32)))

theorem vDg_eq : vDg q k v b o st D
    = rstep 32#32 (rstep 48#32 (rstep 56#32 (rstep 60#32 (rstep 62#32 (rstep 63#32 (vDbt q k v b o st D)))))) := rfl

theorem row_eq_sel (n : ℕ) (hn : n < 64) (i : Fin 64) (A B : EReal) :
    Scalar.select (IntOp.cmpi CmpIPredicate.eq (BitVec.ofNat 32 i.val) (BitVec.ofNat 32 n)) A B = if i = ⟨n, hn⟩ then A else B := by
  have e : IntOp.cmpi CmpIPredicate.eq (BitVec.ofNat 32 i.val) (BitVec.ofNat 32 n) = if i = ⟨n, hn⟩ then 1#1 else 0#1 := by
    have : ∀ (i : Fin 64) (n : Fin 64), IntOp.cmpi CmpIPredicate.eq (BitVec.ofNat 32 i.val) (BitVec.ofNat 32 n.val) = if i = n then 1#1 else 0#1 := by decide +kernel
    exact this i ⟨n, hn⟩
  rw [e]; split <;> rfl

theorem vDbt_apply (i : Fin 64) (l : Fin 128) :
    vDbt q k v b o st D (ix2 i l) = (chunkOf q k v b o st).db (fun w l => D (ix2 w l)) i l := by
  unfold vDbt
  unfold_payloads
  pointwise [vDb_apply]
  simp only [mask_sel, ite_mul_zero']
  erw [row_eq_sel 31 (by decide), row_eq_sel 63 (by decide)]
  rfl

/-- A column of the vector, continued by zeros. -/
def col (x : FVec Ideal S64x128 .f32) (l : Fin 128) (n : ℕ) : EReal := if h : n < 64 then x (ix2 ⟨n, h⟩ l) else 0

theorem rstep_apply (s : ℕ) (hs : 0 < s ∧ s < 64) (x : FVec Ideal S64x128 .f32) (l : Fin 128) (n : ℕ) :
    col (rstep (BitVec.ofNat 32 (64 - s)) x) l n = col x l n + col x l (n + s) := by
  unfold col
  by_cases h : n < 64
  · rw [dif_pos h, dif_pos h]
    unfold rstep
    pointwise []
    have e : IntOp.cmpi CmpIPredicate.slt (BitVec.ofNat 32 n) (BitVec.ofNat 32 (64 - s)) = if n + s < 64 then 1#1 else 0#1 := by
      have : ∀ (n : Fin 64) (s : Fin 64), IntOp.cmpi CmpIPredicate.slt (BitVec.ofNat 32 n.val) (BitVec.ofNat 32 (64 - s.val)) = if n.val + s.val < 64 then 1#1 else 0#1 := by decide +kernel
      exact this ⟨n, h⟩ ⟨s, hs.2⟩
    have e2 : (BitVec.ofNat 32 (64 - s)).toNat = 64 - s := by rw [BitVec.toNat_ofNat]; omega
    rw [e]
    by_cases g : n + s < 64
    · rw [if_pos g, dif_pos g]
      refine congrArg (fun z : EReal => x (ix2 ⟨n, h⟩ l) + z) (congrArg (fun r => x (ix2 r l)) (Fin.ext ?_))
      show (n + 64 - (BitVec.ofNat 32 (64 - s)).toNat % 64) % 64 = n + s
      rw [e2]; omega
    · rw [if_neg g, dif_neg g]; rfl
  · rw [dif_neg h, dif_neg h, dif_neg (by omega), zero_add]

/-- A sum of twice as many terms is the sum of the two halves. -/
theorem sum_double (f : ℕ → EReal) (n s : ℕ) :
    (∑ j ∈ Finset.range s, f (n + j)) + (∑ j ∈ Finset.range s, f (n + s + j)) = ∑ j ∈ Finset.range (s + s), f (n + j) := by
  rw [Finset.sum_range_add]
  simp only [Nat.add_assoc]

/-- The six doubling steps sum each row and all the later ones. -/
theorem suffix_steps (x : FVec Ideal S64x128 .f32) (l : Fin 128) (n : ℕ) :
    col (rstep 32#32 (rstep 48#32 (rstep 56#32 (rstep 60#32 (rstep 62#32 (rstep 63#32 x)))))) l n
      = ∑ j ∈ Finset.range 64, col x l (n + j) := by
  have h1 : ∀ n, col (rstep 63#32 x) l n = ∑ j ∈ Finset.range 2, col x l (n + j) := fun n => by
    rw [show (63#32 : BitVec 32) = BitVec.ofNat 32 (64 - 1) from rfl, rstep_apply 1 (by decide), Finset.sum_range_succ, Finset.sum_range_one]
    rfl
  have h2 : ∀ n, col (rstep 62#32 (rstep 63#32 x)) l n = ∑ j ∈ Finset.range 4, col x l (n + j) := fun n => by
    rw [show (62#32 : BitVec 32) = BitVec.ofNat 32 (64 - 2) from rfl, rstep_apply 2 (by decide), h1, h1, sum_double]
  have h3 : ∀ n, col (rstep 60#32 (rstep 62#32 (rstep 63#32 x))) l n = ∑ j ∈ Finset.range 8, col x l (n + j) := fun n => by
    rw [show (60#32 : BitVec 32) = BitVec.ofNat 32 (64 - 4) from rfl, rstep_apply 4 (by decide), h2, h2, sum_double]
  have h4 : ∀ n, col (rstep 56#32 (rstep 60#32 (rstep 62#32 (rstep 63#32 x)))) l n = ∑ j ∈ Finset.range 16, col x l (n + j) := fun n => by
    rw [show (56#32 : BitVec 32) = BitVec.ofNat 32 (64 - 8) from rfl, rstep_apply 8 (by decide), h3, h3, sum_double]
  have h5 : ∀ n, col (rstep 48#32 (rstep 56#32 (rstep 60#32 (rstep 62#32 (rstep 63#32 x))))) l n = ∑ j ∈ Finset.range 32, col x l (n + j) := fun n => by
    rw [show (48#32 : BitVec 32) = BitVec.ofNat 32 (64 - 16) from rfl, rstep_apply 16 (by decide), h4, h4, sum_double]
  rw [show (32#32 : BitVec 32) = BitVec.ofNat 32 (64 - 32) from rfl, rstep_apply 32 (by decide)]
  rw [h5, h5, sum_double]

theorem vDg_apply (i : Fin 64) (l : Fin 128) :
    vDg q k v b o st D (ix2 i l) = (chunkOf q k v b o st).dg (fun w l => D (ix2 w l)) i l := by
  have e : vDg q k v b o st D (ix2 i l) = col (vDg q k v b o st D) l i.val := by
    unfold col; rw [dif_pos i.isLt]
  rw [e, vDg_eq, suffix_steps, Finset.sum_range]
  unfold Chunk.dg
  rw [← sum_rows_ge]
  refine Finset.sum_congr rfl fun w _ => ?_
  unfold col
  refine dite_congr rfl (fun h => ?_) (fun _ => rfl)
  exact vDbt_apply q k v b o st D ⟨i.val + w.val, h⟩ l

end Cert.Gla

end
-- ==== Proof.Entry.lean ====
/-
  The kernel's input blocks at an index, in terms of the argument arrays: grid point `t` takes the eight chunks from
  `8 * (15 - t)` on; the running sums and the masked scores are those that the operations before the call leave.
-/
module

public import Idealize.ShloMosaic.Lib.StableHlo.RunRead
public import Idealize.ShloMosaic.Lib.StableHlo.ReadAt
public import proofs.«01_k».proof.Proof.Gen.KernelIdeal.Value
public import proofs.«01_k».proof.Proof.Heads
public import proofs.«01_k».proof.Proof.Window
public import Idealize.ShloMosaic.Lib.Pipeline.ValueKit

@[expose] public section

set_option maxRecDepth 16384

noncomputable section

namespace Cert.Gla

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx0 : ∀ t : Fin cfg0.N, win0_0.index t 0 = 15 - t.val ∧ win0_0.index t 1 = 6 :=
  (by decide +kernel : ∀ t : Fin grid0.N, win0_0.index t 0 = 15 - t.val ∧ win0_0.index t 1 = 6)
theorem idx1 : ∀ t : Fin cfg0.N, win0_1.index t 0 = 15 - t.val ∧ win0_1.index t 1 = 7 :=
  (by decide +kernel : ∀ t : Fin grid0.N, win0_1.index t 0 = 15 - t.val ∧ win0_1.index t 1 = 7)
theorem idx2 : ∀ t : Fin cfg0.N, win0_2.index t 0 = 15 - t.val ∧ win0_2.index t 1 = 4 :=
  (by decide +kernel : ∀ t : Fin grid0.N, win0_2.index t 0 = 15 - t.val ∧ win0_2.index t 1 = 4)
theorem idx3 : ∀ t : Fin cfg0.N, win0_3.index t 0 = 15 - t.val ∧ win0_3.index t 1 = 0 :=
  (by decide +kernel : ∀ t : Fin grid0.N, win0_3.index t 0 = 15 - t.val ∧ win0_3.index t 1 = 0)
theorem idx4 : ∀ t : Fin cfg0.N, win0_4.index t 0 = 15 - t.val ∧ win0_4.index t 1 = 0 ∧ win0_4.index t 2 = 0 ∧ win0_4.index t 3 = 0 :=
  (by decide +kernel : ∀ t : Fin grid0.N, win0_4.index t 0 = 15 - t.val ∧ win0_4.index t 1 = 0 ∧ win0_4.index t 2 = 0 ∧ win0_4.index t 3 = 0)
theorem idx5 : ∀ t : Fin cfg0.N, win0_5.index t 0 = 15 - t.val ∧ win0_5.index t 1 = 0 ∧ win0_5.index t 2 = 0 ∧ win0_5.index t 3 = 0 :=
  (by decide +kernel : ∀ t : Fin grid0.N, win0_5.index t 0 = 15 - t.val ∧ win0_5.index t 1 = 0 ∧ win0_5.index t 2 = 0 ∧ win0_5.index t 3 = 0)
theorem idx6 : ∀ t : Fin cfg0.N, win0_6.index t 0 = 15 - t.val ∧ win0_6.index t 1 = 0 :=
  (by decide +kernel : ∀ t : Fin grid0.N, win0_6.index t 0 = 15 - t.val ∧ win0_6.index t 1 = 0)

theorem tlt (t : Fin cfg0.N) : t.val < 16 := lt_of_lt_of_eq t.isLt (show cfg0.N = 16 from N_0)

/-- Chunk `cc` of point `t`. -/
def chunkNo (t : Fin cfg0.N) (cc : Fin 8) : Fin 128 := ⟨(15 - t.val) * 8 + cc.val, by have := tlt t; omega⟩

/-- A chunk's row inside a point's block. -/
def brow (cc : Fin 8) (r : Fin 64) : Fin 512 := ⟨64 * cc.val + r.val, by omega⟩
def bcolK (h : Fin 4) (l : Fin 128) : Fin 512 := ⟨128 * h.val + l.val, by omega⟩
def bcolV (h : Fin 4) (w : Fin 256) : Fin 1024 := ⟨256 * h.val + w.val, by omega⟩

abbrev X0 : (⟨2, ![8192, 6144]⟩ : Shape).Idx → EReal := m ((c : Thread nD τ).loc main_arg0)
abbrev X1 : (⟨2, ![8192, 512]⟩ : Shape).Idx → EReal := m ((c : Thread nD τ).loc main_arg1)
abbrev X2 : (⟨4, ![128, 4, 256, 128]⟩ : Shape).Idx → EReal := m ((c : Thread nD τ).loc main_arg2)
abbrev X3 : (⟨2, ![8192, 1024]⟩ : Shape).Idx → EReal := m ((c : Thread nD τ).loc main_arg3)

theorem in0 (t : Fin cfg0.N) (cc : Fin 8) (h : Fin 4) (r : Fin 64) (l : Fin 128) :
    iblk m c 0 t (ix2 (brow cc r) (bcolK h l)) = X0 m c (ix2 (row (chunkNo t cc) r) ⟨3072 + (colK h l).val, by omega⟩) := by
  have := tlt t
  blk_ext [iblk, V, idx0 t, X0, brow, bcolK, row, chunkNo, colK]
theorem in1 (t : Fin cfg0.N) (cc : Fin 8) (h : Fin 4) (r : Fin 64) (l : Fin 128) :
    iblk m c 1 t (ix2 (brow cc r) (bcolK h l)) = X0 m c (ix2 (row (chunkNo t cc) r) ⟨3584 + (colK h l).val, by omega⟩) := by
  have := tlt t
  blk_ext [iblk, V, idx1 t, X0, brow, bcolK, row, chunkNo, colK]
theorem in2 (t : Fin cfg0.N) (cc : Fin 8) (h : Fin 4) (r : Fin 64) (w : Fin 256) :
    iblk m c 2 t (ix2 (brow cc r) (bcolV h w)) = X0 m c (ix2 (row (chunkNo t cc) r) ⟨4096 + (colV h w).val, by omega⟩) := by
  have := tlt t
  blk_ext [iblk, V, idx2 t, X0, brow, bcolV, row, chunkNo, colV]
theorem in6 (t : Fin cfg0.N) (cc : Fin 8) (h : Fin 4) (r : Fin 64) (w : Fin 256) :
    iblk m c 6 t (ix2 (brow cc r) (bcolV h w)) = X3 m c (ix2 (row (chunkNo t cc) r) (colV h w)) := by
  have := tlt t
  blk_ext [iblk, V, idx6 t, X3, brow, bcolV, row, chunkNo, colV]
theorem in4 (t : Fin cfg0.N) (cc : Fin 8) (h : Fin 4) (w : Fin 256) (l : Fin 128) :
    iblk m c 4 t (ix4 cc h w l) = X2 m c (ix4 (chunkNo t cc) h w l) := by
  have := tlt t
  blk_ext [iblk, V, idx4 t, X2, chunkNo]

/-- The running sums that the operations before the call compute, chunk by chunk. -/
def hostB (x1 : FVec Ideal S8192x512 .f32) : FVec Ideal S128x64x4x128 .f32 :=
  Host.reduceWindowAdd ![1, 64, 1, 1] ![1, 1, 1, 1] ![0, 63, 0, 0] ![0, 0, 0, 0]
    (shapeCast S128x64x4x128 x1 shapeCasts_S8192x512_S128x64x4x128)
    (broadcastInDim S_ ![] bcast_S_S_ (constant S_ FTy.f32 0#32))
    reduceWindows_S128x64x4x128_S128x64x4x128_w1s1p0_0_w64s1p63_0_w1s1p0_0_w1s1p0_0 h_S_
/-- The decayed queries … -/
def hostQ (x0 : FVec Ideal S8192x6144 .bf16) (x1 : FVec Ideal S8192x512 .f32) : FVec Ideal S128x64x4x128 .f32 :=
  mulf (mulf (extf FTy.f32 (shapeCast S128x64x4x128 (extractStridedSlice S8192x512 ![0, 3072] x0 slices_S8192x6144_S8192x512_0_3072)
          shapeCasts_S8192x512_S128x64x4x128) bitsLt_bf16_f32)
      (broadcastInDim S128x64x4x128 ![] bcast_S_S128x64x4x128 (constant S_ FTy.f32 1035273459#32)))
    (Host.exp (subf (hostB x1) (broadcastInDim S128x64x4x128 ![0, 1, 2, 3] bcast_S128x1x4x128_S128x64x4x128_0_1_2_3
      (extractStridedSlice S128x1x4x128 ![0, 31, 0, 0] (hostB x1) slices_S128x64x4x128_S128x1x4x128_0_31_0_0))))
/-- … and keys, … -/
def hostK (x0 : FVec Ideal S8192x6144 .bf16) (x1 : FVec Ideal S8192x512 .f32) : FVec Ideal S128x64x4x128 .f32 :=
  mulf (extf FTy.f32 (shapeCast S128x64x4x128 (extractStridedSlice S8192x512 ![0, 3584] x0 slices_S8192x6144_S8192x512_0_3584)
          shapeCasts_S8192x512_S128x64x4x128) bitsLt_bf16_f32)
    (Host.exp (subf (broadcastInDim S128x64x4x128 ![0, 1, 2, 3] bcast_S128x1x4x128_S128x64x4x128_0_1_2_3
      (extractStridedSlice S128x1x4x128 ![0, 31, 0, 0] (hostB x1) slices_S128x64x4x128_S128x1x4x128_0_31_0_0)) (hostB x1)))
/-- … the mask of the rows' earlier columns, … -/
def hostMask : IVec S64x64 1 :=
  select (cmpi CmpIPredicate.sge (addi (iotaInDim S64x64 32 0) (broadcastInDim S64x64 ![] bcast_S_S64x64 (constantI S_ 32 0#32)))
      (iotaInDim S64x64 32 1))
    (broadcastInDim S64x64 ![] bcast_S_S64x64 (constantI S_ 1 1#1)) (broadcastInDim S64x64 ![] bcast_S_S64x64 (constantI S_ 1 0#1))
/-- … and the masked scores. -/
def hostA (x0 : FVec Ideal S8192x6144 .bf16) (x1 : FVec Ideal S8192x512 .f32) : FVec Ideal S128x4x64x64 .bf16 :=
  truncf FTy.bf16 (select (broadcastInDim S128x4x64x64 ![2, 3] bcast_S64x64_S128x4x64x64_2_3 hostMask)
    (Host.dotGeneral dot_S128x64x4x128_S128x64x4x128_S128x4x64x64_3_3_1_1_02_02 none (hostQ x0 x1) (hostK x0 x1) : FVec Ideal S128x4x64x64 .f32)
    (broadcastInDim S128x4x64x64 ![] bcast_S_S128x4x64x64 (constant S_ FTy.f32 0#32))) bitsLt_bf16_f32

set_option maxHeartbeats 4000000 in
set_option maxRecDepth 65536 in
theorem V24 : V m c main_v24 = shapeCast S8192x512 (hostB (X1 m c)) shapeCasts_S128x64x4x128_S8192x512 := by
  simp only [V, hostOps0, hostOps0_1, hostOps0_2, hostOps0_3, hostOps0_4, hostOps0_5, hostOps0_6, List.flatten_cons, List.flatten_nil, List.append_nil, List.cons_append, List.nil_append]
  after_reads_simp
  rfl
set_option maxHeartbeats 4000000 in
set_option maxRecDepth 65536 in
theorem V23 : V m c main_v23 = hostA (X0 m c) (X1 m c) := by
  simp only [V, hostOps0, hostOps0_1, hostOps0_2, hostOps0_3, hostOps0_4, hostOps0_5, hostOps0_6, List.flatten_cons, List.flatten_nil, List.append_nil, List.cons_append, List.nil_append]
  after_reads_simp
  rfl

theorem hostB_apply (x1 : FVec Ideal S8192x512 .f32) (n : Fin 128) (r : Fin 64) (h : Fin 4) (l : Fin 128) :
    hostB x1 (ix4 n r h l) = ∑ r' : Fin 64, if r' ≤ r then x1 (ix2 (row n r') (colK h l)) else 0 := by
  unfold hostB
  refine (prefix4 _ _ _ _ (by pointwise) n r h l).trans ?_
  refine Finset.sum_congr rfl fun r' _ => ?_
  refine congrArg (fun z : EReal => if r' ≤ r then z else 0) ?_
  pointwise
  rfl
theorem hostQ_apply (x0 x1) (x2 x3) (n : Fin 128) (r : Fin 64) (h : Fin 4) (l : Fin 128) :
    hostQ x0 x1 (ix4 n r h l) = (chunkAt x0 x1 x2 x3 n h).qe r l := by
  unfold hostQ
  pointwise [hostB_apply]
  simp only [Chunk.qe, Chunk.eQ, chunkAt, scale, colK, row, ← Nat.add_assoc]
theorem hostK_apply (x0 x1) (x2 x3) (n : Fin 128) (r : Fin 64) (h : Fin 4) (l : Fin 128) :
    hostK x0 x1 (ix4 n r h l) = (chunkAt x0 x1 x2 x3 n h).ke r l := by
  unfold hostK
  pointwise [hostB_apply]
  simp only [Chunk.ke, Chunk.eK, chunkAt, colK, row, ← Nat.add_assoc]
/-- The mask at an index. -/
theorem mask_sge (i j : Fin 64) (A B : EReal) :
    Scalar.select (Scalar.select (IntOp.cmpi CmpIPredicate.sge (IntOp.addi (BitVec.ofNat 32 i.val) 0#32) (BitVec.ofNat 32 j.val)) 1#1 0#1) A B
      = if j ≤ i then A else B := by
  have h : Scalar.select (IntOp.cmpi CmpIPredicate.sge (IntOp.addi (BitVec.ofNat 32 i.val) 0#32) (BitVec.ofNat 32 j.val)) 1#1 0#1
      = if j ≤ i then 1#1 else 0#1 := by
    revert i j; decide +kernel
  rw [h]
  split <;> rfl

theorem hostA_apply (x0 x1) (x2 x3) (n : Fin 128) (h : Fin 4) (i j : Fin 64) :
    hostA x0 x1 (ix4 n h i j) = (chunkAt x0 x1 x2 x3 n h).a i j := by
  unfold hostA hostMask
  pointwise
  rw [mask_sge]
  simp only [Chunk.a, hostQ_apply x0 x1 x2 x3, hostK_apply x0 x1 x2 x3]
set_option maxHeartbeats 2000000 in
theorem in3 (t : Fin cfg0.N) (cc : Fin 8) (h : Fin 4) (r : Fin 64) (l : Fin 128) :
    iblk m c 3 t (ix2 (brow cc r) (bcolK h l)) = ∑ r' : Fin 64, if r' ≤ r then X1 m c (ix2 (row (chunkNo t cc) r') (colK h l)) else 0 := by
  have := tlt t
  blk_simp [iblk, idx3 t]
  refine (congrFun (V24 m c) _).trans ?_
  rw [← hostB_apply]
  have e : (win0_3.blk t).view.emb (ix2 (brow cc r) (bcolK h l)) = ix2 (row (chunkNo t cc) r) (colK h l) := by
    blk_ext [idx3 t, brow, bcolK, row, chunkNo, colK]
  rw [e]
  pointwise
  simp only [row_div, row_mod, colK_div, colK_mod, Fin.eta]
theorem in5 (t : Fin cfg0.N) (cc : Fin 8) (h : Fin 4) (i j : Fin 64) :
    iblk m c 5 t (ix4 cc h i j) = (chunkAt (X0 m c) (X1 m c) (X2 m c) (X3 m c) (chunkNo t cc) h).a i j := by
  have := tlt t
  blk_simp [iblk, idx5 t]
  refine (congrFun (V23 m c) _).trans ?_
  rw [← hostA_apply]
  have e : (win0_5.blk t).view.emb (ix4 cc h i j) = ix4 (chunkNo t cc) h i j := by
    blk_ext [idx5 t, chunkNo]
  rw [e]
end Cert.Gla

end
-- ==== Proof.KernelValue.lean ====
/-
  The kernel's output arrays, entry by entry: along the grid the scratch carries the gradient of the state, and each
  point's tiles are the gradients of its chunks.
-/
module

public import proofs.«01_k».proof.Proof.PointFirst
public import proofs.«01_k».proof.Proof.PointFirstGate
public import proofs.«01_k».proof.Proof.PointLater
public import proofs.«01_k».proof.Proof.PointLaterGate
public import proofs.«01_k».proof.Proof.ChunkKernel
public import proofs.«01_k».proof.Proof.Entry

@[expose] public section

set_option maxRecDepth 16384
set_option maxHeartbeats 2000000

noncomputable section

namespace Cert.Gla

open Cert.KernelIdeal Cert.KernelIdeal.Gen Idealize.ShloMosaic Idealize.ShloMosaic.TcCoe Idealize.SL.Sem
open Idealize.ShloMosaic.Pipeline (Dat)

/-! Tiles at an index. -/

theorem tileK_apply {e : EltTy} (x : Vec Ideal S512x512 e) (cc : Fin 8) (h : Fin 4) (r : Fin 64) (l : Fin 128) :
    tileK x cc h (ix2 r l) = x (ix2 (brow cc r) (bcolK h l)) := by
  refine congrArg x (funext fun a => Fin.ext ?_)
  match a with
  | ⟨0, _⟩ => exact Rect.idx_unit_val _ _ _ _ _
  | ⟨1, _⟩ => exact Rect.idx_unit_val _ _ _ _ _
theorem tileV_apply {e : EltTy} (x : Vec Ideal S512x1024 e) (cc : Fin 8) (h : Fin 4) (r : Fin 64) (w : Fin 256) :
    tileV x cc h (ix2 r w) = x (ix2 (brow cc r) (bcolV h w)) := by
  refine congrArg x (funext fun a => Fin.ext ?_)
  match a with
  | ⟨0, _⟩ => exact Rect.idx_unit_val _ _ _ _ _
  | ⟨1, _⟩ => exact Rect.idx_unit_val _ _ _ _ _
theorem tileS_apply {e : EltTy} (x : Vec Ideal S8x4x256x128 e) (cc : Fin 8) (h : Fin 4) (w : Fin 256) (l : Fin 128) :
    tileS x cc h (ix4 0 0 w l) = x (ix4 cc h w l) := by
  refine congrArg x (funext fun a => Fin.ext ?_)
  match a with
  | ⟨0, _⟩ => exact Rect.idx_unit_val _ _ _ _ _
  | ⟨1, _⟩ => exact Rect.idx_unit_val _ _ _ _ _
  | ⟨2, _⟩ => exact (Rect.idx_unit_val _ _ _ _ _).trans (Nat.zero_add _)
  | ⟨3, _⟩ => exact (Rect.idx_unit_val _ _ _ _ _).trans (Nat.zero_add _)
theorem tileA_apply {e : EltTy} (x : Vec Ideal S8x4x64x64 e) (cc : Fin 8) (h : Fin 4) (i j : Fin 64) :
    tileA x cc h (ix4 0 0 i j) = x (ix4 cc h i j) := by
  refine congrArg x (funext fun a => Fin.ext ?_)
  match a with
  | ⟨0, _⟩ => exact Rect.idx_unit_val _ _ _ _ _
  | ⟨1, _⟩ => exact Rect.idx_unit_val _ _ _ _ _
  | ⟨2, _⟩ => exact (Rect.idx_unit_val _ _ _ _ _).trans (Nat.zero_add _)
  | ⟨3, _⟩ => exact (Rect.idx_unit_val _ _ _ _ _).trans (Nat.zero_add _)
theorem tileD_glueD (W : Fin 4 → Vec Ideal S1x256x128 .f32) (h : Fin 4) : tileD (glueD W) h = W h :=
  funext fun x => (glueD_emb W h x).symm
theorem glueK_apply {e : EltTy} (W : Fin 8 → Fin 4 → Vec Ideal S64x128 e) (cc : Fin 8) (h : Fin 4) (r : Fin 64) (l : Fin 128) :
    glueK W (ix2 (brow cc r) (bcolK h l)) = W cc h (ix2 r l) :=
  ((glueK_emb W cc h (ix2 r l)).trans (tileK_apply (glueK W) cc h r l)).symm
theorem glueV_apply {e : EltTy} (W : Fin 8 → Fin 4 → Vec Ideal S64x256 e) (cc : Fin 8) (h : Fin 4) (r : Fin 64) (w : Fin 256) :
    glueV W (ix2 (brow cc r) (bcolV h w)) = W cc h (ix2 r w) :=
  ((glueV_emb W cc h (ix2 r w)).trans (tileV_apply (glueV W) cc h r w)).symm

/-! The scratch's reading and writing. -/

theorem store_load (x : FVec Ideal S256x128 .f32) (w : Fin 256) (l : Fin 128) : k0_pay4 (k0_pay2 x) (ix2 w l) = x (ix2 w l) := by
  unfold_payloads
  pointwise
theorem cleared (h : Fin 4) (w : Fin 256) (l : Fin 128) : k0_pay4 (F := Ideal) (tileD (k0_pay3 (F := Ideal)) h) (ix2 w l) = (0 : EReal) := by
  unfold tileD
  unfold_payloads
  pointwise

variable (m : (ℓ : Loc nD τ sig) → Buf (Elt Ideal) ℓ) (c : Dev nD)

abbrev CK : Fin 128 → Fin 4 → Chunk := chunkAt (X0 m c) (X1 m c) (X2 m c) (X3 m c)
abbrev DS : ℕ → Fin 4 → Fin 256 → Fin 128 → EReal := dstate (chunks (X0 m c) (X1 m c) (X2 m c) (X3 m c))

/-- A chunk's tiles hold the chunk. -/
theorem chunk_tiles (t : Fin cfg0.N) (cc : Fin 8) (h : Fin 4) :
    chunkOf (tileK (iblk m c 0 t) cc h) (tileK (iblk m c 1 t) cc h) (tileV (iblk m c 2 t) cc h) (tileK (iblk m c 3 t) cc h)
      (tileV (iblk m c 6 t) cc h) (tileS (iblk m c 4 t) cc h) = CK m c (chunkNo t cc) h := by
  unfold chunkOf CK chunkAt
  congr 1
  · funext r l; rw [tileK_apply, in0]
  · funext r l; rw [tileK_apply, in1]
  · funext r l; rw [tileK_apply, in3]
  · funext r w; rw [tileV_apply, in2]
  · funext r w; rw [tileV_apply, in6]
  · funext w l; rw [tileS_apply, in4]

/-- The chain through a point's chunks continues the gradient of the state. -/
theorem chain_apply (t : Fin cfg0.N) (D0 : Fin 4 → FVec Ideal S256x128 .f32) (h : Fin 4)
    (hD : ∀ w l, D0 h (ix2 w l) = DS m c (8 * t.val) h w l) (n : ℕ) (hn : n ≤ 8) (w : Fin 256) (l : Fin 128) :
    chain (iblk m c 0 t) (iblk m c 3 t) (iblk m c 6 t) D0 h n (ix2 w l) = DS m c (8 * t.val + n) h w l := by
  induction n generalizing w l with
  | zero => exact hD w l
  | succ n ih =>
    have ht := tlt t
    have e : 127 - (8 * t.val + n) = (chunkNo t ⟨7 - n, by omega⟩).val := by
      show 127 - (8 * t.val + n) = (15 - t.val) * 8 + (7 - n); omega
    unfold chain
    refine (vDst_apply _ (tileK (iblk m c 1 t) ⟨7 - n, by omega⟩ h) (tileV (iblk m c 2 t) ⟨7 - n, by omega⟩ h) _ _ (tileS (iblk m c 4 t) ⟨7 - n, by omega⟩ h) _ w l).trans ?_
    rw [chunk_tiles]
    show _ = (chunks (X0 m c) (X1 m c) (X2 m c) (X3 m c) (127 - (8 * t.val + n)) h).dst (DS m c (8 * t.val + n) h) w l
    rw [e, chunks_val]
    exact congrArg (fun D => (CK m c (chunkNo t ⟨7 - n, by omega⟩) h).dst D w l) (funext fun w => funext fun l => ih (by omega) w l)

/-- What a point leaves, over the gradient of the state that it starts from. -/
def Left (t : Fin cfg0.N) (D0 : Fin 4 → FVec Ideal S256x128 .f32) : Prop :=
  (∀ h w l, D0 h (ix2 w l) = DS m c (8 * t.val) h w l)
  ∧ (outsAt0 m c t.val t.isLt).1 = glueK (ptDq (iblk m c 0 t) (iblk m c 1 t) (iblk m c 2 t) (iblk m c 3 t) (iblk m c 4 t) (iblk m c 6 t))
  ∧ (outsAt0 m c t.val t.isLt).2.1 = glueK (ptDk (iblk m c 0 t) (iblk m c 1 t) (iblk m c 2 t) (iblk m c 3 t) (iblk m c 6 t) D0)
  ∧ (outsAt0 m c t.val t.isLt).2.2.1 = glueV (ptDv (iblk m c 0 t) (iblk m c 1 t) (iblk m c 3 t) (iblk m c 5 t) (iblk m c 6 t) D0)
  ∧ (outsAt0 m c t.val t.isLt).2.2.2.1 = glueK (ptDg (iblk m c 0 t) (iblk m c 1 t) (iblk m c 2 t) (iblk m c 3 t) (iblk m c 4 t) (iblk m c 6 t) D0)
  ∧ (outsAt0 m c t.val t.isLt).2.2.2.2 = glueD (ptD (iblk m c 0 t) (iblk m c 3 t) (iblk m c 6 t) D0)

theorem left (n : ℕ) (hn : n < cfg0.N) : ∃ D0, Left m c ⟨n, hn⟩ D0 := by
  induction n with
  | zero =>
    refine ⟨fun h => k0_pay4 (tileD (k0_pay3 (F := Ideal)) h), fun h w l => cleared h w l, ?_⟩
    exact ⟨out7_A m c ⟨0, hn⟩ rfl, out8_A m c ⟨0, hn⟩ rfl, out9_A m c ⟨0, hn⟩ rfl, out10_A m c ⟨0, hn⟩ rfl, scratch_A m c ⟨0, hn⟩ rfl⟩
  | succ n ih =>
    obtain ⟨D, hD, -, -, -, -, hs⟩ := ih (by omega)
    have h0 : ¬ (n + 1) % 16 = 0 := by have := tlt ⟨n + 1, hn⟩; simp only at this; omega
    refine ⟨fun h => k0_pay4 (tileD (outsAt0 m c n (by omega)).2.2.2.2 h), fun h w l => ?_, ?_⟩
    · rw [hs]
      show k0_pay4 (tileD (glueD _) h) (ix2 w l) = _
      rw [tileD_glueD]
      unfold ptD
      rw [store_load, chain_apply m c ⟨n, by omega⟩ D h (hD h) 8 (le_refl _)]
      exact congrArg (fun k => DS m c k h w l) (show 8 * n + 8 = 8 * (n + 1) by omega)
    · exact ⟨out7_B m c ⟨n + 1, hn⟩ h0, out8_B m c ⟨n + 1, hn⟩ h0, out9_B m c ⟨n + 1, hn⟩ h0, out10_B m c ⟨n + 1, hn⟩ h0, scratch_B m c ⟨n + 1, hn⟩ h0⟩

/-- The point that takes chunk `n`, … -/
def pointOf (n : Fin 128) : Fin cfg0.N := ⟨15 - n.val / 8, by show _ < cfg0.N; rw [show cfg0.N = 16 from N_0]; omega⟩
/-- … and the chunk's place in it. -/
def placeOf (n : Fin 128) : Fin 8 := ⟨n.val % 8, by omega⟩
theorem chunkNo_pointOf (n : Fin 128) : chunkNo (pointOf n) (placeOf n) = n :=
  Fin.ext (show (15 - (15 - n.val / 8)) * 8 + n.val % 8 = n.val by omega)

/-- The chain where a chunk reads it. -/
theorem chain_at (n : Fin 128) (D0 : Fin 4 → FVec Ideal S256x128 .f32) (hD : ∀ h w l, D0 h (ix2 w l) = DS m c (8 * (pointOf n).val) h w l) (h : Fin 4) :
    (fun w l => chain (iblk m c 0 (pointOf n)) (iblk m c 3 (pointOf n)) (iblk m c 6 (pointOf n)) D0 h (7 - (placeOf n).val) (ix2 w l))
      = dAt (X0 m c) (X1 m c) (X2 m c) (X3 m c) n h := by
  funext w l
  rw [chain_apply m c (pointOf n) D0 h (hD h) _ (by omega)]
  unfold dAt
  have e : 8 * (pointOf n).val + (7 - (placeOf n).val) = 127 - n.val := by
    show 8 * (15 - n.val / 8) + (7 - n.val % 8) = 127 - n.val; omega
  rw [e]

theorem idx7 : ∀ t : Fin cfg0.N, win0_7.index t 0 = 15 - t.val ∧ win0_7.index t 1 = 0 :=
  (by decide +kernel : ∀ t : Fin grid0.N, win0_7.index t 0 = 15 - t.val ∧ win0_7.index t 1 = 0)

theorem tile7 (n : Fin 128) (i : Fin 64) (h : Fin 4) (l : Fin 128) :
    (outsAt0 m c (pointOf n).val (pointOf n).isLt).1 (ix2 (brow (placeOf n) i) (bcolK h l)) = (CK m c n h).dq i l * scale := by
  obtain ⟨D0, hD, e7, e8, e9, e10, -⟩ := left m c (pointOf n).val (pointOf n).isLt
  refine (congrFun e7 _).trans ?_
  rw [glueK_apply]
  unfold ptDq
  rw [vDq_apply, chunk_tiles, chunkNo_pointOf]

theorem emb7 (t : Fin cfg0.N) (cc : Fin 8) (i : Fin 64) (h : Fin 4) (l : Fin 128) :
    (win0_7.blk t).view.emb (ix2 (brow cc i) (bcolK h l)) = ix2 (row (chunkNo t cc) i) (colK h l) := by
  have := tlt t
  blk_ext [idx7 t, brow, bcolK, row, colK, chunkNo]

/-- Entry of the array of `dq`. -/
theorem arr7 (n : Fin 128) (i : Fin 64) (h : Fin 4) (l : Fin 128) :
    (dats m 0 c).arrAt 7 cfg0.N (ix2 (row n i) (colK h l)) = (CK m c n h).dq i l * scale := by
  rw [← tile7 m c n i h l]
  have e : (win0_7.blk (pointOf n)).view.emb (ix2 (brow (placeOf n) i) (bcolK h l)) = ix2 (row n i) (colK h l) := by
    rw [emb7, chunkNo_pointOf]
  have b := congrFun (Value.blocks7 m c (pointOf n) ((by decide +kernel : ∀ t : Fin grid0.N, win0_7.flush t = true) _)) (ix2 (brow (placeOf n) i) (bcolK h l))
  rw [Value.flushed7 m c (pointOf n)] at b
  refine ((congrArg ((dats m 0 c).arrAt 7 cfg0.N) e).symm.trans b).trans ?_
  rfl

theorem idx8 : ∀ t : Fin cfg0.N, win0_8.index t 0 = 15 - t.val ∧ win0_8.index t 1 = 0 :=
  (by decide +kernel : ∀ t : Fin grid0.N, win0_8.index t 0 = 15 - t.val ∧ win0_8.index t 1 = 0)

theorem tile8 (n : Fin 128) (i : Fin 64) (h : Fin 4) (l : Fin 128) :
    (outsAt0 m c (pointOf n).val (pointOf n).isLt).2.1 (ix2 (brow (placeOf n) i) (bcolK h l)) = (CK m c n h).dk (dAt (X0 m c) (X1 m c) (X2 m c) (X3 m c) n h) i l  := by
  obtain ⟨D0, hD, e7, e8, e9, e10, -⟩ := left m c (pointOf n).val (pointOf n).isLt
  refine (congrFun e8 _).trans ?_
  rw [glueK_apply]
  unfold ptDk
  refine (vDk_apply _ _ _ _ _ (tileS (iblk m c 4 (pointOf n)) (placeOf n) h) _ i l).trans ?_
  rw [chunk_tiles, chunkNo_pointOf, chain_at m c n D0 hD h]

theorem emb8 (t : Fin cfg0.N) (cc : Fin 8) (i : Fin 64) (h : Fin 4) (l : Fin 128) :
    (win0_8.blk t).view.emb (ix2 (brow cc i) (bcolK h l)) = ix2 (row (chunkNo t cc) i) (colK h l) := by
  have := tlt t
  blk_ext [idx8 t, brow, bcolK, row, colK, chunkNo]

/-- Entry of the array of `dk`. -/
theorem arr8 (n : Fin 128) (i : Fin 64) (h : Fin 4) (l : Fin 128) :
    (dats m 0 c).arrAt 8 cfg0.N (ix2 (row n i) (colK h l)) = (CK m c n h).dk (dAt (X0 m c) (X1 m c) (X2 m c) (X3 m c) n h) i l  := by
  rw [← tile8 m c n i h l]
  have e : (win0_8.blk (pointOf n)).view.emb (ix2 (brow (placeOf n) i) (bcolK h l)) = ix2 (row n i) (colK h l) := by
    rw [emb8, chunkNo_pointOf]
  have b := congrFun (Value.blocks8 m c (pointOf n) ((by decide +kernel : ∀ t : Fin grid0.N, win0_8.flush t = true) _)) (ix2 (brow (placeOf n) i) (bcolK h l))
  rw [Value.flushed8 m c (pointOf n)] at b
  refine ((congrArg ((dats m 0 c).arrAt 8 cfg0.N) e).symm.trans b).trans ?_
  rfl

theorem idx9 : ∀ t : Fin cfg0.N, win0_9.index t 0 = 15 - t.val ∧ win0_9.index t 1 = 0 :=
  (by decide +kernel : ∀ t : Fin grid0.N, win0_9.index t 0 = 15 - t.val ∧ win0_9.index t 1 = 0)

theorem tile9 (n : Fin 128) (i : Fin 64) (h : Fin 4) (w : Fin 256) :
    (outsAt0 m c (pointOf n).val (pointOf n).isLt).2.2.1 (ix2 (brow (placeOf n) i) (bcolV h w)) = (CK m c n h).dv (dAt (X0 m c) (X1 m c) (X2 m c) (X3 m c) n h) i w  := by
  obtain ⟨D0, hD, e7, e8, e9, e10, -⟩ := left m c (pointOf n).val (pointOf n).isLt
  refine (congrFun e9 _).trans ?_
  rw [glueV_apply]
  unfold ptDv
  refine (vDv_apply (tileK (iblk m c 0 (pointOf n)) (placeOf n) h) _ (tileV (iblk m c 2 (pointOf n)) (placeOf n) h) _ _ (tileS (iblk m c 4 (pointOf n)) (placeOf n) h) _ _ (fun i j => ?_) i w).trans ?_
  · rw [tileA_apply, in5, chunk_tiles]
  · rw [chunk_tiles, chunkNo_pointOf, chain_at m c n D0 hD h]

theorem emb9 (t : Fin cfg0.N) (cc : Fin 8) (i : Fin 64) (h : Fin 4) (w : Fin 256) :
    (win0_9.blk t).view.emb (ix2 (brow cc i) (bcolV h w)) = ix2 (row (chunkNo t cc) i) (colV h w) := by
  have := tlt t
  blk_ext [idx9 t, brow, bcolV, row, colV, chunkNo]

/-- Entry of the array of `dv`. -/
theorem arr9 (n : Fin 128) (i : Fin 64) (h : Fin 4) (w : Fin 256) :
    (dats m 0 c).arrAt 9 cfg0.N (ix2 (row n i) (colV h w)) = (CK m c n h).dv (dAt (X0 m c) (X1 m c) (X2 m c) (X3 m c) n h) i w  := by
  rw [← tile9 m c n i h w]
  have e : (win0_9.blk (pointOf n)).view.emb (ix2 (brow (placeOf n) i) (bcolV h w)) = ix2 (row n i) (colV h w) := by
    rw [emb9, chunkNo_pointOf]
  have b := congrFun (Value.blocks9 m c (pointOf n) ((by decide +kernel : ∀ t : Fin grid0.N, win0_9.flush t = true) _)) (ix2 (brow (placeOf n) i) (bcolV h w))
  rw [Value.flushed9 m c (pointOf n)] at b
  refine ((congrArg ((dats m 0 c).arrAt 9 cfg0.N) e).symm.trans b).trans ?_
  rfl

theorem idx10 : ∀ t : Fin cfg0.N, win0_10.index t 0 = 15 - t.val ∧ win0_10.index t 1 = 0 :=
  (by decide +kernel : ∀ t : Fin grid0.N, win0_10.index t 0 = 15 - t.val ∧ win0_10.index t 1 = 0)

theorem tile10 (n : Fin 128) (i : Fin 64) (h : Fin 4) (l : Fin 128) :
    (outsAt0 m c (pointOf n).val (pointOf n).isLt).2.2.2.1 (ix2 (brow (placeOf n) i) (bcolK h l)) = (CK m c n h).dg (dAt (X0 m c) (X1 m c) (X2 m c) (X3 m c) n h) i l  := by
  obtain ⟨D0, hD, e7, e8, e9, e10, -⟩ := left m c (pointOf n).val (pointOf n).isLt
  refine (congrFun e10 _).trans ?_
  rw [glueK_apply]
  unfold ptDg
  rw [vDg_apply, chunk_tiles, chunkNo_pointOf, chain_at m c n D0 hD h]

theorem emb10 (t : Fin cfg0.N) (cc : Fin 8) (i : Fin 64) (h : Fin 4) (l : Fin 128) :
    (win0_10.blk t).view.emb (ix2 (brow cc i) (bcolK h l)) = ix2 (row (chunkNo t cc) i) (colK h l) := by
  have := tlt t
  blk_ext [idx10 t, brow, bcolK, row, colK, chunkNo]

/-- Entry of the array of `dg`. -/
theorem arr10 (n : Fin 128) (i : Fin 64) (h : Fin 4) (l : Fin 128) :
    (dats m 0 c).arrAt 10 cfg0.N (ix2 (row n i) (colK h l)) = (CK m c n h).dg (dAt (X0 m c) (X1 m c) (X2 m c) (X3 m c) n h) i l  := by
  rw [← tile10 m c n i h l]
  have e : (win0_10.blk (pointOf n)).view.emb (ix2 (brow (placeOf n) i) (bcolK h l)) = ix2 (row n i) (colK h l) := by
    rw [emb10, chunkNo_pointOf]
  have b := congrFun (Value.blocks10 m c (pointOf n) ((by decide +kernel : ∀ t : Fin grid0.N, win0_10.flush t = true) _)) (ix2 (brow (placeOf n) i) (bcolK h l))
  rw [Value.flushed10 m c (pointOf n)] at b
  refine ((congrArg ((dats m 0 c).arrAt 10 cfg0.N) e).symm.trans b).trans ?_
  rfl

end Cert.Gla

end
-- ==== Proof.ChunkReference.lean ====
/-
  One trip of the reference's loop, read at an index: the trip's values are the gradients of the chunk it takes, which is
  chunk `127 - j` of the arrays the loop carries along.
-/
module

public import proofs.«01_k».proof.Proof.Gen.ReferenceIdeal.Step
public import proofs.«01_k».proof.Proof.Chunk
public import proofs.«01_k».proof.Proof.Window

@[expose] public section

set_option maxRecDepth 16384

noncomputable section

namespace Cert.Gla.Ref

open Idealize.ShloMosaic Cert.ReferenceIdeal Cert.ReferenceIdeal.Step

/-- The chunk that one trip takes: the slices it reads, and its running sum. -/
def tripChunk (j : ℕ) (s : State Ideal) (h : Fin 4) : Chunk where
  q r l := b13 j s (ix3 r h l)
  k r l := b18 j s (ix3 r h l)
  b r l := b36 j s (ix3 r h l)
  v r w := b23 j s (ix3 r h w)
  o r w := b33 j s (ix3 r h w)
  st w l := b8 j s (ix3 h l w)

/-- The gradient of the state that the trip starts from, value index first. -/
def tripD (s : State Ideal) (h : Fin 4) : Fin 256 → Fin 128 → EReal := fun w l => s.main_v20_7 (ix3 h l w)

/-- The reference's triangular mask at an index. -/
theorem mask_sel (x i : Fin 64) (A B : EReal) :
    Scalar.select (Scalar.select (IntOp.cmpi CmpIPredicate.sge (IntOp.addi (BitVec.ofNat 32 i.val) 0#32) (BitVec.ofNat 32 x.val)) 1#1 0#1) A B
      = if x ≤ i then A else B := by
  have e : Scalar.select (IntOp.cmpi CmpIPredicate.sge (IntOp.addi (BitVec.ofNat 32 i.val) 0#32) (BitVec.ofNat 32 x.val)) 1#1 0#1
      = if x ≤ i then 1#1 else 0#1 := by
    revert x i; decide +kernel
  rw [e]; split <;> rfl

theorem ite_mul_zero' (p : Prop) [Decidable p] (x y : EReal) : (if p then x * y else 0) = (if p then x else 0) * y := by
  split
  · rfl
  · rw [zero_mul]

theorem ite_zero_mul' (p : Prop) [Decidable p] (x y : EReal) : (if p then x * y else 0) = x * (if p then y else 0) := by
  split
  · rfl
  · rw [mul_zero]

variable (j : ℕ) (s : State Ideal)

/-- The trip's decays. -/
theorem b42_apply (i : Fin 64) (h : Fin 4) (l : Fin 128) : b42 j s (ix3 i h l) = (tripChunk j s h).eQ i l := by
  pointwise [b42, b41, b40, b37]
  rfl
theorem b46_apply (i : Fin 64) (h : Fin 4) (l : Fin 128) : b46 j s (ix3 i h l) = (tripChunk j s h).eK i l := by
  pointwise [b46, b45, b44, b37]
  rfl
theorem b69_apply (i : Fin 64) (h : Fin 4) (l : Fin 128) : b69 j s (ix3 i h l) = (tripChunk j s h).eIn i l := by
  pointwise [b69]
  rfl
theorem b81_apply (i : Fin 64) (h : Fin 4) (l : Fin 128) : b81 j s (ix3 i h l) = (tripChunk j s h).eSt i l := by
  pointwise [b81, b80, b79, b78, b39, b38]
  rfl
theorem b74_apply (h : Fin 4) (l : Fin 128) : b74 j s (ix2 h l) = (tripChunk j s h).dec l := by
  pointwise [b74, b39, b38]
  rfl

/-- The masked scores. -/
theorem b64_apply (h : Fin 4) (x y : Fin 64) : b64 j s (ix3 h x y) = (tripChunk j s h).a x y := by
  pointwise [b64, b48, b43, b63, b61, b60, b62, b59, b58, b57, b56, b55, b54, b53, b52, b51, b50, b49, b47, b42_apply, b46_apply]
  simp only [mask_sel]
  rfl
/-- The gradient of the masked scores. -/
theorem b125_apply (h : Fin 4) (x y : Fin 64) : b125 j s (ix3 h x y) = (tripChunk j s h).da x y := by
  pointwise [b125, b124, b123, b119, b118, b62, b59, b58, b57, b56, b55, b54, b53, b52, b51, b50, b49]
  simp only [mask_sel]
  rfl
theorem b129_apply (i : Fin 64) (h : Fin 4) (l : Fin 128) : b129 j s (ix3 i h l) = (tripChunk j s h).dqe i l := by
  pointwise [b129, b128, b47, b125_apply, b46_apply]
  rfl
theorem b127_apply (i : Fin 64) (h : Fin 4) (l : Fin 128) : b127 j s (ix3 i h l) = (tripChunk j s h).dke i l := by
  pointwise [b127, b126, b43, b125_apply, b42_apply]
  rfl
theorem b110_apply (i : Fin 64) (h : Fin 4) (l : Fin 128) : b110 j s (ix3 i h l) = (tripChunk j s h).dqIn i l := by
  pointwise [b110, b109, b108]
  rfl
theorem b88_apply (i : Fin 64) (h : Fin 4) (l : Fin 128) : b88 j s (ix3 i h l) = (tripChunk j s h).dkSt (tripD s h) i l := by
  pointwise [b88, b87]
  exact Finset.sum_congr rfl fun w _ => mul_comm _ _

/-- The gradient of the scaled `q`. -/
theorem b141_apply (i : Fin 64) (h : Fin 4) (l : Fin 128) : b141 j s (ix3 i h l) = (tripChunk j s h).dq i l := by
  pointwise [b141, b140, b115, b129_apply, b110_apply, b69_apply, b42_apply]
  exact add_comm _ _

/-- The gradient of `k`. -/
theorem b132_apply (i : Fin 64) (h : Fin 4) (l : Fin 128) : b132 j s (ix3 i h l) = (tripChunk j s h).dk (tripD s h) i l := by
  pointwise [b132, b131, b90, b127_apply, b88_apply, b81_apply, b46_apply]
  exact add_comm _ _

/-- The gradient of `v`. -/
theorem b122_apply (i : Fin 64) (h : Fin 4) (w : Fin 256) : b122 j s (ix3 i h w) = (tripChunk j s h).dv (tripD s h) i w := by
  pointwise [b122, b121, b120, b118, b86, b85, b82, b81_apply, b64_apply]
  rw [add_comm]
  exact congrArg₂ (· + ·) (Finset.sum_congr rfl fun x _ => mul_comm _ _) (Finset.sum_congr rfl fun x _ => mul_comm _ _)

/-- The gradient of the state. -/
theorem b113_apply (h : Fin 4) (l : Fin 128) (w : Fin 256) : b113 j s (ix3 h l w) = (tripChunk j s h).dst (tripD s h) w l := by
  pointwise [b113, b112, b111, b108, b99, b98, b75, b70, b69_apply, b74_apply]
  rw [add_comm, mul_comm (Chunk.dec _ _)]
  rfl

/-- The gradient of the running sum. -/
theorem b155_apply (i : Fin 64) (h : Fin 4) (l : Fin 128) : b155 j s (ix3 i h l) = (tripChunk j s h).db (tripD s h) i l := by
  pointwise [b155, b154, b153, b152, b151, b150, b149, b148, b147, b146, b145, b144, b143, b142, b139, b138, b137, b136, b135, b134, b133, b130, b117, b116, b114, b107, b106, b105, b104, b103, b102, b101, b100, b97, b96, b95, b94, b93, b92, b91, b89, b88_apply, b81_apply, b46_apply, b42_apply, b69_apply, b110_apply, b127_apply, b129_apply, b74_apply]
  have e1 : ∀ r, b18 j s (ix3 r h l) * (tripChunk j s h).dkSt (tripD s h) r l * (tripChunk j s h).eSt r l
      = (tripChunk j s h).dkSt (tripD s h) r l * (tripChunk j s h).kSt r l := fun r => by
    rw [mul_comm (b18 j s (ix3 r h l)), mul_assoc]; rfl
  have e2 : ∀ r, b13 j s (ix3 r h l) * (tripChunk j s h).dqIn r l * (tripChunk j s h).eIn r l
      = (tripChunk j s h).dqIn r l * (tripChunk j s h).qIn r l := fun r => by
    rw [mul_comm (b13 j s (ix3 r h l)), mul_assoc]; rfl
  have e3 : ∀ r, b18 j s (ix3 r h l) * (tripChunk j s h).dke r l * (tripChunk j s h).eK r l
      = (tripChunk j s h).dke r l * (tripChunk j s h).ke r l := fun r => by
    rw [mul_comm (b18 j s (ix3 r h l)), mul_assoc]; rfl
  have e4 : ∀ r, b13 j s (ix3 r h l) * (tripChunk j s h).dqe r l * (tripChunk j s h).eQ r l
      = (tripChunk j s h).dqe r l * (tripChunk j s h).qe r l := fun r => by
    rw [mul_comm (b13 j s (ix3 r h l)), mul_assoc]; rfl
  simp only [e1, e2, e3, e4, Finset.univ_unique, Finset.sum_singleton, dite_eq_ite]
  have c1 : (63 ≤ i.val ∧ i.val - 63 < 1) ↔ i = 63 := by
    rw [Fin.ext_iff]; have := i.isLt; simp; omega
  have c2 : (31 ≤ i.val ∧ i.val - 31 < 1) ↔ i = 31 := by
    rw [Fin.ext_iff]; have := i.isLt; simp; omega
  simp only [c1, c2]
  rw [← Finset.sum_add_distrib]
  unfold Chunk.db Chunk.dbRow
  rw [add_right_comm]
  refine congrArg₂ (· + ·) (congrArg₂ (· + ·) ?_ rfl) rfl
  simp only [sub_eq_add_neg]
  ac_rfl

/-- The gradient of the gate. -/
theorem b158_apply (i : Fin 64) (h : Fin 4) (l : Fin 128) : b158 j s (ix3 i h l) = (tripChunk j s h).dg (tripD s h) i l := by
  unfold b158
  rw [suffix3 _ _ _ _ (by pointwise [b157, b156])]
  simp only [b155_apply]
  rfl

/-- The running sum. -/
theorem b36_apply (i : Fin 64) (h : Fin 4) (l : Fin 128) :
    b36 j s (ix3 i h l) = ∑ r : Fin 64, if r ≤ i then b28 j s (ix3 r h l) else (0 : EReal) := by
  unfold b36
  rw [prefix3 _ _ _ _ (by pointwise [b35, b34])]

/-- The start along the chunks' axis, clamped, is the trip's chunk. -/
theorem start_eq : ∀ j : Fin 128, (min (max (IntOp.subi (IntOp.subi 128#32 (BitVec.ofNat 32 j.val)) 1#32).toInt 0) ((128 - 1 : Nat) : Int)).toNat = 127 - j.val := by
  decide +kernel

theorem b13_apply (hj : j < 128) (i : Fin 64) (h : Fin 4) (l : Fin 128) :
    b13 j s (ix3 i h l) = s.main_v20_1 (ix4 ⟨127 - j, by omega⟩ i h l) := by
  pointwise [b13, b12]
  refine congrArg s.main_v20_1 ?_
  funext a
  apply Fin.ext
  match a with
  | ⟨0, _⟩ => exact start_eq ⟨j, hj⟩
  | ⟨1, _⟩ => exact Nat.zero_add _
  | ⟨2, _⟩ => exact Nat.zero_add _
  | ⟨3, _⟩ => exact Nat.zero_add _
theorem b18_apply (hj : j < 128) (i : Fin 64) (h : Fin 4) (l : Fin 128) :
    b18 j s (ix3 i h l) = s.main_v20_2 (ix4 ⟨127 - j, by omega⟩ i h l) := by
  pointwise [b18, b17]
  refine congrArg s.main_v20_2 ?_
  funext a
  apply Fin.ext
  match a with
  | ⟨0, _⟩ => exact start_eq ⟨j, hj⟩
  | ⟨1, _⟩ => exact Nat.zero_add _
  | ⟨2, _⟩ => exact Nat.zero_add _
  | ⟨3, _⟩ => exact Nat.zero_add _
theorem b23_apply (hj : j < 128) (i : Fin 64) (h : Fin 4) (l : Fin 256) :
    b23 j s (ix3 i h l) = s.main_v20_3 (ix4 ⟨127 - j, by omega⟩ i h l) := by
  pointwise [b23, b22]
  refine congrArg s.main_v20_3 ?_
  funext a
  apply Fin.ext
  match a with
  | ⟨0, _⟩ => exact start_eq ⟨j, hj⟩
  | ⟨1, _⟩ => exact Nat.zero_add _
  | ⟨2, _⟩ => exact Nat.zero_add _
  | ⟨3, _⟩ => exact Nat.zero_add _
theorem b28_apply (hj : j < 128) (i : Fin 64) (h : Fin 4) (l : Fin 128) :
    b28 j s (ix3 i h l) = s.main_v20_4 (ix4 ⟨127 - j, by omega⟩ i h l) := by
  pointwise [b28, b27]
  refine congrArg s.main_v20_4 ?_
  funext a
  apply Fin.ext
  match a with
  | ⟨0, _⟩ => exact start_eq ⟨j, hj⟩
  | ⟨1, _⟩ => exact Nat.zero_add _
  | ⟨2, _⟩ => exact Nat.zero_add _
  | ⟨3, _⟩ => exact Nat.zero_add _
theorem b33_apply (hj : j < 128) (i : Fin 64) (h : Fin 4) (l : Fin 256) :
    b33 j s (ix3 i h l) = s.main_v20_5 (ix4 ⟨127 - j, by omega⟩ i h l) := by
  pointwise [b33, b32]
  refine congrArg s.main_v20_5 ?_
  funext a
  apply Fin.ext
  match a with
  | ⟨0, _⟩ => exact start_eq ⟨j, hj⟩
  | ⟨1, _⟩ => exact Nat.zero_add _
  | ⟨2, _⟩ => exact Nat.zero_add _
  | ⟨3, _⟩ => exact Nat.zero_add _
theorem b8_apply (hj : j < 128) (h : Fin 4) (l : Fin 128) (w : Fin 256) :
    b8 j s (ix3 h l w) = s.main_v20_0 (ix4 ⟨127 - j, by omega⟩ h l w) := by
  pointwise [b8, b7]
  refine congrArg s.main_v20_0 ?_
  funext a
  apply Fin.ext
  match a with
  | ⟨0, _⟩ => exact start_eq ⟨j, hj⟩
  | ⟨1, _⟩ => exact Nat.zero_add _
  | ⟨2, _⟩ => exact Nat.zero_add _
  | ⟨3, _⟩ => exact Nat.zero_add _

/-- Writing a trip's rows into an array of chunks: the trip's chunk is replaced, the others stay. -/
theorem dus_apply {K : ℕ} (hj : j < 128) (A : (⟨4, ![128, 64, 4, K]⟩ : Shape).Idx → EReal) (B : (⟨4, ![1, 64, 4, K]⟩ : Shape).Idx → EReal)
    (start : Fin 4 → Int) (hs : start 0 = (IntOp.subi (IntOp.subi 128#32 (BitVec.ofNat 32 j)) 1#32).toInt)
    (h1 : start 1 = 0) (h2 : start 2 = 0) (h3 : start 3 = 0)
    (hf : (⟨4, ![128, 64, 4, K]⟩ : Shape).Slices (fun _ => 0) ⟨4, ![1, 64, 4, K]⟩) (c : Fin 128) (i : Fin 64) (h : Fin 4) (l : Fin K) :
    Host.dynamicUpdateSlice A B start hf (ix4 c i h l) = if c.val = 127 - j then B (ix4 0 i h l) else A (ix4 c i h l) := by
  have e0 := start_eq ⟨j, hj⟩
  dsimp only at e0
  rw [← hs] at e0
  unfold Host.dynamicUpdateSlice updateSlice
  dsimp only
  split
  · rename_i hin
    have h0 := hin 0
    have h0' : (min (max (start 0) 0) ((128 - 1 : Nat) : Int)).toNat ≤ c.val ∧ c.val < (min (max (start 0) 0) ((128 - 1 : Nat) : Int)).toNat + 1 := h0
    rw [e0] at h0'
    rw [if_pos (by omega)]
    refine congrArg B ?_
    funext a
    apply Fin.ext
    match a with
    | ⟨0, _⟩ =>
      show c.val - (min (max (start 0) 0) ((128 - 1 : Nat) : Int)).toNat = 0
      rw [e0]; omega
    | ⟨1, _⟩ =>
      show i.val - (min (max (start 1) 0) ((64 - 64 : Nat) : Int)).toNat = i.val
      rw [h1]; simp
    | ⟨2, _⟩ =>
      show h.val - (min (max (start 2) 0) ((4 - 4 : Nat) : Int)).toNat = h.val
      rw [h2]; simp
    | ⟨3, _⟩ =>
      show l.val - (min (max (start 3) 0) ((K - K : Nat) : Int)).toNat = l.val
      rw [h3]; simp
  · rename_i hin
    rw [if_neg]
    intro hc
    refine hin fun a => ?_
    match a with
    | ⟨0, _⟩ =>
      show (min (max (start 0) 0) ((128 - 1 : Nat) : Int)).toNat ≤ c.val ∧ c.val < (min (max (start 0) 0) ((128 - 1 : Nat) : Int)).toNat + 1
      rw [e0]; omega
    | ⟨1, _⟩ =>
      show (min (max (start 1) 0) ((64 - 64 : Nat) : Int)).toNat ≤ i.val ∧ i.val < (min (max (start 1) 0) ((64 - 64 : Nat) : Int)).toNat + 64
      rw [h1]; have := i.isLt; simp
    | ⟨2, _⟩ =>
      show (min (max (start 2) 0) ((4 - 4 : Nat) : Int)).toNat ≤ h.val ∧ h.val < (min (max (start 2) 0) ((4 - 4 : Nat) : Int)).toNat + 4
      rw [h2]; have := h.isLt; simp
    | ⟨3, _⟩ =>
      show (min (max (start 3) 0) ((K - K : Nat) : Int)).toNat ≤ l.val ∧ l.val < (min (max (start 3) 0) ((K - K : Nat) : Int)).toNat + K
      rw [h3]; have := l.isLt; simp

theorem b163_apply (hj : j < 128) (c : Fin 128) (i : Fin 64) (h : Fin 4) (l : Fin 128) :
    b163 j s (ix4 c i h l) = if c.val = 127 - j then (tripChunk j s h).dq i l else s.main_v20_8 (ix4 c i h l) := by
  unfold b163
  refine (dus_apply j hj _ _ _ rfl rfl rfl rfl _ c i h l).trans ?_
  pointwise [b159, b141_apply]
theorem b168_apply (hj : j < 128) (c : Fin 128) (i : Fin 64) (h : Fin 4) (l : Fin 128) :
    b168 j s (ix4 c i h l) = if c.val = 127 - j then (tripChunk j s h).dk (tripD s h) i l else s.main_v20_9 (ix4 c i h l) := by
  unfold b168
  refine (dus_apply j hj _ _ _ rfl rfl rfl rfl _ c i h l).trans ?_
  pointwise [b164, b132_apply]
theorem b173_apply (hj : j < 128) (c : Fin 128) (i : Fin 64) (h : Fin 4) (l : Fin 256) :
    b173 j s (ix4 c i h l) = if c.val = 127 - j then (tripChunk j s h).dv (tripD s h) i l else s.main_v20_10 (ix4 c i h l) := by
  unfold b173
  refine (dus_apply j hj _ _ _ rfl rfl rfl rfl _ c i h l).trans ?_
  pointwise [b169, b122_apply]
theorem b178_apply (hj : j < 128) (c : Fin 128) (i : Fin 64) (h : Fin 4) (l : Fin 128) :
    b178 j s (ix4 c i h l) = if c.val = 127 - j then (tripChunk j s h).dg (tripD s h) i l else s.main_v20_11 (ix4 c i h l) := by
  unfold b178
  refine (dus_apply j hj _ _ _ rfl rfl rfl rfl _ c i h l).trans ?_
  pointwise [b174, b158_apply]

end Cert.Gla.Ref

end
-- ==== Proof.ReferenceValue.lean ====
/-
  The reference's results: by induction on the trips, the arrays the loop fills hold the gradients of the chunks
  already visited, and the carried value is the state's gradient after them.
-/
module

public import proofs.«01_k».proof.Proof.ChunkReference
public import proofs.«01_k».proof.Proof.Heads

@[expose] public section

set_option maxRecDepth 16384

noncomputable section

namespace Cert.Gla.Ref

open Idealize.ShloMosaic Cert.ReferenceIdeal Cert.ReferenceIdeal.Step

variable (x0 : (⟨2, ![8192, 6144]⟩ : Shape).Idx → EReal) (x1 : (⟨2, ![8192, 512]⟩ : Shape).Idx → EReal)
  (x2 : (⟨4, ![128, 4, 256, 128]⟩ : Shape).Idx → EReal) (x3 : (⟨2, ![8192, 1024]⟩ : Shape).Idx → EReal)

/-! The arrays the loop reads, at an index. -/

theorem q_apply (c : Fin 128) (r : Fin 64) (h : Fin 4) (l : Fin 128) :
    A_main_v4 (F := Ideal) x0 x1 x2 x3 (ix4 c r h l) = (chunkAt x0 x1 x2 x3 c h).q r l := by
  unfold A_main_v4 A_main_v2 A_main_v1 A_main_v0
  pointwise [K_main_v3, K_main_cst]
  rfl
theorem k_apply (c : Fin 128) (r : Fin 64) (h : Fin 4) (l : Fin 128) :
    A_main_v7 (F := Ideal) x0 x1 x2 x3 (ix4 c r h l) = (chunkAt x0 x1 x2 x3 c h).k r l := by
  unfold A_main_v7 A_main_v6 A_main_v5
  pointwise
  rfl
theorem v_apply (c : Fin 128) (r : Fin 64) (h : Fin 4) (w : Fin 256) :
    A_main_v10 (F := Ideal) x0 x1 x2 x3 (ix4 c r h w) = (chunkAt x0 x1 x2 x3 c h).v r w := by
  unfold A_main_v10 A_main_v9 A_main_v8
  pointwise
  rfl
theorem g_apply (c : Fin 128) (r : Fin 64) (h : Fin 4) (l : Fin 128) :
    A_main_v14 (F := Ideal) x0 x1 x2 x3 (ix4 c r h l) = x1 (ix2 (row c r) (colK h l)) := by
  unfold A_main_v14
  pointwise
  rfl
theorem o_apply (c : Fin 128) (r : Fin 64) (h : Fin 4) (w : Fin 256) :
    A_main_v15 (F := Ideal) x0 x1 x2 x3 (ix4 c r h w) = (chunkAt x0 x1 x2 x3 c h).o r w := by
  unfold A_main_v15
  pointwise
  rfl
theorem st_apply (c : Fin 128) (h : Fin 4) (l : Fin 128) (w : Fin 256) :
    A_main_v12 (F := Ideal) x0 x1 x2 x3 (ix4 c h l w) = (chunkAt x0 x1 x2 x3 c h).st w l := by
  unfold A_main_v12 A_main_v11
  pointwise
  rfl

/-- The state after `n` trips. -/
def it : ℕ → State Ideal
  | 0 => init x0 x1 x2 x3
  | n + 1 => step n (it n)

/-- What no trip changes. -/
theorem consts (n : ℕ) : (it x0 x1 x2 x3 n).main_v20_0 = A_main_v12 x0 x1 x2 x3 ∧ (it x0 x1 x2 x3 n).main_v20_1 = A_main_v4 x0 x1 x2 x3
    ∧ (it x0 x1 x2 x3 n).main_v20_2 = A_main_v7 x0 x1 x2 x3 ∧ (it x0 x1 x2 x3 n).main_v20_3 = A_main_v10 x0 x1 x2 x3
    ∧ (it x0 x1 x2 x3 n).main_v20_4 = A_main_v14 x0 x1 x2 x3 ∧ (it x0 x1 x2 x3 n).main_v20_5 = A_main_v15 x0 x1 x2 x3 := by
  induction n with
  | zero => unfold it init; exact ⟨rfl, rfl, rfl, rfl, rfl, rfl⟩
  | succ n ih => unfold it step; exact ih

/-- Trip `n` takes chunk `127 - n`. -/
theorem trip_chunk (n : ℕ) (hn : n < 128) (h : Fin 4) : tripChunk n (it x0 x1 x2 x3 n) h = chunkAt x0 x1 x2 x3 ⟨127 - n, by omega⟩ h := by
  obtain ⟨e0, e1, e2, e3, e4, e5⟩ := consts x0 x1 x2 x3 n
  unfold tripChunk
  simp only [b36_apply, b13_apply n _ hn, b18_apply n _ hn, b23_apply n _ hn, b28_apply n _ hn, b33_apply n _ hn, b8_apply n _ hn,
    e0, e1, e2, e3, e4, e5, q_apply, k_apply, v_apply, g_apply, o_apply, st_apply]
  rfl

/-- What the trips have made. -/
theorem made (n : ℕ) (hn : n ≤ 128) :
    (∀ h, tripD (it x0 x1 x2 x3 n) h = dstate (chunks x0 x1 x2 x3) n h)
    ∧ (∀ (c : Fin 128), 128 - n ≤ c.val → ∀ (i : Fin 64) (h : Fin 4),
      (∀ l, (it x0 x1 x2 x3 n).main_v20_8 (ix4 c i h l) = (chunkAt x0 x1 x2 x3 c h).dq i l)
      ∧ (∀ l, (it x0 x1 x2 x3 n).main_v20_9 (ix4 c i h l) = (chunkAt x0 x1 x2 x3 c h).dk (dAt x0 x1 x2 x3 c h) i l)
      ∧ (∀ w, (it x0 x1 x2 x3 n).main_v20_10 (ix4 c i h w) = (chunkAt x0 x1 x2 x3 c h).dv (dAt x0 x1 x2 x3 c h) i w)
      ∧ (∀ l, (it x0 x1 x2 x3 n).main_v20_11 (ix4 c i h l) = (chunkAt x0 x1 x2 x3 c h).dg (dAt x0 x1 x2 x3 c h) i l)) := by
  induction n with
  | zero =>
    refine ⟨fun h => ?_, fun c hc => absurd hc (by omega)⟩
    funext w l
    unfold tripD it init
    pointwise [K_main_v13, K_main_cst_0]
    rfl
  | succ n ih =>
    obtain ⟨ihD, ihO⟩ := ih (by omega)
    have hn' : n < 128 := by omega
    have eC := trip_chunk x0 x1 x2 x3 n hn'
    constructor
    · intro h
      funext w l
      show b113 n (it x0 x1 x2 x3 n) (ix3 h l w) = _
      rw [b113_apply, eC, ihD, ← chunks_val]
      rfl
    · intro c hc i h
      show (∀ l, b163 n (it x0 x1 x2 x3 n) (ix4 c i h l) = _) ∧ (∀ l, b168 n (it x0 x1 x2 x3 n) (ix4 c i h l) = _)
        ∧ (∀ l, b173 n (it x0 x1 x2 x3 n) (ix4 c i h l) = _) ∧ (∀ l, b178 n (it x0 x1 x2 x3 n) (ix4 c i h l) = _)
      simp only [b163_apply n _ hn', b168_apply n _ hn', b173_apply n _ hn', b178_apply n _ hn', eC, ihD]
      by_cases e : c.val = 127 - n
      · have ec : c = ⟨127 - n, by omega⟩ := Fin.ext e
        have ed : n = 127 - c.val := by omega
        simp only [if_pos e]
        unfold dAt
        rw [← ec, ← ed]
        exact ⟨fun _ => rfl, fun _ => rfl, fun _ => rfl, fun _ => rfl⟩
      · simp only [if_neg e]
        exact ihO c (by omega) i h

/-! The results, at the places the chunks take. -/

theorem dq_apply (c : Fin 128) (i : Fin 64) (h : Fin 4) (l : Fin 128) :
    R_main_v23 (it x0 x1 x2 x3 128) (ix2 (row c i) (colK h l)) = (chunkAt x0 x1 x2 x3 c h).dq i l * scale := by
  rw [← ((made x0 x1 x2 x3 128 (le_refl _)).2 c (by omega) i h).1 l]
  generalize it x0 x1 x2 x3 128 = s
  unfold R_main_v23
  pointwise
  simp only [row_div, row_mod, colK_div, colK_mod]

theorem dk_apply (c : Fin 128) (i : Fin 64) (h : Fin 4) (l : Fin 128) :
    R_main_v24 (it x0 x1 x2 x3 128) (ix2 (row c i) (colK h l)) = (chunkAt x0 x1 x2 x3 c h).dk (dAt x0 x1 x2 x3 c h) i l := by
  rw [← ((made x0 x1 x2 x3 128 (le_refl _)).2 c (by omega) i h).2.1 l]
  generalize it x0 x1 x2 x3 128 = s
  unfold R_main_v24
  pointwise
  simp only [row_div, row_mod, colK_div, colK_mod]

theorem dv_apply (c : Fin 128) (i : Fin 64) (h : Fin 4) (w : Fin 256) :
    R_main_v25 (it x0 x1 x2 x3 128) (ix2 (row c i) (colV h w)) = (chunkAt x0 x1 x2 x3 c h).dv (dAt x0 x1 x2 x3 c h) i w := by
  rw [← ((made x0 x1 x2 x3 128 (le_refl _)).2 c (by omega) i h).2.2.1 w]
  generalize it x0 x1 x2 x3 128 = s
  unfold R_main_v25
  pointwise
  simp only [row_div, row_mod, colV_div, colV_mod]

theorem dg_apply (c : Fin 128) (i : Fin 64) (h : Fin 4) (l : Fin 128) :
    R_main_v26 (it x0 x1 x2 x3 128) (ix2 (row c i) (colK h l)) = (chunkAt x0 x1 x2 x3 c h).dg (dAt x0 x1 x2 x3 c h) i l := by
  rw [← ((made x0 x1 x2 x3 128 (le_refl _)).2 c (by omega) i h).2.2.2 l]
  generalize it x0 x1 x2 x3 128 = s
  unfold R_main_v26
  pointwise
  simp only [row_div, row_mod, colK_div, colK_mod]

end Cert.Gla.Ref

end
-- ==== Proof.Trips.lean ====
/-
  The reference's run stated over one trip's step: at a valuation that holds a state every value of one trip is the step
  module's, one lemma each, so a trip keeps holding with `step` applied; what comes before the loop holds `init`; and the
  results are fields of `step` iterated from `init`. (The generated module of this content does not elaborate for
  this reference, at the last field's statement; its text stands here with that one statement given more room.)
-/
module

public import proofs.«01_k».proof.Proof.Gen.ReferenceIdeal.Run
public import proofs.«01_k».proof.Proof.Gen.ReferenceIdeal.Step

@[expose] public section

set_option maxRecDepth 8192

noncomputable section

namespace Cert.ReferenceIdeal.Trips

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_7 : V0 (Proc.devRef .tc main_v20_7) = s.main_v20_7
  f_8 : V0 (Proc.devRef .tc main_v20_8) = s.main_v20_8
  f_9 : V0 (Proc.devRef .tc main_v20_9) = s.main_v20_9
  f_10 : V0 (Proc.devRef .tc main_v20_10) = s.main_v20_10
  f_11 : V0 (Proc.devRef .tc main_v20_11) = s.main_v20_11
  f_0 : V0 (Proc.devRef .tc main_v20_0) = s.main_v20_0
  f_1 : V0 (Proc.devRef .tc main_v20_1) = s.main_v20_1
  f_2 : V0 (Proc.devRef .tc main_v20_2) = s.main_v20_2
  f_3 : V0 (Proc.devRef .tc main_v20_3) = s.main_v20_3
  f_4 : V0 (Proc.devRef .tc main_v20_4) = s.main_v20_4
  f_5 : V0 (Proc.devRef .tc main_v20_5) = s.main_v20_5
  n_6 : V0 (Proc.devRef .tc main_v20_6) = constantI S_ 32 (BitVec.ofNat 32 j)

variable {V0 s j}

theorem al_0 (h : Holds V0 s j) : (constantI S_ 32 128#32 : (Proc.devRef .tc main_while0b_c_17 : DevRef τ sig).ty.Contents (Elt F)) = Step.b0 j s := by
  unfold Step.b0
  rfl
theorem al_1 (h : Holds V0 s j) : (subi (constantI S_ 32 128#32) (V0 (Proc.devRef .tc main_v20_6)) : (Proc.devRef .tc main_while0b_v27 : DevRef τ sig).ty.Contents (Elt F)) = Step.b1 j s := by
  unfold Step.b1
  rw [← al_0 h, h.n_6]
  try rfl
theorem al_2 (h : Holds V0 s j) : (constantI S_ 32 1#32 : (Proc.devRef .tc main_while0b_c_18 : DevRef τ sig).ty.Contents (Elt F)) = Step.b2 j s := by
  unfold Step.b2
  rfl
theorem al_3 (h : Holds V0 s j) : (res_main_while0b_v28 V0 : (Proc.devRef .tc main_while0b_v28 : DevRef τ sig).ty.Contents (Elt F)) = Step.b3 j s := by
  unfold res_main_while0b_v28 Step.b3
  rw [← al_1 h, ← al_2 h]
  try rfl
theorem al_4 (h : Holds V0 s j) : (constantI S_ 32 0#32 : (Proc.devRef .tc main_while0b_call0_c : DevRef τ sig).ty.Contents (Elt F)) = Step.b4 j s := by
  unfold Step.b4
  rfl
theorem al_5 (h : Holds V0 s j) : (constantI S_ 32 0#32 : (Proc.devRef .tc main_while0b_call0_c_0 : DevRef τ sig).ty.Contents (Elt F)) = Step.b5 j s := by
  unfold Step.b5
  rfl
theorem al_6 (h : Holds V0 s j) : (constantI S_ 32 0#32 : (Proc.devRef .tc main_while0b_call0_c_1 : DevRef τ sig).ty.Contents (Elt F)) = Step.b6 j s := by
  unfold Step.b6
  rfl
theorem al_7 (h : Holds V0 s j) : (Host.dynamicSlice S1x4x128x256 (V0 (Proc.devRef .tc main_v20_0)) (fun k => (((![res_main_while0b_v28 V0, constantI S_ 32 0#32, constantI S_ 32 0#32, constantI S_ 32 0#32] : Fin 4 → (⟨S_, .i32⟩ : BufTy).Contents (Elt F))) k (Shape.Idx.first h_S_)).toInt) sliceFits_S128x4x128x256_S1x4x128x256 : (Proc.devRef .tc main_while0b_call0_v0 : DevRef τ sig).ty.Contents (Elt F)) = Step.b7 j s := by
  unfold Step.b7
  rw [← al_3 h, ← al_4 h, ← al_5 h, ← al_6 h, h.f_0]
  try rfl
theorem al_8 (h : Holds V0 s j) : (res_main_while0b_v29 V0 : (Proc.devRef .tc main_while0b_v29 : DevRef τ sig).ty.Contents (Elt F)) = Step.b8 j s := by
  unfold res_main_while0b_v29 Step.b8
  rw [← al_7 h]
  try rfl
theorem al_9 (h : Holds V0 s j) : (constantI S_ 32 0#32 : (Proc.devRef .tc main_while0b_call1_c : DevRef τ sig).ty.Contents (Elt F)) = Step.b9 j s := by
  unfold Step.b9
  rfl
theorem al_10 (h : Holds V0 s j) : (constantI S_ 32 0#32 : (Proc.devRef .tc main_while0b_call1_c_0 : DevRef τ sig).ty.Contents (Elt F)) = Step.b10 j s := by
  unfold Step.b10
  rfl
theorem al_11 (h : Holds V0 s j) : (constantI S_ 32 0#32 : (Proc.devRef .tc main_while0b_call1_c_1 : DevRef τ sig).ty.Contents (Elt F)) = Step.b11 j s := by
  unfold Step.b11
  rfl
theorem al_12 (h : Holds V0 s j) : (Host.dynamicSlice S1x64x4x128 (V0 (Proc.devRef .tc main_v20_1)) (fun k => (((![res_main_while0b_v28 V0, constantI S_ 32 0#32, constantI S_ 32 0#32, constantI S_ 32 0#32] : Fin 4 → (⟨S_, .i32⟩ : BufTy).Contents (Elt F))) k (Shape.Idx.first h_S_)).toInt) sliceFits_S128x64x4x128_S1x64x4x128 : (Proc.devRef .tc main_while0b_call1_v0 : DevRef τ sig).ty.Contents (Elt F)) = Step.b12 j s := by
  unfold Step.b12
  rw [← al_3 h, ← al_9 h, ← al_10 h, ← al_11 h, h.f_1]
  try rfl
theorem al_13 (h : Holds V0 s j) : (res_main_while0b_v30 V0 : (Proc.devRef .tc main_while0b_v30 : DevRef τ sig).ty.Contents (Elt F)) = Step.b13 j s := by
  unfold res_main_while0b_v30 Step.b13
  rw [← al_12 h]
  try rfl
theorem al_14 (h : Holds V0 s j) : (constantI S_ 32 0#32 : (Proc.devRef .tc main_while0b_call2_c : DevRef τ sig).ty.Contents (Elt F)) = Step.b14 j s := by
  unfold Step.b14
  rfl
theorem al_15 (h : Holds V0 s j) : (constantI S_ 32 0#32 : (Proc.devRef .tc main_while0b_call2_c_0 : DevRef τ sig).ty.Contents (Elt F)) = Step.b15 j s := by
  unfold Step.b15
  rfl
theorem al_16 (h : Holds V0 s j) : (constantI S_ 32 0#32 : (Proc.devRef .tc main_while0b_call2_c_1 : DevRef τ sig).ty.Contents (Elt F)) = Step.b16 j s := by
  unfold Step.b16
  rfl
theorem al_17 (h : Holds V0 s j) : (Host.dynamicSlice S1x64x4x128 (V0 (Proc.devRef .tc main_v20_2)) (fun k => (((![res_main_while0b_v28 V0, constantI S_ 32 0#32, constantI S_ 32 0#32, constantI S_ 32 0#32] : Fin 4 → (⟨S_, .i32⟩ : BufTy).Contents (Elt F))) k (Shape.Idx.first h_S_)).toInt) sliceFits_S128x64x4x128_S1x64x4x128 : (Proc.devRef .tc main_while0b_call2_v0 : DevRef τ sig).ty.Contents (Elt F)) = Step.b17 j s := by
  unfold Step.b17
  rw [← al_3 h, ← al_14 h, ← al_15 h, ← al_16 h, h.f_2]
  try rfl
theorem al_18 (h : Holds V0 s j) : (res_main_while0b_v31 V0 : (Proc.devRef .tc main_while0b_v31 : DevRef τ sig).ty.Contents (Elt F)) = Step.b18 j s := by
  unfold res_main_while0b_v31 Step.b18
  rw [← al_17 h]
  try rfl
theorem al_19 (h : Holds V0 s j) : (constantI S_ 32 0#32 : (Proc.devRef .tc main_while0b_call3_c : DevRef τ sig).ty.Contents (Elt F)) = Step.b19 j s := by
  unfold Step.b19
  rfl
theorem al_20 (h : Holds V0 s j) : (constantI S_ 32 0#32 : (Proc.devRef .tc main_while0b_call3_c_0 : DevRef τ sig).ty.Contents (Elt F)) = Step.b20 j s := by
  unfold Step.b20
  rfl
theorem al_21 (h : Holds V0 s j) : (constantI S_ 32 0#32 : (Proc.devRef .tc main_while0b_call3_c_1 : DevRef τ sig).ty.Contents (Elt F)) = Step.b21 j s := by
  unfold Step.b21
  rfl
theorem al_22 (h : Holds V0 s j) : (Host.dynamicSlice S1x64x4x256 (V0 (Proc.devRef .tc main_v20_3)) (fun k => (((![res_main_while0b_v28 V0, constantI S_ 32 0#32, constantI S_ 32 0#32, constantI S_ 32 0#32] : Fin 4 → (⟨S_, .i32⟩ : BufTy).Contents (Elt F))) k (Shape.Idx.first h_S_)).toInt) sliceFits_S128x64x4x256_S1x64x4x256 : (Proc.devRef .tc main_while0b_call3_v0 : DevRef τ sig).ty.Contents (Elt F)) = Step.b22 j s := by
  unfold Step.b22
  rw [← al_3 h, ← al_19 h, ← al_20 h, ← al_21 h, h.f_3]
  try rfl
theorem al_23 (h : Holds V0 s j) : (res_main_while0b_v32 V0 : (Proc.devRef .tc main_while0b_v32 : DevRef τ sig).ty.Contents (Elt F)) = Step.b23 j s := by
  unfold res_main_while0b_v32 Step.b23
  rw [← al_22 h]
  try rfl
theorem al_24 (h : Holds V0 s j) : (constantI S_ 32 0#32 : (Proc.devRef .tc main_while0b_call4_c : DevRef τ sig).ty.Contents (Elt F)) = Step.b24 j s := by
  unfold Step.b24
  rfl
theorem al_25 (h : Holds V0 s j) : (constantI S_ 32 0#32 : (Proc.devRef .tc main_while0b_call4_c_0 : DevRef τ sig).ty.Contents (Elt F)) = Step.b25 j s := by
  unfold Step.b25
  rfl
theorem al_26 (h : Holds V0 s j) : (constantI S_ 32 0#32 : (Proc.devRef .tc main_while0b_call4_c_1 : DevRef τ sig).ty.Contents (Elt F)) = Step.b26 j s := by
  unfold Step.b26
  rfl
theorem al_27 (h : Holds V0 s j) : (Host.dynamicSlice S1x64x4x128 (V0 (Proc.devRef .tc main_v20_4)) (fun k => (((![res_main_while0b_v28 V0, constantI S_ 32 0#32, constantI S_ 32 0#32, constantI S_ 32 0#32] : Fin 4 → (⟨S_, .i32⟩ : BufTy).Contents (Elt F))) k (Shape.Idx.first h_S_)).toInt) sliceFits_S128x64x4x128_S1x64x4x128 : (Proc.devRef .tc main_while0b_call4_v0 : DevRef τ sig).ty.Contents (Elt F)) = Step.b27 j s := by
  unfold Step.b27
  rw [← al_3 h, ← al_24 h, ← al_25 h, ← al_26 h, h.f_4]
  try rfl
theorem al_28 (h : Holds V0 s j) : (shapeCast S64x4x128 (Host.dynamicSlice S1x64x4x128 (V0 (Proc.devRef .tc main_v20_4)) (fun k => (((![res_main_while0b_v28 V0, constantI S_ 32 0#32, constantI S_ 32 0#32, constantI S_ 32 0#32] : Fin 4 → (⟨S_, .i32⟩ : BufTy).Contents (Elt F))) k (Shape.Idx.first h_S_)).toInt) sliceFits_S128x64x4x128_S1x64x4x128) shapeCasts_S1x64x4x128_S64x4x128 : (Proc.devRef .tc main_while0b_v33 : DevRef τ sig).ty.Contents (Elt F)) = Step.b28 j s := by
  unfold Step.b28
  rw [← al_27 h]
  try rfl
theorem al_29 (h : Holds V0 s j) : (constantI S_ 32 0#32 : (Proc.devRef .tc main_while0b_call5_c : DevRef τ sig).ty.Contents (Elt F)) = Step.b29 j s := by
  unfold Step.b29
  rfl
theorem al_30 (h : Holds V0 s j) : (constantI S_ 32 0#32 : (Proc.devRef .tc main_while0b_call5_c_0 : DevRef τ sig).ty.Contents (Elt F)) = Step.b30 j s := by
  unfold Step.b30
  rfl
theorem al_31 (h : Holds V0 s j) : (constantI S_ 32 0#32 : (Proc.devRef .tc main_while0b_call5_c_1 : DevRef τ sig).ty.Contents (Elt F)) = Step.b31 j s := by
  unfold Step.b31
  rfl
theorem al_32 (h : Holds V0 s j) : (Host.dynamicSlice S1x64x4x256 (V0 (Proc.devRef .tc main_v20_5)) (fun k => (((![res_main_while0b_v28 V0, constantI S_ 32 0#32, constantI S_ 32 0#32, constantI S_ 32 0#32] : Fin 4 → (⟨S_, .i32⟩ : BufTy).Contents (Elt F))) k (Shape.Idx.first h_S_)).toInt) sliceFits_S128x64x4x256_S1x64x4x256 : (Proc.devRef .tc main_while0b_call5_v0 : DevRef τ sig).ty.Contents (Elt F)) = Step.b32 j s := by
  unfold Step.b32
  rw [← al_3 h, ← al_29 h, ← al_30 h, ← al_31 h, h.f_5]
  try rfl
theorem al_33 (h : Holds V0 s j) : (res_main_while0b_v34 V0 : (Proc.devRef .tc main_while0b_v34 : DevRef τ sig).ty.Contents (Elt F)) = Step.b33 j s := by
  unfold res_main_while0b_v34 Step.b33
  rw [← al_32 h]
  try rfl
theorem al_34 (h : Holds V0 s j) : (constant S_ .f32 0x00000000#32 : (Proc.devRef .tc main_while0b_call6_call0_cst : DevRef τ sig).ty.Contents (Elt F)) = Step.b34 j s := by
  unfold Step.b34
  rfl
theorem al_35 (h : Holds V0 s j) : (broadcastInDim S_ ![] bcast_S_S_ (constant S_ .f32 0x00000000#32) : (Proc.devRef .tc main_while0b_call6_call0_v0 : DevRef τ sig).ty.Contents (Elt F)) = Step.b35 j s := by
  unfold Step.b35
  rw [← al_34 h]
  try rfl
theorem al_36 (h : Holds V0 s j) : (res_main_while0b_v35 V0 : (Proc.devRef .tc main_while0b_v35 : DevRef τ sig).ty.Contents (Elt F)) = Step.b36 j s := by
  unfold res_main_while0b_v35 Step.b36
  rw [← al_28 h, ← al_35 h]
  try rfl
theorem al_37 (h : Holds V0 s j) : (res_main_while0b_v36 V0 : (Proc.devRef .tc main_while0b_v36 : DevRef τ sig).ty.Contents (Elt F)) = Step.b37 j s := by
  unfold res_main_while0b_v36 Step.b37
  rw [← al_36 h]
  try rfl
theorem al_38 (h : Holds V0 s j) : (extractStridedSlice S1x4x128 ![63, 0, 0] (res_main_while0b_v35 V0) slices_S64x4x128_S1x4x128_63_0_0 : (Proc.devRef .tc main_while0b_v37 : DevRef τ sig).ty.Contents (Elt F)) = Step.b38 j s := by
  unfold Step.b38
  rw [← al_36 h]
  try rfl
theorem al_39 (h : Holds V0 s j) : (res_main_while0b_v38 V0 : (Proc.devRef .tc main_while0b_v38 : DevRef τ sig).ty.Contents (Elt F)) = Step.b39 j s := by
  unfold res_main_while0b_v38 Step.b39
  rw [← al_38 h]
  try rfl
theorem al_40 (h : Holds V0 s j) : (broadcastInDim S64x4x128 ![0, 1, 2] bcast_S1x4x128_S64x4x128_0_1_2 (res_main_while0b_v36 V0) : (Proc.devRef .tc main_while0b_v39 : DevRef τ sig).ty.Contents (Elt F)) = Step.b40 j s := by
  unfold Step.b40
  rw [← al_37 h]
  try rfl
theorem al_41 (h : Holds V0 s j) : (subf (res_main_while0b_v35 V0) (broadcastInDim S64x4x128 ![0, 1, 2] bcast_S1x4x128_S64x4x128_0_1_2 (res_main_while0b_v36 V0)) : (Proc.devRef .tc main_while0b_v40 : DevRef τ sig).ty.Contents (Elt F)) = Step.b41 j s := by
  unfold Step.b41
  rw [← al_36 h, ← al_40 h]
  try rfl
theorem al_42 (h : Holds V0 s j) : (res_main_while0b_v41 V0 : (Proc.devRef .tc main_while0b_v41 : DevRef τ sig).ty.Contents (Elt F)) = Step.b42 j s := by
  unfold res_main_while0b_v41 Step.b42
  rw [← al_41 h]
  try rfl
theorem al_43 (h : Holds V0 s j) : (res_main_while0b_v42 V0 : (Proc.devRef .tc main_while0b_v42 : DevRef τ sig).ty.Contents (Elt F)) = Step.b43 j s := by
  unfold res_main_while0b_v42 Step.b43
  rw [← al_13 h, ← al_42 h]
  try rfl
theorem al_44 (h : Holds V0 s j) : (broadcastInDim S64x4x128 ![0, 1, 2] bcast_S1x4x128_S64x4x128_0_1_2 (res_main_while0b_v36 V0) : (Proc.devRef .tc main_while0b_v43 : DevRef τ sig).ty.Contents (Elt F)) = Step.b44 j s := by
  unfold Step.b44
  rw [← al_37 h]
  try rfl
theorem al_45 (h : Holds V0 s j) : (subf (broadcastInDim S64x4x128 ![0, 1, 2] bcast_S1x4x128_S64x4x128_0_1_2 (res_main_while0b_v36 V0)) (res_main_while0b_v35 V0) : (Proc.devRef .tc main_while0b_v44 : DevRef τ sig).ty.Contents (Elt F)) = Step.b45 j s := by
  unfold Step.b45
  rw [← al_44 h, ← al_36 h]
  try rfl
theorem al_46 (h : Holds V0 s j) : (res_main_while0b_v45 V0 : (Proc.devRef .tc main_while0b_v45 : DevRef τ sig).ty.Contents (Elt F)) = Step.b46 j s := by
  unfold res_main_while0b_v45 Step.b46
  rw [← al_45 h]
  try rfl
theorem al_47 (h : Holds V0 s j) : (res_main_while0b_v46 V0 : (Proc.devRef .tc main_while0b_v46 : DevRef τ sig).ty.Contents (Elt F)) = Step.b47 j s := by
  unfold res_main_while0b_v46 Step.b47
  rw [← al_18 h, ← al_46 h]
  try rfl
theorem al_48 (h : Holds V0 s j) : (Host.dotGeneral dot_S64x4x128_S64x4x128_S4x64x64_2_2_0_0_1_1 none (res_main_while0b_v42 V0) (res_main_while0b_v46 V0) : (Proc.devRef .tc main_while0b_v47 : DevRef τ sig).ty.Contents (Elt F)) = Step.b48 j s := by
  unfold Step.b48
  rw [← al_43 h, ← al_47 h]
  try rfl
theorem al_49 (h : Holds V0 s j) : (constantI S_ 1 1#1 : (Proc.devRef .tc main_while0b_c_19 : DevRef τ sig).ty.Contents (Elt F)) = Step.b49 j s := by
  unfold Step.b49
  rfl
theorem al_50 (h : Holds V0 s j) : (broadcastInDim S64x64 ![] bcast_S_S64x64 (constantI S_ 1 1#1) : (Proc.devRef .tc main_while0b_v48 : DevRef τ sig).ty.Contents (Elt F)) = Step.b50 j s := by
  unfold Step.b50
  rw [← al_49 h]
  try rfl
theorem al_51 (h : Holds V0 s j) : (iotaInDim S64x64 32 0 : (Proc.devRef .tc main_while0b_call7_v0 : DevRef τ sig).ty.Contents (Elt F)) = Step.b51 j s := by
  unfold Step.b51
  rfl
theorem al_52 (h : Holds V0 s j) : (constantI S_ 32 0#32 : (Proc.devRef .tc main_while0b_call7_c : DevRef τ sig).ty.Contents (Elt F)) = Step.b52 j s := by
  unfold Step.b52
  rfl
theorem al_53 (h : Holds V0 s j) : (broadcastInDim S64x64 ![] bcast_S_S64x64 (constantI S_ 32 0#32) : (Proc.devRef .tc main_while0b_call7_v1 : DevRef τ sig).ty.Contents (Elt F)) = Step.b53 j s := by
  unfold Step.b53
  rw [← al_52 h]
  try rfl
theorem al_54 (h : Holds V0 s j) : (addi (iotaInDim S64x64 32 0) (broadcastInDim S64x64 ![] bcast_S_S64x64 (constantI S_ 32 0#32)) : (Proc.devRef .tc main_while0b_call7_v2 : DevRef τ sig).ty.Contents (Elt F)) = Step.b54 j s := by
  unfold Step.b54
  rw [← al_51 h, ← al_53 h]
  try rfl
theorem al_55 (h : Holds V0 s j) : (iotaInDim S64x64 32 1 : (Proc.devRef .tc main_while0b_call7_v3 : DevRef τ sig).ty.Contents (Elt F)) = Step.b55 j s := by
  unfold Step.b55
  rfl
theorem al_56 (h : Holds V0 s j) : (cmpi .sge (addi (iotaInDim S64x64 32 0) (broadcastInDim S64x64 ![] bcast_S_S64x64 (constantI S_ 32 0#32))) (iotaInDim S64x64 32 1) : (Proc.devRef .tc main_while0b_call7_v4 : DevRef τ sig).ty.Contents (Elt F)) = Step.b56 j s := by
  unfold Step.b56
  rw [← al_54 h, ← al_55 h]
  try rfl
theorem al_57 (h : Holds V0 s j) : (constantI S_ 1 0#1 : (Proc.devRef .tc main_while0b_call7_c_0 : DevRef τ sig).ty.Contents (Elt F)) = Step.b57 j s := by
  unfold Step.b57
  rfl
theorem al_58 (h : Holds V0 s j) : (broadcastInDim S64x64 ![] bcast_S_S64x64 (constantI S_ 1 0#1) : (Proc.devRef .tc main_while0b_call7_v5 : DevRef τ sig).ty.Contents (Elt F)) = Step.b58 j s := by
  unfold Step.b58
  rw [← al_57 h]
  try rfl
theorem al_59 (h : Holds V0 s j) : (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)) : (Proc.devRef .tc main_while0b_v49 : DevRef τ sig).ty.Contents (Elt F)) = Step.b59 j s := by
  unfold Step.b59
  rw [← al_56 h, ← al_50 h, ← al_58 h]
  try rfl
theorem al_60 (h : Holds V0 s j) : (constant S_ .f32 0x00000000#32 : (Proc.devRef .tc main_while0b_cst_20 : DevRef τ sig).ty.Contents (Elt F)) = Step.b60 j s := by
  unfold Step.b60
  rfl
theorem al_61 (h : Holds V0 s j) : (id (constant S_ .f32 0x00000000#32) : (Proc.devRef .tc main_while0b_call8_v0 : DevRef τ sig).ty.Contents (Elt F)) = Step.b61 j s := by
  unfold Step.b61
  rw [← al_60 h]
  try rfl
theorem al_62 (h : Holds V0 s j) : (res_main_while0b_v50_1 V0 : (Proc.devRef .tc main_while0b_v50_1 : DevRef τ sig).ty.Contents (Elt F)) = Step.b62 j s := by
  unfold res_main_while0b_v50_1 Step.b62
  rw [← al_59 h]
  try rfl
theorem al_63 (h : Holds V0 s j) : (broadcastInDim S4x64x64 ![] bcast_S_S4x64x64 (id (constant S_ .f32 0x00000000#32)) : (Proc.devRef .tc main_while0b_call8_v2 : DevRef τ sig).ty.Contents (Elt F)) = Step.b63 j s := by
  unfold Step.b63
  rw [← al_61 h]
  try rfl
theorem al_64 (h : Holds V0 s j) : (res_main_while0b_v50_0 V0 : (Proc.devRef .tc main_while0b_v50_0 : DevRef τ sig).ty.Contents (Elt F)) = Step.b64 j s := by
  unfold res_main_while0b_v50_0 Step.b64
  rw [← al_62 h, ← al_48 h, ← al_63 h]
  try rfl
theorem al_65 (h : Holds V0 s j) : (constant S_ .f32 0x00000000#32 : (Proc.devRef .tc main_while0b_call8_cst : DevRef τ sig).ty.Contents (Elt F)) = Step.b65 j s := by
  unfold Step.b65
  rfl
theorem al_66 (h : Holds V0 s j) : (broadcastInDim S4x64x64 ![] bcast_S_S4x64x64 (constant S_ .f32 0x00000000#32) : (Proc.devRef .tc main_while0b_v50_2 : DevRef τ sig).ty.Contents (Elt F)) = Step.b66 j s := by
  unfold Step.b66
  rw [← al_65 h]
  try rfl
theorem al_67 (h : Holds V0 s j) : (Host.dotGeneral dot_S64x4x256_S4x64x64_S4x256x64_0_2_2_1_1_0 none (res_main_while0b_v32 V0) (res_main_while0b_v50_0 V0) : (Proc.devRef .tc main_while0b_v51 : DevRef τ sig).ty.Contents (Elt F)) = Step.b67 j s := by
  unfold Step.b67
  rw [← al_23 h, ← al_64 h]
  try rfl
theorem al_68 (h : Holds V0 s j) : (transpose S64x4x256 [2, 0, 1] (Host.dotGeneral dot_S64x4x256_S4x64x64_S4x256x64_0_2_2_1_1_0 none (res_main_while0b_v32 V0) (res_main_while0b_v50_0 V0)) transposes_S4x256x64_S64x4x256_2_0_1 : (Proc.devRef .tc main_while0b_v52 : DevRef τ sig).ty.Contents (Elt F)) = Step.b68 j s := by
  unfold Step.b68
  rw [← al_67 h]
  try rfl
theorem al_69 (h : Holds V0 s j) : (res_main_while0b_v53 V0 : (Proc.devRef .tc main_while0b_v53 : DevRef τ sig).ty.Contents (Elt F)) = Step.b69 j s := by
  unfold res_main_while0b_v53 Step.b69
  rw [← al_36 h]
  try rfl
theorem al_70 (h : Holds V0 s j) : (res_main_while0b_v54 V0 : (Proc.devRef .tc main_while0b_v54 : DevRef τ sig).ty.Contents (Elt F)) = Step.b70 j s := by
  unfold res_main_while0b_v54 Step.b70
  rw [← al_13 h, ← al_69 h]
  try rfl
theorem al_71 (h : Holds V0 s j) : (Host.dotGeneral dot_S4x128x256_S64x4x128_S4x256x64_1_2_2_0_0_1 none (res_main_while0b_v29 V0) (res_main_while0b_v54 V0) : (Proc.devRef .tc main_while0b_v55 : DevRef τ sig).ty.Contents (Elt F)) = Step.b71 j s := by
  unfold Step.b71
  rw [← al_8 h, ← al_70 h]
  try rfl
theorem al_72 (h : Holds V0 s j) : (transpose S64x4x256 [2, 0, 1] (Host.dotGeneral dot_S4x128x256_S64x4x128_S4x256x64_1_2_2_0_0_1 none (res_main_while0b_v29 V0) (res_main_while0b_v54 V0)) transposes_S4x256x64_S64x4x256_2_0_1 : (Proc.devRef .tc main_while0b_v56 : DevRef τ sig).ty.Contents (Elt F)) = Step.b72 j s := by
  unfold Step.b72
  rw [← al_71 h]
  try rfl
theorem al_73 (h : Holds V0 s j) : (addf (transpose S64x4x256 [2, 0, 1] (Host.dotGeneral dot_S64x4x256_S4x64x64_S4x256x64_0_2_2_1_1_0 none (res_main_while0b_v32 V0) (res_main_while0b_v50_0 V0)) transposes_S4x256x64_S64x4x256_2_0_1) (transpose S64x4x256 [2, 0, 1] (Host.dotGeneral dot_S4x128x256_S64x4x128_S4x256x64_1_2_2_0_0_1 none (res_main_while0b_v29 V0) (res_main_while0b_v54 V0)) transposes_S4x256x64_S64x4x256_2_0_1) : (Proc.devRef .tc main_while0b_v57 : DevRef τ sig).ty.Contents (Elt F)) = Step.b73 j s := by
  unfold Step.b73
  rw [← al_68 h, ← al_72 h]
  try rfl
theorem al_74 (h : Holds V0 s j) : (res_main_while0b_v58 V0 : (Proc.devRef .tc main_while0b_v58 : DevRef τ sig).ty.Contents (Elt F)) = Step.b74 j s := by
  unfold res_main_while0b_v58 Step.b74
  rw [← al_39 h]
  try rfl
theorem al_75 (h : Holds V0 s j) : (res_main_while0b_v59 V0 : (Proc.devRef .tc main_while0b_v59 : DevRef τ sig).ty.Contents (Elt F)) = Step.b75 j s := by
  unfold res_main_while0b_v59 Step.b75
  rw [← al_74 h]
  try rfl
theorem al_76 (h : Holds V0 s j) : (broadcastInDim S4x128x256 ![0, 1, 2] bcast_S4x128x1_S4x128x256_0_1_2 (res_main_while0b_v59 V0) : (Proc.devRef .tc main_while0b_v60 : DevRef τ sig).ty.Contents (Elt F)) = Step.b76 j s := by
  unfold Step.b76
  rw [← al_75 h]
  try rfl
theorem al_77 (h : Holds V0 s j) : (mulf (broadcastInDim S4x128x256 ![0, 1, 2] bcast_S4x128x1_S4x128x256_0_1_2 (res_main_while0b_v59 V0)) (res_main_while0b_v29 V0) : (Proc.devRef .tc main_while0b_v61 : DevRef τ sig).ty.Contents (Elt F)) = Step.b77 j s := by
  unfold Step.b77
  rw [← al_76 h, ← al_8 h]
  try rfl
theorem al_78 (h : Holds V0 s j) : (broadcastInDim S1x4x128 ![1, 2] bcast_S4x128_S1x4x128_1_2 (res_main_while0b_v38 V0) : (Proc.devRef .tc main_while0b_v62 : DevRef τ sig).ty.Contents (Elt F)) = Step.b78 j s := by
  unfold Step.b78
  rw [← al_39 h]
  try rfl
theorem al_79 (h : Holds V0 s j) : (broadcastInDim S64x4x128 ![0, 1, 2] bcast_S1x4x128_S64x4x128_0_1_2 (broadcastInDim S1x4x128 ![1, 2] bcast_S4x128_S1x4x128_1_2 (res_main_while0b_v38 V0)) : (Proc.devRef .tc main_while0b_v63 : DevRef τ sig).ty.Contents (Elt F)) = Step.b79 j s := by
  unfold Step.b79
  rw [← al_78 h]
  try rfl
theorem al_80 (h : Holds V0 s j) : (subf (broadcastInDim S64x4x128 ![0, 1, 2] bcast_S1x4x128_S64x4x128_0_1_2 (broadcastInDim S1x4x128 ![1, 2] bcast_S4x128_S1x4x128_1_2 (res_main_while0b_v38 V0))) (res_main_while0b_v35 V0) : (Proc.devRef .tc main_while0b_v64 : DevRef τ sig).ty.Contents (Elt F)) = Step.b80 j s := by
  unfold Step.b80
  rw [← al_79 h, ← al_36 h]
  try rfl
theorem al_81 (h : Holds V0 s j) : (res_main_while0b_v65 V0 : (Proc.devRef .tc main_while0b_v65 : DevRef τ sig).ty.Contents (Elt F)) = Step.b81 j s := by
  unfold res_main_while0b_v65 Step.b81
  rw [← al_80 h]
  try rfl
theorem al_82 (h : Holds V0 s j) : (res_main_while0b_v66 V0 : (Proc.devRef .tc main_while0b_v66 : DevRef τ sig).ty.Contents (Elt F)) = Step.b82 j s := by
  unfold res_main_while0b_v66 Step.b82
  rw [← al_18 h, ← al_81 h]
  try rfl
theorem al_83 (h : Holds V0 s j) : (Host.dotGeneral dot_S64x4x128_S64x4x256_S4x128x256_0_0_2_2_1_1 none (res_main_while0b_v66 V0) (res_main_while0b_v32 V0) : (Proc.devRef .tc main_while0b_v67 : DevRef τ sig).ty.Contents (Elt F)) = Step.b83 j s := by
  unfold Step.b83
  rw [← al_82 h, ← al_23 h]
  try rfl
theorem al_84 (h : Holds V0 s j) : (addf (mulf (broadcastInDim S4x128x256 ![0, 1, 2] bcast_S4x128x1_S4x128x256_0_1_2 (res_main_while0b_v59 V0)) (res_main_while0b_v29 V0)) (Host.dotGeneral dot_S64x4x128_S64x4x256_S4x128x256_0_0_2_2_1_1 none (res_main_while0b_v66 V0) (res_main_while0b_v32 V0)) : (Proc.devRef .tc main_while0b_v68 : DevRef τ sig).ty.Contents (Elt F)) = Step.b84 j s := by
  unfold Step.b84
  rw [← al_77 h, ← al_83 h]
  try rfl
theorem al_85 (h : Holds V0 s j) : (Host.dotGeneral dot_S4x128x256_S64x4x128_S4x256x64_1_2_2_0_0_1 none (V0 (Proc.devRef .tc main_v20_7)) (res_main_while0b_v66 V0) : (Proc.devRef .tc main_while0b_v69 : DevRef τ sig).ty.Contents (Elt F)) = Step.b85 j s := by
  unfold Step.b85
  rw [← al_82 h, h.f_7]
  try rfl
theorem al_86 (h : Holds V0 s j) : (transpose S64x4x256 [2, 0, 1] (Host.dotGeneral dot_S4x128x256_S64x4x128_S4x256x64_1_2_2_0_0_1 none (V0 (Proc.devRef .tc main_v20_7)) (res_main_while0b_v66 V0)) transposes_S4x256x64_S64x4x256_2_0_1 : (Proc.devRef .tc main_while0b_v70 : DevRef τ sig).ty.Contents (Elt F)) = Step.b86 j s := by
  unfold Step.b86
  rw [← al_85 h]
  try rfl
theorem al_87 (h : Holds V0 s j) : (Host.dotGeneral dot_S4x128x256_S64x4x256_S4x128x64_2_2_1_0_0_1 none (V0 (Proc.devRef .tc main_v20_7)) (res_main_while0b_v32 V0) : (Proc.devRef .tc main_while0b_v71 : DevRef τ sig).ty.Contents (Elt F)) = Step.b87 j s := by
  unfold Step.b87
  rw [← al_23 h, h.f_7]
  try rfl
theorem al_88 (h : Holds V0 s j) : (res_main_while0b_v72 V0 : (Proc.devRef .tc main_while0b_v72 : DevRef τ sig).ty.Contents (Elt F)) = Step.b88 j s := by
  unfold res_main_while0b_v72 Step.b88
  rw [← al_87 h]
  try rfl
theorem al_89 (h : Holds V0 s j) : (mulf (res_main_while0b_v31 V0) (res_main_while0b_v72 V0) : (Proc.devRef .tc main_while0b_v73 : DevRef τ sig).ty.Contents (Elt F)) = Step.b89 j s := by
  unfold Step.b89
  rw [← al_18 h, ← al_88 h]
  try rfl
theorem al_90 (h : Holds V0 s j) : (mulf (res_main_while0b_v72 V0) (res_main_while0b_v65 V0) : (Proc.devRef .tc main_while0b_v74 : DevRef τ sig).ty.Contents (Elt F)) = Step.b90 j s := by
  unfold Step.b90
  rw [← al_88 h, ← al_81 h]
  try rfl
theorem al_91 (h : Holds V0 s j) : (res_main_while0b_v75 V0 : (Proc.devRef .tc main_while0b_v75 : DevRef τ sig).ty.Contents (Elt F)) = Step.b91 j s := by
  unfold res_main_while0b_v75 Step.b91
  rw [← al_89 h, ← al_81 h]
  try rfl
theorem al_92 (h : Holds V0 s j) : (constant S_ .f32 0x00000000#32 : (Proc.devRef .tc main_while0b_cst_21 : DevRef τ sig).ty.Contents (Elt F)) = Step.b92 j s := by
  unfold Step.b92
  rfl
theorem al_93 (h : Holds V0 s j) : (Host.reduceAdd (res_main_while0b_v75 V0) (constant S_ .f32 0x00000000#32) reducesTo_S64x4x128_S4x128_d0 h_S_ : (Proc.devRef .tc main_while0b_v76 : DevRef τ sig).ty.Contents (Elt F)) = Step.b93 j s := by
  unfold Step.b93
  rw [← al_91 h, ← al_92 h]
  try rfl
theorem al_94 (h : Holds V0 s j) : (shapeCast S1x4x128 (Host.reduceAdd (res_main_while0b_v75 V0) (constant S_ .f32 0x00000000#32) reducesTo_S64x4x128_S4x128_d0 h_S_) shapeCasts_S4x128_S1x4x128 : (Proc.devRef .tc main_while0b_v77 : DevRef τ sig).ty.Contents (Elt F)) = Step.b94 j s := by
  unfold Step.b94
  rw [← al_93 h]
  try rfl
theorem al_95 (h : Holds V0 s j) : (Host.negf (res_main_while0b_v75 V0) : (Proc.devRef .tc main_while0b_v78 : DevRef τ sig).ty.Contents (Elt F)) = Step.b95 j s := by
  unfold Step.b95
  rw [← al_91 h]
  try rfl
theorem al_96 (h : Holds V0 s j) : (constant S_ .f32 0x00000000#32 : (Proc.devRef .tc main_while0b_cst_22 : DevRef τ sig).ty.Contents (Elt F)) = Step.b96 j s := by
  unfold Step.b96
  rfl
theorem al_97 (h : Holds V0 s j) : (Host.reduceAdd (shapeCast S1x4x128 (Host.reduceAdd (res_main_while0b_v75 V0) (constant S_ .f32 0x00000000#32) reducesTo_S64x4x128_S4x128_d0 h_S_) shapeCasts_S4x128_S1x4x128) (constant S_ .f32 0x00000000#32) reducesTo_S1x4x128_S4x128_d0 h_S_ : (Proc.devRef .tc main_while0b_v79 : DevRef τ sig).ty.Contents (Elt F)) = Step.b97 j s := by
  unfold Step.b97
  rw [← al_94 h, ← al_96 h]
  try rfl
theorem al_98 (h : Holds V0 s j) : (broadcastInDim S4x128x256 ![0, 1, 2] bcast_S4x128x1_S4x128x256_0_1_2 (res_main_while0b_v59 V0) : (Proc.devRef .tc main_while0b_v80 : DevRef τ sig).ty.Contents (Elt F)) = Step.b98 j s := by
  unfold Step.b98
  rw [← al_75 h]
  try rfl
theorem al_99 (h : Holds V0 s j) : (mulf (broadcastInDim S4x128x256 ![0, 1, 2] bcast_S4x128x1_S4x128x256_0_1_2 (res_main_while0b_v59 V0)) (V0 (Proc.devRef .tc main_v20_7)) : (Proc.devRef .tc main_while0b_v81 : DevRef τ sig).ty.Contents (Elt F)) = Step.b99 j s := by
  unfold Step.b99
  rw [← al_98 h, h.f_7]
  try rfl
theorem al_100 (h : Holds V0 s j) : (mulf (V0 (Proc.devRef .tc main_v20_7)) (res_main_while0b_v29 V0) : (Proc.devRef .tc main_while0b_v82 : DevRef τ sig).ty.Contents (Elt F)) = Step.b100 j s := by
  unfold Step.b100
  rw [← al_8 h, h.f_7]
  try rfl
theorem al_101 (h : Holds V0 s j) : (constant S_ .f32 0x00000000#32 : (Proc.devRef .tc main_while0b_cst_23 : DevRef τ sig).ty.Contents (Elt F)) = Step.b101 j s := by
  unfold Step.b101
  rfl
theorem al_102 (h : Holds V0 s j) : (Host.reduceAdd (mulf (V0 (Proc.devRef .tc main_v20_7)) (res_main_while0b_v29 V0)) (constant S_ .f32 0x00000000#32) reducesTo_S4x128x256_S4x128_d2 h_S_ : (Proc.devRef .tc main_while0b_v83 : DevRef τ sig).ty.Contents (Elt F)) = Step.b102 j s := by
  unfold Step.b102
  rw [← al_100 h, ← al_101 h]
  try rfl
theorem al_103 (h : Holds V0 s j) : (shapeCast S4x128x1 (Host.reduceAdd (mulf (V0 (Proc.devRef .tc main_v20_7)) (res_main_while0b_v29 V0)) (constant S_ .f32 0x00000000#32) reducesTo_S4x128x256_S4x128_d2 h_S_) shapeCasts_S4x128_S4x128x1 : (Proc.devRef .tc main_while0b_v84 : DevRef τ sig).ty.Contents (Elt F)) = Step.b103 j s := by
  unfold Step.b103
  rw [← al_102 h]
  try rfl
theorem al_104 (h : Holds V0 s j) : (constant S_ .f32 0x00000000#32 : (Proc.devRef .tc main_while0b_cst_24 : DevRef τ sig).ty.Contents (Elt F)) = Step.b104 j s := by
  unfold Step.b104
  rfl
theorem al_105 (h : Holds V0 s j) : (Host.reduceAdd (shapeCast S4x128x1 (Host.reduceAdd (mulf (V0 (Proc.devRef .tc main_v20_7)) (res_main_while0b_v29 V0)) (constant S_ .f32 0x00000000#32) reducesTo_S4x128x256_S4x128_d2 h_S_) shapeCasts_S4x128_S4x128x1) (constant S_ .f32 0x00000000#32) reducesTo_S4x128x1_S4x128_d2 h_S_ : (Proc.devRef .tc main_while0b_v85 : DevRef τ sig).ty.Contents (Elt F)) = Step.b105 j s := by
  unfold Step.b105
  rw [← al_103 h, ← al_104 h]
  try rfl
theorem al_106 (h : Holds V0 s j) : (mulf (Host.reduceAdd (shapeCast S4x128x1 (Host.reduceAdd (mulf (V0 (Proc.devRef .tc main_v20_7)) (res_main_while0b_v29 V0)) (constant S_ .f32 0x00000000#32) reducesTo_S4x128x256_S4x128_d2 h_S_) shapeCasts_S4x128_S4x128x1) (constant S_ .f32 0x00000000#32) reducesTo_S4x128x1_S4x128_d2 h_S_) (res_main_while0b_v58 V0) : (Proc.devRef .tc main_while0b_v86 : DevRef τ sig).ty.Contents (Elt F)) = Step.b106 j s := by
  unfold Step.b106
  rw [← al_105 h, ← al_74 h]
  try rfl
theorem al_107 (h : Holds V0 s j) : (addf (Host.reduceAdd (shapeCast S1x4x128 (Host.reduceAdd (res_main_while0b_v75 V0) (constant S_ .f32 0x00000000#32) reducesTo_S64x4x128_S4x128_d0 h_S_) shapeCasts_S4x128_S1x4x128) (constant S_ .f32 0x00000000#32) reducesTo_S1x4x128_S4x128_d0 h_S_) (mulf (Host.reduceAdd (shapeCast S4x128x1 (Host.reduceAdd (mulf (V0 (Proc.devRef .tc main_v20_7)) (res_main_while0b_v29 V0)) (constant S_ .f32 0x00000000#32) reducesTo_S4x128x256_S4x128_d2 h_S_) shapeCasts_S4x128_S4x128x1) (constant S_ .f32 0x00000000#32) reducesTo_S4x128x1_S4x128_d2 h_S_) (res_main_while0b_v58 V0)) : (Proc.devRef .tc main_while0b_v87 : DevRef τ sig).ty.Contents (Elt F)) = Step.b107 j s := by
  unfold Step.b107
  rw [← al_97 h, ← al_106 h]
  try rfl
theorem al_108 (h : Holds V0 s j) : (res_main_while0b_v88 V0 : (Proc.devRef .tc main_while0b_v88 : DevRef τ sig).ty.Contents (Elt F)) = Step.b108 j s := by
  unfold res_main_while0b_v88 Step.b108
  rw [← al_33 h]
  try rfl
theorem al_109 (h : Holds V0 s j) : (Host.dotGeneral dot_S4x256x64_S4x128x256_S4x64x128_1_2_2_1_0_0 none (res_main_while0b_v88 V0) (res_main_while0b_v29 V0) : (Proc.devRef .tc main_while0b_v89 : DevRef τ sig).ty.Contents (Elt F)) = Step.b109 j s := by
  unfold Step.b109
  rw [← al_108 h, ← al_8 h]
  try rfl
theorem al_110 (h : Holds V0 s j) : (res_main_while0b_v90 V0 : (Proc.devRef .tc main_while0b_v90 : DevRef τ sig).ty.Contents (Elt F)) = Step.b110 j s := by
  unfold res_main_while0b_v90 Step.b110
  rw [← al_109 h]
  try rfl
theorem al_111 (h : Holds V0 s j) : (Host.dotGeneral dot_S4x256x64_S64x4x128_S4x256x128_2_0_1_2_0_1 none (res_main_while0b_v88 V0) (res_main_while0b_v54 V0) : (Proc.devRef .tc main_while0b_v91 : DevRef τ sig).ty.Contents (Elt F)) = Step.b111 j s := by
  unfold Step.b111
  rw [← al_108 h, ← al_70 h]
  try rfl
theorem al_112 (h : Holds V0 s j) : (transpose S4x128x256 [0, 2, 1] (Host.dotGeneral dot_S4x256x64_S64x4x128_S4x256x128_2_0_1_2_0_1 none (res_main_while0b_v88 V0) (res_main_while0b_v54 V0)) transposes_S4x256x128_S4x128x256_0_2_1 : (Proc.devRef .tc main_while0b_v92 : DevRef τ sig).ty.Contents (Elt F)) = Step.b112 j s := by
  unfold Step.b112
  rw [← al_111 h]
  try rfl
theorem al_113 (h : Holds V0 s j) : (addf (mulf (broadcastInDim S4x128x256 ![0, 1, 2] bcast_S4x128x1_S4x128x256_0_1_2 (res_main_while0b_v59 V0)) (V0 (Proc.devRef .tc main_v20_7))) (transpose S4x128x256 [0, 2, 1] (Host.dotGeneral dot_S4x256x64_S64x4x128_S4x256x128_2_0_1_2_0_1 none (res_main_while0b_v88 V0) (res_main_while0b_v54 V0)) transposes_S4x256x128_S4x128x256_0_2_1) : (Proc.devRef .tc main_while0b_v93 : DevRef τ sig).ty.Contents (Elt F)) = Step.b113 j s := by
  unfold Step.b113
  rw [← al_99 h, ← al_112 h]
  try rfl
theorem al_114 (h : Holds V0 s j) : (mulf (res_main_while0b_v30 V0) (res_main_while0b_v90 V0) : (Proc.devRef .tc main_while0b_v94 : DevRef τ sig).ty.Contents (Elt F)) = Step.b114 j s := by
  unfold Step.b114
  rw [← al_13 h, ← al_110 h]
  try rfl
theorem al_115 (h : Holds V0 s j) : (mulf (res_main_while0b_v90 V0) (res_main_while0b_v53 V0) : (Proc.devRef .tc main_while0b_v95 : DevRef τ sig).ty.Contents (Elt F)) = Step.b115 j s := by
  unfold Step.b115
  rw [← al_110 h, ← al_69 h]
  try rfl
theorem al_116 (h : Holds V0 s j) : (mulf (mulf (res_main_while0b_v30 V0) (res_main_while0b_v90 V0)) (res_main_while0b_v53 V0) : (Proc.devRef .tc main_while0b_v96 : DevRef τ sig).ty.Contents (Elt F)) = Step.b116 j s := by
  unfold Step.b116
  rw [← al_114 h, ← al_69 h]
  try rfl
theorem al_117 (h : Holds V0 s j) : (addf (Host.negf (res_main_while0b_v75 V0)) (mulf (mulf (res_main_while0b_v30 V0) (res_main_while0b_v90 V0)) (res_main_while0b_v53 V0)) : (Proc.devRef .tc main_while0b_v97 : DevRef τ sig).ty.Contents (Elt F)) = Step.b117 j s := by
  unfold Step.b117
  rw [← al_95 h, ← al_116 h]
  try rfl
theorem al_118 (h : Holds V0 s j) : (res_main_while0b_v98 V0 : (Proc.devRef .tc main_while0b_v98 : DevRef τ sig).ty.Contents (Elt F)) = Step.b118 j s := by
  unfold res_main_while0b_v98 Step.b118
  rw [← al_33 h]
  try rfl
theorem al_119 (h : Holds V0 s j) : (Host.dotGeneral dot_S4x256x64_S64x4x256_S4x64x64_1_2_2_0_0_1 none (res_main_while0b_v98 V0) (res_main_while0b_v32 V0) : (Proc.devRef .tc main_while0b_v99 : DevRef τ sig).ty.Contents (Elt F)) = Step.b119 j s := by
  unfold Step.b119
  rw [← al_118 h, ← al_23 h]
  try rfl
theorem al_120 (h : Holds V0 s j) : (Host.dotGeneral dot_S4x256x64_S4x64x64_S4x256x64_2_1_1_2_0_0 none (res_main_while0b_v98 V0) (res_main_while0b_v50_0 V0) : (Proc.devRef .tc main_while0b_v100 : DevRef τ sig).ty.Contents (Elt F)) = Step.b120 j s := by
  unfold Step.b120
  rw [← al_118 h, ← al_64 h]
  try rfl
theorem al_121 (h : Holds V0 s j) : (transpose S64x4x256 [2, 0, 1] (Host.dotGeneral dot_S4x256x64_S4x64x64_S4x256x64_2_1_1_2_0_0 none (res_main_while0b_v98 V0) (res_main_while0b_v50_0 V0)) transposes_S4x256x64_S64x4x256_2_0_1 : (Proc.devRef .tc main_while0b_v101 : DevRef τ sig).ty.Contents (Elt F)) = Step.b121 j s := by
  unfold Step.b121
  rw [← al_120 h]
  try rfl
theorem al_122 (h : Holds V0 s j) : (addf (transpose S64x4x256 [2, 0, 1] (Host.dotGeneral dot_S4x128x256_S64x4x128_S4x256x64_1_2_2_0_0_1 none (V0 (Proc.devRef .tc main_v20_7)) (res_main_while0b_v66 V0)) transposes_S4x256x64_S64x4x256_2_0_1) (transpose S64x4x256 [2, 0, 1] (Host.dotGeneral dot_S4x256x64_S4x64x64_S4x256x64_2_1_1_2_0_0 none (res_main_while0b_v98 V0) (res_main_while0b_v50_0 V0)) transposes_S4x256x64_S64x4x256_2_0_1) : (Proc.devRef .tc main_while0b_v102 : DevRef τ sig).ty.Contents (Elt F)) = Step.b122 j s := by
  unfold Step.b122
  rw [← al_86 h, ← al_121 h]
  try rfl
theorem al_123 (h : Holds V0 s j) : (constant S_ .f32 0x00000000#32 : (Proc.devRef .tc main_while0b_call9_cst : DevRef τ sig).ty.Contents (Elt F)) = Step.b123 j s := by
  unfold Step.b123
  rfl
theorem al_124 (h : Holds V0 s j) : (broadcastInDim S4x64x64 ![] bcast_S_S4x64x64 (constant S_ .f32 0x00000000#32) : (Proc.devRef .tc main_while0b_call9_v0 : DevRef τ sig).ty.Contents (Elt F)) = Step.b124 j s := by
  unfold Step.b124
  rw [← al_123 h]
  try rfl
theorem al_125 (h : Holds V0 s j) : (res_main_while0b_v103 V0 : (Proc.devRef .tc main_while0b_v103 : DevRef τ sig).ty.Contents (Elt F)) = Step.b125 j s := by
  unfold res_main_while0b_v103 Step.b125
  rw [← al_62 h, ← al_119 h, ← al_124 h]
  try rfl
theorem al_126 (h : Holds V0 s j) : (Host.dotGeneral dot_S4x64x64_S64x4x128_S4x64x128_1_0_2_2_0_1 none (res_main_while0b_v103 V0) (res_main_while0b_v42 V0) : (Proc.devRef .tc main_while0b_v104 : DevRef τ sig).ty.Contents (Elt F)) = Step.b126 j s := by
  unfold Step.b126
  rw [← al_125 h, ← al_43 h]
  try rfl
theorem al_127 (h : Holds V0 s j) : (res_main_while0b_v105 V0 : (Proc.devRef .tc main_while0b_v105 : DevRef τ sig).ty.Contents (Elt F)) = Step.b127 j s := by
  unfold res_main_while0b_v105 Step.b127
  rw [← al_126 h]
  try rfl
theorem al_128 (h : Holds V0 s j) : (Host.dotGeneral dot_S4x64x64_S64x4x128_S4x64x128_2_0_1_2_0_1 none (res_main_while0b_v103 V0) (res_main_while0b_v46 V0) : (Proc.devRef .tc main_while0b_v106 : DevRef τ sig).ty.Contents (Elt F)) = Step.b128 j s := by
  unfold Step.b128
  rw [← al_125 h, ← al_47 h]
  try rfl
theorem al_129 (h : Holds V0 s j) : (res_main_while0b_v107 V0 : (Proc.devRef .tc main_while0b_v107 : DevRef τ sig).ty.Contents (Elt F)) = Step.b129 j s := by
  unfold res_main_while0b_v107 Step.b129
  rw [← al_128 h]
  try rfl
theorem al_130 (h : Holds V0 s j) : (mulf (res_main_while0b_v31 V0) (res_main_while0b_v105 V0) : (Proc.devRef .tc main_while0b_v108 : DevRef τ sig).ty.Contents (Elt F)) = Step.b130 j s := by
  unfold Step.b130
  rw [← al_18 h, ← al_127 h]
  try rfl
theorem al_131 (h : Holds V0 s j) : (mulf (res_main_while0b_v105 V0) (res_main_while0b_v45 V0) : (Proc.devRef .tc main_while0b_v109 : DevRef τ sig).ty.Contents (Elt F)) = Step.b131 j s := by
  unfold Step.b131
  rw [← al_127 h, ← al_46 h]
  try rfl
theorem al_132 (h : Holds V0 s j) : (addf (mulf (res_main_while0b_v72 V0) (res_main_while0b_v65 V0)) (mulf (res_main_while0b_v105 V0) (res_main_while0b_v45 V0)) : (Proc.devRef .tc main_while0b_v110 : DevRef τ sig).ty.Contents (Elt F)) = Step.b132 j s := by
  unfold Step.b132
  rw [← al_90 h, ← al_131 h]
  try rfl
theorem al_133 (h : Holds V0 s j) : (res_main_while0b_v111 V0 : (Proc.devRef .tc main_while0b_v111 : DevRef τ sig).ty.Contents (Elt F)) = Step.b133 j s := by
  unfold res_main_while0b_v111 Step.b133
  rw [← al_130 h, ← al_46 h]
  try rfl
theorem al_134 (h : Holds V0 s j) : (constant S_ .f32 0x00000000#32 : (Proc.devRef .tc main_while0b_cst_25 : DevRef τ sig).ty.Contents (Elt F)) = Step.b134 j s := by
  unfold Step.b134
  rfl
theorem al_135 (h : Holds V0 s j) : (Host.reduceAdd (res_main_while0b_v111 V0) (constant S_ .f32 0x00000000#32) reducesTo_S64x4x128_S4x128_d0 h_S_ : (Proc.devRef .tc main_while0b_v112 : DevRef τ sig).ty.Contents (Elt F)) = Step.b135 j s := by
  unfold Step.b135
  rw [← al_133 h, ← al_134 h]
  try rfl
theorem al_136 (h : Holds V0 s j) : (shapeCast S1x4x128 (Host.reduceAdd (res_main_while0b_v111 V0) (constant S_ .f32 0x00000000#32) reducesTo_S64x4x128_S4x128_d0 h_S_) shapeCasts_S4x128_S1x4x128 : (Proc.devRef .tc main_while0b_v113 : DevRef τ sig).ty.Contents (Elt F)) = Step.b136 j s := by
  unfold Step.b136
  rw [← al_135 h]
  try rfl
theorem al_137 (h : Holds V0 s j) : (Host.negf (res_main_while0b_v111 V0) : (Proc.devRef .tc main_while0b_v114 : DevRef τ sig).ty.Contents (Elt F)) = Step.b137 j s := by
  unfold Step.b137
  rw [← al_133 h]
  try rfl
theorem al_138 (h : Holds V0 s j) : (addf (addf (Host.negf (res_main_while0b_v75 V0)) (mulf (mulf (res_main_while0b_v30 V0) (res_main_while0b_v90 V0)) (res_main_while0b_v53 V0))) (Host.negf (res_main_while0b_v111 V0)) : (Proc.devRef .tc main_while0b_v115 : DevRef τ sig).ty.Contents (Elt F)) = Step.b138 j s := by
  unfold Step.b138
  rw [← al_117 h, ← al_137 h]
  try rfl
theorem al_139 (h : Holds V0 s j) : (mulf (res_main_while0b_v30 V0) (res_main_while0b_v107 V0) : (Proc.devRef .tc main_while0b_v116 : DevRef τ sig).ty.Contents (Elt F)) = Step.b139 j s := by
  unfold Step.b139
  rw [← al_13 h, ← al_129 h]
  try rfl
theorem al_140 (h : Holds V0 s j) : (mulf (res_main_while0b_v107 V0) (res_main_while0b_v41 V0) : (Proc.devRef .tc main_while0b_v117 : DevRef τ sig).ty.Contents (Elt F)) = Step.b140 j s := by
  unfold Step.b140
  rw [← al_129 h, ← al_42 h]
  try rfl
theorem al_141 (h : Holds V0 s j) : (addf (mulf (res_main_while0b_v90 V0) (res_main_while0b_v53 V0)) (mulf (res_main_while0b_v107 V0) (res_main_while0b_v41 V0)) : (Proc.devRef .tc main_while0b_v118 : DevRef τ sig).ty.Contents (Elt F)) = Step.b141 j s := by
  unfold Step.b141
  rw [← al_115 h, ← al_140 h]
  try rfl
theorem al_142 (h : Holds V0 s j) : (res_main_while0b_v119 V0 : (Proc.devRef .tc main_while0b_v119 : DevRef τ sig).ty.Contents (Elt F)) = Step.b142 j s := by
  unfold res_main_while0b_v119 Step.b142
  rw [← al_139 h, ← al_42 h]
  try rfl
theorem al_143 (h : Holds V0 s j) : (Host.negf (res_main_while0b_v119 V0) : (Proc.devRef .tc main_while0b_v120 : DevRef τ sig).ty.Contents (Elt F)) = Step.b143 j s := by
  unfold Step.b143
  rw [← al_142 h]
  try rfl
theorem al_144 (h : Holds V0 s j) : (constant S_ .f32 0x00000000#32 : (Proc.devRef .tc main_while0b_cst_26 : DevRef τ sig).ty.Contents (Elt F)) = Step.b144 j s := by
  unfold Step.b144
  rfl
theorem al_145 (h : Holds V0 s j) : (Host.reduceAdd (Host.negf (res_main_while0b_v119 V0)) (constant S_ .f32 0x00000000#32) reducesTo_S64x4x128_S4x128_d0 h_S_ : (Proc.devRef .tc main_while0b_v121 : DevRef τ sig).ty.Contents (Elt F)) = Step.b145 j s := by
  unfold Step.b145
  rw [← al_143 h, ← al_144 h]
  try rfl
theorem al_146 (h : Holds V0 s j) : (shapeCast S1x4x128 (Host.reduceAdd (Host.negf (res_main_while0b_v119 V0)) (constant S_ .f32 0x00000000#32) reducesTo_S64x4x128_S4x128_d0 h_S_) shapeCasts_S4x128_S1x4x128 : (Proc.devRef .tc main_while0b_v122 : DevRef τ sig).ty.Contents (Elt F)) = Step.b146 j s := by
  unfold Step.b146
  rw [← al_145 h]
  try rfl
theorem al_147 (h : Holds V0 s j) : (addf (addf (addf (Host.negf (res_main_while0b_v75 V0)) (mulf (mulf (res_main_while0b_v30 V0) (res_main_while0b_v90 V0)) (res_main_while0b_v53 V0))) (Host.negf (res_main_while0b_v111 V0))) (res_main_while0b_v119 V0) : (Proc.devRef .tc main_while0b_v123 : DevRef τ sig).ty.Contents (Elt F)) = Step.b147 j s := by
  unfold Step.b147
  rw [← al_138 h, ← al_142 h]
  try rfl
theorem al_148 (h : Holds V0 s j) : (addf (shapeCast S1x4x128 (Host.reduceAdd (res_main_while0b_v111 V0) (constant S_ .f32 0x00000000#32) reducesTo_S64x4x128_S4x128_d0 h_S_) shapeCasts_S4x128_S1x4x128) (shapeCast S1x4x128 (Host.reduceAdd (Host.negf (res_main_while0b_v119 V0)) (constant S_ .f32 0x00000000#32) reducesTo_S64x4x128_S4x128_d0 h_S_) shapeCasts_S4x128_S1x4x128) : (Proc.devRef .tc main_while0b_v124 : DevRef τ sig).ty.Contents (Elt F)) = Step.b148 j s := by
  unfold Step.b148
  rw [← al_136 h, ← al_146 h]
  try rfl
theorem al_149 (h : Holds V0 s j) : (broadcastInDim S1x4x128 ![1, 2] bcast_S4x128_S1x4x128_1_2 (addf (Host.reduceAdd (shapeCast S1x4x128 (Host.reduceAdd (res_main_while0b_v75 V0) (constant S_ .f32 0x00000000#32) reducesTo_S64x4x128_S4x128_d0 h_S_) shapeCasts_S4x128_S1x4x128) (constant S_ .f32 0x00000000#32) reducesTo_S1x4x128_S4x128_d0 h_S_) (mulf (Host.reduceAdd (shapeCast S4x128x1 (Host.reduceAdd (mulf (V0 (Proc.devRef .tc main_v20_7)) (res_main_while0b_v29 V0)) (constant S_ .f32 0x00000000#32) reducesTo_S4x128x256_S4x128_d2 h_S_) shapeCasts_S4x128_S4x128x1) (constant S_ .f32 0x00000000#32) reducesTo_S4x128x1_S4x128_d2 h_S_) (res_main_while0b_v58 V0))) : (Proc.devRef .tc main_while0b_v125 : DevRef τ sig).ty.Contents (Elt F)) = Step.b149 j s := by
  unfold Step.b149
  rw [← al_107 h]
  try rfl
theorem al_150 (h : Holds V0 s j) : (constant S_ .f32 0x00000000#32 : (Proc.devRef .tc main_while0b_cst_27 : DevRef τ sig).ty.Contents (Elt F)) = Step.b150 j s := by
  unfold Step.b150
  rfl
theorem al_151 (h : Holds V0 s j) : (pad S64x4x128 ![63, 0, 0] ![0, 0, 0] ![0, 0, 0] (broadcastInDim S1x4x128 ![1, 2] bcast_S4x128_S1x4x128_1_2 (addf (Host.reduceAdd (shapeCast S1x4x128 (Host.reduceAdd (res_main_while0b_v75 V0) (constant S_ .f32 0x00000000#32) reducesTo_S64x4x128_S4x128_d0 h_S_) shapeCasts_S4x128_S1x4x128) (constant S_ .f32 0x00000000#32) reducesTo_S1x4x128_S4x128_d0 h_S_) (mulf (Host.reduceAdd (shapeCast S4x128x1 (Host.reduceAdd (mulf (V0 (Proc.devRef .tc main_v20_7)) (res_main_while0b_v29 V0)) (constant S_ .f32 0x00000000#32) reducesTo_S4x128x256_S4x128_d2 h_S_) shapeCasts_S4x128_S4x128x1) (constant S_ .f32 0x00000000#32) reducesTo_S4x128x1_S4x128_d2 h_S_) (res_main_while0b_v58 V0)))) (constant S_ .f32 0x00000000#32) pads_S1x4x128_S64x4x128_6300_000_000 h_S_ : (Proc.devRef .tc main_while0b_v126 : DevRef τ sig).ty.Contents (Elt F)) = Step.b151 j s := by
  unfold Step.b151
  rw [← al_149 h, ← al_150 h]
  try rfl
theorem al_152 (h : Holds V0 s j) : (addf (addf (addf (addf (Host.negf (res_main_while0b_v75 V0)) (mulf (mulf (res_main_while0b_v30 V0) (res_main_while0b_v90 V0)) (res_main_while0b_v53 V0))) (Host.negf (res_main_while0b_v111 V0))) (res_main_while0b_v119 V0)) (pad S64x4x128 ![63, 0, 0] ![0, 0, 0] ![0, 0, 0] (broadcastInDim S1x4x128 ![1, 2] bcast_S4x128_S1x4x128_1_2 (addf (Host.reduceAdd (shapeCast S1x4x128 (Host.reduceAdd (res_main_while0b_v75 V0) (constant S_ .f32 0x00000000#32) reducesTo_S64x4x128_S4x128_d0 h_S_) shapeCasts_S4x128_S1x4x128) (constant S_ .f32 0x00000000#32) reducesTo_S1x4x128_S4x128_d0 h_S_) (mulf (Host.reduceAdd (shapeCast S4x128x1 (Host.reduceAdd (mulf (V0 (Proc.devRef .tc main_v20_7)) (res_main_while0b_v29 V0)) (constant S_ .f32 0x00000000#32) reducesTo_S4x128x256_S4x128_d2 h_S_) shapeCasts_S4x128_S4x128x1) (constant S_ .f32 0x00000000#32) reducesTo_S4x128x1_S4x128_d2 h_S_) (res_main_while0b_v58 V0)))) (constant S_ .f32 0x00000000#32) pads_S1x4x128_S64x4x128_6300_000_000 h_S_) : (Proc.devRef .tc main_while0b_v127 : DevRef τ sig).ty.Contents (Elt F)) = Step.b152 j s := by
  unfold Step.b152
  rw [← al_147 h, ← al_151 h]
  try rfl
theorem al_153 (h : Holds V0 s j) : (constant S_ .f32 0x00000000#32 : (Proc.devRef .tc main_while0b_cst_28 : DevRef τ sig).ty.Contents (Elt F)) = Step.b153 j s := by
  unfold Step.b153
  rfl
theorem al_154 (h : Holds V0 s j) : (pad S64x4x128 ![31, 0, 0] ![32, 0, 0] ![0, 0, 0] (addf (shapeCast S1x4x128 (Host.reduceAdd (res_main_while0b_v111 V0) (constant S_ .f32 0x00000000#32) reducesTo_S64x4x128_S4x128_d0 h_S_) shapeCasts_S4x128_S1x4x128) (shapeCast S1x4x128 (Host.reduceAdd (Host.negf (res_main_while0b_v119 V0)) (constant S_ .f32 0x00000000#32) reducesTo_S64x4x128_S4x128_d0 h_S_) shapeCasts_S4x128_S1x4x128)) (constant S_ .f32 0x00000000#32) pads_S1x4x128_S64x4x128_31320_000_000 h_S_ : (Proc.devRef .tc main_while0b_v128 : DevRef τ sig).ty.Contents (Elt F)) = Step.b154 j s := by
  unfold Step.b154
  rw [← al_148 h, ← al_153 h]
  try rfl
theorem al_155 (h : Holds V0 s j) : (addf (addf (addf (addf (addf (Host.negf (res_main_while0b_v75 V0)) (mulf (mulf (res_main_while0b_v30 V0) (res_main_while0b_v90 V0)) (res_main_while0b_v53 V0))) (Host.negf (res_main_while0b_v111 V0))) (res_main_while0b_v119 V0)) (pad S64x4x128 ![63, 0, 0] ![0, 0, 0] ![0, 0, 0] (broadcastInDim S1x4x128 ![1, 2] bcast_S4x128_S1x4x128_1_2 (addf (Host.reduceAdd (shapeCast S1x4x128 (Host.reduceAdd (res_main_while0b_v75 V0) (constant S_ .f32 0x00000000#32) reducesTo_S64x4x128_S4x128_d0 h_S_) shapeCasts_S4x128_S1x4x128) (constant S_ .f32 0x00000000#32) reducesTo_S1x4x128_S4x128_d0 h_S_) (mulf (Host.reduceAdd (shapeCast S4x128x1 (Host.reduceAdd (mulf (V0 (Proc.devRef .tc main_v20_7)) (res_main_while0b_v29 V0)) (constant S_ .f32 0x00000000#32) reducesTo_S4x128x256_S4x128_d2 h_S_) shapeCasts_S4x128_S4x128x1) (constant S_ .f32 0x00000000#32) reducesTo_S4x128x1_S4x128_d2 h_S_) (res_main_while0b_v58 V0)))) (constant S_ .f32 0x00000000#32) pads_S1x4x128_S64x4x128_6300_000_000 h_S_)) (pad S64x4x128 ![31, 0, 0] ![32, 0, 0] ![0, 0, 0] (addf (shapeCast S1x4x128 (Host.reduceAdd (res_main_while0b_v111 V0) (constant S_ .f32 0x00000000#32) reducesTo_S64x4x128_S4x128_d0 h_S_) shapeCasts_S4x128_S1x4x128) (shapeCast S1x4x128 (Host.reduceAdd (Host.negf (res_main_while0b_v119 V0)) (constant S_ .f32 0x00000000#32) reducesTo_S64x4x128_S4x128_d0 h_S_) shapeCasts_S4x128_S1x4x128)) (constant S_ .f32 0x00000000#32) pads_S1x4x128_S64x4x128_31320_000_000 h_S_) : (Proc.devRef .tc main_while0b_v129 : DevRef τ sig).ty.Contents (Elt F)) = Step.b155 j s := by
  unfold Step.b155
  rw [← al_152 h, ← al_154 h]
  try rfl
theorem al_156 (h : Holds V0 s j) : (constant S_ .f32 0x00000000#32 : (Proc.devRef .tc main_while0b_call10_call0_cst : DevRef τ sig).ty.Contents (Elt F)) = Step.b156 j s := by
  unfold Step.b156
  rfl
theorem al_157 (h : Holds V0 s j) : (broadcastInDim S_ ![] bcast_S_S_ (constant S_ .f32 0x00000000#32) : (Proc.devRef .tc main_while0b_call10_call0_v0 : DevRef τ sig).ty.Contents (Elt F)) = Step.b157 j s := by
  unfold Step.b157
  rw [← al_156 h]
  try rfl
theorem al_158 (h : Holds V0 s j) : (Host.reduceWindowAdd ![64, 1, 1] ![1, 1, 1] ![0, 0, 0] ![63, 0, 0] (addf (addf (addf (addf (addf (Host.negf (res_main_while0b_v75 V0)) (mulf (mulf (res_main_while0b_v30 V0) (res_main_while0b_v90 V0)) (res_main_while0b_v53 V0))) (Host.negf (res_main_while0b_v111 V0))) (res_main_while0b_v119 V0)) (pad S64x4x128 ![63, 0, 0] ![0, 0, 0] ![0, 0, 0] (broadcastInDim S1x4x128 ![1, 2] bcast_S4x128_S1x4x128_1_2 (addf (Host.reduceAdd (shapeCast S1x4x128 (Host.reduceAdd (res_main_while0b_v75 V0) (constant S_ .f32 0x00000000#32) reducesTo_S64x4x128_S4x128_d0 h_S_) shapeCasts_S4x128_S1x4x128) (constant S_ .f32 0x00000000#32) reducesTo_S1x4x128_S4x128_d0 h_S_) (mulf (Host.reduceAdd (shapeCast S4x128x1 (Host.reduceAdd (mulf (V0 (Proc.devRef .tc main_v20_7)) (res_main_while0b_v29 V0)) (constant S_ .f32 0x00000000#32) reducesTo_S4x128x256_S4x128_d2 h_S_) shapeCasts_S4x128_S4x128x1) (constant S_ .f32 0x00000000#32) reducesTo_S4x128x1_S4x128_d2 h_S_) (res_main_while0b_v58 V0)))) (constant S_ .f32 0x00000000#32) pads_S1x4x128_S64x4x128_6300_000_000 h_S_)) (pad S64x4x128 ![31, 0, 0] ![32, 0, 0] ![0, 0, 0] (addf (shapeCast S1x4x128 (Host.reduceAdd (res_main_while0b_v111 V0) (constant S_ .f32 0x00000000#32) reducesTo_S64x4x128_S4x128_d0 h_S_) shapeCasts_S4x128_S1x4x128) (shapeCast S1x4x128 (Host.reduceAdd (Host.negf (res_main_while0b_v119 V0)) (constant S_ .f32 0x00000000#32) reducesTo_S64x4x128_S4x128_d0 h_S_) shapeCasts_S4x128_S1x4x128)) (constant S_ .f32 0x00000000#32) pads_S1x4x128_S64x4x128_31320_000_000 h_S_)) (broadcastInDim S_ ![] bcast_S_S_ (constant S_ .f32 0x00000000#32)) reduceWindows_S64x4x128_S64x4x128_w64s1p0_63_w1s1p0_0_w1s1p0_0 h_S_ : (Proc.devRef .tc main_while0b_v130 : DevRef τ sig).ty.Contents (Elt F)) = Step.b158 j s := by
  unfold Step.b158
  rw [← al_155 h, ← al_157 h]
  try rfl
theorem al_159 (h : Holds V0 s j) : (broadcastInDim S1x64x4x128 ![1, 2, 3] bcast_S64x4x128_S1x64x4x128_1_2_3 (addf (mulf (res_main_while0b_v90 V0) (res_main_while0b_v53 V0)) (mulf (res_main_while0b_v107 V0) (res_main_while0b_v41 V0))) : (Proc.devRef .tc main_while0b_call11_v0 : DevRef τ sig).ty.Contents (Elt F)) = Step.b159 j s := by
  unfold Step.b159
  rw [← al_141 h]
  try rfl
theorem al_160 (h : Holds V0 s j) : (constantI S_ 32 0#32 : (Proc.devRef .tc main_while0b_call11_c : DevRef τ sig).ty.Contents (Elt F)) = Step.b160 j s := by
  unfold Step.b160
  rfl
theorem al_161 (h : Holds V0 s j) : (constantI S_ 32 0#32 : (Proc.devRef .tc main_while0b_call11_c_0 : DevRef τ sig).ty.Contents (Elt F)) = Step.b161 j s := by
  unfold Step.b161
  rfl
theorem al_162 (h : Holds V0 s j) : (constantI S_ 32 0#32 : (Proc.devRef .tc main_while0b_call11_c_1 : DevRef τ sig).ty.Contents (Elt F)) = Step.b162 j s := by
  unfold Step.b162
  rfl
theorem al_163 (h : Holds V0 s j) : (Host.dynamicUpdateSlice (V0 (Proc.devRef .tc main_v20_8)) (broadcastInDim S1x64x4x128 ![1, 2, 3] bcast_S64x4x128_S1x64x4x128_1_2_3 (addf (mulf (res_main_while0b_v90 V0) (res_main_while0b_v53 V0)) (mulf (res_main_while0b_v107 V0) (res_main_while0b_v41 V0)))) (fun k => (((![res_main_while0b_v28 V0, constantI S_ 32 0#32, constantI S_ 32 0#32, constantI S_ 32 0#32] : Fin 4 → (⟨S_, .i32⟩ : BufTy).Contents (Elt F))) k (Shape.Idx.first h_S_)).toInt) updateFits_S128x64x4x128_S1x64x4x128 : (Proc.devRef .tc main_while0b_v131 : DevRef τ sig).ty.Contents (Elt F)) = Step.b163 j s := by
  unfold Step.b163
  rw [← al_159 h, ← al_3 h, ← al_160 h, ← al_161 h, ← al_162 h, h.f_8]
  try rfl
theorem al_164 (h : Holds V0 s j) : (broadcastInDim S1x64x4x128 ![1, 2, 3] bcast_S64x4x128_S1x64x4x128_1_2_3 (addf (mulf (res_main_while0b_v72 V0) (res_main_while0b_v65 V0)) (mulf (res_main_while0b_v105 V0) (res_main_while0b_v45 V0))) : (Proc.devRef .tc main_while0b_call12_v0 : DevRef τ sig).ty.Contents (Elt F)) = Step.b164 j s := by
  unfold Step.b164
  rw [← al_132 h]
  try rfl
theorem al_165 (h : Holds V0 s j) : (constantI S_ 32 0#32 : (Proc.devRef .tc main_while0b_call12_c : DevRef τ sig).ty.Contents (Elt F)) = Step.b165 j s := by
  unfold Step.b165
  rfl
theorem al_166 (h : Holds V0 s j) : (constantI S_ 32 0#32 : (Proc.devRef .tc main_while0b_call12_c_0 : DevRef τ sig).ty.Contents (Elt F)) = Step.b166 j s := by
  unfold Step.b166
  rfl
theorem al_167 (h : Holds V0 s j) : (constantI S_ 32 0#32 : (Proc.devRef .tc main_while0b_call12_c_1 : DevRef τ sig).ty.Contents (Elt F)) = Step.b167 j s := by
  unfold Step.b167
  rfl
theorem al_168 (h : Holds V0 s j) : (Host.dynamicUpdateSlice (V0 (Proc.devRef .tc main_v20_9)) (broadcastInDim S1x64x4x128 ![1, 2, 3] bcast_S64x4x128_S1x64x4x128_1_2_3 (addf (mulf (res_main_while0b_v72 V0) (res_main_while0b_v65 V0)) (mulf (res_main_while0b_v105 V0) (res_main_while0b_v45 V0)))) (fun k => (((![res_main_while0b_v28 V0, constantI S_ 32 0#32, constantI S_ 32 0#32, constantI S_ 32 0#32] : Fin 4 → (⟨S_, .i32⟩ : BufTy).Contents (Elt F))) k (Shape.Idx.first h_S_)).toInt) updateFits_S128x64x4x128_S1x64x4x128 : (Proc.devRef .tc main_while0b_v132 : DevRef τ sig).ty.Contents (Elt F)) = Step.b168 j s := by
  unfold Step.b168
  rw [← al_164 h, ← al_3 h, ← al_165 h, ← al_166 h, ← al_167 h, h.f_9]
  try rfl
theorem al_169 (h : Holds V0 s j) : (broadcastInDim S1x64x4x256 ![1, 2, 3] bcast_S64x4x256_S1x64x4x256_1_2_3 (addf (transpose S64x4x256 [2, 0, 1] (Host.dotGeneral dot_S4x128x256_S64x4x128_S4x256x64_1_2_2_0_0_1 none (V0 (Proc.devRef .tc main_v20_7)) (res_main_while0b_v66 V0)) transposes_S4x256x64_S64x4x256_2_0_1) (transpose S64x4x256 [2, 0, 1] (Host.dotGeneral dot_S4x256x64_S4x64x64_S4x256x64_2_1_1_2_0_0 none (res_main_while0b_v98 V0) (res_main_while0b_v50_0 V0)) transposes_S4x256x64_S64x4x256_2_0_1)) : (Proc.devRef .tc main_while0b_call13_v0 : DevRef τ sig).ty.Contents (Elt F)) = Step.b169 j s := by
  unfold Step.b169
  rw [← al_122 h]
  try rfl
theorem al_170 (h : Holds V0 s j) : (constantI S_ 32 0#32 : (Proc.devRef .tc main_while0b_call13_c : DevRef τ sig).ty.Contents (Elt F)) = Step.b170 j s := by
  unfold Step.b170
  rfl
theorem al_171 (h : Holds V0 s j) : (constantI S_ 32 0#32 : (Proc.devRef .tc main_while0b_call13_c_0 : DevRef τ sig).ty.Contents (Elt F)) = Step.b171 j s := by
  unfold Step.b171
  rfl
theorem al_172 (h : Holds V0 s j) : (constantI S_ 32 0#32 : (Proc.devRef .tc main_while0b_call13_c_1 : DevRef τ sig).ty.Contents (Elt F)) = Step.b172 j s := by
  unfold Step.b172
  rfl
theorem al_173 (h : Holds V0 s j) : (Host.dynamicUpdateSlice (V0 (Proc.devRef .tc main_v20_10)) (broadcastInDim S1x64x4x256 ![1, 2, 3] bcast_S64x4x256_S1x64x4x256_1_2_3 (addf (transpose S64x4x256 [2, 0, 1] (Host.dotGeneral dot_S4x128x256_S64x4x128_S4x256x64_1_2_2_0_0_1 none (V0 (Proc.devRef .tc main_v20_7)) (res_main_while0b_v66 V0)) transposes_S4x256x64_S64x4x256_2_0_1) (transpose S64x4x256 [2, 0, 1] (Host.dotGeneral dot_S4x256x64_S4x64x64_S4x256x64_2_1_1_2_0_0 none (res_main_while0b_v98 V0) (res_main_while0b_v50_0 V0)) transposes_S4x256x64_S64x4x256_2_0_1))) (fun k => (((![res_main_while0b_v28 V0, constantI S_ 32 0#32, constantI S_ 32 0#32, constantI S_ 32 0#32] : Fin 4 → (⟨S_, .i32⟩ : BufTy).Contents (Elt F))) k (Shape.Idx.first h_S_)).toInt) updateFits_S128x64x4x256_S1x64x4x256 : (Proc.devRef .tc main_while0b_v133 : DevRef τ sig).ty.Contents (Elt F)) = Step.b173 j s := by
  unfold Step.b173
  rw [← al_169 h, ← al_3 h, ← al_170 h, ← al_171 h, ← al_172 h, h.f_10]
  try rfl
theorem al_174 (h : Holds V0 s j) : (broadcastInDim S1x64x4x128 ![1, 2, 3] bcast_S64x4x128_S1x64x4x128_1_2_3 (Host.reduceWindowAdd ![64, 1, 1] ![1, 1, 1] ![0, 0, 0] ![63, 0, 0] (addf (addf (addf (addf (addf (Host.negf (res_main_while0b_v75 V0)) (mulf (mulf (res_main_while0b_v30 V0) (res_main_while0b_v90 V0)) (res_main_while0b_v53 V0))) (Host.negf (res_main_while0b_v111 V0))) (res_main_while0b_v119 V0)) (pad S64x4x128 ![63, 0, 0] ![0, 0, 0] ![0, 0, 0] (broadcastInDim S1x4x128 ![1, 2] bcast_S4x128_S1x4x128_1_2 (addf (Host.reduceAdd (shapeCast S1x4x128 (Host.reduceAdd (res_main_while0b_v75 V0) (constant S_ .f32 0x00000000#32) reducesTo_S64x4x128_S4x128_d0 h_S_) shapeCasts_S4x128_S1x4x128) (constant S_ .f32 0x00000000#32) reducesTo_S1x4x128_S4x128_d0 h_S_) (mulf (Host.reduceAdd (shapeCast S4x128x1 (Host.reduceAdd (mulf (V0 (Proc.devRef .tc main_v20_7)) (res_main_while0b_v29 V0)) (constant S_ .f32 0x00000000#32) reducesTo_S4x128x256_S4x128_d2 h_S_) shapeCasts_S4x128_S4x128x1) (constant S_ .f32 0x00000000#32) reducesTo_S4x128x1_S4x128_d2 h_S_) (res_main_while0b_v58 V0)))) (constant S_ .f32 0x00000000#32) pads_S1x4x128_S64x4x128_6300_000_000 h_S_)) (pad S64x4x128 ![31, 0, 0] ![32, 0, 0] ![0, 0, 0] (addf (shapeCast S1x4x128 (Host.reduceAdd (res_main_while0b_v111 V0) (constant S_ .f32 0x00000000#32) reducesTo_S64x4x128_S4x128_d0 h_S_) shapeCasts_S4x128_S1x4x128) (shapeCast S1x4x128 (Host.reduceAdd (Host.negf (res_main_while0b_v119 V0)) (constant S_ .f32 0x00000000#32) reducesTo_S64x4x128_S4x128_d0 h_S_) shapeCasts_S4x128_S1x4x128)) (constant S_ .f32 0x00000000#32) pads_S1x4x128_S64x4x128_31320_000_000 h_S_)) (broadcastInDim S_ ![] bcast_S_S_ (constant S_ .f32 0x00000000#32)) reduceWindows_S64x4x128_S64x4x128_w64s1p0_63_w1s1p0_0_w1s1p0_0 h_S_) : (Proc.devRef .tc main_while0b_call14_v0 : DevRef τ sig).ty.Contents (Elt F)) = Step.b174 j s := by
  unfold Step.b174
  rw [← al_158 h]
  try rfl
theorem al_175 (h : Holds V0 s j) : (constantI S_ 32 0#32 : (Proc.devRef .tc main_while0b_call14_c : DevRef τ sig).ty.Contents (Elt F)) = Step.b175 j s := by
  unfold Step.b175
  rfl
theorem al_176 (h : Holds V0 s j) : (constantI S_ 32 0#32 : (Proc.devRef .tc main_while0b_call14_c_0 : DevRef τ sig).ty.Contents (Elt F)) = Step.b176 j s := by
  unfold Step.b176
  rfl
theorem al_177 (h : Holds V0 s j) : (constantI S_ 32 0#32 : (Proc.devRef .tc main_while0b_call14_c_1 : DevRef τ sig).ty.Contents (Elt F)) = Step.b177 j s := by
  unfold Step.b177
  rfl
theorem al_178 (h : Holds V0 s j) : (Host.dynamicUpdateSlice (V0 (Proc.devRef .tc main_v20_11)) (broadcastInDim S1x64x4x128 ![1, 2, 3] bcast_S64x4x128_S1x64x4x128_1_2_3 (Host.reduceWindowAdd ![64, 1, 1] ![1, 1, 1] ![0, 0, 0] ![63, 0, 0] (addf (addf (addf (addf (addf (Host.negf (res_main_while0b_v75 V0)) (mulf (mulf (res_main_while0b_v30 V0) (res_main_while0b_v90 V0)) (res_main_while0b_v53 V0))) (Host.negf (res_main_while0b_v111 V0))) (res_main_while0b_v119 V0)) (pad S64x4x128 ![63, 0, 0] ![0, 0, 0] ![0, 0, 0] (broadcastInDim S1x4x128 ![1, 2] bcast_S4x128_S1x4x128_1_2 (addf (Host.reduceAdd (shapeCast S1x4x128 (Host.reduceAdd (res_main_while0b_v75 V0) (constant S_ .f32 0x00000000#32) reducesTo_S64x4x128_S4x128_d0 h_S_) shapeCasts_S4x128_S1x4x128) (constant S_ .f32 0x00000000#32) reducesTo_S1x4x128_S4x128_d0 h_S_) (mulf (Host.reduceAdd (shapeCast S4x128x1 (Host.reduceAdd (mulf (V0 (Proc.devRef .tc main_v20_7)) (res_main_while0b_v29 V0)) (constant S_ .f32 0x00000000#32) reducesTo_S4x128x256_S4x128_d2 h_S_) shapeCasts_S4x128_S4x128x1) (constant S_ .f32 0x00000000#32) reducesTo_S4x128x1_S4x128_d2 h_S_) (res_main_while0b_v58 V0)))) (constant S_ .f32 0x00000000#32) pads_S1x4x128_S64x4x128_6300_000_000 h_S_)) (pad S64x4x128 ![31, 0, 0] ![32, 0, 0] ![0, 0, 0] (addf (shapeCast S1x4x128 (Host.reduceAdd (res_main_while0b_v111 V0) (constant S_ .f32 0x00000000#32) reducesTo_S64x4x128_S4x128_d0 h_S_) shapeCasts_S4x128_S1x4x128) (shapeCast S1x4x128 (Host.reduceAdd (Host.negf (res_main_while0b_v119 V0)) (constant S_ .f32 0x00000000#32) reducesTo_S64x4x128_S4x128_d0 h_S_) shapeCasts_S4x128_S1x4x128)) (constant S_ .f32 0x00000000#32) pads_S1x4x128_S64x4x128_31320_000_000 h_S_)) (broadcastInDim S_ ![] bcast_S_S_ (constant S_ .f32 0x00000000#32)) reduceWindows_S64x4x128_S64x4x128_w64s1p0_63_w1s1p0_0_w1s1p0_0 h_S_)) (fun k => (((![res_main_while0b_v28 V0, constantI S_ 32 0#32, constantI S_ 32 0#32, constantI S_ 32 0#32] : Fin 4 → (⟨S_, .i32⟩ : BufTy).Contents (Elt F))) k (Shape.Idx.first h_S_)).toInt) updateFits_S128x64x4x128_S1x64x4x128 : (Proc.devRef .tc main_while0b_v134 : DevRef τ sig).ty.Contents (Elt F)) = Step.b178 j s := by
  unfold Step.b178
  rw [← al_174 h, ← al_3 h, ← al_175 h, ← al_176 h, ← al_177 h, h.f_11]
  try rfl

/-! One trip's step of the carried values is `step`, field by field; a counter steps to the next number. -/

theorem step_7 (h : Holds V0 s j) : step_main_v20_7 V0 = (step j s).main_v20_7 := by
  unfold step_main_v20_7 Cert.ReferenceIdeal.Step.step
  show id (addf (mulf (broadcastInDim S4x128x256 ![0, 1, 2] bcast_S4x128x1_S4x128x256_0_1_2 (res_main_while0b_v59 V0)) (V0 (Proc.devRef .tc main_v20_7))) (transpose S4x128x256 [0, 2, 1] (Host.dotGeneral dot_S4x256x64_S64x4x128_S4x256x128_2_0_1_2_0_1 none (res_main_while0b_v88 V0) (res_main_while0b_v54 V0)) transposes_S4x256x128_S4x128x256_0_2_1)) = _
  rw [al_113 h]
  try rfl
theorem step_8 (h : Holds V0 s j) : step_main_v20_8 V0 = (step j s).main_v20_8 := by
  unfold step_main_v20_8 Cert.ReferenceIdeal.Step.step
  show id (Host.dynamicUpdateSlice (V0 (Proc.devRef .tc main_v20_8)) (broadcastInDim S1x64x4x128 ![1, 2, 3] bcast_S64x4x128_S1x64x4x128_1_2_3 (addf (mulf (res_main_while0b_v90 V0) (res_main_while0b_v53 V0)) (mulf (res_main_while0b_v107 V0) (res_main_while0b_v41 V0)))) (fun k => (((![res_main_while0b_v28 V0, constantI S_ 32 0#32, constantI S_ 32 0#32, constantI S_ 32 0#32] : Fin 4 → (⟨S_, .i32⟩ : BufTy).Contents (Elt F))) k (Shape.Idx.first h_S_)).toInt) updateFits_S128x64x4x128_S1x64x4x128) = _
  exact al_163 h
theorem step_9 (h : Holds V0 s j) : step_main_v20_9 V0 = (step j s).main_v20_9 := by
  unfold step_main_v20_9 Cert.ReferenceIdeal.Step.step
  show id (Host.dynamicUpdateSlice (V0 (Proc.devRef .tc main_v20_9)) (broadcastInDim S1x64x4x128 ![1, 2, 3] bcast_S64x4x128_S1x64x4x128_1_2_3 (addf (mulf (res_main_while0b_v72 V0) (res_main_while0b_v65 V0)) (mulf (res_main_while0b_v105 V0) (res_main_while0b_v45 V0)))) (fun k => (((![res_main_while0b_v28 V0, constantI S_ 32 0#32, constantI S_ 32 0#32, constantI S_ 32 0#32] : Fin 4 → (⟨S_, .i32⟩ : BufTy).Contents (Elt F))) k (Shape.Idx.first h_S_)).toInt) updateFits_S128x64x4x128_S1x64x4x128) = _
  exact al_168 h
theorem step_10 (h : Holds V0 s j) : step_main_v20_10 V0 = (step j s).main_v20_10 := by
  unfold step_main_v20_10 Cert.ReferenceIdeal.Step.step
  show id (Host.dynamicUpdateSlice (V0 (Proc.devRef .tc main_v20_10)) (broadcastInDim S1x64x4x256 ![1, 2, 3] bcast_S64x4x256_S1x64x4x256_1_2_3 (addf (transpose S64x4x256 [2, 0, 1] (Host.dotGeneral dot_S4x128x256_S64x4x128_S4x256x64_1_2_2_0_0_1 none (V0 (Proc.devRef .tc main_v20_7)) (res_main_while0b_v66 V0)) transposes_S4x256x64_S64x4x256_2_0_1) (transpose S64x4x256 [2, 0, 1] (Host.dotGeneral dot_S4x256x64_S4x64x64_S4x256x64_2_1_1_2_0_0 none (res_main_while0b_v98 V0) (res_main_while0b_v50_0 V0)) transposes_S4x256x64_S64x4x256_2_0_1))) (fun k => (((![res_main_while0b_v28 V0, constantI S_ 32 0#32, constantI S_ 32 0#32, constantI S_ 32 0#32] : Fin 4 → (⟨S_, .i32⟩ : BufTy).Contents (Elt F))) k (Shape.Idx.first h_S_)).toInt) updateFits_S128x64x4x256_S1x64x4x256) = _
  exact al_173 h
set_option maxRecDepth 16384 in
theorem step_11 (h : Holds V0 s j) : step_main_v20_11 V0 = (step j s).main_v20_11 := by
  unfold step_main_v20_11 Cert.ReferenceIdeal.Step.step
  show id (Host.dynamicUpdateSlice (V0 (Proc.devRef .tc main_v20_11)) (broadcastInDim S1x64x4x128 ![1, 2, 3] bcast_S64x4x128_S1x64x4x128_1_2_3 (Host.reduceWindowAdd ![64, 1, 1] ![1, 1, 1] ![0, 0, 0] ![63, 0, 0] (addf (addf (addf (addf (addf (Host.negf (res_main_while0b_v75 V0)) (mulf (mulf (res_main_while0b_v30 V0) (res_main_while0b_v90 V0)) (res_main_while0b_v53 V0))) (Host.negf (res_main_while0b_v111 V0))) (res_main_while0b_v119 V0)) (pad S64x4x128 ![63, 0, 0] ![0, 0, 0] ![0, 0, 0] (broadcastInDim S1x4x128 ![1, 2] bcast_S4x128_S1x4x128_1_2 (addf (Host.reduceAdd (shapeCast S1x4x128 (Host.reduceAdd (res_main_while0b_v75 V0) (constant S_ .f32 0x00000000#32) reducesTo_S64x4x128_S4x128_d0 h_S_) shapeCasts_S4x128_S1x4x128) (constant S_ .f32 0x00000000#32) reducesTo_S1x4x128_S4x128_d0 h_S_) (mulf (Host.reduceAdd (shapeCast S4x128x1 (Host.reduceAdd (mulf (V0 (Proc.devRef .tc main_v20_7)) (res_main_while0b_v29 V0)) (constant S_ .f32 0x00000000#32) reducesTo_S4x128x256_S4x128_d2 h_S_) shapeCasts_S4x128_S4x128x1) (constant S_ .f32 0x00000000#32) reducesTo_S4x128x1_S4x128_d2 h_S_) (res_main_while0b_v58 V0)))) (constant S_ .f32 0x00000000#32) pads_S1x4x128_S64x4x128_6300_000_000 h_S_)) (pad S64x4x128 ![31, 0, 0] ![32, 0, 0] ![0, 0, 0] (addf (shapeCast S1x4x128 (Host.reduceAdd (res_main_while0b_v111 V0) (constant S_ .f32 0x00000000#32) reducesTo_S64x4x128_S4x128_d0 h_S_) shapeCasts_S4x128_S1x4x128) (shapeCast S1x4x128 (Host.reduceAdd (Host.negf (res_main_while0b_v119 V0)) (constant S_ .f32 0x00000000#32) reducesTo_S64x4x128_S4x128_d0 h_S_) shapeCasts_S4x128_S1x4x128)) (constant S_ .f32 0x00000000#32) pads_S1x4x128_S64x4x128_31320_000_000 h_S_)) (broadcastInDim S_ ![] bcast_S_S_ (constant S_ .f32 0x00000000#32)) reduceWindows_S64x4x128_S64x4x128_w64s1p0_63_w1s1p0_0_w1s1p0_0 h_S_)) (fun k => (((![res_main_while0b_v28 V0, constantI S_ 32 0#32, constantI S_ 32 0#32, constantI S_ 32 0#32] : Fin 4 → (⟨S_, .i32⟩ : BufTy).Contents (Elt F))) k (Shape.Idx.first h_S_)).toInt) updateFits_S128x64x4x128_S1x64x4x128) = _
  exact al_178 h
theorem step_6 (h : Holds V0 s j) : step_main_v20_6 V0 = constantI S_ 32 (BitVec.ofNat 32 (j + 1)) := by
  unfold step_main_v20_6
  rw [h.n_6]
  funext i
  show BitVec.ofNat 32 j + 1#32 = BitVec.ofNat 32 (j + 1)
  simp only [BitVec.ofNat_add]

theorem out_main_v23_holds (h : Holds V0 s j) : out_main_v23 V0 = Cert.ReferenceIdeal.Step.R_main_v23 s := by
  unfold out_main_v23 Cert.ReferenceIdeal.Step.R_main_v23
  rw [h.f_8]
  try rfl

theorem out_main_v24_holds (h : Holds V0 s j) : out_main_v24 V0 = Cert.ReferenceIdeal.Step.R_main_v24 s := by
  unfold out_main_v24 Cert.ReferenceIdeal.Step.R_main_v24
  rw [h.f_9]
  try rfl

theorem out_main_v25_holds (h : Holds V0 s j) : out_main_v25 V0 = Cert.ReferenceIdeal.Step.R_main_v25 s := by
  unfold out_main_v25 Cert.ReferenceIdeal.Step.R_main_v25
  rw [h.f_10]
  try rfl

theorem out_main_v26_holds (h : Holds V0 s j) : out_main_v26 V0 = Cert.ReferenceIdeal.Step.R_main_v26 s := by
  unfold out_main_v26 Cert.ReferenceIdeal.Step.R_main_v26
  rw [h.f_11]
  try rfl

/-- One trip keeps the valuation holding: `step` of the state, the same set-up values, the next number. -/
theorem holds_step (h : Holds V0 s j) : Holds (STEP V0) (step j s) (j + 1) where
  f_7 := (STEP_main_v20_7 V0).trans (step_7 h)
  f_8 := (STEP_main_v20_8 V0).trans (step_8 h)
  f_9 := (STEP_main_v20_9 V0).trans (step_9 h)
  f_10 := (STEP_main_v20_10 V0).trans (step_10 h)
  f_11 := (STEP_main_v20_11 V0).trans (step_11 h)
  n_6 := (STEP_main_v20_6 V0).trans (step_6 h)
  f_0 := (STEP_main_v20_0 V0).trans h.f_0
  f_1 := (STEP_main_v20_1 V0).trans h.f_1
  f_2 := (STEP_main_v20_2 V0).trans h.f_2
  f_3 := (STEP_main_v20_3 V0).trans h.f_3
  f_4 := (STEP_main_v20_4 V0).trans h.f_4
  f_5 := (STEP_main_v20_5 V0).trans h.f_5

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3))

variable (m : (ℓ : Loc nD τ sig) → Buf (Elt F) ℓ) (c : Dev nD)

set_option maxRecDepth 65536 in
set_option maxHeartbeats 500000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 128 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v23) = Cert.ReferenceIdeal.Step.R_main_v23 (it c 128)
      ∧ r.2.mem ((c.tc : Thread nD τ).loc main_v24) = Cert.ReferenceIdeal.Step.R_main_v24 (it c 128)
      ∧ r.2.mem ((c.tc : Thread nD τ).loc main_v25) = Cert.ReferenceIdeal.Step.R_main_v25 (it c 128)
      ∧ r.2.mem ((c.tc : Thread nD τ).loc main_v26) = Cert.ReferenceIdeal.Step.R_main_v26 (it c 128)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    have hk := holds_iter m c (it c) (h0 c) (hs c) 128
    ⟨(h c).1.trans (out_main_v23_holds hk), (h c).2.1.trans (out_main_v24_holds hk), (h c).2.2.1.trans (out_main_v25_holds hk), (h c).2.2.2.1.trans (out_main_v26_holds hk), (h c).2.2.2.2.1, (h c).2.2.2.2.2.1, (h c).2.2.2.2.2.2.1, (h c).2.2.2.2.2.2.2⟩) (Value.run m ρ)

end Cert.ReferenceIdeal.Trips

end
-- ==== Proof.Agree.lean ====
/-
  The kernel and the reference end with equal results.
-/
module

public import proofs.«01_k».proof.Defs
public import proofs.«01_k».proof.Proof.KernelValue
public import proofs.«01_k».proof.Proof.ReferenceValue
public import proofs.«01_k».proof.Proof.Trips

@[expose] public section

set_option maxRecDepth 16384

noncomputable section

namespace Cert.Gla

open Cert.KernelIdeal Cert.KernelIdeal.Gen Idealize.ShloMosaic Idealize.ShloMosaic.TcCoe Idealize.SL.Sem

/-- Every index of an array of keys is a row of a chunk and a column of a head, … -/
theorem splitK (y : (⟨2, ![8192, 512]⟩ : Shape).Idx) : ∃ n i h l, y = ix2 (row n i) (colK h l) := by
  have h0 : (y 0).val < 8192 := (y 0).isLt
  have h1 : (y 1).val < 512 := (y 1).isLt
  refine ⟨⟨(y 0).val / 64, by omega⟩, ⟨(y 0).val % 64, by omega⟩, ⟨(y 1).val / 128, by omega⟩, ⟨(y 1).val % 128, by omega⟩, funext fun a => Fin.ext ?_⟩
  match a with
  | ⟨0, _⟩ => show (y 0).val = (y 0).val / 64 * 64 + (y 0).val % 64; omega
  | ⟨1, _⟩ => show (y 1).val = (y 1).val / 128 * 128 + (y 1).val % 128; omega
/-- … and likewise in an array of values. -/
theorem splitV (y : (⟨2, ![8192, 1024]⟩ : Shape).Idx) : ∃ n i h w, y = ix2 (row n i) (colV h w) := by
  have h0 : (y 0).val < 8192 := (y 0).isLt
  have h1 : (y 1).val < 1024 := (y 1).isLt
  refine ⟨⟨(y 0).val / 64, by omega⟩, ⟨(y 0).val % 64, by omega⟩, ⟨(y 1).val / 256, by omega⟩, ⟨(y 1).val % 256, by omega⟩, funext fun a => Fin.ext ?_⟩
  match a with
  | ⟨0, _⟩ => show (y 0).val = (y 0).val / 64 * 64 + (y 0).val % 64; omega
  | ⟨1, _⟩ => show (y 1).val = (y 1).val / 256 * 256 + (y 1).val % 256; omega

variable (m : (ℓ : Loc nD τ sig) → Buf (Elt Ideal) ℓ) (c : Dev nD)

/-- The reference's last state over the kernel's arguments. -/
abbrev last : Cert.ReferenceIdeal.Step.State Ideal := Ref.it (X0 m c) (X1 m c) (X2 m c) (X3 m c) 128

theorem same7 : (dats m 0 c).arrAt 7 cfg0.N = Cert.ReferenceIdeal.Step.R_main_v23 (last m c) := by
  funext y
  obtain ⟨n, i, h, l, rfl⟩ := splitK y
  exact (arr7 m c n i h l).trans (Ref.dq_apply _ _ _ _ n i h l).symm
theorem same8 : (dats m 0 c).arrAt 8 cfg0.N = Cert.ReferenceIdeal.Step.R_main_v24 (last m c) := by
  funext y
  obtain ⟨n, i, h, l, rfl⟩ := splitK y
  exact (arr8 m c n i h l).trans (Ref.dk_apply _ _ _ _ n i h l).symm
theorem same9 : (dats m 0 c).arrAt 9 cfg0.N = Cert.ReferenceIdeal.Step.R_main_v25 (last m c) := by
  funext y
  obtain ⟨n, i, h, w, rfl⟩ := splitV y
  exact (arr9 m c n i h w).trans (Ref.dv_apply _ _ _ _ n i h w).symm
theorem same10 : (dats m 0 c).arrAt 10 cfg0.N = Cert.ReferenceIdeal.Step.R_main_v26 (last m c) := by
  funext y
  obtain ⟨n, i, h, l, rfl⟩ := splitK y
  exact (arr10 m c n i h l).trans (Ref.dg_apply _ _ _ _ n i h l).symm

theorem reference_quiescent : Cert.quiescent_ReferenceIdeal := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Trips.run_iter (F := Ideal) m ρ (fun c => Ref.it _ _ _ _) (fun _ => rfl) (fun _ _ => rfl))

theorem algebraic : Cert.algebraic_KernelIdeal_ReferenceIdeal := by
  intro m ρ m' ρ' _ hagree
  refine ⟨fun c => Cert.ReferenceIdeal.Step.R_main_v23 (last m c), fun c => Cert.ReferenceIdeal.Step.R_main_v24 (last m c),
    fun c => Cert.ReferenceIdeal.Step.R_main_v25 (last m c), fun c => Cert.ReferenceIdeal.Step.R_main_v26 (last m c), ?_, ?_⟩
  · refine (θ_run _ _ _).mono (fun _ h c => ?_) (Cert.KernelIdeal.Value.run_blocks m ρ)
    obtain ⟨e7, e8, e9, e10, ha⟩ := h c
    exact ⟨e7.trans (same7 m c), e8.trans (same8 m c), e9.trans (same9 m c), e10.trans (same10 m c), ha⟩
  · refine (θ_run _ _ _).mono (fun _ h c => ?_) (Cert.ReferenceIdeal.Trips.run_iter (F := Ideal) m' ρ'
      (fun c => Ref.it (m' ((c.tc : Thread nD τ).loc Cert.ReferenceIdeal.main_arg0)) (m' ((c.tc : Thread nD τ).loc Cert.ReferenceIdeal.main_arg1))
        (m' ((c.tc : Thread nD τ).loc Cert.ReferenceIdeal.main_arg2)) (m' ((c.tc : Thread nD τ).loc Cert.ReferenceIdeal.main_arg3))) (fun _ => rfl) (fun _ _ => rfl))
    obtain ⟨e7, e8, e9, e10, ha⟩ := h c
    obtain ⟨a0, a1, a2, a3⟩ := hagree c
    rw [a0, a1, a2, a3] at e7 e8 e9 e10
    exact ⟨e7, e8, e9, e10, ha⟩

end Cert.Gla

end
-- ==== Proof.FfnInput.lean ====
/-
  The gradient of the feed-forward network's two first products with respect to their input: each block of the call adds
  the eight products of a block of rows of a cotangent, one device's columns, with that device's part of a weight, transposed.
-/
module

public import proofs.«01_k».proof.Defs
public import proofs.«01_k».proof.Proof.Gen.Kernel2Ideal.Value
public import proofs.«01_k».proof.Proof.Gen.Reference2Ideal.Run
public import Idealize.ShloMosaic.Lib.Pipeline.ValueKit
public import Idealize.ShloMosaic.Lib.Pointwise

@[expose] public section

set_option maxRecDepth 16384

noncomputable section

namespace Cert.FfnInput

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ) (c : Dev nD)

abbrev Wg : (⟨3, ![4, 2048, 1408]⟩ : Shape).Idx → EReal := m ((c : Thread nD τ).loc main_arg1)
abbrev Wu : (⟨3, ![4, 2048, 1408]⟩ : Shape).Idx → EReal := m ((c : Thread nD τ).loc main_arg2)
abbrev Dg : (⟨2, ![8192, 5632]⟩ : Shape).Idx → EReal := m ((c : Thread nD τ).loc main_arg3)
abbrev Du : (⟨2, ![8192, 5632]⟩ : Shape).Idx → EReal := m ((c : Thread nD τ).loc main_arg4)

theorem tlt (t : Fin cfg0.N) : t.val < 64 := lt_of_lt_of_eq t.isLt (show cfg0.N = 64 from N_0)
theorem idxG : ∀ t : Fin cfg0.N, (win0_0.index t 0 = t.val % 16 ∧ win0_0.index t 1 = 0) ∧
    (win0_2.index t 0 = t.val % 16 ∧ win0_2.index t 1 = 1) ∧
    (win0_4.index t 0 = t.val % 16 ∧ win0_4.index t 1 = 2) ∧
    (win0_6.index t 0 = t.val % 16 ∧ win0_6.index t 1 = 3) :=
  (by decide +kernel : ∀ t : Fin grid0.N, (win0_0.index t 0 = t.val % 16 ∧ win0_0.index t 1 = 0) ∧
    (win0_2.index t 0 = t.val % 16 ∧ win0_2.index t 1 = 1) ∧
    (win0_4.index t 0 = t.val % 16 ∧ win0_4.index t 1 = 2) ∧
    (win0_6.index t 0 = t.val % 16 ∧ win0_6.index t 1 = 3))
theorem idxWg : ∀ t : Fin cfg0.N, (win0_1.index t 0 = 0 ∧ win0_1.index t 1 = t.val / 16 ∧ win0_1.index t 2 = 0) ∧
    (win0_3.index t 0 = 1 ∧ win0_3.index t 1 = t.val / 16 ∧ win0_3.index t 2 = 0) ∧
    (win0_5.index t 0 = 2 ∧ win0_5.index t 1 = t.val / 16 ∧ win0_5.index t 2 = 0) ∧
    (win0_7.index t 0 = 3 ∧ win0_7.index t 1 = t.val / 16 ∧ win0_7.index t 2 = 0) :=
  (by decide +kernel : ∀ t : Fin grid0.N, (win0_1.index t 0 = 0 ∧ win0_1.index t 1 = t.val / 16 ∧ win0_1.index t 2 = 0) ∧
    (win0_3.index t 0 = 1 ∧ win0_3.index t 1 = t.val / 16 ∧ win0_3.index t 2 = 0) ∧
    (win0_5.index t 0 = 2 ∧ win0_5.index t 1 = t.val / 16 ∧ win0_5.index t 2 = 0) ∧
    (win0_7.index t 0 = 3 ∧ win0_7.index t 1 = t.val / 16 ∧ win0_7.index t 2 = 0))
theorem idxU : ∀ t : Fin cfg0.N, (win0_8.index t 0 = t.val % 16 ∧ win0_8.index t 1 = 0) ∧
    (win0_10.index t 0 = t.val % 16 ∧ win0_10.index t 1 = 1) ∧
    (win0_12.index t 0 = t.val % 16 ∧ win0_12.index t 1 = 2) ∧
    (win0_14.index t 0 = t.val % 16 ∧ win0_14.index t 1 = 3) :=
  (by decide +kernel : ∀ t : Fin grid0.N, (win0_8.index t 0 = t.val % 16 ∧ win0_8.index t 1 = 0) ∧
    (win0_10.index t 0 = t.val % 16 ∧ win0_10.index t 1 = 1) ∧
    (win0_12.index t 0 = t.val % 16 ∧ win0_12.index t 1 = 2) ∧
    (win0_14.index t 0 = t.val % 16 ∧ win0_14.index t 1 = 3))
theorem idxWu : ∀ t : Fin cfg0.N, (win0_9.index t 0 = 0 ∧ win0_9.index t 1 = t.val / 16 ∧ win0_9.index t 2 = 0) ∧
    (win0_11.index t 0 = 1 ∧ win0_11.index t 1 = t.val / 16 ∧ win0_11.index t 2 = 0) ∧
    (win0_13.index t 0 = 2 ∧ win0_13.index t 1 = t.val / 16 ∧ win0_13.index t 2 = 0) ∧
    (win0_15.index t 0 = 3 ∧ win0_15.index t 1 = t.val / 16 ∧ win0_15.index t 2 = 0) :=
  (by decide +kernel : ∀ t : Fin grid0.N, (win0_9.index t 0 = 0 ∧ win0_9.index t 1 = t.val / 16 ∧ win0_9.index t 2 = 0) ∧
    (win0_11.index t 0 = 1 ∧ win0_11.index t 1 = t.val / 16 ∧ win0_11.index t 2 = 0) ∧
    (win0_13.index t 0 = 2 ∧ win0_13.index t 1 = t.val / 16 ∧ win0_13.index t 2 = 0) ∧
    (win0_15.index t 0 = 3 ∧ win0_15.index t 1 = t.val / 16 ∧ win0_15.index t 2 = 0))
theorem idxO : ∀ t : Fin cfg0.N, win0_16.index t 0 = t.val % 16 ∧ win0_16.index t 1 = t.val / 16 :=
  (by decide +kernel : ∀ t : Fin grid0.N, win0_16.index t 0 = t.val % 16 ∧ win0_16.index t 1 = t.val / 16)

/-- Row `p` and column `q` of point `t`'s block, in the whole array, and column `k` of device `d`'s columns. -/
def row (t : Fin cfg0.N) (p : Fin 512) : Fin 8192 := ⟨t.val % 16 * 512 + p.val, by omega⟩
def col (t : Fin cfg0.N) (q : Fin 512) : Fin 2048 := ⟨t.val / 16 * 512 + q.val, by have := tlt t; omega⟩
def lane (d : Fin 4) (k : Fin 1408) : Fin 5632 := ⟨d.val * 1408 + k.val, by omega⟩

/-- What the sixteen blocks of a point hold. -/
theorem inG (t : Fin cfg0.N) (p : Fin 512) (k : Fin 1408) : iblk m c 0 t (ix2 p k) = Dg m c (ix2 (row t p) (lane 0 k))
    ∧ iblk m c 2 t (ix2 p k) = Dg m c (ix2 (row t p) (lane 1 k))
    ∧ iblk m c 4 t (ix2 p k) = Dg m c (ix2 (row t p) (lane 2 k))
    ∧ iblk m c 6 t (ix2 p k) = Dg m c (ix2 (row t p) (lane 3 k)) := by
  refine ⟨?_, ?_, ?_, ?_⟩ <;> blk_ext [iblk, V, idxG t, Dg, row, lane]
theorem inU (t : Fin cfg0.N) (p : Fin 512) (k : Fin 1408) : iblk m c 8 t (ix2 p k) = Du m c (ix2 (row t p) (lane 0 k))
    ∧ iblk m c 10 t (ix2 p k) = Du m c (ix2 (row t p) (lane 1 k))
    ∧ iblk m c 12 t (ix2 p k) = Du m c (ix2 (row t p) (lane 2 k))
    ∧ iblk m c 14 t (ix2 p k) = Du m c (ix2 (row t p) (lane 3 k)) := by
  refine ⟨?_, ?_, ?_, ?_⟩ <;> blk_ext [iblk, V, idxU t, Du, row, lane]
theorem inWg (t : Fin cfg0.N) (q : Fin 512) (k : Fin 1408) : iblk m c 1 t (ix3 (0 : Fin 1) q k) = Wg m c (ix3 0 (col t q) k)
    ∧ iblk m c 3 t (ix3 (0 : Fin 1) q k) = Wg m c (ix3 1 (col t q) k)
    ∧ iblk m c 5 t (ix3 (0 : Fin 1) q k) = Wg m c (ix3 2 (col t q) k)
    ∧ iblk m c 7 t (ix3 (0 : Fin 1) q k) = Wg m c (ix3 3 (col t q) k) := by
  have := tlt t
  refine ⟨?_, ?_, ?_, ?_⟩ <;> blk_ext [iblk, V, idxWg t, Wg, col]
theorem inWu (t : Fin cfg0.N) (q : Fin 512) (k : Fin 1408) : iblk m c 9 t (ix3 (0 : Fin 1) q k) = Wu m c (ix3 0 (col t q) k)
    ∧ iblk m c 11 t (ix3 (0 : Fin 1) q k) = Wu m c (ix3 1 (col t q) k)
    ∧ iblk m c 13 t (ix3 (0 : Fin 1) q k) = Wu m c (ix3 2 (col t q) k)
    ∧ iblk m c 15 t (ix3 (0 : Fin 1) q k) = Wu m c (ix3 3 (col t q) k) := by
  have := tlt t
  refine ⟨?_, ?_, ?_, ?_⟩ <;> blk_ext [iblk, V, idxWu t, Wu, col]

/-- An entry of a block's product with a transposed block. -/
def dot (x : Vec Ideal S512x1408 .bf16) (w : Vec Ideal S1x512x1408 .bf16) (p q : Fin 512) : EReal :=
  ∑ k : Fin 1408, x (ix2 p k) * w (ix3 (0 : Fin 1) q k)
theorem ld2 (x : Vec Ideal S512x1408 .bf16) : View.ld x r0_0 = x := View.ld_unit_zero (by decide) _ _
theorem ld3 (x : Vec Ideal S1x512x1408 .bf16) : View.ld x r0_1 = x := View.ld_unit_zero (by decide) _ _

/-- What the body computes of its blocks: the eight products' sum. -/
theorem body (x0 : Vec Ideal S512x1408 .bf16) (x1 : Vec Ideal S1x512x1408 .bf16) (x2 : Vec Ideal S512x1408 .bf16) (x3 : Vec Ideal S1x512x1408 .bf16) (x4 : Vec Ideal S512x1408 .bf16) (x5 : Vec Ideal S1x512x1408 .bf16) (x6 : Vec Ideal S512x1408 .bf16) (x7 : Vec Ideal S1x512x1408 .bf16) (x8 : Vec Ideal S512x1408 .bf16) (x9 : Vec Ideal S1x512x1408 .bf16) (x10 : Vec Ideal S512x1408 .bf16) (x11 : Vec Ideal S1x512x1408 .bf16) (x12 : Vec Ideal S512x1408 .bf16) (x13 : Vec Ideal S1x512x1408 .bf16) (x14 : Vec Ideal S512x1408 .bf16) (x15 : Vec Ideal S1x512x1408 .bf16) (p q : Fin 512) :
    out0_16 x0 x1 x2 x3 x4 x5 x6 x7 x8 x9 x10 x11 x12 x13 x14 x15 (ix2 p q)
      = (dot x0 x1 p q + dot x2 x3 p q + dot x4 x5 p q + dot x6 x7 p q + dot x8 x9 p q + dot x10 x11 p q + dot x12 x13 p q + dot x14 x15 p q : EReal) := by
  unfold out0_16
  simp only [ld2, ld3]
  refine (congrFun (View.canon_unit_zero (by decide) _ _) _).trans ?_
  unfold k0_pay1 k0_pay2 dot
  pointwise

/-- A cotangent's product with a whole weight, transposed, at an index, and its four devices' terms. -/
def prod (A : (⟨2, ![8192, 5632]⟩ : Shape).Idx → EReal) (B : (⟨3, ![4, 2048, 1408]⟩ : Shape).Idx → EReal) (r : Fin 8192) (s : Fin 2048) : EReal :=
  ∑ l : Fin 5632, A (ix2 r l) * B (ix3 ⟨l.val / 1408, by omega⟩ s ⟨l.val % 1408, by omega⟩)
def part (A : (⟨2, ![8192, 5632]⟩ : Shape).Idx → EReal) (B : (⟨3, ![4, 2048, 1408]⟩ : Shape).Idx → EReal) (r : Fin 8192) (s : Fin 2048) (d : Fin 4) : EReal :=
  ∑ k : Fin 1408, A (ix2 r (lane d k)) * B (ix3 d s k)
theorem parts (A : (⟨2, ![8192, 5632]⟩ : Shape).Idx → EReal) (B : (⟨3, ![4, 2048, 1408]⟩ : Shape).Idx → EReal) (r : Fin 8192) (s : Fin 2048) :
    part A B r s 0 + part A B r s 1 + part A B r s 2 + part A B r s 3 = prod A B r s := by
  rw [← Fin.sum_univ_four (part A B r s)]
  refine Fin.sum_mul_add_congr (S := 4) (n := 1408) fun d k hl => ?_
  have e0 : (⟨(d.val * 1408 + k.val) / 1408, by omega⟩ : Fin 4) = d := Fin.ext (show (d.val * 1408 + k.val) / 1408 = d.val by omega)
  have e1 : (⟨(d.val * 1408 + k.val) % 1408, by omega⟩ : Fin 1408) = k := Fin.ext (show (d.val * 1408 + k.val) % 1408 = k.val by omega)
  simp only [e0, e1, lane]

theorem emb (t : Fin cfg0.N) (p q : Fin 512) : (win0_16.blk t).view.emb (ix2 p q) = ix2 (row t p) (col t q) := by
  have := tlt t
  blk_ext [idxO t, row, col]

/-- A point's block of the call's array. -/
theorem block (t : Fin cfg0.N) (p q : Fin 512) :
    out0_16 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) (iblk m c 14 t) (iblk m c 15 t) (ix2 p q)
      = prod (Dg m c) (Wg m c) (row t p) (col t q) + prod (Du m c) (Wu m c) (row t p) (col t q) := by
  refine (body _ _ _ _ _ _ _ _ _ _ _ _ _ _ _ _ _ _).trans ?_
  rw [← parts, ← parts, ← add_assoc, ← add_assoc, ← add_assoc]
  have g := inG m c t p
  have u := inU m c t p
  have a := inWg m c t q
  have b := inWu m c t q
  have add2 : ∀ {a a' b b' : EReal}, a = a' → b = b' → a + b = a' + b' := fun h k => by rw [h, k]
  exact add2 (add2 (add2 (add2 (add2 (add2 (add2
    (Finset.sum_congr rfl fun k _ => by rw [(g k).1, (a k).1])
    (Finset.sum_congr rfl fun k _ => by rw [(g k).2.1, (a k).2.1]))
    (Finset.sum_congr rfl fun k _ => by rw [(g k).2.2.1, (a k).2.2.1]))
    (Finset.sum_congr rfl fun k _ => by rw [(g k).2.2.2, (a k).2.2.2]))
    (Finset.sum_congr rfl fun k _ => by rw [(u k).1, (b k).1]))
    (Finset.sum_congr rfl fun k _ => by rw [(u k).2.1, (b k).2.1]))
    (Finset.sum_congr rfl fun k _ => by rw [(u k).2.2.1, (b k).2.2.1]))
    (Finset.sum_congr rfl fun k _ => by rw [(u k).2.2.2, (b k).2.2.2])

theorem arr (r : Fin 8192) (s : Fin 2048) :
    (dats m 0 c).arrAt 16 cfg0.N (ix2 r s) = prod (Dg m c) (Wg m c) r s + prod (Du m c) (Wu m c) r s := by
  let t : Fin cfg0.N := ⟨s.val / 512 * 16 + r.val / 512, by rw [show cfg0.N = 64 from N_0]; omega⟩
  have hr : row t ⟨r.val % 512, by omega⟩ = r := Fin.ext (show (s.val / 512 * 16 + r.val / 512) % 16 * 512 + r.val % 512 = r.val by omega)
  have hs : col t ⟨s.val % 512, by omega⟩ = s := Fin.ext (show (s.val / 512 * 16 + r.val / 512) / 16 * 512 + s.val % 512 = s.val by omega)
  have e := emb t ⟨r.val % 512, by omega⟩ ⟨s.val % 512, by omega⟩
  rw [hr, hs] at e
  have b := congrFun (Value.blocks16 m c t ((by decide +kernel : ∀ t : Fin grid0.N, win0_16.flush t = true) _)) (ix2 ⟨r.val % 512, by omega⟩ ⟨s.val % 512, by omega⟩)
  rw [Value.flushed16 m c t] at b
  have v := block m c t ⟨r.val % 512, by omega⟩ ⟨s.val % 512, by omega⟩
  rw [hr, hs] at v
  exact (congrArg ((dats m 0 c).arrAt 16 cfg0.N) e).symm.trans (b.trans v)

/-- One of the reference's two products at an index. -/
theorem ref (Y : FVec Ideal Cert.Reference2Ideal.S8192x5632 .bf16) (X : FVec Ideal Cert.Reference2Ideal.S4x2048x1408 .bf16) (r : Fin 8192) (s : Fin 2048) :
    Host.dotGeneral Cert.Reference2Ideal.dot_S8192x5632_S2048x5632_S8192x2048_1_1_0_0_n_n none (extf .f32 Y Cert.Reference2Ideal.Gen.bitsLt_bf16_f32)
      (shapeCast _ (transpose Cert.Reference2Ideal.S2048x4x1408 [1, 0, 2] (extf .f32 X Cert.Reference2Ideal.Gen.bitsLt_bf16_f32) Cert.Reference2Ideal.Gen.transposes_S4x2048x1408_S2048x4x1408_1_0_2)
        Cert.Reference2Ideal.Gen.shapeCasts_S2048x4x1408_S2048x5632) (ix2 r s) = prod Y X r s := by
  unfold prod
  pointwise

theorem algebraic : Cert.algebraic_Kernel2Ideal_Reference2Ideal := by
  intro m ρ m' ρ' _ hagree
  refine ⟨fun c => (dats m 0 c).arrAt 16 cfg0.N, Value.run_blocks m ρ, ?_⟩
  refine (θ_run _ _ _).mono (fun _ h c => ?_) (Cert.Reference2Ideal.Value.run (F := Ideal) m' ρ')
  obtain ⟨e, ha⟩ := h c
  obtain ⟨a0, a1, a2, a3, a4⟩ := hagree c
  refine ⟨e.trans (funext fun y => ?_), ha⟩
  idx_vars y
  rw [a1, a2, a3, a4]
  refine Eq.trans ?_ (arr m c _ _).symm
  refine Eq.trans ?_ (add_comm _ _)
  exact congrArg₂ (fun a b : EReal => a + b) (ref _ _ _ _) (ref _ _ _ _)

theorem quiescent : Cert.quiescent_Reference2Ideal := fun m ρ _ =>
  (θ_run _ _ _).mono (fun r h => ⟨fun c => (h c).2, Idealize.ShloMosaic.sem_eq_zero_of_no_sems (by decide) r.2⟩)
    (Cert.Reference2Ideal.Value.run (F := Ideal) m ρ)

end Cert.FfnInput

end
-- ==== Proof.GateWeightGrad.lean ====
/-
  The gradient of the gate projection's weight, one part for each device that shares out its columns: each block of the call is accumulated over four blocks of rows, and holds
  the sum over all rows of the products of the two factors' entries.
-/
module

public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.GateWeightGrad

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ) (c : Dev nD)

abbrev X : (⟨2, ![8192, 2048]⟩ : Shape).Idx → EReal := m ((c : Thread nD τ).loc main_arg0)
abbrev Y : (⟨2, ![8192, 5632]⟩ : Shape).Idx → EReal := m ((c : Thread nD τ).loc main_arg2)

theorem tlt (t : Fin cfg0.N) : t.val < 32 := lt_of_lt_of_eq t.isLt (show cfg0.N = 32 from N_0)
theorem idx0 : ∀ t : Fin cfg0.N, win0_0.index t 0 = t.val % 4 ∧ win0_0.index t 1 = t.val / 16 :=
  (by decide +kernel : ∀ t : Fin grid0.N, win0_0.index t 0 = t.val % 4 ∧ win0_0.index t 1 = t.val / 16)
theorem idx1 : ∀ t : Fin cfg0.N, win0_1.index t 0 = t.val % 4 ∧ win0_1.index t 1 = t.val / 4 % 4 :=
  (by decide +kernel : ∀ t : Fin grid0.N, win0_1.index t 0 = t.val % 4 ∧ win0_1.index t 1 = t.val / 4 % 4)
theorem idx2 : ∀ t : Fin cfg0.N, win0_2.index t 0 = t.val / 4 % 4 ∧ win0_2.index t 1 = t.val / 16 ∧ win0_2.index t 2 = 0 :=
  (by decide +kernel : ∀ t : Fin grid0.N, win0_2.index t 0 = t.val / 4 % 4 ∧ win0_2.index t 1 = t.val / 16 ∧ win0_2.index t 2 = 0)

/-- Row `k` of point `t`'s blocks of the factors, and row `p` and column `q` of its block of the result, in the whole arrays. -/
def lane (t : Fin cfg0.N) (k : Fin 2048) : Fin 8192 := ⟨t.val % 4 * 2048 + k.val, by omega⟩
def row (t : Fin cfg0.N) (p : Fin 1024) : Fin 2048 := ⟨t.val / 16 * 1024 + p.val, by have := tlt t; omega⟩
def col (t : Fin cfg0.N) (q : Fin 1408) : Fin 5632 := ⟨t.val / 4 % 4 * 1408 + q.val, by omega⟩
/-- The device whose part of the weight point `t` computes. -/
def dev (t : Fin cfg0.N) : Fin 4 := ⟨t.val / 4 % 4, by omega⟩

theorem in0 (t : Fin cfg0.N) (k : Fin 2048) (p : Fin 1024) : iblk m c 0 t (ix2 k p) = X m c (ix2 (lane t k) (row t p)) := by
  have := tlt t
  blk_ext [iblk, V, idx0 t, X, lane, row]
theorem in1 (t : Fin cfg0.N) (k : Fin 2048) (q : Fin 1408) : iblk m c 1 t (ix2 k q) = Y m c (ix2 (lane t k) (col t q)) := by
  have := tlt t
  blk_ext [iblk, V, idx1 t, Y, lane, col]
theorem emb (t : Fin cfg0.N) (p : Fin 1024) (q : Fin 1408) : (win0_2.blk t).view.emb (ix3 (0 : Fin 1) p q) = ix3 (dev t) (row t p) q := by
  have := tlt t
  blk_ext [idx2 t, row, dev]

/-- The body's arithmetic: the accumulator starts at zero, gains the product of the point's blocks and is rounded at the end. -/
theorem start (y : S1024x1408.Idx) : (k0_pay1 (F := Ideal)) y = (0 : EReal) := by
  idx_vars y
  unfold k0_pay1
  pointwise
theorem step (a : Vec Ideal S1024x1408 .f32) (x0 : Vec Ideal S2048x1024 .bf16) (x1 : Vec Ideal S2048x1408 .bf16) (p : Fin 1024) (q : Fin 1408) :
    k0_pay2 a x0 x1 (ix2 p q) = (a (ix2 p q) + ∑ k : Fin 2048, x0 (ix2 k p) * x1 (ix2 k q) : EReal) := by
  unfold k0_pay2
  pointwise
theorem last (a : Vec Ideal S1024x1408 .f32) (p : Fin 1024) (q : Fin 1408) : k0_pay3 a (ix3 (0 : Fin 1) p q) = a (ix2 p q) := by
  unfold k0_pay3
  pointwise

/-- What point `t` adds to an entry. -/
def term (t : Fin cfg0.N) (p : Fin 1024) (q : Fin 1408) : EReal := ∑ k : Fin 2048, X m c (ix2 (lane t k) (row t p)) * Y m c (ix2 (lane t k) (col t q))

theorem step_blocks (t : Fin cfg0.N) (a : Vec Ideal S1024x1408 .f32) (p : Fin 1024) (q : Fin 1408) :
    k0_pay2 a (iblk m c 0 t) (iblk m c 1 t) (ix2 p q) = (a (ix2 p q) + term m c t p q : EReal) := by
  refine (step _ _ _ _ _).trans (congrArg (a (ix2 p q) + ·) (Finset.sum_congr rfl fun k _ => ?_))
  rw [in0, in1]

theorem acc_first (t : Fin cfg0.N) (h : t.val % 4 = 0) : (outsAt0 m c t.val t.isLt).2 = k0_pay2 k0_pay1 (iblk m c 0 t) (iblk m c 1 t) := by
  rw [outsAt0_A m c t h (by omega)]
  dsimp only
  unfold sout0_A_0
  frame_out

theorem acc_later (t : Fin cfg0.N) (h : ¬t.val % 4 = 0) : (outsAt0 m c t.val t.isLt).2
    = k0_pay2 (outsAt0 m c (t.val - 1) (Nat.lt_of_le_of_lt (Nat.sub_le _ _) t.isLt)).2 (iblk m c 0 t) (iblk m c 1 t) := by
  by_cases h1 : t.val % 4 = 3
  · rw [outsAt0_C m c t h h1]
    dsimp only
    unfold sout0_C_0
    frame_out
    rw [read_unread_whole]
  · rw [outsAt0_B m c t h h1]
    dsimp only
    unfold sout0_B_0
    frame_out
    rw [read_unread_whole]

theorem out_last (t : Fin cfg0.N) (h : t.val % 4 = 3) : (outsAt0 m c t.val t.isLt).1 = k0_pay3 (outsAt0 m c t.val t.isLt).2 := by
  rw [acc_later m c t (by omega), outsAt0_C m c t (by omega) h]
  dsimp only
  unfold out0_C_2
  frame_out
  rw [read_unread_whole]

/-- The whole array that the call leaves. -/
def G (r : Fin 2048) (s : Fin 5632) : EReal := ∑ k : Fin 8192, X m c (ix2 k r) * Y m c (ix2 k s)

/-- The accumulator at the last of a block's points. -/
theorem total (t : Fin cfg0.N) (h : t.val % 4 = 3) (p : Fin 1024) (q : Fin 1408) :
    (outsAt0 m c t.val t.isLt).2 (ix2 p q) = G m c (row t p) (col t q) := by
  refine (Pipeline.eq_sum_fin_of_reset_step_of_flush (fun n h => ((outsAt0 m c n h).2 (ix2 p q) : EReal)) 4 0 (fun t => term m c t p q)
    (fun t h => by rw [acc_first m c t h, step_blocks, start]) (fun t h => by rw [acc_later m c t h, step_blocks]) t h).trans ?_
  rw [zero_add]
  refine Fin.sum_mul_add_congr (S := 4) (n := 2048) fun s k hl => ?_
  congr 3
  all_goals exact Fin.ext (by simp only [lane, row, col]; omega)

/-- The whole column that a device's column is. -/
def whole (d : Fin 4) (q : Fin 1408) : Fin 5632 := ⟨d.val * 1408 + q.val, by omega⟩

theorem arr (d : Fin 4) (r : Fin 2048) (q : Fin 1408) : (dats m 0 c).arrAt 2 cfg0.N (ix3 d r q) = G m c r (whole d q) := by
  let t : Fin cfg0.N := ⟨(r.val / 1024 * 4 + d.val) * 4 + 3, by rw [show cfg0.N = 32 from N_0]; omega⟩
  have ht : t.val % 4 = 3 := by show ((r.val / 1024 * 4 + d.val) * 4 + 3) % 4 = 3; omega
  have hr : row t ⟨r.val % 1024, by omega⟩ = r := Fin.ext (show ((r.val / 1024 * 4 + d.val) * 4 + 3) / 16 * 1024 + r.val % 1024 = r.val by omega)
  have hd : dev t = d := Fin.ext (show ((r.val / 1024 * 4 + d.val) * 4 + 3) / 4 % 4 = d.val by omega)
  have hs : col t q = whole d q := Fin.ext (show ((r.val / 1024 * 4 + d.val) * 4 + 3) / 4 % 4 * 1408 + q.val = d.val * 1408 + q.val by omega)
  have e := emb t ⟨r.val % 1024, by omega⟩ q
  rw [hr, hd] at e
  rw [Value.final2]
  have b := congrFun (Value.flushed2_eq m c t ((flush0_2 t).mpr ht)) (ix3 (0 : Fin 1) ⟨r.val % 1024, by omega⟩ q)
  rw [Value.flushed2 m c t, out_last m c t ht] at b
  refine ((congrArg (Value.G2 m c) e).symm.trans b.symm).trans ?_
  refine (last _ _ _).trans ((total m c t ht _ _).trans ?_)
  rw [hr, hs]

/-- The reference's array at an index. -/
theorem ref (Y : FVec Ideal Cert.Reference3Ideal.S8192x5632 .bf16) (X : FVec Ideal Cert.Reference3Ideal.S8192x2048 .bf16) (d : Fin 4) (r : Fin 2048) (q : Fin 1408) :
    truncf .bf16 (transpose Cert.Reference3Ideal.S4x2048x1408 [1, 0, 2] (shapeCast _ (transpose Cert.Reference3Ideal.S2048x5632 [1, 0]
      (Host.dotGeneral Cert.Reference3Ideal.dot_S8192x5632_S8192x2048_S5632x2048_0_0_1_1_n_n none
        (extf .f32 Y Cert.Reference3Ideal.Gen.bitsLt_bf16_f32) (extf .f32 X Cert.Reference3Ideal.Gen.bitsLt_bf16_f32)) Cert.Reference3Ideal.Gen.transposes_S5632x2048_S2048x5632_1_0)
      Cert.Reference3Ideal.Gen.shapeCasts_S2048x5632_S2048x4x1408) Cert.Reference3Ideal.Gen.transposes_S2048x4x1408_S4x2048x1408_1_0_2)
      Cert.Reference3Ideal.Gen.bitsLt_bf16_f32 (ix3 d r q) = ∑ k : Fin 8192, (X (ix2 k r) * Y (ix2 k (whole d q)) : EReal) := by
  unfold whole
  pointwise
  exact Finset.sum_congr rfl fun _ _ => mul_comm _ _

theorem algebraic : Cert.algebraic_Kernel3Ideal_Reference3Ideal := by
  intro m ρ m' ρ' _ hagree
  refine ⟨fun c => (dats m 0 c).arrAt 2 cfg0.N, Value.run_blocks m ρ, ?_⟩
  refine (θ_run _ _ _).mono (fun _ h c => ?_) (Cert.Reference3Ideal.Value.run (F := Ideal) m' ρ')
  obtain ⟨e, ha⟩ := h c
  obtain ⟨a0, a1, a2⟩ := hagree c
  refine ⟨e.trans (funext fun y => ?_), ha⟩
  idx_vars y
  rw [a0, a2]
  exact (ref _ _ _ _ _).trans (arr m c _ _ _).symm

theorem quiescent : Cert.quiescent_Reference3Ideal := fun m ρ _ =>
  (θ_run _ _ _).mono (fun r h => ⟨fun c => (h c).2, Idealize.ShloMosaic.sem_eq_zero_of_no_sems (by decide) r.2⟩)
    (Cert.Reference3Ideal.Value.run (F := Ideal) m ρ)

end Cert.GateWeightGrad

end
-- ==== Proof.GateForward.lean ====
/-
  A product of the feed-forward network's input with the weight whose columns the devices share out: each block of the
  call is the product of a block of rows of the input with one device's part of the weight.
-/
module

public import proofs.«01_k».proof.Defs
public import proofs.«01_k».proof.Proof.Gen.Kernel4Ideal.Value
public import proofs.«01_k».proof.Proof.Gen.Reference4Ideal.Run
public import Idealize.ShloMosaic.Lib.Pipeline.ValueKit
public import Idealize.ShloMosaic.Lib.Pointwise

@[expose] public section

set_option maxRecDepth 16384

noncomputable section

namespace Cert.GateForward

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ) (c : Dev nD)

abbrev W : (⟨3, ![4, 2048, 1408]⟩ : Shape).Idx → EReal := m ((c : Thread nD τ).loc main_arg1)
abbrev X : (⟨2, ![8192, 2048]⟩ : Shape).Idx → EReal := m ((c : Thread nD τ).loc main_arg0)

theorem tlt (t : Fin cfg0.N) : t.val < 32 := lt_of_lt_of_eq t.isLt (show cfg0.N = 32 from N_0)
theorem idx0 : ∀ t : Fin cfg0.N, win0_0.index t 0 = t.val % 8 ∧ win0_0.index t 1 = 0 :=
  (by decide +kernel : ∀ t : Fin grid0.N, win0_0.index t 0 = t.val % 8 ∧ win0_0.index t 1 = 0)
theorem idx1 : ∀ t : Fin cfg0.N, win0_1.index t 0 = t.val / 8 ∧ win0_1.index t 1 = 0 ∧ win0_1.index t 2 = 0 :=
  (by decide +kernel : ∀ t : Fin grid0.N, win0_1.index t 0 = t.val / 8 ∧ win0_1.index t 1 = 0 ∧ win0_1.index t 2 = 0)
theorem idx2 : ∀ t : Fin cfg0.N, win0_2.index t 0 = t.val % 8 ∧ win0_2.index t 1 = t.val / 8 :=
  (by decide +kernel : ∀ t : Fin grid0.N, win0_2.index t 0 = t.val % 8 ∧ win0_2.index t 1 = t.val / 8)

/-- Row `p` and column `q` of point `t`'s block, in the whole array. -/
def row (t : Fin cfg0.N) (p : Fin 1024) : Fin 8192 := ⟨t.val % 8 * 1024 + p.val, by omega⟩
def col (t : Fin cfg0.N) (q : Fin 1408) : Fin 5632 := ⟨t.val / 8 * 1408 + q.val, by have := tlt t; omega⟩

theorem in0 (t : Fin cfg0.N) (p : Fin 1024) (k : Fin 2048) : iblk m c 0 t (ix2 p k) = X m c (ix2 (row t p) k) := by
  blk_ext [iblk, V, idx0 t, X, row]
/-- The device whose part of the weight point `t` reads. -/
def dev (t : Fin cfg0.N) : Fin 4 := ⟨t.val / 8, by have := tlt t; omega⟩
theorem in1 (t : Fin cfg0.N) (q : Fin 1408) (k : Fin 2048) : iblk m c 1 t (ix3 (0 : Fin 1) k q) = W m c (ix3 (dev t) k q) := by
  have := tlt t
  blk_ext [iblk, V, idx1 t, W, dev]

/-- What the body computes of two blocks. -/
theorem body (x0 : Vec Ideal S1024x2048 .bf16) (x1 : Vec Ideal S1x2048x1408 .bf16) (p : Fin 1024) (q : Fin 1408) :
    out0_2 x0 x1 (ix2 p q) = ∑ k : Fin 2048, (x0 (ix2 p k) * x1 (ix3 (0 : Fin 1) k q) : EReal) := by
  have e0 : View.ld x0 r0_0 = x0 := View.ld_unit_zero (by decide) _ _
  have e1 : View.ld x1 r0_1 = x1 := View.ld_unit_zero (by decide) _ _
  unfold out0_2
  rw [e0, e1]
  refine (congrFun (View.canon_unit_zero (by decide) _ _) _).trans ?_
  unfold k0_pay1
  pointwise

/-- The whole array that the call leaves. -/
def G (r : Fin 8192) (s : Fin 5632) : EReal := ∑ k : Fin 2048, X m c (ix2 r k) * W m c (ix3 ⟨s.val / 1408, by omega⟩ k ⟨s.val % 1408, by omega⟩)

theorem emb (t : Fin cfg0.N) (p : Fin 1024) (q : Fin 1408) :
    (win0_2.blk t).view.emb (ix2 p q) = ix2 (row t p) (col t q) := by
  have := tlt t
  blk_ext [idx2 t, row, col]

theorem arr (r : Fin 8192) (s : Fin 5632) : (dats m 0 c).arrAt 2 cfg0.N (ix2 r s) = G m c r s := by
  let t : Fin cfg0.N := ⟨s.val / 1408 * 8 + r.val / 1024, by rw [show cfg0.N = 32 from N_0]; omega⟩
  have hr : row t ⟨r.val % 1024, by omega⟩ = r := Fin.ext (show (s.val / 1408 * 8 + r.val / 1024) % 8 * 1024 + r.val % 1024 = r.val by omega)
  have hs : col t ⟨s.val % 1408, by omega⟩ = s := Fin.ext (show (s.val / 1408 * 8 + r.val / 1024) / 8 * 1408 + s.val % 1408 = s.val by omega)
  have e := emb t ⟨r.val % 1024, by omega⟩ ⟨s.val % 1408, by omega⟩
  rw [hr, hs] at e
  have b := congrFun (Value.blocks2 m c t ((by decide +kernel : ∀ t : Fin grid0.N, win0_2.flush t = true) _)) (ix2 ⟨r.val % 1024, by omega⟩ ⟨s.val % 1408, by omega⟩)
  rw [Value.flushed2 m c t] at b
  refine ((congrArg ((dats m 0 c).arrAt 2 cfg0.N) e).symm.trans b).trans ?_
  refine (body (iblk m c 0 t) (iblk m c 1 t) _ _).trans ?_
  refine Finset.sum_congr rfl fun k _ => ?_
  have hd : dev t = ⟨s.val / 1408, by omega⟩ := Fin.ext (show (s.val / 1408 * 8 + r.val / 1024) / 8 = s.val / 1408 by omega)
  rw [in0, in1, hr, hd]

/-- The reference's array at an index. -/
theorem ref (Y : FVec Ideal Cert.Reference4Ideal.S8192x2048 .bf16) (X : FVec Ideal Cert.Reference4Ideal.S4x2048x1408 .bf16) (r : Fin 8192) (s : Fin 5632) :
    truncf .bf16 (Host.dotGeneral Cert.Reference4Ideal.dot_S8192x2048_S2048x5632_S8192x5632_1_0_0_1_n_n none (extf .f32 Y Cert.Reference4Ideal.Gen.bitsLt_bf16_f32)
      (shapeCast _ (transpose Cert.Reference4Ideal.S2048x4x1408 [1, 0, 2] (extf .f32 X Cert.Reference4Ideal.Gen.bitsLt_bf16_f32) Cert.Reference4Ideal.Gen.transposes_S4x2048x1408_S2048x4x1408_1_0_2)
        Cert.Reference4Ideal.Gen.shapeCasts_S2048x4x1408_S2048x5632)) Cert.Reference4Ideal.Gen.bitsLt_bf16_f32 (ix2 r s) = ∑ k : Fin 2048, (Y (ix2 r k) * X (ix3 ⟨s.val / 1408, by omega⟩ k ⟨s.val % 1408, by omega⟩) : EReal) := by
  pointwise

theorem algebraic : Cert.algebraic_Kernel4Ideal_Reference4Ideal := by
  intro m ρ m' ρ' _ hagree
  refine ⟨fun c => (dats m 0 c).arrAt 2 cfg0.N, Value.run_blocks m ρ, ?_⟩
  refine (θ_run _ _ _).mono (fun _ h c => ?_) (Cert.Reference4Ideal.Value.run (F := Ideal) m' ρ')
  obtain ⟨e, ha⟩ := h c
  obtain ⟨a0, a1⟩ := hagree c
  refine ⟨e.trans (funext fun y => ?_), ha⟩
  idx_vars y
  rw [a0, a1]
  exact (ref _ _ _ _).trans (arr m c _ _).symm

theorem quiescent : Cert.quiescent_Reference4Ideal := fun m ρ _ =>
  (θ_run _ _ _).mono (fun r h => ⟨fun c => (h c).2, Idealize.ShloMosaic.sem_eq_zero_of_no_sems (by decide) r.2⟩)
    (Cert.Reference4Ideal.Value.run (F := Ideal) m ρ)

end Cert.GateForward

end
-- ==== Proof.DownInput.lean ====
/-
  The gradient of the feed-forward network's last product with respect to its input: each block of the call is the
  product of a block of rows of the cotangent with the transposed block of rows of the weight.
-/
module

public import proofs.«01_k».proof.Defs
public import proofs.«01_k».proof.Proof.Gen.Kernel5Ideal.Value
public import proofs.«01_k».proof.Proof.Gen.Reference5Ideal.Run
public import Idealize.ShloMosaic.Lib.Pipeline.ValueKit
public import Idealize.ShloMosaic.Lib.Pointwise

@[expose] public section

set_option maxRecDepth 16384

noncomputable section

namespace Cert.DownInput

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ) (c : Dev nD)

abbrev W : (⟨2, ![5632, 2048]⟩ : Shape).Idx → EReal := m ((c : Thread nD τ).loc main_arg1)
abbrev Dy : (⟨2, ![8192, 2048]⟩ : Shape).Idx → EReal := m ((c : Thread nD τ).loc main_arg2)

theorem tlt (t : Fin cfg0.N) : t.val < 32 := lt_of_lt_of_eq t.isLt (show cfg0.N = 32 from N_0)
theorem idx0 : ∀ t : Fin cfg0.N, win0_0.index t 0 = t.val % 8 ∧ win0_0.index t 1 = 0 :=
  (by decide +kernel : ∀ t : Fin grid0.N, win0_0.index t 0 = t.val % 8 ∧ win0_0.index t 1 = 0)
theorem idx1 : ∀ t : Fin cfg0.N, win0_1.index t 0 = t.val / 8 ∧ win0_1.index t 1 = 0 :=
  (by decide +kernel : ∀ t : Fin grid0.N, win0_1.index t 0 = t.val / 8 ∧ win0_1.index t 1 = 0)
theorem idx2 : ∀ t : Fin cfg0.N, win0_2.index t 0 = t.val % 8 ∧ win0_2.index t 1 = t.val / 8 :=
  (by decide +kernel : ∀ t : Fin grid0.N, win0_2.index t 0 = t.val % 8 ∧ win0_2.index t 1 = t.val / 8)

/-- Row `p` and column `q` of point `t`'s block, in the whole array. -/
def row (t : Fin cfg0.N) (p : Fin 1024) : Fin 8192 := ⟨t.val % 8 * 1024 + p.val, by omega⟩
def col (t : Fin cfg0.N) (q : Fin 1408) : Fin 5632 := ⟨t.val / 8 * 1408 + q.val, by have := tlt t; omega⟩

theorem in0 (t : Fin cfg0.N) (p : Fin 1024) (k : Fin 2048) : iblk m c 0 t (ix2 p k) = Dy m c (ix2 (row t p) k) := by
  blk_ext [iblk, V, idx0 t, Dy, row]
theorem in1 (t : Fin cfg0.N) (q : Fin 1408) (k : Fin 2048) : iblk m c 1 t (ix2 q k) = W m c (ix2 (col t q) k) := by
  have := tlt t
  blk_ext [iblk, V, idx1 t, W, col]

/-- What the body computes of two blocks. -/
theorem body (x0 : Vec Ideal S1024x2048 .bf16) (x1 : Vec Ideal S1408x2048 .bf16) (p : Fin 1024) (q : Fin 1408) :
    out0_2 x0 x1 (ix2 p q) = ∑ k : Fin 2048, (x0 (ix2 p k) * x1 (ix2 q k) : EReal) := by
  have e0 : View.ld x0 r0_0 = x0 := View.ld_unit_zero (by decide) _ _
  have e1 : View.ld x1 r0_1 = x1 := View.ld_unit_zero (by decide) _ _
  unfold out0_2
  rw [e0, e1]
  refine (congrFun (View.canon_unit_zero (by decide) _ _) _).trans ?_
  unfold k0_pay1
  pointwise

/-- The whole array that the call leaves. -/
def G (r : Fin 8192) (s : Fin 5632) : EReal := ∑ k : Fin 2048, Dy m c (ix2 r k) * W m c (ix2 s k)

theorem emb (t : Fin cfg0.N) (p : Fin 1024) (q : Fin 1408) :
    (win0_2.blk t).view.emb (ix2 p q) = ix2 (row t p) (col t q) := by
  have := tlt t
  blk_ext [idx2 t, row, col]

theorem arr (r : Fin 8192) (s : Fin 5632) : (dats m 0 c).arrAt 2 cfg0.N (ix2 r s) = G m c r s := by
  let t : Fin cfg0.N := ⟨s.val / 1408 * 8 + r.val / 1024, by rw [show cfg0.N = 32 from N_0]; omega⟩
  have hr : row t ⟨r.val % 1024, by omega⟩ = r := Fin.ext (show (s.val / 1408 * 8 + r.val / 1024) % 8 * 1024 + r.val % 1024 = r.val by omega)
  have hs : col t ⟨s.val % 1408, by omega⟩ = s := Fin.ext (show (s.val / 1408 * 8 + r.val / 1024) / 8 * 1408 + s.val % 1408 = s.val by omega)
  have e := emb t ⟨r.val % 1024, by omega⟩ ⟨s.val % 1408, by omega⟩
  rw [hr, hs] at e
  have b := congrFun (Value.blocks2 m c t ((by decide +kernel : ∀ t : Fin grid0.N, win0_2.flush t = true) _)) (ix2 ⟨r.val % 1024, by omega⟩ ⟨s.val % 1408, by omega⟩)
  rw [Value.flushed2 m c t] at b
  refine ((congrArg ((dats m 0 c).arrAt 2 cfg0.N) e).symm.trans b).trans ?_
  refine (body (iblk m c 0 t) (iblk m c 1 t) _ _).trans ?_
  refine Finset.sum_congr rfl fun k _ => ?_
  rw [in0, in1, hr, hs]

/-- The reference's array at an index. -/
theorem ref (Y : FVec Ideal Cert.Reference5Ideal.S8192x2048 .bf16) (X : FVec Ideal Cert.Reference5Ideal.S5632x2048 .bf16) (r : Fin 8192) (s : Fin 5632) :
    truncf .bf16 (Host.dotGeneral Cert.Reference5Ideal.dot_S8192x2048_S5632x2048_S8192x5632_1_1_0_0_n_n none (extf .f32 Y Cert.Reference5Ideal.Gen.bitsLt_bf16_f32)
      (extf .f32 X Cert.Reference5Ideal.Gen.bitsLt_bf16_f32)) Cert.Reference5Ideal.Gen.bitsLt_bf16_f32 (ix2 r s) = ∑ k : Fin 2048, (Y (ix2 r k) * X (ix2 s k) : EReal) := by
  pointwise

theorem algebraic : Cert.algebraic_Kernel5Ideal_Reference5Ideal := by
  intro m ρ m' ρ' _ hagree
  refine ⟨fun c => (dats m 0 c).arrAt 2 cfg0.N, Value.run_blocks m ρ, ?_⟩
  refine (θ_run _ _ _).mono (fun _ h c => ?_) (Cert.Reference5Ideal.Value.run (F := Ideal) m' ρ')
  obtain ⟨e, ha⟩ := h c
  obtain ⟨a0, a1, a2⟩ := hagree c
  refine ⟨e.trans (funext fun y => ?_), ha⟩
  idx_vars y
  rw [a1, a2]
  exact (ref _ _ _ _).trans (arr m c _ _).symm

theorem quiescent : Cert.quiescent_Reference5Ideal := fun m ρ _ =>
  (θ_run _ _ _).mono (fun r h => ⟨fun c => (h c).2, Idealize.ShloMosaic.sem_eq_zero_of_no_sems (by decide) r.2⟩)
    (Cert.Reference5Ideal.Value.run (F := Ideal) m ρ)

end Cert.DownInput

end
-- ==== Proof.DownWeightGrad.lean ====
/-
  The gradient of the down projection's weight: each block of the call is accumulated over four blocks of rows, and holds
  the sum over all rows of the products of the two factors' entries.
-/
module

public import proofs.«01_k».proof.Defs
public import proofs.«01_k».proof.Proof.Gen.Kernel6Ideal.Value
public import proofs.«01_k».proof.Proof.Gen.Reference6Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.DownWeightGrad

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ) (c : Dev nD)

abbrev X : (⟨2, ![8192, 5632]⟩ : Shape).Idx → EReal := m ((c : Thread nD τ).loc main_arg0)
abbrev Y : (⟨2, ![8192, 2048]⟩ : Shape).Idx → EReal := m ((c : Thread nD τ).loc main_arg2)

theorem tlt (t : Fin cfg0.N) : t.val < 44 := lt_of_lt_of_eq t.isLt (show cfg0.N = 44 from N_0)
theorem idx0 : ∀ t : Fin cfg0.N, win0_0.index t 0 = t.val % 4 ∧ win0_0.index t 1 = t.val / 4 :=
  (by decide +kernel : ∀ t : Fin grid0.N, win0_0.index t 0 = t.val % 4 ∧ win0_0.index t 1 = t.val / 4)
theorem idx1 : ∀ t : Fin cfg0.N, win0_1.index t 0 = t.val % 4 ∧ win0_1.index t 1 = 0 :=
  (by decide +kernel : ∀ t : Fin grid0.N, win0_1.index t 0 = t.val % 4 ∧ win0_1.index t 1 = 0)
theorem idx2 : ∀ t : Fin cfg0.N, win0_2.index t 0 = t.val / 4 ∧ win0_2.index t 1 = 0 :=
  (by decide +kernel : ∀ t : Fin grid0.N, win0_2.index t 0 = t.val / 4 ∧ win0_2.index t 1 = 0)

/-- Row `k` of point `t`'s blocks of the factors, and row `p` and column `q` of its block of the result, in the whole arrays. -/
def lane (t : Fin cfg0.N) (k : Fin 2048) : Fin 8192 := ⟨t.val % 4 * 2048 + k.val, by omega⟩
def row (t : Fin cfg0.N) (p : Fin 512) : Fin 5632 := ⟨t.val / 4 * 512 + p.val, by have := tlt t; omega⟩
def col (_ : Fin cfg0.N) (q : Fin 2048) : Fin 2048 := ⟨q.val, q.isLt⟩

theorem in0 (t : Fin cfg0.N) (k : Fin 2048) (p : Fin 512) : iblk m c 0 t (ix2 k p) = X m c (ix2 (lane t k) (row t p)) := by
  have := tlt t
  blk_ext [iblk, V, idx0 t, X, lane, row]
theorem in1 (t : Fin cfg0.N) (k q : Fin 2048) : iblk m c 1 t (ix2 k q) = Y m c (ix2 (lane t k) (col t q)) := by
  have := tlt t
  blk_ext [iblk, V, idx1 t, Y, lane, col]
theorem emb (t : Fin cfg0.N) (p : Fin 512) (q : Fin 2048) : (win0_2.blk t).view.emb (ix2 p q) = ix2 (row t p) (col t q) := by
  have := tlt t
  blk_ext [idx2 t, row, col]

/-- The body's arithmetic: the accumulator starts at zero, gains the product of the point's blocks and is rounded at the end. -/
theorem start (y : S512x2048.Idx) : (k0_pay1 (F := Ideal)) y = (0 : EReal) := by
  idx_vars y
  unfold k0_pay1
  pointwise
theorem step (a : Vec Ideal S512x2048 .f32) (x0 : Vec Ideal S2048x512 .bf16) (x1 : Vec Ideal S2048x2048 .bf16) (p : Fin 512) (q : Fin 2048) :
    k0_pay2 a x0 x1 (ix2 p q) = (a (ix2 p q) + ∑ k : Fin 2048, x0 (ix2 k p) * x1 (ix2 k q) : EReal) := by
  unfold k0_pay2
  pointwise
theorem last (a : Vec Ideal S512x2048 .f32) (p : Fin 512) (q : Fin 2048) : k0_pay3 a (ix2 p q) = a (ix2 p q) := by
  unfold k0_pay3
  pointwise

/-- What point `t` adds to an entry. -/
def term (t : Fin cfg0.N) (p : Fin 512) (q : Fin 2048) : EReal := ∑ k : Fin 2048, X m c (ix2 (lane t k) (row t p)) * Y m c (ix2 (lane t k) (col t q))

theorem step_blocks (t : Fin cfg0.N) (a : Vec Ideal S512x2048 .f32) (p : Fin 512) (q : Fin 2048) :
    k0_pay2 a (iblk m c 0 t) (iblk m c 1 t) (ix2 p q) = (a (ix2 p q) + term m c t p q : EReal) := by
  refine (step _ _ _ _ _).trans (congrArg (a (ix2 p q) + ·) (Finset.sum_congr rfl fun k _ => ?_))
  rw [in0, in1]

theorem acc_first (t : Fin cfg0.N) (h : t.val % 4 = 0) : (outsAt0 m c t.val t.isLt).2 = k0_pay2 k0_pay1 (iblk m c 0 t) (iblk m c 1 t) := by
  rw [outsAt0_A m c t h (by omega)]
  dsimp only
  unfold sout0_A_0
  frame_out

theorem acc_later (t : Fin cfg0.N) (h : ¬t.val % 4 = 0) : (outsAt0 m c t.val t.isLt).2
    = k0_pay2 (outsAt0 m c (t.val - 1) (Nat.lt_of_le_of_lt (Nat.sub_le _ _) t.isLt)).2 (iblk m c 0 t) (iblk m c 1 t) := by
  by_cases h1 : t.val % 4 = 3
  · rw [outsAt0_C m c t h h1]
    dsimp only
    unfold sout0_C_0
    frame_out
    rw [read_unread_whole]
  · rw [outsAt0_B m c t h h1]
    dsimp only
    unfold sout0_B_0
    frame_out
    rw [read_unread_whole]

theorem out_last (t : Fin cfg0.N) (h : t.val % 4 = 3) : (outsAt0 m c t.val t.isLt).1 = k0_pay3 (outsAt0 m c t.val t.isLt).2 := by
  rw [acc_later m c t (by omega), outsAt0_C m c t (by omega) h]
  dsimp only
  unfold out0_C_2
  frame_out
  rw [read_unread_whole]

/-- The whole array that the call leaves. -/
def G (r : Fin 5632) (s : Fin 2048) : EReal := ∑ k : Fin 8192, X m c (ix2 k r) * Y m c (ix2 k s)

/-- The accumulator at the last of a block's points. -/
theorem total (t : Fin cfg0.N) (h : t.val % 4 = 3) (p : Fin 512) (q : Fin 2048) :
    (outsAt0 m c t.val t.isLt).2 (ix2 p q) = G m c (row t p) (col t q) := by
  refine (Pipeline.eq_sum_fin_of_reset_step_of_flush (fun n h => ((outsAt0 m c n h).2 (ix2 p q) : EReal)) 4 0 (fun t => term m c t p q)
    (fun t h => by rw [acc_first m c t h, step_blocks, start]) (fun t h => by rw [acc_later m c t h, step_blocks]) t h).trans ?_
  rw [zero_add]
  refine Fin.sum_mul_add_congr (S := 4) (n := 2048) fun s k hl => ?_
  congr 3
  all_goals exact Fin.ext (by simp only [lane, row, col]; omega)

theorem arr (r : Fin 5632) (s : Fin 2048) : (dats m 0 c).arrAt 2 cfg0.N (ix2 r s) = G m c r s := by
  let t : Fin cfg0.N := ⟨r.val / 512 * 4 + 3, by rw [show cfg0.N = 44 from N_0]; omega⟩
  have ht : t.val % 4 = 3 := by show (r.val / 512 * 4 + 3) % 4 = 3; omega
  have hr : row t ⟨r.val % 512, by omega⟩ = r := Fin.ext (show (r.val / 512 * 4 + 3) / 4 * 512 + r.val % 512 = r.val by omega)
  have e := emb t ⟨r.val % 512, by omega⟩ s
  rw [hr, show col t s = s from rfl] at e
  rw [Value.final2]
  have b := congrFun (Value.flushed2_eq m c t ((flush0_2 t).mpr ht)) (ix2 ⟨r.val % 512, by omega⟩ s)
  rw [Value.flushed2 m c t, out_last m c t ht] at b
  refine ((congrArg (Value.G2 m c) e).symm.trans b.symm).trans ?_
  refine (last _ _ _).trans ((total m c t ht _ _).trans ?_)
  rw [hr, show col t s = s from rfl]

/-- The reference's array at an index. -/
theorem ref (Y : FVec Ideal Cert.Reference6Ideal.S8192x2048 .bf16) (X : FVec Ideal Cert.Reference6Ideal.S8192x5632 .bf16) (r : Fin 5632) (s : Fin 2048) :
    truncf .bf16 (transpose Cert.Reference6Ideal.S5632x2048 [1, 0] (Host.dotGeneral Cert.Reference6Ideal.dot_S8192x2048_S8192x5632_S2048x5632_0_0_1_1_n_n none
      (extf .f32 Y Cert.Reference6Ideal.Gen.bitsLt_bf16_f32) (extf .f32 X Cert.Reference6Ideal.Gen.bitsLt_bf16_f32)) Cert.Reference6Ideal.Gen.transposes_S2048x5632_S5632x2048_1_0)
      Cert.Reference6Ideal.Gen.bitsLt_bf16_f32 (ix2 r s) = ∑ k : Fin 8192, (X (ix2 k r) * Y (ix2 k s) : EReal) := by
  pointwise
  exact Finset.sum_congr rfl fun _ _ => mul_comm _ _

theorem algebraic : Cert.algebraic_Kernel6Ideal_Reference6Ideal := by
  intro m ρ m' ρ' _ hagree
  refine ⟨fun c => (dats m 0 c).arrAt 2 cfg0.N, Value.run_blocks m ρ, ?_⟩
  refine (θ_run _ _ _).mono (fun _ h c => ?_) (Cert.Reference6Ideal.Value.run (F := Ideal) m' ρ')
  obtain ⟨e, ha⟩ := h c
  obtain ⟨a0, a1, a2⟩ := hagree c
  refine ⟨e.trans (funext fun y => ?_), ha⟩
  idx_vars y
  rw [a0, a2]
  exact (ref _ _ _ _).trans (arr m c _ _).symm

theorem quiescent : Cert.quiescent_Reference6Ideal := fun m ρ _ =>
  (θ_run _ _ _).mono (fun r h => ⟨fun c => (h c).2, Idealize.ShloMosaic.sem_eq_zero_of_no_sems (by decide) r.2⟩)
    (Cert.Reference6Ideal.Value.run (F := Ideal) m ρ)

end Cert.DownWeightGrad

end
-- ==== Proof.DownForward.lean ====
/-
  The feed-forward network's last product, added to the residual: each block of the call is the product of a block of
  rows of the input with a block of columns of the weight, and the residual's block.
-/
module

public import proofs.«01_k».proof.Defs
public import proofs.«01_k».proof.Proof.Gen.Kernel7Ideal.Value
public import proofs.«01_k».proof.Proof.Gen.Reference7Ideal.Run
public import Idealize.ShloMosaic.Lib.Pipeline.ValueKit
public import Idealize.ShloMosaic.Lib.Pointwise

@[expose] public section

set_option maxRecDepth 16384

noncomputable section

namespace Cert.DownForward

open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ) (c : Dev nD)

abbrev W : (⟨2, ![5632, 2048]⟩ : Shape).Idx → EReal := m ((c : Thread nD τ).loc main_arg1)
abbrev X : (⟨2, ![8192, 5632]⟩ : Shape).Idx → EReal := m ((c : Thread nD τ).loc main_arg0)
abbrev H : (⟨2, ![8192, 2048]⟩ : Shape).Idx → EReal := m ((c : Thread nD τ).loc main_arg2)

theorem tlt (t : Fin cfg0.N) : t.val < 32 := lt_of_lt_of_eq t.isLt (show cfg0.N = 32 from N_0)
theorem idx0 : ∀ t : Fin cfg0.N, win0_0.index t 0 = t.val % 8 ∧ win0_0.index t 1 = 0 :=
  (by decide +kernel : ∀ t : Fin grid0.N, win0_0.index t 0 = t.val % 8 ∧ win0_0.index t 1 = 0)
theorem idx1 : ∀ t : Fin cfg0.N, win0_1.index t 0 = 0 ∧ win0_1.index t 1 = t.val / 8 :=
  (by decide +kernel : ∀ t : Fin grid0.N, win0_1.index t 0 = 0 ∧ win0_1.index t 1 = t.val / 8)
theorem idx3 : ∀ t : Fin cfg0.N, win0_3.index t 0 = t.val % 8 ∧ win0_3.index t 1 = t.val / 8 :=
  (by decide +kernel : ∀ t : Fin grid0.N, win0_3.index t 0 = t.val % 8 ∧ win0_3.index t 1 = t.val / 8)
theorem idx2 : ∀ t : Fin cfg0.N, win0_2.index t 0 = t.val % 8 ∧ win0_2.index t 1 = t.val / 8 :=
  (by decide +kernel : ∀ t : Fin grid0.N, win0_2.index t 0 = t.val % 8 ∧ win0_2.index t 1 = t.val / 8)

/-- Row `p` and column `q` of point `t`'s block, in the whole array. -/
def row (t : Fin cfg0.N) (p : Fin 1024) : Fin 8192 := ⟨t.val % 8 * 1024 + p.val, by omega⟩
def col (t : Fin cfg0.N) (q : Fin 512) : Fin 2048 := ⟨t.val / 8 * 512 + q.val, by have := tlt t; omega⟩

theorem in0 (t : Fin cfg0.N) (p : Fin 1024) (k : Fin 5632) : iblk m c 0 t (ix2 p k) = X m c (ix2 (row t p) k) := by
  blk_ext [iblk, V, idx0 t, X, row]
theorem in1 (t : Fin cfg0.N) (q : Fin 512) (k : Fin 5632) : iblk m c 1 t (ix2 k q) = W m c (ix2 k (col t q)) := by
  have := tlt t
  blk_ext [iblk, V, idx1 t, W, col]
theorem in2 (t : Fin cfg0.N) (p : Fin 1024) (q : Fin 512) : iblk m c 2 t (ix2 p q) = H m c (ix2 (row t p) (col t q)) := by
  have := tlt t
  blk_ext [iblk, V, idx2 t, H, row, col]

/-- What the body computes of two blocks. -/
theorem body (x0 : Vec Ideal S1024x5632 .bf16) (x1 : Vec Ideal S5632x512 .bf16) (x2 : Vec Ideal S1024x512 .f32) (p : Fin 1024) (q : Fin 512) :
    out0_3 x0 x1 x2 (ix2 p q) = ∑ k : Fin 5632, (x0 (ix2 p k) * x1 (ix2 k q) : EReal) + (x2 (ix2 p q) : EReal) := by
  have e0 : View.ld x0 r0_0 = x0 := View.ld_unit_zero (by decide) _ _
  have e1 : View.ld x1 r0_1 = x1 := View.ld_unit_zero (by decide) _ _
  have e2 : View.ld x2 r0_2 = x2 := View.ld_unit_zero (by decide) _ _
  unfold out0_3
  rw [e0, e1, e2]
  refine (congrFun (View.canon_unit_zero (by decide) _ _) _).trans ?_
  unfold k0_pay1
  pointwise

/-- The whole array that the call leaves. -/
def G (r : Fin 8192) (s : Fin 2048) : EReal := ∑ k : Fin 5632, X m c (ix2 r k) * W m c (ix2 k s) + H m c (ix2 r s)

theorem emb (t : Fin cfg0.N) (p : Fin 1024) (q : Fin 512) :
    (win0_3.blk t).view.emb (ix2 p q) = ix2 (row t p) (col t q) := by
  have := tlt t
  blk_ext [idx3 t, row, col]

theorem arr (r : Fin 8192) (s : Fin 2048) : (dats m 0 c).arrAt 3 cfg0.N (ix2 r s) = G m c r s := by
  let t : Fin cfg0.N := ⟨s.val / 512 * 8 + r.val / 1024, by rw [show cfg0.N = 32 from N_0]; omega⟩
  have hr : row t ⟨r.val % 1024, by omega⟩ = r := Fin.ext (show (s.val / 512 * 8 + r.val / 1024) % 8 * 1024 + r.val % 1024 = r.val by omega)
  have hs : col t ⟨s.val % 512, by omega⟩ = s := Fin.ext (show (s.val / 512 * 8 + r.val / 1024) / 8 * 512 + s.val % 512 = s.val by omega)
  have e := emb t ⟨r.val % 1024, by omega⟩ ⟨s.val % 512, by omega⟩
  rw [hr, hs] at e
  have b := congrFun (Value.blocks3 m c t ((by decide +kernel : ∀ t : Fin grid0.N, win0_3.flush t = true) _)) (ix2 ⟨r.val % 1024, by omega⟩ ⟨s.val % 512, by omega⟩)
  rw [Value.flushed3 m c t] at b
  refine ((congrArg ((dats m 0 c).arrAt 3 cfg0.N) e).symm.trans b).trans ?_
  refine (body (iblk m c 0 t) (iblk m c 1 t) (iblk m c 2 t) _ _).trans ?_
  unfold G
  rw [in2, hr, hs]
  congr 1
  refine Finset.sum_congr rfl fun k _ => ?_
  rw [in0, in1, hr, hs]

/-- The reference's array at an index. -/
theorem ref (Z : FVec Ideal Cert.Reference7Ideal.S8192x2048 .f32) (Y : FVec Ideal Cert.Reference7Ideal.S8192x5632 .bf16) (X : FVec Ideal Cert.Reference7Ideal.S5632x2048 .bf16) (r : Fin 8192) (s : Fin 2048) :
    addf Z (Host.dotGeneral Cert.Reference7Ideal.dot_S8192x5632_S5632x2048_S8192x2048_1_0_0_1_n_n none (extf .f32 Y Cert.Reference7Ideal.Gen.bitsLt_bf16_f32)
      (extf .f32 X Cert.Reference7Ideal.Gen.bitsLt_bf16_f32)) (ix2 r s) = ∑ k : Fin 5632, (Y (ix2 r k) * X (ix2 k s) : EReal) + (Z (ix2 r s) : EReal) := by
  pointwise
  exact add_comm _ _

theorem algebraic : Cert.algebraic_Kernel7Ideal_Reference7Ideal := by
  intro m ρ m' ρ' _ hagree
  refine ⟨fun c => (dats m 0 c).arrAt 3 cfg0.N, Value.run_blocks m ρ, ?_⟩
  refine (θ_run _ _ _).mono (fun _ h c => ?_) (Cert.Reference7Ideal.Value.run (F := Ideal) m' ρ')
  obtain ⟨e, ha⟩ := h c
  obtain ⟨a0, a1, a2⟩ := hagree c
  refine ⟨e.trans (funext fun y => ?_), ha⟩
  idx_vars y
  rw [a0, a1, a2]
  exact (ref _ _ _ _ _).trans (arr m c _ _).symm

theorem quiescent : Cert.quiescent_Reference7Ideal := fun m ρ _ =>
  (θ_run _ _ _).mono (fun r h => ⟨fun c => (h c).2, Idealize.ShloMosaic.sem_eq_zero_of_no_sems (by decide) r.2⟩)
    (Cert.Reference7Ideal.Value.run (F := Ideal) m ρ)

end Cert.DownForward

end
-- ==== Proof.ProjForward.lean ====
/-
  The input projection without its last columns: each block of the call is the product of a block of rows of the input
  with the transposed block of rows of the weight, which is stored transposed.
-/
module

public import proofs.«01_k».proof.Defs
public import proofs.«01_k».proof.Proof.Gen.Kernel8Ideal.Value
public import proofs.«01_k».proof.Proof.Gen.Reference8Ideal.Run
public import Idealize.ShloMosaic.Lib.Pipeline.ValueKit
public import Idealize.ShloMosaic.Lib.Pointwise
public import Idealize.ShloMosaic.Lib.Pipeline.ReadBack

@[expose] public section

set_option maxRecDepth 16384

noncomputable section

namespace Cert.ProjForward

open Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ) (c : Dev nD)

abbrev W : (⟨2, ![6176, 2048]⟩ : Shape).Idx → EReal := m ((c : Thread nD τ).loc main_arg1)
abbrev X : (⟨2, ![8192, 2048]⟩ : Shape).Idx → EReal := m ((c : Thread nD τ).loc main_arg0)

theorem tlt (t : Fin cfg0.N) : t.val < 32 := lt_of_lt_of_eq t.isLt (show cfg0.N = 32 from N_0)
theorem idx0 : ∀ t : Fin cfg0.N, win0_0.index t 0 = t.val % 8 ∧ win0_0.index t 1 = 0 :=
  (by decide +kernel : ∀ t : Fin grid0.N, win0_0.index t 0 = t.val % 8 ∧ win0_0.index t 1 = 0)
theorem idx1 : ∀ t : Fin cfg0.N, win0_1.index t 0 = t.val / 8 ∧ win0_1.index t 1 = 0 :=
  (by decide +kernel : ∀ t : Fin grid0.N, win0_1.index t 0 = t.val / 8 ∧ win0_1.index t 1 = 0)
theorem idx2 : ∀ t : Fin cfg0.N, win0_2.index t 0 = t.val % 8 ∧ win0_2.index t 1 = t.val / 8 :=
  (by decide +kernel : ∀ t : Fin grid0.N, win0_2.index t 0 = t.val % 8 ∧ win0_2.index t 1 = t.val / 8)

/-- Row `p` and column `q` of point `t`'s block, in the whole array. -/
def row (t : Fin cfg0.N) (p : Fin 1024) : Fin 8192 := ⟨t.val % 8 * 1024 + p.val, by omega⟩
def col (t : Fin cfg0.N) (q : Fin 1536) : Fin 6144 := ⟨t.val / 8 * 1536 + q.val, by have := tlt t; omega⟩

/-- The weight's row that a column of the product takes. -/
def wrow (s : Fin 6144) : Fin 6176 := ⟨s.val, by omega⟩

theorem in0 (t : Fin cfg0.N) (p : Fin 1024) (k : Fin 2048) : iblk m c 0 t (ix2 p k) = X m c (ix2 (row t p) k) := by
  blk_ext [iblk, V, idx0 t, X, row]
theorem in1 (t : Fin cfg0.N) (q : Fin 1536) (k : Fin 2048) : X0_1 m c t (ix2 q k) = W m c (ix2 (wrow (col t q)) k) := by
  have := tlt t
  unfold X0_1 Pipeline.Window.fill
  rw [dif_pos (moved0_1 t _)]
  blk_ext [iblk, V, idx1 t, W, wrow, col]

/-- What the body computes of two blocks. -/
theorem pay (x0 : Vec Ideal S1024x2048 .bf16) (x1 : Vec Ideal S1536x2048 .bf16) (p : Fin 1024) (q : Fin 1536) :
    k0_pay1 x0 x1 (ix2 p q) = ∑ k : Fin 2048, (x0 (ix2 p k) * x1 (ix2 q k) : EReal) := by
  unfold k0_pay1
  pointwise

/-- What a point leaves in its block of the output. -/
theorem body (t : Fin cfg0.N) :
    out0_A_2 c (grid0.coords t) (ms0_0 t) (hs0_0 t) (ms0_1 t) (hs0_1 t) (ms0_2 t) (hs0_2 t) (iblk m c 0 t) (X0_1 m c t)
      = k0_pay1 (iblk m c 0 t) (X0_1 m c t) := by
  unfold out0_A_2
  frame_out

/-- The whole array that the call leaves. -/
def G (r : Fin 8192) (s : Fin 6144) : EReal := ∑ k : Fin 2048, X m c (ix2 r k) * W m c (ix2 (wrow s) k)

theorem emb (t : Fin cfg0.N) (p : Fin 1024) (q : Fin 1536) :
    (win0_2.blk t).view.emb (ix2 p q) = ix2 (row t p) (col t q) := by
  have := tlt t
  blk_ext [idx2 t, row, col]

theorem arr (r : Fin 8192) (s : Fin 6144) : (dats m 0 c).arrAt 2 cfg0.N (ix2 r s) = G m c r s := by
  let t : Fin cfg0.N := ⟨s.val / 1536 * 8 + r.val / 1024, by rw [show cfg0.N = 32 from N_0]; omega⟩
  have hr : row t ⟨r.val % 1024, by omega⟩ = r := Fin.ext (show (s.val / 1536 * 8 + r.val / 1024) % 8 * 1024 + r.val % 1024 = r.val by omega)
  have hs : col t ⟨s.val % 1536, by omega⟩ = s := Fin.ext (show (s.val / 1536 * 8 + r.val / 1024) / 8 * 1536 + s.val % 1536 = s.val by omega)
  have e := emb t ⟨r.val % 1024, by omega⟩ ⟨s.val % 1536, by omega⟩
  rw [hr, hs] at e
  have b := congrFun (Value.blocks2 m c t ((by decide +kernel : ∀ t : Fin grid0.N, win0_2.flush t = true) _)) (ix2 ⟨r.val % 1024, by omega⟩ ⟨s.val % 1536, by omega⟩)
  rw [Value.flushed2_A m c t, body m c t] at b
  refine ((congrArg ((dats m 0 c).arrAt 2 cfg0.N) e).symm.trans b).trans ?_
  refine (pay (iblk m c 0 t) (X0_1 m c t) _ _).trans ?_
  refine Finset.sum_congr rfl fun k _ => ?_
  rw [in0, in1, hr, hs]

/-- The reference's array at an index. -/
theorem ref (Y : FVec Ideal Cert.Reference8Ideal.S8192x2048 .bf16) (X : FVec Ideal Cert.Reference8Ideal.S6176x2048 .bf16) (r : Fin 8192) (s : Fin 6144) :
    truncf .bf16 (extractStridedSlice Cert.Reference8Ideal.S8192x6144 ![0, 0] (Host.dotGeneral Cert.Reference8Ideal.dot_S8192x2048_S2048x6176_S8192x6176_1_0_0_1_n_n none (extf .f32 Y Cert.Reference8Ideal.Gen.bitsLt_bf16_f32)
      (transpose Cert.Reference8Ideal.S2048x6176 [1, 0] (extf .f32 X Cert.Reference8Ideal.Gen.bitsLt_bf16_f32) Cert.Reference8Ideal.Gen.transposes_S6176x2048_S2048x6176_1_0))
        Cert.Reference8Ideal.Gen.slices_S8192x6176_S8192x6144_0_0) Cert.Reference8Ideal.Gen.bitsLt_bf16_f32 (ix2 r s) = ∑ k : Fin 2048, (Y (ix2 r k) * X (ix2 ⟨s.val, by omega⟩ k) : EReal) := by
  pointwise

theorem algebraic : Cert.algebraic_Kernel8Ideal_Reference8Ideal := by
  intro m ρ m' ρ' _ hagree
  refine ⟨fun c => (dats m 0 c).arrAt 2 cfg0.N, Value.run_blocks m ρ, ?_⟩
  refine (θ_run _ _ _).mono (fun _ h c => ?_) (Cert.Reference8Ideal.Value.run (F := Ideal) m' ρ')
  obtain ⟨e, ha⟩ := h c
  obtain ⟨a0, a1⟩ := hagree c
  refine ⟨e.trans (funext fun y => ?_), ha⟩
  idx_vars y
  rw [a0, a1]
  exact (ref _ _ _ _).trans (arr m c _ _).symm

theorem quiescent : Cert.quiescent_Reference8Ideal := fun m ρ _ =>
  (θ_run _ _ _).mono (fun r h => ⟨fun c => (h c).2, Idealize.ShloMosaic.sem_eq_zero_of_no_sems (by decide) r.2⟩)
    (Cert.Reference8Ideal.Value.run (F := Ideal) m ρ)

end Cert.ProjForward

end
-- ==== Proof.OutForward.lean ====
/-
  The output projection, added to the residual: each block of the call is the product of a block of
  rows of the input with a block of columns of the weight, and the residual's block.
-/
module

public import proofs.«01_k».proof.Defs
public import proofs.«01_k».proof.Proof.Gen.Kernel9Ideal.Value
public import proofs.«01_k».proof.Proof.Gen.Reference9Ideal.Run
public import Idealize.ShloMosaic.Lib.Pipeline.ValueKit
public import Idealize.ShloMosaic.Lib.Pointwise

@[expose] public section

set_option maxRecDepth 16384

noncomputable section

namespace Cert.OutForward

open Cert.Kernel9Ideal Cert.Kernel9Ideal.Gen Idealize.ShloMosaic Idealize.ShloMosaic.TcCoe Idealize.SL.Sem
open Idealize.ShloMosaic.Pipeline (Dat)

variable (m : (ℓ : Loc nD τ sig) → Buf (Elt Ideal) ℓ) (c : Dev nD)

abbrev W : (⟨2, ![2048, 2048]⟩ : Shape).Idx → EReal := m ((c : Thread nD τ).loc main_arg1)
abbrev X : (⟨2, ![8192, 2048]⟩ : Shape).Idx → EReal := m ((c : Thread nD τ).loc main_arg0)
abbrev H : (⟨2, ![8192, 2048]⟩ : Shape).Idx → EReal := m ((c : Thread nD τ).loc main_arg2)

theorem tlt (t : Fin cfg0.N) : t.val < 16 := lt_of_lt_of_eq t.isLt (show cfg0.N = 16 from N_0)
theorem idx0 : ∀ t : Fin cfg0.N, win0_0.index t 0 = t.val % 8 ∧ win0_0.index t 1 = 0 :=
  (by decide +kernel : ∀ t : Fin grid0.N, win0_0.index t 0 = t.val % 8 ∧ win0_0.index t 1 = 0)
theorem idx1 : ∀ t : Fin cfg0.N, win0_1.index t 0 = 0 ∧ win0_1.index t 1 = t.val / 8 :=
  (by decide +kernel : ∀ t : Fin grid0.N, win0_1.index t 0 = 0 ∧ win0_1.index t 1 = t.val / 8)
theorem idx3 : ∀ t : Fin cfg0.N, win0_3.index t 0 = t.val % 8 ∧ win0_3.index t 1 = t.val / 8 :=
  (by decide +kernel : ∀ t : Fin grid0.N, win0_3.index t 0 = t.val % 8 ∧ win0_3.index t 1 = t.val / 8)
theorem idx2 : ∀ t : Fin cfg0.N, win0_2.index t 0 = t.val % 8 ∧ win0_2.index t 1 = t.val / 8 :=
  (by decide +kernel : ∀ t : Fin grid0.N, win0_2.index t 0 = t.val % 8 ∧ win0_2.index t 1 = t.val / 8)

/-- Row `p` and column `q` of point `t`'s block, in the whole array. -/
def row (t : Fin cfg0.N) (p : Fin 1024) : Fin 8192 := ⟨t.val % 8 * 1024 + p.val, by omega⟩
def col (t : Fin cfg0.N) (q : Fin 1024) : Fin 2048 := ⟨t.val / 8 * 1024 + q.val, by have := tlt t; omega⟩

theorem in0 (t : Fin cfg0.N) (p : Fin 1024) (k : Fin 2048) : iblk m c 0 t (ix2 p k) = X m c (ix2 (row t p) k) := by
  blk_ext [iblk, V, idx0 t, X, row]
theorem in1 (t : Fin cfg0.N) (q : Fin 1024) (k : Fin 2048) : iblk m c 1 t (ix2 k q) = W m c (ix2 k (col t q)) := by
  have := tlt t
  blk_ext [iblk, V, idx1 t, W, col]
theorem in2 (t : Fin cfg0.N) (p : Fin 1024) (q : Fin 1024) : iblk m c 2 t (ix2 p q) = H m c (ix2 (row t p) (col t q)) := by
  have := tlt t
  blk_ext [iblk, V, idx2 t, H, row, col]

/-- What the body computes of two blocks. -/
theorem body (x0 : Vec Ideal S1024x2048 .bf16) (x1 : Vec Ideal S2048x1024 .bf16) (x2 : Vec Ideal S1024x1024 .f32) (p : Fin 1024) (q : Fin 1024) :
    out0_3 x0 x1 x2 (ix2 p q) = ∑ k : Fin 2048, (x0 (ix2 p k) * x1 (ix2 k q) : EReal) + (x2 (ix2 p q) : EReal) := by
  have e0 : View.ld x0 r0_0 = x0 := View.ld_unit_zero (by decide) _ _
  have e1 : View.ld x1 r0_1 = x1 := View.ld_unit_zero (by decide) _ _
  have e2 : View.ld x2 r0_2 = x2 := View.ld_unit_zero (by decide) _ _
  unfold out0_3
  rw [e0, e1, e2]
  refine (congrFun (View.canon_unit_zero (by decide) _ _) _).trans ?_
  unfold k0_pay1
  pointwise

/-- The whole array that the call leaves. -/
def G (r : Fin 8192) (s : Fin 2048) : EReal := ∑ k : Fin 2048, X m c (ix2 r k) * W m c (ix2 k s) + H m c (ix2 r s)

theorem emb (t : Fin cfg0.N) (p : Fin 1024) (q : Fin 1024) :
    (win0_3.blk t).view.emb (ix2 p q) = ix2 (row t p) (col t q) := by
  have := tlt t
  blk_ext [idx3 t, row, col]

theorem arr (r : Fin 8192) (s : Fin 2048) : (dats m 0 c).arrAt 3 cfg0.N (ix2 r s) = G m c r s := by
  let t : Fin cfg0.N := ⟨s.val / 1024 * 8 + r.val / 1024, by rw [show cfg0.N = 16 from N_0]; omega⟩
  have hr : row t ⟨r.val % 1024, by omega⟩ = r := Fin.ext (show (s.val / 1024 * 8 + r.val / 1024) % 8 * 1024 + r.val % 1024 = r.val by omega)
  have hs : col t ⟨s.val % 1024, by omega⟩ = s := Fin.ext (show (s.val / 1024 * 8 + r.val / 1024) / 8 * 1024 + s.val % 1024 = s.val by omega)
  have e := emb t ⟨r.val % 1024, by omega⟩ ⟨s.val % 1024, by omega⟩
  rw [hr, hs] at e
  have b := congrFun (Value.blocks3 m c t ((by decide +kernel : ∀ t : Fin grid0.N, win0_3.flush t = true) _)) (ix2 ⟨r.val % 1024, by omega⟩ ⟨s.val % 1024, by omega⟩)
  rw [Value.flushed3 m c t] at b
  refine ((congrArg ((dats m 0 c).arrAt 3 cfg0.N) e).symm.trans b).trans ?_
  refine (body (iblk m c 0 t) (iblk m c 1 t) (iblk m c 2 t) _ _).trans ?_
  unfold G
  rw [in2, hr, hs]
  congr 1
  refine Finset.sum_congr rfl fun k _ => ?_
  rw [in0, in1, hr, hs]

/-- The reference's array at an index. -/
theorem ref (Z : FVec Ideal Cert.Reference9Ideal.S8192x2048 .f32) (Y : FVec Ideal Cert.Reference9Ideal.S8192x2048 .bf16) (X : FVec Ideal Cert.Reference9Ideal.S2048x2048 .bf16) (r : Fin 8192) (s : Fin 2048) :
    addf Z (Host.dotGeneral Cert.Reference9Ideal.dot_S8192x2048_S2048x2048_S8192x2048_1_0_0_1_n_n none (extf .f32 Y Cert.Reference9Ideal.Gen.bitsLt_bf16_f32)
      (extf .f32 X Cert.Reference9Ideal.Gen.bitsLt_bf16_f32)) (ix2 r s) = ∑ k : Fin 2048, (Y (ix2 r k) * X (ix2 k s) : EReal) + (Z (ix2 r s) : EReal) := by
  pointwise
  exact add_comm _ _

theorem algebraic : Cert.algebraic_Kernel9Ideal_Reference9Ideal := by
  intro m ρ m' ρ' _ hagree
  refine ⟨fun c => (dats m 0 c).arrAt 3 cfg0.N, Value.run_blocks m ρ, ?_⟩
  refine (θ_run _ _ _).mono (fun _ h c => ?_) (Cert.Reference9Ideal.Value.run (F := Ideal) m' ρ')
  obtain ⟨e, ha⟩ := h c
  obtain ⟨a0, a1, a2⟩ := hagree c
  refine ⟨e.trans (funext fun y => ?_), ha⟩
  idx_vars y
  rw [a0, a1, a2]
  exact (ref _ _ _ _ _).trans (arr m c _ _).symm

theorem quiescent : Cert.quiescent_Reference9Ideal := fun m ρ _ =>
  (θ_run _ _ _).mono (fun r h => ⟨fun c => (h c).2, Idealize.ShloMosaic.sem_eq_zero_of_no_sems (by decide) r.2⟩)
    (Cert.Reference9Ideal.Value.run (F := Ideal) m ρ)

end Cert.OutForward

end
-- ==== Proof.OutWeightGrad.lean ====
/-
  The gradient of the output projection's weight: each block of the call is accumulated over eight blocks of rows, and holds
  the sum over all rows of the products of the two factors' entries.
-/
module

public import proofs.«01_k».proof.Defs
public import proofs.«01_k».proof.Proof.Gen.Kernel10Ideal.Value
public import proofs.«01_k».proof.Proof.Gen.Reference10Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.OutWeightGrad

open Cert.Kernel10Ideal Cert.Kernel10Ideal.Gen Idealize.ShloMosaic Idealize.ShloMosaic.TcCoe Idealize.SL.Sem
open Idealize.ShloMosaic.Pipeline (Dat)

variable (m : (ℓ : Loc nD τ sig) → Buf (Elt Ideal) ℓ) (c : Dev nD)

abbrev X : (⟨2, ![8192, 2048]⟩ : Shape).Idx → EReal := m ((c : Thread nD τ).loc main_arg0)
abbrev Y : (⟨2, ![8192, 2048]⟩ : Shape).Idx → EReal := m ((c : Thread nD τ).loc main_arg2)

theorem tlt (t : Fin cfg0.N) : t.val < 16 := lt_of_lt_of_eq t.isLt (show cfg0.N = 16 from N_0)
theorem idx0 : ∀ t : Fin cfg0.N, win0_0.index t 0 = t.val % 8 ∧ win0_0.index t 1 = 0 :=
  (by decide +kernel : ∀ t : Fin grid0.N, win0_0.index t 0 = t.val % 8 ∧ win0_0.index t 1 = 0)
theorem idx1 : ∀ t : Fin cfg0.N, win0_1.index t 0 = t.val % 8 ∧ win0_1.index t 1 = t.val / 8 :=
  (by decide +kernel : ∀ t : Fin grid0.N, win0_1.index t 0 = t.val % 8 ∧ win0_1.index t 1 = t.val / 8)
theorem idx2 : ∀ t : Fin cfg0.N, win0_2.index t 0 = 0 ∧ win0_2.index t 1 = t.val / 8 :=
  (by decide +kernel : ∀ t : Fin grid0.N, win0_2.index t 0 = 0 ∧ win0_2.index t 1 = t.val / 8)

/-- Row `k` of point `t`'s blocks of the factors, and row `p` and column `q` of its block of the result, in the whole arrays. -/
def lane (t : Fin cfg0.N) (k : Fin 1024) : Fin 8192 := ⟨t.val % 8 * 1024 + k.val, by omega⟩
def row (_ : Fin cfg0.N) (p : Fin 2048) : Fin 2048 := ⟨p.val, p.isLt⟩
def col (t : Fin cfg0.N) (q : Fin 1024) : Fin 2048 := ⟨t.val / 8 * 1024 + q.val, by have := tlt t; omega⟩

theorem in0 (t : Fin cfg0.N) (k : Fin 1024) (p : Fin 2048) : iblk m c 0 t (ix2 k p) = X m c (ix2 (lane t k) (row t p)) := by
  have := tlt t
  blk_ext [iblk, V, idx0 t, X, lane, row]
theorem in1 (t : Fin cfg0.N) (k q : Fin 1024) : iblk m c 1 t (ix2 k q) = Y m c (ix2 (lane t k) (col t q)) := by
  have := tlt t
  blk_ext [iblk, V, idx1 t, Y, lane, col]
theorem emb (t : Fin cfg0.N) (p : Fin 2048) (q : Fin 1024) : (win0_2.blk t).view.emb (ix2 p q) = ix2 (row t p) (col t q) := by
  have := tlt t
  blk_ext [idx2 t, row, col]

/-- The body's arithmetic: the accumulator starts at zero, gains the product of the point's blocks and is rounded at the end. -/
theorem start (y : S2048x1024.Idx) : (k0_pay1 (F := Ideal)) y = (0 : EReal) := by
  idx_vars y
  unfold k0_pay1
  pointwise
theorem step (a : Vec Ideal S2048x1024 .f32) (x0 : Vec Ideal S1024x2048 .bf16) (x1 : Vec Ideal S1024x1024 .bf16) (p : Fin 2048) (q : Fin 1024) :
    k0_pay2 a x0 x1 (ix2 p q) = (a (ix2 p q) + ∑ k : Fin 1024, x0 (ix2 k p) * x1 (ix2 k q) : EReal) := by
  unfold k0_pay2
  pointwise
theorem last (a : Vec Ideal S2048x1024 .f32) (p : Fin 2048) (q : Fin 1024) : k0_pay3 a (ix2 p q) = a (ix2 p q) := by
  unfold k0_pay3
  pointwise

/-- What point `t` adds to an entry. -/
def term (t : Fin cfg0.N) (p : Fin 2048) (q : Fin 1024) : EReal := ∑ k : Fin 1024, X m c (ix2 (lane t k) (row t p)) * Y m c (ix2 (lane t k) (col t q))

theorem step_blocks (t : Fin cfg0.N) (a : Vec Ideal S2048x1024 .f32) (p : Fin 2048) (q : Fin 1024) :
    k0_pay2 a (iblk m c 0 t) (iblk m c 1 t) (ix2 p q) = (a (ix2 p q) + term m c t p q : EReal) := by
  refine (step _ _ _ _ _).trans (congrArg (a (ix2 p q) + ·) (Finset.sum_congr rfl fun k _ => ?_))
  rw [in0, in1]

theorem acc_first (t : Fin cfg0.N) (h : t.val % 8 = 0) : (outsAt0 m c t.val t.isLt).2 = k0_pay2 k0_pay1 (iblk m c 0 t) (iblk m c 1 t) := by
  rw [outsAt0_A m c t h (by omega)]
  dsimp only
  unfold sout0_A_0
  frame_out

theorem acc_later (t : Fin cfg0.N) (h : ¬t.val % 8 = 0) : (outsAt0 m c t.val t.isLt).2
    = k0_pay2 (outsAt0 m c (t.val - 1) (Nat.lt_of_le_of_lt (Nat.sub_le _ _) t.isLt)).2 (iblk m c 0 t) (iblk m c 1 t) := by
  by_cases h1 : t.val % 8 = 7
  · rw [outsAt0_C m c t h h1]
    dsimp only
    unfold sout0_C_0
    frame_out
    rw [read_unread_whole]
  · rw [outsAt0_B m c t h h1]
    dsimp only
    unfold sout0_B_0
    frame_out
    rw [read_unread_whole]

theorem out_last (t : Fin cfg0.N) (h : t.val % 8 = 7) : (outsAt0 m c t.val t.isLt).1 = k0_pay3 (outsAt0 m c t.val t.isLt).2 := by
  rw [acc_later m c t (by omega), outsAt0_C m c t (by omega) h]
  dsimp only
  unfold out0_C_2
  frame_out
  rw [read_unread_whole]

/-- The whole array that the call leaves. -/
def G (r : Fin 2048) (s : Fin 2048) : EReal := ∑ k : Fin 8192, X m c (ix2 k r) * Y m c (ix2 k s)

/-- The accumulator at the last of a block's points. -/
theorem total (t : Fin cfg0.N) (h : t.val % 8 = 7) (p : Fin 2048) (q : Fin 1024) :
    (outsAt0 m c t.val t.isLt).2 (ix2 p q) = G m c (row t p) (col t q) := by
  refine (Pipeline.eq_sum_fin_of_reset_step_of_flush (fun n h => ((outsAt0 m c n h).2 (ix2 p q) : EReal)) 8 0 (fun t => term m c t p q)
    (fun t h => by rw [acc_first m c t h, step_blocks, start]) (fun t h => by rw [acc_later m c t h, step_blocks]) t h).trans ?_
  rw [zero_add]
  refine Fin.sum_mul_add_congr (S := 8) (n := 1024) fun s k hl => ?_
  congr 3
  all_goals exact Fin.ext (by simp only [lane, row, col]; omega)

theorem arr (r : Fin 2048) (s : Fin 2048) : (dats m 0 c).arrAt 2 cfg0.N (ix2 r s) = G m c r s := by
  let t : Fin cfg0.N := ⟨s.val / 1024 * 8 + 7, by rw [show cfg0.N = 16 from N_0]; omega⟩
  have ht : t.val % 8 = 7 := by show (s.val / 1024 * 8 + 7) % 8 = 7; omega
  have hs : col t ⟨s.val % 1024, by omega⟩ = s := Fin.ext (show (s.val / 1024 * 8 + 7) / 8 * 1024 + s.val % 1024 = s.val by omega)
  have e := emb t r ⟨s.val % 1024, by omega⟩
  rw [hs, show row t r = r from rfl] at e
  rw [Value.final2]
  have b := congrFun (Value.flushed2_eq m c t ((flush0_2 t).mpr ht)) (ix2 r ⟨s.val % 1024, by omega⟩)
  rw [Value.flushed2 m c t, out_last m c t ht] at b
  refine ((congrArg (Value.G2 m c) e).symm.trans b.symm).trans ?_
  refine (last _ _ _).trans ((total m c t ht _ _).trans ?_)
  rw [hs, show row t r = r from rfl]

/-- The reference's array at an index. -/
theorem ref (Y : FVec Ideal Cert.Reference10Ideal.S8192x2048 .bf16) (X : FVec Ideal Cert.Reference10Ideal.S8192x2048 .bf16) (r : Fin 2048) (s : Fin 2048) :
    truncf .bf16 (transpose Cert.Reference10Ideal.S2048x2048 [1, 0] (Host.dotGeneral Cert.Reference10Ideal.dot_S8192x2048_S8192x2048_S2048x2048_0_0_1_1_n_n none
      (extf .f32 Y Cert.Reference10Ideal.Gen.bitsLt_bf16_f32) (extf .f32 X Cert.Reference10Ideal.Gen.bitsLt_bf16_f32)) Cert.Reference10Ideal.Gen.transposes_S2048x2048_S2048x2048_1_0)
      Cert.Reference10Ideal.Gen.bitsLt_bf16_f32 (ix2 r s) = ∑ k : Fin 8192, (X (ix2 k r) * Y (ix2 k s) : EReal) := by
  pointwise
  exact Finset.sum_congr rfl fun _ _ => mul_comm _ _

theorem algebraic : Cert.algebraic_Kernel10Ideal_Reference10Ideal := by
  intro m ρ m' ρ' _ hagree
  refine ⟨fun c => (dats m 0 c).arrAt 2 cfg0.N, Value.run_blocks m ρ, ?_⟩
  refine (θ_run _ _ _).mono (fun _ h c => ?_) (Cert.Reference10Ideal.Value.run (F := Ideal) m' ρ')
  obtain ⟨e, ha⟩ := h c
  obtain ⟨a0, a1, a2⟩ := hagree c
  refine ⟨e.trans (funext fun y => ?_), ha⟩
  idx_vars y
  rw [a0, a2]
  exact (ref _ _ _ _).trans (arr m c _ _).symm

theorem quiescent : Cert.quiescent_Reference10Ideal := fun m ρ _ =>
  (θ_run _ _ _).mono (fun r h => ⟨fun c => (h c).2, Idealize.ShloMosaic.sem_eq_zero_of_no_sems (by decide) r.2⟩)
    (Cert.Reference10Ideal.Value.run (F := Ideal) m ρ)

end Cert.OutWeightGrad

end
-- ==== Proof.OutInput.lean ====
/-
  The gradient of the output projection with respect to its input: each block of the call is the
  product of a block of rows of the cotangent with the transposed block of rows of the weight.
-/
module

public import proofs.«01_k».proof.Defs
public import proofs.«01_k».proof.Proof.Gen.Kernel11Ideal.Value
public import proofs.«01_k».proof.Proof.Gen.Reference11Ideal.Run
public import Idealize.ShloMosaic.Lib.Pipeline.ValueKit
public import Idealize.ShloMosaic.Lib.Pointwise

@[expose] public section

set_option maxRecDepth 16384

noncomputable section

namespace Cert.OutInput

open Cert.Kernel11Ideal Cert.Kernel11Ideal.Gen Idealize.ShloMosaic Idealize.ShloMosaic.TcCoe Idealize.SL.Sem
open Idealize.ShloMosaic.Pipeline (Dat)

variable (m : (ℓ : Loc nD τ sig) → Buf (Elt Ideal) ℓ) (c : Dev nD)

abbrev W : (⟨2, ![2048, 2048]⟩ : Shape).Idx → EReal := m ((c : Thread nD τ).loc main_arg1)
abbrev Dy : (⟨2, ![8192, 2048]⟩ : Shape).Idx → EReal := m ((c : Thread nD τ).loc main_arg2)

theorem tlt (t : Fin cfg0.N) : t.val < 16 := lt_of_lt_of_eq t.isLt (show cfg0.N = 16 from N_0)
theorem idx0 : ∀ t : Fin cfg0.N, win0_0.index t 0 = t.val % 8 ∧ win0_0.index t 1 = 0 :=
  (by decide +kernel : ∀ t : Fin grid0.N, win0_0.index t 0 = t.val % 8 ∧ win0_0.index t 1 = 0)
theorem idx1 : ∀ t : Fin cfg0.N, win0_1.index t 0 = t.val / 8 ∧ win0_1.index t 1 = 0 :=
  (by decide +kernel : ∀ t : Fin grid0.N, win0_1.index t 0 = t.val / 8 ∧ win0_1.index t 1 = 0)
theorem idx2 : ∀ t : Fin cfg0.N, win0_2.index t 0 = t.val % 8 ∧ win0_2.index t 1 = t.val / 8 :=
  (by decide +kernel : ∀ t : Fin grid0.N, win0_2.index t 0 = t.val % 8 ∧ win0_2.index t 1 = t.val / 8)

/-- Row `p` and column `q` of point `t`'s block, in the whole array. -/
def row (t : Fin cfg0.N) (p : Fin 1024) : Fin 8192 := ⟨t.val % 8 * 1024 + p.val, by omega⟩
def col (t : Fin cfg0.N) (q : Fin 1024) : Fin 2048 := ⟨t.val / 8 * 1024 + q.val, by have := tlt t; omega⟩

theorem in0 (t : Fin cfg0.N) (p : Fin 1024) (k : Fin 2048) : iblk m c 0 t (ix2 p k) = Dy m c (ix2 (row t p) k) := by
  blk_ext [iblk, V, idx0 t, Dy, row]
theorem in1 (t : Fin cfg0.N) (q : Fin 1024) (k : Fin 2048) : iblk m c 1 t (ix2 q k) = W m c (ix2 (col t q) k) := by
  have := tlt t
  blk_ext [iblk, V, idx1 t, W, col]

/-- What the body computes of two blocks. -/
theorem body (x0 : Vec Ideal S1024x2048 .bf16) (x1 : Vec Ideal S1024x2048 .bf16) (p : Fin 1024) (q : Fin 1024) :
    out0_2 x0 x1 (ix2 p q) = ∑ k : Fin 2048, (x0 (ix2 p k) * x1 (ix2 q k) : EReal) := by
  have e0 : View.ld x0 r0_0 = x0 := View.ld_unit_zero (by decide) _ _
  have e1 : View.ld x1 r0_0 = x1 := View.ld_unit_zero (by decide) _ _
  unfold out0_2
  rw [e0, e1]
  refine (congrFun (View.canon_unit_zero (by decide) _ _) _).trans ?_
  unfold k0_pay1
  pointwise

/-- The whole array that the call leaves. -/
def G (r : Fin 8192) (s : Fin 2048) : EReal := ∑ k : Fin 2048, Dy m c (ix2 r k) * W m c (ix2 s k)

theorem emb (t : Fin cfg0.N) (p : Fin 1024) (q : Fin 1024) :
    (win0_2.blk t).view.emb (ix2 p q) = ix2 (row t p) (col t q) := by
  have := tlt t
  blk_ext [idx2 t, row, col]

theorem arr (r : Fin 8192) (s : Fin 2048) : (dats m 0 c).arrAt 2 cfg0.N (ix2 r s) = G m c r s := by
  let t : Fin cfg0.N := ⟨s.val / 1024 * 8 + r.val / 1024, by rw [show cfg0.N = 16 from N_0]; omega⟩
  have hr : row t ⟨r.val % 1024, by omega⟩ = r := Fin.ext (show (s.val / 1024 * 8 + r.val / 1024) % 8 * 1024 + r.val % 1024 = r.val by omega)
  have hs : col t ⟨s.val % 1024, by omega⟩ = s := Fin.ext (show (s.val / 1024 * 8 + r.val / 1024) / 8 * 1024 + s.val % 1024 = s.val by omega)
  have e := emb t ⟨r.val % 1024, by omega⟩ ⟨s.val % 1024, by omega⟩
  rw [hr, hs] at e
  have b := congrFun (Value.blocks2 m c t ((by decide +kernel : ∀ t : Fin grid0.N, win0_2.flush t = true) _)) (ix2 ⟨r.val % 1024, by omega⟩ ⟨s.val % 1024, by omega⟩)
  rw [Value.flushed2 m c t] at b
  refine ((congrArg ((dats m 0 c).arrAt 2 cfg0.N) e).symm.trans b).trans ?_
  refine (body (iblk m c 0 t) (iblk m c 1 t) _ _).trans ?_
  refine Finset.sum_congr rfl fun k _ => ?_
  rw [in0, in1, hr, hs]

/-- The reference's array at an index. -/
theorem ref (Y : FVec Ideal Cert.Reference11Ideal.S8192x2048 .bf16) (X : FVec Ideal Cert.Reference11Ideal.S2048x2048 .bf16) (r : Fin 8192) (s : Fin 2048) :
    truncf .bf16 (Host.dotGeneral Cert.Reference11Ideal.dot_S8192x2048_S2048x2048_S8192x2048_1_1_0_0_n_n none (extf .f32 Y Cert.Reference11Ideal.Gen.bitsLt_bf16_f32)
      (extf .f32 X Cert.Reference11Ideal.Gen.bitsLt_bf16_f32)) Cert.Reference11Ideal.Gen.bitsLt_bf16_f32 (ix2 r s) = ∑ k : Fin 2048, (Y (ix2 r k) * X (ix2 s k) : EReal) := by
  pointwise

theorem algebraic : Cert.algebraic_Kernel11Ideal_Reference11Ideal := by
  intro m ρ m' ρ' _ hagree
  refine ⟨fun c => (dats m 0 c).arrAt 2 cfg0.N, Value.run_blocks m ρ, ?_⟩
  refine (θ_run _ _ _).mono (fun _ h c => ?_) (Cert.Reference11Ideal.Value.run (F := Ideal) m' ρ')
  obtain ⟨e, ha⟩ := h c
  obtain ⟨a0, a1, a2⟩ := hagree c
  refine ⟨e.trans (funext fun y => ?_), ha⟩
  idx_vars y
  rw [a1, a2]
  exact (ref _ _ _ _).trans (arr m c _ _).symm

theorem quiescent : Cert.quiescent_Reference11Ideal := fun m ρ _ =>
  (θ_run _ _ _).mono (fun r h => ⟨fun c => (h c).2, Idealize.ShloMosaic.sem_eq_zero_of_no_sems (by decide) r.2⟩)
    (Cert.Reference11Ideal.Value.run (F := Ideal) m ρ)

end Cert.OutInput

end
-- ==== Proof.ProjWeightGrad.lean ====
/-
  The gradient of the input projection's weight, the columns that the large matrix multiplication makes: each block of the call is accumulated over four blocks of rows, and
  holds the sum over all rows of the products of the two factors' entries. The array of the call has 32 rows that no block is written to; the line after the call drops them.
-/
module

public import proofs.«01_k».proof.Defs
public import proofs.«01_k».proof.Proof.Gen.Kernel12Ideal.Frame
public import proofs.«01_k».proof.Proof.Gen.Reference12Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ProjWeightGrad

open Cert.Kernel12Ideal Cert.Kernel12Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

abbrev X : (⟨2, ![8192, 2048]⟩ : Shape).Idx → EReal := m ((c : Thread nD τ).loc main_arg0)
abbrev Y : (⟨2, ![8192, 6144]⟩ : Shape).Idx → EReal := m ((c : Thread nD τ).loc main_arg1)

/-! ## The line after the call -/

/-- What the last line makes of the array of the call: its first 6144 rows. -/
abbrev cut (A : FVec Ideal S6176x2048 .bf16) : FVec Ideal S6144x2048 .bf16 := extractStridedSlice S6144x2048 ![0, 0] A slices_S6176x2048_S6144x2048_0_0

theorem tail1 : Pipeline.afterTail₀ cfgs (dats m) 0 (V0 m) [hostOps1] c main_v1 = cut ((dats m 0 c).arrAt 2 cfg0.N) := by
  unfold Pipeline.afterTail₀
  simp only [hostOps1, List.flatten_cons, List.flatten_nil, List.append_nil]
  after_results
  exact congrArg cut (Pipeline.withArrays_arr spec0 winFacts0.arr_inj c (V0 m c) _ 2)

theorem run : θ_run defs (onTc (τ := τ) (main (F := Ideal))) ⟨m, fun _ => 0, ρ⟩ fun r => ∀ c : Dev nD,
      r.2.mem ((c : Thread nD τ).loc main_v1) = cut ((dats m 0 c).arrAt 2 cfg0.N)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h.1 c).2 main_v1 (Pipeline.mem_restRefs_of main_v1 (by decide) (by decide))).trans (tail1 m c), h.2 c⟩)
    (θ_run_and (run_main m ρ) (unchanged m ρ))

/-! ## The blocks -/

theorem tlt (t : Fin cfg0.N) : t.val < 32 := lt_of_lt_of_eq t.isLt (show cfg0.N = 32 from N_0)
theorem idx0 : ∀ t : Fin cfg0.N, win0_0.index t 0 = t.val % 4 ∧ win0_0.index t 1 = t.val / 4 :=
  (by decide +kernel : ∀ t : Fin grid0.N, win0_0.index t 0 = t.val % 4 ∧ win0_0.index t 1 = t.val / 4)
theorem idx1 : ∀ t : Fin cfg0.N, win0_1.index t 0 = t.val % 4 ∧ win0_1.index t 1 = 0 :=
  (by decide +kernel : ∀ t : Fin grid0.N, win0_1.index t 0 = t.val % 4 ∧ win0_1.index t 1 = 0)
theorem idx2 : ∀ t : Fin cfg0.N, win0_2.index t 0 = t.val / 4 ∧ win0_2.index t 1 = 0 :=
  (by decide +kernel : ∀ t : Fin grid0.N, win0_2.index t 0 = t.val / 4 ∧ win0_2.index t 1 = 0)
/-- Every block of the result lies inside the array. -/
theorem size2 : ∀ t : Fin cfg0.N, win0_2.xsize (grid0.coords t) 0 = 768 ∧ win0_2.xsize (grid0.coords t) 1 = 2048 :=
  (by decide +kernel : ∀ t : Fin grid0.N, win0_2.xsize (grid0.coords t) 0 = 768 ∧ win0_2.xsize (grid0.coords t) 1 = 2048)
/-- The last points of two blocks are of distinct blocks. -/
theorem last_inj : ∀ t t' : Fin cfg0.N, t.val % 4 = 3 → t'.val % 4 = 3 → win0_2.index t = win0_2.index t' → t = t' := by
  intro t t' h h' e
  have e0 := congrFun e 0
  rw [(idx2 t).1, (idx2 t').1] at e0
  exact Fin.ext (by omega)

/-- Row `k` of point `t`'s blocks of the factors, and row `p` of its block of the result, in the whole arrays. -/
def lane (t : Fin cfg0.N) (k : Fin 2048) : Fin 8192 := ⟨t.val % 4 * 2048 + k.val, by omega⟩
def row (t : Fin cfg0.N) (p : Fin 768) : Fin 6144 := ⟨t.val / 4 * 768 + p.val, by have := tlt t; omega⟩
/-- A row of the result in the array of the call. -/
def high (r : Fin 6144) : Fin 6176 := ⟨r.val, by omega⟩

theorem in0 (t : Fin cfg0.N) (k : Fin 2048) (p : Fin 768) : iblk m c 0 t (ix2 k p) = Y m c (ix2 (lane t k) (row t p)) := by
  have := tlt t
  blk_ext [iblk, V, idx0 t, Y, lane, row]
theorem in1 (t : Fin cfg0.N) (k : Fin 2048) (q : Fin 2048) : iblk m c 1 t (ix2 k q) = X m c (ix2 (lane t k) q) := by
  have := tlt t
  blk_ext [iblk, V, idx1 t, X, lane]

/-- The index of a block's entry, among those of the part of the block that is written. -/
def inner (t : Fin cfg0.N) (p : Fin 768) (q : Fin 2048) : (win0_2.xblock (grid0.coords t)).Idx :=
  fun a => ⟨(ix2 p q a).val, by
    match a with
    | ⟨0, _⟩ => exact lt_of_lt_of_eq p.isLt (size2 t).1.symm
    | ⟨1, _⟩ => exact lt_of_lt_of_eq q.isLt (size2 t).2.symm⟩
theorem xinj_inner (t : Fin cfg0.N) (p : Fin 768) (q : Fin 2048) : win0_2.xinj (grid0.coords t) (inner t p q) = ix2 p q := rfl
theorem emb (t : Fin cfg0.N) (p : Fin 768) (q : Fin 2048) : (win0_2.blk t).view.emb (inner t p q) = ix2 (high (row t p)) q := by
  have := tlt t
  funext a
  refine Fin.ext ((Pipeline.Window.rect_emb_val win0_2 t (inner t p q) a rfl).trans ?_)
  match a with
  | ⟨0, _⟩ => exact congrArg (· * 768 + p.val) (idx2 t).1
  | ⟨1, _⟩ => exact (congrArg (· * 2048 + q.val) (idx2 t).2).trans (by show 0 * 2048 + q.val = q.val; omega)

/-- The body's arithmetic: the accumulator starts at zero, gains the product of the point's blocks and is rounded at the end. -/
theorem start (y : S768x2048.Idx) : (k0_pay1 (F := Ideal)) y = (0 : EReal) := by
  idx_vars y
  unfold k0_pay1
  pointwise
theorem step (a : Vec Ideal S768x2048 .f32) (x0 : Vec Ideal S2048x768 .bf16) (x1 : Vec Ideal S2048x2048 .bf16) (p : Fin 768) (q : Fin 2048) :
    k0_pay2 a x0 x1 (ix2 p q) = (a (ix2 p q) + ∑ k : Fin 2048, x0 (ix2 k p) * x1 (ix2 k q) : EReal) := by
  unfold k0_pay2
  pointwise
theorem last (a : Vec Ideal S768x2048 .f32) (p : Fin 768) (q : Fin 2048) : k0_pay3 a (ix2 p q) = a (ix2 p q) := by
  unfold k0_pay3
  pointwise

/-- What point `t` adds to an entry. -/
def term (t : Fin cfg0.N) (p : Fin 768) (q : Fin 2048) : EReal := ∑ k : Fin 2048, Y m c (ix2 (lane t k) (row t p)) * X m c (ix2 (lane t k) q)

theorem step_blocks (t : Fin cfg0.N) (a : Vec Ideal S768x2048 .f32) (p : Fin 768) (q : Fin 2048) :
    k0_pay2 a (iblk m c 0 t) (iblk m c 1 t) (ix2 p q) = (a (ix2 p q) + term m c t p q : EReal) := by
  refine (step _ _ _ _ _).trans (congrArg (a (ix2 p q) + ·) (Finset.sum_congr rfl fun k _ => ?_))
  rw [in0, in1]

theorem acc_first (t : Fin cfg0.N) (h : t.val % 4 = 0) : (outsAt0 m c t.val t.isLt).2 = k0_pay2 k0_pay1 (iblk m c 0 t) (iblk m c 1 t) := by
  rw [outsAt0_A m c t h (by omega)]
  dsimp only
  unfold sout0_A_0
  frame_out

theorem acc_later (t : Fin cfg0.N) (h : ¬t.val % 4 = 0) : (outsAt0 m c t.val t.isLt).2
    = k0_pay2 (outsAt0 m c (t.val - 1) (Nat.lt_of_le_of_lt (Nat.sub_le _ _) t.isLt)).2 (iblk m c 0 t) (iblk m c 1 t) := by
  by_cases h1 : t.val % 4 = 3
  · rw [outsAt0_C m c t h h1]
    dsimp only
    unfold sout0_C_0
    frame_out
    rw [read_unread_whole]
  · rw [outsAt0_B m c t h h1]
    dsimp only
    unfold sout0_B_0
    frame_out
    rw [read_unread_whole]

theorem out_last (t : Fin cfg0.N) (h : t.val % 4 = 3) : (outsAt0 m c t.val t.isLt).1 = k0_pay3 (outsAt0 m c t.val t.isLt).2 := by
  rw [acc_later m c t (by omega), outsAt0_C m c t (by omega) h]
  dsimp only
  unfold out0_C_2
  frame_out
  rw [read_unread_whole]

/-- The gradient. -/
def G (r : Fin 6144) (s : Fin 2048) : EReal := ∑ k : Fin 8192, Y m c (ix2 k r) * X m c (ix2 k s)

/-- The accumulator at the last of a block's points. -/
theorem total (t : Fin cfg0.N) (h : t.val % 4 = 3) (p : Fin 768) (q : Fin 2048) :
    (outsAt0 m c t.val t.isLt).2 (ix2 p q) = G m c (row t p) q := by
  refine (Pipeline.eq_sum_fin_of_reset_step_of_flush (fun n h => ((outsAt0 m c n h).2 (ix2 p q) : EReal)) 4 0 (fun t => term m c t p q)
    (fun t h => by rw [acc_first m c t h, step_blocks, start]) (fun t h => by rw [acc_later m c t h, step_blocks]) t h).trans ?_
  rw [zero_add]
  refine Fin.sum_mul_add_congr (S := 4) (n := 2048) fun s k hl => ?_
  congr 3
  all_goals exact Fin.ext (by simp only [lane, row]; omega)

/-- The last point of a row's block. -/
def pt (r : Fin 6144) : Fin cfg0.N := ⟨r.val / 768 * 4 + 3, by rw [show cfg0.N = 32 from N_0]; omega⟩
def sub (r : Fin 6144) : Fin 768 := ⟨r.val % 768, by omega⟩
theorem pt_last (r : Fin 6144) : (pt r).val % 4 = 3 := by show (r.val / 768 * 4 + 3) % 4 = 3; omega
theorem row_pt (r : Fin 6144) : row (pt r) (sub r) = r := Fin.ext (show (r.val / 768 * 4 + 3) / 4 * 768 + r.val % 768 = r.val by omega)

theorem arr (r : Fin 6144) (s : Fin 2048) : (dats m 0 c).arrAt 2 cfg0.N (ix2 (high r) s) = G m c r s := by
  have e := emb (pt r) (sub r) s
  have b := congrFun ((dats m 0 c).read_blk_arrAt_eq_flushed 2
    (fun t t' hf hf' hne => (cfg0.win 2).disjoint_blk (fun h => hne (last_inj t t' ((flush0_2 t).mp hf) ((flush0_2 t').mp hf') h)) rfl)
    cfg0.N (pt r) (pt r).isLt ((flush0_2 _).mpr (pt_last r))) (inner (pt r) (sub r) s)
  have f : (dats m 0 c).flushed 2 (pt r) = (cfg0.win 2).cut (grid0.coords (pt r)) ((outsAt0 m c (pt r).val (pt r).isLt).1) :=
    congrArg ((cfg0.win 2).cut (grid0.coords (pt r))) (after0_2 m c (pt r))
  rw [f, out_last m c (pt r) (pt_last r)] at b
  rw [row_pt] at e
  refine ((congrArg ((dats m 0 c).arrAt 2 cfg0.N) e).symm.trans b).trans ?_
  refine (last _ _ _).trans ((total m c (pt r) (pt_last r) _ _).trans ?_)
  rw [row_pt]

theorem cut_at (A : FVec Ideal S6176x2048 .bf16) (r : Fin 6144) (s : Fin 2048) : cut A (ix2 r s) = A (ix2 (high r) s) := by
  unfold cut high
  pointwise

/-- The reference's array at an index. -/
theorem ref (Y : FVec Ideal Cert.Reference12Ideal.S8192x6144 .bf16) (X : FVec Ideal Cert.Reference12Ideal.S8192x2048 .bf16) (r : Fin 6144) (s : Fin 2048) :
    truncf .bf16 (transpose Cert.Reference12Ideal.S6144x2048 [1, 0] (transpose Cert.Reference12Ideal.S2048x6144 [1, 0]
      (Host.dotGeneral Cert.Reference12Ideal.dot_S8192x6144_S8192x2048_S6144x2048_0_0_1_1_n_n none
        (extf .f32 Y Cert.Reference12Ideal.Gen.bitsLt_bf16_f32) (extf .f32 X Cert.Reference12Ideal.Gen.bitsLt_bf16_f32)) Cert.Reference12Ideal.Gen.transposes_S6144x2048_S2048x6144_1_0)
      Cert.Reference12Ideal.Gen.transposes_S2048x6144_S6144x2048_1_0) Cert.Reference12Ideal.Gen.bitsLt_bf16_f32 (ix2 r s)
    = ∑ k : Fin 8192, (Y (ix2 k r) * X (ix2 k s) : EReal) := by
  pointwise

theorem algebraic : Cert.algebraic_Kernel12Ideal_Reference12Ideal := by
  intro m ρ m' ρ' _ hagree
  refine ⟨fun c => cut ((dats m 0 c).arrAt 2 cfg0.N), run m ρ, ?_⟩
  refine (θ_run _ _ _).mono (fun _ h c => ?_) (Cert.Reference12Ideal.Value.run (F := Ideal) m' ρ')
  obtain ⟨e, ha⟩ := h c
  obtain ⟨a0, a1⟩ := hagree c
  refine ⟨e.trans (funext fun y => ?_), ha⟩
  idx_vars y
  rw [a0, a1]
  exact (ref _ _ _ _).trans ((cut_at _ _ _).trans (arr m c _ _)).symm

theorem quiescent : Cert.quiescent_Reference12Ideal := fun m ρ _ =>
  (θ_run _ _ _).mono (fun r h => ⟨fun c => (h c).2, Idealize.ShloMosaic.sem_eq_zero_of_no_sems (by decide) r.2⟩)
    (Cert.Reference12Ideal.Value.run (F := Ideal) m ρ)

end Cert.ProjWeightGrad

end
-- ==== Proof.Adam.lean ====
/-
  One entry's step of the optimiser, as functions of the numbers it is taken from, for the modules whose calls take it.
-/
module

public import Idealize.ShloMosaic.Lib.Pointwise

@[expose] public section

noncomputable section

namespace Cert.Adam

open Idealize.ShloMosaic

/-- The new first moment, of the gradient and the old one. -/
def first (g m : EReal) : EReal := Ideal.ofBits .f32 0x3F666666#32 * m + Ideal.ofBits .f32 0x3DCCCCCD#32 * g

/-- The new second moment, of the gradient and the old one. -/
def second (g v : EReal) : EReal := Ideal.ofBits .f32 0x3F7FBE77#32 * v + Ideal.ofBits .f32 0x3A83126F#32 * (g * g)

/-- The weight's change, of the gradient, the weight and the two old moments. -/
def delta (g w m v : EReal) : EReal :=
  Ideal.ofBits .f32 0xBA83126F#32 * (Ideal.div (Ideal.div (first g m) (Ideal.ofBits .f32 0x3F26BD02#32))
    (Ideal.sqrt (Ideal.div (second g v) (Ideal.ofBits .f32 0x3C231ACC#32)) + Ideal.ofBits .f32 0x322BCC77#32)
    + Ideal.ofBits .f32 0x3C23D70A#32 * w)

/-! ## The reference's arrays, of any shape, at an index -/

variable {s : Shape} (h : (⟨0, ![]⟩ : Shape).BroadcastsInDim s (![] : Fin 0 → Fin s.rank)) (G W M V : FVec Ideal s .f32)

/-- A number as an array of the shape. -/
abbrev all (b : BitVec 32) : FVec Ideal s .f32 := broadcastInDim s ![] h (constant (⟨0, ![]⟩ : Shape) .f32 b)

abbrev firstArr : FVec Ideal s .f32 := addf (mulf (all h 0x3F666666#32) M) (mulf (all h 0x3DCCCCCD#32) G)
abbrev secondArr : FVec Ideal s .f32 := addf (mulf (all h 0x3F7FBE77#32) V) (mulf (all h 0x3A83126F#32) (mulf G G))
abbrev deltaArr : FVec Ideal s .f32 :=
  mulf (all h 0xBA83126F#32) (addf (Host.divf (Host.divf (firstArr h G M) (all h 0x3F26BD02#32))
    (addf (Host.sqrt (Host.divf (secondArr h G V) (all h 0x3C231ACC#32))) (all h 0x322BCC77#32))) (mulf (all h 0x3C23D70A#32) W))

theorem all_at (b : BitVec 32) (i : s.Idx) : all h b i = Ideal.ofBits .f32 b := rfl
theorem firstArr_at (i : s.Idx) : firstArr h G M i = first (G i) (M i) := rfl
theorem secondArr_at (i : s.Idx) : secondArr h G V i = second (G i) (V i) := rfl
theorem deltaArr_at (i : s.Idx) : deltaArr h G W M V i = delta (G i) (W i) (M i) (V i) := rfl

end Cert.Adam

end
-- ==== Proof.StepIn.lean ====
/-
  The optimiser's step for the mixer's input projection: each block of the call sums the four devices' blocks of the
  gradient and takes one step from the sum. The call's arrays have no leading axis of one; the lines before it drop that
  axis of its arguments and transpose them, and the lines after it do the reverse.
-/
module

public import proofs.«01_k».proof.Defs
public import proofs.«01_k».proof.Proof.Adam
public import proofs.«01_k».proof.Proof.Gen.Kernel14Ideal.Frame
public import proofs.«01_k».proof.Proof.Gen.Reference14Ideal.Run
public import Idealize.ShloMosaic.Lib.Pipeline.ValueKit
public import Idealize.ShloMosaic.Lib.Pointwise

@[expose] public section

set_option maxRecDepth 16384

noncomputable section

namespace Cert.StepIn

open Cert.Kernel14Ideal Cert.Kernel14Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

abbrev W : (⟨3, ![1, 2048, 1544]⟩ : Shape).Idx → EReal := m ((c : Thread nD τ).loc main_arg0)
abbrev M : (⟨3, ![1, 2048, 1544]⟩ : Shape).Idx → EReal := m ((c : Thread nD τ).loc main_arg1)
abbrev Q : (⟨3, ![1, 2048, 1544]⟩ : Shape).Idx → EReal := m ((c : Thread nD τ).loc main_arg2)
abbrev C : (⟨3, ![4, 1544, 2048]⟩ : Shape).Idx → EReal := m ((c : Thread nD τ).loc main_arg3)

/-! ## The lines before and after the call -/

/-- What the first lines make of an argument, and the last lines of an array of the call. -/
abbrev lower (X : FVec Ideal S1x2048x1544 .f32) : FVec Ideal S1544x2048 .f32 :=
  transpose S1544x2048 [1, 0] (shapeCast S2048x1544 X shapeCasts_S1x2048x1544_S2048x1544) transposes_S2048x1544_S1544x2048_1_0
abbrev lift (X : FVec Ideal S1544x2048 .f32) : FVec Ideal S1x2048x1544 .f32 :=
  broadcastInDim S1x2048x1544 ![1, 2] bcast_S2048x1544_S1x2048x1544_1_2 (transpose S2048x1544 [1, 0] X transposes_S1544x2048_S2048x1544_1_0)

theorem cast_at (X : FVec Ideal S1x2048x1544 .f32) (r : Fin 1544) (s : Fin 2048) : lower X (ix2 r s) = X (ix3 0 s r) := by
  pointwise

theorem lift_at (X : FVec Ideal S1544x2048 .f32) (a : Fin 1) (s : Fin 2048) (r : Fin 1544) : lift X (ix3 a s r) = X (ix2 r s) := by
  pointwise

theorem head0 : V m c main_v1 = lower (m ((c : Thread nD τ).loc main_arg0)) := by
  unfold V V0
  simp only [hostOps0, List.flatten_cons, List.flatten_nil, List.append_nil]
  after_results
  rfl
theorem head1 : V m c main_v3 = lower (m ((c : Thread nD τ).loc main_arg1)) := by
  unfold V V0
  simp only [hostOps0, List.flatten_cons, List.flatten_nil, List.append_nil]
  after_results
  rfl
theorem head2 : V m c main_v5 = lower (m ((c : Thread nD τ).loc main_arg2)) := by
  unfold V V0
  simp only [hostOps0, List.flatten_cons, List.flatten_nil, List.append_nil]
  after_results
  rfl

theorem tail4 : Pipeline.afterTail₀ cfgs (dats m) 0 (V0 m) [hostOps1] c main_v8 = lift ((dats m 0 c).arrAt 4 cfg0.N) := by
  unfold Pipeline.afterTail₀
  simp only [hostOps1, List.flatten_cons, List.flatten_nil, List.append_nil]
  after_results
  exact congrArg lift (Pipeline.withArrays_arr spec0 winFacts0.arr_inj c (V0 m c) _ 4)
theorem tail5 : Pipeline.afterTail₀ cfgs (dats m) 0 (V0 m) [hostOps1] c main_v10 = lift ((dats m 0 c).arrAt 5 cfg0.N) := by
  unfold Pipeline.afterTail₀
  simp only [hostOps1, List.flatten_cons, List.flatten_nil, List.append_nil]
  after_results
  exact congrArg lift (Pipeline.withArrays_arr spec0 winFacts0.arr_inj c (V0 m c) _ 5)
theorem tail6 : Pipeline.afterTail₀ cfgs (dats m) 0 (V0 m) [hostOps1] c main_v12 = lift ((dats m 0 c).arrAt 6 cfg0.N) := by
  unfold Pipeline.afterTail₀
  simp only [hostOps1, List.flatten_cons, List.flatten_nil, List.append_nil]
  after_results
  exact congrArg lift (Pipeline.withArrays_arr spec0 winFacts0.arr_inj c (V0 m c) _ 6)
theorem tail7 : Pipeline.afterTail₀ cfgs (dats m) 0 (V0 m) [hostOps1] c main_v14 = lift ((dats m 0 c).arrAt 7 cfg0.N) := by
  unfold Pipeline.afterTail₀
  simp only [hostOps1, List.flatten_cons, List.flatten_nil, List.append_nil]
  after_results
  exact congrArg lift (Pipeline.withArrays_arr spec0 winFacts0.arr_inj c (V0 m c) _ 7)

theorem run : θ_run defs (onTc (τ := τ) (main (F := Ideal))) ⟨m, fun _ => 0, ρ⟩ fun r => ∀ c : Dev nD,
      r.2.mem ((c : Thread nD τ).loc main_v8) = lift ((dats m 0 c).arrAt 4 cfg0.N)
      ∧ r.2.mem ((c : Thread nD τ).loc main_v10) = lift ((dats m 0 c).arrAt 5 cfg0.N)
      ∧ r.2.mem ((c : Thread nD τ).loc main_v12) = lift ((dats m 0 c).arrAt 6 cfg0.N)
      ∧ r.2.mem ((c : Thread nD τ).loc main_v14) = lift ((dats m 0 c).arrAt 7 cfg0.N)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
      ⟨((h.1 c).2 main_v8 (Pipeline.mem_restRefs_of main_v8 (by decide) (by decide))).trans (tail4 m c),
       ((h.1 c).2 main_v10 (Pipeline.mem_restRefs_of main_v10 (by decide) (by decide))).trans (tail5 m c),
       ((h.1 c).2 main_v12 (Pipeline.mem_restRefs_of main_v12 (by decide) (by decide))).trans (tail6 m c),
       ((h.1 c).2 main_v14 (Pipeline.mem_restRefs_of main_v14 (by decide) (by decide))).trans (tail7 m c), h.2 c⟩)
    (θ_run_and (run_main m ρ) (unchanged m ρ))

/-! ## The blocks -/

theorem tlt (t : Fin cfg0.N) : t.val < 8 := lt_of_lt_of_eq t.isLt (show cfg0.N = 8 from N_0)
theorem idx0 : ∀ t : Fin cfg0.N, win0_0.index t 0 = 0 ∧ win0_0.index t 1 = t.val :=
  (by decide +kernel : ∀ t : Fin grid0.N, win0_0.index t 0 = 0 ∧ win0_0.index t 1 = t.val)
theorem idx1 : ∀ t : Fin cfg0.N, win0_1.index t 0 = 0 ∧ win0_1.index t 1 = t.val :=
  (by decide +kernel : ∀ t : Fin grid0.N, win0_1.index t 0 = 0 ∧ win0_1.index t 1 = t.val)
theorem idx2 : ∀ t : Fin cfg0.N, win0_2.index t 0 = 0 ∧ win0_2.index t 1 = t.val :=
  (by decide +kernel : ∀ t : Fin grid0.N, win0_2.index t 0 = 0 ∧ win0_2.index t 1 = t.val)
theorem idx3 : ∀ t : Fin cfg0.N, win0_3.index t 0 = 0 ∧ win0_3.index t 1 = 0 ∧ win0_3.index t 2 = t.val :=
  (by decide +kernel : ∀ t : Fin grid0.N, win0_3.index t 0 = 0 ∧ win0_3.index t 1 = 0 ∧ win0_3.index t 2 = t.val)
theorem idx4 : ∀ t : Fin cfg0.N, win0_4.index t 0 = 0 ∧ win0_4.index t 1 = t.val :=
  (by decide +kernel : ∀ t : Fin grid0.N, win0_4.index t 0 = 0 ∧ win0_4.index t 1 = t.val)
theorem idx5 : ∀ t : Fin cfg0.N, win0_5.index t 0 = 0 ∧ win0_5.index t 1 = t.val :=
  (by decide +kernel : ∀ t : Fin grid0.N, win0_5.index t 0 = 0 ∧ win0_5.index t 1 = t.val)
theorem idx6 : ∀ t : Fin cfg0.N, win0_6.index t 0 = 0 ∧ win0_6.index t 1 = t.val :=
  (by decide +kernel : ∀ t : Fin grid0.N, win0_6.index t 0 = 0 ∧ win0_6.index t 1 = t.val)
theorem idx7 : ∀ t : Fin cfg0.N, win0_7.index t 0 = 0 ∧ win0_7.index t 1 = t.val :=
  (by decide +kernel : ∀ t : Fin grid0.N, win0_7.index t 0 = 0 ∧ win0_7.index t 1 = t.val)

/-- Column `q` of point `t`'s block, in the whole array; and the point and the column in its block that a column is of. -/
def col (t : Fin cfg0.N) (q : Fin 256) : Fin 2048 := ⟨t.val * 256 + q.val, by have := tlt t; omega⟩
def pt (s : Fin 2048) : Fin cfg0.N := ⟨s.val / 256, by rw [show cfg0.N = 8 from N_0]; omega⟩
def sub (s : Fin 2048) : Fin 256 := ⟨s.val % 256, by omega⟩
theorem col_pt (s : Fin 2048) : col (pt s) (sub s) = s := Fin.ext (show s.val / 256 * 256 + s.val % 256 = s.val by omega)

theorem in0 (t : Fin cfg0.N) (p : Fin 1544) (q : Fin 256) : iblk m c 0 t (ix2 p q) = W m c (ix3 0 (col t q) p) := by
  have := tlt t
  refine Eq.trans ?_ ((congrFun (head0 m c) _).trans (cast_at _ _ _))
  blk_ext [iblk, idx0 t, col]
theorem in1 (t : Fin cfg0.N) (p : Fin 1544) (q : Fin 256) : iblk m c 1 t (ix2 p q) = M m c (ix3 0 (col t q) p) := by
  have := tlt t
  refine Eq.trans ?_ ((congrFun (head1 m c) _).trans (cast_at _ _ _))
  blk_ext [iblk, idx1 t, col]
theorem in2 (t : Fin cfg0.N) (p : Fin 1544) (q : Fin 256) : iblk m c 2 t (ix2 p q) = Q m c (ix3 0 (col t q) p) := by
  have := tlt t
  refine Eq.trans ?_ ((congrFun (head2 m c) _).trans (cast_at _ _ _))
  blk_ext [iblk, idx2 t, col]
theorem in3 (t : Fin cfg0.N) (k : Fin 4) (p : Fin 1544) (q : Fin 256) : iblk m c 3 t (ix3 k p q) = C m c (ix3 k p (col t q)) := by
  have := tlt t
  refine Eq.trans ?_ (congrFun (V_main_arg3 m c) _)
  blk_ext [iblk, idx3 t, col]

/-! ## What the body computes of its blocks -/

section Body

variable (x0 x1 x2 : Vec Ideal S1544x256 .f32) (x3 : Vec Ideal S4x1544x256 .bf16) (p : Fin 1544) (q : Fin 256)

/-- The sum of the four devices' entries. -/
def gsum : EReal := x3 (ix3 0 p q) + x3 (ix3 1 p q) + x3 (ix3 2 p q) + x3 (ix3 3 p q)

theorem ld (x : Vec Ideal S1544x256 .f32) : View.ld x r0_4 = x := View.ld_unit_zero (by decide) _ _

theorem body4 : out0_4 x0 x1 x2 x3 (ix2 p q) = gsum x3 p q := by
  unfold_out out0_4
  refine (congrFun (View.canon_unit_zero (by decide) _ _) _).trans ?_
  unfold_payloads
  pointwise
  rfl
theorem body5 : out0_5 x0 x1 x2 x3 (ix2 p q) = Adam.delta (gsum x3 p q) (x0 (ix2 p q)) (x1 (ix2 p q)) (x2 (ix2 p q)) := by
  unfold_out out0_5
  refine (congrFun (View.canon_unit_zero (by decide) _ _) _).trans ?_
  unfold_payloads
  rw [ld, ld, ld]
  pointwise
  rfl
theorem body6 : out0_6 x0 x1 x2 x3 (ix2 p q) = Adam.first (gsum x3 p q) (x1 (ix2 p q)) := by
  unfold_out out0_6
  refine (congrFun (View.canon_unit_zero (by decide) _ _) _).trans ?_
  unfold_payloads
  rw [ld]
  pointwise
  rfl
theorem body7 : out0_7 x0 x1 x2 x3 (ix2 p q) = Adam.second (gsum x3 p q) (x2 (ix2 p q)) := by
  unfold_out out0_7
  refine (congrFun (View.canon_unit_zero (by decide) _ _) _).trans ?_
  unfold_payloads
  rw [ld]
  pointwise
  rfl

end Body

/-! ## The call's arrays -/

/-- The gradient, summed over the devices. -/
def G (r : Fin 1544) (s : Fin 2048) : EReal := ∑ k : Fin 4, C m c (ix3 k r s)

theorem gsum_in (t : Fin cfg0.N) (p : Fin 1544) (q : Fin 256) : gsum (iblk m c 3 t) p q = G m c p (col t q) := by
  unfold gsum G
  rw [Fin.sum_univ_four, in3, in3, in3, in3]

/-- Distinct points' blocks of an output are distinct, so an entry of the array is the one its block's point leaves. -/
theorem at_of (w : Fin cfg0.W) (hk : (cfg0.win w).kind = Pipeline.WinKind.blocked) (hi : ∀ t t' : Fin cfg0.N, (cfg0.win w).index t = (cfg0.win w).index t' → t = t')
    (t : Fin cfg0.N) (hf : (cfg0.win w).flush t = true) (y : ((cfg0.win w).xblock (cfg0.grid.coords t)).Idx) :
    ((cfg0.win w).blk t).view.read (Elt Ideal) ((dats m 0 c).arrAt w cfg0.N) y = (cfg0.win w).cut (grid0.coords t) ((dats m 0 c).after w t) y :=
  congrFun ((dats m 0 c).read_blk_arrAt_eq_flushed w
    (fun t t' _ _ hne => (cfg0.win w).disjoint_blk (fun h => hne (hi t t' h)) hk) cfg0.N t t.isLt hf) y

theorem arr4 (r : Fin 1544) (s : Fin 2048) : (dats m 0 c).arrAt 4 cfg0.N (ix2 r s) = G m c r s := by
  have e : (win0_4.blk (pt s)).view.emb (ix2 r (sub s)) = ix2 r (col (pt s) (sub s)) := by
    have := tlt (pt s)
    blk_ext [idx4 (pt s), col]
  have b := at_of m c 4 rfl (by decide +kernel : ∀ t t' : Fin grid0.N, win0_4.index t = win0_4.index t' → t = t') (pt s) (flush0_4 _) (ix2 r (sub s))
  rw [col_pt] at e
  rw [after0_4] at b
  refine ((congrArg ((dats m 0 c).arrAt 4 cfg0.N) e).symm.trans b).trans ?_
  refine (body4 (iblk m c 0 (pt s)) (iblk m c 1 (pt s)) (iblk m c 2 (pt s)) (iblk m c 3 (pt s)) _ _).trans ?_
  rw [gsum_in, col_pt]
theorem arr5 (r : Fin 1544) (s : Fin 2048) : (dats m 0 c).arrAt 5 cfg0.N (ix2 r s) = Adam.delta (G m c r s) (W m c (ix3 0 s r)) (M m c (ix3 0 s r)) (Q m c (ix3 0 s r)) := by
  have e : (win0_5.blk (pt s)).view.emb (ix2 r (sub s)) = ix2 r (col (pt s) (sub s)) := by
    have := tlt (pt s)
    blk_ext [idx5 (pt s), col]
  have b := at_of m c 5 rfl (by decide +kernel : ∀ t t' : Fin grid0.N, win0_5.index t = win0_5.index t' → t = t') (pt s) (flush0_5 _) (ix2 r (sub s))
  rw [col_pt] at e
  rw [after0_5] at b
  refine ((congrArg ((dats m 0 c).arrAt 5 cfg0.N) e).symm.trans b).trans ?_
  refine (body5 (iblk m c 0 (pt s)) (iblk m c 1 (pt s)) (iblk m c 2 (pt s)) (iblk m c 3 (pt s)) _ _).trans ?_
  rw [gsum_in, in0, in1, in2, col_pt]
theorem arr6 (r : Fin 1544) (s : Fin 2048) : (dats m 0 c).arrAt 6 cfg0.N (ix2 r s) = Adam.first (G m c r s) (M m c (ix3 0 s r)) := by
  have e : (win0_6.blk (pt s)).view.emb (ix2 r (sub s)) = ix2 r (col (pt s) (sub s)) := by
    have := tlt (pt s)
    blk_ext [idx6 (pt s), col]
  have b := at_of m c 6 rfl (by decide +kernel : ∀ t t' : Fin grid0.N, win0_6.index t = win0_6.index t' → t = t') (pt s) (flush0_6 _) (ix2 r (sub s))
  rw [col_pt] at e
  rw [after0_6] at b
  refine ((congrArg ((dats m 0 c).arrAt 6 cfg0.N) e).symm.trans b).trans ?_
  refine (body6 (iblk m c 0 (pt s)) (iblk m c 1 (pt s)) (iblk m c 2 (pt s)) (iblk m c 3 (pt s)) _ _).trans ?_
  rw [gsum_in, in1, col_pt]
theorem arr7 (r : Fin 1544) (s : Fin 2048) : (dats m 0 c).arrAt 7 cfg0.N (ix2 r s) = Adam.second (G m c r s) (Q m c (ix3 0 s r)) := by
  have e : (win0_7.blk (pt s)).view.emb (ix2 r (sub s)) = ix2 r (col (pt s) (sub s)) := by
    have := tlt (pt s)
    blk_ext [idx7 (pt s), col]
  have b := at_of m c 7 rfl (by decide +kernel : ∀ t t' : Fin grid0.N, win0_7.index t = win0_7.index t' → t = t') (pt s) (flush0_7 _) (ix2 r (sub s))
  rw [col_pt] at e
  rw [after0_7] at b
  refine ((congrArg ((dats m 0 c).arrAt 7 cfg0.N) e).symm.trans b).trans ?_
  refine (body7 (iblk m c 0 (pt s)) (iblk m c 1 (pt s)) (iblk m c 2 (pt s)) (iblk m c 3 (pt s)) _ _).trans ?_
  rw [gsum_in, in2, col_pt]

/-! ## The reference's sum, and the claim -/

theorem sum_at (C : FVec Ideal Cert.Reference14Ideal.S4x1544x2048 .bf16) (a : Fin 1) (s : Fin 2048) (r : Fin 1544) :
    Host.reduceAdd (extf .f32 (broadcastInDim Cert.Reference14Ideal.S4x1x2048x1544 ![0, 2, 3] Cert.Reference14Ideal.Gen.bcast_S4x2048x1544_S4x1x2048x1544_0_2_3
      (transpose Cert.Reference14Ideal.S4x2048x1544 [0, 2, 1] C Cert.Reference14Ideal.Gen.transposes_S4x1544x2048_S4x2048x1544_0_2_1))
      Cert.Reference14Ideal.Gen.bitsLt_bf16_f32) (constant Cert.Reference14Ideal.S_ .f32 0x00000000#32)
      Cert.Reference14Ideal.Gen.reducesTo_S4x1x2048x1544_S1x2048x1544_d0 Cert.Reference14Ideal.Gen.h_S_ (ix3 a s r) = ∑ k : Fin 4, (C (ix3 k r s) : EReal) := by
  pointwise

theorem algebraic : Cert.algebraic_Kernel14Ideal_Reference14Ideal := by
  intro m ρ m' ρ' _ hagree
  refine ⟨fun c => lift ((dats m 0 c).arrAt 4 cfg0.N), fun c => lift ((dats m 0 c).arrAt 5 cfg0.N),
    fun c => lift ((dats m 0 c).arrAt 6 cfg0.N), fun c => lift ((dats m 0 c).arrAt 7 cfg0.N), run m ρ, ?_⟩
  refine (θ_run _ _ _).mono (fun _ h c => ?_) (Cert.Reference14Ideal.Value.run (F := Ideal) m' ρ')
  obtain ⟨e4, e5, e6, e7, ha⟩ := h c
  obtain ⟨a0, a1, a2, a3⟩ := hagree c
  refine ⟨e4.trans (funext fun y => ?_), e5.trans (funext fun y => ?_), e6.trans (funext fun y => ?_), e7.trans (funext fun y => ?_), ha⟩
  all_goals
    idx_vars y
    rw [Subsingleton.elim y0 0]
  · rw [a3]
    exact (sum_at _ _ _ _).trans ((lift_at _ _ _ _).trans (arr4 m c _ _)).symm
  · rw [a0, a1, a2, a3]
    refine (Adam.deltaArr_at _ _ _ _ _ _).trans (Eq.trans ?_ ((lift_at _ _ _ _).trans (arr5 m c _ _)).symm)
    rw [sum_at]
    rfl
  · rw [a1, a3]
    refine (Adam.firstArr_at _ _ _ _).trans (Eq.trans ?_ ((lift_at _ _ _ _).trans (arr6 m c _ _)).symm)
    rw [sum_at]
    rfl
  · rw [a2, a3]
    refine (Adam.secondArr_at _ _ _ _).trans (Eq.trans ?_ ((lift_at _ _ _ _).trans (arr7 m c _ _)).symm)
    rw [sum_at]
    rfl

theorem quiescent : Cert.quiescent_Reference14Ideal := fun m ρ _ =>
  (θ_run _ _ _).mono (fun r h => ⟨fun c => (h c).2.2.2.2, Idealize.ShloMosaic.sem_eq_zero_of_no_sems (by decide) r.2⟩)
    (Cert.Reference14Ideal.Value.run (F := Ideal) m ρ)

end Cert.StepIn

end
-- ==== Proof.StepOut.lean ====
/-
  The optimiser's step for the mixer's output projection: each block of the call sums the four devices' blocks of the
  gradient and takes one step from the sum. The call's arrays have no leading axis of one; the lines before it drop that
  axis of its arguments and the lines after it put it back.
-/
module

public import proofs.«01_k».proof.Defs
public import proofs.«01_k».proof.Proof.Adam
public import proofs.«01_k».proof.Proof.Gen.Kernel15Ideal.Frame
public import proofs.«01_k».proof.Proof.Gen.Reference15Ideal.Run
public import Idealize.ShloMosaic.Lib.Pipeline.ValueKit
public import Idealize.ShloMosaic.Lib.Pointwise

@[expose] public section

set_option maxRecDepth 16384

noncomputable section

namespace Cert.StepOut

open Cert.Kernel15Ideal Cert.Kernel15Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

abbrev W : (⟨3, ![1, 512, 2048]⟩ : Shape).Idx → EReal := m ((c : Thread nD τ).loc main_arg0)
abbrev M : (⟨3, ![1, 512, 2048]⟩ : Shape).Idx → EReal := m ((c : Thread nD τ).loc main_arg1)
abbrev Q : (⟨3, ![1, 512, 2048]⟩ : Shape).Idx → EReal := m ((c : Thread nD τ).loc main_arg2)
abbrev C : (⟨3, ![4, 512, 2048]⟩ : Shape).Idx → EReal := m ((c : Thread nD τ).loc main_arg3)

/-! ## The lines before and after the call -/

theorem cast_at (X : FVec Ideal S1x512x2048 .f32) (r : Fin 512) (s : Fin 2048) :
    shapeCast S512x2048 X shapeCasts_S1x512x2048_S512x2048 (ix2 r s) = X (ix3 0 r s) := by
  pointwise

theorem lift_at (X : FVec Ideal S512x2048 .f32) (a : Fin 1) (r : Fin 512) (s : Fin 2048) :
    broadcastInDim S1x512x2048 ![1, 2] bcast_S512x2048_S1x512x2048_1_2 X (ix3 a r s) = X (ix2 r s) := by
  pointwise

theorem head0 : V m c main_v0 = shapeCast S512x2048 (m ((c : Thread nD τ).loc main_arg0)) shapeCasts_S1x512x2048_S512x2048 := by
  unfold V V0
  simp only [hostOps0, List.flatten_cons, List.flatten_nil, List.append_nil]
  after_results
  rfl
theorem head1 : V m c main_v1 = shapeCast S512x2048 (m ((c : Thread nD τ).loc main_arg1)) shapeCasts_S1x512x2048_S512x2048 := by
  unfold V V0
  simp only [hostOps0, List.flatten_cons, List.flatten_nil, List.append_nil]
  after_results
  rfl
theorem head2 : V m c main_v2 = shapeCast S512x2048 (m ((c : Thread nD τ).loc main_arg2)) shapeCasts_S1x512x2048_S512x2048 := by
  unfold V V0
  simp only [hostOps0, List.flatten_cons, List.flatten_nil, List.append_nil]
  after_results
  rfl

/-- What the last lines make of an array of the call. -/
abbrev lift (X : FVec Ideal S512x2048 .f32) : FVec Ideal S1x512x2048 .f32 := broadcastInDim S1x512x2048 ![1, 2] bcast_S512x2048_S1x512x2048_1_2 X

theorem tail4 : Pipeline.afterTail₀ cfgs (dats m) 0 (V0 m) [hostOps1] c main_v4 = lift ((dats m 0 c).arrAt 4 cfg0.N) := by
  unfold Pipeline.afterTail₀
  simp only [hostOps1, List.flatten_cons, List.flatten_nil, List.append_nil]
  after_results
  exact congrArg lift (Pipeline.withArrays_arr spec0 winFacts0.arr_inj c (V0 m c) _ 4)
theorem tail5 : Pipeline.afterTail₀ cfgs (dats m) 0 (V0 m) [hostOps1] c main_v5 = lift ((dats m 0 c).arrAt 5 cfg0.N) := by
  unfold Pipeline.afterTail₀
  simp only [hostOps1, List.flatten_cons, List.flatten_nil, List.append_nil]
  after_results
  exact congrArg lift (Pipeline.withArrays_arr spec0 winFacts0.arr_inj c (V0 m c) _ 5)
theorem tail6 : Pipeline.afterTail₀ cfgs (dats m) 0 (V0 m) [hostOps1] c main_v6 = lift ((dats m 0 c).arrAt 6 cfg0.N) := by
  unfold Pipeline.afterTail₀
  simp only [hostOps1, List.flatten_cons, List.flatten_nil, List.append_nil]
  after_results
  exact congrArg lift (Pipeline.withArrays_arr spec0 winFacts0.arr_inj c (V0 m c) _ 6)
theorem tail7 : Pipeline.afterTail₀ cfgs (dats m) 0 (V0 m) [hostOps1] c main_v7 = lift ((dats m 0 c).arrAt 7 cfg0.N) := by
  unfold Pipeline.afterTail₀
  simp only [hostOps1, List.flatten_cons, List.flatten_nil, List.append_nil]
  after_results
  exact congrArg lift (Pipeline.withArrays_arr spec0 winFacts0.arr_inj c (V0 m c) _ 7)

theorem run : θ_run defs (onTc (τ := τ) (main (F := Ideal))) ⟨m, fun _ => 0, ρ⟩ fun r => ∀ c : Dev nD,
      r.2.mem ((c : Thread nD τ).loc main_v4) = lift ((dats m 0 c).arrAt 4 cfg0.N)
      ∧ r.2.mem ((c : Thread nD τ).loc main_v5) = lift ((dats m 0 c).arrAt 5 cfg0.N)
      ∧ r.2.mem ((c : Thread nD τ).loc main_v6) = lift ((dats m 0 c).arrAt 6 cfg0.N)
      ∧ r.2.mem ((c : Thread nD τ).loc main_v7) = lift ((dats m 0 c).arrAt 7 cfg0.N)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
      ⟨((h.1 c).2 main_v4 (Pipeline.mem_restRefs_of main_v4 (by decide) (by decide))).trans (tail4 m c),
       ((h.1 c).2 main_v5 (Pipeline.mem_restRefs_of main_v5 (by decide) (by decide))).trans (tail5 m c),
       ((h.1 c).2 main_v6 (Pipeline.mem_restRefs_of main_v6 (by decide) (by decide))).trans (tail6 m c),
       ((h.1 c).2 main_v7 (Pipeline.mem_restRefs_of main_v7 (by decide) (by decide))).trans (tail7 m c), h.2 c⟩)
    (θ_run_and (run_main m ρ) (unchanged m ρ))

/-! ## The blocks -/

theorem tlt (t : Fin cfg0.N) : t.val < 2 := lt_of_lt_of_eq t.isLt (show cfg0.N = 2 from N_0)
theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = 0 ∧ win0_3.index t 1 = t.val ∧ win0_3.index t 2 = 0 :=
  (by decide +kernel : ∀ t : Fin grid0.N, win0_3.index t 0 = 0 ∧ win0_3.index t 1 = t.val ∧ win0_3.index t 2 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)
theorem idx7 : ∀ t : Fin cfg0.N, win0_7.index t 0 = t.val ∧ win0_7.index t 1 = 0 :=
  (by decide +kernel : ∀ t : Fin grid0.N, win0_7.index t 0 = t.val ∧ win0_7.index t 1 = 0)

/-- Row `p` of point `t`'s block, in the whole array; and the point and the row in its block that a row is of. -/
def row (t : Fin cfg0.N) (p : Fin 256) : Fin 512 := ⟨t.val * 256 + p.val, by have := tlt t; omega⟩
def pt (r : Fin 512) : Fin cfg0.N := ⟨r.val / 256, by rw [show cfg0.N = 2 from N_0]; omega⟩
def sub (r : Fin 512) : Fin 256 := ⟨r.val % 256, by omega⟩
theorem row_pt (r : Fin 512) : row (pt r) (sub r) = r := Fin.ext (show r.val / 256 * 256 + r.val % 256 = r.val by omega)

theorem in0 (t : Fin cfg0.N) (p : Fin 256) (q : Fin 2048) : iblk m c 0 t (ix2 p q) = W m c (ix3 0 (row t p) q) := by
  have := tlt t
  refine Eq.trans ?_ ((congrFun (head0 m c) _).trans (cast_at _ _ _))
  blk_ext [iblk, idx0 t, row]
theorem in1 (t : Fin cfg0.N) (p : Fin 256) (q : Fin 2048) : iblk m c 1 t (ix2 p q) = M m c (ix3 0 (row t p) q) := by
  have := tlt t
  refine Eq.trans ?_ ((congrFun (head1 m c) _).trans (cast_at _ _ _))
  blk_ext [iblk, idx1 t, row]
theorem in2 (t : Fin cfg0.N) (p : Fin 256) (q : Fin 2048) : iblk m c 2 t (ix2 p q) = Q m c (ix3 0 (row t p) q) := by
  have := tlt t
  refine Eq.trans ?_ ((congrFun (head2 m c) _).trans (cast_at _ _ _))
  blk_ext [iblk, idx2 t, row]
theorem in3 (t : Fin cfg0.N) (k : Fin 4) (p : Fin 256) (q : Fin 2048) : iblk m c 3 t (ix3 k p q) = C m c (ix3 k (row t p) q) := by
  have := tlt t
  refine Eq.trans ?_ (congrFun (V_main_arg3 m c) _)
  blk_ext [iblk, idx3 t, row]

/-! ## What the body computes of its blocks -/

section Body

variable (x0 x1 x2 : Vec Ideal S256x2048 .f32) (x3 : Vec Ideal S4x256x2048 .bf16) (p : Fin 256) (q : Fin 2048)

/-- The sum of the four devices' entries. -/
def gsum : EReal := x3 (ix3 0 p q) + x3 (ix3 1 p q) + x3 (ix3 2 p q) + x3 (ix3 3 p q)

theorem ld (x : Vec Ideal S256x2048 .f32) : View.ld x r0_4 = x := View.ld_unit_zero (by decide) _ _

theorem body4 : out0_4 x0 x1 x2 x3 (ix2 p q) = gsum x3 p q := by
  unfold_out out0_4
  refine (congrFun (View.canon_unit_zero (by decide) _ _) _).trans ?_
  unfold_payloads
  pointwise
  rfl
theorem body5 : out0_5 x0 x1 x2 x3 (ix2 p q) = Adam.delta (gsum x3 p q) (x0 (ix2 p q)) (x1 (ix2 p q)) (x2 (ix2 p q)) := by
  unfold_out out0_5
  refine (congrFun (View.canon_unit_zero (by decide) _ _) _).trans ?_
  unfold_payloads
  rw [ld, ld, ld]
  pointwise
  rfl
theorem body6 : out0_6 x0 x1 x2 x3 (ix2 p q) = Adam.first (gsum x3 p q) (x1 (ix2 p q)) := by
  unfold_out out0_6
  refine (congrFun (View.canon_unit_zero (by decide) _ _) _).trans ?_
  unfold_payloads
  rw [ld]
  pointwise
  rfl
theorem body7 : out0_7 x0 x1 x2 x3 (ix2 p q) = Adam.second (gsum x3 p q) (x2 (ix2 p q)) := by
  unfold_out out0_7
  refine (congrFun (View.canon_unit_zero (by decide) _ _) _).trans ?_
  unfold_payloads
  rw [ld]
  pointwise
  rfl

end Body

/-! ## The call's arrays -/

/-- The gradient, summed over the devices. -/
def G (r : Fin 512) (s : Fin 2048) : EReal := ∑ k : Fin 4, C m c (ix3 k r s)

theorem gsum_in (t : Fin cfg0.N) (p : Fin 256) (q : Fin 2048) : gsum (iblk m c 3 t) p q = G m c (row t p) q := by
  unfold gsum G
  rw [Fin.sum_univ_four, in3, in3, in3, in3]

/-- Distinct points' blocks of an output are distinct, so an entry of the array is the one its block's point leaves. -/
theorem at_of (w : Fin cfg0.W) (hk : (cfg0.win w).kind = Pipeline.WinKind.blocked) (hi : ∀ t t' : Fin cfg0.N, (cfg0.win w).index t = (cfg0.win w).index t' → t = t')
    (t : Fin cfg0.N) (hf : (cfg0.win w).flush t = true) (y : ((cfg0.win w).xblock (cfg0.grid.coords t)).Idx) :
    ((cfg0.win w).blk t).view.read (Elt Ideal) ((dats m 0 c).arrAt w cfg0.N) y = (cfg0.win w).cut (grid0.coords t) ((dats m 0 c).after w t) y :=
  congrFun ((dats m 0 c).read_blk_arrAt_eq_flushed w
    (fun t t' _ _ hne => (cfg0.win w).disjoint_blk (fun h => hne (hi t t' h)) hk) cfg0.N t t.isLt hf) y

theorem arr4 (r : Fin 512) (s : Fin 2048) : (dats m 0 c).arrAt 4 cfg0.N (ix2 r s) = G m c r s := by
  have e : (win0_4.blk (pt r)).view.emb (ix2 (sub r) s) = ix2 (row (pt r) (sub r)) s := by
    have := tlt (pt r)
    blk_ext [idx4 (pt r), row]
  have b := at_of m c 4 rfl (by decide +kernel : ∀ t t' : Fin grid0.N, win0_4.index t = win0_4.index t' → t = t') (pt r) (flush0_4 _) (ix2 (sub r) s)
  rw [row_pt] at e
  rw [after0_4] at b
  refine ((congrArg ((dats m 0 c).arrAt 4 cfg0.N) e).symm.trans b).trans ?_
  refine (body4 (iblk m c 0 (pt r)) (iblk m c 1 (pt r)) (iblk m c 2 (pt r)) (iblk m c 3 (pt r)) _ _).trans ?_
  rw [gsum_in, row_pt]
theorem arr5 (r : Fin 512) (s : Fin 2048) : (dats m 0 c).arrAt 5 cfg0.N (ix2 r s) = Adam.delta (G m c r s) (W m c (ix3 0 r s)) (M m c (ix3 0 r s)) (Q m c (ix3 0 r s)) := by
  have e : (win0_5.blk (pt r)).view.emb (ix2 (sub r) s) = ix2 (row (pt r) (sub r)) s := by
    have := tlt (pt r)
    blk_ext [idx5 (pt r), row]
  have b := at_of m c 5 rfl (by decide +kernel : ∀ t t' : Fin grid0.N, win0_5.index t = win0_5.index t' → t = t') (pt r) (flush0_5 _) (ix2 (sub r) s)
  rw [row_pt] at e
  rw [after0_5] at b
  refine ((congrArg ((dats m 0 c).arrAt 5 cfg0.N) e).symm.trans b).trans ?_
  refine (body5 (iblk m c 0 (pt r)) (iblk m c 1 (pt r)) (iblk m c 2 (pt r)) (iblk m c 3 (pt r)) _ _).trans ?_
  rw [gsum_in, in0, in1, in2, row_pt]
theorem arr6 (r : Fin 512) (s : Fin 2048) : (dats m 0 c).arrAt 6 cfg0.N (ix2 r s) = Adam.first (G m c r s) (M m c (ix3 0 r s)) := by
  have e : (win0_6.blk (pt r)).view.emb (ix2 (sub r) s) = ix2 (row (pt r) (sub r)) s := by
    have := tlt (pt r)
    blk_ext [idx6 (pt r), row]
  have b := at_of m c 6 rfl (by decide +kernel : ∀ t t' : Fin grid0.N, win0_6.index t = win0_6.index t' → t = t') (pt r) (flush0_6 _) (ix2 (sub r) s)
  rw [row_pt] at e
  rw [after0_6] at b
  refine ((congrArg ((dats m 0 c).arrAt 6 cfg0.N) e).symm.trans b).trans ?_
  refine (body6 (iblk m c 0 (pt r)) (iblk m c 1 (pt r)) (iblk m c 2 (pt r)) (iblk m c 3 (pt r)) _ _).trans ?_
  rw [gsum_in, in1, row_pt]
theorem arr7 (r : Fin 512) (s : Fin 2048) : (dats m 0 c).arrAt 7 cfg0.N (ix2 r s) = Adam.second (G m c r s) (Q m c (ix3 0 r s)) := by
  have e : (win0_7.blk (pt r)).view.emb (ix2 (sub r) s) = ix2 (row (pt r) (sub r)) s := by
    have := tlt (pt r)
    blk_ext [idx7 (pt r), row]
  have b := at_of m c 7 rfl (by decide +kernel : ∀ t t' : Fin grid0.N, win0_7.index t = win0_7.index t' → t = t') (pt r) (flush0_7 _) (ix2 (sub r) s)
  rw [row_pt] at e
  rw [after0_7] at b
  refine ((congrArg ((dats m 0 c).arrAt 7 cfg0.N) e).symm.trans b).trans ?_
  refine (body7 (iblk m c 0 (pt r)) (iblk m c 1 (pt r)) (iblk m c 2 (pt r)) (iblk m c 3 (pt r)) _ _).trans ?_
  rw [gsum_in, in2, row_pt]

/-! ## The reference's sum, and the claim -/

theorem sum_at (C : FVec Ideal Cert.Reference15Ideal.S4x512x2048 .bf16) (a : Fin 1) (r : Fin 512) (s : Fin 2048) :
    Host.reduceAdd (extf .f32 (broadcastInDim Cert.Reference15Ideal.S4x1x512x2048 ![0, 2, 3] Cert.Reference15Ideal.Gen.bcast_S4x512x2048_S4x1x512x2048_0_2_3 C)
      Cert.Reference15Ideal.Gen.bitsLt_bf16_f32) (constant Cert.Reference15Ideal.S_ .f32 0x00000000#32)
      Cert.Reference15Ideal.Gen.reducesTo_S4x1x512x2048_S1x512x2048_d0 Cert.Reference15Ideal.Gen.h_S_ (ix3 a r s) = ∑ k : Fin 4, (C (ix3 k r s) : EReal) := by
  pointwise

theorem algebraic : Cert.algebraic_Kernel15Ideal_Reference15Ideal := by
  intro m ρ m' ρ' _ hagree
  refine ⟨fun c => lift ((dats m 0 c).arrAt 4 cfg0.N), fun c => lift ((dats m 0 c).arrAt 5 cfg0.N),
    fun c => lift ((dats m 0 c).arrAt 6 cfg0.N), fun c => lift ((dats m 0 c).arrAt 7 cfg0.N), run m ρ, ?_⟩
  refine (θ_run _ _ _).mono (fun _ h c => ?_) (Cert.Reference15Ideal.Value.run (F := Ideal) m' ρ')
  obtain ⟨e4, e5, e6, e7, ha⟩ := h c
  obtain ⟨a0, a1, a2, a3⟩ := hagree c
  refine ⟨e4.trans (funext fun y => ?_), e5.trans (funext fun y => ?_), e6.trans (funext fun y => ?_), e7.trans (funext fun y => ?_), ha⟩
  all_goals
    idx_vars y
    rw [Subsingleton.elim y0 0]
  · rw [a3]
    exact (sum_at _ _ _ _).trans ((lift_at _ _ _ _).trans (arr4 m c _ _)).symm
  · rw [a0, a1, a2, a3]
    refine (Adam.deltaArr_at _ _ _ _ _ _).trans (Eq.trans ?_ ((lift_at _ _ _ _).trans (arr5 m c _ _)).symm)
    rw [sum_at]
    rfl
  · rw [a1, a3]
    refine (Adam.firstArr_at _ _ _ _).trans (Eq.trans ?_ ((lift_at _ _ _ _).trans (arr6 m c _ _)).symm)
    rw [sum_at]
    rfl
  · rw [a2, a3]
    refine (Adam.secondArr_at _ _ _ _).trans (Eq.trans ?_ ((lift_at _ _ _ _).trans (arr7 m c _ _)).symm)
    rw [sum_at]
    rfl

theorem quiescent : Cert.quiescent_Reference15Ideal := fun m ρ _ =>
  (θ_run _ _ _).mono (fun r h => ⟨fun c => (h c).2.2.2.2, Idealize.ShloMosaic.sem_eq_zero_of_no_sems (by decide) r.2⟩)
    (Cert.Reference15Ideal.Value.run (F := Ideal) m ρ)

end Cert.StepOut

end
-- ==== Proof.StepGate.lean ====
/-
  The optimiser's step for the feed-forward network's gate weight (and, the same call, for its up weight): each block of the call sums the four devices' blocks of the
  gradient and takes one step from the sum. The call's arrays have no leading axis of one; the lines before it drop that
  axis of its arguments and the lines after it put it back.
-/
module

public import proofs.«01_k».proof.Defs
public import proofs.«01_k».proof.Proof.Adam
public import proofs.«01_k».proof.Proof.Gen.Kernel16Ideal.Frame
public import proofs.«01_k».proof.Proof.Gen.Reference16Ideal.Run
public import Idealize.ShloMosaic.Lib.Pipeline.ValueKit
public import Idealize.ShloMosaic.Lib.Pointwise

@[expose] public section

set_option maxRecDepth 16384

noncomputable section

namespace Cert.StepGate

open Cert.Kernel16Ideal Cert.Kernel16Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

abbrev W : (⟨3, ![1, 2048, 1408]⟩ : Shape).Idx → EReal := m ((c : Thread nD τ).loc main_arg0)
abbrev M : (⟨3, ![1, 2048, 1408]⟩ : Shape).Idx → EReal := m ((c : Thread nD τ).loc main_arg1)
abbrev Q : (⟨3, ![1, 2048, 1408]⟩ : Shape).Idx → EReal := m ((c : Thread nD τ).loc main_arg2)
abbrev C : (⟨3, ![4, 2048, 1408]⟩ : Shape).Idx → EReal := m ((c : Thread nD τ).loc main_arg3)

/-! ## The lines before and after the call -/

theorem cast_at (X : FVec Ideal S1x2048x1408 .f32) (r : Fin 2048) (s : Fin 1408) :
    shapeCast S2048x1408 X shapeCasts_S1x2048x1408_S2048x1408 (ix2 r s) = X (ix3 0 r s) := by
  pointwise

theorem lift_at (X : FVec Ideal S2048x1408 .f32) (a : Fin 1) (r : Fin 2048) (s : Fin 1408) :
    broadcastInDim S1x2048x1408 ![1, 2] bcast_S2048x1408_S1x2048x1408_1_2 X (ix3 a r s) = X (ix2 r s) := by
  pointwise

theorem head0 : V m c main_v0 = shapeCast S2048x1408 (m ((c : Thread nD τ).loc main_arg0)) shapeCasts_S1x2048x1408_S2048x1408 := by
  unfold V V0
  simp only [hostOps0, List.flatten_cons, List.flatten_nil, List.append_nil]
  after_results
  rfl
theorem head1 : V m c main_v1 = shapeCast S2048x1408 (m ((c : Thread nD τ).loc main_arg1)) shapeCasts_S1x2048x1408_S2048x1408 := by
  unfold V V0
  simp only [hostOps0, List.flatten_cons, List.flatten_nil, List.append_nil]
  after_results
  rfl
theorem head2 : V m c main_v2 = shapeCast S2048x1408 (m ((c : Thread nD τ).loc main_arg2)) shapeCasts_S1x2048x1408_S2048x1408 := by
  unfold V V0
  simp only [hostOps0, List.flatten_cons, List.flatten_nil, List.append_nil]
  after_results
  rfl

/-- What the last lines make of an array of the call. -/
abbrev lift (X : FVec Ideal S2048x1408 .f32) : FVec Ideal S1x2048x1408 .f32 := broadcastInDim S1x2048x1408 ![1, 2] bcast_S2048x1408_S1x2048x1408_1_2 X

theorem tail4 : Pipeline.afterTail₀ cfgs (dats m) 0 (V0 m) [hostOps1] c main_v4 = lift ((dats m 0 c).arrAt 4 cfg0.N) := by
  unfold Pipeline.afterTail₀
  simp only [hostOps1, List.flatten_cons, List.flatten_nil, List.append_nil]
  after_results
  exact congrArg lift (Pipeline.withArrays_arr spec0 winFacts0.arr_inj c (V0 m c) _ 4)
theorem tail5 : Pipeline.afterTail₀ cfgs (dats m) 0 (V0 m) [hostOps1] c main_v5 = lift ((dats m 0 c).arrAt 5 cfg0.N) := by
  unfold Pipeline.afterTail₀
  simp only [hostOps1, List.flatten_cons, List.flatten_nil, List.append_nil]
  after_results
  exact congrArg lift (Pipeline.withArrays_arr spec0 winFacts0.arr_inj c (V0 m c) _ 5)
theorem tail6 : Pipeline.afterTail₀ cfgs (dats m) 0 (V0 m) [hostOps1] c main_v6 = lift ((dats m 0 c).arrAt 6 cfg0.N) := by
  unfold Pipeline.afterTail₀
  simp only [hostOps1, List.flatten_cons, List.flatten_nil, List.append_nil]
  after_results
  exact congrArg lift (Pipeline.withArrays_arr spec0 winFacts0.arr_inj c (V0 m c) _ 6)
theorem tail7 : Pipeline.afterTail₀ cfgs (dats m) 0 (V0 m) [hostOps1] c main_v7 = lift ((dats m 0 c).arrAt 7 cfg0.N) := by
  unfold Pipeline.afterTail₀
  simp only [hostOps1, List.flatten_cons, List.flatten_nil, List.append_nil]
  after_results
  exact congrArg lift (Pipeline.withArrays_arr spec0 winFacts0.arr_inj c (V0 m c) _ 7)

theorem run : θ_run defs (onTc (τ := τ) (main (F := Ideal))) ⟨m, fun _ => 0, ρ⟩ fun r => ∀ c : Dev nD,
      r.2.mem ((c : Thread nD τ).loc main_v4) = lift ((dats m 0 c).arrAt 4 cfg0.N)
      ∧ r.2.mem ((c : Thread nD τ).loc main_v5) = lift ((dats m 0 c).arrAt 5 cfg0.N)
      ∧ r.2.mem ((c : Thread nD τ).loc main_v6) = lift ((dats m 0 c).arrAt 6 cfg0.N)
      ∧ r.2.mem ((c : Thread nD τ).loc main_v7) = lift ((dats m 0 c).arrAt 7 cfg0.N)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
      ⟨((h.1 c).2 main_v4 (Pipeline.mem_restRefs_of main_v4 (by decide) (by decide))).trans (tail4 m c),
       ((h.1 c).2 main_v5 (Pipeline.mem_restRefs_of main_v5 (by decide) (by decide))).trans (tail5 m c),
       ((h.1 c).2 main_v6 (Pipeline.mem_restRefs_of main_v6 (by decide) (by decide))).trans (tail6 m c),
       ((h.1 c).2 main_v7 (Pipeline.mem_restRefs_of main_v7 (by decide) (by decide))).trans (tail7 m c), h.2 c⟩)
    (θ_run_and (run_main m ρ) (unchanged m ρ))

/-! ## The blocks -/

theorem tlt (t : Fin cfg0.N) : t.val < 8 := lt_of_lt_of_eq t.isLt (show cfg0.N = 8 from N_0)
theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = 0 ∧ win0_3.index t 1 = t.val ∧ win0_3.index t 2 = 0 :=
  (by decide +kernel : ∀ t : Fin grid0.N, win0_3.index t 0 = 0 ∧ win0_3.index t 1 = t.val ∧ win0_3.index t 2 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)
theorem idx7 : ∀ t : Fin cfg0.N, win0_7.index t 0 = t.val ∧ win0_7.index t 1 = 0 :=
  (by decide +kernel : ∀ t : Fin grid0.N, win0_7.index t 0 = t.val ∧ win0_7.index t 1 = 0)

/-- Row `p` of point `t`'s block, in the whole array; and the point and the row in its block that a row is of. -/
def row (t : Fin cfg0.N) (p : Fin 256) : Fin 2048 := ⟨t.val * 256 + p.val, by have := tlt t; omega⟩
def pt (r : Fin 2048) : Fin cfg0.N := ⟨r.val / 256, by rw [show cfg0.N = 8 from N_0]; omega⟩
def sub (r : Fin 2048) : Fin 256 := ⟨r.val % 256, by omega⟩
theorem row_pt (r : Fin 2048) : row (pt r) (sub r) = r := Fin.ext (show r.val / 256 * 256 + r.val % 256 = r.val by omega)

theorem in0 (t : Fin cfg0.N) (p : Fin 256) (q : Fin 1408) : iblk m c 0 t (ix2 p q) = W m c (ix3 0 (row t p) q) := by
  have := tlt t
  refine Eq.trans ?_ ((congrFun (head0 m c) _).trans (cast_at _ _ _))
  blk_ext [iblk, idx0 t, row]
theorem in1 (t : Fin cfg0.N) (p : Fin 256) (q : Fin 1408) : iblk m c 1 t (ix2 p q) = M m c (ix3 0 (row t p) q) := by
  have := tlt t
  refine Eq.trans ?_ ((congrFun (head1 m c) _).trans (cast_at _ _ _))
  blk_ext [iblk, idx1 t, row]
theorem in2 (t : Fin cfg0.N) (p : Fin 256) (q : Fin 1408) : iblk m c 2 t (ix2 p q) = Q m c (ix3 0 (row t p) q) := by
  have := tlt t
  refine Eq.trans ?_ ((congrFun (head2 m c) _).trans (cast_at _ _ _))
  blk_ext [iblk, idx2 t, row]
theorem in3 (t : Fin cfg0.N) (k : Fin 4) (p : Fin 256) (q : Fin 1408) : iblk m c 3 t (ix3 k p q) = C m c (ix3 k (row t p) q) := by
  have := tlt t
  refine Eq.trans ?_ (congrFun (V_main_arg3 m c) _)
  blk_ext [iblk, idx3 t, row]

/-! ## What the body computes of its blocks -/

section Body

variable (x0 x1 x2 : Vec Ideal S256x1408 .f32) (x3 : Vec Ideal S4x256x1408 .bf16) (p : Fin 256) (q : Fin 1408)

/-- The sum of the four devices' entries. -/
def gsum : EReal := x3 (ix3 0 p q) + x3 (ix3 1 p q) + x3 (ix3 2 p q) + x3 (ix3 3 p q)

theorem ld (x : Vec Ideal S256x1408 .f32) : View.ld x r0_4 = x := View.ld_unit_zero (by decide) _ _

theorem body4 : out0_4 x0 x1 x2 x3 (ix2 p q) = gsum x3 p q := by
  unfold_out out0_4
  refine (congrFun (View.canon_unit_zero (by decide) _ _) _).trans ?_
  unfold_payloads
  pointwise
  rfl
theorem body5 : out0_5 x0 x1 x2 x3 (ix2 p q) = Adam.delta (gsum x3 p q) (x0 (ix2 p q)) (x1 (ix2 p q)) (x2 (ix2 p q)) := by
  unfold_out out0_5
  refine (congrFun (View.canon_unit_zero (by decide) _ _) _).trans ?_
  unfold_payloads
  rw [ld, ld, ld]
  pointwise
  rfl
theorem body6 : out0_6 x0 x1 x2 x3 (ix2 p q) = Adam.first (gsum x3 p q) (x1 (ix2 p q)) := by
  unfold_out out0_6
  refine (congrFun (View.canon_unit_zero (by decide) _ _) _).trans ?_
  unfold_payloads
  rw [ld]
  pointwise
  rfl
theorem body7 : out0_7 x0 x1 x2 x3 (ix2 p q) = Adam.second (gsum x3 p q) (x2 (ix2 p q)) := by
  unfold_out out0_7
  refine (congrFun (View.canon_unit_zero (by decide) _ _) _).trans ?_
  unfold_payloads
  rw [ld]
  pointwise
  rfl

end Body

/-! ## The call's arrays -/

/-- The gradient, summed over the devices. -/
def G (r : Fin 2048) (s : Fin 1408) : EReal := ∑ k : Fin 4, C m c (ix3 k r s)

theorem gsum_in (t : Fin cfg0.N) (p : Fin 256) (q : Fin 1408) : gsum (iblk m c 3 t) p q = G m c (row t p) q := by
  unfold gsum G
  rw [Fin.sum_univ_four, in3, in3, in3, in3]

/-- Distinct points' blocks of an output are distinct, so an entry of the array is the one its block's point leaves. -/
theorem at_of (w : Fin cfg0.W) (hk : (cfg0.win w).kind = Pipeline.WinKind.blocked) (hi : ∀ t t' : Fin cfg0.N, (cfg0.win w).index t = (cfg0.win w).index t' → t = t')
    (t : Fin cfg0.N) (hf : (cfg0.win w).flush t = true) (y : ((cfg0.win w).xblock (cfg0.grid.coords t)).Idx) :
    ((cfg0.win w).blk t).view.read (Elt Ideal) ((dats m 0 c).arrAt w cfg0.N) y = (cfg0.win w).cut (grid0.coords t) ((dats m 0 c).after w t) y :=
  congrFun ((dats m 0 c).read_blk_arrAt_eq_flushed w
    (fun t t' _ _ hne => (cfg0.win w).disjoint_blk (fun h => hne (hi t t' h)) hk) cfg0.N t t.isLt hf) y

theorem arr4 (r : Fin 2048) (s : Fin 1408) : (dats m 0 c).arrAt 4 cfg0.N (ix2 r s) = G m c r s := by
  have e : (win0_4.blk (pt r)).view.emb (ix2 (sub r) s) = ix2 (row (pt r) (sub r)) s := by
    have := tlt (pt r)
    blk_ext [idx4 (pt r), row]
  have b := at_of m c 4 rfl (by decide +kernel : ∀ t t' : Fin grid0.N, win0_4.index t = win0_4.index t' → t = t') (pt r) (flush0_4 _) (ix2 (sub r) s)
  rw [row_pt] at e
  rw [after0_4] at b
  refine ((congrArg ((dats m 0 c).arrAt 4 cfg0.N) e).symm.trans b).trans ?_
  refine (body4 (iblk m c 0 (pt r)) (iblk m c 1 (pt r)) (iblk m c 2 (pt r)) (iblk m c 3 (pt r)) _ _).trans ?_
  rw [gsum_in, row_pt]
theorem arr5 (r : Fin 2048) (s : Fin 1408) : (dats m 0 c).arrAt 5 cfg0.N (ix2 r s) = Adam.delta (G m c r s) (W m c (ix3 0 r s)) (M m c (ix3 0 r s)) (Q m c (ix3 0 r s)) := by
  have e : (win0_5.blk (pt r)).view.emb (ix2 (sub r) s) = ix2 (row (pt r) (sub r)) s := by
    have := tlt (pt r)
    blk_ext [idx5 (pt r), row]
  have b := at_of m c 5 rfl (by decide +kernel : ∀ t t' : Fin grid0.N, win0_5.index t = win0_5.index t' → t = t') (pt r) (flush0_5 _) (ix2 (sub r) s)
  rw [row_pt] at e
  rw [after0_5] at b
  refine ((congrArg ((dats m 0 c).arrAt 5 cfg0.N) e).symm.trans b).trans ?_
  refine (body5 (iblk m c 0 (pt r)) (iblk m c 1 (pt r)) (iblk m c 2 (pt r)) (iblk m c 3 (pt r)) _ _).trans ?_
  rw [gsum_in, in0, in1, in2, row_pt]
theorem arr6 (r : Fin 2048) (s : Fin 1408) : (dats m 0 c).arrAt 6 cfg0.N (ix2 r s) = Adam.first (G m c r s) (M m c (ix3 0 r s)) := by
  have e : (win0_6.blk (pt r)).view.emb (ix2 (sub r) s) = ix2 (row (pt r) (sub r)) s := by
    have := tlt (pt r)
    blk_ext [idx6 (pt r), row]
  have b := at_of m c 6 rfl (by decide +kernel : ∀ t t' : Fin grid0.N, win0_6.index t = win0_6.index t' → t = t') (pt r) (flush0_6 _) (ix2 (sub r) s)
  rw [row_pt] at e
  rw [after0_6] at b
  refine ((congrArg ((dats m 0 c).arrAt 6 cfg0.N) e).symm.trans b).trans ?_
  refine (body6 (iblk m c 0 (pt r)) (iblk m c 1 (pt r)) (iblk m c 2 (pt r)) (iblk m c 3 (pt r)) _ _).trans ?_
  rw [gsum_in, in1, row_pt]
theorem arr7 (r : Fin 2048) (s : Fin 1408) : (dats m 0 c).arrAt 7 cfg0.N (ix2 r s) = Adam.second (G m c r s) (Q m c (ix3 0 r s)) := by
  have e : (win0_7.blk (pt r)).view.emb (ix2 (sub r) s) = ix2 (row (pt r) (sub r)) s := by
    have := tlt (pt r)
    blk_ext [idx7 (pt r), row]
  have b := at_of m c 7 rfl (by decide +kernel : ∀ t t' : Fin grid0.N, win0_7.index t = win0_7.index t' → t = t') (pt r) (flush0_7 _) (ix2 (sub r) s)
  rw [row_pt] at e
  rw [after0_7] at b
  refine ((congrArg ((dats m 0 c).arrAt 7 cfg0.N) e).symm.trans b).trans ?_
  refine (body7 (iblk m c 0 (pt r)) (iblk m c 1 (pt r)) (iblk m c 2 (pt r)) (iblk m c 3 (pt r)) _ _).trans ?_
  rw [gsum_in, in2, row_pt]

/-! ## The reference's sum, and the claim -/

theorem sum_at (C : FVec Ideal Cert.Reference16Ideal.S4x2048x1408 .bf16) (a : Fin 1) (r : Fin 2048) (s : Fin 1408) :
    Host.reduceAdd (extf .f32 (broadcastInDim Cert.Reference16Ideal.S4x1x2048x1408 ![0, 2, 3] Cert.Reference16Ideal.Gen.bcast_S4x2048x1408_S4x1x2048x1408_0_2_3 C)
      Cert.Reference16Ideal.Gen.bitsLt_bf16_f32) (constant Cert.Reference16Ideal.S_ .f32 0x00000000#32)
      Cert.Reference16Ideal.Gen.reducesTo_S4x1x2048x1408_S1x2048x1408_d0 Cert.Reference16Ideal.Gen.h_S_ (ix3 a r s) = ∑ k : Fin 4, (C (ix3 k r s) : EReal) := by
  pointwise

theorem algebraic : Cert.algebraic_Kernel16Ideal_Reference16Ideal := by
  intro m ρ m' ρ' _ hagree
  refine ⟨fun c => lift ((dats m 0 c).arrAt 4 cfg0.N), fun c => lift ((dats m 0 c).arrAt 5 cfg0.N),
    fun c => lift ((dats m 0 c).arrAt 6 cfg0.N), fun c => lift ((dats m 0 c).arrAt 7 cfg0.N), run m ρ, ?_⟩
  refine (θ_run _ _ _).mono (fun _ h c => ?_) (Cert.Reference16Ideal.Value.run (F := Ideal) m' ρ')
  obtain ⟨e4, e5, e6, e7, ha⟩ := h c
  obtain ⟨a0, a1, a2, a3⟩ := hagree c
  refine ⟨e4.trans (funext fun y => ?_), e5.trans (funext fun y => ?_), e6.trans (funext fun y => ?_), e7.trans (funext fun y => ?_), ha⟩
  all_goals
    idx_vars y
    rw [Subsingleton.elim y0 0]
  · rw [a3]
    exact (sum_at _ _ _ _).trans ((lift_at _ _ _ _).trans (arr4 m c _ _)).symm
  · rw [a0, a1, a2, a3]
    refine (Adam.deltaArr_at _ _ _ _ _ _).trans (Eq.trans ?_ ((lift_at _ _ _ _).trans (arr5 m c _ _)).symm)
    rw [sum_at]
    rfl
  · rw [a1, a3]
    refine (Adam.firstArr_at _ _ _ _).trans (Eq.trans ?_ ((lift_at _ _ _ _).trans (arr6 m c _ _)).symm)
    rw [sum_at]
    rfl
  · rw [a2, a3]
    refine (Adam.secondArr_at _ _ _ _).trans (Eq.trans ?_ ((lift_at _ _ _ _).trans (arr7 m c _ _)).symm)
    rw [sum_at]
    rfl

theorem quiescent : Cert.quiescent_Reference16Ideal := fun m ρ _ =>
  (θ_run _ _ _).mono (fun r h => ⟨fun c => (h c).2.2.2.2, Idealize.ShloMosaic.sem_eq_zero_of_no_sems (by decide) r.2⟩)
    (Cert.Reference16Ideal.Value.run (F := Ideal) m ρ)

end Cert.StepGate

end
-- ==== Proof.StepDown.lean ====
/-
  The optimiser's step for the feed-forward network's last weight: each block of the call sums the four devices' blocks of the
  gradient and takes one step from the sum. The call's arrays have no leading axis of one; the lines before it drop that
  axis of its arguments and the lines after it put it back.
-/
module

public import proofs.«01_k».proof.Defs
public import proofs.«01_k».proof.Proof.Adam
public import proofs.«01_k».proof.Proof.Gen.Kernel17Ideal.Frame
public import proofs.«01_k».proof.Proof.Gen.Reference17Ideal.Run
public import Idealize.ShloMosaic.Lib.Pipeline.ValueKit
public import Idealize.ShloMosaic.Lib.Pointwise

@[expose] public section

set_option maxRecDepth 16384

noncomputable section

namespace Cert.StepDown

open Cert.Kernel17Ideal Cert.Kernel17Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

abbrev W : (⟨3, ![1, 1408, 2048]⟩ : Shape).Idx → EReal := m ((c : Thread nD τ).loc main_arg0)
abbrev M : (⟨3, ![1, 1408, 2048]⟩ : Shape).Idx → EReal := m ((c : Thread nD τ).loc main_arg1)
abbrev Q : (⟨3, ![1, 1408, 2048]⟩ : Shape).Idx → EReal := m ((c : Thread nD τ).loc main_arg2)
abbrev C : (⟨3, ![4, 1408, 2048]⟩ : Shape).Idx → EReal := m ((c : Thread nD τ).loc main_arg3)

/-! ## The lines before and after the call -/

theorem cast_at (X : FVec Ideal S1x1408x2048 .f32) (r : Fin 1408) (s : Fin 2048) :
    shapeCast S1408x2048 X shapeCasts_S1x1408x2048_S1408x2048 (ix2 r s) = X (ix3 0 r s) := by
  pointwise

theorem lift_at (X : FVec Ideal S1408x2048 .f32) (a : Fin 1) (r : Fin 1408) (s : Fin 2048) :
    broadcastInDim S1x1408x2048 ![1, 2] bcast_S1408x2048_S1x1408x2048_1_2 X (ix3 a r s) = X (ix2 r s) := by
  pointwise

theorem head0 : V m c main_v0 = shapeCast S1408x2048 (m ((c : Thread nD τ).loc main_arg0)) shapeCasts_S1x1408x2048_S1408x2048 := by
  unfold V V0
  simp only [hostOps0, List.flatten_cons, List.flatten_nil, List.append_nil]
  after_results
  rfl
theorem head1 : V m c main_v1 = shapeCast S1408x2048 (m ((c : Thread nD τ).loc main_arg1)) shapeCasts_S1x1408x2048_S1408x2048 := by
  unfold V V0
  simp only [hostOps0, List.flatten_cons, List.flatten_nil, List.append_nil]
  after_results
  rfl
theorem head2 : V m c main_v2 = shapeCast S1408x2048 (m ((c : Thread nD τ).loc main_arg2)) shapeCasts_S1x1408x2048_S1408x2048 := by
  unfold V V0
  simp only [hostOps0, List.flatten_cons, List.flatten_nil, List.append_nil]
  after_results
  rfl

/-- What the last lines make of an array of the call. -/
abbrev lift (X : FVec Ideal S1408x2048 .f32) : FVec Ideal S1x1408x2048 .f32 := broadcastInDim S1x1408x2048 ![1, 2] bcast_S1408x2048_S1x1408x2048_1_2 X

theorem tail4 : Pipeline.afterTail₀ cfgs (dats m) 0 (V0 m) [hostOps1] c main_v4 = lift ((dats m 0 c).arrAt 4 cfg0.N) := by
  unfold Pipeline.afterTail₀
  simp only [hostOps1, List.flatten_cons, List.flatten_nil, List.append_nil]
  after_results
  exact congrArg lift (Pipeline.withArrays_arr spec0 winFacts0.arr_inj c (V0 m c) _ 4)
theorem tail5 : Pipeline.afterTail₀ cfgs (dats m) 0 (V0 m) [hostOps1] c main_v5 = lift ((dats m 0 c).arrAt 5 cfg0.N) := by
  unfold Pipeline.afterTail₀
  simp only [hostOps1, List.flatten_cons, List.flatten_nil, List.append_nil]
  after_results
  exact congrArg lift (Pipeline.withArrays_arr spec0 winFacts0.arr_inj c (V0 m c) _ 5)
theorem tail6 : Pipeline.afterTail₀ cfgs (dats m) 0 (V0 m) [hostOps1] c main_v6 = lift ((dats m 0 c).arrAt 6 cfg0.N) := by
  unfold Pipeline.afterTail₀
  simp only [hostOps1, List.flatten_cons, List.flatten_nil, List.append_nil]
  after_results
  exact congrArg lift (Pipeline.withArrays_arr spec0 winFacts0.arr_inj c (V0 m c) _ 6)
theorem tail7 : Pipeline.afterTail₀ cfgs (dats m) 0 (V0 m) [hostOps1] c main_v7 = lift ((dats m 0 c).arrAt 7 cfg0.N) := by
  unfold Pipeline.afterTail₀
  simp only [hostOps1, List.flatten_cons, List.flatten_nil, List.append_nil]
  after_results
  exact congrArg lift (Pipeline.withArrays_arr spec0 winFacts0.arr_inj c (V0 m c) _ 7)

theorem run : θ_run defs (onTc (τ := τ) (main (F := Ideal))) ⟨m, fun _ => 0, ρ⟩ fun r => ∀ c : Dev nD,
      r.2.mem ((c : Thread nD τ).loc main_v4) = lift ((dats m 0 c).arrAt 4 cfg0.N)
      ∧ r.2.mem ((c : Thread nD τ).loc main_v5) = lift ((dats m 0 c).arrAt 5 cfg0.N)
      ∧ r.2.mem ((c : Thread nD τ).loc main_v6) = lift ((dats m 0 c).arrAt 6 cfg0.N)
      ∧ r.2.mem ((c : Thread nD τ).loc main_v7) = lift ((dats m 0 c).arrAt 7 cfg0.N)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
      ⟨((h.1 c).2 main_v4 (Pipeline.mem_restRefs_of main_v4 (by decide) (by decide))).trans (tail4 m c),
       ((h.1 c).2 main_v5 (Pipeline.mem_restRefs_of main_v5 (by decide) (by decide))).trans (tail5 m c),
       ((h.1 c).2 main_v6 (Pipeline.mem_restRefs_of main_v6 (by decide) (by decide))).trans (tail6 m c),
       ((h.1 c).2 main_v7 (Pipeline.mem_restRefs_of main_v7 (by decide) (by decide))).trans (tail7 m c), h.2 c⟩)
    (θ_run_and (run_main m ρ) (unchanged m ρ))

/-! ## The blocks -/

theorem tlt (t : Fin cfg0.N) : t.val < 8 := lt_of_lt_of_eq t.isLt (show cfg0.N = 8 from N_0)
theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = 0 ∧ win0_3.index t 1 = t.val ∧ win0_3.index t 2 = 0 :=
  (by decide +kernel : ∀ t : Fin grid0.N, win0_3.index t 0 = 0 ∧ win0_3.index t 1 = t.val ∧ win0_3.index t 2 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)
theorem idx7 : ∀ t : Fin cfg0.N, win0_7.index t 0 = t.val ∧ win0_7.index t 1 = 0 :=
  (by decide +kernel : ∀ t : Fin grid0.N, win0_7.index t 0 = t.val ∧ win0_7.index t 1 = 0)

/-- Row `p` of point `t`'s block, in the whole array; and the point and the row in its block that a row is of. -/
def row (t : Fin cfg0.N) (p : Fin 176) : Fin 1408 := ⟨t.val * 176 + p.val, by have := tlt t; omega⟩
def pt (r : Fin 1408) : Fin cfg0.N := ⟨r.val / 176, by rw [show cfg0.N = 8 from N_0]; omega⟩
def sub (r : Fin 1408) : Fin 176 := ⟨r.val % 176, by omega⟩
theorem row_pt (r : Fin 1408) : row (pt r) (sub r) = r := Fin.ext (show r.val / 176 * 176 + r.val % 176 = r.val by omega)

theorem in0 (t : Fin cfg0.N) (p : Fin 176) (q : Fin 2048) : iblk m c 0 t (ix2 p q) = W m c (ix3 0 (row t p) q) := by
  have := tlt t
  refine Eq.trans ?_ ((congrFun (head0 m c) _).trans (cast_at _ _ _))
  blk_ext [iblk, idx0 t, row]
theorem in1 (t : Fin cfg0.N) (p : Fin 176) (q : Fin 2048) : iblk m c 1 t (ix2 p q) = M m c (ix3 0 (row t p) q) := by
  have := tlt t
  refine Eq.trans ?_ ((congrFun (head1 m c) _).trans (cast_at _ _ _))
  blk_ext [iblk, idx1 t, row]
theorem in2 (t : Fin cfg0.N) (p : Fin 176) (q : Fin 2048) : iblk m c 2 t (ix2 p q) = Q m c (ix3 0 (row t p) q) := by
  have := tlt t
  refine Eq.trans ?_ ((congrFun (head2 m c) _).trans (cast_at _ _ _))
  blk_ext [iblk, idx2 t, row]
theorem in3 (t : Fin cfg0.N) (k : Fin 4) (p : Fin 176) (q : Fin 2048) : iblk m c 3 t (ix3 k p q) = C m c (ix3 k (row t p) q) := by
  have := tlt t
  refine Eq.trans ?_ (congrFun (V_main_arg3 m c) _)
  blk_ext [iblk, idx3 t, row]

/-! ## What the body computes of its blocks -/

section Body

variable (x0 x1 x2 : Vec Ideal S176x2048 .f32) (x3 : Vec Ideal S4x176x2048 .bf16) (p : Fin 176) (q : Fin 2048)

/-- The sum of the four devices' entries. -/
def gsum : EReal := x3 (ix3 0 p q) + x3 (ix3 1 p q) + x3 (ix3 2 p q) + x3 (ix3 3 p q)

theorem ld (x : Vec Ideal S176x2048 .f32) : View.ld x r0_4 = x := View.ld_unit_zero (by decide) _ _

theorem body4 : out0_4 x0 x1 x2 x3 (ix2 p q) = gsum x3 p q := by
  unfold_out out0_4
  refine (congrFun (View.canon_unit_zero (by decide) _ _) _).trans ?_
  unfold_payloads
  pointwise
  rfl
theorem body5 : out0_5 x0 x1 x2 x3 (ix2 p q) = Adam.delta (gsum x3 p q) (x0 (ix2 p q)) (x1 (ix2 p q)) (x2 (ix2 p q)) := by
  unfold_out out0_5
  refine (congrFun (View.canon_unit_zero (by decide) _ _) _).trans ?_
  unfold_payloads
  rw [ld, ld, ld]
  pointwise
  rfl
theorem body6 : out0_6 x0 x1 x2 x3 (ix2 p q) = Adam.first (gsum x3 p q) (x1 (ix2 p q)) := by
  unfold_out out0_6
  refine (congrFun (View.canon_unit_zero (by decide) _ _) _).trans ?_
  unfold_payloads
  rw [ld]
  pointwise
  rfl
theorem body7 : out0_7 x0 x1 x2 x3 (ix2 p q) = Adam.second (gsum x3 p q) (x2 (ix2 p q)) := by
  unfold_out out0_7
  refine (congrFun (View.canon_unit_zero (by decide) _ _) _).trans ?_
  unfold_payloads
  rw [ld]
  pointwise
  rfl

end Body

/-! ## The call's arrays -/

/-- The gradient, summed over the devices. -/
def G (r : Fin 1408) (s : Fin 2048) : EReal := ∑ k : Fin 4, C m c (ix3 k r s)

theorem gsum_in (t : Fin cfg0.N) (p : Fin 176) (q : Fin 2048) : gsum (iblk m c 3 t) p q = G m c (row t p) q := by
  unfold gsum G
  rw [Fin.sum_univ_four, in3, in3, in3, in3]

/-- Distinct points' blocks of an output are distinct, so an entry of the array is the one its block's point leaves. -/
theorem at_of (w : Fin cfg0.W) (hk : (cfg0.win w).kind = Pipeline.WinKind.blocked) (hi : ∀ t t' : Fin cfg0.N, (cfg0.win w).index t = (cfg0.win w).index t' → t = t')
    (t : Fin cfg0.N) (hf : (cfg0.win w).flush t = true) (y : ((cfg0.win w).xblock (cfg0.grid.coords t)).Idx) :
    ((cfg0.win w).blk t).view.read (Elt Ideal) ((dats m 0 c).arrAt w cfg0.N) y = (cfg0.win w).cut (grid0.coords t) ((dats m 0 c).after w t) y :=
  congrFun ((dats m 0 c).read_blk_arrAt_eq_flushed w
    (fun t t' _ _ hne => (cfg0.win w).disjoint_blk (fun h => hne (hi t t' h)) hk) cfg0.N t t.isLt hf) y

theorem arr4 (r : Fin 1408) (s : Fin 2048) : (dats m 0 c).arrAt 4 cfg0.N (ix2 r s) = G m c r s := by
  have e : (win0_4.blk (pt r)).view.emb (ix2 (sub r) s) = ix2 (row (pt r) (sub r)) s := by
    have := tlt (pt r)
    blk_ext [idx4 (pt r), row]
  have b := at_of m c 4 rfl (by decide +kernel : ∀ t t' : Fin grid0.N, win0_4.index t = win0_4.index t' → t = t') (pt r) (flush0_4 _) (ix2 (sub r) s)
  rw [row_pt] at e
  rw [after0_4] at b
  refine ((congrArg ((dats m 0 c).arrAt 4 cfg0.N) e).symm.trans b).trans ?_
  refine (body4 (iblk m c 0 (pt r)) (iblk m c 1 (pt r)) (iblk m c 2 (pt r)) (iblk m c 3 (pt r)) _ _).trans ?_
  rw [gsum_in, row_pt]
theorem arr5 (r : Fin 1408) (s : Fin 2048) : (dats m 0 c).arrAt 5 cfg0.N (ix2 r s) = Adam.delta (G m c r s) (W m c (ix3 0 r s)) (M m c (ix3 0 r s)) (Q m c (ix3 0 r s)) := by
  have e : (win0_5.blk (pt r)).view.emb (ix2 (sub r) s) = ix2 (row (pt r) (sub r)) s := by
    have := tlt (pt r)
    blk_ext [idx5 (pt r), row]
  have b := at_of m c 5 rfl (by decide +kernel : ∀ t t' : Fin grid0.N, win0_5.index t = win0_5.index t' → t = t') (pt r) (flush0_5 _) (ix2 (sub r) s)
  rw [row_pt] at e
  rw [after0_5] at b
  refine ((congrArg ((dats m 0 c).arrAt 5 cfg0.N) e).symm.trans b).trans ?_
  refine (body5 (iblk m c 0 (pt r)) (iblk m c 1 (pt r)) (iblk m c 2 (pt r)) (iblk m c 3 (pt r)) _ _).trans ?_
  rw [gsum_in, in0, in1, in2, row_pt]
theorem arr6 (r : Fin 1408) (s : Fin 2048) : (dats m 0 c).arrAt 6 cfg0.N (ix2 r s) = Adam.first (G m c r s) (M m c (ix3 0 r s)) := by
  have e : (win0_6.blk (pt r)).view.emb (ix2 (sub r) s) = ix2 (row (pt r) (sub r)) s := by
    have := tlt (pt r)
    blk_ext [idx6 (pt r), row]
  have b := at_of m c 6 rfl (by decide +kernel : ∀ t t' : Fin grid0.N, win0_6.index t = win0_6.index t' → t = t') (pt r) (flush0_6 _) (ix2 (sub r) s)
  rw [row_pt] at e
  rw [after0_6] at b
  refine ((congrArg ((dats m 0 c).arrAt 6 cfg0.N) e).symm.trans b).trans ?_
  refine (body6 (iblk m c 0 (pt r)) (iblk m c 1 (pt r)) (iblk m c 2 (pt r)) (iblk m c 3 (pt r)) _ _).trans ?_
  rw [gsum_in, in1, row_pt]
theorem arr7 (r : Fin 1408) (s : Fin 2048) : (dats m 0 c).arrAt 7 cfg0.N (ix2 r s) = Adam.second (G m c r s) (Q m c (ix3 0 r s)) := by
  have e : (win0_7.blk (pt r)).view.emb (ix2 (sub r) s) = ix2 (row (pt r) (sub r)) s := by
    have := tlt (pt r)
    blk_ext [idx7 (pt r), row]
  have b := at_of m c 7 rfl (by decide +kernel : ∀ t t' : Fin grid0.N, win0_7.index t = win0_7.index t' → t = t') (pt r) (flush0_7 _) (ix2 (sub r) s)
  rw [row_pt] at e
  rw [after0_7] at b
  refine ((congrArg ((dats m 0 c).arrAt 7 cfg0.N) e).symm.trans b).trans ?_
  refine (body7 (iblk m c 0 (pt r)) (iblk m c 1 (pt r)) (iblk m c 2 (pt r)) (iblk m c 3 (pt r)) _ _).trans ?_
  rw [gsum_in, in2, row_pt]

/-! ## The reference's sum, and the claim -/

theorem sum_at (C : FVec Ideal Cert.Reference17Ideal.S4x1408x2048 .bf16) (a : Fin 1) (r : Fin 1408) (s : Fin 2048) :
    Host.reduceAdd (extf .f32 (broadcastInDim Cert.Reference17Ideal.S4x1x1408x2048 ![0, 2, 3] Cert.Reference17Ideal.Gen.bcast_S4x1408x2048_S4x1x1408x2048_0_2_3 C)
      Cert.Reference17Ideal.Gen.bitsLt_bf16_f32) (constant Cert.Reference17Ideal.S_ .f32 0x00000000#32)
      Cert.Reference17Ideal.Gen.reducesTo_S4x1x1408x2048_S1x1408x2048_d0 Cert.Reference17Ideal.Gen.h_S_ (ix3 a r s) = ∑ k : Fin 4, (C (ix3 k r s) : EReal) := by
  pointwise

theorem algebraic : Cert.algebraic_Kernel17Ideal_Reference17Ideal := by
  intro m ρ m' ρ' _ hagree
  refine ⟨fun c => lift ((dats m 0 c).arrAt 4 cfg0.N), fun c => lift ((dats m 0 c).arrAt 5 cfg0.N),
    fun c => lift ((dats m 0 c).arrAt 6 cfg0.N), fun c => lift ((dats m 0 c).arrAt 7 cfg0.N), run m ρ, ?_⟩
  refine (θ_run _ _ _).mono (fun _ h c => ?_) (Cert.Reference17Ideal.Value.run (F := Ideal) m' ρ')
  obtain ⟨e4, e5, e6, e7, ha⟩ := h c
  obtain ⟨a0, a1, a2, a3⟩ := hagree c
  refine ⟨e4.trans (funext fun y => ?_), e5.trans (funext fun y => ?_), e6.trans (funext fun y => ?_), e7.trans (funext fun y => ?_), ha⟩
  all_goals
    idx_vars y
    rw [Subsingleton.elim y0 0]
  · rw [a3]
    exact (sum_at _ _ _ _).trans ((lift_at _ _ _ _).trans (arr4 m c _ _)).symm
  · rw [a0, a1, a2, a3]
    refine (Adam.deltaArr_at _ _ _ _ _ _).trans (Eq.trans ?_ ((lift_at _ _ _ _).trans (arr5 m c _ _)).symm)
    rw [sum_at]
    rfl
  · rw [a1, a3]
    refine (Adam.firstArr_at _ _ _ _).trans (Eq.trans ?_ ((lift_at _ _ _ _).trans (arr6 m c _ _)).symm)
    rw [sum_at]
    rfl
  · rw [a2, a3]
    refine (Adam.secondArr_at _ _ _ _).trans (Eq.trans ?_ ((lift_at _ _ _ _).trans (arr7 m c _ _)).symm)
    rw [sum_at]
    rfl

theorem quiescent : Cert.quiescent_Reference17Ideal := fun m ρ _ =>
  (θ_run _ _ _).mono (fun r h => ⟨fun c => (h c).2.2.2.2, Idealize.ShloMosaic.sem_eq_zero_of_no_sems (by decide) r.2⟩)
    (Cert.Reference17Ideal.Value.run (F := Ideal) m ρ)

end Cert.StepDown

end
-- ==== Proof.SmallPack.lean ====
/-
  The optimiser's step for the eleven small weights: how the program packs their arrays into one and unpacks the call's
  results, and that an entry-by-entry function of packed arrays, unpacked, is that function of the arrays.
-/
module

public import proofs.«01_k».proof.Defs
public import proofs.«01_k».proof.Proof.Adam
public import proofs.«01_k».proof.Proof.Gen.Kernel18Ideal.Frame
public import Idealize.ShloMosaic.Lib.Pipeline.ValueKit
public import Idealize.ShloMosaic.Lib.Pointwise

@[expose] public section

set_option maxRecDepth 16384

noncomputable section

namespace Cert.SmallPack

open Cert.Kernel18Ideal Cert.Kernel18Ideal.Gen Idealize.ShloMosaic Idealize.ShloMosaic.TcCoe Idealize.SL.Sem
open Idealize.ShloMosaic.Pipeline (Dat)

/-! ## The packed array -/

/-- Eleven arrays of the small weights' shapes. -/
structure Eleven where
  a0 : FVec Ideal S1x2048 .f32
  a1 : FVec Ideal S1x16x128 .f32
  a2 : FVec Ideal S1x512 .f32
  a3 : FVec Ideal S1x16x128 .f32
  a4 : FVec Ideal S1x512 .f32
  a5 : FVec Ideal S1x256 .f32
  a6 : FVec Ideal S1x1024 .f32
  a7 : FVec Ideal S1x2048 .f32
  a8 : FVec Ideal S1x3x1408 .f32
  a9 : FVec Ideal S1x5632 .f32
  a10 : FVec Ideal S2048 .f32

/-- The arrays, each in one row. -/
abbrev Eleven.pieces (x : Eleven) : List ((s : Shape) × (s.Idx → Ideal .f32)) :=
  [⟨S2048, shapeCast S2048 x.a0 shapeCasts_S1x2048_S2048⟩,
    ⟨S2048, shapeCast S2048 x.a1 shapeCasts_S1x16x128_S2048⟩,
    ⟨S512, shapeCast S512 x.a2 shapeCasts_S1x512_S512⟩,
    ⟨S2048, shapeCast S2048 x.a3 shapeCasts_S1x16x128_S2048⟩,
    ⟨S512, shapeCast S512 x.a4 shapeCasts_S1x512_S512⟩,
    ⟨S256, shapeCast S256 x.a5 shapeCasts_S1x256_S256⟩,
    ⟨S1024, shapeCast S1024 x.a6 shapeCasts_S1x1024_S1024⟩,
    ⟨S2048, shapeCast S2048 x.a7 shapeCasts_S1x2048_S2048⟩,
    ⟨S4224, shapeCast S4224 x.a8 shapeCasts_S1x3x1408_S4224⟩,
    ⟨S5632, shapeCast S5632 x.a9 shapeCasts_S1x5632_S5632⟩, ⟨S2048, x.a10⟩]

/-- The rows one after the other. -/
abbrev Eleven.flat (x : Eleven) : FVec Ideal S22400 .f32 :=
  concatenate S22400 0 x.pieces concatenates_S2048_S2048_S512_S2048_S512_S256_S1024_S2048_S4224_S5632_S2048_S22400_d0

/-- The arrays as the call takes them: 176 rows of 128, with zeros at the end. -/
abbrev Eleven.packed (x : Eleven) : FVec Ideal S176x128 .f32 :=
  pad S176x128 ![0, 0] ![1, 0] ![0, 0] (shapeCast S175x128 x.flat shapeCasts_S22400_S175x128)
    (sitofp (F := Ideal) .f32 (constantI S_ 32 0#32)) pads_S175x128_S176x128_010_000 h_S_

theorem flat_at (X : FVec Ideal S22400 .f32) (v : FVec Ideal S_ .f32) (j : Fin 22528) (h : j.val < 22400) :
    shapeCast S22528 (pad S176x128 ![0, 0] ![1, 0] ![0, 0] (shapeCast S175x128 X shapeCasts_S22400_S175x128) v pads_S175x128_S176x128_010_000 h_S_)
      shapeCasts_S176x128_S22528 (ix1 j) = X (ix1 ⟨j.val, h⟩) := by
  pointwise
  rw [dif_pos (by omega)]
  congr 2
  apply Fin.ext
  dsimp only
  omega

/-- What precedes piece `k`. -/
abbrev before (x : Eleven) (k : Nat) : Nat :=
  (((x.pieces.take k).map (·.1)).map fun s => if h : s.rank = S22400.rank then s.size ((0 : Fin S22400.rank).cast h.symm) else 0).sum

/-- Piece `k` is read back from where it was put. -/
theorem part (x : Eleven) {n : Nat} (k off : Nat) (y : (⟨1, ![n]⟩ : Shape).Idx → Ideal .f32) (hk : k < x.pieces.length) (hy : x.pieces[k] = ⟨⟨1, ![n]⟩, y⟩)
    (ho : before x k = off) (hn : off + n ≤ 22400) (hs : S22528.Slices ![off] ⟨1, ![n]⟩) :
    extractStridedSlice ⟨1, ![n]⟩ ![off] (shapeCast S22528 x.packed shapeCasts_S176x128_S22528) hs = y := by
  funext i
  have hi : (i 0).val < n := (i 0).isLt
  refine (extractStridedSlice_apply ![off] _ hs i (ix1 ⟨off + (i 0).val, by omega⟩) (fun a => ?_)).trans
    ((flat_at x.flat _ ⟨off + (i 0).val, by omega⟩ (by dsimp only; omega)).trans ?_)
  · rw [Subsingleton.elim (α := Fin 1) a 0]
    rfl
  · exact concatenate_apply_piece (t := S22400) 0 x.pieces _ (ix1 ⟨off + (i 0).val, by omega⟩) k hk _ y hy rfl off ho i
      (fun b hb => absurd (Subsingleton.elim (α := Fin 1) _ _) hb) rfl

/-! ## The unpacked arrays -/

abbrev up0 (B : FVec Ideal S176x128 .f32) : FVec Ideal S1x2048 .f32 :=
  shapeCast S1x2048 (extractStridedSlice S2048 ![0] (shapeCast S22528 B shapeCasts_S176x128_S22528) slices_S22528_S2048_0) shapeCasts_S2048_S1x2048
abbrev up1 (B : FVec Ideal S176x128 .f32) : FVec Ideal S1x16x128 .f32 :=
  shapeCast S1x16x128 (extractStridedSlice S2048 ![2048] (shapeCast S22528 B shapeCasts_S176x128_S22528) slices_S22528_S2048_2048) shapeCasts_S2048_S1x16x128
abbrev up2 (B : FVec Ideal S176x128 .f32) : FVec Ideal S1x512 .f32 :=
  shapeCast S1x512 (extractStridedSlice S512 ![4096] (shapeCast S22528 B shapeCasts_S176x128_S22528) slices_S22528_S512_4096) shapeCasts_S512_S1x512
abbrev up3 (B : FVec Ideal S176x128 .f32) : FVec Ideal S1x16x128 .f32 :=
  shapeCast S1x16x128 (extractStridedSlice S2048 ![4608] (shapeCast S22528 B shapeCasts_S176x128_S22528) slices_S22528_S2048_4608) shapeCasts_S2048_S1x16x128
abbrev up4 (B : FVec Ideal S176x128 .f32) : FVec Ideal S1x512 .f32 :=
  shapeCast S1x512 (extractStridedSlice S512 ![6656] (shapeCast S22528 B shapeCasts_S176x128_S22528) slices_S22528_S512_6656) shapeCasts_S512_S1x512
abbrev up5 (B : FVec Ideal S176x128 .f32) : FVec Ideal S1x256 .f32 :=
  shapeCast S1x256 (extractStridedSlice S256 ![7168] (shapeCast S22528 B shapeCasts_S176x128_S22528) slices_S22528_S256_7168) shapeCasts_S256_S1x256
abbrev up6 (B : FVec Ideal S176x128 .f32) : FVec Ideal S1x1024 .f32 :=
  shapeCast S1x1024 (extractStridedSlice S1024 ![7424] (shapeCast S22528 B shapeCasts_S176x128_S22528) slices_S22528_S1024_7424) shapeCasts_S1024_S1x1024
abbrev up7 (B : FVec Ideal S176x128 .f32) : FVec Ideal S1x2048 .f32 :=
  shapeCast S1x2048 (extractStridedSlice S2048 ![8448] (shapeCast S22528 B shapeCasts_S176x128_S22528) slices_S22528_S2048_8448) shapeCasts_S2048_S1x2048
abbrev up8 (B : FVec Ideal S176x128 .f32) : FVec Ideal S1x3x1408 .f32 :=
  shapeCast S1x3x1408 (extractStridedSlice S4224 ![10496] (shapeCast S22528 B shapeCasts_S176x128_S22528) slices_S22528_S4224_10496) shapeCasts_S4224_S1x3x1408
abbrev up9 (B : FVec Ideal S176x128 .f32) : FVec Ideal S1x5632 .f32 :=
  shapeCast S1x5632 (extractStridedSlice S5632 ![14720] (shapeCast S22528 B shapeCasts_S176x128_S22528) slices_S22528_S5632_14720) shapeCasts_S5632_S1x5632
abbrev up10 (B : FVec Ideal S176x128 .f32) : FVec Ideal S2048 .f32 :=
  extractStridedSlice S2048 ![20352] (shapeCast S22528 B shapeCasts_S176x128_S22528) slices_S22528_S2048_20352

/-- `u` takes its entries from entries of the packed array, and finds there the weight's array that `a` is. -/
structure Reads {s : Shape} (u : FVec Ideal S176x128 .f32 → FVec Ideal s .f32) (a : Eleven → FVec Ideal s .f32) : Prop where
  moves : ∃ p : s.Idx → S176x128.Idx, ∀ B i, u B i = B (p i)
  finds : ∀ x : Eleven, u x.packed = a x

theorem reads_part {n : Nat} {s : Shape} (a : Eleven → FVec Ideal s .f32) (k off : Nat) (h : s.ShapeCasts ⟨1, ![n]⟩) (h' : (⟨1, ![n]⟩ : Shape).ShapeCasts s)
    (hs : S22528.Slices ![off] ⟨1, ![n]⟩) (hn : off + n ≤ 22400) (hk : k < 11) (hy : ∀ x : Eleven, x.pieces[k] = ⟨⟨1, ![n]⟩, shapeCast ⟨1, ![n]⟩ (a x) h⟩)
    (ho : ∀ x, before x k = off) :
    Reads (fun B => shapeCast s (extractStridedSlice ⟨1, ![n]⟩ ![off] (shapeCast S22528 B shapeCasts_S176x128_S22528) hs) h') a where
  moves := ⟨_, fun _ _ => rfl⟩
  finds x := (congrArg (fun y => shapeCast s y h') (part x k off _ hk (hy x) (ho x) hn hs)).trans (shapeCast_shapeCast _ _ _)

theorem reads0 : Reads up0 Eleven.a0 := reads_part _ 0 0 shapeCasts_S1x2048_S2048 _ _ (by omega) (by omega) (fun _ => rfl) (fun _ => by simp [before, S2048, S512, S256, S1024, S4224, S5632])
theorem reads1 : Reads up1 Eleven.a1 := reads_part _ 1 2048 shapeCasts_S1x16x128_S2048 _ _ (by omega) (by omega) (fun _ => rfl) (fun _ => by simp [before, S2048, S512, S256, S1024, S4224, S5632])
theorem reads2 : Reads up2 Eleven.a2 := reads_part _ 2 4096 shapeCasts_S1x512_S512 _ _ (by omega) (by omega) (fun _ => rfl) (fun _ => by simp [before, S2048, S512, S256, S1024, S4224, S5632])
theorem reads3 : Reads up3 Eleven.a3 := reads_part _ 3 4608 shapeCasts_S1x16x128_S2048 _ _ (by omega) (by omega) (fun _ => rfl) (fun _ => by simp [before, S2048, S512, S256, S1024, S4224, S5632])
theorem reads4 : Reads up4 Eleven.a4 := reads_part _ 4 6656 shapeCasts_S1x512_S512 _ _ (by omega) (by omega) (fun _ => rfl) (fun _ => by simp [before, S2048, S512, S256, S1024, S4224, S5632])
theorem reads5 : Reads up5 Eleven.a5 := reads_part _ 5 7168 shapeCasts_S1x256_S256 _ _ (by omega) (by omega) (fun _ => rfl) (fun _ => by simp [before, S2048, S512, S256, S1024, S4224, S5632])
theorem reads6 : Reads up6 Eleven.a6 := reads_part _ 6 7424 shapeCasts_S1x1024_S1024 _ _ (by omega) (by omega) (fun _ => rfl) (fun _ => by simp [before, S2048, S512, S256, S1024, S4224, S5632])
theorem reads7 : Reads up7 Eleven.a7 := reads_part _ 7 8448 shapeCasts_S1x2048_S2048 _ _ (by omega) (by omega) (fun _ => rfl) (fun _ => by simp [before, S2048, S512, S256, S1024, S4224, S5632])
theorem reads8 : Reads up8 Eleven.a8 := reads_part _ 8 10496 shapeCasts_S1x3x1408_S4224 _ _ (by omega) (by omega) (fun _ => rfl) (fun _ => by simp [before, S2048, S512, S256, S1024, S4224, S5632])
theorem reads9 : Reads up9 Eleven.a9 := reads_part _ 9 14720 shapeCasts_S1x5632_S5632 _ _ (by omega) (by omega) (fun _ => rfl) (fun _ => by simp [before, S2048, S512, S256, S1024, S4224, S5632])
theorem reads10 : Reads up10 Eleven.a10 := ⟨⟨_, fun _ _ => rfl⟩, fun x => part x 10 20352 x.a10 (show 10 < 11 by omega) rfl (by simp [before, S2048, S512, S256, S1024, S4224, S5632]) (by omega) _⟩

section Elementwise

variable {s : Shape} {u : FVec Ideal S176x128 .f32 → FVec Ideal s .f32} {a : Eleven → FVec Ideal s .f32} (g w m v : Eleven)

theorem Reads.entries (R : Reads u a) : ∃ p : s.Idx → S176x128.Idx, (∀ B i, u B i = B (p i)) ∧ ∀ y : Eleven, ∀ i, y.packed (p i) = a y i := by
  obtain ⟨p, hp⟩ := R.moves
  exact ⟨p, hp, fun y i => (hp _ i).symm.trans (congrFun (R.finds y) i)⟩

theorem Reads.first (R : Reads u a) : u (fun j => Adam.first (g.packed j) (m.packed j)) = fun i => Adam.first (a g i) (a m i) := by
  obtain ⟨p, hp, hf⟩ := R.entries
  funext i
  rw [hp, hf, hf]
theorem Reads.second (R : Reads u a) : u (fun j => Adam.second (g.packed j) (v.packed j)) = fun i => Adam.second (a g i) (a v i) := by
  obtain ⟨p, hp, hf⟩ := R.entries
  funext i
  rw [hp, hf, hf]
theorem Reads.delta (R : Reads u a) : u (fun j => Adam.delta (g.packed j) (w.packed j) (m.packed j) (v.packed j)) = fun i => Adam.delta (a g i) (a w i) (a m i) (a v i) := by
  obtain ⟨p, hp, hf⟩ := R.entries
  funext i
  rw [hp, hf, hf, hf, hf]

end Elementwise

/-! ## The lines before and after the call -/

variable (m : (ℓ : Loc nD τ sig) → Buf (Elt Ideal) ℓ) (ρ : Dev nD → PrngReg) (c : Dev nD)

abbrev W : Eleven := ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10)⟩
abbrev M : Eleven := ⟨m ((c : Thread nD τ).loc main_arg11), m ((c : Thread nD τ).loc main_arg12), m ((c : Thread nD τ).loc main_arg13), m ((c : Thread nD τ).loc main_arg14), m ((c : Thread nD τ).loc main_arg15), m ((c : Thread nD τ).loc main_arg16), m ((c : Thread nD τ).loc main_arg17), m ((c : Thread nD τ).loc main_arg18), m ((c : Thread nD τ).loc main_arg19), m ((c : Thread nD τ).loc main_arg20), m ((c : Thread nD τ).loc main_arg21)⟩
abbrev Q : Eleven := ⟨m ((c : Thread nD τ).loc main_arg22), m ((c : Thread nD τ).loc main_arg23), m ((c : Thread nD τ).loc main_arg24), m ((c : Thread nD τ).loc main_arg25), m ((c : Thread nD τ).loc main_arg26), m ((c : Thread nD τ).loc main_arg27), m ((c : Thread nD τ).loc main_arg28), m ((c : Thread nD τ).loc main_arg29), m ((c : Thread nD τ).loc main_arg30), m ((c : Thread nD τ).loc main_arg31), m ((c : Thread nD τ).loc main_arg32)⟩
abbrev G : Eleven := ⟨m ((c : Thread nD τ).loc main_arg33), m ((c : Thread nD τ).loc main_arg34), m ((c : Thread nD τ).loc main_arg35), m ((c : Thread nD τ).loc main_arg36), m ((c : Thread nD τ).loc main_arg37), m ((c : Thread nD τ).loc main_arg38), m ((c : Thread nD τ).loc main_arg39), m ((c : Thread nD τ).loc main_arg40), m ((c : Thread nD τ).loc main_arg41), m ((c : Thread nD τ).loc main_arg42), m ((c : Thread nD τ).loc main_arg43)⟩

theorem head0 : V m c main_v12 = (W m c).packed := by
  unfold V V0
  simp only [hostOps0, hostOps0_1, hostOps0_2, hostOps0_3, hostOps0_4, hostOps0_5, hostOps0_6, hostOps0_7, List.flatten_cons, List.flatten_nil, List.append_nil, List.cons_append, List.nil_append]
  after_results
  rfl
theorem head1 : V m c main_v25 = (M m c).packed := by
  unfold V V0
  simp only [hostOps0, hostOps0_1, hostOps0_2, hostOps0_3, hostOps0_4, hostOps0_5, hostOps0_6, hostOps0_7, List.flatten_cons, List.flatten_nil, List.append_nil, List.cons_append, List.nil_append]
  after_results
  rfl
theorem head2 : V m c main_v38 = (Q m c).packed := by
  unfold V V0
  simp only [hostOps0, hostOps0_1, hostOps0_2, hostOps0_3, hostOps0_4, hostOps0_5, hostOps0_6, hostOps0_7, List.flatten_cons, List.flatten_nil, List.append_nil, List.cons_append, List.nil_append]
  after_results
  rfl
theorem head3 : V m c main_v51 = (G m c).packed := by
  unfold V V0
  simp only [hostOps0, hostOps0_1, hostOps0_2, hostOps0_3, hostOps0_4, hostOps0_5, hostOps0_6, hostOps0_7, List.flatten_cons, List.flatten_nil, List.append_nil, List.cons_append, List.nil_append]
  after_results
  rfl

/-- What the last lines make of the call's four arrays. -/
theorem tail (U : Valuation τ sig (Elt Ideal)) (A B C D : FVec Ideal S176x128 .f32) (hA : U (Proc.devRef .tc main_v52_0) = A) (hB : U (Proc.devRef .tc main_v52_1) = B)
    (hC : U (Proc.devRef .tc main_v52_2) = C) (hD : U (Proc.devRef .tc main_v52_3) = D) :
    StableHlo.after hostOps1 U (Proc.devRef .tc main_v55) = up0 A
    ∧ StableHlo.after hostOps1 U (Proc.devRef .tc main_v57) = up1 A
    ∧ StableHlo.after hostOps1 U (Proc.devRef .tc main_v59) = up2 A
    ∧ StableHlo.after hostOps1 U (Proc.devRef .tc main_v61) = up3 A
    ∧ StableHlo.after hostOps1 U (Proc.devRef .tc main_v63) = up4 A
    ∧ StableHlo.after hostOps1 U (Proc.devRef .tc main_v65) = up5 A
    ∧ StableHlo.after hostOps1 U (Proc.devRef .tc main_v67) = up6 A
    ∧ StableHlo.after hostOps1 U (Proc.devRef .tc main_v69) = up7 A
    ∧ StableHlo.after hostOps1 U (Proc.devRef .tc main_v71) = up8 A
    ∧ StableHlo.after hostOps1 U (Proc.devRef .tc main_v73) = up9 A
    ∧ StableHlo.after hostOps1 U (Proc.devRef .tc main_v74) = up10 A
    ∧ StableHlo.after hostOps1 U (Proc.devRef .tc main_v77) = up0 B
    ∧ StableHlo.after hostOps1 U (Proc.devRef .tc main_v79) = up1 B
    ∧ StableHlo.after hostOps1 U (Proc.devRef .tc main_v81) = up2 B
    ∧ StableHlo.after hostOps1 U (Proc.devRef .tc main_v83) = up3 B
    ∧ StableHlo.after hostOps1 U (Proc.devRef .tc main_v85) = up4 B
    ∧ StableHlo.after hostOps1 U (Proc.devRef .tc main_v87) = up5 B
    ∧ StableHlo.after hostOps1 U (Proc.devRef .tc main_v89) = up6 B
    ∧ StableHlo.after hostOps1 U (Proc.devRef .tc main_v91) = up7 B
    ∧ StableHlo.after hostOps1 U (Proc.devRef .tc main_v93) = up8 B
    ∧ StableHlo.after hostOps1 U (Proc.devRef .tc main_v95) = up9 B
    ∧ StableHlo.after hostOps1 U (Proc.devRef .tc main_v96) = up10 B
    ∧ StableHlo.after hostOps1 U (Proc.devRef .tc main_v99) = up0 C
    ∧ StableHlo.after hostOps1 U (Proc.devRef .tc main_v101) = up1 C
    ∧ StableHlo.after hostOps1 U (Proc.devRef .tc main_v103) = up2 C
    ∧ StableHlo.after hostOps1 U (Proc.devRef .tc main_v105) = up3 C
    ∧ StableHlo.after hostOps1 U (Proc.devRef .tc main_v107) = up4 C
    ∧ StableHlo.after hostOps1 U (Proc.devRef .tc main_v109) = up5 C
    ∧ StableHlo.after hostOps1 U (Proc.devRef .tc main_v111) = up6 C
    ∧ StableHlo.after hostOps1 U (Proc.devRef .tc main_v113) = up7 C
    ∧ StableHlo.after hostOps1 U (Proc.devRef .tc main_v115) = up8 C
    ∧ StableHlo.after hostOps1 U (Proc.devRef .tc main_v117) = up9 C
    ∧ StableHlo.after hostOps1 U (Proc.devRef .tc main_v118) = up10 C
    ∧ StableHlo.after hostOps1 U (Proc.devRef .tc main_v121) = up0 D
    ∧ StableHlo.after hostOps1 U (Proc.devRef .tc main_v123) = up1 D
    ∧ StableHlo.after hostOps1 U (Proc.devRef .tc main_v125) = up2 D
    ∧ StableHlo.after hostOps1 U (Proc.devRef .tc main_v127) = up3 D
    ∧ StableHlo.after hostOps1 U (Proc.devRef .tc main_v129) = up4 D
    ∧ StableHlo.after hostOps1 U (Proc.devRef .tc main_v131) = up5 D
    ∧ StableHlo.after hostOps1 U (Proc.devRef .tc main_v133) = up6 D
    ∧ StableHlo.after hostOps1 U (Proc.devRef .tc main_v135) = up7 D
    ∧ StableHlo.after hostOps1 U (Proc.devRef .tc main_v137) = up8 D
    ∧ StableHlo.after hostOps1 U (Proc.devRef .tc main_v139) = up9 D
    ∧ StableHlo.after hostOps1 U (Proc.devRef .tc main_v140) = up10 D := by
  subst hA hB hC hD
  simp only [hostOps1]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals
    after_results
    try rfl

end Cert.SmallPack

end
-- ==== Proof.StepSmall.lean ====
/-
  The optimiser's step for the eleven small weights: the call's arrays, and the claim.
-/
module

public import proofs.«01_k».proof.Defs
public import proofs.«01_k».proof.Proof.SmallPack
public import proofs.«01_k».proof.Proof.Gen.Reference18Ideal.Run
public import Idealize.ShloMosaic.Lib.Pipeline.ValueKit
public import Idealize.ShloMosaic.Lib.Pointwise

@[expose] public section

set_option maxRecDepth 16384

noncomputable section

namespace Cert.StepSmall

open Cert.SmallPack Cert.Kernel18Ideal Cert.Kernel18Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The call's four arrays. -/
abbrev arr (w : Fin 8) := (dats m 0 c).arrAt w cfg0.N

/-- The contents when the last lines are entered. -/
abbrev U : Valuation τ sig (Elt Ideal) := Pipeline.withArrays spec0 c (V0 m c) fun w => (dats m 0 c).arrAt w cfg0.N

/-- What the program leaves under a name of its last lines. -/
abbrev fin (b : Ref sig .tc) : Buf (Elt Ideal) ((c : Thread nD τ).loc b) := StableHlo.after hostOps1 (U m c) (Proc.devRef .tc b)

theorem tail_fin (b : Ref sig .tc) : Pipeline.afterTail₀ cfgs (dats m) 0 (V0 m) [hostOps1] c b = fin m c b := by
  unfold Pipeline.afterTail₀
  simp only [List.flatten_cons, List.flatten_nil, List.append_nil]

/-! ## The call's arrays -/

theorem zeros : ∀ t : Fin cfg0.N, (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0) ∧ (win0_7.index t 0 = 0 ∧ win0_7.index t 1 = 0) :=
  (by decide +kernel : ∀ t : Fin grid0.N, (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0) ∧ (win0_7.index t 0 = 0 ∧ win0_7.index t 1 = 0))

/-- The grid's one point. -/
def pt : Fin cfg0.N := ⟨0, by rw [show cfg0.N = 1 from N_0]; omega⟩

theorem in0 : iblk m c 0 pt = (W m c).packed := by
  funext y
  refine Eq.trans ?_ (congrFun (head0 m c) y)
  idx_vars y
  obtain ⟨e0, e1, e2, e3, -⟩ := zeros pt
  blk_ext [iblk, e0]
theorem in1 : iblk m c 1 pt = (M m c).packed := by
  funext y
  refine Eq.trans ?_ (congrFun (head1 m c) y)
  idx_vars y
  obtain ⟨e0, e1, e2, e3, -⟩ := zeros pt
  blk_ext [iblk, e1]
theorem in2 : iblk m c 2 pt = (Q m c).packed := by
  funext y
  refine Eq.trans ?_ (congrFun (head2 m c) y)
  idx_vars y
  obtain ⟨e0, e1, e2, e3, -⟩ := zeros pt
  blk_ext [iblk, e2]
theorem in3 : iblk m c 3 pt = (G m c).packed := by
  funext y
  refine Eq.trans ?_ (congrFun (head3 m c) y)
  idx_vars y
  obtain ⟨e0, e1, e2, e3, -⟩ := zeros pt
  blk_ext [iblk, e3]

section Body

variable (x0 x1 x2 x3 : Vec Ideal S176x128 .f32) (y : S176x128.Idx)

theorem ld (x : Vec Ideal S176x128 .f32) : View.ld x r0_0 = x := View.ld_unit_zero (by decide) _ _

theorem body4 : out0_4 x0 x1 x2 x3 y = x3 y := by
  unfold out0_4
  refine (congrFun (View.canon_unit_zero (by decide) _ _) _).trans ?_
  unfold_payloads
  rw [ld]
  idx_vars y
  pointwise
theorem body5 : out0_5 x0 x1 x2 x3 y = Adam.delta (x3 y) (x0 y) (x1 y) (x2 y) := by
  unfold out0_5
  refine (congrFun (View.canon_unit_zero (by decide) _ _) _).trans ?_
  unfold_payloads
  rw [ld, ld, ld, ld]
  idx_vars y
  pointwise
  rfl
theorem body6 : out0_6 x0 x1 x2 x3 y = Adam.first (x3 y) (x1 y) := by
  unfold out0_6
  refine (congrFun (View.canon_unit_zero (by decide) _ _) _).trans ?_
  unfold_payloads
  rw [ld, ld]
  idx_vars y
  pointwise
  rfl
theorem body7 : out0_7 x0 x1 x2 x3 y = Adam.second (x3 y) (x2 y) := by
  unfold out0_7
  refine (congrFun (View.canon_unit_zero (by decide) _ _) _).trans ?_
  unfold_payloads
  rw [ld, ld]
  idx_vars y
  pointwise
  rfl

end Body

theorem at_of (w : Fin cfg0.W) (hk : (cfg0.win w).kind = Pipeline.WinKind.blocked) (t : Fin cfg0.N) (hf : (cfg0.win w).flush t = true)
    (y : ((cfg0.win w).xblock (cfg0.grid.coords t)).Idx) :
    ((cfg0.win w).blk t).view.read (Elt Ideal) ((dats m 0 c).arrAt w cfg0.N) y = (cfg0.win w).cut (grid0.coords t) ((dats m 0 c).after w t) y :=
  congrFun ((dats m 0 c).read_blk_arrAt_eq_flushed w
    (fun t t' _ _ hne => absurd ((by decide +kernel : ∀ t t' : Fin grid0.N, t = t') t t') hne) cfg0.N t t.isLt hf) y

theorem arr4 : arr m c 4 = fun y => (G m c).packed y := by
  refine funext fun (y : S176x128.Idx) => ?_
  have e : (win0_4.blk pt).view.emb y = y := by
    idx_vars y
    obtain ⟨-, -, -, -, e4, e5, e6, e7⟩ := zeros pt
    blk_ext [e4]
  have b := at_of m c 4 rfl pt (flush0_4 _) y
  rw [after0_4] at b
  refine ((congrArg (arr m c 4) e).symm.trans b).trans ?_
  refine (body4 (iblk m c 0 pt) (iblk m c 1 pt) (iblk m c 2 pt) (iblk m c 3 pt) y).trans ?_
  simp only [in0, in1, in2, in3]
theorem arr5 : arr m c 5 = fun y => Adam.delta ((G m c).packed y) ((W m c).packed y) ((M m c).packed y) ((Q m c).packed y) := by
  refine funext fun (y : S176x128.Idx) => ?_
  have e : (win0_5.blk pt).view.emb y = y := by
    idx_vars y
    obtain ⟨-, -, -, -, e4, e5, e6, e7⟩ := zeros pt
    blk_ext [e5]
  have b := at_of m c 5 rfl pt (flush0_5 _) y
  rw [after0_5] at b
  refine ((congrArg (arr m c 5) e).symm.trans b).trans ?_
  refine (body5 (iblk m c 0 pt) (iblk m c 1 pt) (iblk m c 2 pt) (iblk m c 3 pt) y).trans ?_
  simp only [in0, in1, in2, in3]
theorem arr6 : arr m c 6 = fun y => Adam.first ((G m c).packed y) ((M m c).packed y) := by
  refine funext fun (y : S176x128.Idx) => ?_
  have e : (win0_6.blk pt).view.emb y = y := by
    idx_vars y
    obtain ⟨-, -, -, -, e4, e5, e6, e7⟩ := zeros pt
    blk_ext [e6]
  have b := at_of m c 6 rfl pt (flush0_6 _) y
  rw [after0_6] at b
  refine ((congrArg (arr m c 6) e).symm.trans b).trans ?_
  refine (body6 (iblk m c 0 pt) (iblk m c 1 pt) (iblk m c 2 pt) (iblk m c 3 pt) y).trans ?_
  simp only [in0, in1, in2, in3]
theorem arr7 : arr m c 7 = fun y => Adam.second ((G m c).packed y) ((Q m c).packed y) := by
  refine funext fun (y : S176x128.Idx) => ?_
  have e : (win0_7.blk pt).view.emb y = y := by
    idx_vars y
    obtain ⟨-, -, -, -, e4, e5, e6, e7⟩ := zeros pt
    blk_ext [e7]
  have b := at_of m c 7 rfl pt (flush0_7 _) y
  rw [after0_7] at b
  refine ((congrArg (arr m c 7) e).symm.trans b).trans ?_
  refine (body7 (iblk m c 0 pt) (iblk m c 1 pt) (iblk m c 2 pt) (iblk m c 3 pt) y).trans ?_
  simp only [in0, in1, in2, in3]

/-! ## The claim -/

set_option maxHeartbeats 4000000 in
/-- What the program leaves, of the arguments: the gradients `g`, and of them, the weights `w` and the moments `p` and `q` the step. -/
theorem fins (w p q g : Eleven) (hw : W m c = w) (hp : M m c = p) (hq : Q m c = q) (hg : G m c = g) :
    fin m c main_v55 = g.a0
    ∧ fin m c main_v57 = g.a1
    ∧ fin m c main_v59 = g.a2
    ∧ fin m c main_v61 = g.a3
    ∧ fin m c main_v63 = g.a4
    ∧ fin m c main_v65 = g.a5
    ∧ fin m c main_v67 = g.a6
    ∧ fin m c main_v69 = g.a7
    ∧ fin m c main_v71 = g.a8
    ∧ fin m c main_v73 = g.a9
    ∧ fin m c main_v74 = g.a10
    ∧ fin m c main_v77 = (fun i => Adam.delta (g.a0 i) (w.a0 i) (p.a0 i) (q.a0 i))
    ∧ fin m c main_v79 = (fun i => Adam.delta (g.a1 i) (w.a1 i) (p.a1 i) (q.a1 i))
    ∧ fin m c main_v81 = (fun i => Adam.delta (g.a2 i) (w.a2 i) (p.a2 i) (q.a2 i))
    ∧ fin m c main_v83 = (fun i => Adam.delta (g.a3 i) (w.a3 i) (p.a3 i) (q.a3 i))
    ∧ fin m c main_v85 = (fun i => Adam.delta (g.a4 i) (w.a4 i) (p.a4 i) (q.a4 i))
    ∧ fin m c main_v87 = (fun i => Adam.delta (g.a5 i) (w.a5 i) (p.a5 i) (q.a5 i))
    ∧ fin m c main_v89 = (fun i => Adam.delta (g.a6 i) (w.a6 i) (p.a6 i) (q.a6 i))
    ∧ fin m c main_v91 = (fun i => Adam.delta (g.a7 i) (w.a7 i) (p.a7 i) (q.a7 i))
    ∧ fin m c main_v93 = (fun i => Adam.delta (g.a8 i) (w.a8 i) (p.a8 i) (q.a8 i))
    ∧ fin m c main_v95 = (fun i => Adam.delta (g.a9 i) (w.a9 i) (p.a9 i) (q.a9 i))
    ∧ fin m c main_v96 = (fun i => Adam.delta (g.a10 i) (w.a10 i) (p.a10 i) (q.a10 i))
    ∧ fin m c main_v99 = (fun i => Adam.first (g.a0 i) (p.a0 i))
    ∧ fin m c main_v101 = (fun i => Adam.first (g.a1 i) (p.a1 i))
    ∧ fin m c main_v103 = (fun i => Adam.first (g.a2 i) (p.a2 i))
    ∧ fin m c main_v105 = (fun i => Adam.first (g.a3 i) (p.a3 i))
    ∧ fin m c main_v107 = (fun i => Adam.first (g.a4 i) (p.a4 i))
    ∧ fin m c main_v109 = (fun i => Adam.first (g.a5 i) (p.a5 i))
    ∧ fin m c main_v111 = (fun i => Adam.first (g.a6 i) (p.a6 i))
    ∧ fin m c main_v113 = (fun i => Adam.first (g.a7 i) (p.a7 i))
    ∧ fin m c main_v115 = (fun i => Adam.first (g.a8 i) (p.a8 i))
    ∧ fin m c main_v117 = (fun i => Adam.first (g.a9 i) (p.a9 i))
    ∧ fin m c main_v118 = (fun i => Adam.first (g.a10 i) (p.a10 i))
    ∧ fin m c main_v121 = (fun i => Adam.second (g.a0 i) (q.a0 i))
    ∧ fin m c main_v123 = (fun i => Adam.second (g.a1 i) (q.a1 i))
    ∧ fin m c main_v125 = (fun i => Adam.second (g.a2 i) (q.a2 i))
    ∧ fin m c main_v127 = (fun i => Adam.second (g.a3 i) (q.a3 i))
    ∧ fin m c main_v129 = (fun i => Adam.second (g.a4 i) (q.a4 i))
    ∧ fin m c main_v131 = (fun i => Adam.second (g.a5 i) (q.a5 i))
    ∧ fin m c main_v133 = (fun i => Adam.second (g.a6 i) (q.a6 i))
    ∧ fin m c main_v135 = (fun i => Adam.second (g.a7 i) (q.a7 i))
    ∧ fin m c main_v137 = (fun i => Adam.second (g.a8 i) (q.a8 i))
    ∧ fin m c main_v139 = (fun i => Adam.second (g.a9 i) (q.a9 i))
    ∧ fin m c main_v140 = (fun i => Adam.second (g.a10 i) (q.a10 i)) := by
  have f4 : ∀ {s : Shape} {u : FVec Ideal S176x128 .f32 → FVec Ideal s .f32} {a : Eleven → FVec Ideal s .f32}, Reads u a → u (arr m c 4) = a g := fun R =>
    (congrArg _ (arr4 m c)).trans ((R.finds _).trans (congrArg _ hg))
  have f5 : ∀ {s : Shape} {u : FVec Ideal S176x128 .f32 → FVec Ideal s .f32} {a : Eleven → FVec Ideal s .f32}, Reads u a →
      u (arr m c 5) = fun i => Adam.delta (a g i) (a w i) (a p i) (a q i) := fun R => by
    subst hw hp hq hg
    exact (congrArg _ (arr5 m c)).trans (R.delta _ _ _ _)
  have f6 : ∀ {s : Shape} {u : FVec Ideal S176x128 .f32 → FVec Ideal s .f32} {a : Eleven → FVec Ideal s .f32}, Reads u a →
      u (arr m c 6) = fun i => Adam.first (a g i) (a p i) := fun R => by
    subst hp hg
    exact (congrArg _ (arr6 m c)).trans (R.first _ _)
  have f7 : ∀ {s : Shape} {u : FVec Ideal S176x128 .f32 → FVec Ideal s .f32} {a : Eleven → FVec Ideal s .f32}, Reads u a →
      u (arr m c 7) = fun i => Adam.second (a g i) (a q i) := fun R => by
    subst hq hg
    exact (congrArg _ (arr7 m c)).trans (R.second _ _)
  obtain ⟨l0, l1, l2, l3, l4, l5, l6, l7, l8, l9, l10, l11, l12, l13, l14, l15, l16, l17, l18, l19, l20, l21, l22, l23, l24, l25, l26, l27, l28, l29, l30, l31, l32, l33, l34, l35, l36, l37, l38, l39, l40, l41, l42, l43⟩ := tail (U m c) (arr m c 4) (arr m c 5) (arr m c 6) (arr m c 7)
    (Pipeline.withArrays_arr spec0 winFacts0.arr_inj c (V0 m c) _ 4) (Pipeline.withArrays_arr spec0 winFacts0.arr_inj c (V0 m c) _ 5)
    (Pipeline.withArrays_arr spec0 winFacts0.arr_inj c (V0 m c) _ 6) (Pipeline.withArrays_arr spec0 winFacts0.arr_inj c (V0 m c) _ 7)
  exact ⟨l0.trans (f4 reads0), l1.trans (f4 reads1), l2.trans (f4 reads2), l3.trans (f4 reads3), l4.trans (f4 reads4), l5.trans (f4 reads5), l6.trans (f4 reads6), l7.trans (f4 reads7), l8.trans (f4 reads8), l9.trans (f4 reads9), l10.trans (f4 reads10), l11.trans (f5 reads0), l12.trans (f5 reads1), l13.trans (f5 reads2), l14.trans (f5 reads3), l15.trans (f5 reads4), l16.trans (f5 reads5), l17.trans (f5 reads6), l18.trans (f5 reads7), l19.trans (f5 reads8), l20.trans (f5 reads9), l21.trans (f5 reads10), l22.trans (f6 reads0), l23.trans (f6 reads1), l24.trans (f6 reads2), l25.trans (f6 reads3), l26.trans (f6 reads4), l27.trans (f6 reads5), l28.trans (f6 reads6), l29.trans (f6 reads7), l30.trans (f6 reads8), l31.trans (f6 reads9), l32.trans (f6 reads10), l33.trans (f7 reads0), l34.trans (f7 reads1), l35.trans (f7 reads2), l36.trans (f7 reads3), l37.trans (f7 reads4), l38.trans (f7 reads5), l39.trans (f7 reads6), l40.trans (f7 reads7), l41.trans (f7 reads8), l42.trans (f7 reads9), l43.trans (f7 reads10)⟩

theorem Eleven.same {x y : Eleven} (h0 : x.a0 = y.a0) (h1 : x.a1 = y.a1) (h2 : x.a2 = y.a2) (h3 : x.a3 = y.a3) (h4 : x.a4 = y.a4) (h5 : x.a5 = y.a5)
    (h6 : x.a6 = y.a6) (h7 : x.a7 = y.a7) (h8 : x.a8 = y.a8) (h9 : x.a9 = y.a9) (h10 : x.a10 = y.a10) : x = y := by
  cases x
  cases y
  cases h0; cases h1; cases h2; cases h3; cases h4; cases h5; cases h6; cases h7; cases h8; cases h9; cases h10
  rfl

set_option maxHeartbeats 4000000 in
theorem algebraic : Cert.algebraic_Kernel18Ideal_Reference18Ideal := by
  intro m ρ m' ρ' _ hagree
  refine ⟨fun c => fin m c main_v55, fun c => fin m c main_v57, fun c => fin m c main_v59, fun c => fin m c main_v61, fun c => fin m c main_v63, fun c => fin m c main_v65, fun c => fin m c main_v67, fun c => fin m c main_v69, fun c => fin m c main_v71, fun c => fin m c main_v73, fun c => fin m c main_v74, fun c => fin m c main_v77, fun c => fin m c main_v79, fun c => fin m c main_v81, fun c => fin m c main_v83, fun c => fin m c main_v85, fun c => fin m c main_v87, fun c => fin m c main_v89, fun c => fin m c main_v91, fun c => fin m c main_v93, fun c => fin m c main_v95, fun c => fin m c main_v96, fun c => fin m c main_v99, fun c => fin m c main_v101, fun c => fin m c main_v103, fun c => fin m c main_v105, fun c => fin m c main_v107, fun c => fin m c main_v109, fun c => fin m c main_v111, fun c => fin m c main_v113, fun c => fin m c main_v115, fun c => fin m c main_v117, fun c => fin m c main_v118, fun c => fin m c main_v121, fun c => fin m c main_v123, fun c => fin m c main_v125, fun c => fin m c main_v127, fun c => fin m c main_v129, fun c => fin m c main_v131, fun c => fin m c main_v133, fun c => fin m c main_v135, fun c => fin m c main_v137, fun c => fin m c main_v139, fun c => fin m c main_v140, ?_, ?_⟩
  · refine (θ_run defs _ _).mono (fun _ h c => ?_) (θ_run_and (run_main m ρ) (unchanged m ρ))
    have hk := fun (b : Ref sig .tc) hb => ((h.1 c).2 b hb).trans (tail_fin m c b)
    refine ⟨hk main_v55 ?_, hk main_v57 ?_, hk main_v59 ?_, hk main_v61 ?_, hk main_v63 ?_, hk main_v65 ?_, hk main_v67 ?_, hk main_v69 ?_, hk main_v71 ?_, hk main_v73 ?_, hk main_v74 ?_, hk main_v77 ?_, hk main_v79 ?_, hk main_v81 ?_, hk main_v83 ?_, hk main_v85 ?_, hk main_v87 ?_, hk main_v89 ?_, hk main_v91 ?_, hk main_v93 ?_, hk main_v95 ?_, hk main_v96 ?_, hk main_v99 ?_, hk main_v101 ?_, hk main_v103 ?_, hk main_v105 ?_, hk main_v107 ?_, hk main_v109 ?_, hk main_v111 ?_, hk main_v113 ?_, hk main_v115 ?_, hk main_v117 ?_, hk main_v118 ?_, hk main_v121 ?_, hk main_v123 ?_, hk main_v125 ?_, hk main_v127 ?_, hk main_v129 ?_, hk main_v131 ?_, hk main_v133 ?_, hk main_v135 ?_, hk main_v137 ?_, hk main_v139 ?_, hk main_v140 ?_, h.2 c⟩
    all_goals exact Pipeline.mem_restRefs_of _ (by decide) (by decide)
  refine (θ_run _ _ _).mono (fun _ h c => ?_) (Cert.Reference18Ideal.Value.run (F := Ideal) m' ρ')
  obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43, ha⟩ := h c
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42, a43⟩ := hagree c
  let arg (b : Ref Cert.Reference18Ideal.sig .tc) := m' ((c : Thread Cert.Reference18Ideal.nD Cert.Reference18Ideal.τ).loc b)
  obtain ⟨x0, x1, x2, x3, x4, x5, x6, x7, x8, x9, x10, x11, x12, x13, x14, x15, x16, x17, x18, x19, x20, x21, x22, x23, x24, x25, x26, x27, x28, x29, x30, x31, x32, x33, x34, x35, x36, x37, x38, x39, x40, x41, x42, x43⟩ := fins m c
    ⟨arg Cert.Reference18Ideal.main_arg0, arg Cert.Reference18Ideal.main_arg1, arg Cert.Reference18Ideal.main_arg2, arg Cert.Reference18Ideal.main_arg3, arg Cert.Reference18Ideal.main_arg4, arg Cert.Reference18Ideal.main_arg5, arg Cert.Reference18Ideal.main_arg6, arg Cert.Reference18Ideal.main_arg7, arg Cert.Reference18Ideal.main_arg8, arg Cert.Reference18Ideal.main_arg9, arg Cert.Reference18Ideal.main_arg10⟩
    ⟨arg Cert.Reference18Ideal.main_arg11, arg Cert.Reference18Ideal.main_arg12, arg Cert.Reference18Ideal.main_arg13, arg Cert.Reference18Ideal.main_arg14, arg Cert.Reference18Ideal.main_arg15, arg Cert.Reference18Ideal.main_arg16, arg Cert.Reference18Ideal.main_arg17, arg Cert.Reference18Ideal.main_arg18, arg Cert.Reference18Ideal.main_arg19, arg Cert.Reference18Ideal.main_arg20, arg Cert.Reference18Ideal.main_arg21⟩
    ⟨arg Cert.Reference18Ideal.main_arg22, arg Cert.Reference18Ideal.main_arg23, arg Cert.Reference18Ideal.main_arg24, arg Cert.Reference18Ideal.main_arg25, arg Cert.Reference18Ideal.main_arg26, arg Cert.Reference18Ideal.main_arg27, arg Cert.Reference18Ideal.main_arg28, arg Cert.Reference18Ideal.main_arg29, arg Cert.Reference18Ideal.main_arg30, arg Cert.Reference18Ideal.main_arg31, arg Cert.Reference18Ideal.main_arg32⟩
    ⟨arg Cert.Reference18Ideal.main_arg33, arg Cert.Reference18Ideal.main_arg34, arg Cert.Reference18Ideal.main_arg35, arg Cert.Reference18Ideal.main_arg36, arg Cert.Reference18Ideal.main_arg37, arg Cert.Reference18Ideal.main_arg38, arg Cert.Reference18Ideal.main_arg39, arg Cert.Reference18Ideal.main_arg40, arg Cert.Reference18Ideal.main_arg41, arg Cert.Reference18Ideal.main_arg42, arg Cert.Reference18Ideal.main_arg43⟩
    (Eleven.same a0.symm a1.symm a2.symm a3.symm a4.symm a5.symm a6.symm a7.symm a8.symm a9.symm a10.symm)
    (Eleven.same a11.symm a12.symm a13.symm a14.symm a15.symm a16.symm a17.symm a18.symm a19.symm a20.symm a21.symm)
    (Eleven.same a22.symm a23.symm a24.symm a25.symm a26.symm a27.symm a28.symm a29.symm a30.symm a31.symm a32.symm)
    (Eleven.same a33.symm a34.symm a35.symm a36.symm a37.symm a38.symm a39.symm a40.symm a41.symm a42.symm a43.symm)
  exact ⟨e0.trans x0.symm, e1.trans x1.symm, e2.trans x2.symm, e3.trans x3.symm, e4.trans x4.symm, e5.trans x5.symm, e6.trans x6.symm, e7.trans x7.symm, e8.trans x8.symm, e9.trans x9.symm, e10.trans x10.symm, e11.trans x11.symm, e12.trans x12.symm, e13.trans x13.symm, e14.trans x14.symm, e15.trans x15.symm, e16.trans x16.symm, e17.trans x17.symm, e18.trans x18.symm, e19.trans x19.symm, e20.trans x20.symm, e21.trans x21.symm, e22.trans x22.symm, e23.trans x23.symm, e24.trans x24.symm, e25.trans x25.symm, e26.trans x26.symm, e27.trans x27.symm, e28.trans x28.symm, e29.trans x29.symm, e30.trans x30.symm, e31.trans x31.symm, e32.trans x32.symm, e33.trans x33.symm, e34.trans x34.symm, e35.trans x35.symm, e36.trans x36.symm, e37.trans x37.symm, e38.trans x38.symm, e39.trans x39.symm, e40.trans x40.symm, e41.trans x41.symm, e42.trans x42.symm, e43.trans x43.symm, ha⟩

theorem quiescent : Cert.quiescent_Reference18Ideal := by
  refine fun m ρ _ => (θ_run _ _ _).mono (fun r h => ⟨fun c => ?_, Idealize.ShloMosaic.sem_eq_zero_of_no_sems (by decide) r.2⟩)
    (Cert.Reference18Ideal.Value.run (F := Ideal) m ρ)
  obtain ⟨-, -, -, -, -, -, -, -, -, -, -, -, -, -, -, -, -, -, -, -, -, -, -, -, -, -, -, -, -, -, -, -, -, -, -, -, -, -, -, -, -, -, -, -, ha⟩ := h c
  exact ha

end Cert.StepSmall

end
-- ==== Proof.Norm.lean ====
/-
  The derivative of the norm of a row, by the row: the form the call computes it in, and the form differentiation gives it, are one number.
-/
module

public import Idealize.ShloMosaic.Lib.Pointwise

@[expose] public section

noncomputable section

namespace Cert.Norm

open Idealize.ShloMosaic

variable (x t : Fin 2048 → EReal)

/-- The mean of the row's squares, with the small number added. -/
def var : EReal := Ideal.div (∑ k : Fin 2048, x k * x k) (Ideal.ofBits .f32 0x45000000#32) + Ideal.ofBits .f32 0x358637BD#32
/-- The inverse of its root. -/
def inv : EReal := Ideal.rsqrt (var x)
/-- The derivative as the call computes it. -/
def back (q : Fin 2048) : EReal :=
  inv x * (t q - x q * inv x * Ideal.div (∑ k : Fin 2048, t k * (x k * inv x)) (Ideal.ofBits .f32 0x45000000#32))
/-- Half the derivative through the mean of the squares, over the entry. -/
def half : EReal :=
  Ideal.div ((∑ k : Fin 2048, x k * t k) * (Ideal.ofBits .f32 0xBF000000#32 * Ideal.div (inv x) (var x))) (Ideal.ofBits .f32 0x45000000#32)
/-- The derivative as differentiation gives it. -/
def plain (q : Fin 2048) : EReal := t q * inv x + x q * half x t + half x t * x q

/-! The constants. -/

theorem c2048 : Ideal.ofBits .f32 0x45000000#32 = ((2048 : ℝ) : EReal) := by
  simp [Ideal.ofBits, Ideal.ieee, -EReal.coe_mul]; norm_num
theorem cHalf : Ideal.ofBits .f32 0xBF000000#32 = ((-(1 / 2) : ℝ) : EReal) := by
  simp [Ideal.ofBits, Ideal.ieee, -EReal.coe_mul]; norm_num
theorem cEps : ∃ e : ℝ, 0 < e ∧ Ideal.ofBits .f32 0x358637BD#32 = (e : EReal) := by
  refine ⟨_, ?_, by simp [Ideal.ofBits, Ideal.ieee, -EReal.coe_mul]; rfl⟩
  positivity

/-- A product with a number that is not negative goes under a sum. -/
theorem sum_mul {p : ℝ} (hp : 0 ≤ p) (f : Fin 2048 → EReal) : (∑ k, f k) * (p : EReal) = ∑ k, f k * (p : EReal) := by
  have h : ∀ s : Finset (Fin 2048), (∑ k ∈ s, f k) * (p : EReal) = ∑ k ∈ s, f k * (p : EReal) := by
    intro s
    induction s using Finset.induction_on with
    | empty => simp
    | insert a s ha ih =>
      rw [Finset.sum_insert ha, Finset.sum_insert ha, EReal.right_distrib_of_nonneg_of_ne_top (by exact_mod_cast hp) (EReal.coe_ne_top p), ih]
  exact h _

theorem square_nonneg (a : EReal) : 0 ≤ a * a := by
  rcases le_total 0 a with h | h
  · exact mul_nonneg h h
  · have := mul_nonneg (EReal.neg_nonneg.mpr h) (EReal.neg_nonneg.mpr h)
    rwa [neg_mul_neg] at this

/-- The mean with the small number is a positive number, or infinite. -/
theorem var_pos : 0 < var x := by
  obtain ⟨e, he, h⟩ := cEps
  unfold var
  rw [h, c2048, Ideal.div_coe (by norm_num)]
  have h1 : (0 : EReal) ≤ (∑ k : Fin 2048, x k * x k) * ((1 / 2048 : ℝ) : EReal) :=
    mul_nonneg (Finset.sum_nonneg fun k _ => square_nonneg _) (by exact_mod_cast (by norm_num : (0 : ℝ) ≤ 1 / 2048))
  calc (0 : EReal) < (e : EReal) := by exact_mod_cast he
    _ = 0 + (e : EReal) := (zero_add _).symm
    _ ≤ _ := add_le_add h1 le_rfl

/-- The inverse of the root is a number that is not negative, and its quotient by the mean is its cube. -/
theorem inv_real : ∃ r : ℝ, 0 ≤ r ∧ inv x = (r : EReal) ∧ Ideal.div (inv x) (var x) = ((r * (r * r) : ℝ) : EReal) := by
  have hv := var_pos x
  unfold inv
  generalize var x = v at hv
  induction v using EReal.rec with
  | bot => exact absurd hv (by simp)
  | top => exact ⟨0, le_rfl, by simp, by simp [Ideal.div]⟩
  | coe v =>
    have h0 : 0 < v := by exact_mod_cast hv
    have e : Ideal.rsqrt (v : EReal) = (((Real.sqrt v)⁻¹ : ℝ) : EReal) := by
      rw [Ideal.rsqrt_coe, if_neg (not_lt.mpr h0.le), if_neg h0.ne']
    refine ⟨(Real.sqrt v)⁻¹, inv_nonneg.mpr (Real.sqrt_nonneg v), e, ?_⟩
    rw [e, Ideal.div_coe h0.ne', ← EReal.coe_mul]
    congr 2
    rw [← mul_inv, Real.mul_self_sqrt h0.le, one_div]

theorem back_eq_plain (q : Fin 2048) : back x t q = plain x t q := by
  obtain ⟨r, hr, e, e'⟩ := inv_real x
  have er : (0 : EReal) ≤ (r : EReal) := by exact_mod_cast hr
  have hs : (∑ k : Fin 2048, t k * (x k * (r : EReal))) = (∑ k : Fin 2048, x k * t k) * (r : EReal) := by
    rw [sum_mul hr]
    exact Finset.sum_congr rfl fun k _ => by rw [← mul_assoc, mul_comm (t k)]
  unfold back plain half
  rw [e', e, c2048, cHalf, hs]
  simp only [Ideal.div_coe (by norm_num : (2048 : ℝ) ≠ 0)]
  generalize (∑ k : Fin 2048, x k * t k) = S
  generalize x q = a
  generalize t q = b
  have hp : (0 : EReal) ≤ ((1 / 2 * (r * (r * r)) * (1 / 2048) : ℝ) : EReal) := by
    exact_mod_cast (by positivity : (0 : ℝ) ≤ 1 / 2 * (r * (r * r)) * (1 / 2048))
  have ew : S * (((-(1 / 2) : ℝ) : EReal) * ((r * (r * r) : ℝ) : EReal)) * ((1 / 2048 : ℝ) : EReal)
      = -(S * ((1 / 2 * (r * (r * r)) * (1 / 2048) : ℝ) : EReal)) := by
    rw [← EReal.coe_mul, mul_assoc, ← EReal.coe_mul, ← mul_neg, ← EReal.coe_neg]
    congr 2
    ring
  have ek : (r : EReal) * (a * (r : EReal) * (S * (r : EReal) * ((1 / 2048 : ℝ) : EReal)))
      = a * S * (((1 / 2 * (r * (r * r)) * (1 / 2048) : ℝ) : EReal) + ((1 / 2 * (r * (r * r)) * (1 / 2048) : ℝ) : EReal)) := by
    rw [← EReal.coe_add]
    have : (1 / 2 * (r * (r * r)) * (1 / 2048) + 1 / 2 * (r * (r * r)) * (1 / 2048) : ℝ) = r * (r * (r * (1 / 2048))) := by ring
    rw [this]
    simp only [EReal.coe_mul]
    ac_rfl
  rw [ew, sub_eq_add_neg, EReal.left_distrib_of_nonneg_of_ne_top er (EReal.coe_ne_top r), mul_neg, ek]
  generalize ((1 / 2 * (r * (r * r)) * (1 / 2048) : ℝ) : EReal) = P at hp
  have ea : a * -(S * P) = -(a * S) * P := by rw [mul_neg, ← mul_assoc, neg_mul]
  rw [mul_comm (-(S * P)) a, ea, add_assoc, mul_comm b, ← neg_mul, EReal.left_distrib_of_nonneg hp hp]

end Cert.Norm

end
-- ==== Proof.NormReference.lean ====
/-
  The reference of the norm's gradient: its operations one by one, its run, and its results at an index.
-/
module

public import proofs.«01_k».proof.Defs
public import proofs.«01_k».proof.Proof.Gen.Reference19Ideal
public import proofs.«01_k».proof.Proof.Norm
public import Idealize.ShloMosaic.Lib.StableHlo.Run
public import Idealize.ShloMosaic.Lib.Pointwise
public import Idealize.ShloMosaic.Lib.Pipeline.ValueKit
public import Idealize.ShloMosaic.Lib.Quiescent

@[expose] public section

set_option maxRecDepth 16384

noncomputable section

namespace Cert.NormBack.Ref

open Cert.Reference19Ideal Cert.Reference19Ideal.Gen Idealize.ShloMosaic Idealize.ShloMosaic.TcCoe Idealize.SL.Sem Idealize.ShloMosaic.StableHlo

/-! ## The arrays -/

variable (x dres : FVec Ideal S8192x2048 .f32) (g : FVec Ideal S1x2048 .f32) (dn : FVec Ideal S8192x2048 .bf16)

/-- The mean of a row's squares, with the small number added. -/
def varA : FVec Ideal S8192x1 .f32 :=
  addf (Host.divf (broadcastInDim S8192x1 ![0] bcast_S8192_S8192x1_0
      (Host.reduceAdd (mulf x x) (constant S_ .f32 0x00000000#32) reducesTo_S8192x2048_S8192_d1 h_S_))
    (broadcastInDim S8192x1 ![] bcast_S_S8192x1 (constant S_ .f32 0x45000000#32)))
    (broadcastInDim S8192x1 ![] bcast_S_S8192x1 (constant S_ .f32 0x358637BD#32))
/-- The inverse of its root. -/
def invA : FVec Ideal S8192x1 .f32 := Host.rsqrt (varA x)
/-- The gradient by the normed rows. -/
def tA : FVec Ideal S8192x2048 .f32 :=
  mulf (extf .f32 dn bitsLt_bf16_f32) (broadcastInDim S8192x2048 ![0, 1] bcast_S1x2048_S8192x2048_0_1
    (broadcastInDim S1x2048 ![1] bcast_S2048_S1x2048_1 (shapeCast S2048 g shapeCasts_S1x2048_S2048)))
/-- The derivative through the mean of the squares, a half of it. -/
def wA : FVec Ideal S8192x2048 .f32 :=
  broadcastInDim S8192x2048 ![0] bcast_S8192_S8192x2048_0 (Host.reduceAdd
    (Host.divf (mulf (shapeCast S8192x1
          (Host.reduceAdd (mulf x (tA g dn)) (constant S_ .f32 0x00000000#32) reducesTo_S8192x2048_S8192_d1 h_S_) shapeCasts_S8192_S8192x1)
        (mulf (broadcastInDim S8192x1 ![] bcast_S_S8192x1 (constant S_ .f32 0xBF000000#32)) (Host.divf (invA x) (varA x))))
      (broadcastInDim S8192x1 ![] bcast_S_S8192x1 (constant S_ .f32 0x45000000#32)))
    (constant S_ .f32 0x00000000#32) reducesTo_S8192x1_S8192_d1 h_S_)
def dxA : FVec Ideal S8192x2048 .f32 :=
  addf (addf (addf (mulf (tA g dn) (broadcastInDim S8192x2048 ![0, 1] bcast_S8192x1_S8192x2048_0_1 (invA x))) (mulf x (wA x g dn)))
    (mulf (wA x g dn) x)) dres
def dgA : FVec Ideal S1x2048 .f32 :=
  broadcastInDim S1x2048 ![1] bcast_S2048_S1x2048_1 (Host.reduceAdd (shapeCast S1x2048
      (Host.reduceAdd (mulf (mulf x (broadcastInDim S8192x2048 ![0, 1] bcast_S8192x1_S8192x2048_0_1 (invA x))) (extf .f32 dn bitsLt_bf16_f32))
        (constant S_ .f32 0x00000000#32) reducesTo_S8192x2048_S2048_d0 h_S_) shapeCasts_S2048_S1x2048)
    (constant S_ .f32 0x00000000#32) reducesTo_S1x2048_S2048_d0 h_S_)

/-! ## The run -/

section Run
variable {F : FTy → Type} [FloatOps F]

abbrev ops : List (HloOp τ sig (Elt F)) :=
  [ reshape main_arg1 main_v0 (rfl : (.f32 : EltTy) = .f32) shapeCasts_S1x2048_S2048,
    binary main_arg0 main_arg0 main_v1 (mulf : (⟨S8192x2048, .f32⟩ : BufTy).Contents (Elt F) → (⟨S8192x2048, .f32⟩ : BufTy).Contents (Elt F) → (⟨S8192x2048, .f32⟩ : BufTy).Contents (Elt F)),
    nullary main_cst (constant S_ .f32 0x00000000#32),
    binary main_v1 main_cst main_v2 ((fun x v => Host.reduceAdd x v reducesTo_S8192x2048_S8192_d1 h_S_) : (⟨S8192x2048, .f32⟩ : BufTy).Contents (Elt F) → (⟨S_, .f32⟩ : BufTy).Contents (Elt F) → (⟨S8192, .f32⟩ : BufTy).Contents (Elt F)),
    unary main_v2 main_v3 (broadcastInDim S8192x1 ![0] bcast_S8192_S8192x1_0 : (⟨S8192, .f32⟩ : BufTy).Contents (Elt F) → (⟨S8192x1, .f32⟩ : BufTy).Contents (Elt F)),
    nullary main_cst_0 (constant S_ .f32 0x45000000#32),
    unary main_cst_0 main_v4 (broadcastInDim S8192x1 ![] bcast_S_S8192x1 : (⟨S_, .f32⟩ : BufTy).Contents (Elt F) → (⟨S8192x1, .f32⟩ : BufTy).Contents (Elt F)),
    binary main_v3 main_v4 main_v5 (Host.divf : (⟨S8192x1, .f32⟩ : BufTy).Contents (Elt F) → (⟨S8192x1, .f32⟩ : BufTy).Contents (Elt F) → (⟨S8192x1, .f32⟩ : BufTy).Contents (Elt F)),
    nullary main_cst_1 (constant S_ .f32 0x358637BD#32),
    unary main_cst_1 main_v6 (broadcastInDim S8192x1 ![] bcast_S_S8192x1 : (⟨S_, .f32⟩ : BufTy).Contents (Elt F) → (⟨S8192x1, .f32⟩ : BufTy).Contents (Elt F)),
    binary main_v5 main_v6 main_v7 (addf : (⟨S8192x1, .f32⟩ : BufTy).Contents (Elt F) → (⟨S8192x1, .f32⟩ : BufTy).Contents (Elt F) → (⟨S8192x1, .f32⟩ : BufTy).Contents (Elt F)),
    unary main_v7 main_v8 (Host.rsqrt : (⟨S8192x1, .f32⟩ : BufTy).Contents (Elt F) → (⟨S8192x1, .f32⟩ : BufTy).Contents (Elt F)),
    binary main_v8 main_v7 main_v9 (Host.divf : (⟨S8192x1, .f32⟩ : BufTy).Contents (Elt F) → (⟨S8192x1, .f32⟩ : BufTy).Contents (Elt F) → (⟨S8192x1, .f32⟩ : BufTy).Contents (Elt F)),
    nullary main_cst_2 (constant S_ .f32 0xBF000000#32),
    unary main_cst_2 main_v10 (broadcastInDim S8192x1 ![] bcast_S_S8192x1 : (⟨S_, .f32⟩ : BufTy).Contents (Elt F) → (⟨S8192x1, .f32⟩ : BufTy).Contents (Elt F)),
    binary main_v10 main_v9 main_v11 (mulf : (⟨S8192x1, .f32⟩ : BufTy).Contents (Elt F) → (⟨S8192x1, .f32⟩ : BufTy).Contents (Elt F) → (⟨S8192x1, .f32⟩ : BufTy).Contents (Elt F)),
    unary main_v8 main_v12 (broadcastInDim S8192x2048 ![0, 1] bcast_S8192x1_S8192x2048_0_1 : (⟨S8192x1, .f32⟩ : BufTy).Contents (Elt F) → (⟨S8192x2048, .f32⟩ : BufTy).Contents (Elt F)),
    binary main_arg0 main_v12 main_v13 (mulf : (⟨S8192x2048, .f32⟩ : BufTy).Contents (Elt F) → (⟨S8192x2048, .f32⟩ : BufTy).Contents (Elt F) → (⟨S8192x2048, .f32⟩ : BufTy).Contents (Elt F)),
    unary main_v0 main_v14 (broadcastInDim S1x2048 ![1] bcast_S2048_S1x2048_1 : (⟨S2048, .f32⟩ : BufTy).Contents (Elt F) → (⟨S1x2048, .f32⟩ : BufTy).Contents (Elt F)),
    unary main_v14 main_v15 (broadcastInDim S8192x2048 ![0, 1] bcast_S1x2048_S8192x2048_0_1 : (⟨S1x2048, .f32⟩ : BufTy).Contents (Elt F) → (⟨S8192x2048, .f32⟩ : BufTy).Contents (Elt F)),
    binary main_v13 main_v15 main_v16 (mulf : (⟨S8192x2048, .f32⟩ : BufTy).Contents (Elt F) → (⟨S8192x2048, .f32⟩ : BufTy).Contents (Elt F) → (⟨S8192x2048, .f32⟩ : BufTy).Contents (Elt F)),
    unary main_arg2 main_v17 ((extf .f32 · bitsLt_bf16_f32) : (⟨S8192x2048, .bf16⟩ : BufTy).Contents (Elt F) → (⟨S8192x2048, .f32⟩ : BufTy).Contents (Elt F)),
    binary main_v13 main_v17 main_v18 (mulf : (⟨S8192x2048, .f32⟩ : BufTy).Contents (Elt F) → (⟨S8192x2048, .f32⟩ : BufTy).Contents (Elt F) → (⟨S8192x2048, .f32⟩ : BufTy).Contents (Elt F)),
    nullary main_cst_3 (constant S_ .f32 0x00000000#32),
    binary main_v18 main_cst_3 main_v19 ((fun x v => Host.reduceAdd x v reducesTo_S8192x2048_S2048_d0 h_S_) : (⟨S8192x2048, .f32⟩ : BufTy).Contents (Elt F) → (⟨S_, .f32⟩ : BufTy).Contents (Elt F) → (⟨S2048, .f32⟩ : BufTy).Contents (Elt F)),
    reshape main_v19 main_v20 (rfl : (.f32 : EltTy) = .f32) shapeCasts_S2048_S1x2048,
    unary main_v14 main_v21 (broadcastInDim S8192x2048 ![0, 1] bcast_S1x2048_S8192x2048_0_1 : (⟨S1x2048, .f32⟩ : BufTy).Contents (Elt F) → (⟨S8192x2048, .f32⟩ : BufTy).Contents (Elt F)),
    binary main_v17 main_v21 main_v22 (mulf : (⟨S8192x2048, .f32⟩ : BufTy).Contents (Elt F) → (⟨S8192x2048, .f32⟩ : BufTy).Contents (Elt F) → (⟨S8192x2048, .f32⟩ : BufTy).Contents (Elt F)),
    nullary main_cst_4 (constant S_ .f32 0x00000000#32),
    binary main_v20 main_cst_4 main_v23 ((fun x v => Host.reduceAdd x v reducesTo_S1x2048_S2048_d0 h_S_) : (⟨S1x2048, .f32⟩ : BufTy).Contents (Elt F) → (⟨S_, .f32⟩ : BufTy).Contents (Elt F) → (⟨S2048, .f32⟩ : BufTy).Contents (Elt F)),
    binary main_arg0 main_v22 main_v24 (mulf : (⟨S8192x2048, .f32⟩ : BufTy).Contents (Elt F) → (⟨S8192x2048, .f32⟩ : BufTy).Contents (Elt F) → (⟨S8192x2048, .f32⟩ : BufTy).Contents (Elt F)),
    nullary main_cst_5 (constant S_ .f32 0x00000000#32),
    binary main_v24 main_cst_5 main_v25 ((fun x v => Host.reduceAdd x v reducesTo_S8192x2048_S8192_d1 h_S_) : (⟨S8192x2048, .f32⟩ : BufTy).Contents (Elt F) → (⟨S_, .f32⟩ : BufTy).Contents (Elt F) → (⟨S8192, .f32⟩ : BufTy).Contents (Elt F)),
    reshape main_v25 main_v26 (rfl : (.f32 : EltTy) = .f32) shapeCasts_S8192_S8192x1,
    unary main_v8 main_v27 (broadcastInDim S8192x2048 ![0, 1] bcast_S8192x1_S8192x2048_0_1 : (⟨S8192x1, .f32⟩ : BufTy).Contents (Elt F) → (⟨S8192x2048, .f32⟩ : BufTy).Contents (Elt F)),
    binary main_v22 main_v27 main_v28 (mulf : (⟨S8192x2048, .f32⟩ : BufTy).Contents (Elt F) → (⟨S8192x2048, .f32⟩ : BufTy).Contents (Elt F) → (⟨S8192x2048, .f32⟩ : BufTy).Contents (Elt F)),
    binary main_v26 main_v11 main_v29 (mulf : (⟨S8192x1, .f32⟩ : BufTy).Contents (Elt F) → (⟨S8192x1, .f32⟩ : BufTy).Contents (Elt F) → (⟨S8192x1, .f32⟩ : BufTy).Contents (Elt F)),
    nullary main_cst_6 (constant S_ .f32 0x45000000#32),
    unary main_cst_6 main_v30 (broadcastInDim S8192x1 ![] bcast_S_S8192x1 : (⟨S_, .f32⟩ : BufTy).Contents (Elt F) → (⟨S8192x1, .f32⟩ : BufTy).Contents (Elt F)),
    binary main_v29 main_v30 main_v31 (Host.divf : (⟨S8192x1, .f32⟩ : BufTy).Contents (Elt F) → (⟨S8192x1, .f32⟩ : BufTy).Contents (Elt F) → (⟨S8192x1, .f32⟩ : BufTy).Contents (Elt F)),
    nullary main_cst_7 (constant S_ .f32 0x00000000#32),
    binary main_v31 main_cst_7 main_v32 ((fun x v => Host.reduceAdd x v reducesTo_S8192x1_S8192_d1 h_S_) : (⟨S8192x1, .f32⟩ : BufTy).Contents (Elt F) → (⟨S_, .f32⟩ : BufTy).Contents (Elt F) → (⟨S8192, .f32⟩ : BufTy).Contents (Elt F)),
    unary main_v32 main_v33 (broadcastInDim S8192x2048 ![0] bcast_S8192_S8192x2048_0 : (⟨S8192, .f32⟩ : BufTy).Contents (Elt F) → (⟨S8192x2048, .f32⟩ : BufTy).Contents (Elt F)),
    binary main_arg0 main_v33 main_v34 (mulf : (⟨S8192x2048, .f32⟩ : BufTy).Contents (Elt F) → (⟨S8192x2048, .f32⟩ : BufTy).Contents (Elt F) → (⟨S8192x2048, .f32⟩ : BufTy).Contents (Elt F)),
    binary main_v28 main_v34 main_v35 (addf : (⟨S8192x2048, .f32⟩ : BufTy).Contents (Elt F) → (⟨S8192x2048, .f32⟩ : BufTy).Contents (Elt F) → (⟨S8192x2048, .f32⟩ : BufTy).Contents (Elt F)),
    binary main_v33 main_arg0 main_v36 (mulf : (⟨S8192x2048, .f32⟩ : BufTy).Contents (Elt F) → (⟨S8192x2048, .f32⟩ : BufTy).Contents (Elt F) → (⟨S8192x2048, .f32⟩ : BufTy).Contents (Elt F)),
    binary main_v35 main_v36 main_v37 (addf : (⟨S8192x2048, .f32⟩ : BufTy).Contents (Elt F) → (⟨S8192x2048, .f32⟩ : BufTy).Contents (Elt F) → (⟨S8192x2048, .f32⟩ : BufTy).Contents (Elt F)),
    unary main_v23 main_v38 (broadcastInDim S1x2048 ![1] bcast_S2048_S1x2048_1 : (⟨S2048, .f32⟩ : BufTy).Contents (Elt F) → (⟨S1x2048, .f32⟩ : BufTy).Contents (Elt F)),
    binary main_v37 main_arg3 main_v39 (addf : (⟨S8192x2048, .f32⟩ : BufTy).Contents (Elt F) → (⟨S8192x2048, .f32⟩ : BufTy).Contents (Elt F) → (⟨S8192x2048, .f32⟩ : BufTy).Contents (Elt F)),
    unary main_v39 main_v40 ((truncf .bf16 · bitsLt_bf16_f32) : (⟨S8192x2048, .f32⟩ : BufTy).Contents (Elt F) → (⟨S8192x2048, .bf16⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., binary_bufs_sub .., nullary_bufs_sub .., binary_bufs_sub .., reshape_bufs_sub .., unary_bufs_sub .., binary_bufs_sub .., nullary_bufs_sub .., binary_bufs_sub .., binary_bufs_sub .., nullary_bufs_sub .., binary_bufs_sub .., reshape_bufs_sub .., unary_bufs_sub .., binary_bufs_sub .., binary_bufs_sub .., nullary_bufs_sub .., unary_bufs_sub .., binary_bufs_sub .., nullary_bufs_sub .., binary_bufs_sub .., unary_bufs_sub .., binary_bufs_sub .., binary_bufs_sub .., binary_bufs_sub .., binary_bufs_sub .., unary_bufs_sub .., binary_bufs_sub .., unary_bufs_sub ..⟩
end Run

set_option maxHeartbeats 4000000 in
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v39) = dxA (m ((c.tc : Thread nD τ).loc main_arg0)) (m ((c.tc : Thread nD τ).loc main_arg3))
          (m ((c.tc : Thread nD τ).loc main_arg1)) (m ((c.tc : Thread nD τ).loc main_arg2))
      ∧ r.2.mem ((c.tc : Thread nD τ).loc main_v40) = truncf .bf16 (dxA (m ((c.tc : Thread nD τ).loc main_arg0)) (m ((c.tc : Thread nD τ).loc main_arg3))
          (m ((c.tc : Thread nD τ).loc main_arg1)) (m ((c.tc : Thread nD τ).loc main_arg2))) bitsLt_bf16_f32
      ∧ r.2.mem ((c.tc : Thread nD τ).loc main_v38) = dgA (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v39).trans (by after_results; rfl),
      (h c main_v40).trans (by after_results; rfl),
      (h c main_v38).trans (by after_results; rfl),
      (h c main_arg0).trans (by after_results),
      (h c main_arg1).trans (by after_results),
      (h c main_arg2).trans (by after_results),
      (h c main_arg3).trans (by after_results)⟩)
    (run_seq scopedRefs_eq scopedSems_eq defs main (fun _ => ops) main_eq (fun _ => ops_sub) m ρ)

theorem quiescent : Cert.quiescent_Reference19Ideal := fun m ρ _ =>
  (θ_run Cert.Reference19Ideal.defs _ _).mono (fun r h => ⟨fun c => (h c).2.2.2,
      Idealize.ShloMosaic.sem_eq_zero_of_no_sems (by decide) r.2⟩)
    (run m ρ)

/-! ## At an index -/

/-- Row `p` of the rows, and of the gradient by the normed rows. -/
abbrev xs (p : Fin 8192) (k : Fin 2048) : EReal := x (ix2 p k)
abbrev ts (p : Fin 8192) (k : Fin 2048) : EReal := dn (ix2 p k) * g (ix2 0 k)

theorem varA_at (p : Fin 8192) : varA x (ix2 p 0) = Norm.var (xs x p) := by
  unfold varA Norm.var
  pointwise
theorem invA_at (p : Fin 8192) : invA x (ix2 p 0) = Norm.inv (xs x p) := by
  unfold invA Norm.inv
  rw [← varA_at]
  rfl
theorem tA_at (p : Fin 8192) (q : Fin 2048) : tA g dn (ix2 p q) = ts g dn p q := by
  unfold tA
  pointwise
theorem wA_at (p : Fin 8192) (q : Fin 2048) : wA x g dn (ix2 p q) = Norm.half (xs x p) (ts g dn p) := by
  unfold wA Norm.half
  pointwise
  refine (Fin.sum_univ_one _).trans ?_
  simp only [varA_at, invA_at, tA_at]
theorem dxA_at (p : Fin 8192) (q : Fin 2048) :
    dxA x dres g dn (ix2 p q) = (Norm.plain (xs x p) (ts g dn p) q + dres (ix2 p q) : EReal) := by
  unfold dxA Norm.plain
  pointwise
  simp only [wA_at, invA_at, tA_at]
theorem dxB_at (p : Fin 8192) (q : Fin 2048) :
    truncf .bf16 (dxA x dres g dn) bitsLt_bf16_f32 (ix2 p q) = (Norm.plain (xs x p) (ts g dn p) q + dres (ix2 p q) : EReal) := by
  rw [← dxA_at]
  generalize dxA x dres g dn = A
  pointwise
theorem dgA_at (q : Fin 2048) : dgA x dn (ix2 0 q) = (∑ p : Fin 8192, x (ix2 p q) * Norm.inv (xs x p) * dn (ix2 p q) : EReal) := by
  unfold dgA
  pointwise
  refine (Fin.sum_univ_one _).trans ?_
  simp only [invA_at]

end Cert.NormBack.Ref

end
-- ==== Proof.NormBack.lean ====
/-
  The gradient of the first norm, with the residual's gradient added: the call takes sixteen blocks of rows; each makes its rows' gradient
  at once, and the gradient of the gains is accumulated over all of them.
-/
module

public import proofs.«01_k».proof.Defs
public import proofs.«01_k».proof.Proof.Gen.Kernel19Ideal.Frame
public import proofs.«01_k».proof.Proof.NormReference
public import Idealize.ShloMosaic.Lib.Pipeline.ValueKit
public import Idealize.ShloMosaic.Lib.Pipeline.ReadBack
public import Idealize.ShloMosaic.Lib.Pointwise

@[expose] public section

set_option maxRecDepth 16384

noncomputable section

namespace Cert.NormBack

open Cert.Kernel19Ideal Cert.Kernel19Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

abbrev X : (⟨2, ![8192, 2048]⟩ : Shape).Idx → EReal := m ((c : Thread nD τ).loc main_arg0)
abbrev G : (⟨2, ![1, 2048]⟩ : Shape).Idx → EReal := m ((c : Thread nD τ).loc main_arg1)
abbrev D : (⟨2, ![8192, 2048]⟩ : Shape).Idx → EReal := m ((c : Thread nD τ).loc main_arg2)
abbrev R : (⟨2, ![8192, 2048]⟩ : Shape).Idx → EReal := m ((c : Thread nD τ).loc main_arg3)

theorem run : θ_run defs (onTc (τ := τ) (main (F := Ideal))) ⟨m, fun _ => 0, ρ⟩ fun r => ∀ c : Dev nD,
      r.2.mem ((c : Thread nD τ).loc main_v0_0) = (dats m 0 c).arrAt 4 cfg0.N
      ∧ r.2.mem ((c : Thread nD τ).loc main_v0_1) = (dats m 0 c).arrAt 5 cfg0.N
      ∧ r.2.mem ((c : Thread nD τ).loc main_v0_2) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h.1 c).1 4, (h.1 c).1 5, (h.1 c).1 6, h.2 c⟩)
    (θ_run_and (run_main m ρ) (unchanged m ρ))

/-! ## The blocks -/

theorem tlt (t : Fin cfg0.N) : t.val < 16 := lt_of_lt_of_eq t.isLt (show cfg0.N = 16 from N_0)
theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)
theorem inj4 : ∀ t t' : Fin cfg0.N, win0_4.index t = win0_4.index t' → t = t' := by
  intro t t' e
  have e0 := congrFun e 0
  rw [(idx4 t).1, (idx4 t').1] at e0
  exact Fin.ext e0
theorem inj5 : ∀ t t' : Fin cfg0.N, win0_5.index t = win0_5.index t' → t = t' := by
  intro t t' e
  have e0 := congrFun e 0
  rw [(idx5 t).1, (idx5 t').1] at e0
  exact Fin.ext e0

/-- Row `p` of point `t`'s blocks, in the whole arrays. -/
def row (t : Fin cfg0.N) (p : Fin 512) : Fin 8192 := ⟨t.val * 512 + p.val, by have := tlt t; omega⟩

theorem in0 (t : Fin cfg0.N) (p : Fin 512) (q : Fin 2048) : iblk m c 0 t (ix2 p q) = X m c (ix2 (row t p) q) := by
  have := tlt t
  blk_ext [iblk, V, idx0 t, X, row]
theorem in1 (t : Fin cfg0.N) (q : Fin 2048) : iblk m c 1 t (ix2 0 q) = G m c (ix2 0 q) := by
  have := tlt t
  blk_ext [iblk, V, idx1 t, G]
theorem in2 (t : Fin cfg0.N) (p : Fin 512) (q : Fin 2048) : iblk m c 2 t (ix2 p q) = D m c (ix2 (row t p) q) := by
  have := tlt t
  blk_ext [iblk, V, idx2 t, D, row]
theorem in3 (t : Fin cfg0.N) (p : Fin 512) (q : Fin 2048) : iblk m c 3 t (ix2 p q) = R m c (ix2 (row t p) q) := by
  have := tlt t
  blk_ext [iblk, V, idx3 t, R, row]

/-! ## The body's arithmetic -/

section Body
variable (x : Vec Ideal S512x2048 .f32) (d : Vec Ideal S512x2048 .bf16) (g : Vec Ideal S1x2048 .f32)

abbrev bx (p : Fin 512) (k : Fin 2048) : EReal := x (ix2 p k)
abbrev bt (p : Fin 512) (k : Fin 2048) : EReal := d (ix2 p k) * g (ix2 0 k)

theorem inv_at (p : Fin 512) : k0_pay4 x (ix2 p 0) = Norm.inv (bx x p) := by
  unfold k0_pay4 Norm.inv Norm.var
  pointwise
theorem hat_at (p : Fin 512) (q : Fin 2048) : k0_pay5 x (ix2 p q) = (x (ix2 p q) * Norm.inv (bx x p) : EReal) := by
  unfold k0_pay5
  pointwise
  simp only [inv_at]
theorem dn_at (p : Fin 512) (q : Fin 2048) : k0_pay6 d (ix2 p q) = d (ix2 p q) := by
  unfold k0_pay6
  pointwise
theorem start (y : S1x2048.Idx) : (k0_pay3 (F := Ideal)) y = (0 : EReal) := by
  idx_vars y
  unfold k0_pay3
  pointwise
theorem step (a : Vec Ideal S1x2048 .f32) (q : Fin 2048) :
    k0_pay7 x d a (ix2 0 q) = (a (ix2 0 q) + ∑ p : Fin 512, d (ix2 p q) * (x (ix2 p q) * Norm.inv (bx x p)) : EReal) := by
  unfold k0_pay7
  pointwise
  simp only [hat_at, dn_at]
theorem dx_at (p : Fin 512) (q : Fin 2048) : k0_pay8 x d g (ix2 p q) = Norm.back (bx x p) (bt d g p) q := by
  unfold k0_pay8 Norm.back
  pointwise
  simp only [hat_at, dn_at, inv_at]
theorem sum_at (r : Vec Ideal S512x2048 .f32) (p : Fin 512) (q : Fin 2048) :
    k0_pay1 (k0_pay8 x d g) r (ix2 p q) = (Norm.back (bx x p) (bt d g p) q + r (ix2 p q) : EReal) := by
  rw [← dx_at]
  unfold k0_pay1
  pointwise
theorem round_at (r : Vec Ideal S512x2048 .f32) (p : Fin 512) (q : Fin 2048) :
    k0_pay2 (k0_pay8 x d g) r (ix2 p q) = (Norm.back (bx x p) (bt d g p) q + r (ix2 p q) : EReal) := by
  rw [← sum_at]
  unfold k0_pay2
  pointwise
end Body

/-! ## The rows' gradient -/

theorem out4 (t : Fin cfg0.N) : (outsAt0 m c t.val t.isLt).1 = k0_pay1 (k0_pay8 (iblk m c 0 t) (iblk m c 2 t) (iblk m c 1 t)) (iblk m c 3 t) := by
  by_cases h : t.val % 16 = 0
  · rw [outsAt0_A m c t h]
    dsimp only
    unfold out0_A_4
    frame_out
  · rw [outsAt0_B m c t h]
    dsimp only
    unfold out0_B_4
    frame_out
theorem out5 (t : Fin cfg0.N) : (outsAt0 m c t.val t.isLt).2.1 = k0_pay2 (k0_pay8 (iblk m c 0 t) (iblk m c 2 t) (iblk m c 1 t)) (iblk m c 3 t) := by
  by_cases h : t.val % 16 = 0
  · rw [outsAt0_A m c t h]
    dsimp only
    unfold out0_A_5
    frame_out
  · rw [outsAt0_B m c t h]
    dsimp only
    unfold out0_B_5
    frame_out

/-- Row `r` of the rows and of the gradient by the normed rows. -/
abbrev xr (r : Fin 8192) (k : Fin 2048) : EReal := X m c (ix2 r k)
abbrev tr (r : Fin 8192) (k : Fin 2048) : EReal := D m c (ix2 r k) * G m c (ix2 0 k)

theorem bx_blk (t : Fin cfg0.N) (p : Fin 512) : bx (iblk m c 0 t) p = xr m c (row t p) := funext fun k => in0 m c t p k
theorem bt_blk (t : Fin cfg0.N) (p : Fin 512) : bt (iblk m c 2 t) (iblk m c 1 t) p = tr m c (row t p) :=
  funext fun k => by show (_ * _ : EReal) = _ * _; rw [in2, in1]

/-- The point of a row, and the row in its block. -/
def pt (r : Fin 8192) : Fin cfg0.N := ⟨r.val / 512, by rw [show cfg0.N = 16 from N_0]; omega⟩
def sub (r : Fin 8192) : Fin 512 := ⟨r.val % 512, by omega⟩
theorem row_pt (r : Fin 8192) : row (pt r) (sub r) = r := Fin.ext (show r.val / 512 * 512 + r.val % 512 = r.val by omega)

theorem emb4 (t : Fin cfg0.N) (p : Fin 512) (q : Fin 2048) : (win0_4.blk t).view.emb (ix2 p q) = ix2 (row t p) q := by
  have := tlt t
  funext a
  refine Fin.ext ((Pipeline.Window.rect_emb_val win0_4 t (ix2 p q) a rfl).trans ?_)
  match a with
  | ⟨0, _⟩ => exact congrArg (· * 512 + p.val) (idx4 t).1
  | ⟨1, _⟩ => exact (congrArg (· * 2048 + q.val) (idx4 t).2).trans (by show 0 * 2048 + q.val = q.val; omega)
theorem emb5 (t : Fin cfg0.N) (p : Fin 512) (q : Fin 2048) : (win0_5.blk t).view.emb (ix2 p q) = ix2 (row t p) q := by
  have := tlt t
  funext a
  refine Fin.ext ((Pipeline.Window.rect_emb_val win0_5 t (ix2 p q) a rfl).trans ?_)
  match a with
  | ⟨0, _⟩ => exact congrArg (· * 512 + p.val) (idx5 t).1
  | ⟨1, _⟩ => exact (congrArg (· * 2048 + q.val) (idx5 t).2).trans (by show 0 * 2048 + q.val = q.val; omega)
theorem emb6 (t : Fin cfg0.N) (q : Fin 2048) : (win0_6.blk t).view.emb (ix2 0 q) = ix2 0 q := by
  funext a
  refine Fin.ext ((Pipeline.Window.rect_emb_val win0_6 t (ix2 0 q) a rfl).trans ?_)
  match a with
  | ⟨0, _⟩ => exact congrArg (· * 1 + 0) (idx6 t).1
  | ⟨1, _⟩ => exact (congrArg (· * 2048 + q.val) (idx6 t).2).trans (by show 0 * 2048 + q.val = q.val; omega)

theorem arr4 (r : Fin 8192) (q : Fin 2048) :
    (dats m 0 c).arrAt 4 cfg0.N (ix2 r q) = (Norm.back (xr m c r) (tr m c r) q + R m c (ix2 r q) : EReal) := by
  have e := emb4 (pt r) (sub r) q
  have b := congrFun ((dats m 0 c).read_blk_arrAt_eq_flushed 4
    (fun t t' hf hf' hne => (cfg0.win 4).disjoint_blk (fun h => hne (inj4 t t' h)) rfl)
    cfg0.N (pt r) (pt r).isLt (flush0_4 _)) (ix2 (sub r) q)
  have f : (dats m 0 c).flushed 4 (pt r) = (outsAt0 m c (pt r).val (pt r).isLt).1 := after0_4 m c (pt r)
  rw [f, out4 m c (pt r)] at b
  rw [row_pt] at e
  refine ((congrArg ((dats m 0 c).arrAt 4 cfg0.N) e).symm.trans b).trans ?_
  refine (sum_at _ _ _ _ _ _).trans ?_
  rw [bx_blk, bt_blk, in3, row_pt]
theorem arr5 (r : Fin 8192) (q : Fin 2048) :
    (dats m 0 c).arrAt 5 cfg0.N (ix2 r q) = (Norm.back (xr m c r) (tr m c r) q + R m c (ix2 r q) : EReal) := by
  have e := emb5 (pt r) (sub r) q
  have b := congrFun ((dats m 0 c).read_blk_arrAt_eq_flushed 5
    (fun t t' hf hf' hne => (cfg0.win 5).disjoint_blk (fun h => hne (inj5 t t' h)) rfl)
    cfg0.N (pt r) (pt r).isLt (flush0_5 _)) (ix2 (sub r) q)
  have f : (dats m 0 c).flushed 5 (pt r) = (outsAt0 m c (pt r).val (pt r).isLt).2.1 := after0_5 m c (pt r)
  rw [f, out5 m c (pt r)] at b
  rw [row_pt] at e
  refine ((congrArg ((dats m 0 c).arrAt 5 cfg0.N) e).symm.trans b).trans ?_
  refine (round_at _ _ _ _ _ _).trans ?_
  rw [bx_blk, bt_blk, in3, row_pt]

/-! ## The gains' gradient -/

/-- What point `t` adds to an entry. -/
def term (t : Fin cfg0.N) (q : Fin 2048) : EReal :=
  ∑ p : Fin 512, D m c (ix2 (row t p) q) * (X m c (ix2 (row t p) q) * Norm.inv (xr m c (row t p)))

theorem step_blocks (t : Fin cfg0.N) (a : Vec Ideal S1x2048 .f32) (q : Fin 2048) :
    k0_pay7 (iblk m c 0 t) (iblk m c 2 t) a (ix2 0 q) = (a (ix2 0 q) + term m c t q : EReal) := by
  refine (step _ _ _ _).trans (congrArg (a (ix2 0 q) + ·) (Finset.sum_congr rfl fun p _ => ?_))
  rw [bx_blk, in0, in2]

theorem acc_first (t : Fin cfg0.N) (h : t.val % 16 = 0) : (outsAt0 m c t.val t.isLt).2.2 = k0_pay7 (iblk m c 0 t) (iblk m c 2 t) (k0_pay3 (F := Ideal)) := by
  rw [outsAt0_A m c t h]
  dsimp only
  unfold out0_A_6
  frame_out

theorem acc_later (t : Fin cfg0.N) (h : ¬t.val % 16 = 0) : (outsAt0 m c t.val t.isLt).2.2
    = k0_pay7 (iblk m c 0 t) (iblk m c 2 t) (outsAt0 m c (t.val - 1) (Nat.lt_of_le_of_lt (Nat.sub_le _ _) t.isLt)).2.2 := by
  rw [outsAt0_B m c t h]
  dsimp only
  unfold out0_B_6
  frame_out

theorem total (t : Fin cfg0.N) (h : t.val % 16 = 15) (q : Fin 2048) :
    (outsAt0 m c t.val t.isLt).2.2 (ix2 0 q) = (∑ r : Fin 8192, X m c (ix2 r q) * Norm.inv (xr m c r) * D m c (ix2 r q) : EReal) := by
  refine (Pipeline.eq_sum_fin_of_reset_step_of_flush (fun n h => ((outsAt0 m c n h).2.2 (ix2 0 q) : EReal)) 16 0 (fun t => term m c t q)
    (fun t h => by rw [acc_first m c t h, step_blocks, start]) (fun t h => by rw [acc_later m c t h, step_blocks]) t h).trans ?_
  rw [zero_add]
  refine Fin.sum_mul_add_congr (S := 16) (n := 512) fun s k hl => ?_
  rw [mul_comm]
  have ht := tlt t
  congr 3
  all_goals first
    | exact Fin.ext (by simp only [row]; omega)
    | (congr 1; exact Fin.ext (by simp only [row]; omega))

/-- The last point. -/
def lastPt : Fin cfg0.N := ⟨15, by rw [show cfg0.N = 16 from N_0]; omega⟩

theorem arr6 (q : Fin 2048) :
    (dats m 0 c).arrAt 6 cfg0.N (ix2 0 q) = (∑ r : Fin 8192, X m c (ix2 r q) * Norm.inv (xr m c r) * D m c (ix2 r q) : EReal) := by
  have e := emb6 lastPt q
  have b := congrFun ((dats m 0 c).read_blk_arrAt_eq_flushed 6
    (fun t t' hf hf' hne => absurd (Fin.ext (by
      have h1 := (flush0_6 t).mp hf; have h2 := (flush0_6 t').mp hf'; have := tlt t; have := tlt t'; omega)) hne)
    cfg0.N lastPt lastPt.isLt ((flush0_6 _).mpr rfl)) (ix2 0 q)
  have f : (dats m 0 c).flushed 6 lastPt = (outsAt0 m c lastPt.val lastPt.isLt).2.2 := after0_6 m c lastPt
  rw [f] at b
  exact ((congrArg ((dats m 0 c).arrAt 6 cfg0.N) e).symm.trans b).trans (total m c lastPt rfl q)

theorem algebraic : Cert.algebraic_Kernel19Ideal_Reference19Ideal := by
  intro m ρ m' ρ' _ hagree
  refine ⟨fun c => (dats m 0 c).arrAt 4 cfg0.N, fun c => (dats m 0 c).arrAt 5 cfg0.N, fun c => (dats m 0 c).arrAt 6 cfg0.N, run m ρ, ?_⟩
  refine (θ_run _ _ _).mono (fun _ h c => ?_) (Ref.run m' ρ')
  obtain ⟨e4, e5, e6, ha⟩ := h c
  obtain ⟨a0, a1, a2, a3⟩ := hagree c
  rw [a0, a1, a2, a3] at e4 e5
  rw [a0, a2] at e6
  refine ⟨e4.trans (funext fun y => ?_), e5.trans (funext fun y => ?_), e6.trans (funext fun y => ?_), ha⟩
  · idx_vars y
    exact (Ref.dxA_at _ _ _ _ _ _).trans ((congrArg (· + _) (Norm.back_eq_plain _ _ _).symm).trans (arr4 m c _ _).symm)
  · idx_vars y
    exact (Ref.dxB_at _ _ _ _ _ _).trans ((congrArg (· + _) (Norm.back_eq_plain _ _ _).symm).trans (arr5 m c _ _).symm)
  · have hy : y = ix2 0 (y 1) := by
      funext a
      match a with
      | ⟨0, _⟩ => exact Subsingleton.elim (α := Fin 1) _ _
      | ⟨1, _⟩ => rfl
    rw [hy]
    exact (Ref.dgA_at _ _ _).trans (arr6 m c _).symm

end Cert.NormBack

end
-- ==== Proof.LossReference.lean ====
/-
  The reference of the loss and its gradients: its operations one by one, its run, and its results at an index.
-/
module

public import proofs.«01_k».proof.Defs
public import proofs.«01_k».proof.Proof.Gen.Reference20Ideal
public import proofs.«01_k».proof.Proof.Norm
public import Idealize.ShloMosaic.Lib.StableHlo.Run
public import Idealize.ShloMosaic.Lib.Pointwise
public import Idealize.ShloMosaic.Lib.Pipeline.ValueKit
public import Idealize.ShloMosaic.Lib.Quiescent

@[expose] public section

set_option maxRecDepth 16384

noncomputable section

namespace Cert.FinalLoss

open Idealize.ShloMosaic

/-! ## The constants -/

theorem c2 : Ideal.ofBits .f32 0x40000000#32 = ((2 : ℝ) : EReal) := by
  simp [Ideal.ofBits, Ideal.ieee, -EReal.coe_mul]; norm_num
theorem cHalf : Ideal.ofBits .f32 0x3F000000#32 = ((1 / 2 : ℝ) : EReal) := by
  simp [Ideal.ofBits, Ideal.ieee, -EReal.coe_mul]; norm_num
theorem cInv : Ideal.ofBits .f32 0x3A000000#32 = ((1 / 2048 : ℝ) : EReal) := by
  simp [Ideal.ofBits, Ideal.ieee, -EReal.coe_mul]; norm_num

/-- The call divides the difference by the row's length; differentiation doubles it and divides by twice the length. -/
theorem scale (d : EReal) :
    Ideal.div (Ideal.ofBits .f32 0x3F000000#32) (Ideal.ofBits .f32 0x45000000#32) * (Ideal.ofBits .f32 0x40000000#32 * d)
      = d * Ideal.ofBits .f32 0x3A000000#32 := by
  rw [cHalf, c2, cInv, Norm.c2048, Ideal.div_coe (by norm_num), ← EReal.coe_mul, ← mul_assoc, ← EReal.coe_mul, mul_comm]
  congr 2
  norm_num

/-- Half of a sum is the sum of the halves. -/
theorem half_sum {n : ℕ} (f : Fin n → EReal) :
    Ideal.ofBits .f32 0x3F000000#32 * (∑ k, f k) = ∑ k, Ideal.ofBits .f32 0x3F000000#32 * f k := by
  rw [cHalf]
  have h : ∀ s : Finset (Fin n), ((1 / 2 : ℝ) : EReal) * (∑ k ∈ s, f k) = ∑ k ∈ s, ((1 / 2 : ℝ) : EReal) * f k := by
    intro s
    induction s using Finset.induction_on with
    | empty => simp
    | insert a s ha ih =>
      rw [Finset.sum_insert ha, Finset.sum_insert ha,
        EReal.left_distrib_of_nonneg_of_ne_top (by exact_mod_cast (by norm_num : (0 : ℝ) ≤ 1 / 2)) (EReal.coe_ne_top _), ih]
  exact h _

/-! ## A row -/

section Row
variable (x g t : Fin 2048 → EReal)

/-- The normed row less the target. -/
def dif (q : Fin 2048) : EReal := x q * Norm.inv x * g q - t q
/-- The mean of its squares. -/
def err : EReal := Ideal.div (∑ k : Fin 2048, dif x g t k * dif x g t k) (Ideal.ofBits .f32 0x45000000#32)
/-- The gradient by the normed row. -/
def dy (q : Fin 2048) : EReal := dif x g t q * Ideal.ofBits .f32 0x3A000000#32
end Row

namespace Ref

open Cert.Reference20Ideal Cert.Reference20Ideal.Gen Idealize.ShloMosaic.TcCoe Idealize.SL.Sem Idealize.ShloMosaic.StableHlo

/-! ## The arrays -/

variable (x tg : FVec Ideal S8192x2048 .f32) (g : FVec Ideal S1x2048 .f32)

/-- The mean of a row's squares, with the small number added. -/
def varA : FVec Ideal S8192x1 .f32 :=
  addf (Host.divf (broadcastInDim S8192x1 ![0] bcast_S8192_S8192x1_0
      (Host.reduceAdd (mulf x x) (constant S_ .f32 0x00000000#32) reducesTo_S8192x2048_S8192_d1 h_S_))
    (broadcastInDim S8192x1 ![] bcast_S_S8192x1 (constant S_ .f32 0x45000000#32)))
    (broadcastInDim S8192x1 ![] bcast_S_S8192x1 (constant S_ .f32 0x358637BD#32))
/-- The inverse of its root. -/
def invA : FVec Ideal S8192x1 .f32 := Host.rsqrt (varA x)
/-- The normed rows, and the gains of each row. -/
def hatA : FVec Ideal S8192x2048 .f32 := mulf x (broadcastInDim S8192x2048 ![0, 1] bcast_S8192x1_S8192x2048_0_1 (invA x))
def gA : FVec Ideal S8192x2048 .f32 := broadcastInDim S8192x2048 ![0, 1] bcast_S1x2048_S8192x2048_0_1
    (broadcastInDim S1x2048 ![1] bcast_S2048_S1x2048_1 (shapeCast S2048 g shapeCasts_S1x2048_S2048))
/-- Their product less the targets. -/
def difA : FVec Ideal S8192x2048 .f32 := subf (mulf (hatA x) (gA g)) tg
/-- The mean of a row's squared differences. -/
def errA : FVec Ideal S8192 .f32 :=
  Host.divf (Host.reduceAdd (mulf (difA x tg g) (difA x tg g)) (constant S_ .f32 0x00000000#32) reducesTo_S8192x2048_S8192_d1 h_S_)
    (broadcastInDim S8192 ![] bcast_S_S8192 (constant S_ .f32 0x45000000#32))
def lossA : FVec Ideal S1x128 .f32 :=
  broadcastInDim S1x128 ![] bcast_S_S1x128 (mulf (constant S_ .f32 0x3F000000#32)
    (Host.reduceAdd (errA x tg g) (constant S_ .f32 0x00000000#32) reducesTo_S8192_S_d0 h_S_))
/-- The gradient by the product. -/
def dyA : FVec Ideal S8192x2048 .f32 :=
  mulf (broadcastInDim S8192x2048 ![0] bcast_S8192_S8192x2048_0 (Host.divf
      (broadcastInDim S8192 ![] bcast_S_S8192 (mulf (constant S_ .f32 0x3F000000#32) (constant S_ .f32 0x3F800000#32)))
      (broadcastInDim S8192 ![] bcast_S_S8192 (constant S_ .f32 0x45000000#32))))
    (mulf (broadcastInDim S8192x2048 ![] bcast_S_S8192x2048 (constant S_ .f32 0x40000000#32)) (difA x tg g))
/-- The gradient by the normed rows. -/
def tA : FVec Ideal S8192x2048 .f32 := mulf (dyA x tg g) (gA g)
/-- The derivative through the mean of the squares, a half of it. -/
def wA : FVec Ideal S8192x2048 .f32 :=
  broadcastInDim S8192x2048 ![0] bcast_S8192_S8192x2048_0 (Host.reduceAdd
    (Host.divf (mulf (shapeCast S8192x1
          (Host.reduceAdd (mulf x (tA x tg g)) (constant S_ .f32 0x00000000#32) reducesTo_S8192x2048_S8192_d1 h_S_) shapeCasts_S8192_S8192x1)
        (mulf (broadcastInDim S8192x1 ![] bcast_S_S8192x1 (constant S_ .f32 0xBF000000#32)) (Host.divf (invA x) (varA x))))
      (broadcastInDim S8192x1 ![] bcast_S_S8192x1 (constant S_ .f32 0x45000000#32)))
    (constant S_ .f32 0x00000000#32) reducesTo_S8192x1_S8192_d1 h_S_)
def dxA : FVec Ideal S8192x2048 .f32 :=
  addf (addf (mulf (tA x tg g) (broadcastInDim S8192x2048 ![0, 1] bcast_S8192x1_S8192x2048_0_1 (invA x))) (mulf x (wA x tg g)))
    (mulf (wA x tg g) x)
def dgA : FVec Ideal S1x2048 .f32 :=
  broadcastInDim S1x2048 ![1] bcast_S2048_S1x2048_1 (Host.reduceAdd (shapeCast S1x2048
      (Host.reduceAdd (mulf (hatA x) (dyA x tg g))
        (constant S_ .f32 0x00000000#32) reducesTo_S8192x2048_S2048_d0 h_S_) shapeCasts_S2048_S1x2048)
    (constant S_ .f32 0x00000000#32) reducesTo_S1x2048_S2048_d0 h_S_)

/-! ## The run -/

section Run
variable {F : FTy → Type} [FloatOps F]

abbrev ops : List (HloOp τ sig (Elt F)) :=
  [ reshape main_arg1 main_v0 (rfl : (.f32 : EltTy) = .f32) shapeCasts_S1x2048_S2048,
    binary main_arg0 main_arg0 main_v1 (mulf : (⟨S8192x2048, .f32⟩ : BufTy).Contents (Elt F) → (⟨S8192x2048, .f32⟩ : BufTy).Contents (Elt F) → (⟨S8192x2048, .f32⟩ : BufTy).Contents (Elt F)),
    nullary main_cst (constant S_ .f32 0x00000000#32),
    binary main_v1 main_cst main_v2 ((fun x v => Host.reduceAdd x v reducesTo_S8192x2048_S8192_d1 h_S_) : (⟨S8192x2048, .f32⟩ : BufTy).Contents (Elt F) → (⟨S_, .f32⟩ : BufTy).Contents (Elt F) → (⟨S8192, .f32⟩ : BufTy).Contents (Elt F)),
    unary main_v2 main_v3 (broadcastInDim S8192x1 ![0] bcast_S8192_S8192x1_0 : (⟨S8192, .f32⟩ : BufTy).Contents (Elt F) → (⟨S8192x1, .f32⟩ : BufTy).Contents (Elt F)),
    nullary main_cst_0 (constant S_ .f32 0x45000000#32),
    unary main_cst_0 main_v4 (broadcastInDim S8192x1 ![] bcast_S_S8192x1 : (⟨S_, .f32⟩ : BufTy).Contents (Elt F) → (⟨S8192x1, .f32⟩ : BufTy).Contents (Elt F)),
    binary main_v3 main_v4 main_v5 (Host.divf : (⟨S8192x1, .f32⟩ : BufTy).Contents (Elt F) → (⟨S8192x1, .f32⟩ : BufTy).Contents (Elt F) → (⟨S8192x1, .f32⟩ : BufTy).Contents (Elt F)),
    nullary main_cst_1 (constant S_ .f32 0x358637BD#32),
    unary main_cst_1 main_v6 (broadcastInDim S8192x1 ![] bcast_S_S8192x1 : (⟨S_, .f32⟩ : BufTy).Contents (Elt F) → (⟨S8192x1, .f32⟩ : BufTy).Contents (Elt F)),
    binary main_v5 main_v6 main_v7 (addf : (⟨S8192x1, .f32⟩ : BufTy).Contents (Elt F) → (⟨S8192x1, .f32⟩ : BufTy).Contents (Elt F) → (⟨S8192x1, .f32⟩ : BufTy).Contents (Elt F)),
    unary main_v7 main_v8 (Host.rsqrt : (⟨S8192x1, .f32⟩ : BufTy).Contents (Elt F) → (⟨S8192x1, .f32⟩ : BufTy).Contents (Elt F)),
    binary main_v8 main_v7 main_v9 (Host.divf : (⟨S8192x1, .f32⟩ : BufTy).Contents (Elt F) → (⟨S8192x1, .f32⟩ : BufTy).Contents (Elt F) → (⟨S8192x1, .f32⟩ : BufTy).Contents (Elt F)),
    nullary main_cst_2 (constant S_ .f32 0xBF000000#32),
    unary main_cst_2 main_v10 (broadcastInDim S8192x1 ![] bcast_S_S8192x1 : (⟨S_, .f32⟩ : BufTy).Contents (Elt F) → (⟨S8192x1, .f32⟩ : BufTy).Contents (Elt F)),
    binary main_v10 main_v9 main_v11 (mulf : (⟨S8192x1, .f32⟩ : BufTy).Contents (Elt F) → (⟨S8192x1, .f32⟩ : BufTy).Contents (Elt F) → (⟨S8192x1, .f32⟩ : BufTy).Contents (Elt F)),
    unary main_v8 main_v12 (broadcastInDim S8192x2048 ![0, 1] bcast_S8192x1_S8192x2048_0_1 : (⟨S8192x1, .f32⟩ : BufTy).Contents (Elt F) → (⟨S8192x2048, .f32⟩ : BufTy).Contents (Elt F)),
    binary main_arg0 main_v12 main_v13 (mulf : (⟨S8192x2048, .f32⟩ : BufTy).Contents (Elt F) → (⟨S8192x2048, .f32⟩ : BufTy).Contents (Elt F) → (⟨S8192x2048, .f32⟩ : BufTy).Contents (Elt F)),
    unary main_v0 main_v14 (broadcastInDim S1x2048 ![1] bcast_S2048_S1x2048_1 : (⟨S2048, .f32⟩ : BufTy).Contents (Elt F) → (⟨S1x2048, .f32⟩ : BufTy).Contents (Elt F)),
    unary main_v14 main_v15 (broadcastInDim S8192x2048 ![0, 1] bcast_S1x2048_S8192x2048_0_1 : (⟨S1x2048, .f32⟩ : BufTy).Contents (Elt F) → (⟨S8192x2048, .f32⟩ : BufTy).Contents (Elt F)),
    binary main_v13 main_v15 main_v16 (mulf : (⟨S8192x2048, .f32⟩ : BufTy).Contents (Elt F) → (⟨S8192x2048, .f32⟩ : BufTy).Contents (Elt F) → (⟨S8192x2048, .f32⟩ : BufTy).Contents (Elt F)),
    binary main_v16 main_arg2 main_v17 (subf : (⟨S8192x2048, .f32⟩ : BufTy).Contents (Elt F) → (⟨S8192x2048, .f32⟩ : BufTy).Contents (Elt F) → (⟨S8192x2048, .f32⟩ : BufTy).Contents (Elt F)),
    binary main_v17 main_v17 main_v18 (mulf : (⟨S8192x2048, .f32⟩ : BufTy).Contents (Elt F) → (⟨S8192x2048, .f32⟩ : BufTy).Contents (Elt F) → (⟨S8192x2048, .f32⟩ : BufTy).Contents (Elt F)),
    nullary main_cst_3 (constant S_ .f32 0x40000000#32),
    unary main_cst_3 main_v19 (broadcastInDim S8192x2048 ![] bcast_S_S8192x2048 : (⟨S_, .f32⟩ : BufTy).Contents (Elt F) → (⟨S8192x2048, .f32⟩ : BufTy).Contents (Elt F)),
    binary main_v19 main_v17 main_v20 (mulf : (⟨S8192x2048, .f32⟩ : BufTy).Contents (Elt F) → (⟨S8192x2048, .f32⟩ : BufTy).Contents (Elt F) → (⟨S8192x2048, .f32⟩ : BufTy).Contents (Elt F)),
    nullary main_cst_4 (constant S_ .f32 0x00000000#32),
    binary main_v18 main_cst_4 main_v21 ((fun x v => Host.reduceAdd x v reducesTo_S8192x2048_S8192_d1 h_S_) : (⟨S8192x2048, .f32⟩ : BufTy).Contents (Elt F) → (⟨S_, .f32⟩ : BufTy).Contents (Elt F) → (⟨S8192, .f32⟩ : BufTy).Contents (Elt F)),
    nullary main_cst_5 (constant S_ .f32 0x45000000#32),
    unary main_cst_5 main_v22 (broadcastInDim S8192 ![] bcast_S_S8192 : (⟨S_, .f32⟩ : BufTy).Contents (Elt F) → (⟨S8192, .f32⟩ : BufTy).Contents (Elt F)),
    binary main_v21 main_v22 main_v23 (Host.divf : (⟨S8192, .f32⟩ : BufTy).Contents (Elt F) → (⟨S8192, .f32⟩ : BufTy).Contents (Elt F) → (⟨S8192, .f32⟩ : BufTy).Contents (Elt F)),
    nullary main_cst_6 (constant S_ .f32 0x00000000#32),
    binary main_v23 main_cst_6 main_v24 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_7 (constant S_ .f32 0x3F000000#32),
    binary main_cst_7 main_v24 main_v25 (mulf : (⟨S_, .f32⟩ : BufTy).Contents (Elt F) → (⟨S_, .f32⟩ : BufTy).Contents (Elt F) → (⟨S_, .f32⟩ : BufTy).Contents (Elt F)),
    nullary main_cst_8 (constant S_ .f32 0x3F000000#32),
    nullary main_cst_9 (constant S_ .f32 0x3F800000#32),
    binary main_cst_8 main_cst_9 main_v26 (mulf : (⟨S_, .f32⟩ : BufTy).Contents (Elt F) → (⟨S_, .f32⟩ : BufTy).Contents (Elt F) → (⟨S_, .f32⟩ : BufTy).Contents (Elt F)),
    unary main_v26 main_v27 (broadcastInDim S8192 ![] bcast_S_S8192 : (⟨S_, .f32⟩ : BufTy).Contents (Elt F) → (⟨S8192, .f32⟩ : BufTy).Contents (Elt F)),
    nullary main_cst_10 (constant S_ .f32 0x45000000#32),
    unary main_cst_10 main_v28 (broadcastInDim S8192 ![] bcast_S_S8192 : (⟨S_, .f32⟩ : BufTy).Contents (Elt F) → (⟨S8192, .f32⟩ : BufTy).Contents (Elt F)),
    binary main_v27 main_v28 main_v29 (Host.divf : (⟨S8192, .f32⟩ : BufTy).Contents (Elt F) → (⟨S8192, .f32⟩ : BufTy).Contents (Elt F) → (⟨S8192, .f32⟩ : BufTy).Contents (Elt F)),
    unary main_v29 main_v30 (broadcastInDim S8192x2048 ![0] bcast_S8192_S8192x2048_0 : (⟨S8192, .f32⟩ : BufTy).Contents (Elt F) → (⟨S8192x2048, .f32⟩ : BufTy).Contents (Elt F)),
    binary main_v30 main_v20 main_v31 (mulf : (⟨S8192x2048, .f32⟩ : BufTy).Contents (Elt F) → (⟨S8192x2048, .f32⟩ : BufTy).Contents (Elt F) → (⟨S8192x2048, .f32⟩ : BufTy).Contents (Elt F)),
    binary main_v13 main_v31 main_v32 (mulf : (⟨S8192x2048, .f32⟩ : BufTy).Contents (Elt F) → (⟨S8192x2048, .f32⟩ : BufTy).Contents (Elt F) → (⟨S8192x2048, .f32⟩ : BufTy).Contents (Elt F)),
    nullary main_cst_11 (constant S_ .f32 0x00000000#32),
    binary main_v32 main_cst_11 main_v33 ((fun x v => Host.reduceAdd x v reducesTo_S8192x2048_S2048_d0 h_S_) : (⟨S8192x2048, .f32⟩ : BufTy).Contents (Elt F) → (⟨S_, .f32⟩ : BufTy).Contents (Elt F) → (⟨S2048, .f32⟩ : BufTy).Contents (Elt F)),
    reshape main_v33 main_v34 (rfl : (.f32 : EltTy) = .f32) shapeCasts_S2048_S1x2048,
    unary main_v14 main_v35 (broadcastInDim S8192x2048 ![0, 1] bcast_S1x2048_S8192x2048_0_1 : (⟨S1x2048, .f32⟩ : BufTy).Contents (Elt F) → (⟨S8192x2048, .f32⟩ : BufTy).Contents (Elt F)),
    binary main_v31 main_v35 main_v36 (mulf : (⟨S8192x2048, .f32⟩ : BufTy).Contents (Elt F) → (⟨S8192x2048, .f32⟩ : BufTy).Contents (Elt F) → (⟨S8192x2048, .f32⟩ : BufTy).Contents (Elt F)),
    nullary main_cst_12 (constant S_ .f32 0x00000000#32),
    binary main_v34 main_cst_12 main_v37 ((fun x v => Host.reduceAdd x v reducesTo_S1x2048_S2048_d0 h_S_) : (⟨S1x2048, .f32⟩ : BufTy).Contents (Elt F) → (⟨S_, .f32⟩ : BufTy).Contents (Elt F) → (⟨S2048, .f32⟩ : BufTy).Contents (Elt F)),
    binary main_arg0 main_v36 main_v38 (mulf : (⟨S8192x2048, .f32⟩ : BufTy).Contents (Elt F) → (⟨S8192x2048, .f32⟩ : BufTy).Contents (Elt F) → (⟨S8192x2048, .f32⟩ : BufTy).Contents (Elt F)),
    nullary main_cst_13 (constant S_ .f32 0x00000000#32),
    binary main_v38 main_cst_13 main_v39 ((fun x v => Host.reduceAdd x v reducesTo_S8192x2048_S8192_d1 h_S_) : (⟨S8192x2048, .f32⟩ : BufTy).Contents (Elt F) → (⟨S_, .f32⟩ : BufTy).Contents (Elt F) → (⟨S8192, .f32⟩ : BufTy).Contents (Elt F)),
    reshape main_v39 main_v40 (rfl : (.f32 : EltTy) = .f32) shapeCasts_S8192_S8192x1,
    unary main_v8 main_v41 (broadcastInDim S8192x2048 ![0, 1] bcast_S8192x1_S8192x2048_0_1 : (⟨S8192x1, .f32⟩ : BufTy).Contents (Elt F) → (⟨S8192x2048, .f32⟩ : BufTy).Contents (Elt F)),
    binary main_v36 main_v41 main_v42 (mulf : (⟨S8192x2048, .f32⟩ : BufTy).Contents (Elt F) → (⟨S8192x2048, .f32⟩ : BufTy).Contents (Elt F) → (⟨S8192x2048, .f32⟩ : BufTy).Contents (Elt F)),
    binary main_v40 main_v11 main_v43 (mulf : (⟨S8192x1, .f32⟩ : BufTy).Contents (Elt F) → (⟨S8192x1, .f32⟩ : BufTy).Contents (Elt F) → (⟨S8192x1, .f32⟩ : BufTy).Contents (Elt F)),
    nullary main_cst_14 (constant S_ .f32 0x45000000#32),
    unary main_cst_14 main_v44 (broadcastInDim S8192x1 ![] bcast_S_S8192x1 : (⟨S_, .f32⟩ : BufTy).Contents (Elt F) → (⟨S8192x1, .f32⟩ : BufTy).Contents (Elt F)),
    binary main_v43 main_v44 main_v45 (Host.divf : (⟨S8192x1, .f32⟩ : BufTy).Contents (Elt F) → (⟨S8192x1, .f32⟩ : BufTy).Contents (Elt F) → (⟨S8192x1, .f32⟩ : BufTy).Contents (Elt F)),
    nullary main_cst_15 (constant S_ .f32 0x00000000#32),
    binary main_v45 main_cst_15 main_v46 ((fun x v => Host.reduceAdd x v reducesTo_S8192x1_S8192_d1 h_S_) : (⟨S8192x1, .f32⟩ : BufTy).Contents (Elt F) → (⟨S_, .f32⟩ : BufTy).Contents (Elt F) → (⟨S8192, .f32⟩ : BufTy).Contents (Elt F)),
    unary main_v46 main_v47 (broadcastInDim S8192x2048 ![0] bcast_S8192_S8192x2048_0 : (⟨S8192, .f32⟩ : BufTy).Contents (Elt F) → (⟨S8192x2048, .f32⟩ : BufTy).Contents (Elt F)),
    binary main_arg0 main_v47 main_v48 (mulf : (⟨S8192x2048, .f32⟩ : BufTy).Contents (Elt F) → (⟨S8192x2048, .f32⟩ : BufTy).Contents (Elt F) → (⟨S8192x2048, .f32⟩ : BufTy).Contents (Elt F)),
    binary main_v42 main_v48 main_v49 (addf : (⟨S8192x2048, .f32⟩ : BufTy).Contents (Elt F) → (⟨S8192x2048, .f32⟩ : BufTy).Contents (Elt F) → (⟨S8192x2048, .f32⟩ : BufTy).Contents (Elt F)),
    binary main_v47 main_arg0 main_v50 (mulf : (⟨S8192x2048, .f32⟩ : BufTy).Contents (Elt F) → (⟨S8192x2048, .f32⟩ : BufTy).Contents (Elt F) → (⟨S8192x2048, .f32⟩ : BufTy).Contents (Elt F)),
    binary main_v49 main_v50 main_v51 (addf : (⟨S8192x2048, .f32⟩ : BufTy).Contents (Elt F) → (⟨S8192x2048, .f32⟩ : BufTy).Contents (Elt F) → (⟨S8192x2048, .f32⟩ : BufTy).Contents (Elt F)),
    unary main_v37 main_v52 (broadcastInDim S1x2048 ![1] bcast_S2048_S1x2048_1 : (⟨S2048, .f32⟩ : BufTy).Contents (Elt F) → (⟨S1x2048, .f32⟩ : BufTy).Contents (Elt F)),
    unary main_v25 main_v53 (broadcastInDim S1x128 ![] bcast_S_S1x128 : (⟨S_, .f32⟩ : BufTy).Contents (Elt F) → (⟨S1x128, .f32⟩ : BufTy).Contents (Elt F)),
    unary main_v51 main_v54 ((truncf .bf16 · bitsLt_bf16_f32) : (⟨S8192x2048, .f32⟩ : BufTy).Contents (Elt F) → (⟨S8192x2048, .bf16⟩ : BufTy).Contents (Elt F)) ]

set_option maxRecDepth 65536 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., unary_bufs_sub .., binary_bufs_sub .., unary_bufs_sub .., unary_bufs_sub .., binary_bufs_sub .., binary_bufs_sub .., binary_bufs_sub .., nullary_bufs_sub .., unary_bufs_sub .., binary_bufs_sub .., nullary_bufs_sub .., binary_bufs_sub .., nullary_bufs_sub .., unary_bufs_sub .., binary_bufs_sub .., nullary_bufs_sub .., binary_bufs_sub .., nullary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., reshape_bufs_sub .., unary_bufs_sub .., binary_bufs_sub .., nullary_bufs_sub .., binary_bufs_sub .., binary_bufs_sub .., nullary_bufs_sub .., binary_bufs_sub .., reshape_bufs_sub .., unary_bufs_sub .., binary_bufs_sub .., binary_bufs_sub .., nullary_bufs_sub .., unary_bufs_sub .., binary_bufs_sub .., nullary_bufs_sub .., binary_bufs_sub .., unary_bufs_sub .., binary_bufs_sub .., binary_bufs_sub .., binary_bufs_sub .., binary_bufs_sub .., unary_bufs_sub .., unary_bufs_sub .., unary_bufs_sub ..⟩
end Run

set_option maxHeartbeats 4000000 in
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v53) = lossA (m ((c.tc : Thread nD τ).loc main_arg0)) (m ((c.tc : Thread nD τ).loc main_arg2))
          (m ((c.tc : Thread nD τ).loc main_arg1))
      ∧ r.2.mem ((c.tc : Thread nD τ).loc main_v52) = dgA (m ((c.tc : Thread nD τ).loc main_arg0)) (m ((c.tc : Thread nD τ).loc main_arg2))
          (m ((c.tc : Thread nD τ).loc main_arg1))
      ∧ r.2.mem ((c.tc : Thread nD τ).loc main_v51) = dxA (m ((c.tc : Thread nD τ).loc main_arg0)) (m ((c.tc : Thread nD τ).loc main_arg2))
          (m ((c.tc : Thread nD τ).loc main_arg1))
      ∧ r.2.mem ((c.tc : Thread nD τ).loc main_v54) = truncf .bf16 (dxA (m ((c.tc : Thread nD τ).loc main_arg0)) (m ((c.tc : Thread nD τ).loc main_arg2))
          (m ((c.tc : Thread nD τ).loc main_arg1))) bitsLt_bf16_f32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v53).trans (by after_results; rfl),
      (h c main_v52).trans (by after_results; rfl),
      (h c main_v51).trans (by after_results; rfl),
      (h c main_v54).trans (by after_results; rfl),
      (h c main_arg0).trans (by after_results),
      (h c main_arg1).trans (by after_results),
      (h c main_arg2).trans (by after_results)⟩)
    (run_seq scopedRefs_eq scopedSems_eq defs main (fun _ => ops) main_eq (fun _ => ops_sub) m ρ)

theorem quiescent : Cert.quiescent_Reference20Ideal := fun m ρ _ =>
  (θ_run Cert.Reference20Ideal.defs _ _).mono (fun r h => ⟨fun c => (h c).2.2.2.2,
      Idealize.ShloMosaic.sem_eq_zero_of_no_sems (by decide) r.2⟩)
    (run m ρ)

/-! ## At an index -/

/-- Row `p` of the rows and of the targets, the gains, and the gradient by the normed rows. -/
abbrev xs (p : Fin 8192) (k : Fin 2048) : EReal := x (ix2 p k)
abbrev gs (k : Fin 2048) : EReal := g (ix2 0 k)
abbrev ts (p : Fin 8192) (k : Fin 2048) : EReal := dy (xs x p) (gs g) (xs tg p) k * g (ix2 0 k)

theorem varA_at (p : Fin 8192) : varA x (ix2 p 0) = Norm.var (xs x p) := by
  unfold varA Norm.var
  pointwise
theorem invA_at (p : Fin 8192) : invA x (ix2 p 0) = Norm.inv (xs x p) := by
  unfold invA Norm.inv
  rw [← varA_at]
  rfl
theorem hatA_at (p : Fin 8192) (q : Fin 2048) : hatA x (ix2 p q) = (x (ix2 p q) * Norm.inv (xs x p) : EReal) := by
  unfold hatA
  pointwise
  simp only [invA_at]
theorem gA_at (p : Fin 8192) (q : Fin 2048) : gA g (ix2 p q) = g (ix2 0 q) := by
  unfold gA
  pointwise
theorem difA_at (p : Fin 8192) (q : Fin 2048) : difA x tg g (ix2 p q) = dif (xs x p) (gs g) (xs tg p) q := by
  unfold difA dif
  pointwise
  simp only [hatA_at, gA_at]
theorem errA_at (p : Fin 8192) : errA x tg g (ix1 p) = err (xs x p) (gs g) (xs tg p) := by
  unfold errA err
  pointwise
  simp only [difA_at]
theorem lossA_at (l : Fin 128) :
    lossA x tg g (ix2 0 l) = (Ideal.ofBits .f32 0x3F000000#32 * ∑ p : Fin 8192, err (xs x p) (gs g) (xs tg p) : EReal) := by
  unfold lossA
  pointwise
  simp only [errA_at]
theorem dyA_at (p : Fin 8192) (q : Fin 2048) : dyA x tg g (ix2 p q) = dy (xs x p) (gs g) (xs tg p) q := by
  unfold dyA dy
  pointwise
  simp only [difA_at]
  exact scale _
theorem tA_at (p : Fin 8192) (q : Fin 2048) : tA x tg g (ix2 p q) = ts x tg g p q := by
  unfold tA
  pointwise
  simp only [dyA_at, gA_at]
theorem wA_at (p : Fin 8192) (q : Fin 2048) : wA x tg g (ix2 p q) = Norm.half (xs x p) (ts x tg g p) := by
  unfold wA Norm.half
  pointwise
  refine (Fin.sum_univ_one _).trans ?_
  simp only [varA_at, invA_at, tA_at]
theorem dxA_at (p : Fin 8192) (q : Fin 2048) : dxA x tg g (ix2 p q) = Norm.plain (xs x p) (ts x tg g p) q := by
  unfold dxA Norm.plain
  pointwise
  simp only [wA_at, invA_at, tA_at]
theorem dxB_at (p : Fin 8192) (q : Fin 2048) :
    truncf .bf16 (dxA x tg g) bitsLt_bf16_f32 (ix2 p q) = Norm.plain (xs x p) (ts x tg g p) q := by
  rw [← dxA_at]
  generalize dxA x tg g = A
  pointwise
theorem dgA_at (q : Fin 2048) :
    dgA x tg g (ix2 0 q) = (∑ p : Fin 8192, x (ix2 p q) * Norm.inv (xs x p) * dy (xs x p) (gs g) (xs tg p) q : EReal) := by
  unfold dgA
  pointwise
  refine (Fin.sum_univ_one _).trans ?_
  simp only [hatA_at, dyA_at]

end Ref

end Cert.FinalLoss

end
-- ==== Proof.LossBack.lean ====
/-
  The loss and its gradients: the call takes sixteen blocks of rows; each makes its rows' gradient at once, and the loss and the gradient of
  the gains are accumulated over all of them.
-/
module

public import proofs.«01_k».proof.Defs
public import proofs.«01_k».proof.Proof.Gen.Kernel20Ideal.Frame
public import proofs.«01_k».proof.Proof.LossReference
public import Idealize.ShloMosaic.Lib.Pipeline.ValueKit
public import Idealize.ShloMosaic.Lib.Pipeline.ReadBack
public import Idealize.ShloMosaic.Lib.Pointwise

@[expose] public section

set_option maxRecDepth 16384

noncomputable section

namespace Cert.FinalLoss

open Cert.Kernel20Ideal Cert.Kernel20Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

abbrev X : (⟨2, ![8192, 2048]⟩ : Shape).Idx → EReal := m ((c : Thread nD τ).loc main_arg0)
abbrev G : (⟨2, ![1, 2048]⟩ : Shape).Idx → EReal := m ((c : Thread nD τ).loc main_arg1)
abbrev Z : (⟨2, ![8192, 2048]⟩ : Shape).Idx → EReal := m ((c : Thread nD τ).loc main_arg2)

theorem run : θ_run defs (onTc (τ := τ) (main (F := Ideal))) ⟨m, fun _ => 0, ρ⟩ fun r => ∀ c : Dev nD,
      r.2.mem ((c : Thread nD τ).loc main_v0_0) = (dats m 0 c).arrAt 3 cfg0.N
      ∧ r.2.mem ((c : Thread nD τ).loc main_v0_1) = (dats m 0 c).arrAt 4 cfg0.N
      ∧ r.2.mem ((c : Thread nD τ).loc main_v0_2) = (dats m 0 c).arrAt 5 cfg0.N
      ∧ r.2.mem ((c : Thread nD τ).loc main_v0_3) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h.1 c).1 3, (h.1 c).1 4, (h.1 c).1 5, (h.1 c).1 6, h.2 c⟩)
    (θ_run_and (run_main m ρ) (unchanged m ρ))

/-! ## The blocks -/

theorem tlt (t : Fin cfg0.N) : t.val < 16 := lt_of_lt_of_eq t.isLt (show cfg0.N = 16 from N_0)
theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)
theorem inj5 : ∀ t t' : Fin cfg0.N, win0_5.index t = win0_5.index t' → t = t' := by
  intro t t' e
  have e0 := congrFun e 0
  rw [(idx5 t).1, (idx5 t').1] at e0
  exact Fin.ext e0
theorem inj6 : ∀ t t' : Fin cfg0.N, win0_6.index t = win0_6.index t' → t = t' := by
  intro t t' e
  have e0 := congrFun e 0
  rw [(idx6 t).1, (idx6 t').1] at e0
  exact Fin.ext e0

/-- Row `p` of point `t`'s blocks, in the whole arrays. -/
def row (t : Fin cfg0.N) (p : Fin 512) : Fin 8192 := ⟨t.val * 512 + p.val, by have := tlt t; omega⟩

theorem in0 (t : Fin cfg0.N) (p : Fin 512) (q : Fin 2048) : iblk m c 0 t (ix2 p q) = X m c (ix2 (row t p) q) := by
  have := tlt t
  blk_ext [iblk, V, idx0 t, X, row]
theorem in1 (t : Fin cfg0.N) (q : Fin 2048) : iblk m c 1 t (ix2 0 q) = G m c (ix2 0 q) := by
  have := tlt t
  blk_ext [iblk, V, idx1 t, G]
theorem in2 (t : Fin cfg0.N) (p : Fin 512) (q : Fin 2048) : iblk m c 2 t (ix2 p q) = Z m c (ix2 (row t p) q) := by
  have := tlt t
  blk_ext [iblk, V, idx2 t, Z, row]

/-! ## The body's arithmetic -/

section Body
variable (x : Vec Ideal S512x2048 .f32) (g : Vec Ideal S1x2048 .f32) (z : Vec Ideal S512x2048 .f32)

abbrev bx (p : Fin 512) (k : Fin 2048) : EReal := x (ix2 p k)
abbrev bg (k : Fin 2048) : EReal := g (ix2 0 k)
abbrev bt (p : Fin 512) (k : Fin 2048) : EReal := dy (bx x p) (bg g) (bx z p) k * g (ix2 0 k)

theorem inv_at (p : Fin 512) : k0_pay6 x (ix2 p 0) = Norm.inv (bx x p) := by
  unfold k0_pay6 Norm.inv Norm.var
  pointwise
theorem hat_at (p : Fin 512) (q : Fin 2048) : k0_pay7 x (ix2 p q) = (x (ix2 p q) * Norm.inv (bx x p) : EReal) := by
  unfold k0_pay7
  pointwise
  simp only [inv_at]
theorem dif_at (p : Fin 512) (q : Fin 2048) : k0_pay8 x g z (ix2 p q) = dif (bx x p) (bg g) (bx z p) q := by
  unfold k0_pay8 dif
  pointwise
  simp only [hat_at]
theorem dy_at (p : Fin 512) (q : Fin 2048) : k0_pay10 x g z (ix2 p q) = dy (bx x p) (bg g) (bx z p) q := by
  unfold k0_pay10 dy
  pointwise
  simp only [dif_at]
theorem start3 (y : S1x128.Idx) : (k0_pay4 (F := Ideal)) y = (0 : EReal) := by
  idx_vars y
  unfold k0_pay4
  pointwise
theorem start4 (y : S1x2048.Idx) : (k0_pay5 (F := Ideal)) y = (0 : EReal) := by
  idx_vars y
  unfold k0_pay5
  pointwise
theorem step3 (a : Vec Ideal S1x128 .f32) (l : Fin 128) :
    k0_pay9 x g z a (ix2 0 l) = (a (ix2 0 l) + Ideal.ofBits .f32 0x3F000000#32 * ∑ p : Fin 512, err (bx x p) (bg g) (bx z p) : EReal) := by
  unfold k0_pay9 err
  pointwise
  simp only [dif_at]
theorem step4 (a : Vec Ideal S1x2048 .f32) (q : Fin 2048) :
    k0_pay1 (k0_pay7 x) (k0_pay10 x g z) a (ix2 0 q)
      = (a (ix2 0 q) + ∑ p : Fin 512, dy (bx x p) (bg g) (bx z p) q * (x (ix2 p q) * Norm.inv (bx x p)) : EReal) := by
  unfold k0_pay1
  pointwise
  simp only [hat_at, dy_at]
theorem dx_at (p : Fin 512) (q : Fin 2048) :
    k0_pay2 (k0_pay6 x) (k0_pay7 x) g (k0_pay10 x g z) (ix2 p q) = Norm.back (bx x p) (bt x g z p) q := by
  unfold k0_pay2 Norm.back
  pointwise
  simp only [hat_at, dy_at, inv_at]
theorem round_at (p : Fin 512) (q : Fin 2048) :
    k0_pay3 (k0_pay6 x) (k0_pay7 x) g (k0_pay10 x g z) (ix2 p q) = Norm.back (bx x p) (bt x g z p) q := by
  rw [← dx_at]
  unfold k0_pay3
  pointwise
end Body

/-! ## The rows' gradient -/

theorem out5 (t : Fin cfg0.N) : (outsAt0 m c t.val t.isLt).2.2.1 = k0_pay2 (k0_pay6 (iblk m c 0 t)) (k0_pay7 (iblk m c 0 t)) (iblk m c 1 t) (k0_pay10 (iblk m c 0 t) (iblk m c 1 t) (iblk m c 2 t)) := by
  by_cases h : t.val % 16 = 0
  · rw [outsAt0_A m c t h]
    dsimp only
    unfold out0_A_5
    frame_out
  · rw [outsAt0_B m c t h]
    dsimp only
    unfold out0_B_5
    frame_out
theorem out6 (t : Fin cfg0.N) : (outsAt0 m c t.val t.isLt).2.2.2 = k0_pay3 (k0_pay6 (iblk m c 0 t)) (k0_pay7 (iblk m c 0 t)) (iblk m c 1 t) (k0_pay10 (iblk m c 0 t) (iblk m c 1 t) (iblk m c 2 t)) := by
  by_cases h : t.val % 16 = 0
  · rw [outsAt0_A m c t h]
    dsimp only
    unfold out0_A_6
    frame_out
  · rw [outsAt0_B m c t h]
    dsimp only
    unfold out0_B_6
    frame_out

/-- Row `r` of the rows and of the targets, the gains, and the gradient by the normed rows. -/
abbrev xr (r : Fin 8192) (k : Fin 2048) : EReal := X m c (ix2 r k)
abbrev zr (r : Fin 8192) (k : Fin 2048) : EReal := Z m c (ix2 r k)
abbrev gr (k : Fin 2048) : EReal := G m c (ix2 0 k)
abbrev tr (r : Fin 8192) (k : Fin 2048) : EReal := dy (xr m c r) (gr m c) (zr m c r) k * G m c (ix2 0 k)

theorem bx_blk (t : Fin cfg0.N) (p : Fin 512) : bx (iblk m c 0 t) p = xr m c (row t p) := funext fun k => in0 m c t p k
theorem bz_blk (t : Fin cfg0.N) (p : Fin 512) : bx (iblk m c 2 t) p = zr m c (row t p) := funext fun k => in2 m c t p k
theorem bg_blk (t : Fin cfg0.N) : bg (iblk m c 1 t) = gr m c := funext fun k => in1 m c t k
theorem bt_blk (t : Fin cfg0.N) (p : Fin 512) : bt (iblk m c 0 t) (iblk m c 1 t) (iblk m c 2 t) p = tr m c (row t p) :=
  funext fun k => by
    show (dy (bx (iblk m c 0 t) p) (bg (iblk m c 1 t)) (bx (iblk m c 2 t) p) k * _ : EReal) = _ * _
    rw [bx_blk, bz_blk, bg_blk, in1]

/-- The point of a row, and the row in its block. -/
def pt (r : Fin 8192) : Fin cfg0.N := ⟨r.val / 512, by rw [show cfg0.N = 16 from N_0]; omega⟩
def sub (r : Fin 8192) : Fin 512 := ⟨r.val % 512, by omega⟩
theorem row_pt (r : Fin 8192) : row (pt r) (sub r) = r := Fin.ext (show r.val / 512 * 512 + r.val % 512 = r.val by omega)

theorem emb3 (t : Fin cfg0.N) (q : Fin 128) : (win0_3.blk t).view.emb (ix2 0 q) = ix2 0 q := by
  funext a
  refine Fin.ext ((Pipeline.Window.rect_emb_val win0_3 t (ix2 0 q) a rfl).trans ?_)
  match a with
  | ⟨0, _⟩ => exact congrArg (· * 1 + 0) (idx3 t).1
  | ⟨1, _⟩ => exact (congrArg (· * 128 + q.val) (idx3 t).2).trans (by show 0 * 128 + q.val = q.val; omega)
theorem emb4 (t : Fin cfg0.N) (q : Fin 2048) : (win0_4.blk t).view.emb (ix2 0 q) = ix2 0 q := by
  funext a
  refine Fin.ext ((Pipeline.Window.rect_emb_val win0_4 t (ix2 0 q) a rfl).trans ?_)
  match a with
  | ⟨0, _⟩ => exact congrArg (· * 1 + 0) (idx4 t).1
  | ⟨1, _⟩ => exact (congrArg (· * 2048 + q.val) (idx4 t).2).trans (by show 0 * 2048 + q.val = q.val; omega)
theorem emb5 (t : Fin cfg0.N) (p : Fin 512) (q : Fin 2048) : (win0_5.blk t).view.emb (ix2 p q) = ix2 (row t p) q := by
  have := tlt t
  funext a
  refine Fin.ext ((Pipeline.Window.rect_emb_val win0_5 t (ix2 p q) a rfl).trans ?_)
  match a with
  | ⟨0, _⟩ => exact congrArg (· * 512 + p.val) (idx5 t).1
  | ⟨1, _⟩ => exact (congrArg (· * 2048 + q.val) (idx5 t).2).trans (by show 0 * 2048 + q.val = q.val; omega)
theorem emb6 (t : Fin cfg0.N) (p : Fin 512) (q : Fin 2048) : (win0_6.blk t).view.emb (ix2 p q) = ix2 (row t p) q := by
  have := tlt t
  funext a
  refine Fin.ext ((Pipeline.Window.rect_emb_val win0_6 t (ix2 p q) a rfl).trans ?_)
  match a with
  | ⟨0, _⟩ => exact congrArg (· * 512 + p.val) (idx6 t).1
  | ⟨1, _⟩ => exact (congrArg (· * 2048 + q.val) (idx6 t).2).trans (by show 0 * 2048 + q.val = q.val; omega)

theorem arr5 (r : Fin 8192) (q : Fin 2048) :
    (dats m 0 c).arrAt 5 cfg0.N (ix2 r q) = Norm.back (xr m c r) (tr m c r) q := by
  have e := emb5 (pt r) (sub r) q
  have b := congrFun ((dats m 0 c).read_blk_arrAt_eq_flushed 5
    (fun t t' hf hf' hne => (cfg0.win 5).disjoint_blk (fun h => hne (inj5 t t' h)) rfl)
    cfg0.N (pt r) (pt r).isLt (flush0_5 _)) (ix2 (sub r) q)
  have f : (dats m 0 c).flushed 5 (pt r) = (outsAt0 m c (pt r).val (pt r).isLt).2.2.1 := after0_5 m c (pt r)
  rw [f, out5 m c (pt r)] at b
  rw [row_pt] at e
  refine ((congrArg ((dats m 0 c).arrAt 5 cfg0.N) e).symm.trans b).trans ?_
  refine (dx_at _ _ _ _ _).trans ?_
  rw [bx_blk, bt_blk, row_pt]
theorem arr6 (r : Fin 8192) (q : Fin 2048) :
    (dats m 0 c).arrAt 6 cfg0.N (ix2 r q) = Norm.back (xr m c r) (tr m c r) q := by
  have e := emb6 (pt r) (sub r) q
  have b := congrFun ((dats m 0 c).read_blk_arrAt_eq_flushed 6
    (fun t t' hf hf' hne => (cfg0.win 6).disjoint_blk (fun h => hne (inj6 t t' h)) rfl)
    cfg0.N (pt r) (pt r).isLt (flush0_6 _)) (ix2 (sub r) q)
  have f : (dats m 0 c).flushed 6 (pt r) = (outsAt0 m c (pt r).val (pt r).isLt).2.2.2 := after0_6 m c (pt r)
  rw [f, out6 m c (pt r)] at b
  rw [row_pt] at e
  refine ((congrArg ((dats m 0 c).arrAt 6 cfg0.N) e).symm.trans b).trans ?_
  refine (round_at _ _ _ _ _).trans ?_
  rw [bx_blk, bt_blk, row_pt]

/-- The last point. -/
def lastPt : Fin cfg0.N := ⟨15, by rw [show cfg0.N = 16 from N_0]; omega⟩

/-! ## The loss -/

/-- What point `t` adds to the loss. -/
def term3 (t : Fin cfg0.N) : EReal :=
  ∑ p : Fin 512, Ideal.ofBits .f32 0x3F000000#32 * err (xr m c (row t p)) (gr m c) (zr m c (row t p))

theorem step3_blocks (t : Fin cfg0.N) (a : Vec Ideal S1x128 .f32) (l : Fin 128) :
    k0_pay9 (iblk m c 0 t) (iblk m c 1 t) (iblk m c 2 t) a (ix2 0 l) = (a (ix2 0 l) + term3 m c t : EReal) := by
  refine (step3 _ _ _ _ _).trans (congrArg (a (ix2 0 l) + ·) ((half_sum _).trans (Finset.sum_congr rfl fun p _ => ?_)))
  rw [bx_blk, bz_blk, bg_blk]

theorem first3 (t : Fin cfg0.N) (h : t.val % 16 = 0) : (outsAt0 m c t.val t.isLt).1 = k0_pay9 (iblk m c 0 t) (iblk m c 1 t) (iblk m c 2 t) (k0_pay4 (F := Ideal)) := by
  rw [outsAt0_A m c t h]
  dsimp only
  unfold out0_A_3
  frame_out

theorem later3 (t : Fin cfg0.N) (h : ¬t.val % 16 = 0) : (outsAt0 m c t.val t.isLt).1
    = k0_pay9 (iblk m c 0 t) (iblk m c 1 t) (iblk m c 2 t) (outsAt0 m c (t.val - 1) (Nat.lt_of_le_of_lt (Nat.sub_le _ _) t.isLt)).1 := by
  rw [outsAt0_B m c t h]
  dsimp only
  unfold out0_B_3
  frame_out

theorem total3 (t : Fin cfg0.N) (h : t.val % 16 = 15) (l : Fin 128) :
    (outsAt0 m c t.val t.isLt).1 (ix2 0 l) = (Ideal.ofBits .f32 0x3F000000#32 * ∑ r : Fin 8192, err (xr m c r) (gr m c) (zr m c r) : EReal) := by
  refine (Pipeline.eq_sum_fin_of_reset_step_of_flush (fun n h => ((outsAt0 m c n h).1 (ix2 0 l) : EReal)) 16 0 (fun t => term3 m c t)
    (fun t h => by rw [first3 m c t h, step3_blocks, start3]) (fun t h => by rw [later3 m c t h, step3_blocks]) t h).trans ?_
  rw [zero_add, half_sum]
  refine Fin.sum_mul_add_congr (S := 16) (n := 512) fun s k hl => ?_
  have ht := tlt t
  have hr : ∀ a, row ⟨16 * (t.val / 16) + s.val, a⟩ k = ⟨s.val * 512 + k.val, hl⟩ := fun a => Fin.ext (by simp only [row]; omega)
  rw [hr]

theorem arr3 (q : Fin 128) : (dats m 0 c).arrAt 3 cfg0.N (ix2 0 q) = (Ideal.ofBits .f32 0x3F000000#32 * ∑ r : Fin 8192, err (xr m c r) (gr m c) (zr m c r) : EReal) := by
  have e := emb3 lastPt q
  have b := congrFun ((dats m 0 c).read_blk_arrAt_eq_flushed 3
    (fun t t' hf hf' hne => absurd (Fin.ext (by
      have h1 := (flush0_3 t).mp hf; have h2 := (flush0_3 t').mp hf'; have := tlt t; have := tlt t'; omega)) hne)
    cfg0.N lastPt lastPt.isLt ((flush0_3 _).mpr rfl)) (ix2 0 q)
  have f : (dats m 0 c).flushed 3 lastPt = (outsAt0 m c lastPt.val lastPt.isLt).1 := after0_3 m c lastPt
  rw [f] at b
  exact ((congrArg ((dats m 0 c).arrAt 3 cfg0.N) e).symm.trans b).trans (total3 m c lastPt rfl q)

/-! ## The gains' gradient -/

/-- What point `t` adds to an entry. -/
def term4 (t : Fin cfg0.N) (q : Fin 2048) : EReal :=
  ∑ p : Fin 512, dy (xr m c (row t p)) (gr m c) (zr m c (row t p)) q * (X m c (ix2 (row t p) q) * Norm.inv (xr m c (row t p)))

theorem step4_blocks (t : Fin cfg0.N) (a : Vec Ideal S1x2048 .f32) (q : Fin 2048) :
    k0_pay1 (k0_pay7 (iblk m c 0 t)) (k0_pay10 (iblk m c 0 t) (iblk m c 1 t) (iblk m c 2 t)) a (ix2 0 q) = (a (ix2 0 q) + term4 m c t q : EReal) := by
  refine (step4 _ _ _ _ _).trans (congrArg (a (ix2 0 q) + ·) (Finset.sum_congr rfl fun p _ => ?_))
  rw [bx_blk, bz_blk, bg_blk, in0]

theorem first4 (t : Fin cfg0.N) (h : t.val % 16 = 0) : (outsAt0 m c t.val t.isLt).2.1
    = k0_pay1 (k0_pay7 (iblk m c 0 t)) (k0_pay10 (iblk m c 0 t) (iblk m c 1 t) (iblk m c 2 t)) (k0_pay5 (F := Ideal)) := by
  rw [outsAt0_A m c t h]
  dsimp only
  unfold out0_A_4
  frame_out

theorem later4 (t : Fin cfg0.N) (h : ¬t.val % 16 = 0) : (outsAt0 m c t.val t.isLt).2.1
    = k0_pay1 (k0_pay7 (iblk m c 0 t)) (k0_pay10 (iblk m c 0 t) (iblk m c 1 t) (iblk m c 2 t))
      (outsAt0 m c (t.val - 1) (Nat.lt_of_le_of_lt (Nat.sub_le _ _) t.isLt)).2.1 := by
  rw [outsAt0_B m c t h]
  dsimp only
  unfold out0_B_4
  frame_out

theorem total4 (t : Fin cfg0.N) (h : t.val % 16 = 15) (q : Fin 2048) :
    (outsAt0 m c t.val t.isLt).2.1 (ix2 0 q) = (∑ r : Fin 8192, X m c (ix2 r q) * Norm.inv (xr m c r) * dy (xr m c r) (gr m c) (zr m c r) q : EReal) := by
  refine (Pipeline.eq_sum_fin_of_reset_step_of_flush (fun n h => ((outsAt0 m c n h).2.1 (ix2 0 q) : EReal)) 16 0 (fun t => term4 m c t q)
    (fun t h => by rw [first4 m c t h, step4_blocks, start4]) (fun t h => by rw [later4 m c t h, step4_blocks]) t h).trans ?_
  rw [zero_add]
  refine Fin.sum_mul_add_congr (S := 16) (n := 512) fun s k hl => ?_
  rw [mul_comm]
  have ht := tlt t
  have hr : ∀ a, row ⟨16 * (t.val / 16) + s.val, a⟩ k = ⟨s.val * 512 + k.val, hl⟩ := fun a => Fin.ext (by simp only [row]; omega)
  rw [hr]

theorem arr4 (q : Fin 2048) : (dats m 0 c).arrAt 4 cfg0.N (ix2 0 q) = (∑ r : Fin 8192, X m c (ix2 r q) * Norm.inv (xr m c r) * dy (xr m c r) (gr m c) (zr m c r) q : EReal) := by
  have e := emb4 lastPt q
  have b := congrFun ((dats m 0 c).read_blk_arrAt_eq_flushed 4
    (fun t t' hf hf' hne => absurd (Fin.ext (by
      have h1 := (flush0_4 t).mp hf; have h2 := (flush0_4 t').mp hf'; have := tlt t; have := tlt t'; omega)) hne)
    cfg0.N lastPt lastPt.isLt ((flush0_4 _).mpr rfl)) (ix2 0 q)
  have f : (dats m 0 c).flushed 4 lastPt = (outsAt0 m c lastPt.val lastPt.isLt).2.1 := after0_4 m c lastPt
  rw [f] at b
  exact ((congrArg ((dats m 0 c).arrAt 4 cfg0.N) e).symm.trans b).trans (total4 m c lastPt rfl q)

theorem algebraic : Cert.algebraic_Kernel20Ideal_Reference20Ideal := by
  intro m ρ m' ρ' _ hagree
  refine ⟨fun c => (dats m 0 c).arrAt 3 cfg0.N, fun c => (dats m 0 c).arrAt 4 cfg0.N, fun c => (dats m 0 c).arrAt 5 cfg0.N,
    fun c => (dats m 0 c).arrAt 6 cfg0.N, run m ρ, ?_⟩
  refine (θ_run _ _ _).mono (fun _ h c => ?_) (Ref.run m' ρ')
  obtain ⟨e3, e4, e5, e6, ha⟩ := h c
  obtain ⟨a0, a1, a2⟩ := hagree c
  rw [a0, a1, a2] at e3 e4 e5 e6
  refine ⟨e3.trans (funext fun y => ?_), e4.trans (funext fun y => ?_), e5.trans (funext fun y => ?_), e6.trans (funext fun y => ?_), ha⟩
  · have hy : y = ix2 0 (y 1) := by
      funext a
      match a with
      | ⟨0, _⟩ => exact Subsingleton.elim (α := Fin 1) _ _
      | ⟨1, _⟩ => rfl
    rw [hy]
    exact (Ref.lossA_at _ _ _ _).trans (arr3 m c _).symm
  · have hy : y = ix2 0 (y 1) := by
      funext a
      match a with
      | ⟨0, _⟩ => exact Subsingleton.elim (α := Fin 1) _ _
      | ⟨1, _⟩ => rfl
    rw [hy]
    exact (Ref.dgA_at _ _ _ _).trans (arr4 m c _).symm
  · idx_vars y
    exact (Ref.dxA_at _ _ _ _ _).trans ((Norm.back_eq_plain _ _ _).symm.trans (arr5 m c _ _).symm)
  · idx_vars y
    exact (Ref.dxB_at _ _ _ _ _).trans ((Norm.back_eq_plain _ _ _).symm.trans (arr6 m c _ _).symm)

end Cert.FinalLoss

end
-- ==== Proof.GatesReference.lean ====
/-
  The reference of the gates' gradient: its operations one by one, its run, and its results at an index.
-/
module

public import proofs.«01_k».proof.Defs
public import proofs.«01_k».proof.Proof.Gen.Reference21Ideal
public import Idealize.ShloMosaic.Lib.StableHlo.Run
public import Idealize.ShloMosaic.Lib.Pointwise
public import Idealize.ShloMosaic.Lib.Pipeline.ValueKit
public import Idealize.ShloMosaic.Lib.Quiescent

@[expose] public section

set_option maxRecDepth 16384

noncomputable section

namespace Cert.Gates

open Idealize.ShloMosaic

/-! ## An entry -/

theorem c16 : Ideal.ofBits .f32 0x41800000#32 = ((16 : ℝ) : EReal) := by
  simp [Ideal.ofBits, Ideal.ieee, -EReal.coe_mul]; norm_num
theorem c16i : Ideal.ofBits .f32 0x3D800000#32 = ((1 / 16 : ℝ) : EReal) := by
  simp [Ideal.ofBits, Ideal.ieee, -EReal.coe_mul]; norm_num
theorem cHalf : Ideal.ofBits .f32 0x3F000000#32 = ((1 / 2 : ℝ) : EReal) := by
  simp [Ideal.ofBits, Ideal.ieee, -EReal.coe_mul]; norm_num

/-- The two halves of a row side by side. -/
def cat (a b : Fin 512 → EReal) (q : Fin 1024) : EReal := if h : q.val < 512 then a ⟨q.val, h⟩ else b ⟨q.val - 512, by omega⟩
/-- A gate before its function. -/
def pre (z w : Fin 32 → EReal) (b : EReal) : EReal := (∑ k : Fin 32, z k * w k) + b
/-- The gradient through the logarithm of the logistic function, divided by sixteen. -/
def gate (d u : EReal) : EReal := Ideal.div d (Ideal.ofBits .f32 0x41800000#32) * Ideal.div 1 (1 + Ideal.exp u)

/-- The call's form, by the hyperbolic tangent. -/
theorem tanh_form (u : EReal) :
    Ideal.ofBits .f32 0x3F000000#32 * Ideal.tanh (Ideal.ofBits .f32 0x3F000000#32 * (0 - u)) + Ideal.ofBits .f32 0x3F000000#32
      = Ideal.div 1 (1 + Ideal.exp u) := by
  rw [cHalf]
  induction u using EReal.rec with
  | bot =>
    have e : ((1 / 2 : ℝ) : EReal) * (0 - ⊥) = ⊤ := by
      rw [EReal.sub_bot (by simp)]
      exact EReal.coe_mul_top_of_pos (by norm_num)
    rw [e, Ideal.tanh_top, Ideal.exp_bot, add_zero, mul_one, ← EReal.coe_add, ← EReal.coe_one, Ideal.div_coe (by norm_num), ← EReal.coe_mul]
    congr 1
    norm_num
  | top =>
    have e : ((1 / 2 : ℝ) : EReal) * (0 - ⊤) = ⊥ := by
      rw [EReal.sub_top]
      exact EReal.coe_mul_bot_of_pos (by norm_num)
    have e' : (1 : EReal) + ⊤ = ⊤ := EReal.add_top_of_ne_bot (show (1 : EReal) ≠ ⊥ from EReal.coe_ne_bot 1)
    rw [e, Ideal.tanh_bot, Ideal.exp_top, e']
    have : Ideal.div 1 ⊤ = 0 := by simp [Ideal.div]
    rw [this, ← EReal.coe_one, ← EReal.coe_neg, ← EReal.coe_mul, ← EReal.coe_add, ← EReal.coe_zero]
    congr 1
    norm_num
  | coe u =>
    have hp : 1 + Real.exp u ≠ 0 := by positivity
    rw [← EReal.coe_zero, ← EReal.coe_sub, ← EReal.coe_mul, Ideal.tanh_coe, Ideal.exp_coe, ← EReal.coe_mul, ← EReal.coe_add,
      ← EReal.coe_one, ← EReal.coe_add, Ideal.div_coe hp, ← EReal.coe_mul]
    congr 1
    rw [Real.tanh_eq_sinh_div_cosh, Real.sinh_eq, Real.cosh_eq]
    have e1 : Real.exp (1 / 2 * (0 - u)) = (Real.exp (u / 2))⁻¹ := by rw [← Real.exp_neg]; congr 1; ring
    have e2 : Real.exp (-(1 / 2 * (0 - u))) = Real.exp (u / 2) := by congr 1; ring
    have e3 : Real.exp u = Real.exp (u / 2) * Real.exp (u / 2) := by rw [← Real.exp_add]; congr 1; ring
    rw [e1, e2, e3]
    have h0 : 0 < Real.exp (u / 2) := Real.exp_pos _
    generalize Real.exp (u / 2) = a at h0
    have h1 : a⁻¹ + a ≠ 0 := by positivity
    field_simp
    ring

theorem scale (d : EReal) : d * Ideal.ofBits .f32 0x3D800000#32 = Ideal.div d (Ideal.ofBits .f32 0x41800000#32) := by
  rw [c16, c16i, Ideal.div_coe (by norm_num)]

namespace Ref

open Cert.Reference21Ideal Cert.Reference21Ideal.Gen Idealize.ShloMosaic.TcCoe Idealize.SL.Sem Idealize.ShloMosaic.StableHlo

/-! ## The arrays -/

variable (z : FVec Ideal S8192x32 .bf16) (w : FVec Ideal S32x1024 .bf16) (b : FVec Ideal S1x1024 .f32) (df db : FVec Ideal S8192x512 .f32)

/-- The gates before their function, the gradients side by side, and the gradient by the gates before their function. -/
def preA : FVec Ideal S8192x1024 .f32 :=
  addf (Host.dotGeneral dot_S8192x32_S32x1024_S8192x1024_1_0_0_1_n_n none (extf .f32 z bitsLt_bf16_f32) (extf .f32 w bitsLt_bf16_f32))
    (broadcastInDim S8192x1024 ![0, 1] bcast_S1x1024_S8192x1024_0_1 b)
def catA : FVec Ideal S8192x1024 .f32 :=
  concatenate S8192x1024 1 [⟨S8192x512, df⟩, ⟨S8192x512, db⟩] concatenates_S8192x512_S8192x512_S8192x1024_d1
def gateA : FVec Ideal S8192x1024 .f32 :=
  mulf (Host.divf (catA df db) (broadcastInDim S8192x1024 ![] bcast_S_S8192x1024 (constant S_ .f32 0x41800000#32)))
    (Host.divf (broadcastInDim S8192x1024 ![] bcast_S_S8192x1024 (constant S_ .f32 0x3F800000#32))
      (addf (broadcastInDim S8192x1024 ![] bcast_S_S8192x1024 (constant S_ .f32 0x3F800000#32)) (Host.exp (preA z w b))))
def dzA : FVec Ideal S8192x32 .bf16 :=
  truncf .bf16 (Host.dotGeneral dot_S8192x1024_S32x1024_S8192x32_1_1_0_0_n_n none (gateA z w b df db) (extf .f32 w bitsLt_bf16_f32)) bitsLt_bf16_f32
def dwA : FVec Ideal S32x1024 .f32 :=
  transpose S32x1024 [1, 0] (Host.dotGeneral dot_S8192x1024_S8192x32_S1024x32_0_0_1_1_n_n none (gateA z w b df db) (extf .f32 z bitsLt_bf16_f32))
    transposes_S1024x32_S32x1024_1_0
def dbA : FVec Ideal S1x1024 .f32 :=
  shapeCast S1x1024 (Host.reduceAdd (gateA z w b df db) (constant S_ .f32 0x00000000#32) reducesTo_S8192x1024_S1024_d0 h_S_) shapeCasts_S1024_S1x1024

/-! ## The run -/

section Run
variable {F : FTy → Type} [FloatOps F]

abbrev ops : List (HloOp τ sig (Elt F)) :=
  [ unary main_arg0 main_v0 ((extf .f32 · bitsLt_bf16_f32) : (⟨S8192x32, .bf16⟩ : BufTy).Contents (Elt F) → (⟨S8192x32, .f32⟩ : BufTy).Contents (Elt F)),
    unary main_arg1 main_v1 ((extf .f32 · bitsLt_bf16_f32) : (⟨S32x1024, .bf16⟩ : BufTy).Contents (Elt F) → (⟨S32x1024, .f32⟩ : BufTy).Contents (Elt F)),
    binary main_v0 main_v1 main_v2 ((fun l r => Host.dotGeneral dot_S8192x32_S32x1024_S8192x1024_1_0_0_1_n_n none l r) : (⟨S8192x32, .f32⟩ : BufTy).Contents (Elt F) → (⟨S32x1024, .f32⟩ : BufTy).Contents (Elt F) → (⟨S8192x1024, .f32⟩ : BufTy).Contents (Elt F)),
    unary main_arg2 main_v3 (broadcastInDim S8192x1024 ![0, 1] bcast_S1x1024_S8192x1024_0_1 : (⟨S1x1024, .f32⟩ : BufTy).Contents (Elt F) → (⟨S8192x1024, .f32⟩ : BufTy).Contents (Elt F)),
    binary main_v2 main_v3 main_v4 (addf : (⟨S8192x1024, .f32⟩ : BufTy).Contents (Elt F) → (⟨S8192x1024, .f32⟩ : BufTy).Contents (Elt F) → (⟨S8192x1024, .f32⟩ : BufTy).Contents (Elt F)),
    binary main_arg3 main_arg4 main_v5 ((fun a b => concatenate S8192x1024 1 [⟨S8192x512, a⟩, ⟨S8192x512, b⟩] concatenates_S8192x512_S8192x512_S8192x1024_d1) : (⟨S8192x512, .f32⟩ : BufTy).Contents (Elt F) → (⟨S8192x512, .f32⟩ : BufTy).Contents (Elt F) → (⟨S8192x1024, .f32⟩ : BufTy).Contents (Elt F)),
    nullary main_cst (constant S_ .f32 0x41800000#32),
    unary main_cst main_v6 (broadcastInDim S8192x1024 ![] bcast_S_S8192x1024 : (⟨S_, .f32⟩ : BufTy).Contents (Elt F) → (⟨S8192x1024, .f32⟩ : BufTy).Contents (Elt F)),
    binary main_v5 main_v6 main_v7 (Host.divf : (⟨S8192x1024, .f32⟩ : BufTy).Contents (Elt F) → (⟨S8192x1024, .f32⟩ : BufTy).Contents (Elt F) → (⟨S8192x1024, .f32⟩ : BufTy).Contents (Elt F)),
    unary main_v4 main_v8 (Host.exp : (⟨S8192x1024, .f32⟩ : BufTy).Contents (Elt F) → (⟨S8192x1024, .f32⟩ : BufTy).Contents (Elt F)),
    nullary main_cst_0 (constant S_ .f32 0x3F800000#32),
    unary main_cst_0 main_v9 (broadcastInDim S8192x1024 ![] bcast_S_S8192x1024 : (⟨S_, .f32⟩ : BufTy).Contents (Elt F) → (⟨S8192x1024, .f32⟩ : BufTy).Contents (Elt F)),
    binary main_v9 main_v8 main_v10 (addf : (⟨S8192x1024, .f32⟩ : BufTy).Contents (Elt F) → (⟨S8192x1024, .f32⟩ : BufTy).Contents (Elt F) → (⟨S8192x1024, .f32⟩ : BufTy).Contents (Elt F)),
    nullary main_cst_1 (constant S_ .f32 0x3F800000#32),
    unary main_cst_1 main_v11 (broadcastInDim S8192x1024 ![] bcast_S_S8192x1024 : (⟨S_, .f32⟩ : BufTy).Contents (Elt F) → (⟨S8192x1024, .f32⟩ : BufTy).Contents (Elt F)),
    binary main_v11 main_v10 main_v12 (Host.divf : (⟨S8192x1024, .f32⟩ : BufTy).Contents (Elt F) → (⟨S8192x1024, .f32⟩ : BufTy).Contents (Elt F) → (⟨S8192x1024, .f32⟩ : BufTy).Contents (Elt F)),
    binary main_v7 main_v12 main_v13 (mulf : (⟨S8192x1024, .f32⟩ : BufTy).Contents (Elt F) → (⟨S8192x1024, .f32⟩ : BufTy).Contents (Elt F) → (⟨S8192x1024, .f32⟩ : BufTy).Contents (Elt F)),
    nullary main_cst_2 (constant S_ .f32 0x00000000#32),
    binary main_v13 main_cst_2 main_v14 ((fun x v => Host.reduceAdd x v reducesTo_S8192x1024_S1024_d0 h_S_) : (⟨S8192x1024, .f32⟩ : BufTy).Contents (Elt F) → (⟨S_, .f32⟩ : BufTy).Contents (Elt F) → (⟨S1024, .f32⟩ : BufTy).Contents (Elt F)),
    reshape main_v14 main_v15 (rfl : (.f32 : EltTy) = .f32) shapeCasts_S1024_S1x1024,
    binary main_v13 main_v0 main_v16 ((fun l r => Host.dotGeneral dot_S8192x1024_S8192x32_S1024x32_0_0_1_1_n_n none l r) : (⟨S8192x1024, .f32⟩ : BufTy).Contents (Elt F) → (⟨S8192x32, .f32⟩ : BufTy).Contents (Elt F) → (⟨S1024x32, .f32⟩ : BufTy).Contents (Elt F)),
    unary main_v16 main_v17 ((transpose S32x1024 [1, 0] · transposes_S1024x32_S32x1024_1_0) : (⟨S1024x32, .f32⟩ : BufTy).Contents (Elt F) → (⟨S32x1024, .f32⟩ : BufTy).Contents (Elt F)),
    binary main_v13 main_v1 main_v18 ((fun l r => Host.dotGeneral dot_S8192x1024_S32x1024_S8192x32_1_1_0_0_n_n none l r) : (⟨S8192x1024, .f32⟩ : BufTy).Contents (Elt F) → (⟨S32x1024, .f32⟩ : BufTy).Contents (Elt F) → (⟨S8192x32, .f32⟩ : BufTy).Contents (Elt F)),
    unary main_v18 main_v19 ((truncf .bf16 · bitsLt_bf16_f32) : (⟨S8192x32, .f32⟩ : BufTy).Contents (Elt F) → (⟨S8192x32, .bf16⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., unary_bufs_sub .., binary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub .., nullary_bufs_sub .., binary_bufs_sub .., reshape_bufs_sub .., binary_bufs_sub .., unary_bufs_sub .., binary_bufs_sub .., unary_bufs_sub ..⟩
end Run

set_option maxHeartbeats 4000000 in
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19) = dzA (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_v17) = dwA (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_v15) = dbA (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v19).trans (by after_results; rfl),
      (h c main_v17).trans (by after_results; rfl),
      (h c main_v15).trans (by after_results; rfl),
      (h c main_arg0).trans (by after_results),
      (h c main_arg1).trans (by after_results),
      (h c main_arg2).trans (by after_results),
      (h c main_arg3).trans (by after_results),
      (h c main_arg4).trans (by after_results)⟩)
    (run_seq scopedRefs_eq scopedSems_eq defs main (fun _ => ops) main_eq (fun _ => ops_sub) m ρ)

theorem quiescent : Cert.quiescent_Reference21Ideal := fun m ρ _ =>
  (θ_run Cert.Reference21Ideal.defs _ _).mono (fun r h => ⟨fun c => (h c).2.2.2,
      Idealize.ShloMosaic.sem_eq_zero_of_no_sems (by decide) r.2⟩)
    (run m ρ)

/-! ## At an index -/

/-- The gradient by gate `q` of row `p`, before its function. -/
abbrev gs (p : Fin 8192) (q : Fin 1024) : EReal :=
  gate (cat (fun k => df (ix2 p k)) (fun k => db (ix2 p k)) q) (pre (fun k => z (ix2 p k)) (fun k => w (ix2 k q)) (b (ix2 0 q)))

theorem preA_at (p : Fin 8192) (q : Fin 1024) : preA z w b (ix2 p q) = pre (fun k => z (ix2 p k)) (fun k => w (ix2 k q)) (b (ix2 0 q)) := by
  unfold preA pre
  pointwise
theorem catA_at (p : Fin 8192) (q : Fin 1024) : catA df db (ix2 p q) = cat (fun k => df (ix2 p k)) (fun k => db (ix2 p k)) q := by
  unfold catA cat
  pointwise
theorem gateA_at (p : Fin 8192) (q : Fin 1024) : gateA z w b df db (ix2 p q) = gs z w b df db p q := by
  unfold gateA gs gate
  pointwise
  simp only [preA_at, catA_at]
theorem dzA_at (p : Fin 8192) (k : Fin 32) : dzA z w b df db (ix2 p k) = (∑ q : Fin 1024, gs z w b df db p q * w (ix2 k q) : EReal) := by
  unfold dzA
  pointwise
  simp only [gateA_at]
theorem dwA_at (k : Fin 32) (q : Fin 1024) : dwA z w b df db (ix2 k q) = (∑ p : Fin 8192, gs z w b df db p q * z (ix2 p k) : EReal) := by
  unfold dwA
  pointwise
  simp only [gateA_at]
theorem dbA_at (q : Fin 1024) : dbA z w b df db (ix2 0 q) = (∑ p : Fin 8192, gs z w b df db p q : EReal) := by
  unfold dbA
  pointwise
  simp only [gateA_at]

end Ref

end Cert.Gates

end
-- ==== Proof.GatesBack.lean ====
/-
  The gradient of the gates: the call takes sixteen blocks of rows; each makes its rows' gradient at once, and the gradients of the weights and
  of the bias are accumulated over all of them.
-/
module

public import proofs.«01_k».proof.Defs
public import proofs.«01_k».proof.Proof.Gen.Kernel21Ideal.Frame
public import proofs.«01_k».proof.Proof.GatesReference
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Gates

open Cert.Kernel21Ideal Cert.Kernel21Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

abbrev Z : (⟨2, ![8192, 32]⟩ : Shape).Idx → EReal := m ((c : Thread nD τ).loc main_arg0)
abbrev W : (⟨2, ![32, 1024]⟩ : Shape).Idx → EReal := m ((c : Thread nD τ).loc main_arg1)
abbrev B : (⟨2, ![1, 1024]⟩ : Shape).Idx → EReal := m ((c : Thread nD τ).loc main_arg2)
abbrev D : (⟨2, ![8192, 512]⟩ : Shape).Idx → EReal := m ((c : Thread nD τ).loc main_arg3)
abbrev E : (⟨2, ![8192, 512]⟩ : Shape).Idx → EReal := m ((c : Thread nD τ).loc main_arg4)

theorem run : θ_run defs (onTc (τ := τ) (main (F := Ideal))) ⟨m, fun _ => 0, ρ⟩ fun r => ∀ c : Dev nD,
      r.2.mem ((c : Thread nD τ).loc main_v0_0) = (dats m 0 c).arrAt 5 cfg0.N
      ∧ r.2.mem ((c : Thread nD τ).loc main_v0_1) = (dats m 0 c).arrAt 6 cfg0.N
      ∧ r.2.mem ((c : Thread nD τ).loc main_v0_2) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h.1 c).1 5, (h.1 c).1 6, (h.1 c).1 7, h.2 c⟩)
    (θ_run_and (run_main m ρ) (unchanged m ρ))

/-! ## The blocks -/

theorem tlt (t : Fin cfg0.N) : t.val < 16 := lt_of_lt_of_eq t.isLt (show cfg0.N = 16 from N_0)
theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)
theorem inj5 : ∀ t t' : Fin cfg0.N, win0_5.index t = win0_5.index t' → t = t' := by
  intro t t' e
  have e0 := congrFun e 0
  rw [(idx5 t).1, (idx5 t').1] at e0
  exact Fin.ext e0

/-- Row `p` of point `t`'s blocks, in the whole arrays. -/
def row (t : Fin cfg0.N) (p : Fin 512) : Fin 8192 := ⟨t.val * 512 + p.val, by have := tlt t; omega⟩

theorem in0 (t : Fin cfg0.N) (p : Fin 512) (q : Fin 32) : iblk m c 0 t (ix2 p q) = Z m c (ix2 (row t p) q) := by
  have := tlt t
  blk_ext [iblk, V, idx0 t, Z, row]
theorem in1 (t : Fin cfg0.N) (k : Fin 32) (q : Fin 1024) : iblk m c 1 t (ix2 k q) = W m c (ix2 k q) := by
  have := tlt t
  blk_ext [iblk, V, idx1 t, W]
theorem in2 (t : Fin cfg0.N) (q : Fin 1024) : iblk m c 2 t (ix2 0 q) = B m c (ix2 0 q) := by
  have := tlt t
  blk_ext [iblk, V, idx2 t, B]
theorem in3 (t : Fin cfg0.N) (p : Fin 512) (q : Fin 512) : iblk m c 3 t (ix2 p q) = D m c (ix2 (row t p) q) := by
  have := tlt t
  blk_ext [iblk, V, idx3 t, D, row]
theorem in4 (t : Fin cfg0.N) (p : Fin 512) (q : Fin 512) : iblk m c 4 t (ix2 p q) = E m c (ix2 (row t p) q) := by
  have := tlt t
  blk_ext [iblk, V, idx4 t, E, row]

/-! ## The body's arithmetic -/

section Body
variable (z : Vec Ideal S512x32 .bf16) (w : Vec Ideal S32x1024 .bf16) (b : Vec Ideal S1x1024 .f32) (d e : Vec Ideal S512x512 .f32)

/-- The gradient by gate `q` of row `p`, before its function. -/
abbrev bs (p : Fin 512) (q : Fin 1024) : EReal :=
  gate (cat (fun k => d (ix2 p k)) (fun k => e (ix2 p k)) q) (pre (fun k => z (ix2 p k)) (fun k => w (ix2 k q)) (b (ix2 0 q)))

theorem gate_at (p : Fin 512) (q : Fin 1024) : k0_pay5 z w b d e (ix2 p q) = bs z w b d e p q := by
  unfold k0_pay5 bs gate pre cat
  pointwise
  rw [tanh_form, scale]
theorem round_at (p : Fin 512) (q : Fin 1024) : k0_pay7 z w b d e (ix2 p q) = bs z w b d e p q := by
  rw [← gate_at]
  unfold k0_pay7
  pointwise
theorem start6 (y : S32x1024.Idx) : (k0_pay3 (F := Ideal)) y = (0 : EReal) := by
  idx_vars y
  unfold k0_pay3
  pointwise
theorem start7 (y : S1x1024.Idx) : (k0_pay4 (F := Ideal)) y = (0 : EReal) := by
  idx_vars y
  unfold k0_pay4
  pointwise
theorem step6 (a : Vec Ideal S32x1024 .f32) (k : Fin 32) (q : Fin 1024) :
    k0_pay1 z (k0_pay7 z w b d e) a (ix2 k q) = (a (ix2 k q) + ∑ p : Fin 512, z (ix2 p k) * bs z w b d e p q : EReal) := by
  unfold k0_pay1
  pointwise
  simp only [round_at]
theorem step7 (a : Vec Ideal S1x1024 .f32) (q : Fin 1024) :
    k0_pay6 z w b d e a (ix2 0 q) = (a (ix2 0 q) + ∑ p : Fin 512, bs z w b d e p q : EReal) := by
  unfold k0_pay6
  pointwise
  simp only [gate_at]
theorem dz_at (p : Fin 512) (k : Fin 32) :
    k0_pay2 (k0_pay7 z w b d e) w (ix2 p k) = (∑ q : Fin 1024, bs z w b d e p q * w (ix2 k q) : EReal) := by
  unfold k0_pay2
  pointwise
  simp only [round_at]
end Body

/-- The gradient by gate `q` of row `r`, before its function. -/
abbrev gr (r : Fin 8192) (q : Fin 1024) : EReal :=
  gate (cat (fun k => D m c (ix2 r k)) (fun k => E m c (ix2 r k)) q) (pre (fun k => Z m c (ix2 r k)) (fun k => W m c (ix2 k q)) (B m c (ix2 0 q)))

theorem bs_blk (t : Fin cfg0.N) (p : Fin 512) (q : Fin 1024) : bs (iblk m c 0 t) (iblk m c 1 t) (iblk m c 2 t) (iblk m c 3 t) (iblk m c 4 t) p q = gr m c (row t p) q := by
  simp only [bs, gr, in0, in1, in2, in3, in4]

/-! ## The rows' gradient -/

theorem out5 (t : Fin cfg0.N) : (outsAt0 m c t.val t.isLt).1 = k0_pay2 (k0_pay7 (iblk m c 0 t) (iblk m c 1 t) (iblk m c 2 t) (iblk m c 3 t) (iblk m c 4 t)) (iblk m c 1 t) := by
  by_cases h : t.val % 16 = 0
  · rw [outsAt0_A m c t h]
    dsimp only
    unfold out0_A_5
    frame_out
  · rw [outsAt0_B m c t h]
    dsimp only
    unfold out0_B_5
    frame_out

/-- The point of a row, and the row in its block. -/
def pt (r : Fin 8192) : Fin cfg0.N := ⟨r.val / 512, by rw [show cfg0.N = 16 from N_0]; omega⟩
def sub (r : Fin 8192) : Fin 512 := ⟨r.val % 512, by omega⟩
theorem row_pt (r : Fin 8192) : row (pt r) (sub r) = r := Fin.ext (show r.val / 512 * 512 + r.val % 512 = r.val by omega)

theorem emb5 (t : Fin cfg0.N) (p : Fin 512) (q : Fin 32) : (win0_5.blk t).view.emb (ix2 p q) = ix2 (row t p) q := by
  have := tlt t
  funext a
  refine Fin.ext ((Pipeline.Window.rect_emb_val win0_5 t (ix2 p q) a rfl).trans ?_)
  match a with
  | ⟨0, _⟩ => exact congrArg (· * 512 + p.val) (idx5 t).1
  | ⟨1, _⟩ => exact (congrArg (· * 32 + q.val) (idx5 t).2).trans (by show 0 * 32 + q.val = q.val; omega)
theorem emb6 (t : Fin cfg0.N) (k : Fin 32) (q : Fin 1024) : (win0_6.blk t).view.emb (ix2 k q) = ix2 k q := by
  funext a
  refine Fin.ext ((Pipeline.Window.rect_emb_val win0_6 t (ix2 k q) a rfl).trans ?_)
  match a with
  | ⟨0, _⟩ => exact (congrArg (· * 32 + k.val) (idx6 t).1).trans (by show 0 * 32 + k.val = k.val; omega)
  | ⟨1, _⟩ => exact (congrArg (· * 1024 + q.val) (idx6 t).2).trans (by show 0 * 1024 + q.val = q.val; omega)
theorem emb7 (t : Fin cfg0.N) (q : Fin 1024) : (win0_7.blk t).view.emb (ix2 0 q) = ix2 0 q := by
  funext a
  refine Fin.ext ((Pipeline.Window.rect_emb_val win0_7 t (ix2 0 q) a rfl).trans ?_)
  match a with
  | ⟨0, _⟩ => exact congrArg (· * 1 + 0) (idx7 t).1
  | ⟨1, _⟩ => exact (congrArg (· * 1024 + q.val) (idx7 t).2).trans (by show 0 * 1024 + q.val = q.val; omega)

theorem arr5 (r : Fin 8192) (k : Fin 32) :
    (dats m 0 c).arrAt 5 cfg0.N (ix2 r k) = (∑ q : Fin 1024, gr m c r q * W m c (ix2 k q) : EReal) := by
  have e := emb5 (pt r) (sub r) k
  have b := congrFun ((dats m 0 c).read_blk_arrAt_eq_flushed 5
    (fun t t' hf hf' hne => (cfg0.win 5).disjoint_blk (fun h => hne (inj5 t t' h)) rfl)
    cfg0.N (pt r) (pt r).isLt (flush0_5 _)) (ix2 (sub r) k)
  have f : (dats m 0 c).flushed 5 (pt r) = (outsAt0 m c (pt r).val (pt r).isLt).1 := after0_5 m c (pt r)
  rw [f, out5 m c (pt r)] at b
  rw [row_pt] at e
  refine ((congrArg ((dats m 0 c).arrAt 5 cfg0.N) e).symm.trans b).trans ?_
  refine (dz_at _ _ _ _ _ _ _).trans (Finset.sum_congr rfl fun q _ => ?_)
  rw [bs_blk, in1, row_pt]

/-- The last point. -/
def lastPt : Fin cfg0.N := ⟨15, by rw [show cfg0.N = 16 from N_0]; omega⟩

/-! ## The weights' gradient -/

theorem step6_blocks (t : Fin cfg0.N) (a : Vec Ideal S32x1024 .f32) (k : Fin 32) (q : Fin 1024) :
    k0_pay1 (iblk m c 0 t) (k0_pay7 (iblk m c 0 t) (iblk m c 1 t) (iblk m c 2 t) (iblk m c 3 t) (iblk m c 4 t)) a (ix2 k q) = (a (ix2 k q) + ∑ p : Fin 512, Z m c (ix2 (row t p) k) * gr m c (row t p) q : EReal) := by
  refine (step6 _ _ _ _ _ _ _ _).trans (congrArg (a (ix2 k q) + ·) (Finset.sum_congr rfl fun p _ => ?_))
  rw [bs_blk, in0]

theorem first6 (t : Fin cfg0.N) (h : t.val % 16 = 0) : (outsAt0 m c t.val t.isLt).2.1
    = k0_pay1 (iblk m c 0 t) (k0_pay7 (iblk m c 0 t) (iblk m c 1 t) (iblk m c 2 t) (iblk m c 3 t) (iblk m c 4 t)) (k0_pay3 (F := Ideal)) := by
  rw [outsAt0_A m c t h]
  dsimp only
  unfold out0_A_6
  frame_out

theorem later6 (t : Fin cfg0.N) (h : ¬t.val % 16 = 0) : (outsAt0 m c t.val t.isLt).2.1
    = k0_pay1 (iblk m c 0 t) (k0_pay7 (iblk m c 0 t) (iblk m c 1 t) (iblk m c 2 t) (iblk m c 3 t) (iblk m c 4 t)) (outsAt0 m c (t.val - 1) (Nat.lt_of_le_of_lt (Nat.sub_le _ _) t.isLt)).2.1 := by
  rw [outsAt0_B m c t h]
  dsimp only
  unfold out0_B_6
  frame_out

theorem total6 (t : Fin cfg0.N) (h : t.val % 16 = 15) (k : Fin 32) (q : Fin 1024) :
    (outsAt0 m c t.val t.isLt).2.1 (ix2 k q) = (∑ r : Fin 8192, Z m c (ix2 r k) * gr m c r q : EReal) := by
  refine (Pipeline.eq_sum_fin_of_reset_step_of_flush (fun n h => ((outsAt0 m c n h).2.1 (ix2 k q) : EReal)) 16 0
    (fun t => ∑ p : Fin 512, Z m c (ix2 (row t p) k) * gr m c (row t p) q)
    (fun t h => by rw [first6 m c t h, step6_blocks, start6]) (fun t h => by rw [later6 m c t h, step6_blocks]) t h).trans ?_
  rw [zero_add]
  refine Fin.sum_mul_add_congr (S := 16) (n := 512) fun s k' hl => ?_
  have ht := tlt t
  have hr : ∀ a, row ⟨16 * (t.val / 16) + s.val, a⟩ k' = ⟨s.val * 512 + k'.val, hl⟩ := fun a => Fin.ext (by simp only [row]; omega)
  rw [hr]

theorem arr6 (k : Fin 32) (q : Fin 1024) : (dats m 0 c).arrAt 6 cfg0.N (ix2 k q) = (∑ r : Fin 8192, Z m c (ix2 r k) * gr m c r q : EReal) := by
  have e := emb6 lastPt k q
  have b := congrFun ((dats m 0 c).read_blk_arrAt_eq_flushed 6
    (fun t t' hf hf' hne => absurd (Fin.ext (by
      have h1 := (flush0_6 t).mp hf; have h2 := (flush0_6 t').mp hf'; have := tlt t; have := tlt t'; omega)) hne)
    cfg0.N lastPt lastPt.isLt ((flush0_6 _).mpr rfl)) (ix2 k q)
  have f : (dats m 0 c).flushed 6 lastPt = (outsAt0 m c lastPt.val lastPt.isLt).2.1 := after0_6 m c lastPt
  rw [f] at b
  exact ((congrArg ((dats m 0 c).arrAt 6 cfg0.N) e).symm.trans b).trans (total6 m c lastPt rfl k q)

/-! ## The bias's gradient -/

theorem step7_blocks (t : Fin cfg0.N) (a : Vec Ideal S1x1024 .f32) (q : Fin 1024) :
    k0_pay6 (iblk m c 0 t) (iblk m c 1 t) (iblk m c 2 t) (iblk m c 3 t) (iblk m c 4 t) a (ix2 0 q) = (a (ix2 0 q) + ∑ p : Fin 512, gr m c (row t p) q : EReal) := by
  refine (step7 _ _ _ _ _ _ _).trans (congrArg (a (ix2 0 q) + ·) (Finset.sum_congr rfl fun p _ => ?_))
  rw [bs_blk]

theorem first7 (t : Fin cfg0.N) (h : t.val % 16 = 0) : (outsAt0 m c t.val t.isLt).2.2
    = k0_pay6 (iblk m c 0 t) (iblk m c 1 t) (iblk m c 2 t) (iblk m c 3 t) (iblk m c 4 t) (k0_pay4 (F := Ideal)) := by
  rw [outsAt0_A m c t h]
  dsimp only
  unfold out0_A_7
  frame_out

theorem later7 (t : Fin cfg0.N) (h : ¬t.val % 16 = 0) : (outsAt0 m c t.val t.isLt).2.2
    = k0_pay6 (iblk m c 0 t) (iblk m c 1 t) (iblk m c 2 t) (iblk m c 3 t) (iblk m c 4 t) (outsAt0 m c (t.val - 1) (Nat.lt_of_le_of_lt (Nat.sub_le _ _) t.isLt)).2.2 := by
  rw [outsAt0_B m c t h]
  dsimp only
  unfold out0_B_7
  frame_out

theorem total7 (t : Fin cfg0.N) (h : t.val % 16 = 15) (q : Fin 1024) :
    (outsAt0 m c t.val t.isLt).2.2 (ix2 0 q) = (∑ r : Fin 8192, gr m c r q : EReal) := by
  refine (Pipeline.eq_sum_fin_of_reset_step_of_flush (fun n h => ((outsAt0 m c n h).2.2 (ix2 0 q) : EReal)) 16 0
    (fun t => ∑ p : Fin 512, gr m c (row t p) q)
    (fun t h => by rw [first7 m c t h, step7_blocks, start7]) (fun t h => by rw [later7 m c t h, step7_blocks]) t h).trans ?_
  rw [zero_add]
  refine Fin.sum_mul_add_congr (S := 16) (n := 512) fun s k' hl => ?_
  have ht := tlt t
  have hr : ∀ a, row ⟨16 * (t.val / 16) + s.val, a⟩ k' = ⟨s.val * 512 + k'.val, hl⟩ := fun a => Fin.ext (by simp only [row]; omega)
  rw [hr]

theorem arr7 (q : Fin 1024) : (dats m 0 c).arrAt 7 cfg0.N (ix2 0 q) = (∑ r : Fin 8192, gr m c r q : EReal) := by
  have e := emb7 lastPt q
  have b := congrFun ((dats m 0 c).read_blk_arrAt_eq_flushed 7
    (fun t t' hf hf' hne => absurd (Fin.ext (by
      have h1 := (flush0_7 t).mp hf; have h2 := (flush0_7 t').mp hf'; have := tlt t; have := tlt t'; omega)) hne)
    cfg0.N lastPt lastPt.isLt ((flush0_7 _).mpr rfl)) (ix2 0 q)
  have f : (dats m 0 c).flushed 7 lastPt = (outsAt0 m c lastPt.val lastPt.isLt).2.2 := after0_7 m c lastPt
  rw [f] at b
  exact ((congrArg ((dats m 0 c).arrAt 7 cfg0.N) e).symm.trans b).trans (total7 m c lastPt rfl q)

theorem algebraic : Cert.algebraic_Kernel21Ideal_Reference21Ideal := by
  intro m ρ m' ρ' _ hagree
  refine ⟨fun c => (dats m 0 c).arrAt 5 cfg0.N, fun c => (dats m 0 c).arrAt 6 cfg0.N, fun c => (dats m 0 c).arrAt 7 cfg0.N, run m ρ, ?_⟩
  refine (θ_run _ _ _).mono (fun _ h c => ?_) (Ref.run m' ρ')
  obtain ⟨e5, e6, e7, ha⟩ := h c
  obtain ⟨a0, a1, a2, a3, a4⟩ := hagree c
  rw [a0, a1, a2, a3, a4] at e5 e6 e7
  refine ⟨e5.trans (funext fun y => ?_), e6.trans (funext fun y => ?_), e7.trans (funext fun y => ?_), ha⟩
  · idx_vars y
    exact (Ref.dzA_at _ _ _ _ _ _ _).trans (arr5 m c _ _).symm
  · idx_vars y
    exact (Ref.dwA_at _ _ _ _ _ _ _).trans ((Finset.sum_congr rfl fun p _ => mul_comm _ _).trans (arr6 m c _ _).symm)
  · have hy : y = ix2 0 (y 1) := by
      funext a
      match a with
      | ⟨0, _⟩ => exact Subsingleton.elim (α := Fin 1) _ _
      | ⟨1, _⟩ => rfl
    rw [hy]
    exact (Ref.dbA_at _ _ _ _ _ _).trans (arr7 m c _).symm

end Cert.Gates

end
-- ==== Proof.HeadNorm.lean ====
/-
  The derivative of the norm of a row of half the width, by the row: the form the call computes it in, and the form differentiation gives it, are one number.
-/
module

public import Idealize.ShloMosaic.Lib.Pointwise

@[expose] public section

noncomputable section

namespace Cert.HeadNorm

open Idealize.ShloMosaic

variable (x t : Fin 1024 → EReal)

/-- The mean of the row's squares, with the small number added. -/
def var : EReal := Ideal.div (∑ k : Fin 1024, x k * x k) (Ideal.ofBits .f32 0x44800000#32) + Ideal.ofBits .f32 0x358637BD#32
/-- The inverse of its root. -/
def inv : EReal := Ideal.rsqrt (var x)
/-- The derivative as the call computes it. -/
def back (q : Fin 1024) : EReal :=
  inv x * (t q - x q * inv x * Ideal.div (∑ k : Fin 1024, t k * (x k * inv x)) (Ideal.ofBits .f32 0x44800000#32))
/-- Half the derivative through the mean of the squares, over the entry. -/
def half : EReal :=
  Ideal.div ((∑ k : Fin 1024, x k * t k) * (Ideal.ofBits .f32 0xBF000000#32 * Ideal.div (inv x) (var x))) (Ideal.ofBits .f32 0x44800000#32)
/-- The derivative as differentiation gives it. -/
def plain (q : Fin 1024) : EReal := t q * inv x + x q * half x t + half x t * x q

/-- The sum of a row's entries over head `l`, none for a lane past the heads. -/
def byHead (f : Fin 1024 → EReal) (l : Fin 128) : EReal :=
  if h : l.val < 8 then ∑ d : Fin 128, f ⟨l.val * 128 + d.val, by omega⟩ else 0

/-! The constants. -/

theorem c1024 : Ideal.ofBits .f32 0x44800000#32 = ((1024 : ℝ) : EReal) := by
  simp [Ideal.ofBits, Ideal.ieee, -EReal.coe_mul]; norm_num
theorem cHalf : Ideal.ofBits .f32 0xBF000000#32 = ((-(1 / 2) : ℝ) : EReal) := by
  simp [Ideal.ofBits, Ideal.ieee, -EReal.coe_mul]; norm_num
theorem cEps : ∃ e : ℝ, 0 < e ∧ Ideal.ofBits .f32 0x358637BD#32 = (e : EReal) := by
  refine ⟨_, ?_, by simp [Ideal.ofBits, Ideal.ieee, -EReal.coe_mul]; rfl⟩
  positivity

/-- A product with a number that is not negative goes under a sum. -/
theorem sum_mul {p : ℝ} (hp : 0 ≤ p) (f : Fin 1024 → EReal) : (∑ k, f k) * (p : EReal) = ∑ k, f k * (p : EReal) := by
  have h : ∀ s : Finset (Fin 1024), (∑ k ∈ s, f k) * (p : EReal) = ∑ k ∈ s, f k * (p : EReal) := by
    intro s
    induction s using Finset.induction_on with
    | empty => simp
    | insert a s ha ih =>
      rw [Finset.sum_insert ha, Finset.sum_insert ha, EReal.right_distrib_of_nonneg_of_ne_top (by exact_mod_cast hp) (EReal.coe_ne_top p), ih]
  exact h _

theorem square_nonneg (a : EReal) : 0 ≤ a * a := by
  rcases le_total 0 a with h | h
  · exact mul_nonneg h h
  · have := mul_nonneg (EReal.neg_nonneg.mpr h) (EReal.neg_nonneg.mpr h)
    rwa [neg_mul_neg] at this

/-- The mean with the small number is a positive number, or infinite. -/
theorem var_pos : 0 < var x := by
  obtain ⟨e, he, h⟩ := cEps
  unfold var
  rw [h, c1024, Ideal.div_coe (by norm_num)]
  have h1 : (0 : EReal) ≤ (∑ k : Fin 1024, x k * x k) * ((1 / 1024 : ℝ) : EReal) :=
    mul_nonneg (Finset.sum_nonneg fun k _ => square_nonneg _) (by exact_mod_cast (by norm_num : (0 : ℝ) ≤ 1 / 1024))
  calc (0 : EReal) < (e : EReal) := by exact_mod_cast he
    _ = 0 + (e : EReal) := (zero_add _).symm
    _ ≤ _ := add_le_add h1 le_rfl

/-- The inverse of the root is a number that is not negative, and its quotient by the mean is its cube. -/
theorem inv_real : ∃ r : ℝ, 0 ≤ r ∧ inv x = (r : EReal) ∧ Ideal.div (inv x) (var x) = ((r * (r * r) : ℝ) : EReal) := by
  have hv := var_pos x
  unfold inv
  generalize var x = v at hv
  induction v using EReal.rec with
  | bot => exact absurd hv (by simp)
  | top => exact ⟨0, le_rfl, by simp, by simp [Ideal.div]⟩
  | coe v =>
    have h0 : 0 < v := by exact_mod_cast hv
    have e : Ideal.rsqrt (v : EReal) = (((Real.sqrt v)⁻¹ : ℝ) : EReal) := by
      rw [Ideal.rsqrt_coe, if_neg (not_lt.mpr h0.le), if_neg h0.ne']
    refine ⟨(Real.sqrt v)⁻¹, inv_nonneg.mpr (Real.sqrt_nonneg v), e, ?_⟩
    rw [e, Ideal.div_coe h0.ne', ← EReal.coe_mul]
    congr 2
    rw [← mul_inv, Real.mul_self_sqrt h0.le, one_div]

theorem back_eq_plain (q : Fin 1024) : back x t q = plain x t q := by
  obtain ⟨r, hr, e, e'⟩ := inv_real x
  have er : (0 : EReal) ≤ (r : EReal) := by exact_mod_cast hr
  have hs : (∑ k : Fin 1024, t k * (x k * (r : EReal))) = (∑ k : Fin 1024, x k * t k) * (r : EReal) := by
    rw [sum_mul hr]
    exact Finset.sum_congr rfl fun k _ => by rw [← mul_assoc, mul_comm (t k)]
  unfold back plain half
  rw [e', e, c1024, cHalf, hs]
  simp only [Ideal.div_coe (by norm_num : (1024 : ℝ) ≠ 0)]
  generalize (∑ k : Fin 1024, x k * t k) = S
  generalize x q = a
  generalize t q = b
  have hp : (0 : EReal) ≤ ((1 / 2 * (r * (r * r)) * (1 / 1024) : ℝ) : EReal) := by
    exact_mod_cast (by positivity : (0 : ℝ) ≤ 1 / 2 * (r * (r * r)) * (1 / 1024))
  have ew : S * (((-(1 / 2) : ℝ) : EReal) * ((r * (r * r) : ℝ) : EReal)) * ((1 / 1024 : ℝ) : EReal)
      = -(S * ((1 / 2 * (r * (r * r)) * (1 / 1024) : ℝ) : EReal)) := by
    rw [← EReal.coe_mul, mul_assoc, ← EReal.coe_mul, ← mul_neg, ← EReal.coe_neg]
    congr 2
    ring
  have ek : (r : EReal) * (a * (r : EReal) * (S * (r : EReal) * ((1 / 1024 : ℝ) : EReal)))
      = a * S * (((1 / 2 * (r * (r * r)) * (1 / 1024) : ℝ) : EReal) + ((1 / 2 * (r * (r * r)) * (1 / 1024) : ℝ) : EReal)) := by
    rw [← EReal.coe_add]
    have : (1 / 2 * (r * (r * r)) * (1 / 1024) + 1 / 2 * (r * (r * r)) * (1 / 1024) : ℝ) = r * (r * (r * (1 / 1024))) := by ring
    rw [this]
    simp only [EReal.coe_mul]
    ac_rfl
  rw [ew, sub_eq_add_neg, EReal.left_distrib_of_nonneg_of_ne_top er (EReal.coe_ne_top r), mul_neg, ek]
  generalize ((1 / 2 * (r * (r * r)) * (1 / 1024) : ℝ) : EReal) = P at hp
  have ea : a * -(S * P) = -(a * S) * P := by rw [mul_neg, ← mul_assoc, neg_mul]
  rw [mul_comm (-(S * P)) a, ea, add_assoc, mul_comm b, ← neg_mul, EReal.left_distrib_of_nonneg hp hp]

end Cert.HeadNorm

end
-- ==== Proof.HeadNormReference.lean ====
/-
  The reference of the gradient of the heads' norm: its operations one by one, its run, and its results at an index.
-/
module

public import proofs.«01_k».proof.Defs
public import proofs.«01_k».proof.Proof.Gen.Reference22Ideal
public import proofs.«01_k».proof.Proof.HeadNorm
public import Idealize.ShloMosaic.Lib.StableHlo.Run
public import Idealize.ShloMosaic.Lib.Pointwise
public import Idealize.ShloMosaic.Lib.Pipeline.ValueKit
public import Idealize.ShloMosaic.Lib.Quiescent

@[expose] public section

set_option maxRecDepth 16384

noncomputable section

namespace Cert.HeadNormBack.Ref

open Cert.Reference22Ideal Cert.Reference22Ideal.Gen Idealize.ShloMosaic Idealize.ShloMosaic.TcCoe Idealize.SL.Sem Idealize.ShloMosaic.StableHlo

/-! ## The arrays -/

variable (x : FVec Ideal S8192x1024 .f32) (g : FVec Ideal S1x1024 .f32) (dn : FVec Ideal S8192x2048 .bf16)

/-- The mean of a row's squares, with the small number added. -/
def varA : FVec Ideal S8192x1 .f32 :=
  addf (Host.divf (broadcastInDim S8192x1 ![0] bcast_S8192_S8192x1_0
      (Host.reduceAdd (mulf x x) (constant S_ .f32 0x00000000#32) reducesTo_S8192x1024_S8192_d1 h_S_))
    (broadcastInDim S8192x1 ![] bcast_S_S8192x1 (constant S_ .f32 0x44800000#32)))
    (broadcastInDim S8192x1 ![] bcast_S_S8192x1 (constant S_ .f32 0x358637BD#32))
/-- The inverse of its root. -/
def invA : FVec Ideal S8192x1 .f32 := Host.rsqrt (varA x)
/-- The gradient by the scaled rows: the first half of the array's columns. -/
def dnA : FVec Ideal S8192x1024 .f32 :=
  extf .f32 (extractStridedSlice S8192x1024 ![0, 0] dn slices_S8192x2048_S8192x1024_0_0) bitsLt_bf16_f32
/-- The gradient by the normed rows. -/
def tA : FVec Ideal S8192x1024 .f32 :=
  mulf (dnA dn) (broadcastInDim S8192x1024 ![0, 1] bcast_S1x1024_S8192x1024_0_1
    (broadcastInDim S1x1024 ![1] bcast_S1024_S1x1024_1 (shapeCast S1024 g shapeCasts_S1x1024_S1024)))
/-- The derivative through the mean of the squares, a half of it. -/
def wA : FVec Ideal S8192x1024 .f32 :=
  broadcastInDim S8192x1024 ![0] bcast_S8192_S8192x1024_0 (Host.reduceAdd
    (Host.divf (mulf (shapeCast S8192x1
          (Host.reduceAdd (mulf x (tA g dn)) (constant S_ .f32 0x00000000#32) reducesTo_S8192x1024_S8192_d1 h_S_) shapeCasts_S8192_S8192x1)
        (mulf (broadcastInDim S8192x1 ![] bcast_S_S8192x1 (constant S_ .f32 0xBF000000#32)) (Host.divf (invA x) (varA x))))
      (broadcastInDim S8192x1 ![] bcast_S_S8192x1 (constant S_ .f32 0x44800000#32)))
    (constant S_ .f32 0x00000000#32) reducesTo_S8192x1_S8192_d1 h_S_)
def dxA : FVec Ideal S8192x1024 .f32 :=
  addf (addf (mulf (tA g dn) (broadcastInDim S8192x1024 ![0, 1] bcast_S8192x1_S8192x1024_0_1 (invA x))) (mulf x (wA x g dn)))
    (mulf (wA x g dn) x)
/-- The sums over the heads' columns, one lane a head. -/
def headA : FVec Ideal S8192x128 .f32 :=
  concatenate S8192x128 1 [⟨S8192x8, Host.reduceAdd (shapeCast S8192x8x128 (mulf (dxA x g dn) x) shapeCasts_S8192x1024_S8192x8x128)
      (constant S_ .f32 0x00000000#32) reducesTo_S8192x8x128_S8192x8_d2 h_S_⟩,
    ⟨S8192x120, broadcastInDim S8192x120 ![] bcast_S_S8192x120 (constant S_ .f32 0x00000000#32)⟩] concatenates_S8192x8_S8192x120_S8192x128_d1
def dgA : FVec Ideal S1x1024 .f32 :=
  broadcastInDim S1x1024 ![1] bcast_S1024_S1x1024_1 (Host.reduceAdd (shapeCast S1x1024
      (Host.reduceAdd (mulf (mulf x (broadcastInDim S8192x1024 ![0, 1] bcast_S8192x1_S8192x1024_0_1 (invA x))) (dnA dn))
        (constant S_ .f32 0x00000000#32) reducesTo_S8192x1024_S1024_d0 h_S_) shapeCasts_S1024_S1x1024)
    (constant S_ .f32 0x00000000#32) reducesTo_S1x1024_S1024_d0 h_S_)

/-! ## The run -/

section Run
variable {F : FTy → Type} [FloatOps F]

abbrev ops : List (HloOp τ sig (Elt F)) :=
  [ reshape main_arg1 main_v0 (rfl : (.f32 : EltTy) = .f32) shapeCasts_S1x1024_S1024,
    binary main_arg0 main_arg0 main_v1 (mulf : (⟨S8192x1024, .f32⟩ : BufTy).Contents (Elt F) → (⟨S8192x1024, .f32⟩ : BufTy).Contents (Elt F) → (⟨S8192x1024, .f32⟩ : BufTy).Contents (Elt F)),
    nullary main_cst (constant S_ .f32 0x00000000#32),
    binary main_v1 main_cst main_v2 ((fun x v => Host.reduceAdd x v reducesTo_S8192x1024_S8192_d1 h_S_) : (⟨S8192x1024, .f32⟩ : BufTy).Contents (Elt F) → (⟨S_, .f32⟩ : BufTy).Contents (Elt F) → (⟨S8192, .f32⟩ : BufTy).Contents (Elt F)),
    unary main_v2 main_v3 (broadcastInDim S8192x1 ![0] bcast_S8192_S8192x1_0 : (⟨S8192, .f32⟩ : BufTy).Contents (Elt F) → (⟨S8192x1, .f32⟩ : BufTy).Contents (Elt F)),
    nullary main_cst_0 (constant S_ .f32 0x44800000#32),
    unary main_cst_0 main_v4 (broadcastInDim S8192x1 ![] bcast_S_S8192x1 : (⟨S_, .f32⟩ : BufTy).Contents (Elt F) → (⟨S8192x1, .f32⟩ : BufTy).Contents (Elt F)),
    binary main_v3 main_v4 main_v5 (Host.divf : (⟨S8192x1, .f32⟩ : BufTy).Contents (Elt F) → (⟨S8192x1, .f32⟩ : BufTy).Contents (Elt F) → (⟨S8192x1, .f32⟩ : BufTy).Contents (Elt F)),
    nullary main_cst_1 (constant S_ .f32 0x358637BD#32),
    unary main_cst_1 main_v6 (broadcastInDim S8192x1 ![] bcast_S_S8192x1 : (⟨S_, .f32⟩ : BufTy).Contents (Elt F) → (⟨S8192x1, .f32⟩ : BufTy).Contents (Elt F)),
    binary main_v5 main_v6 main_v7 (addf : (⟨S8192x1, .f32⟩ : BufTy).Contents (Elt F) → (⟨S8192x1, .f32⟩ : BufTy).Contents (Elt F) → (⟨S8192x1, .f32⟩ : BufTy).Contents (Elt F)),
    unary main_v7 main_v8 (Host.rsqrt : (⟨S8192x1, .f32⟩ : BufTy).Contents (Elt F) → (⟨S8192x1, .f32⟩ : BufTy).Contents (Elt F)),
    binary main_v8 main_v7 main_v9 (Host.divf : (⟨S8192x1, .f32⟩ : BufTy).Contents (Elt F) → (⟨S8192x1, .f32⟩ : BufTy).Contents (Elt F) → (⟨S8192x1, .f32⟩ : BufTy).Contents (Elt F)),
    nullary main_cst_2 (constant S_ .f32 0xBF000000#32),
    unary main_cst_2 main_v10 (broadcastInDim S8192x1 ![] bcast_S_S8192x1 : (⟨S_, .f32⟩ : BufTy).Contents (Elt F) → (⟨S8192x1, .f32⟩ : BufTy).Contents (Elt F)),
    binary main_v10 main_v9 main_v11 (mulf : (⟨S8192x1, .f32⟩ : BufTy).Contents (Elt F) → (⟨S8192x1, .f32⟩ : BufTy).Contents (Elt F) → (⟨S8192x1, .f32⟩ : BufTy).Contents (Elt F)),
    unary main_v8 main_v12 (broadcastInDim S8192x1024 ![0, 1] bcast_S8192x1_S8192x1024_0_1 : (⟨S8192x1, .f32⟩ : BufTy).Contents (Elt F) → (⟨S8192x1024, .f32⟩ : BufTy).Contents (Elt F)),
    binary main_arg0 main_v12 main_v13 (mulf : (⟨S8192x1024, .f32⟩ : BufTy).Contents (Elt F) → (⟨S8192x1024, .f32⟩ : BufTy).Contents (Elt F) → (⟨S8192x1024, .f32⟩ : BufTy).Contents (Elt F)),
    unary main_v0 main_v14 (broadcastInDim S1x1024 ![1] bcast_S1024_S1x1024_1 : (⟨S1024, .f32⟩ : BufTy).Contents (Elt F) → (⟨S1x1024, .f32⟩ : BufTy).Contents (Elt F)),
    unary main_v14 main_v15 (broadcastInDim S8192x1024 ![0, 1] bcast_S1x1024_S8192x1024_0_1 : (⟨S1x1024, .f32⟩ : BufTy).Contents (Elt F) → (⟨S8192x1024, .f32⟩ : BufTy).Contents (Elt F)),
    binary main_v13 main_v15 main_v16 (mulf : (⟨S8192x1024, .f32⟩ : BufTy).Contents (Elt F) → (⟨S8192x1024, .f32⟩ : BufTy).Contents (Elt F) → (⟨S8192x1024, .f32⟩ : BufTy).Contents (Elt F)),
    unary main_arg2 main_v17 ((extractStridedSlice S8192x1024 ![0, 0] · slices_S8192x2048_S8192x1024_0_0) : (⟨S8192x2048, .bf16⟩ : BufTy).Contents (Elt F) → (⟨S8192x1024, .bf16⟩ : BufTy).Contents (Elt F)),
    unary main_v17 main_v18 ((extf .f32 · bitsLt_bf16_f32) : (⟨S8192x1024, .bf16⟩ : BufTy).Contents (Elt F) → (⟨S8192x1024, .f32⟩ : BufTy).Contents (Elt F)),
    binary main_v13 main_v18 main_v19 (mulf : (⟨S8192x1024, .f32⟩ : BufTy).Contents (Elt F) → (⟨S8192x1024, .f32⟩ : BufTy).Contents (Elt F) → (⟨S8192x1024, .f32⟩ : BufTy).Contents (Elt F)),
    nullary main_cst_3 (constant S_ .f32 0x00000000#32),
    binary main_v19 main_cst_3 main_v20 ((fun x v => Host.reduceAdd x v reducesTo_S8192x1024_S1024_d0 h_S_) : (⟨S8192x1024, .f32⟩ : BufTy).Contents (Elt F) → (⟨S_, .f32⟩ : BufTy).Contents (Elt F) → (⟨S1024, .f32⟩ : BufTy).Contents (Elt F)),
    reshape main_v20 main_v21 (rfl : (.f32 : EltTy) = .f32) shapeCasts_S1024_S1x1024,
    unary main_v14 main_v22 (broadcastInDim S8192x1024 ![0, 1] bcast_S1x1024_S8192x1024_0_1 : (⟨S1x1024, .f32⟩ : BufTy).Contents (Elt F) → (⟨S8192x1024, .f32⟩ : BufTy).Contents (Elt F)),
    binary main_v18 main_v22 main_v23 (mulf : (⟨S8192x1024, .f32⟩ : BufTy).Contents (Elt F) → (⟨S8192x1024, .f32⟩ : BufTy).Contents (Elt F) → (⟨S8192x1024, .f32⟩ : BufTy).Contents (Elt F)),
    nullary main_cst_4 (constant S_ .f32 0x00000000#32),
    binary main_v21 main_cst_4 main_v24 ((fun x v => Host.reduceAdd x v reducesTo_S1x1024_S1024_d0 h_S_) : (⟨S1x1024, .f32⟩ : BufTy).Contents (Elt F) → (⟨S_, .f32⟩ : BufTy).Contents (Elt F) → (⟨S1024, .f32⟩ : BufTy).Contents (Elt F)),
    binary main_arg0 main_v23 main_v25 (mulf : (⟨S8192x1024, .f32⟩ : BufTy).Contents (Elt F) → (⟨S8192x1024, .f32⟩ : BufTy).Contents (Elt F) → (⟨S8192x1024, .f32⟩ : BufTy).Contents (Elt F)),
    nullary main_cst_5 (constant S_ .f32 0x00000000#32),
    binary main_v25 main_cst_5 main_v26 ((fun x v => Host.reduceAdd x v reducesTo_S8192x1024_S8192_d1 h_S_) : (⟨S8192x1024, .f32⟩ : BufTy).Contents (Elt F) → (⟨S_, .f32⟩ : BufTy).Contents (Elt F) → (⟨S8192, .f32⟩ : BufTy).Contents (Elt F)),
    reshape main_v26 main_v27 (rfl : (.f32 : EltTy) = .f32) shapeCasts_S8192_S8192x1,
    unary main_v8 main_v28 (broadcastInDim S8192x1024 ![0, 1] bcast_S8192x1_S8192x1024_0_1 : (⟨S8192x1, .f32⟩ : BufTy).Contents (Elt F) → (⟨S8192x1024, .f32⟩ : BufTy).Contents (Elt F)),
    binary main_v23 main_v28 main_v29 (mulf : (⟨S8192x1024, .f32⟩ : BufTy).Contents (Elt F) → (⟨S8192x1024, .f32⟩ : BufTy).Contents (Elt F) → (⟨S8192x1024, .f32⟩ : BufTy).Contents (Elt F)),
    binary main_v27 main_v11 main_v30 (mulf : (⟨S8192x1, .f32⟩ : BufTy).Contents (Elt F) → (⟨S8192x1, .f32⟩ : BufTy).Contents (Elt F) → (⟨S8192x1, .f32⟩ : BufTy).Contents (Elt F)),
    nullary main_cst_6 (constant S_ .f32 0x44800000#32),
    unary main_cst_6 main_v31 (broadcastInDim S8192x1 ![] bcast_S_S8192x1 : (⟨S_, .f32⟩ : BufTy).Contents (Elt F) → (⟨S8192x1, .f32⟩ : BufTy).Contents (Elt F)),
    binary main_v30 main_v31 main_v32 (Host.divf : (⟨S8192x1, .f32⟩ : BufTy).Contents (Elt F) → (⟨S8192x1, .f32⟩ : BufTy).Contents (Elt F) → (⟨S8192x1, .f32⟩ : BufTy).Contents (Elt F)),
    nullary main_cst_7 (constant S_ .f32 0x00000000#32),
    binary main_v32 main_cst_7 main_v33 ((fun x v => Host.reduceAdd x v reducesTo_S8192x1_S8192_d1 h_S_) : (⟨S8192x1, .f32⟩ : BufTy).Contents (Elt F) → (⟨S_, .f32⟩ : BufTy).Contents (Elt F) → (⟨S8192, .f32⟩ : BufTy).Contents (Elt F)),
    unary main_v33 main_v34 (broadcastInDim S8192x1024 ![0] bcast_S8192_S8192x1024_0 : (⟨S8192, .f32⟩ : BufTy).Contents (Elt F) → (⟨S8192x1024, .f32⟩ : BufTy).Contents (Elt F)),
    binary main_arg0 main_v34 main_v35 (mulf : (⟨S8192x1024, .f32⟩ : BufTy).Contents (Elt F) → (⟨S8192x1024, .f32⟩ : BufTy).Contents (Elt F) → (⟨S8192x1024, .f32⟩ : BufTy).Contents (Elt F)),
    binary main_v29 main_v35 main_v36 (addf : (⟨S8192x1024, .f32⟩ : BufTy).Contents (Elt F) → (⟨S8192x1024, .f32⟩ : BufTy).Contents (Elt F) → (⟨S8192x1024, .f32⟩ : BufTy).Contents (Elt F)),
    binary main_v34 main_arg0 main_v37 (mulf : (⟨S8192x1024, .f32⟩ : BufTy).Contents (Elt F) → (⟨S8192x1024, .f32⟩ : BufTy).Contents (Elt F) → (⟨S8192x1024, .f32⟩ : BufTy).Contents (Elt F)),
    binary main_v36 main_v37 main_v38 (addf : (⟨S8192x1024, .f32⟩ : BufTy).Contents (Elt F) → (⟨S8192x1024, .f32⟩ : BufTy).Contents (Elt F) → (⟨S8192x1024, .f32⟩ : BufTy).Contents (Elt F)),
    unary main_v24 main_v39 (broadcastInDim S1x1024 ![1] bcast_S1024_S1x1024_1 : (⟨S1024, .f32⟩ : BufTy).Contents (Elt F) → (⟨S1x1024, .f32⟩ : BufTy).Contents (Elt F)),
    binary main_v38 main_arg0 main_v40 (mulf : (⟨S8192x1024, .f32⟩ : BufTy).Contents (Elt F) → (⟨S8192x1024, .f32⟩ : BufTy).Contents (Elt F) → (⟨S8192x1024, .f32⟩ : BufTy).Contents (Elt F)),
    reshape main_v40 main_v41 (rfl : (.f32 : EltTy) = .f32) shapeCasts_S8192x1024_S8192x8x128,
    nullary main_cst_8 (constant S_ .f32 0x00000000#32),
    binary main_v41 main_cst_8 main_v42 ((fun x v => Host.reduceAdd x v reducesTo_S8192x8x128_S8192x8_d2 h_S_) : (⟨S8192x8x128, .f32⟩ : BufTy).Contents (Elt F) → (⟨S_, .f32⟩ : BufTy).Contents (Elt F) → (⟨S8192x8, .f32⟩ : BufTy).Contents (Elt F)),
    unary main_v38 main_v43 ((truncf .bf16 · bitsLt_bf16_f32) : (⟨S8192x1024, .f32⟩ : BufTy).Contents (Elt F) → (⟨S8192x1024, .bf16⟩ : BufTy).Contents (Elt F)),
    nullary main_cst_9 (constant S_ .f32 0x00000000#32),
    unary main_cst_9 main_v44 (broadcastInDim S8192x120 ![] bcast_S_S8192x120 : (⟨S_, .f32⟩ : BufTy).Contents (Elt F) → (⟨S8192x120, .f32⟩ : BufTy).Contents (Elt F)),
    binary main_v42 main_v44 main_v45 ((fun a b => concatenate S8192x128 1 [⟨S8192x8, a⟩, ⟨S8192x120, b⟩] concatenates_S8192x8_S8192x120_S8192x128_d1) : (⟨S8192x8, .f32⟩ : BufTy).Contents (Elt F) → (⟨S8192x120, .f32⟩ : BufTy).Contents (Elt F) → (⟨S8192x128, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., binary_bufs_sub .., reshape_bufs_sub .., unary_bufs_sub .., binary_bufs_sub .., nullary_bufs_sub .., binary_bufs_sub .., binary_bufs_sub .., nullary_bufs_sub .., binary_bufs_sub .., reshape_bufs_sub .., unary_bufs_sub .., binary_bufs_sub .., binary_bufs_sub .., nullary_bufs_sub .., unary_bufs_sub .., binary_bufs_sub .., nullary_bufs_sub .., binary_bufs_sub .., unary_bufs_sub .., binary_bufs_sub .., binary_bufs_sub .., binary_bufs_sub .., binary_bufs_sub .., unary_bufs_sub .., binary_bufs_sub .., reshape_bufs_sub .., nullary_bufs_sub .., binary_bufs_sub .., unary_bufs_sub .., nullary_bufs_sub .., unary_bufs_sub .., binary_bufs_sub ..⟩
end Run

set_option maxHeartbeats 4000000 in
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v43) = truncf .bf16 (dxA (m ((c.tc : Thread nD τ).loc main_arg0)) (m ((c.tc : Thread nD τ).loc main_arg1)) (m ((c.tc : Thread nD τ).loc main_arg2))) bitsLt_bf16_f32
      ∧ r.2.mem ((c.tc : Thread nD τ).loc main_v45) = headA (m ((c.tc : Thread nD τ).loc main_arg0)) (m ((c.tc : Thread nD τ).loc main_arg1)) (m ((c.tc : Thread nD τ).loc main_arg2))
      ∧ r.2.mem ((c.tc : Thread nD τ).loc main_v39) = dgA (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v43).trans (by after_results; rfl),
      (h c main_v45).trans (by after_results; rfl),
      (h c main_v39).trans (by after_results; rfl),
      (h c main_arg0).trans (by after_results),
      (h c main_arg1).trans (by after_results),
      (h c main_arg2).trans (by after_results)⟩)
    (run_seq scopedRefs_eq scopedSems_eq defs main (fun _ => ops) main_eq (fun _ => ops_sub) m ρ)

theorem quiescent : Cert.quiescent_Reference22Ideal := fun m ρ _ =>
  (θ_run Cert.Reference22Ideal.defs _ _).mono (fun r h => ⟨fun c => (h c).2.2.2,
      Idealize.ShloMosaic.sem_eq_zero_of_no_sems (by decide) r.2⟩)
    (run m ρ)

/-! ## At an index -/

/-- Row `p` of the rows, and of the gradient by the normed rows. -/
abbrev xs (p : Fin 8192) (k : Fin 1024) : EReal := x (ix2 p k)
/-- A column of the array the gradient is read from. -/
abbrev col (k : Fin 1024) : Fin 2048 := ⟨k.val, by omega⟩
abbrev ts (p : Fin 8192) (k : Fin 1024) : EReal := dn (ix2 p (col k)) * g (ix2 0 k)

theorem varA_at (p : Fin 8192) : varA x (ix2 p 0) = HeadNorm.var (xs x p) := by
  unfold varA HeadNorm.var
  pointwise
theorem invA_at (p : Fin 8192) : invA x (ix2 p 0) = HeadNorm.inv (xs x p) := by
  unfold invA HeadNorm.inv
  rw [← varA_at]
  rfl
theorem dnA_at (p : Fin 8192) (q : Fin 1024) : dnA dn (ix2 p q) = dn (ix2 p (col q)) := by
  unfold dnA
  pointwise
  try rfl
theorem tA_at (p : Fin 8192) (q : Fin 1024) : tA g dn (ix2 p q) = ts g dn p q := by
  unfold tA
  pointwise
  simp only [dnA_at]
theorem wA_at (p : Fin 8192) (q : Fin 1024) : wA x g dn (ix2 p q) = HeadNorm.half (xs x p) (ts g dn p) := by
  unfold wA HeadNorm.half
  pointwise
  refine (Fin.sum_univ_one _).trans ?_
  simp only [varA_at, invA_at, tA_at]
theorem dxA_at (p : Fin 8192) (q : Fin 1024) : dxA x g dn (ix2 p q) = HeadNorm.plain (xs x p) (ts g dn p) q := by
  unfold dxA HeadNorm.plain
  pointwise
  simp only [wA_at, invA_at, tA_at]
theorem dxB_at (p : Fin 8192) (q : Fin 1024) :
    truncf .bf16 (dxA x g dn) bitsLt_bf16_f32 (ix2 p q) = HeadNorm.plain (xs x p) (ts g dn p) q := by
  rw [← dxA_at]
  generalize dxA x g dn = A
  pointwise
theorem headA_at (p : Fin 8192) (l : Fin 128) :
    headA x g dn (ix2 p l) = HeadNorm.byHead (fun q => HeadNorm.plain (xs x p) (ts g dn p) q * x (ix2 p q)) l := by
  unfold headA HeadNorm.byHead
  pointwise
  simp only [dxA_at]
theorem dgA_at (q : Fin 1024) : dgA x dn (ix2 0 q) = (∑ p : Fin 8192, x (ix2 p q) * HeadNorm.inv (xs x p) * dn (ix2 p (col q)) : EReal) := by
  unfold dgA
  pointwise
  refine (Fin.sum_univ_one _).trans ?_
  simp only [invA_at, dnA_at]

end Cert.HeadNormBack.Ref

end
-- ==== Proof.HeadNormBack.lean ====
/-
  The gradient of the heads' norm: the call takes thirty-two blocks of rows; each makes its rows' gradient and the sums over each head's
  columns of its products with the rows, and the gradient of the gains is accumulated over all of them.
-/
module

public import proofs.«01_k».proof.Defs
public import proofs.«01_k».proof.Proof.Gen.Kernel22Ideal.Frame
public import proofs.«01_k».proof.Proof.HeadNormReference
public import Idealize.ShloMosaic.Lib.Pipeline.ValueKit
public import Idealize.ShloMosaic.Lib.Pipeline.ReadBack
public import Idealize.ShloMosaic.Lib.Pointwise

@[expose] public section

set_option maxRecDepth 16384

noncomputable section

namespace Cert.HeadNormBack

open Cert.Kernel22Ideal Cert.Kernel22Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

abbrev X : (⟨2, ![8192, 1024]⟩ : Shape).Idx → EReal := m ((c : Thread nD τ).loc main_arg0)
abbrev G : (⟨2, ![1, 1024]⟩ : Shape).Idx → EReal := m ((c : Thread nD τ).loc main_arg1)
abbrev D : (⟨2, ![8192, 2048]⟩ : Shape).Idx → EReal := m ((c : Thread nD τ).loc main_arg2)
/-- A column of the array the gradient is read from. -/
abbrev col (k : Fin 1024) : Fin 2048 := ⟨k.val, by omega⟩

theorem run : θ_run defs (onTc (τ := τ) (main (F := Ideal))) ⟨m, fun _ => 0, ρ⟩ fun r => ∀ c : Dev nD,
      r.2.mem ((c : Thread nD τ).loc main_v0_0) = (dats m 0 c).arrAt 3 cfg0.N
      ∧ r.2.mem ((c : Thread nD τ).loc main_v0_1) = (dats m 0 c).arrAt 4 cfg0.N
      ∧ r.2.mem ((c : Thread nD τ).loc main_v0_2) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h.1 c).1 3, (h.1 c).1 4, (h.1 c).1 5, h.2 c⟩)
    (θ_run_and (run_main m ρ) (unchanged m ρ))

/-! ## The blocks -/

theorem tlt (t : Fin cfg0.N) : t.val < 32 := lt_of_lt_of_eq t.isLt (show cfg0.N = 32 from N_0)
theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem inj3 : ∀ t t' : Fin cfg0.N, win0_3.index t = win0_3.index t' → t = t' := by
  intro t t' e
  have e0 := congrFun e 0
  rw [(idx3 t).1, (idx3 t').1] at e0
  exact Fin.ext e0
theorem inj4 : ∀ t t' : Fin cfg0.N, win0_4.index t = win0_4.index t' → t = t' := by
  intro t t' e
  have e0 := congrFun e 0
  rw [(idx4 t).1, (idx4 t').1] at e0
  exact Fin.ext e0

/-- Row `p` of point `t`'s blocks, in the whole arrays. -/
def row (t : Fin cfg0.N) (p : Fin 256) : Fin 8192 := ⟨t.val * 256 + p.val, by have := tlt t; omega⟩

theorem in0 (t : Fin cfg0.N) (p : Fin 256) (q : Fin 1024) : iblk m c 0 t (ix2 p q) = X m c (ix2 (row t p) q) := by
  have := tlt t
  blk_ext [iblk, V, idx0 t, X, row]
theorem in1 (t : Fin cfg0.N) (q : Fin 1024) : iblk m c 1 t (ix2 0 q) = G m c (ix2 0 q) := by
  have := tlt t
  blk_ext [iblk, V, idx1 t, G]
theorem in2 (t : Fin cfg0.N) (p : Fin 256) (q : Fin 1024) : iblk m c 2 t (ix2 p q) = D m c (ix2 (row t p) (col q)) := by
  have := tlt t
  blk_ext [iblk, V, idx2 t, D, row]
/-! ## The body's arithmetic -/

section Body
variable (x : Vec Ideal S256x1024 .f32) (d : Vec Ideal S256x1024 .bf16) (g : Vec Ideal S1x1024 .f32)

abbrev bx (p : Fin 256) (k : Fin 1024) : EReal := x (ix2 p k)
abbrev bt (p : Fin 256) (k : Fin 1024) : EReal := d (ix2 p k) * g (ix2 0 k)

theorem inv_at (p : Fin 256) : k0_pay3 x (ix2 p 0) = HeadNorm.inv (bx x p) := by
  unfold k0_pay3 HeadNorm.inv HeadNorm.var
  pointwise
theorem hat_at (p : Fin 256) (q : Fin 1024) : k0_pay4 x (ix2 p q) = (x (ix2 p q) * HeadNorm.inv (bx x p) : EReal) := by
  unfold k0_pay4
  pointwise
  simp only [inv_at]
theorem dn_at (p : Fin 256) (q : Fin 1024) : k0_pay5 d (ix2 p q) = d (ix2 p q) := by
  unfold k0_pay5
  pointwise
theorem start (y : S1x1024.Idx) : (k0_pay2 (F := Ideal)) y = (0 : EReal) := by
  idx_vars y
  unfold k0_pay2
  pointwise
theorem step (a : Vec Ideal S1x1024 .f32) (q : Fin 1024) :
    k0_pay6 x d a (ix2 0 q) = (a (ix2 0 q) + ∑ p : Fin 256, d (ix2 p q) * (x (ix2 p q) * HeadNorm.inv (bx x p)) : EReal) := by
  unfold k0_pay6
  pointwise
  simp only [hat_at, dn_at]
theorem dx_at (p : Fin 256) (q : Fin 1024) : k0_pay7 x d g (ix2 p q) = HeadNorm.back (bx x p) (bt d g p) q := by
  unfold k0_pay7 HeadNorm.back
  pointwise
  simp only [hat_at, dn_at, inv_at]
theorem round_at (p : Fin 256) (q : Fin 1024) : k0_pay8 x d g (ix2 p q) = HeadNorm.back (bx x p) (bt d g p) q := by
  rw [← dx_at]
  unfold k0_pay8
  pointwise

/-- The sums over the heads, from the rows and their gradient. -/
def tile (v : FVec Ideal S256x1024 .f32) : FVec Ideal S256x128 .f32 :=
  k0_pay1 (k0_pay9 x v) (iota .tc S256x128 32 [1] iota_S256x128_d1_w32) (k0_pay10 x v) k0_pay11 (k0_pay12 x v)
theorem prod_at (v : FVec Ideal S256x1024 .f32) (p : Fin 256) (q : Fin 1024) : k0_pay9 x v (ix2 p q) = (v (ix2 p q) * x (ix2 p q) : EReal) := by
  unfold k0_pay9
  pointwise
/-- A lane's choice by its number. -/
theorem sel (l : Fin 128) (n : Fin 8) (a b : EReal) :
    Scalar.select (IntOp.cmpi .eq (BitVec.ofNat 32 l.val) (BitVec.ofNat 32 n.val)) a b = if l.val = n.val then a else b := by
  have h : ∀ (l : Fin 128) (n : Fin 8), IntOp.cmpi .eq (BitVec.ofNat 32 l.val) (BitVec.ofNat 32 n.val) = if l.val = n.val then 1#1 else 0#1 := by
    decide +kernel
  rw [h]
  split_ifs <;> rfl
theorem part (f : Fin 1024 → EReal) (l : Fin 128) (n : ℕ) (hn : n < 8) (h : l.val = n) (e : Fin 128 → Fin 1024)
    (he : ∀ d, (e d).val = n * 128 + d.val) : (∑ d : Fin 128, f (e d)) = HeadNorm.byHead f l := by
  subst h
  unfold HeadNorm.byHead
  rw [dif_pos hn]
  exact Finset.sum_congr rfl fun d _ => congrArg f (Fin.ext (he d))
theorem tile_at (v : FVec Ideal S256x1024 .f32) (p : Fin 256) (l : Fin 128) :
    tile x v (ix2 p l) = HeadNorm.byHead (fun q => v (ix2 p q) * x (ix2 p q)) l := by
  have s7 : ∀ a b : EReal, Scalar.select (IntOp.cmpi .eq (BitVec.ofNat 32 l.val) 7#32) a b = if l.val = 7 then a else b := sel l 7
  have s6 : ∀ a b : EReal, Scalar.select (IntOp.cmpi .eq (BitVec.ofNat 32 l.val) 6#32) a b = if l.val = 6 then a else b := sel l 6
  have s5 : ∀ a b : EReal, Scalar.select (IntOp.cmpi .eq (BitVec.ofNat 32 l.val) 5#32) a b = if l.val = 5 then a else b := sel l 5
  have s4 : ∀ a b : EReal, Scalar.select (IntOp.cmpi .eq (BitVec.ofNat 32 l.val) 4#32) a b = if l.val = 4 then a else b := sel l 4
  have s3 : ∀ a b : EReal, Scalar.select (IntOp.cmpi .eq (BitVec.ofNat 32 l.val) 3#32) a b = if l.val = 3 then a else b := sel l 3
  have s2 : ∀ a b : EReal, Scalar.select (IntOp.cmpi .eq (BitVec.ofNat 32 l.val) 2#32) a b = if l.val = 2 then a else b := sel l 2
  have s1 : ∀ a b : EReal, Scalar.select (IntOp.cmpi .eq (BitVec.ofNat 32 l.val) 1#32) a b = if l.val = 1 then a else b := sel l 1
  have s0 : ∀ a b : EReal, Scalar.select (IntOp.cmpi .eq (BitVec.ofNat 32 l.val) 0#32) a b = if l.val = 0 then a else b := sel l 0
  unfold tile k0_pay1 k0_pay10 k0_pay11 k0_pay12
  pointwise
  simp only [prod_at]
  rw [s7, s6, s5, s4, s3, s2, s1, s0]
  split_ifs with h7 h6 h5 h4 h3 h2 h1 h0
  · exact part (fun q => v (ix2 p q) * x (ix2 p q)) l 7 (by omega) h7 (fun d => ⟨896 + d.val, by omega⟩) fun d => rfl
  · exact part (fun q => v (ix2 p q) * x (ix2 p q)) l 6 (by omega) h6 (fun d => ⟨768 + d.val, by omega⟩) fun d => rfl
  · exact part (fun q => v (ix2 p q) * x (ix2 p q)) l 5 (by omega) h5 (fun d => ⟨640 + d.val, by omega⟩) fun d => rfl
  · exact part (fun q => v (ix2 p q) * x (ix2 p q)) l 4 (by omega) h4 (fun d => ⟨512 + d.val, by omega⟩) fun d => rfl
  · exact part (fun q => v (ix2 p q) * x (ix2 p q)) l 3 (by omega) h3 (fun d => ⟨384 + d.val, by omega⟩) fun d => rfl
  · exact part (fun q => v (ix2 p q) * x (ix2 p q)) l 2 (by omega) h2 (fun d => ⟨256 + d.val, by omega⟩) fun d => rfl
  · exact part (fun q => v (ix2 p q) * x (ix2 p q)) l 1 (by omega) h1 (fun d => ⟨128 + d.val, by omega⟩) fun d => rfl
  · exact part (fun q => v (ix2 p q) * x (ix2 p q)) l 0 (by omega) h0 (fun d => ⟨d.val, by omega⟩) fun d => by simp
  · unfold HeadNorm.byHead
    rw [dif_neg (by omega)]
end Body

/-! ## The rows' gradient -/

theorem out3 (t : Fin cfg0.N) : (outsAt0 m c t.val t.isLt).1 = k0_pay8 (iblk m c 0 t) (iblk m c 2 t) (iblk m c 1 t) := by
  by_cases h : t.val % 32 = 0
  · rw [outsAt0_A m c t h]
    dsimp only
    unfold out0_A_3
    frame_out
  · rw [outsAt0_B m c t h]
    dsimp only
    unfold out0_B_3
    frame_out
theorem out4 (t : Fin cfg0.N) : (outsAt0 m c t.val t.isLt).2.1 = tile (iblk m c 0 t) (k0_pay7 (iblk m c 0 t) (iblk m c 2 t) (iblk m c 1 t)) := by
  unfold tile
  by_cases h : t.val % 32 = 0
  · rw [outsAt0_A m c t h]
    dsimp only
    unfold out0_A_4
    frame_out
  · rw [outsAt0_B m c t h]
    dsimp only
    unfold out0_B_4
    frame_out

/-- Row `r` of the rows and of the gradient by the normed rows. -/
abbrev xr (r : Fin 8192) (k : Fin 1024) : EReal := X m c (ix2 r k)
abbrev tr (r : Fin 8192) (k : Fin 1024) : EReal := D m c (ix2 r (col k)) * G m c (ix2 0 k)

theorem bx_blk (t : Fin cfg0.N) (p : Fin 256) : bx (iblk m c 0 t) p = xr m c (row t p) := funext fun k => in0 m c t p k
theorem bt_blk (t : Fin cfg0.N) (p : Fin 256) : bt (iblk m c 2 t) (iblk m c 1 t) p = tr m c (row t p) :=
  funext fun k => by show (_ * _ : EReal) = _ * _; rw [in2, in1]

/-- The point of a row, and the row in its block. -/
def pt (r : Fin 8192) : Fin cfg0.N := ⟨r.val / 256, by rw [show cfg0.N = 32 from N_0]; omega⟩
def sub (r : Fin 8192) : Fin 256 := ⟨r.val % 256, by omega⟩
theorem row_pt (r : Fin 8192) : row (pt r) (sub r) = r := Fin.ext (show r.val / 256 * 256 + r.val % 256 = r.val by omega)

theorem emb3 (t : Fin cfg0.N) (p : Fin 256) (q : Fin 1024) : (win0_3.blk t).view.emb (ix2 p q) = ix2 (row t p) q := by
  have := tlt t
  funext a
  refine Fin.ext ((Pipeline.Window.rect_emb_val win0_3 t (ix2 p q) a rfl).trans ?_)
  match a with
  | ⟨0, _⟩ => exact congrArg (· * 256 + p.val) (idx3 t).1
  | ⟨1, _⟩ => exact (congrArg (· * 1024 + q.val) (idx3 t).2).trans (by show 0 * 1024 + q.val = q.val; omega)
theorem emb4 (t : Fin cfg0.N) (p : Fin 256) (q : Fin 128) : (win0_4.blk t).view.emb (ix2 p q) = ix2 (row t p) q := by
  have := tlt t
  funext a
  refine Fin.ext ((Pipeline.Window.rect_emb_val win0_4 t (ix2 p q) a rfl).trans ?_)
  match a with
  | ⟨0, _⟩ => exact congrArg (· * 256 + p.val) (idx4 t).1
  | ⟨1, _⟩ => exact (congrArg (· * 128 + q.val) (idx4 t).2).trans (by show 0 * 128 + q.val = q.val; omega)
theorem emb5 (t : Fin cfg0.N) (q : Fin 1024) : (win0_5.blk t).view.emb (ix2 0 q) = ix2 0 q := by
  funext a
  refine Fin.ext ((Pipeline.Window.rect_emb_val win0_5 t (ix2 0 q) a rfl).trans ?_)
  match a with
  | ⟨0, _⟩ => exact congrArg (· * 1 + 0) (idx5 t).1
  | ⟨1, _⟩ => exact (congrArg (· * 1024 + q.val) (idx5 t).2).trans (by show 0 * 1024 + q.val = q.val; omega)

theorem arr3 (r : Fin 8192) (q : Fin 1024) : (dats m 0 c).arrAt 3 cfg0.N (ix2 r q) = HeadNorm.back (xr m c r) (tr m c r) q := by
  have e := emb3 (pt r) (sub r) q
  have b := congrFun ((dats m 0 c).read_blk_arrAt_eq_flushed 3
    (fun t t' hf hf' hne => (cfg0.win 3).disjoint_blk (fun h => hne (inj3 t t' h)) rfl)
    cfg0.N (pt r) (pt r).isLt (flush0_3 _)) (ix2 (sub r) q)
  have f : (dats m 0 c).flushed 3 (pt r) = (outsAt0 m c (pt r).val (pt r).isLt).1 := after0_3 m c (pt r)
  rw [f, out3 m c (pt r)] at b
  rw [row_pt] at e
  refine ((congrArg ((dats m 0 c).arrAt 3 cfg0.N) e).symm.trans b).trans ?_
  refine (round_at _ _ _ _ _).trans ?_
  rw [bx_blk, bt_blk, row_pt]
theorem arr4 (r : Fin 8192) (l : Fin 128) : (dats m 0 c).arrAt 4 cfg0.N (ix2 r l)
    = HeadNorm.byHead (fun q => HeadNorm.back (xr m c r) (tr m c r) q * xr m c r q) l := by
  have e := emb4 (pt r) (sub r) l
  have b := congrFun ((dats m 0 c).read_blk_arrAt_eq_flushed 4
    (fun t t' hf hf' hne => (cfg0.win 4).disjoint_blk (fun h => hne (inj4 t t' h)) rfl)
    cfg0.N (pt r) (pt r).isLt (flush0_4 _)) (ix2 (sub r) l)
  have f : (dats m 0 c).flushed 4 (pt r) = (outsAt0 m c (pt r).val (pt r).isLt).2.1 := after0_4 m c (pt r)
  rw [f, out4 m c (pt r)] at b
  rw [row_pt] at e
  refine ((congrArg ((dats m 0 c).arrAt 4 cfg0.N) e).symm.trans b).trans ?_
  refine (tile_at _ _ _ _).trans (congrArg (HeadNorm.byHead · l) (funext fun q => ?_))
  rw [dx_at, bx_blk, bt_blk, in0, row_pt]

/-! ## The gains' gradient -/

/-- What point `t` adds to an entry. -/
def term (t : Fin cfg0.N) (q : Fin 1024) : EReal :=
  ∑ p : Fin 256, D m c (ix2 (row t p) (col q)) * (X m c (ix2 (row t p) q) * HeadNorm.inv (xr m c (row t p)))

theorem step_blocks (t : Fin cfg0.N) (a : Vec Ideal S1x1024 .f32) (q : Fin 1024) :
    k0_pay6 (iblk m c 0 t) (iblk m c 2 t) a (ix2 0 q) = (a (ix2 0 q) + term m c t q : EReal) := by
  refine (step _ _ _ _).trans (congrArg (a (ix2 0 q) + ·) (Finset.sum_congr rfl fun p _ => ?_))
  rw [bx_blk, in0, in2]

theorem acc_first (t : Fin cfg0.N) (h : t.val % 32 = 0) : (outsAt0 m c t.val t.isLt).2.2 = k0_pay6 (iblk m c 0 t) (iblk m c 2 t) (k0_pay2 (F := Ideal)) := by
  rw [outsAt0_A m c t h]
  dsimp only
  unfold out0_A_5
  frame_out

theorem acc_later (t : Fin cfg0.N) (h : ¬t.val % 32 = 0) : (outsAt0 m c t.val t.isLt).2.2
    = k0_pay6 (iblk m c 0 t) (iblk m c 2 t) (outsAt0 m c (t.val - 1) (Nat.lt_of_le_of_lt (Nat.sub_le _ _) t.isLt)).2.2 := by
  rw [outsAt0_B m c t h]
  dsimp only
  unfold out0_B_5
  frame_out

theorem total (t : Fin cfg0.N) (h : t.val % 32 = 31) (q : Fin 1024) :
    (outsAt0 m c t.val t.isLt).2.2 (ix2 0 q) = (∑ r : Fin 8192, X m c (ix2 r q) * HeadNorm.inv (xr m c r) * D m c (ix2 r (col q)) : EReal) := by
  refine (Pipeline.eq_sum_fin_of_reset_step_of_flush (fun n h => ((outsAt0 m c n h).2.2 (ix2 0 q) : EReal)) 32 0 (fun t => term m c t q)
    (fun t h => by rw [acc_first m c t h, step_blocks, start]) (fun t h => by rw [acc_later m c t h, step_blocks]) t h).trans ?_
  rw [zero_add]
  refine Fin.sum_mul_add_congr (S := 32) (n := 256) fun s k hl => ?_
  rw [mul_comm]
  have ht := tlt t
  congr 3
  all_goals first
    | exact Fin.ext (by simp only [row]; omega)
    | (congr 1; exact Fin.ext (by simp only [row]; omega))

/-- The last point. -/
def lastPt : Fin cfg0.N := ⟨31, by rw [show cfg0.N = 32 from N_0]; omega⟩

theorem arr5 (q : Fin 1024) :
    (dats m 0 c).arrAt 5 cfg0.N (ix2 0 q) = (∑ r : Fin 8192, X m c (ix2 r q) * HeadNorm.inv (xr m c r) * D m c (ix2 r (col q)) : EReal) := by
  have e := emb5 lastPt q
  have b := congrFun ((dats m 0 c).read_blk_arrAt_eq_flushed 5
    (fun t t' hf hf' hne => absurd (Fin.ext (by
      have h1 := (flush0_5 t).mp hf; have h2 := (flush0_5 t').mp hf'; have := tlt t; have := tlt t'; omega)) hne)
    cfg0.N lastPt lastPt.isLt ((flush0_5 _).mpr rfl)) (ix2 0 q)
  have f : (dats m 0 c).flushed 5 lastPt = (outsAt0 m c lastPt.val lastPt.isLt).2.2 := after0_5 m c lastPt
  rw [f] at b
  exact ((congrArg ((dats m 0 c).arrAt 5 cfg0.N) e).symm.trans b).trans (total m c lastPt rfl q)

theorem algebraic : Cert.algebraic_Kernel22Ideal_Reference22Ideal := by
  intro m ρ m' ρ' _ hagree
  refine ⟨fun c => (dats m 0 c).arrAt 3 cfg0.N, fun c => (dats m 0 c).arrAt 4 cfg0.N, fun c => (dats m 0 c).arrAt 5 cfg0.N, run m ρ, ?_⟩
  refine (θ_run _ _ _).mono (fun _ h c => ?_) (Ref.run m' ρ')
  obtain ⟨e3, e4, e5, ha⟩ := h c
  obtain ⟨a0, a1, a2⟩ := hagree c
  rw [a0, a1, a2] at e3 e4
  rw [a0, a2] at e5
  refine ⟨e3.trans (funext fun y => ?_), e4.trans (funext fun y => ?_), e5.trans (funext fun y => ?_), ha⟩
  · idx_vars y
    exact (Ref.dxB_at _ _ _ _ _).trans ((HeadNorm.back_eq_plain _ _ _).symm.trans (arr3 m c _ _).symm)
  · idx_vars y
    refine (Ref.headA_at _ _ _ _ _).trans (Eq.trans ?_ (arr4 m c _ _).symm)
    exact congrArg (HeadNorm.byHead · _) (funext fun q => congrArg (· * _) (HeadNorm.back_eq_plain _ _ _).symm)
  · have hy : y = ix2 0 (y 1) := by
      funext a
      match a with
      | ⟨0, _⟩ => exact Subsingleton.elim (α := Fin 1) _ _
      | ⟨1, _⟩ => rfl
    rw [hy]
    exact (Ref.dgA_at _ _ _).trans (arr5 m c _).symm

end Cert.HeadNormBack

end
-- ==== Proof.lean ====
/-
  The claim: each program's stated facts, each program's frame, and each call's equality with its reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Step
public import proofs.«01_k».proof.Proof.Agree
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.FfnInput
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.GateWeightGrad
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.GateForward
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.DownInput
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.DownWeightGrad
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.DownForward
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.ProjForward
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel9Ideal.Value
public import proofs.«01_k».proof.Proof.Gen.Reference9Ideal.Run
public import proofs.«01_k».proof.Proof.OutForward
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel10Ideal.Value
public import proofs.«01_k».proof.Proof.Gen.Reference10Ideal.Run
public import proofs.«01_k».proof.Proof.OutWeightGrad
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel11Ideal.Value
public import proofs.«01_k».proof.Proof.Gen.Reference11Ideal.Run
public import proofs.«01_k».proof.Proof.OutInput
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Run
public import proofs.«01_k».proof.Proof.ProjWeightGrad
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Reference14Ideal.Run
public import proofs.«01_k».proof.Proof.StepIn
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Reference15Ideal.Run
public import proofs.«01_k».proof.Proof.StepOut
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Reference16Ideal.Run
public import proofs.«01_k».proof.Proof.StepGate
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Reference17Ideal.Run
public import proofs.«01_k».proof.Proof.StepDown
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Reference18Ideal.Run
public import proofs.«01_k».proof.Proof.StepSmall
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.NormBack
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.LossBack
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.GatesBack
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Reference22Ideal
public import proofs.«01_k».proof.Proof.HeadNormBack
public import Idealize.ShloMosaic.Adequacy
public import Idealize.ShloMosaic.Init

@[expose] public section

noncomputable section

-- The frame claims also say that every semaphore counter ends at zero; the proof shows that too.

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  fun m ρ _ => Cert.Kernel.Gen.frame m ρ, fun m ρ _ => Cert.KernelIdeal.Gen.frame m ρ, Cert.Gla.reference_quiescent,
  fun m ρ _ => Cert.Kernel2.Gen.frame m ρ, fun m ρ _ => Cert.Kernel2Ideal.Gen.frame m ρ, Cert.FfnInput.quiescent,
  fun m ρ _ => Cert.Kernel3.Gen.frame m ρ, fun m ρ _ => Cert.Kernel3Ideal.Gen.frame m ρ, Cert.GateWeightGrad.quiescent,
  fun m ρ _ => Cert.Kernel4.Gen.frame m ρ, fun m ρ _ => Cert.Kernel4Ideal.Gen.frame m ρ, Cert.GateForward.quiescent,
  fun m ρ _ => Cert.Kernel5.Gen.frame m ρ, fun m ρ _ => Cert.Kernel5Ideal.Gen.frame m ρ, Cert.DownInput.quiescent,
  fun m ρ _ => Cert.Kernel6.Gen.frame m ρ, fun m ρ _ => Cert.Kernel6Ideal.Gen.frame m ρ, Cert.DownWeightGrad.quiescent,
  fun m ρ _ => Cert.Kernel7.Gen.frame m ρ, fun m ρ _ => Cert.Kernel7Ideal.Gen.frame m ρ, Cert.DownForward.quiescent,
  fun m ρ _ => Cert.Kernel8.Gen.frame m ρ, fun m ρ _ => Cert.Kernel8Ideal.Gen.frame m ρ, Cert.ProjForward.quiescent,
  fun m ρ _ => Cert.Kernel9.Gen.frame m ρ, fun m ρ _ => Cert.Kernel9Ideal.Gen.frame m ρ, Cert.OutForward.quiescent,
  fun m ρ _ => Cert.Kernel10.Gen.frame m ρ, fun m ρ _ => Cert.Kernel10Ideal.Gen.frame m ρ, Cert.OutWeightGrad.quiescent,
  fun m ρ _ => Cert.Kernel11.Gen.frame m ρ, fun m ρ _ => Cert.Kernel11Ideal.Gen.frame m ρ, Cert.OutInput.quiescent,
  fun m ρ _ => Cert.Kernel12.Gen.frame m ρ, fun m ρ _ => Cert.Kernel12Ideal.Gen.frame m ρ, Cert.ProjWeightGrad.quiescent,
  fun m ρ _ => Cert.Kernel14.Gen.frame m ρ, fun m ρ _ => Cert.Kernel14Ideal.Gen.frame m ρ, Cert.StepIn.quiescent,
  fun m ρ _ => Cert.Kernel15.Gen.frame m ρ, fun m ρ _ => Cert.Kernel15Ideal.Gen.frame m ρ, Cert.StepOut.quiescent,
  fun m ρ _ => Cert.Kernel16.Gen.frame m ρ, fun m ρ _ => Cert.Kernel16Ideal.Gen.frame m ρ, Cert.StepGate.quiescent,
  fun m ρ _ => Cert.Kernel17.Gen.frame m ρ, fun m ρ _ => Cert.Kernel17Ideal.Gen.frame m ρ, Cert.StepDown.quiescent,
  fun m ρ _ => Cert.Kernel18.Gen.frame m ρ, fun m ρ _ => Cert.Kernel18Ideal.Gen.frame m ρ, Cert.StepSmall.quiescent,
  fun m ρ _ => Cert.Kernel19.Gen.frame m ρ, fun m ρ _ => Cert.Kernel19Ideal.Gen.frame m ρ, Cert.NormBack.Ref.quiescent,
  fun m ρ _ => Cert.Kernel20.Gen.frame m ρ, fun m ρ _ => Cert.Kernel20Ideal.Gen.frame m ρ, Cert.FinalLoss.Ref.quiescent,
  fun m ρ _ => Cert.Kernel21.Gen.frame m ρ, fun m ρ _ => Cert.Kernel21Ideal.Gen.frame m ρ, Cert.Gates.Ref.quiescent,
  fun m ρ _ => Cert.Kernel22.Gen.frame m ρ, fun m ρ _ => Cert.Kernel22Ideal.Gen.frame m ρ, Cert.HeadNormBack.Ref.quiescent,
  trivial, Cert.Gla.algebraic,
  trivial, Cert.FfnInput.algebraic,
  trivial, Cert.GateWeightGrad.algebraic,
  trivial, Cert.GateForward.algebraic,
  trivial, Cert.DownInput.algebraic,
  trivial, Cert.DownWeightGrad.algebraic,
  trivial, Cert.DownForward.algebraic,
  trivial, Cert.ProjForward.algebraic,
  trivial, Cert.OutForward.algebraic,
  trivial, Cert.OutWeightGrad.algebraic,
  trivial, Cert.OutInput.algebraic,
  trivial, Cert.ProjWeightGrad.algebraic,
  trivial, Cert.StepIn.algebraic,
  trivial, Cert.StepOut.algebraic,
  trivial, Cert.StepGate.algebraic,
  trivial, Cert.StepDown.algebraic,
  trivial, Cert.StepSmall.algebraic,
  trivial, Cert.NormBack.algebraic,
  trivial, Cert.FinalLoss.algebraic,
  trivial, Cert.Gates.algebraic,
  trivial, Cert.HeadNormBack.algebraic⟩

end Cert.Proof

end
